-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_args [hPre_finite_args : Cert.Pre_finite_args.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_args.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_args [hPre_finite_args : Cert.Pre_finite_args.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_args.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_pool [hPre_finite_pool : Cert.Pre_finite_pool.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_pool.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_pool [hPre_finite_pool : Cert.Pre_finite_pool.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_pool.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_ffn [hPre_finite_ffn : Cert.Pre_finite_ffn.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_ffn.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_ffn [hPre_finite_ffn : Cert.Pre_finite_ffn.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_ffn.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite_args [hKernel2Ideal : Cert.Kernel2Ideal.Facts] [hPre_finite_args : Cert.Pre_finite_args.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_args m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite_args [hReference2Ideal : Cert.Reference2Ideal.Facts] [hPre_finite_args : Cert.Pre_finite_args.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_args m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Kernel3Ideal_pre_finite_pool [hKernel3Ideal : Cert.Kernel3Ideal.Facts] [hPre_finite_pool : Cert.Pre_finite_pool.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_pool m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Reference3Ideal_pre_finite_pool [hReference3Ideal : Cert.Reference3Ideal.Facts] [hPre_finite_pool : Cert.Pre_finite_pool.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_pool m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Kernel6Ideal_pre_finite_ffn [hKernel6Ideal : Cert.Kernel6Ideal.Facts] [hPre_finite_ffn : Cert.Pre_finite_ffn.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_ffn m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Reference6Ideal_pre_finite_ffn [hReference6Ideal : Cert.Reference6Ideal.Facts] [hPre_finite_ffn : Cert.Pre_finite_ffn.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_ffn m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_v85) = v2 c
          ∧ r.2.mem ((c.tc : Thread Cert.ReferenceIdeal.nD Cert.ReferenceIdeal.τ).loc Cert.ReferenceIdeal.main_v70) = v3 c
          ∧ r.2.mem ((c.tc : Thread Cert.ReferenceIdeal.nD Cert.ReferenceIdeal.τ).loc Cert.ReferenceIdeal.main_v49) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  IdealRules.named_const.Statement Cert.Kernel2Ideal.κ "exp_underflow" .f32 0xC2B00000#32 ⊥

def algebraic_Kernel2Ideal_Reference2Ideal_pre_finite_args [hKernel2Ideal : Cert.Kernel2Ideal.Facts] [hReference2Ideal : Cert.Reference2Ideal.Facts] [hPre_finite_args : Cert.Pre_finite_args.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_args m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v2_1)) (v2 : (c : Dev Cert.Kernel2Ideal.nD) → Buf (Elt Ideal) ((c.tc : Thread Cert.Kernel2Ideal.nD Cert.Kernel2Ideal.τ).loc Cert.Kernel2Ideal.main_v2_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_0) = v0 c
          ∧ r.2.mem ((c.tc : Thread Cert.Kernel2Ideal.nD Cert.Kernel2Ideal.τ).loc Cert.Kernel2Ideal.main_v2_1) = v1 c
          ∧ r.2.mem ((c.tc : Thread Cert.Kernel2Ideal.nD Cert.Kernel2Ideal.τ).loc Cert.Kernel2Ideal.main_v2_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v51) = v0 c
          ∧ r.2.mem ((c.tc : Thread Cert.Reference2Ideal.nD Cert.Reference2Ideal.τ).loc Cert.Reference2Ideal.main_v49) = v1 c
          ∧ r.2.mem ((c.tc : Thread Cert.Reference2Ideal.nD Cert.Reference2Ideal.τ).loc Cert.Reference2Ideal.main_v33) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal_pre_finite_pool [hKernel3Ideal : Cert.Kernel3Ideal.Facts] [hReference3Ideal : Cert.Reference3Ideal.Facts] [hPre_finite_pool : Cert.Pre_finite_pool.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_pool m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v143) = v0 c
          ∧ r.2.mem ((c.tc : Thread Cert.Reference3Ideal.nD Cert.Reference3Ideal.τ).loc Cert.Reference3Ideal.main_v145) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v7_0)) (v1 : (c : Dev Cert.Kernel4Ideal.nD) → Buf (Elt Ideal) ((c.tc : Thread Cert.Kernel4Ideal.nD Cert.Kernel4Ideal.τ).loc Cert.Kernel4Ideal.main_v7_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7_0) = v0 c
          ∧ r.2.mem ((c.tc : Thread Cert.Kernel4Ideal.nD Cert.Kernel4Ideal.τ).loc Cert.Kernel4Ideal.main_v7_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v40) = v0 c
          ∧ r.2.mem ((c.tc : Thread Cert.Reference4Ideal.nD Cert.Reference4Ideal.τ).loc Cert.Reference4Ideal.main_v41) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)) →
    ∃ (v0 : (c : Dev Cert.Kernel5Ideal.nD) → Buf (Elt Ideal) ((c.tc : Thread Cert.Kernel5Ideal.nD Cert.Kernel5Ideal.τ).loc Cert.Kernel5Ideal.main_v9_0)) (v1 : (c : Dev Cert.Kernel5Ideal.nD) → Buf (Elt Ideal) ((c.tc : Thread Cert.Kernel5Ideal.nD Cert.Kernel5Ideal.τ).loc Cert.Kernel5Ideal.main_v9_1)) (v2 : (c : Dev Cert.Kernel5Ideal.nD) → Buf (Elt Ideal) ((c.tc : Thread Cert.Kernel5Ideal.nD Cert.Kernel5Ideal.τ).loc Cert.Kernel5Ideal.main_v13)) (v3 : (c : Dev Cert.Kernel5Ideal.nD) → Buf (Elt Ideal) ((c.tc : Thread Cert.Kernel5Ideal.nD Cert.Kernel5Ideal.τ).loc Cert.Kernel5Ideal.main_v14)) (v4 : (c : Dev Cert.Kernel5Ideal.nD) → Buf (Elt Ideal) ((c.tc : Thread Cert.Kernel5Ideal.nD Cert.Kernel5Ideal.τ).loc Cert.Kernel5Ideal.main_v12_0)) (v5 : (c : Dev Cert.Kernel5Ideal.nD) → Buf (Elt Ideal) ((c.tc : Thread Cert.Kernel5Ideal.nD Cert.Kernel5Ideal.τ).loc Cert.Kernel5Ideal.main_v15)) (v6 : (c : Dev Cert.Kernel5Ideal.nD) → Buf (Elt Ideal) ((c.tc : Thread Cert.Kernel5Ideal.nD Cert.Kernel5Ideal.τ).loc Cert.Kernel5Ideal.main_v12_2)) (v7 : (c : Dev Cert.Kernel5Ideal.nD) → Buf (Elt Ideal) ((c.tc : Thread Cert.Kernel5Ideal.nD Cert.Kernel5Ideal.τ).loc Cert.Kernel5Ideal.main_v12_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v9_0) = v0 c
          ∧ r.2.mem ((c.tc : Thread Cert.Kernel5Ideal.nD Cert.Kernel5Ideal.τ).loc Cert.Kernel5Ideal.main_v9_1) = v1 c
          ∧ r.2.mem ((c.tc : Thread Cert.Kernel5Ideal.nD Cert.Kernel5Ideal.τ).loc Cert.Kernel5Ideal.main_v13) = v2 c
          ∧ r.2.mem ((c.tc : Thread Cert.Kernel5Ideal.nD Cert.Kernel5Ideal.τ).loc Cert.Kernel5Ideal.main_v14) = v3 c
          ∧ r.2.mem ((c.tc : Thread Cert.Kernel5Ideal.nD Cert.Kernel5Ideal.τ).loc Cert.Kernel5Ideal.main_v12_0) = v4 c
          ∧ r.2.mem ((c.tc : Thread Cert.Kernel5Ideal.nD Cert.Kernel5Ideal.τ).loc Cert.Kernel5Ideal.main_v15) = v5 c
          ∧ r.2.mem ((c.tc : Thread Cert.Kernel5Ideal.nD Cert.Kernel5Ideal.τ).loc Cert.Kernel5Ideal.main_v12_2) = v6 c
          ∧ r.2.mem ((c.tc : Thread Cert.Kernel5Ideal.nD Cert.Kernel5Ideal.τ).loc Cert.Kernel5Ideal.main_v12_3) = v7 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v30) = v0 c
          ∧ r.2.mem ((c.tc : Thread Cert.Reference5Ideal.nD Cert.Reference5Ideal.τ).loc Cert.Reference5Ideal.main_v48) = v1 c
          ∧ r.2.mem ((c.tc : Thread Cert.Reference5Ideal.nD Cert.Reference5Ideal.τ).loc Cert.Reference5Ideal.main_v65) = v2 c
          ∧ r.2.mem ((c.tc : Thread Cert.Reference5Ideal.nD Cert.Reference5Ideal.τ).loc Cert.Reference5Ideal.main_v113) = v3 c
          ∧ r.2.mem ((c.tc : Thread Cert.Reference5Ideal.nD Cert.Reference5Ideal.τ).loc Cert.Reference5Ideal.main_v89) = v4 c
          ∧ r.2.mem ((c.tc : Thread Cert.Reference5Ideal.nD Cert.Reference5Ideal.τ).loc Cert.Reference5Ideal.main_v111) = v5 c
          ∧ r.2.mem ((c.tc : Thread Cert.Reference5Ideal.nD Cert.Reference5Ideal.τ).loc Cert.Reference5Ideal.main_v90) = v6 c
          ∧ r.2.mem ((c.tc : Thread Cert.Reference5Ideal.nD Cert.Reference5Ideal.τ).loc Cert.Reference5Ideal.main_v112) = v7 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10))

def preserves_Kernel6_Kernel6Ideal : Prop :=
  True

def algebraic_Kernel6Ideal_Reference6Ideal_pre_finite_ffn [hKernel6Ideal : Cert.Kernel6Ideal.Facts] [hReference6Ideal : Cert.Reference6Ideal.Facts] [hPre_finite_ffn : Cert.Pre_finite_ffn.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_ffn m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v48)) (v1 : (c : Dev Cert.Kernel6Ideal.nD) → Buf (Elt Ideal) ((c.tc : Thread Cert.Kernel6Ideal.nD Cert.Kernel6Ideal.τ).loc Cert.Kernel6Ideal.main_v49)) (v2 : (c : Dev Cert.Kernel6Ideal.nD) → Buf (Elt Ideal) ((c.tc : Thread Cert.Kernel6Ideal.nD Cert.Kernel6Ideal.τ).loc Cert.Kernel6Ideal.main_v44_0)) (v3 : (c : Dev Cert.Kernel6Ideal.nD) → Buf (Elt Ideal) ((c.tc : Thread Cert.Kernel6Ideal.nD Cert.Kernel6Ideal.τ).loc Cert.Kernel6Ideal.main_v45)) (v4 : (c : Dev Cert.Kernel6Ideal.nD) → Buf (Elt Ideal) ((c.tc : Thread Cert.Kernel6Ideal.nD Cert.Kernel6Ideal.τ).loc Cert.Kernel6Ideal.main_v46)) (v5 : (c : Dev Cert.Kernel6Ideal.nD) → Buf (Elt Ideal) ((c.tc : Thread Cert.Kernel6Ideal.nD Cert.Kernel6Ideal.τ).loc Cert.Kernel6Ideal.main_v47)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v48) = v0 c
          ∧ r.2.mem ((c.tc : Thread Cert.Kernel6Ideal.nD Cert.Kernel6Ideal.τ).loc Cert.Kernel6Ideal.main_v49) = v1 c
          ∧ r.2.mem ((c.tc : Thread Cert.Kernel6Ideal.nD Cert.Kernel6Ideal.τ).loc Cert.Kernel6Ideal.main_v44_0) = v2 c
          ∧ r.2.mem ((c.tc : Thread Cert.Kernel6Ideal.nD Cert.Kernel6Ideal.τ).loc Cert.Kernel6Ideal.main_v45) = v3 c
          ∧ r.2.mem ((c.tc : Thread Cert.Kernel6Ideal.nD Cert.Kernel6Ideal.τ).loc Cert.Kernel6Ideal.main_v46) = v4 c
          ∧ r.2.mem ((c.tc : Thread Cert.Kernel6Ideal.nD Cert.Kernel6Ideal.τ).loc Cert.Kernel6Ideal.main_v47) = v5 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v89) = v0 c
          ∧ r.2.mem ((c.tc : Thread Cert.Reference6Ideal.nD Cert.Reference6Ideal.τ).loc Cert.Reference6Ideal.main_v90) = v1 c
          ∧ r.2.mem ((c.tc : Thread Cert.Reference6Ideal.nD Cert.Reference6Ideal.τ).loc Cert.Reference6Ideal.main_v92) = v2 c
          ∧ r.2.mem ((c.tc : Thread Cert.Reference6Ideal.nD Cert.Reference6Ideal.τ).loc Cert.Reference6Ideal.main_v95) = v3 c
          ∧ r.2.mem ((c.tc : Thread Cert.Reference6Ideal.nD Cert.Reference6Ideal.τ).loc Cert.Reference6Ideal.main_v96) = v4 c
          ∧ r.2.mem ((c.tc : Thread Cert.Reference6Ideal.nD Cert.Reference6Ideal.τ).loc Cert.Reference6Ideal.main_v99) = v5 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v15)) (v1 : (c : Dev Cert.Kernel7Ideal.nD) → Buf (Elt Ideal) ((c.tc : Thread Cert.Kernel7Ideal.nD Cert.Kernel7Ideal.τ).loc Cert.Kernel7Ideal.main_v12_2)) (v2 : (c : Dev Cert.Kernel7Ideal.nD) → Buf (Elt Ideal) ((c.tc : Thread Cert.Kernel7Ideal.nD Cert.Kernel7Ideal.τ).loc Cert.Kernel7Ideal.main_v16)) (v3 : (c : Dev Cert.Kernel7Ideal.nD) → Buf (Elt Ideal) ((c.tc : Thread Cert.Kernel7Ideal.nD Cert.Kernel7Ideal.τ).loc Cert.Kernel7Ideal.main_v12_5)) (v4 : (c : Dev Cert.Kernel7Ideal.nD) → Buf (Elt Ideal) ((c.tc : Thread Cert.Kernel7Ideal.nD Cert.Kernel7Ideal.τ).loc Cert.Kernel7Ideal.main_v17)) (v5 : (c : Dev Cert.Kernel7Ideal.nD) → Buf (Elt Ideal) ((c.tc : Thread Cert.Kernel7Ideal.nD Cert.Kernel7Ideal.τ).loc Cert.Kernel7Ideal.main_v18)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v15) = v0 c
          ∧ r.2.mem ((c.tc : Thread Cert.Kernel7Ideal.nD Cert.Kernel7Ideal.τ).loc Cert.Kernel7Ideal.main_v12_2) = v1 c
          ∧ r.2.mem ((c.tc : Thread Cert.Kernel7Ideal.nD Cert.Kernel7Ideal.τ).loc Cert.Kernel7Ideal.main_v16) = v2 c
          ∧ r.2.mem ((c.tc : Thread Cert.Kernel7Ideal.nD Cert.Kernel7Ideal.τ).loc Cert.Kernel7Ideal.main_v12_5) = v3 c
          ∧ r.2.mem ((c.tc : Thread Cert.Kernel7Ideal.nD Cert.Kernel7Ideal.τ).loc Cert.Kernel7Ideal.main_v17) = v4 c
          ∧ r.2.mem ((c.tc : Thread Cert.Kernel7Ideal.nD Cert.Kernel7Ideal.τ).loc Cert.Kernel7Ideal.main_v18) = v5 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v61) = v0 c
          ∧ r.2.mem ((c.tc : Thread Cert.Reference7Ideal.nD Cert.Reference7Ideal.τ).loc Cert.Reference7Ideal.main_v67) = v1 c
          ∧ r.2.mem ((c.tc : Thread Cert.Reference7Ideal.nD Cert.Reference7Ideal.τ).loc Cert.Reference7Ideal.main_v87) = v2 c
          ∧ r.2.mem ((c.tc : Thread Cert.Reference7Ideal.nD Cert.Reference7Ideal.τ).loc Cert.Reference7Ideal.main_v88) = v3 c
          ∧ r.2.mem ((c.tc : Thread Cert.Reference7Ideal.nD Cert.Reference7Ideal.τ).loc Cert.Reference7Ideal.main_v90) = v4 c
          ∧ r.2.mem ((c.tc : Thread Cert.Reference7Ideal.nD Cert.Reference7Ideal.τ).loc Cert.Reference7Ideal.main_v92) = v5 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)) →
    ∃ (v0 : (c : Dev Cert.Kernel8Ideal.nD) → Buf (Elt Ideal) ((c.tc : Thread Cert.Kernel8Ideal.nD Cert.Kernel8Ideal.τ).loc Cert.Kernel8Ideal.main_v6)) (v1 : (c : Dev Cert.Kernel8Ideal.nD) → Buf (Elt Ideal) ((c.tc : Thread Cert.Kernel8Ideal.nD Cert.Kernel8Ideal.τ).loc Cert.Kernel8Ideal.main_v4_1)) (v2 : (c : Dev Cert.Kernel8Ideal.nD) → Buf (Elt Ideal) ((c.tc : Thread Cert.Kernel8Ideal.nD Cert.Kernel8Ideal.τ).loc Cert.Kernel8Ideal.main_v7)) (v3 : (c : Dev Cert.Kernel8Ideal.nD) → Buf (Elt Ideal) ((c.tc : Thread Cert.Kernel8Ideal.nD Cert.Kernel8Ideal.τ).loc Cert.Kernel8Ideal.main_v8)) (v4 : (c : Dev Cert.Kernel8Ideal.nD) → Buf (Elt Ideal) ((c.tc : Thread Cert.Kernel8Ideal.nD Cert.Kernel8Ideal.τ).loc Cert.Kernel8Ideal.main_v5_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v6) = v0 c
          ∧ r.2.mem ((c.tc : Thread Cert.Kernel8Ideal.nD Cert.Kernel8Ideal.τ).loc Cert.Kernel8Ideal.main_v4_1) = v1 c
          ∧ r.2.mem ((c.tc : Thread Cert.Kernel8Ideal.nD Cert.Kernel8Ideal.τ).loc Cert.Kernel8Ideal.main_v7) = v2 c
          ∧ r.2.mem ((c.tc : Thread Cert.Kernel8Ideal.nD Cert.Kernel8Ideal.τ).loc Cert.Kernel8Ideal.main_v8) = v3 c
          ∧ r.2.mem ((c.tc : Thread Cert.Kernel8Ideal.nD Cert.Kernel8Ideal.τ).loc Cert.Kernel8Ideal.main_v5_1) = v4 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v20) = v0 c
          ∧ r.2.mem ((c.tc : Thread Cert.Reference8Ideal.nD Cert.Reference8Ideal.τ).loc Cert.Reference8Ideal.main_v21) = v1 c
          ∧ r.2.mem ((c.tc : Thread Cert.Reference8Ideal.nD Cert.Reference8Ideal.τ).loc Cert.Reference8Ideal.main_v22) = v2 c
          ∧ r.2.mem ((c.tc : Thread Cert.Reference8Ideal.nD Cert.Reference8Ideal.τ).loc Cert.Reference8Ideal.main_v16) = v3 c
          ∧ r.2.mem ((c.tc : Thread Cert.Reference8Ideal.nD Cert.Reference8Ideal.τ).loc Cert.Reference8Ideal.main_v25) = v4 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite_args : Cert.Pre_finite_args.Facts) (hPre_finite_pool : Cert.Pre_finite_pool.Facts) (hPre_finite_ffn : Cert.Pre_finite_ffn.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite_args (hKernel2Ideal := hKernel2Ideal) (hPre_finite_args := hPre_finite_args)
    ∧ quiescent_Reference2Ideal (hReference2Ideal := hReference2Ideal)
    ∧ quiescent_Reference2Ideal_pre_finite_args (hReference2Ideal := hReference2Ideal) (hPre_finite_args := hPre_finite_args)
    ∧ quiescent_Kernel3 (hKernel3 := hKernel3)
    ∧ quiescent_Kernel3Ideal (hKernel3Ideal := hKernel3Ideal)
    ∧ quiescent_Kernel3Ideal_pre_finite_pool (hKernel3Ideal := hKernel3Ideal) (hPre_finite_pool := hPre_finite_pool)
    ∧ quiescent_Reference3Ideal (hReference3Ideal := hReference3Ideal)
    ∧ quiescent_Reference3Ideal_pre_finite_pool (hReference3Ideal := hReference3Ideal) (hPre_finite_pool := hPre_finite_pool)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite_ffn (hKernel6Ideal := hKernel6Ideal) (hPre_finite_ffn := hPre_finite_ffn)
    ∧ quiescent_Reference6Ideal (hReference6Ideal := hReference6Ideal)
    ∧ quiescent_Reference6Ideal_pre_finite_ffn (hReference6Ideal := hReference6Ideal) (hPre_finite_ffn := hPre_finite_ffn)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite_args (hKernel2Ideal := hKernel2Ideal) (hReference2Ideal := hReference2Ideal) (hPre_finite_args := hPre_finite_args)
    ∧ preserves_Kernel3_Kernel3Ideal
    ∧ algebraic_Kernel3Ideal_Reference3Ideal_pre_finite_pool (hKernel3Ideal := hKernel3Ideal) (hReference3Ideal := hReference3Ideal) (hPre_finite_pool := hPre_finite_pool)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite_ffn (hKernel6Ideal := hKernel6Ideal) (hReference6Ideal := hReference6Ideal) (hPre_finite_ffn := hPre_finite_ffn)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite_args.lean ====
abbrev S16384x512 : Shape := ⟨2, ![16384, 512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel

variable [Facts]

def fn_part1 {F : FTy → Type} [FloatOps F] (main_v13 : IVec S_ 1) (main_v16 : IVec S16384x512 1) : IVec S_ 1 :=
  let main_c_5 : IVec S_ 1 := constantI S_ 1 1#1
  let main_v17 : IVec S_ 1 := (fun x v => Host.reduce IntOp.andi x v reducesTo_S16384x512_S_d0_1 h_S_) main_v16 main_c_5
  let main_v18 : IVec S_ 1 := andi main_v13 main_v17
  main_v18

def fn {F : FTy → Type} [FloatOps F] (main_arg0 : FVec F S16384x512 .f32) (main_arg1 : FVec F S16384x512 .f32) (main_arg2 : FVec F S16384x512 .f32) (main_arg3 : FVec F S16384x512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S16384x512 .f32 := Host.absf main_arg2
  let main_cst_2 : FVec F S_ .f32 := constant S_ .f32 0x7F800000#32
  let main_v10 : FVec F S16384x512 .f32 := broadcastInDim S16384x512 ![] bcast_S_S16384x512 main_cst_2
  let main_v11 : IVec S16384x512 1 := cmpf .olt main_v9 main_v10
  let main_c_3 : IVec S_ 1 := constantI S_ 1 1#1
  let main_v12 : IVec S_ 1 := (fun x v => Host.reduce IntOp.andi x v reducesTo_S16384x512_S_d0_1 h_S_) main_v11 main_c_3
  let main_v13 : IVec S_ 1 := andi main_v8 main_v12
  let main_v14 : FVec F S16384x512 .f32 := Host.absf main_arg3
  let main_cst_4 : FVec F S_ .f32 := constant S_ .f32 0x7F800000#32
  let main_v15 : FVec F S16384x512 .f32 := broadcastInDim S16384x512 ![] bcast_S_S16384x512 main_cst_4
  let main_v16 : IVec S16384x512 1 := cmpf .olt main_v14 main_v15
  fn_part1 (F := F) main_v13 main_v16
-- ==== Pre_finite_ffn.lean ====
abbrev S16384x1024 : Shape := ⟨2, ![16384, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1x1024x5632 : S_.BroadcastsInDim S1x1024x5632 (![] : Fin 0 → Fin S1x1024x5632.rank)
  reducesTo_S1x1024x5632_S_d0_1_2 : S1x1024x5632.ReducesTo [0, 1, 2] S_
  bcast_S_S1x3x5632 : S_.BroadcastsInDim S1x3x5632 (![] : Fin 0 → Fin S1x3x5632.rank)
  reducesTo_S1x3x5632_S_d0_1_2 : S1x3x5632.ReducesTo [0, 1, 2] S_
  bcast_S_S1x5632 : S_.BroadcastsInDim S1x5632 (![] : Fin 0 → Fin S1x5632.rank)
  reducesTo_S1x5632_S_d0_1 : S1x5632.ReducesTo [0, 1] S_
  bcast_S_S1x2816x1024 : S_.BroadcastsInDim S1x2816x1024 (![] : Fin 0 → Fin S1x2816x1024.rank)
  reducesTo_S1x2816x1024_S_d0_1_2 : S1x2816x1024.ReducesTo [0, 1, 2] S_

variable [Facts]

def fn_part1 {F : FTy → Type} [FloatOps F] (main_arg4 : FVec F S1x2816x1024 .f32) (main_arg5 : FVec F S16384x1024 .f32) (main_v13 : IVec S_ 1) (main_v16 : IVec S1x5632 1) : IVec S_ 1 :=
  let main_c_5 : IVec S_ 1 := constantI S_ 1 1#1
  let main_v17 : IVec S_ 1 := (fun x v => Host.reduce IntOp.andi x v reducesTo_S1x5632_S_d0_1 h_S_) main_v16 main_c_5
  let main_v18 : IVec S_ 1 := andi main_v13 main_v17
  let main_v19 : FVec F S1x2816x1024 .f32 := Host.absf main_arg4
  let main_cst_6 : FVec F S_ .f32 := constant S_ .f32 0x7F800000#32
  let main_v20 : FVec F S1x2816x1024 .f32 := broadcastInDim S1x2816x1024 ![] bcast_S_S1x2816x1024 main_cst_6
  let main_v21 : IVec S1x2816x1024 1 := cmpf .olt main_v19 main_v20
  let main_c_7 : IVec S_ 1 := constantI S_ 1 1#1
  let main_v22 : IVec S_ 1 := (fun x v => Host.reduce IntOp.andi x v reducesTo_S1x2816x1024_S_d0_1_2 h_S_) main_v21 main_c_7
  let main_v23 : IVec S_ 1 := andi main_v18 main_v22
  let main_v24 : FVec F S16384x1024 .f32 := Host.absf main_arg5
  let main_cst_8 : FVec F S_ .f32 := constant S_ .f32 0x7F800000#32
  let main_v25 : FVec F S16384x1024 .f32 := broadcastInDim S16384x1024 ![] bcast_S_S16384x1024 main_cst_8
  let main_v26 : IVec S16384x1024 1 := cmpf .olt main_v24 main_v25
  let main_c_9 : IVec S_ 1 := constantI S_ 1 1#1
  let main_v27 : IVec S_ 1 := (fun x v => Host.reduce IntOp.andi x v reducesTo_S16384x1024_S_d0_1 h_S_) main_v26 main_c_9
  let main_v28 : IVec S_ 1 := andi main_v23 main_v27
  main_v28

def fn {F : FTy → Type} [FloatOps F] (main_arg0 : FVec F S16384x1024 .f32) (main_arg1 : FVec F S1x1024x5632 .f32) (main_arg2 : FVec F S1x3x5632 .f32) (main_arg3 : FVec F S1x5632 .f32) (main_arg4 : FVec F S1x2816x1024 .f32) (main_arg5 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1x1024x5632 .f32 := Host.absf main_arg1
  let main_cst_0 : FVec F S_ .f32 := constant S_ .f32 0x7F800000#32
  let main_v5 : FVec F S1x1024x5632 .f32 := broadcastInDim S1x1024x5632 ![] bcast_S_S1x1024x5632 main_cst_0
  let main_v6 : IVec S1x1024x5632 1 := cmpf .olt main_v4 main_v5
  let main_c_1 : IVec S_ 1 := constantI S_ 1 1#1
  let main_v7 : IVec S_ 1 := (fun x v => Host.reduce IntOp.andi x v reducesTo_S1x1024x5632_S_d0_1_2 h_S_) main_v6 main_c_1
  let main_v8 : IVec S_ 1 := andi main_v3 main_v7
  let main_v9 : FVec F S1x3x5632 .f32 := Host.absf main_arg2
  let main_cst_2 : FVec F S_ .f32 := constant S_ .f32 0x7F800000#32
  let main_v10 : FVec F S1x3x5632 .f32 := broadcastInDim S1x3x5632 ![] bcast_S_S1x3x5632 main_cst_2
  let main_v11 : IVec S1x3x5632 1 := cmpf .olt main_v9 main_v10
  let main_c_3 : IVec S_ 1 := constantI S_ 1 1#1
  let main_v12 : IVec S_ 1 := (fun x v => Host.reduce IntOp.andi x v reducesTo_S1x3x5632_S_d0_1_2 h_S_) main_v11 main_c_3
  let main_v13 : IVec S_ 1 := andi main_v8 main_v12
  let main_v14 : FVec F S1x5632 .f32 := Host.absf main_arg3
  let main_cst_4 : FVec F S_ .f32 := constant S_ .f32 0x7F800000#32
  let main_v15 : FVec F S1x5632 .f32 := broadcastInDim S1x5632 ![] bcast_S_S1x5632 main_cst_4
  let main_v16 : IVec S1x5632 1 := cmpf .olt main_v14 main_v15
  fn_part1 (F := F) main_arg4 main_arg5 main_v13 main_v16
-- ==== Pre_finite_pool.lean ====
abbrev S16384x512 : Shape := ⟨2, ![16384, 512]⟩
abbrev S1x4x128x128 : Shape := ⟨4, ![1, 4, 128, 128]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S1x4x128x128 : S_.BroadcastsInDim S1x4x128x128 (![] : Fin 0 → Fin S1x4x128x128.rank)
  reducesTo_S1x4x128x128_S_d0_1_2_3 : S1x4x128x128.ReducesTo [0, 1, 2, 3] S_

variable [Facts]

def fn {F : FTy → Type} [FloatOps F] (main_arg0 : FVec F S16384x512 .f32) (main_arg1 : FVec F S16384x512 .f32) (main_arg2 : FVec F S1x4x128x128 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S1x4x128x128 .f32 := Host.absf main_arg2
  let main_cst_2 : FVec F S_ .f32 := constant S_ .f32 0x7F800000#32
  let main_v10 : FVec F S1x4x128x128 .f32 := broadcastInDim S1x4x128x128 ![] bcast_S_S1x4x128x128 main_cst_2
  let main_v11 : IVec S1x4x128x128 1 := cmpf .olt main_v9 main_v10
  let main_c_3 : IVec S_ 1 := constantI S_ 1 1#1
  let main_v12 : IVec S_ 1 := (fun x v => Host.reduce IntOp.andi x v reducesTo_S1x4x128x128_S_d0_1_2_3 h_S_) main_v11 main_c_3
  let main_v13 : IVec S_ 1 := andi main_v8 main_v12
  main_v13
-- ==== Kernel.lean ====
abbrev S16384x1024 : Shape := ⟨2, ![16384, 1024]⟩
abbrev S1x1024x1024 : Shape := ⟨3, ![1, 1024, 1024]⟩
abbrev S16384x512 : Shape := ⟨2, ![16384, 512]⟩
abbrev S1x512 : Shape := ⟨2, ![1, 512]⟩
abbrev S1024x1024 : Shape := ⟨2, ![1024, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 14
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S1x1024x1024, .f32⟩
  | .hbm, ⟨2, _⟩ => ⟨S16384x512, .f32⟩
  | .hbm, ⟨3, _⟩ => ⟨S16384x512, .f32⟩
  | .hbm, ⟨4, _⟩ => ⟨S1x512, .f32⟩
  | .hbm, ⟨5, _⟩ => ⟨S1x512, .f32⟩
  | .hbm, ⟨6, _⟩ => ⟨S16384x1024, .bf16⟩
  | .hbm, ⟨7, _⟩ => ⟨S1024x1024, .f32⟩
  | .hbm, ⟨8, _⟩ => ⟨S1024x1024, .bf16⟩
  | .hbm, ⟨9, _⟩ => ⟨S16384x512, .f32⟩
  | .hbm, ⟨10, _⟩ => ⟨S16384x512, .f32⟩
  | .hbm, ⟨11, _⟩ => ⟨S1024x1024, .f32⟩
  | .hbm, ⟨12, _⟩ => ⟨S1x512, .f32⟩
  | .hbm, ⟨13, _⟩ => ⟨S1x512, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S1x512, .f32⟩
  | .local _ .vmem, ⟨8, _⟩ => ⟨S1x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S1024x1024, .f32⟩
  | .local _ .vmem, ⟨14, _⟩ => ⟨S1x512, .f32⟩
  | .local _ .vmem, ⟨15, _⟩ => ⟨S1x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S16384x1024 : Shape := ⟨2, ![16384, 1024]⟩
abbrev S1x1024x1024 : Shape := ⟨3, ![1, 1024, 1024]⟩
abbrev S16384x512 : Shape := ⟨2, ![16384, 512]⟩
abbrev S1x512 : Shape := ⟨2, ![1, 512]⟩
abbrev S_ : Shape := ⟨0, ![]⟩
abbrev S16384 : Shape := ⟨1, ![16384]⟩
abbrev S16384x1 : Shape := ⟨2, ![16384, 1]⟩
abbrev S512 : Shape := ⟨1, ![512]⟩
abbrev S1024x1024 : Shape := ⟨2, ![1024, 1024]⟩

abbrev nBuf : Space → Nat
  | .hbm => 110
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024x1024, .f32⟩
  | .hbm, ⟨2, _⟩ => ⟨S16384x512, .f32⟩
  | .hbm, ⟨3, _⟩ => ⟨S16384x512, .f32⟩
  | .hbm, ⟨4, _⟩ => ⟨S1x512, .f32⟩
  | .hbm, ⟨5, _⟩ => ⟨S1x512, .f32⟩
  | .hbm, ⟨6, _⟩ => ⟨S16384x512, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x512, .f32⟩
  | .hbm, ⟨22, _⟩ => ⟨S16384x512, .f32⟩
  | .hbm, ⟨23, _⟩ => ⟨S512, .f32⟩
  | .hbm, ⟨24, _⟩ => ⟨S1x512, .f32⟩
  | .hbm, ⟨25, _⟩ => ⟨S16384x512, .f32⟩
  | .hbm, ⟨26, _⟩ => ⟨S16384x512, .f32⟩
  | .hbm, ⟨27, _⟩ => ⟨S16384x512, .f32⟩
  | .hbm, ⟨28, _⟩ => ⟨S_, .f32⟩
  | .hbm, ⟨29, _⟩ => ⟨S16384, .f32⟩
  | .hbm, ⟨30, _⟩ => ⟨S16384x1, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S_, .f32⟩
  | .hbm, ⟨35, _⟩ => ⟨S16384x1, .f32⟩
  | .hbm, ⟨36, _⟩ => ⟨S16384x1, .f32⟩
  | .hbm, ⟨37, _⟩ => ⟨S16384x1, .f32⟩
  | .hbm, ⟨38, _⟩ => ⟨S16384x1, .f32⟩
  | .hbm, ⟨39, _⟩ => ⟨S_, .f32⟩
  | .hbm, ⟨40, _⟩ => ⟨S16384x1, .f32⟩
  | .hbm, ⟨41, _⟩ => ⟨S16384x1, .f32⟩
  | .hbm, ⟨42, _⟩ => ⟨S16384x512, .f32⟩
  | .hbm, ⟨43, _⟩ => ⟨S16384x512, .f32⟩
  | .hbm, ⟨44, _⟩ => ⟨S512, .f32⟩
  | .hbm, ⟨45, _⟩ => ⟨S1x512, .f32⟩
  | .hbm, ⟨46, _⟩ => ⟨S16384x512, .f32⟩
  | .hbm, ⟨47, _⟩ => ⟨S16384x512, .f32⟩
  | .hbm, ⟨48, _⟩ => ⟨S16384x1024, .f32⟩
  | .hbm, ⟨49, _⟩ => ⟨S1024x1024, .f32⟩
  | .hbm, ⟨50, _⟩ => ⟨S16384x1024, .f32⟩
  | .hbm, ⟨51, _⟩ => ⟨S1024x1024, .f32⟩
  | .hbm, ⟨52, _⟩ => ⟨S1024x1024, .f32⟩
  | .hbm, ⟨53, _⟩ => ⟨S16384x1024, .f32⟩
  | .hbm, ⟨54, _⟩ => ⟨S1x1024x1024, .f32⟩
  | .hbm, ⟨55, _⟩ => ⟨S16384x512, .f32⟩
  | .hbm, ⟨56, _⟩ => ⟨S16384x512, .f32⟩
  | .hbm, ⟨57, _⟩ => ⟨S16384x512, .f32⟩
  | .hbm, ⟨58, _⟩ => ⟨S_, .f32⟩
  | .hbm, ⟨59, _⟩ => ⟨S512, .f32⟩
  | .hbm, ⟨60, _⟩ => ⟨S1x512, .f32⟩
  | .hbm, ⟨61, _⟩ => ⟨S16384x512, .f32⟩
  | .hbm, ⟨62, _⟩ => ⟨S16384x512, .f32⟩
  | .hbm, ⟨63, _⟩ => ⟨S_, .f32⟩
  | .hbm, ⟨64, _⟩ => ⟨S512, .f32⟩
  | .hbm, ⟨65, _⟩ => ⟨S1x512, .f32⟩
  | .hbm, ⟨66, _⟩ => ⟨S16384x512, .f32⟩
  | .hbm, ⟨67, _⟩ => ⟨S_, .f32⟩
  | .hbm, ⟨68, _⟩ => ⟨S16384, .f32⟩
  | .hbm, ⟨69, _⟩ => ⟨S16384x1, .f32⟩
  | .hbm, ⟨70, _⟩ => ⟨S16384x512, .f32⟩
  | .hbm, ⟨71, _⟩ => ⟨S16384x512, .f32⟩
  | .hbm, ⟨72, _⟩ => ⟨S16384x1, .f32⟩
  | .hbm, ⟨73, _⟩ => ⟨S_, .f32⟩
  | .hbm, ⟨74, _⟩ => ⟨S16384x1, .f32⟩
  | .hbm, ⟨75, _⟩ => ⟨S16384x1, .f32⟩
  | .hbm, ⟨76, _⟩ => ⟨S_, .f32⟩
  | .hbm, ⟨77, _⟩ => ⟨S16384, .f32⟩
  | .hbm, ⟨78, _⟩ => ⟨S16384x512, .f32⟩
  | .hbm, ⟨79, _⟩ => ⟨S16384x512, .f32⟩
  | .hbm, ⟨80, _⟩ => ⟨S16384x512, .f32⟩
  | .hbm, ⟨81, _⟩ => ⟨S16384x512, .f32⟩
  | .hbm, ⟨82, _⟩ => ⟨S16384x512, .f32⟩
  | .hbm, ⟨83, _⟩ => ⟨S16384x512, .f32⟩
  | .hbm, ⟨84, _⟩ => ⟨S_, .f32⟩
  | .hbm, ⟨85, _⟩ => ⟨S512, .f32⟩
  | .hbm, ⟨86, _⟩ => ⟨S1x512, .f32⟩
  | .hbm, ⟨87, _⟩ => ⟨S16384x512, .f32⟩
  | .hbm, ⟨88, _⟩ => ⟨S16384x512, .f32⟩
  | .hbm, ⟨89, _⟩ => ⟨S_, .f32⟩
  | .hbm, ⟨90, _⟩ => ⟨S512, .f32⟩
  | .hbm, ⟨91, _⟩ => ⟨S1x512, .f32⟩
  | .hbm, ⟨92, _⟩ => ⟨S16384x512, .f32⟩
  | .hbm, ⟨93, _⟩ => ⟨S_, .f32⟩
  | .hbm, ⟨94, _⟩ => ⟨S16384, .f32⟩
  | .hbm, ⟨95, _⟩ => ⟨S16384x1, .f32⟩
  | .hbm, ⟨96, _⟩ => ⟨S16384x512, .f32⟩
  | .hbm, ⟨97, _⟩ => ⟨S16384x512, .f32⟩
  | .hbm, ⟨98, _⟩ => ⟨S16384x1, .f32⟩
  | .hbm, ⟨99, _⟩ => ⟨S_, .f32⟩
  | .hbm, ⟨100, _⟩ => ⟨S16384x1, .f32⟩
  | .hbm, ⟨101, _⟩ => ⟨S16384x1, .f32⟩
  | .hbm, ⟨102, _⟩ => ⟨S_, .f32⟩
  | .hbm, ⟨103, _⟩ => ⟨S16384, .f32⟩
  | .hbm, ⟨104, _⟩ => ⟨S16384x512, .f32⟩
  | .hbm, ⟨105, _⟩ => ⟨S16384x512, .f32⟩
  | .hbm, ⟨106, _⟩ => ⟨S16384x512, .f32⟩
  | .hbm, ⟨107, _⟩ => ⟨S16384x512, .f32⟩
  | .hbm, ⟨108, _⟩ => ⟨S16384x512, .f32⟩
  | .hbm, ⟨109, _⟩ => ⟨S1024x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_7 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_8 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_9 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_10 : Ref sig .tc := ⟨.hbm, 73, rfl⟩
abbrev main_v56 : Ref sig .tc := ⟨.hbm, 74, rfl⟩
abbrev main_v57 : Ref sig .tc := ⟨.hbm, 75, rfl⟩
abbrev main_cst_11 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_12 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_13 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_14 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_cst_15 : Ref sig .tc := ⟨.hbm, 99, rfl⟩
abbrev main_v77 : Ref sig .tc := ⟨.hbm, 100, rfl⟩
abbrev main_v78 : Ref sig .tc := ⟨.hbm, 101, rfl⟩
abbrev main_cst_16 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩

abbrev nD : Nat := 1
abbrev τ : Topo := Topo.v7x

variable {F : FTy → Type} [FloatOps F]
-- ==== Kernel2.lean ====
abbrev S16384x512 : Shape := ⟨2, ![16384, 512]⟩
abbrev S16384x1536 : Shape := ⟨2, ![16384, 1536]⟩
abbrev S512x128 : Shape := ⟨2, ![512, 128]⟩
abbrev S16384x128 : Shape := ⟨2, ![16384, 128]⟩
abbrev S128x128 : Shape := ⟨2, ![128, 128]⟩
abbrev S256x128 : Shape := ⟨2, ![256, 128]⟩
abbrev S384x128 : Shape := ⟨2, ![384, 128]⟩
abbrev S128x1 : Shape := ⟨2, ![128, 1]⟩
abbrev S128x256 : Shape := ⟨2, ![128, 256]⟩
abbrev S128 : Shape := ⟨1, ![128]⟩
abbrev S1x128x1 : Shape := ⟨3, ![1, 128, 1]⟩
abbrev S1 : Shape := ⟨1, ![1]⟩
abbrev S1x1x1 : Shape := ⟨3, ![1, 1, 1]⟩
abbrev S128x384 : Shape := ⟨2, ![128, 384]⟩

abbrev nBuf : Space → Nat
  | .hbm => 9
  | .vmem => 12
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x1536, .f32⟩
  | .hbm, ⟨5, _⟩ => ⟨S16384x1536, .bf16⟩
  | .hbm, ⟨6, _⟩ => ⟨S16384x512, .f32⟩
  | .hbm, ⟨7, _⟩ => ⟨S16384x512, .f32⟩
  | .hbm, ⟨8, _⟩ => ⟨S16384x512, .f32⟩
  | .local _ .vmem, ⟨0, _⟩ => ⟨S512x128, .bf16⟩
  | .local _ .vmem, ⟨1, _⟩ => ⟨S512x128, .bf16⟩
  | .local _ .vmem, ⟨2, _⟩ => ⟨S16384x128, .bf16⟩
  | .local _ .vmem, ⟨3, _⟩ => ⟨S16384x128, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S16384x128, .f32⟩
  | .local _ .vmem, ⟨9, _⟩ => ⟨S16384x128, .f32⟩
  | .local _ .vmem, ⟨10, _⟩ => ⟨S16384x128, .f32⟩
  | .local _ .vmem, ⟨11, _⟩ => ⟨S16384x128, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 32], ![false, false]⟩

def k0_mult1 (i : grid0.Coords) : BitVec 32 :=
  let arg1 : BitVec 32 := BitVec.ofNat 32 (i 1).val
  let c4_i32 : BitVec 32 := 4#32
  let v51 : BitVec 32 := Scalar.muli arg1 c4_i32
  let c0_i32_11 : BitVec 32 := 0#32
  let v52 : BitVec 32 := Scalar.addi v51 c0_i32_11
  let c1_i32_12 : BitVec 32 := 1#32
  let v53 : BitVec 32 := Scalar.subi v52 c1_i32_12
  let c0_i32_13 : BitVec 32 := 0#32
  let v54 : BitVec 32 := Scalar.maxsi v53 c0_i32_13
  let c128_i32_14 : BitVec 32 := 128#32
  let v55 : BitVec 32 := Scalar.muli v54 c128_i32_14
  v55
def k0_off1 (i : grid0.Coords) (c0_i32_11 : BitVec 32) : Fin 2 → Nat :=
  let arg1 : BitVec 32 := BitVec.ofNat 32 (i 1).val
  let c4_i32 : BitVec 32 := 4#32
  let v51 : BitVec 32 := Scalar.muli arg1 c4_i32
  let v52 : BitVec 32 := Scalar.addi v51 c0_i32_11
  let c1_i32_12 : BitVec 32 := 1#32
  let v53 : BitVec 32 := Scalar.subi v52 c1_i32_12
  let c0_i32_13 : BitVec 32 := 0#32
  let v54 : BitVec 32 := Scalar.maxsi v53 c0_i32_13
  let c128_i32_14 : BitVec 32 := 128#32
  let v55 : BitVec 32 := Scalar.muli v54 c128_i32_14
  let v56 : BitVec 32 := v55
  let v75 : Index := Scalar.indexCast v56
  let c0_23 : Index := 0#32
  ![v75.toNat, 0]
def k0_mult2 (i : grid0.Coords) : BitVec 32 :=
  let arg1 : BitVec 32 := BitVec.ofNat 32 (i 1).val
  let c4_i32_25 : BitVec 32 := 4#32
  let v86 : BitVec 32 := Scalar.muli arg1 c4_i32_25
  let c1_i32_26 : BitVec 32 := 1#32
  let v87 : BitVec 32 := Scalar.addi v86 c1_i32_26
  let c1_i32_27 : BitVec 32 := 1#32
  let v88 : BitVec 32 := Scalar.subi v87 c1_i32_27
  let c0_i32_28 : BitVec 32 := 0#32
  let v89 : BitVec 32 := Scalar.maxsi v88 c0_i32_28
  let c128_i32_29 : BitVec 32 := 128#32
  let v90 : BitVec 32 := Scalar.muli v89 c128_i32_29
  v90
def k0_mult3 (i : grid0.Coords) : BitVec 32 :=
  let arg1 : BitVec 32 := BitVec.ofNat 32 (i 1).val
  let c4_i32_40 : BitVec 32 := 4#32
  let v121 : BitVec 32 := Scalar.muli arg1 c4_i32_40
  let c2_i32 : BitVec 32 := 2#32
  let v122 : BitVec 32 := Scalar.addi v121 c2_i32
  let c1_i32_41 : BitVec 32 := 1#32
  let v123 : BitVec 32 := Scalar.subi v122 c1_i32_41
  let c0_i32_42 : BitVec 32 := 0#32
  let v124 : BitVec 32 := Scalar.maxsi v123 c0_i32_42
  let c128_i32_43 : BitVec 32 := 128#32
  let v125 : BitVec 32 := Scalar.muli v124 c128_i32_43
  v125
def k0_mult4 (i : grid0.Coords) : BitVec 32 :=
  let arg1 : BitVec 32 := BitVec.ofNat 32 (i 1).val
  let c4_i32_54 : BitVec 32 := 4#32
  let v156 : BitVec 32 := Scalar.muli arg1 c4_i32_54
  let c3_i32 : BitVec 32 := 3#32
  let v157 : BitVec 32 := Scalar.addi v156 c3_i32
  let c1_i32_55 : BitVec 32 := 1#32
  let v158 : BitVec 32 := Scalar.subi v157 c1_i32_55
  let c0_i32_56 : BitVec 32 := 0#32
  let v159 : BitVec 32 := Scalar.maxsi v158 c0_i32_56
  let c128_i32_57 : BitVec 32 := 128#32
  let v160 : BitVec 32 := Scalar.muli v159 c128_i32_57
  v160
def k0_mult5 (arg9 : BitVec 32) : BitVec 32 :=
  let c128_i32_340 : BitVec 32 := 128#32
  let v1255 : BitVec 32 := Scalar.muli arg9 c128_i32_340
  v1255

def k0_off2 (arg9 : BitVec 32) : Fin 2 → Nat :=
  let c128_i32_340 : BitVec 32 := 128#32
  let v1255 : BitVec 32 := Scalar.muli arg9 c128_i32_340
  let v1256 : BitVec 32 := v1255
  let v1257 : Index := Scalar.indexCast v1256
  let c0_341 : Index := 0#32
  ![v1257.toNat, 0]

def k0_chk1 (arg9 : BitVec 32) : Prop :=
  (128 ∣ (k0_mult5 arg9).toNat) ∧
  (∀ a, (k0_off2 arg9) a + S128x128.size a ≤ S16384x128.size a)
theorem k0_mult5_dvd : ∀ (arg9 : BitVec 32) (k0_hw1 : k0_chk1 arg9), 128 ∣ (k0_mult5 arg9).toNat := fun arg9 k0_hw1 => k0_hw1.1
theorem k0_off2_inb : ∀ (arg9 : BitVec 32) (k0_hw1 : k0_chk1 arg9), ∀ a, (k0_off2 arg9) a + S128x128.size a ≤ S16384x128.size a := fun arg9 k0_hw1 => k0_hw1.2

def k0_mult6 (arg9 : BitVec 32) : BitVec 32 :=
  let c128_i32_340 : BitVec 32 := 128#32
  let v1255 : BitVec 32 := Scalar.muli arg9 c128_i32_340
  v1255

def k0_off3 (arg9 : BitVec 32) : Fin 2 → Nat :=
  let c128_i32_340 : BitVec 32 := 128#32
  let v1255 : BitVec 32 := Scalar.muli arg9 c128_i32_340
  let v1256 : BitVec 32 := v1255
  let v1257 : Index := Scalar.indexCast v1256
  let c0_341 : Index := 0#32
  ![v1257.toNat, 0]

def k0_chk2 (arg9 : BitVec 32) : Prop :=
  (128 ∣ (k0_mult6 arg9).toNat) ∧
  (∀ a, (k0_off3 arg9) a + S128x128.size a ≤ S16384x128.size a)
theorem k0_mult6_dvd : ∀ (arg9 : BitVec 32) (k0_hw2 : k0_chk2 arg9), 128 ∣ (k0_mult6 arg9).toNat := fun arg9 k0_hw2 => k0_hw2.1
theorem k0_off3_inb : ∀ (arg9 : BitVec 32) (k0_hw2 : k0_chk2 arg9), ∀ a, (k0_off3 arg9) a + S128x128.size a ≤ S16384x128.size a := fun arg9 k0_hw2 => k0_hw2.2

def k0_mult7 (arg9 : BitVec 32) : BitVec 32 :=
  let c128_i32_340 : BitVec 32 := 128#32
  let v1255 : BitVec 32 := Scalar.muli arg9 c128_i32_340
  v1255

def k0_off4 (arg9 : BitVec 32) : Fin 2 → Nat :=
  let c128_i32_340 : BitVec 32 := 128#32
  let v1255 : BitVec 32 := Scalar.muli arg9 c128_i32_340
  let v1256 : BitVec 32 := v1255
  let v1257 : Index := Scalar.indexCast v1256
  let c0_341 : Index := 0#32
  ![v1257.toNat, 0]

def k0_chk3 (arg9 : BitVec 32) : Prop :=
  (128 ∣ (k0_mult7 arg9).toNat) ∧
  (∀ a, (k0_off4 arg9) a + S128x128.size a ≤ S16384x128.size a)
theorem k0_mult7_dvd : ∀ (arg9 : BitVec 32) (k0_hw3 : k0_chk3 arg9), 128 ∣ (k0_mult7 arg9).toNat := fun arg9 k0_hw3 => k0_hw3.1
theorem k0_off4_inb : ∀ (arg9 : BitVec 32) (k0_hw3 : k0_chk3 arg9), ∀ a, (k0_off4 arg9) a + S128x128.size a ≤ S16384x128.size a := fun arg9 k0_hw3 => k0_hw3.2

def k0_mult8 (arg9 : BitVec 32) : BitVec 32 :=
  let c128_i32_340 : BitVec 32 := 128#32
  let v1255 : BitVec 32 := Scalar.muli arg9 c128_i32_340
  v1255

def k0_off5 (arg9 : BitVec 32) : Fin 2 → Nat :=
  let c128_i32_340 : BitVec 32 := 128#32
  let v1255 : BitVec 32 := Scalar.muli arg9 c128_i32_340
  let v1256 : BitVec 32 := v1255
  let v1257 : Index := Scalar.indexCast v1256
  let c0_341 : Index := 0#32
  ![v1257.toNat, 0]

def k0_chk4 (arg9 : BitVec 32) : Prop :=
  (128 ∣ (k0_mult8 arg9).toNat) ∧
  (∀ a, (k0_off5 arg9) a + S128x128.size a ≤ S16384x128.size a)
theorem k0_mult8_dvd : ∀ (arg9 : BitVec 32) (k0_hw4 : k0_chk4 arg9), 128 ∣ (k0_mult8 arg9).toNat := fun arg9 k0_hw4 => k0_hw4.1
theorem k0_off5_inb : ∀ (arg9 : BitVec 32) (k0_hw4 : k0_chk4 arg9), ∀ a, (k0_off5 arg9) a + S128x128.size a ≤ S16384x128.size a := fun arg9 k0_hw4 => k0_hw4.2

def k0_mult9 (arg9 : BitVec 32) : BitVec 32 :=
  let c128_i32_340 : BitVec 32 := 128#32
  let v1255 : BitVec 32 := Scalar.muli arg9 c128_i32_340
  v1255

def k0_off6 (arg9 : BitVec 32) : Fin 2 → Nat :=
  let c128_i32_340 : BitVec 32 := 128#32
  let v1255 : BitVec 32 := Scalar.muli arg9 c128_i32_340
  let v1256 : BitVec 32 := v1255
  let v1257 : Index := Scalar.indexCast v1256
  let c0_341 : Index := 0#32
  ![v1257.toNat, 0]

def k0_chk5 (arg9 : BitVec 32) : Prop :=
  (128 ∣ (k0_mult9 arg9).toNat) ∧
  (∀ a, (k0_off6 arg9) a + S128x128.size a ≤ S16384x128.size a)
theorem k0_mult9_dvd : ∀ (arg9 : BitVec 32) (k0_hw5 : k0_chk5 arg9), 128 ∣ (k0_mult9 arg9).toNat := fun arg9 k0_hw5 => k0_hw5.1
theorem k0_off6_inb : ∀ (arg9 : BitVec 32) (k0_hw5 : k0_chk5 arg9), ∀ a, (k0_off6 arg9) a + S128x128.size a ≤ S16384x128.size a := fun arg9 k0_hw5 => k0_hw5.2

def k0_mult10 (arg9 : BitVec 32) : BitVec 32 :=
  let c128_i32_340 : BitVec 32 := 128#32
  let v1255 : BitVec 32 := Scalar.muli arg9 c128_i32_340
  v1255

def k0_off7 (arg9 : BitVec 32) : Fin 2 → Nat :=
  let c128_i32_340 : BitVec 32 := 128#32
  let v1255 : BitVec 32 := Scalar.muli arg9 c128_i32_340
  let v1256 : BitVec 32 := v1255
  let v1257 : Index := Scalar.indexCast v1256
  let c0_341 : Index := 0#32
  ![v1257.toNat, 0]

def k0_chk6 (arg9 : BitVec 32) : Prop :=
  (128 ∣ (k0_mult10 arg9).toNat) ∧
  (∀ a, (k0_off7 arg9) a + S128x128.size a ≤ S16384x128.size a)
theorem k0_mult10_dvd : ∀ (arg9 : BitVec 32) (k0_hw6 : k0_chk6 arg9), 128 ∣ (k0_mult10 arg9).toNat := fun arg9 k0_hw6 => k0_hw6.1
theorem k0_off7_inb : ∀ (arg9 : BitVec 32) (k0_hw6 : k0_chk6 arg9), ∀ a, (k0_off7 arg9) a + S128x128.size a ≤ S16384x128.size a := fun arg9 k0_hw6 => k0_hw6.2

def k0_mult11 (arg9 : BitVec 32) : BitVec 32 :=
  let c128_i32_340 : BitVec 32 := 128#32
  let v1255 : BitVec 32 := Scalar.muli arg9 c128_i32_340
  v1255

def k0_off8 (arg9 : BitVec 32) : Fin 2 → Nat :=
  let c128_i32_340 : BitVec 32 := 128#32
  let v1255 : BitVec 32 := Scalar.muli arg9 c128_i32_340
  let v1256 : BitVec 32 := v1255
  let v1257 : Index := Scalar.indexCast v1256
  let c0_341 : Index := 0#32
  ![v1257.toNat, 0]

def k0_chk7 (arg9 : BitVec 32) : Prop :=
  (128 ∣ (k0_mult11 arg9).toNat) ∧
  (∀ a, (k0_off8 arg9) a + S128x128.size a ≤ S16384x128.size a)
theorem k0_mult11_dvd : ∀ (arg9 : BitVec 32) (k0_hw7 : k0_chk7 arg9), 128 ∣ (k0_mult11 arg9).toNat := fun arg9 k0_hw7 => k0_hw7.1
theorem k0_off8_inb : ∀ (arg9 : BitVec 32) (k0_hw7 : k0_chk7 arg9), ∀ a, (k0_off8 arg9) a + S128x128.size a ≤ S16384x128.size a := fun arg9 k0_hw7 => k0_hw7.2

def k0_mult12 (arg9 : BitVec 32) : BitVec 32 :=
  let c128_i32_340 : BitVec 32 := 128#32
  let v1255 : BitVec 32 := Scalar.muli arg9 c128_i32_340
  v1255

def k0_off9 (arg9 : BitVec 32) : Fin 2 → Nat :=
  let c128_i32_340 : BitVec 32 := 128#32
  let v1255 : BitVec 32 := Scalar.muli arg9 c128_i32_340
  let v1256 : BitVec 32 := v1255
  let v1257 : Index := Scalar.indexCast v1256
  let c0_341 : Index := 0#32
  ![v1257.toNat, 0]

def k0_chk8 (arg9 : BitVec 32) : Prop :=
  (128 ∣ (k0_mult12 arg9).toNat) ∧
  (∀ a, (k0_off9 arg9) a + S128x128.size a ≤ S16384x128.size a)
theorem k0_mult12_dvd : ∀ (arg9 : BitVec 32) (k0_hw8 : k0_chk8 arg9), 128 ∣ (k0_mult12 arg9).toNat := fun arg9 k0_hw8 => k0_hw8.1
theorem k0_off9_inb : ∀ (arg9 : BitVec 32) (k0_hw8 : k0_chk8 arg9), ∀ a, (k0_off9 arg9) a + S128x128.size a ≤ S16384x128.size a := fun arg9 k0_hw8 => k0_hw8.2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16384x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S16384x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16384x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S16384x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Kernel2Ideal.lean ====
variable {F : FTy → Type} [FloatOps F] [Named F]
def κ : String → Option EReal := fun
  | "exp_underflow" => some ⊥
  | _ => none
-- ==== Reference2Ideal.lean ====
abbrev S16384x512 : Shape := ⟨2, ![16384, 512]⟩
abbrev S16384x8x64 : Shape := ⟨3, ![16384, 8, 64]⟩
abbrev S8x16384x64 : Shape := ⟨3, ![8, 16384, 64]⟩
abbrev S8x16384x16384 : Shape := ⟨3, ![8, 16384, 16384]⟩
abbrev S_ : Shape := ⟨0, ![]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S8x64x16384 : Shape := ⟨3, ![8, 64, 16384]⟩

abbrev nBuf : Space → Nat
  | .hbm => 176
  | .vmem => 0
  | .smem => 0
  | _ => 0

abbrev hbmTy0_0 (i : Nat) : BufTy := match i % 128 with
  | 0 => ⟨S16384x512, .f32⟩
  | 1 => ⟨S16384x512, .f32⟩
  | 2 => ⟨S16384x512, .f32⟩
  | 3 => ⟨S16384x512, .f32⟩
  | 4 => ⟨S16384x8x64, .f32⟩
  | 5 => ⟨S8x16384x64, .f32⟩
  | 6 => ⟨S16384x8x64, .f32⟩
  | 7 => ⟨S8x16384x64, .f32⟩
  | 8 => ⟨S8x16384x16384, .f32⟩
  | 9 => ⟨S_, .f32⟩
  | 10 => ⟨S8x16384x16384, .f32⟩
  | 11 => ⟨S8x16384x16384, .f32⟩
  | 12 => ⟨S16384, .i32⟩
  | 13 => ⟨S1x16384, .i32⟩
  | 14 => ⟨S16384x1, .i32⟩
  | 15 => ⟨S16384x16384, .i32⟩
  | 16 => ⟨S16384x16384, .i32⟩
  | 17 => ⟨S16384x16384, .i1⟩
  | 18 => ⟨S8x16384x16384, .f32⟩
  | 19 => ⟨S8x16384x16384, .f32⟩
  | 20 => ⟨S_, .f32⟩
  | 21 => ⟨S8x16384x16384, .f32⟩
  | 22 => ⟨S8x16384x16384, .f32⟩
  | 23 => ⟨S8x16384x16384, .f32⟩
  | 24 => ⟨S8x16384x16384, .f32⟩
  | 25 => ⟨S8x16384x16384, .i1⟩
  | 26 => ⟨S8x16384x16384, .f32⟩
  | 27 => ⟨S8x16384x16384, .f32⟩
  | 28 => ⟨S8x16384x16384, .f32⟩
  | 29 => ⟨S8x16384x16384, .f32⟩
  | 30 => ⟨S8x16384x16384, .f32⟩
  | 31 => ⟨S8x16384x16384, .f32⟩
  | 32 => ⟨S8x16384x16384, .f32⟩
  | 33 => ⟨S8x16384x16384, .f32⟩
  | 34 => ⟨S_, .f32⟩
  | 35 => ⟨S8x16384x16384, .f32⟩
  | 36 => ⟨S8x16384x16384, .i1⟩
  | 37 => ⟨S_, .f32⟩
  | 38 => ⟨S8x16384x16384, .f32⟩
  | 39 => ⟨S8x16384x16384, .f32⟩
  | 40 => ⟨S_, .f32⟩
  | 41 => ⟨S8x16384x16384, .f32⟩
  | 42 => ⟨S8x16384x16384, .i1⟩
  | 43 => ⟨S_, .f32⟩
  | 44 => ⟨S8x16384x16384, .f32⟩
  | 45 => ⟨S8x16384x16384, .f32⟩
  | 46 => ⟨S8x16384x16384, .f32⟩
  | 47 => ⟨S8x16384x16384, .f32⟩
  | 48 => ⟨S_, .f32⟩
  | 49 => ⟨S_, .f32⟩
  | 50 => ⟨S_, .i1⟩
  | 51 => ⟨S_, .f32⟩
  | 52 => ⟨S_, .f32⟩
  | 53 => ⟨S_, .f32⟩
  | 54 => ⟨S_, .f32⟩
  | 55 => ⟨S8x16384x16384, .f32⟩
  | 56 => ⟨S8x16384x16384, .i1⟩
  | 57 => ⟨S_, .f32⟩
  | 58 => ⟨S8x16384x16384, .f32⟩
  | 59 => ⟨S8x16384x16384, .f32⟩
  | 60 => ⟨S8x16384x16384, .f32⟩
  | 61 => ⟨S8x16384x16384, .f32⟩
  | 62 => ⟨S8x16384x16384, .f32⟩
  | 63 => ⟨S_, .f32⟩
  | 64 => ⟨S8x16384x16384, .f32⟩
  | 65 => ⟨S8x16384x16384, .f32⟩
  | 66 => ⟨S8x16384x16384, .f32⟩
  | 67 => ⟨S_, .f32⟩
  | 68 => ⟨S_, .f32⟩
  | 69 => ⟨S8x16384x16384, .i1⟩
  | 70 => ⟨S8x16384x16384, .f32⟩
  | 71 => ⟨S8x16384x16384, .f32⟩
  | 72 => ⟨S_, .f32⟩
  | 73 => ⟨S8x16384x16384, .f32⟩
  | 74 => ⟨S_, .f32⟩
  | 75 => ⟨S_, .f32⟩
  | 76 => ⟨S8x16384x16384, .f32⟩
  | 77 => ⟨S8x16384x16384, .f32⟩
  | 78 => ⟨S8x16384x16384, .f32⟩
  | 79 => ⟨S_, .f32⟩
  | 80 => ⟨S8x16384x16384, .f32⟩
  | 81 => ⟨S8x16384x16384, .f32⟩
  | 82 => ⟨S8x16384x16384, .f32⟩
  | 83 => ⟨S8x16384x16384, .f32⟩
  | 84 => ⟨S8x16384x16384, .i1⟩
  | 85 => ⟨S8x16384x16384, .f32⟩
  | 86 => ⟨S8x16384x16384, .f32⟩
  | 87 => ⟨S8x16384x16384, .f32⟩
  | 88 => ⟨S8x16384x16384, .f32⟩
  | 89 => ⟨S8x16384x16384, .f32⟩
  | 90 => ⟨S8x16384x16384, .f32⟩
  | 91 => ⟨S8x16384x16384, .f32⟩
  | 92 => ⟨S8x16384x16384, .f32⟩
  | 93 => ⟨S_, .f32⟩
  | 94 => ⟨S8x16384x16384, .f32⟩
  | 95 => ⟨S8x16384x16384, .i1⟩
  | 96 => ⟨S_, .f32⟩
  | 97 => ⟨S8x16384x16384, .f32⟩
  | 98 => ⟨S8x16384x16384, .f32⟩
  | 99 => ⟨S_, .f32⟩
  | 100 => ⟨S8x16384x16384, .f32⟩
  | 101 => ⟨S8x16384x16384, .i1⟩
  | 102 => ⟨S_, .f32⟩
  | 103 => ⟨S8x16384x16384, .f32⟩
  | 104 => ⟨S8x16384x16384, .f32⟩
  | 105 => ⟨S8x16384x16384, .f32⟩
  | 106 => ⟨S8x16384x16384, .f32⟩
  | 107 => ⟨S_, .f32⟩
  | 108 => ⟨S_, .f32⟩
  | 109 => ⟨S_, .i1⟩
  | 110 => ⟨S_, .f32⟩
  | 111 => ⟨S_, .f32⟩
  | 112 => ⟨S_, .f32⟩
  | 113 => ⟨S_, .f32⟩
  | 114 => ⟨S8x16384x16384, .f32⟩
  | 115 => ⟨S8x16384x16384, .i1⟩
  | 116 => ⟨S_, .f32⟩
  | 117 => ⟨S8x16384x16384, .f32⟩
  | 118 => ⟨S8x16384x16384, .f32⟩
  | 119 => ⟨S8x16384x16384, .f32⟩
  | 120 => ⟨S8x16384x16384, .f32⟩
  | 121 => ⟨S8x16384x16384, .f32⟩
  | 122 => ⟨S_, .f32⟩
  | 123 => ⟨S8x16384x16384, .f32⟩
  | 124 => ⟨S8x16384x16384, .f32⟩
  | 125 => ⟨S8x16384x16384, .f32⟩
  | 126 => ⟨S8x16384x16384, .f32⟩
  | 127 => ⟨S8x16384x16384, .f32⟩
  | _ => ⟨S16384x512, .f32⟩

abbrev hbmTy0_1 (i : Nat) : BufTy := match i % 128 with
  | 0 => ⟨S_, .f32⟩
  | 1 => ⟨S_, .f32⟩
  | 2 => ⟨S8x16384x16384, .i1⟩
  | 3 => ⟨S8x16384x16384, .f32⟩
  | 4 => ⟨S8x16384x16384, .f32⟩
  | 5 => ⟨S_, .f32⟩
  | 6 => ⟨S8x16384x16384, .f32⟩
  | 7 => ⟨S16384x8x64, .f32⟩
  | 8 => ⟨S8x16384x64, .f32⟩
  | 9 => ⟨S8x16384x64, .f32⟩
  | 10 => ⟨S16384x8x64, .f32⟩
  | 11 => ⟨S16384x512, .f32⟩
  | 12 => ⟨S16384x8x64, .f32⟩
  | 13 => ⟨S8x16384x64, .f32⟩
  | 14 => ⟨S8x64x16384, .f32⟩
  | 15 => ⟨S8x16384x64, .f32⟩
  | 16 => ⟨S8x16384x16384, .f32⟩
  | 17 => ⟨S16384x8x64, .f32⟩
  | 18 => ⟨S16384x512, .f32⟩
  | 19 => ⟨S_, .f32⟩
  | 20 => ⟨S8x16384x16384, .f32⟩
  | 21 => ⟨S8x16384x16384, .f32⟩
  | 22 => ⟨S8x16384x16384, .f32⟩
  | 23 => ⟨S8x16384x16384, .f32⟩
  | 24 => ⟨S8x16384x16384, .f32⟩
  | 25 => ⟨S8x16384x16384, .f32⟩
  | 26 => ⟨S8x16384x16384, .f32⟩
  | 27 => ⟨S_, .f32⟩
  | 28 => ⟨S_, .f32⟩
  | 29 => ⟨S8x16384x16384, .f32⟩
  | 30 => ⟨S8x16384x16384, .f32⟩
  | 31 => ⟨S_, .f32⟩
  | 32 => ⟨S8x16384x16384, .f32⟩
  | 33 => ⟨S8x16384x16384, .f32⟩
  | 34 => ⟨S8x16384x16384, .f32⟩
  | 35 => ⟨S8x16384x16384, .f32⟩
  | 36 => ⟨S8x16384x16384, .f32⟩
  | 37 => ⟨S8x16384x16384, .f32⟩
  | 38 => ⟨S8x16384x16384, .f32⟩
  | 39 => ⟨S_, .f32⟩
  | 40 => ⟨S8x16384x16384, .f32⟩
  | 41 => ⟨S8x16384x16384, .f32⟩
  | 42 => ⟨S8x16384x64, .f32⟩
  | 43 => ⟨S8x16384x64, .f32⟩
  | 44 => ⟨S16384x8x64, .f32⟩
  | 45 => ⟨S16384x512, .f32⟩
  | 46 => ⟨S16384x8x64, .f32⟩
  | 47 => ⟨S16384x512, .f32⟩
  | _ => ⟨S16384x512, .f32⟩

abbrev hbmTy (i : Nat) : BufTy := match i / 128 with
  | 0 => hbmTy0_0 i
  | 1 => hbmTy0_1 i
  | _ => ⟨S16384x512, .f32⟩

abbrev bufTy : (tb : Table) → Fin (tcTables nBuf tb) → BufTy
  | .hbm, ⟨i, _⟩ => hbmTy i
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1_0 : Ref sig .tc := ⟨.hbm, 33, rfl⟩
abbrev main_call0_call0_cst_0 : Ref sig .tc := ⟨.hbm, 34, rfl⟩
abbrev main_call0_call0_v13 : Ref sig .tc := ⟨.hbm, 35, rfl⟩
abbrev main_call0_call0_v14 : Ref sig .tc := ⟨.hbm, 36, rfl⟩
abbrev main_call0_call0_cst_1 : Ref sig .tc := ⟨.hbm, 37, rfl⟩
abbrev main_call0_call0_v15 : Ref sig .tc := ⟨.hbm, 38, rfl⟩
abbrev main_call0_call0_v16 : Ref sig .tc := ⟨.hbm, 39, rfl⟩
abbrev main_call0_call0_cst_2 : Ref sig .tc := ⟨.hbm, 40, rfl⟩
abbrev main_call0_call0_v17 : Ref sig .tc := ⟨.hbm, 41, rfl⟩
abbrev main_call0_call0_v18 : Ref sig .tc := ⟨.hbm, 42, rfl⟩
abbrev main_call0_call0_cst_3 : Ref sig .tc := ⟨.hbm, 43, rfl⟩
abbrev main_call0_call0_v19 : Ref sig .tc := ⟨.hbm, 44, rfl⟩
abbrev main_call0_call0_v20 : Ref sig .tc := ⟨.hbm, 45, rfl⟩
abbrev main_call0_call0_v21 : Ref sig .tc := ⟨.hbm, 46, rfl⟩
abbrev main_v14_1 : Ref sig .tc := ⟨.hbm, 47, rfl⟩
abbrev main_call0_call0_cst_4 : Ref sig .tc := ⟨.hbm, 48, rfl⟩
abbrev main_call0_call0_cst_5 : Ref sig .tc := ⟨.hbm, 49, rfl⟩
abbrev main_call0_call0_v23 : Ref sig .tc := ⟨.hbm, 50, rfl⟩
abbrev main_call0_call0_cst_6 : Ref sig .tc := ⟨.hbm, 51, rfl⟩
abbrev main_call0_call0_cst_7 : Ref sig .tc := ⟨.hbm, 52, rfl⟩
abbrev main_call0_call0_v24 : Ref sig .tc := ⟨.hbm, 53, rfl⟩
abbrev main_call0_call0_cst_8 : Ref sig .tc := ⟨.hbm, 54, rfl⟩
abbrev main_call0_call0_v25 : Ref sig .tc := ⟨.hbm, 55, rfl⟩
abbrev main_call0_call0_v26 : Ref sig .tc := ⟨.hbm, 56, rfl⟩
abbrev main_call0_call0_cst_9 : Ref sig .tc := ⟨.hbm, 57, rfl⟩
abbrev main_call0_call0_v27 : Ref sig .tc := ⟨.hbm, 58, rfl⟩
abbrev main_call0_call0_v28 : Ref sig .tc := ⟨.hbm, 59, rfl⟩
abbrev main_call0_call0_v29 : Ref sig .tc := ⟨.hbm, 60, rfl⟩
abbrev main_call0_call0_v30 : Ref sig .tc := ⟨.hbm, 61, rfl⟩
abbrev main_call0_call0_v31 : Ref sig .tc := ⟨.hbm, 62, rfl⟩
abbrev main_call0_call0_cst_10 : Ref sig .tc := ⟨.hbm, 63, rfl⟩
abbrev main_call0_call0_v32 : Ref sig .tc := ⟨.hbm, 64, rfl⟩
abbrev main_v14_2 : Ref sig .tc := ⟨.hbm, 65, rfl⟩
abbrev main_v14_0 : Ref sig .tc := ⟨.hbm, 66, rfl⟩
abbrev main_cst_0 : Ref sig .tc := ⟨.hbm, 67, rfl⟩
abbrev main_call1_v0 : Ref sig .tc := ⟨.hbm, 68, rfl⟩
abbrev main_v15_1 : Ref sig .tc := ⟨.hbm, 69, rfl⟩
abbrev main_call1_v2 : Ref sig .tc := ⟨.hbm, 70, rfl⟩
abbrev main_v15_0 : Ref sig .tc := ⟨.hbm, 71, rfl⟩
abbrev main_call1_cst : Ref sig .tc := ⟨.hbm, 72, rfl⟩
abbrev main_v15_2 : Ref sig .tc := ⟨.hbm, 73, rfl⟩
abbrev main_call2_cst : Ref sig .tc := ⟨.hbm, 74, rfl⟩
abbrev main_call2_v0 : Ref sig .tc := ⟨.hbm, 75, rfl⟩
abbrev main_v16 : Ref sig .tc := ⟨.hbm, 76, rfl⟩
abbrev main_v17 : Ref sig .tc := ⟨.hbm, 77, rfl⟩
abbrev main_call3_v0 : Ref sig .tc := ⟨.hbm, 78, rfl⟩
abbrev main_call3_call0_cst : Ref sig .tc := ⟨.hbm, 79, rfl⟩
abbrev main_call3_call0_v0 : Ref sig .tc := ⟨.hbm, 80, rfl⟩
abbrev main_call3_call0_v1 : Ref sig .tc := ⟨.hbm, 81, rfl⟩
abbrev main_call3_call0_v2 : Ref sig .tc := ⟨.hbm, 82, rfl⟩
abbrev main_call3_call0_v3 : Ref sig .tc := ⟨.hbm, 83, rfl⟩
abbrev main_call3_call0_v4 : Ref sig .tc := ⟨.hbm, 84, rfl⟩
abbrev main_call3_call0_v5 : Ref sig .tc := ⟨.hbm, 85, rfl⟩
abbrev main_call3_call0_v6 : Ref sig .tc := ⟨.hbm, 86, rfl⟩
abbrev main_call3_call0_v7 : Ref sig .tc := ⟨.hbm, 87, rfl⟩
abbrev main_call3_call0_v8 : Ref sig .tc := ⟨.hbm, 88, rfl⟩
abbrev main_call3_call0_v9 : Ref sig .tc := ⟨.hbm, 89, rfl⟩
abbrev main_call3_call0_v10 : Ref sig .tc := ⟨.hbm, 90, rfl⟩
abbrev main_call3_call0_v11 : Ref sig .tc := ⟨.hbm, 91, rfl⟩
abbrev main_call3_v1_0 : Ref sig .tc := ⟨.hbm, 92, rfl⟩
abbrev main_call3_call0_cst_0 : Ref sig .tc := ⟨.hbm, 93, rfl⟩
abbrev main_call3_call0_v13 : Ref sig .tc := ⟨.hbm, 94, rfl⟩
abbrev main_call3_call0_v14 : Ref sig .tc := ⟨.hbm, 95, rfl⟩
abbrev main_call3_call0_cst_1 : Ref sig .tc := ⟨.hbm, 96, rfl⟩
abbrev main_call3_call0_v15 : Ref sig .tc := ⟨.hbm, 97, rfl⟩
abbrev main_call3_call0_v16 : Ref sig .tc := ⟨.hbm, 98, rfl⟩
abbrev main_call3_call0_cst_2 : Ref sig .tc := ⟨.hbm, 99, rfl⟩
abbrev main_call3_call0_v17 : Ref sig .tc := ⟨.hbm, 100, rfl⟩
abbrev main_call3_call0_v18 : Ref sig .tc := ⟨.hbm, 101, rfl⟩
abbrev main_call3_call0_cst_3 : Ref sig .tc := ⟨.hbm, 102, rfl⟩
abbrev main_call3_call0_v19 : Ref sig .tc := ⟨.hbm, 103, rfl⟩
abbrev main_call3_call0_v20 : Ref sig .tc := ⟨.hbm, 104, rfl⟩
abbrev main_call3_call0_v21 : Ref sig .tc := ⟨.hbm, 105, rfl⟩
abbrev main_v18_1 : Ref sig .tc := ⟨.hbm, 106, rfl⟩
abbrev main_call3_call0_cst_4 : Ref sig .tc := ⟨.hbm, 107, rfl⟩
abbrev main_call3_call0_cst_5 : Ref sig .tc := ⟨.hbm, 108, rfl⟩
abbrev main_call3_call0_v23 : Ref sig .tc := ⟨.hbm, 109, rfl⟩
abbrev main_call3_call0_cst_6 : Ref sig .tc := ⟨.hbm, 110, rfl⟩
abbrev main_call3_call0_cst_7 : Ref sig .tc := ⟨.hbm, 111, rfl⟩
abbrev main_call3_call0_v24 : Ref sig .tc := ⟨.hbm, 112, rfl⟩
abbrev main_call3_call0_cst_8 : Ref sig .tc := ⟨.hbm, 113, rfl⟩
abbrev main_call3_call0_v25 : Ref sig .tc := ⟨.hbm, 114, rfl⟩
abbrev main_call3_call0_v26 : Ref sig .tc := ⟨.hbm, 115, rfl⟩
abbrev main_call3_call0_cst_9 : Ref sig .tc := ⟨.hbm, 116, rfl⟩
abbrev main_call3_call0_v27 : Ref sig .tc := ⟨.hbm, 117, rfl⟩
abbrev main_call3_call0_v28 : Ref sig .tc := ⟨.hbm, 118, rfl⟩
abbrev main_call3_call0_v29 : Ref sig .tc := ⟨.hbm, 119, rfl⟩
abbrev main_call3_call0_v30 : Ref sig .tc := ⟨.hbm, 120, rfl⟩
abbrev main_call3_call0_v31 : Ref sig .tc := ⟨.hbm, 121, rfl⟩
abbrev main_call3_call0_cst_10 : Ref sig .tc := ⟨.hbm, 122, rfl⟩
abbrev main_call3_call0_v32 : Ref sig .tc := ⟨.hbm, 123, rfl⟩
abbrev main_v18_2 : Ref sig .tc := ⟨.hbm, 124, rfl⟩
abbrev main_v18_0 : Ref sig .tc := ⟨.hbm, 125, rfl⟩
abbrev main_v19 : Ref sig .tc := ⟨.hbm, 126, rfl⟩
abbrev main_v20 : Ref sig .tc := ⟨.hbm, 127, rfl⟩
abbrev main_cst_1 : Ref sig .tc := ⟨.hbm, 128, rfl⟩
abbrev main_call4_v0 : Ref sig .tc := ⟨.hbm, 129, rfl⟩
abbrev main_v21_1 : Ref sig .tc := ⟨.hbm, 130, rfl⟩
abbrev main_call4_v2 : Ref sig .tc := ⟨.hbm, 131, rfl⟩
abbrev main_v21_0 : Ref sig .tc := ⟨.hbm, 132, rfl⟩
abbrev main_call4_cst : Ref sig .tc := ⟨.hbm, 133, rfl⟩
abbrev main_v21_2 : Ref sig .tc := ⟨.hbm, 134, rfl⟩
abbrev main_v22 : Ref sig .tc := ⟨.hbm, 135, rfl⟩
abbrev main_v23 : Ref sig .tc := ⟨.hbm, 136, rfl⟩
abbrev main_v24 : Ref sig .tc := ⟨.hbm, 137, rfl⟩
abbrev main_v25 : Ref sig .tc := ⟨.hbm, 138, rfl⟩
abbrev main_v26 : Ref sig .tc := ⟨.hbm, 139, rfl⟩
abbrev main_v27 : Ref sig .tc := ⟨.hbm, 140, rfl⟩
abbrev main_v28 : Ref sig .tc := ⟨.hbm, 141, rfl⟩
abbrev main_v29 : Ref sig .tc := ⟨.hbm, 142, rfl⟩
abbrev main_v30 : Ref sig .tc := ⟨.hbm, 143, rfl⟩
abbrev main_v31 : Ref sig .tc := ⟨.hbm, 144, rfl⟩
abbrev main_v32 : Ref sig .tc := ⟨.hbm, 145, rfl⟩
abbrev main_v33 : Ref sig .tc := ⟨.hbm, 146, rfl⟩
abbrev main_call5_cst : Ref sig .tc := ⟨.hbm, 147, rfl⟩
abbrev main_call5_v0 : Ref sig .tc := ⟨.hbm, 148, rfl⟩
abbrev main_v34 : Ref sig .tc := ⟨.hbm, 149, rfl⟩
abbrev main_v35 : Ref sig .tc := ⟨.hbm, 150, rfl⟩
abbrev main_call6_v0 : Ref sig .tc := ⟨.hbm, 151, rfl⟩
abbrev main_call6_v1 : Ref sig .tc := ⟨.hbm, 152, rfl⟩
abbrev main_v36 : Ref sig .tc := ⟨.hbm, 153, rfl⟩
abbrev main_v37 : Ref sig .tc := ⟨.hbm, 154, rfl⟩
abbrev main_call7_cst : Ref sig .tc := ⟨.hbm, 155, rfl⟩
abbrev main_call7_v0 : Ref sig .tc := ⟨.hbm, 156, rfl⟩
abbrev main_v38 : Ref sig .tc := ⟨.hbm, 157, rfl⟩
abbrev main_v39 : Ref sig .tc := ⟨.hbm, 158, rfl⟩
abbrev main_call8_cst : Ref sig .tc := ⟨.hbm, 159, rfl⟩
abbrev main_call8_v0 : Ref sig .tc := ⟨.hbm, 160, rfl⟩
abbrev main_v40 : Ref sig .tc := ⟨.hbm, 161, rfl⟩
abbrev main_call9_v0 : Ref sig .tc := ⟨.hbm, 162, rfl⟩
abbrev main_call9_v1 : Ref sig .tc := ⟨.hbm, 163, rfl⟩
abbrev main_v41 : Ref sig .tc := ⟨.hbm, 164, rfl⟩
abbrev main_v42 : Ref sig .tc := ⟨.hbm, 165, rfl⟩
abbrev main_v43 : Ref sig .tc := ⟨.hbm, 166, rfl⟩
abbrev main_cst_2 : Ref sig .tc := ⟨.hbm, 167, rfl⟩
abbrev main_v44 : Ref sig .tc := ⟨.hbm, 168, rfl⟩
abbrev main_v45 : Ref sig .tc := ⟨.hbm, 169, rfl⟩
abbrev main_v46 : Ref sig .tc := ⟨.hbm, 170, rfl⟩
abbrev main_v47 : Ref sig .tc := ⟨.hbm, 171, rfl⟩
abbrev main_v48 : Ref sig .tc := ⟨.hbm, 172, rfl⟩
abbrev main_v49 : Ref sig .tc := ⟨.hbm, 173, rfl⟩
abbrev main_v50 : Ref sig .tc := ⟨.hbm, 174, rfl⟩
abbrev main_v51 : Ref sig .tc := ⟨.hbm, 175, rfl⟩

abbrev nD : Nat := 1
abbrev τ : Topo := Topo.v7x

variable {F : FTy → Type} [FloatOps F]
-- ==== Kernel3.lean ====
abbrev S16384x512 : Shape := ⟨2, ![16384, 512]⟩
abbrev S1x4x128x128 : Shape := ⟨4, ![1, 4, 128, 128]⟩
abbrev S4x128x128 : Shape := ⟨3, ![4, 128, 128]⟩
abbrev S512x512 : Shape := ⟨2, ![512, 512]⟩
abbrev S16x512 : Shape := ⟨2, ![16, 512]⟩
abbrev S528x512 : Shape := ⟨2, ![528, 512]⟩
abbrev S512x1 : Shape := ⟨2, ![512, 1]⟩
abbrev S512x128 : Shape := ⟨2, ![512, 128]⟩
abbrev S528x1 : Shape := ⟨2, ![528, 1]⟩
abbrev S528x128 : Shape := ⟨2, ![528, 128]⟩
abbrev S1x128x128 : Shape := ⟨3, ![1, 128, 128]⟩
abbrev S128x128 : Shape := ⟨2, ![128, 128]⟩

abbrev nBuf : Space → Nat
  | .hbm => 6
  | .vmem => 12
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S1x4x128x128, .f32⟩
  | .hbm, ⟨3, _⟩ => ⟨S4x128x128, .f32⟩
  | .hbm, ⟨4, _⟩ => ⟨S16384x512, .f32⟩
  | .hbm, ⟨5, _⟩ => ⟨S4x128x128, .f32⟩
  | .local _ .vmem, ⟨0, _⟩ => ⟨S512x512, .f32⟩
  | .local _ .vmem, ⟨1, _⟩ => ⟨S512x512, .f32⟩
  | .local _ .vmem, ⟨2, _⟩ => ⟨S16x512, .f32⟩
  | .local _ .vmem, ⟨3, _⟩ => ⟨S16x512, .f32⟩
  | .local _ .vmem, ⟨4, _⟩ => ⟨S512x512, .f32⟩
  | .local _ .vmem, ⟨5, _⟩ => ⟨S512x512, .f32⟩
  | .local _ .vmem, ⟨6, _⟩ => ⟨S16x512, .f32⟩
  | .local _ .vmem, ⟨7, _⟩ => ⟨S16x512, .f32⟩
  | .local _ .vmem, ⟨8, _⟩ => ⟨S4x128x128, .f32⟩
  | .local _ .vmem, ⟨9, _⟩ => ⟨S512x512, .f32⟩
  | .local _ .vmem, ⟨10, _⟩ => ⟨S512x512, .f32⟩
  | .local _ .vmem, ⟨11, _⟩ => ⟨S4x128x128, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference3Ideal.lean ====
abbrev S16384x512 : Shape := ⟨2, ![16384, 512]⟩
abbrev S1x4x128x128 : Shape := ⟨4, ![1, 4, 128, 128]⟩
abbrev S4x128x128 : Shape := ⟨3, ![4, 128, 128]⟩
abbrev S_ : Shape := ⟨0, ![]⟩
abbrev S1x512 : Shape := ⟨2, ![1, 512]⟩
abbrev S16385x512 : Shape := ⟨2, ![16385, 512]⟩
abbrev S16384 : Shape := ⟨1, ![16384]⟩
abbrev S16385x128 : Shape := ⟨2, ![16385, 128]⟩
abbrev S1x128 : Shape := ⟨2, ![1, 128]⟩
abbrev S16383x128 : Shape := ⟨2, ![16383, 128]⟩
abbrev S16384x128 : Shape := ⟨2, ![16384, 128]⟩
abbrev S16384x1 : Shape := ⟨2, ![16384, 1]⟩
abbrev S3x128 : Shape := ⟨2, ![3, 128]⟩
abbrev S16381x128 : Shape := ⟨2, ![16381, 128]⟩
abbrev S7x128 : Shape := ⟨2, ![7, 128]⟩
abbrev S16377x128 : Shape := ⟨2, ![16377, 128]⟩
abbrev S15x128 : Shape := ⟨2, ![15, 128]⟩
abbrev S16369x128 : Shape := ⟨2, ![16369, 128]⟩
abbrev S16384x1x128 : Shape := ⟨3, ![16384, 1, 128]⟩
abbrev S16384x4x128 : Shape := ⟨3, ![16384, 4, 128]⟩
abbrev S4x128x16384 : Shape := ⟨3, ![4, 128, 16384]⟩
abbrev S4x16384x128 : Shape := ⟨3, ![4, 16384, 128]⟩

abbrev nBuf : Space → Nat
  | .hbm => 184
  | .vmem => 0
  | .smem => 0
  | _ => 0

abbrev hbmTy0_0 (i : Nat) : BufTy := match i % 128 with
  | 0 => ⟨S16384x512, .f32⟩
  | 1 => ⟨S16384x512, .f32⟩
  | 2 => ⟨S1x4x128x128, .f32⟩
  | 3 => ⟨S4x128x128, .f32⟩
  | 4 => ⟨S_, .f32⟩
  | 5 => ⟨S1x512, .f32⟩
  | 6 => ⟨S_, .f32⟩
  | 7 => ⟨S_, .f32⟩
  | 8 => ⟨S16384x512, .f32⟩
  | 9 => ⟨S16385x512, .f32⟩
  | 10 => ⟨S_, .f32⟩
  | 11 => ⟨S1x512, .f32⟩
  | 12 => ⟨S16384, .i32⟩
  | 13 => ⟨S_, .i32⟩
  | 14 => ⟨S16384, .i32⟩
  | 15 => ⟨S16384, .i32⟩
  | 16 => ⟨S16385x128, .f32⟩
  | 17 => ⟨S_, .f32⟩
  | 18 => ⟨S1x128, .f32⟩
  | 19 => ⟨S16383x128, .f32⟩
  | 20 => ⟨S16384x128, .f32⟩
  | 21 => ⟨S_, .f32⟩
  | 22 => ⟨S1x128, .f32⟩
  | 23 => ⟨S_, .i32⟩
  | 24 => ⟨S16384, .i32⟩
  | 25 => ⟨S16384, .i32⟩
  | 26 => ⟨S16384, .f32⟩
  | 27 => ⟨S16384x1, .f32⟩
  | 28 => ⟨S16384x128, .f32⟩
  | 29 => ⟨S16384x128, .f32⟩
  | 30 => ⟨S16384x128, .f32⟩
  | 31 => ⟨S16384x128, .f32⟩
  | 32 => ⟨S16384x128, .f32⟩
  | 33 => ⟨S16384x128, .f32⟩
  | 34 => ⟨S16385x128, .f32⟩
  | 35 => ⟨S_, .f32⟩
  | 36 => ⟨S3x128, .f32⟩
  | 37 => ⟨S16381x128, .f32⟩
  | 38 => ⟨S16384x128, .f32⟩
  | 39 => ⟨S_, .f32⟩
  | 40 => ⟨S3x128, .f32⟩
  | 41 => ⟨S_, .i32⟩
  | 42 => ⟨S16384, .i32⟩
  | 43 => ⟨S16384, .i32⟩
  | 44 => ⟨S16384, .f32⟩
  | 45 => ⟨S16384x1, .f32⟩
  | 46 => ⟨S16384x128, .f32⟩
  | 47 => ⟨S16384x128, .f32⟩
  | 48 => ⟨S16384x128, .f32⟩
  | 49 => ⟨S16384x128, .f32⟩
  | 50 => ⟨S16384x128, .f32⟩
  | 51 => ⟨S16384x128, .f32⟩
  | 52 => ⟨S16385x128, .f32⟩
  | 53 => ⟨S_, .f32⟩
  | 54 => ⟨S7x128, .f32⟩
  | 55 => ⟨S16377x128, .f32⟩
  | 56 => ⟨S16384x128, .f32⟩
  | 57 => ⟨S_, .f32⟩
  | 58 => ⟨S7x128, .f32⟩
  | 59 => ⟨S_, .i32⟩
  | 60 => ⟨S16384, .i32⟩
  | 61 => ⟨S16384, .i32⟩
  | 62 => ⟨S16384, .f32⟩
  | 63 => ⟨S16384x1, .f32⟩
  | 64 => ⟨S16384x128, .f32⟩
  | 65 => ⟨S16384x128, .f32⟩
  | 66 => ⟨S16384x128, .f32⟩
  | 67 => ⟨S16384x128, .f32⟩
  | 68 => ⟨S16384x128, .f32⟩
  | 69 => ⟨S16384x128, .f32⟩
  | 70 => ⟨S16385x128, .f32⟩
  | 71 => ⟨S_, .f32⟩
  | 72 => ⟨S15x128, .f32⟩
  | 73 => ⟨S16369x128, .f32⟩
  | 74 => ⟨S16384x128, .f32⟩
  | 75 => ⟨S_, .f32⟩
  | 76 => ⟨S15x128, .f32⟩
  | 77 => ⟨S_, .i32⟩
  | 78 => ⟨S16384, .i32⟩
  | 79 => ⟨S16384, .i32⟩
  | 80 => ⟨S16384, .f32⟩
  | 81 => ⟨S16384x1, .f32⟩
  | 82 => ⟨S16384x128, .f32⟩
  | 83 => ⟨S16384x128, .f32⟩
  | 84 => ⟨S16384x128, .f32⟩
  | 85 => ⟨S16384x128, .f32⟩
  | 86 => ⟨S16384x128, .f32⟩
  | 87 => ⟨S16384x128, .f32⟩
  | 88 => ⟨S16384x1x128, .f32⟩
  | 89 => ⟨S16384x1x128, .f32⟩
  | 90 => ⟨S16384x1x128, .f32⟩
  | 91 => ⟨S16384x1x128, .f32⟩
  | 92 => ⟨S16384x4x128, .f32⟩
  | 93 => ⟨S4x128x16384, .f32⟩
  | 94 => ⟨S16384x4x128, .f32⟩
  | 95 => ⟨S16384x512, .f32⟩
  | 96 => ⟨S16384x4x128, .f32⟩
  | 97 => ⟨S4x128x16384, .f32⟩
  | 98 => ⟨S4x16384x128, .f32⟩
  | 99 => ⟨S16384x4x128, .f32⟩
  | 100 => ⟨S4x128x128, .f32⟩
  | 101 => ⟨S4x128x128, .f32⟩
  | 102 => ⟨S16384x1x128, .f32⟩
  | 103 => ⟨S16384x128, .f32⟩
  | 104 => ⟨S16384x1x128, .f32⟩
  | 105 => ⟨S16384x128, .f32⟩
  | 106 => ⟨S16384x1x128, .f32⟩
  | 107 => ⟨S16384x128, .f32⟩
  | 108 => ⟨S16384x1x128, .f32⟩
  | 109 => ⟨S16384x128, .f32⟩
  | 110 => ⟨S16384x128, .f32⟩
  | 111 => ⟨S_, .f32⟩
  | 112 => ⟨S16384x512, .f32⟩
  | 113 => ⟨S16384x128, .f32⟩
  | 114 => ⟨S16384x128, .f32⟩
  | 115 => ⟨S16384x128, .f32⟩
  | 116 => ⟨S_, .f32⟩
  | 117 => ⟨S16385x128, .f32⟩
  | 118 => ⟨S15x128, .f32⟩
  | 119 => ⟨S16369x128, .f32⟩
  | 120 => ⟨S_, .f32⟩
  | 121 => ⟨S16385x128, .f32⟩
  | 122 => ⟨S16385x128, .f32⟩
  | 123 => ⟨S_, .f32⟩
  | 124 => ⟨S16385x512, .f32⟩
  | 125 => ⟨S16384x128, .f32⟩
  | 126 => ⟨S_, .f32⟩
  | 127 => ⟨S16384x512, .f32⟩
  | _ => ⟨S16384x512, .f32⟩

abbrev hbmTy0_1 (i : Nat) : BufTy := match i % 128 with
  | 0 => ⟨S16384x512, .f32⟩
  | 1 => ⟨S16384x128, .f32⟩
  | 2 => ⟨S16384x128, .f32⟩
  | 3 => ⟨S16384x128, .f32⟩
  | 4 => ⟨S_, .f32⟩
  | 5 => ⟨S16385x128, .f32⟩
  | 6 => ⟨S7x128, .f32⟩
  | 7 => ⟨S16377x128, .f32⟩
  | 8 => ⟨S_, .f32⟩
  | 9 => ⟨S16385x128, .f32⟩
  | 10 => ⟨S16385x128, .f32⟩
  | 11 => ⟨S_, .f32⟩
  | 12 => ⟨S16385x512, .f32⟩
  | 13 => ⟨S16385x512, .f32⟩
  | 14 => ⟨S16384x128, .f32⟩
  | 15 => ⟨S_, .f32⟩
  | 16 => ⟨S16384x512, .f32⟩
  | 17 => ⟨S16384x512, .f32⟩
  | 18 => ⟨S16384x128, .f32⟩
  | 19 => ⟨S16384x128, .f32⟩
  | 20 => ⟨S16384x128, .f32⟩
  | 21 => ⟨S_, .f32⟩
  | 22 => ⟨S16385x128, .f32⟩
  | 23 => ⟨S3x128, .f32⟩
  | 24 => ⟨S16381x128, .f32⟩
  | 25 => ⟨S_, .f32⟩
  | 26 => ⟨S16385x128, .f32⟩
  | 27 => ⟨S16385x128, .f32⟩
  | 28 => ⟨S_, .f32⟩
  | 29 => ⟨S16385x512, .f32⟩
  | 30 => ⟨S16385x512, .f32⟩
  | 31 => ⟨S16384x128, .f32⟩
  | 32 => ⟨S_, .f32⟩
  | 33 => ⟨S16384x512, .f32⟩
  | 34 => ⟨S16384x512, .f32⟩
  | 35 => ⟨S16384x128, .f32⟩
  | 36 => ⟨S16384x128, .f32⟩
  | 37 => ⟨S16384x128, .f32⟩
  | 38 => ⟨S_, .f32⟩
  | 39 => ⟨S16385x128, .f32⟩
  | 40 => ⟨S1x128, .f32⟩
  | 41 => ⟨S16383x128, .f32⟩
  | 42 => ⟨S_, .f32⟩
  | 43 => ⟨S16385x128, .f32⟩
  | 44 => ⟨S16385x128, .f32⟩
  | 45 => ⟨S_, .f32⟩
  | 46 => ⟨S16385x512, .f32⟩
  | 47 => ⟨S16385x512, .f32⟩
  | 48 => ⟨S1x512, .f32⟩
  | 49 => ⟨S16384x512, .f32⟩
  | 50 => ⟨S_, .f32⟩
  | 51 => ⟨S_, .f32⟩
  | 52 => ⟨S16384x512, .f32⟩
  | 53 => ⟨S16384x512, .f32⟩
  | 54 => ⟨S1x4x128x128, .f32⟩
  | 55 => ⟨S4x128x128, .f32⟩
  | _ => ⟨S16384x512, .f32⟩

abbrev hbmTy (i : Nat) : BufTy := match i / 128 with
  | 0 => hbmTy0_0 i
  | 1 => hbmTy0_1 i
  | _ => ⟨S16384x512, .f32⟩

abbrev bufTy : (tb : Table) → Fin (tcTables nBuf tb) → BufTy
  | .hbm, ⟨i, _⟩ => hbmTy i
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_call0_call0_cst : Ref sig .tc := ⟨.hbm, 6, rfl⟩
abbrev main_call0_call0_v0 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_c_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_c_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_8 : Ref sig .tc := ⟨.hbm, 57, rfl⟩
abbrev main_v42 : Ref sig .tc := ⟨.hbm, 58, rfl⟩
abbrev main_c_9 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_10 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_11 : Ref sig .tc := ⟨.hbm, 75, rfl⟩
abbrev main_v57 : Ref sig .tc := ⟨.hbm, 76, rfl⟩
abbrev main_c_12 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_cst_13 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_cst_14 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_cst_15 : Ref sig .tc := ⟨.hbm, 120, rfl⟩
abbrev main_v98 : Ref sig .tc := ⟨.hbm, 121, rfl⟩
abbrev main_v99 : Ref sig .tc := ⟨.hbm, 122, rfl⟩
abbrev main_cst_16 : Ref sig .tc := ⟨.hbm, 123, rfl⟩
abbrev main_v100 : Ref sig .tc := ⟨.hbm, 124, rfl⟩
abbrev main_v101 : Ref sig .tc := ⟨.hbm, 125, rfl⟩
abbrev main_cst_17 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_cst_18 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_cst_19 : Ref sig .tc := ⟨.hbm, 136, rfl⟩
abbrev main_v110 : Ref sig .tc := ⟨.hbm, 137, rfl⟩
abbrev main_v111 : Ref sig .tc := ⟨.hbm, 138, rfl⟩
abbrev main_cst_20 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_cst_21 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_cst_22 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_cst_23 : Ref sig .tc := ⟨.hbm, 153, rfl⟩
abbrev main_v123 : Ref sig .tc := ⟨.hbm, 154, rfl⟩
abbrev main_v124 : Ref sig .tc := ⟨.hbm, 155, rfl⟩
abbrev main_cst_24 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_cst_25 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_cst_26 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_cst_27 : Ref sig .tc := ⟨.hbm, 170, rfl⟩
abbrev main_v136 : Ref sig .tc := ⟨.hbm, 171, rfl⟩
abbrev main_v137 : Ref sig .tc := ⟨.hbm, 172, rfl⟩
abbrev main_cst_28 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_call1_call0_cst : Ref sig .tc := ⟨.hbm, 178, rfl⟩
abbrev main_call1_call0_v0 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩

abbrev nD : Nat := 1
abbrev τ : Topo := Topo.v7x

variable {F : FTy → Type} [FloatOps F]
-- ==== Kernel4.lean ====
abbrev S16384x1024 : Shape := ⟨2, ![16384, 1024]⟩
abbrev S1x1024 : Shape := ⟨2, ![1, 1024]⟩
abbrev S1x1024x2048 : Shape := ⟨3, ![1, 1024, 2048]⟩
abbrev S16384x2048 : Shape := ⟨2, ![16384, 2048]⟩
abbrev S1024x2048 : Shape := ⟨2, ![1024, 2048]⟩
abbrev S1024x8x256 : Shape := ⟨3, ![1024, 8, 256]⟩
abbrev S8x1024x256 : Shape := ⟨3, ![8, 1024, 256]⟩
abbrev S8x256x1024 : Shape := ⟨3, ![8, 256, 1024]⟩
abbrev S2048x1024 : Shape := ⟨2, ![2048, 1024]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 14
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024x2048, .f32⟩
  | .hbm, ⟨3, _⟩ => ⟨S16384x2048, .f32⟩
  | .hbm, ⟨4, _⟩ => ⟨S16384x1024, .f32⟩
  | .hbm, ⟨5, _⟩ => ⟨S1024x2048, .f32⟩
  | .hbm, ⟨6, _⟩ => ⟨S1024x2048, .bf16⟩
  | .hbm, ⟨7, _⟩ => ⟨S1024x8x256, .bf16⟩
  | .hbm, ⟨8, _⟩ => ⟨S8x1024x256, .bf16⟩
  | .hbm, ⟨9, _⟩ => ⟨S8x256x1024, .bf16⟩
  | .hbm, ⟨10, _⟩ => ⟨S2048x1024, .bf16⟩
  | .hbm, ⟨11, _⟩ => ⟨S16384x2048, .bf16⟩
  | .hbm, ⟨12, _⟩ => ⟨S16384x1024, .f32⟩
  | .hbm, ⟨13, _⟩ => ⟨S1x1024, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference4Ideal.lean ====
abbrev S16384x1024 : Shape := ⟨2, ![16384, 1024]⟩
abbrev S1x1024 : Shape := ⟨2, ![1, 1024]⟩
abbrev S1x1024x2048 : Shape := ⟨3, ![1, 1024, 2048]⟩
abbrev S16384x2048 : Shape := ⟨2, ![16384, 2048]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x2048 : Shape := ⟨2, ![1024, 2048]⟩

abbrev nBuf : Space → Nat
  | .hbm => 56
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024x2048, .f32⟩
  | .hbm, ⟨3, _⟩ => ⟨S16384x2048, .f32⟩
  | .hbm, ⟨4, _⟩ => ⟨S16384x1024, .f32⟩
  | .hbm, ⟨5, _⟩ => ⟨S1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S1x1024, .f32⟩
  | .hbm, ⟨24, _⟩ => ⟨S16384x1024, .f32⟩
  | .hbm, ⟨25, _⟩ => ⟨S16384x1024, .f32⟩
  | .hbm, ⟨26, _⟩ => ⟨S1024x2048, .f32⟩
  | .hbm, ⟨27, _⟩ => ⟨S16384x2048, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S1024, .f32⟩
  | .hbm, ⟨37, _⟩ => ⟨S16384x1024, .f32⟩
  | .hbm, ⟨38, _⟩ => ⟨S_, .f32⟩
  | .hbm, ⟨39, _⟩ => ⟨S16384, .f32⟩
  | .hbm, ⟨40, _⟩ => ⟨S16384x1, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S_, .f32⟩
  | .hbm, ⟨49, _⟩ => ⟨S16384, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Kernel5.lean ====
abbrev S16384x1024 : Shape := ⟨2, ![16384, 1024]⟩
abbrev S16384x512 : Shape := ⟨2, ![16384, 512]⟩
abbrev S1x512 : Shape := ⟨2, ![1, 512]⟩
abbrev S1x1024x1024 : Shape := ⟨3, ![1, 1024, 1024]⟩
abbrev S1x1024 : Shape := ⟨2, ![1, 1024]⟩
abbrev S1x1024x5632 : Shape := ⟨3, ![1, 1024, 5632]⟩
abbrev S16384x5632 : Shape := ⟨2, ![16384, 5632]⟩
abbrev S1024x5632 : Shape := ⟨2, ![1024, 5632]⟩
abbrev S1024x8x704 : Shape := ⟨3, ![1024, 8, 704]⟩
abbrev S8x704x1024 : Shape := ⟨3, ![8, 704, 1024]⟩
abbrev S16384x8x704 : Shape := ⟨3, ![16384, 8, 704]⟩
abbrev S8x16384x704 : Shape := ⟨3, ![8, 16384, 704]⟩
abbrev S1024x1024 : Shape := ⟨2, ![1024, 1024]⟩
abbrev S1024x16384 : Shape := ⟨2, ![1024, 16384]⟩
abbrev S512x512 : Shape := ⟨2, ![512, 512]⟩
abbrev S512x1024 : Shape := ⟨2, ![512, 1024]⟩
abbrev S1024x512 : Shape := ⟨2, ![1024, 512]⟩
abbrev S512 : Shape := ⟨1, ![512]⟩
abbrev S512x1 : Shape := ⟨2, ![512, 1]⟩
abbrev S4x16384x704 : Shape := ⟨3, ![4, 16384, 704]⟩
abbrev S4x512x704 : Shape := ⟨3, ![4, 512, 704]⟩
abbrev S1x512x704 : Shape := ⟨3, ![1, 512, 704]⟩
abbrev S512x704 : Shape := ⟨2, ![512, 704]⟩
abbrev S1x704x1024 : Shape := ⟨3, ![1, 704, 1024]⟩
abbrev S704x1024 : Shape := ⟨2, ![704, 1024]⟩
abbrev S1024 : Shape := ⟨1, ![1024]⟩

abbrev nBuf : Space → Nat
  | .hbm => 33
  | .vmem => 38
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S1x512, .f32⟩
  | .hbm, ⟨4, _⟩ => ⟨S1x512, .f32⟩
  | .hbm, ⟨5, _⟩ => ⟨S1x1024x1024, .f32⟩
  | .hbm, ⟨6, _⟩ => ⟨S1x1024, .f32⟩
  | .hbm, ⟨7, _⟩ => ⟨S1x1024, .f32⟩
  | .hbm, ⟨8, _⟩ => ⟨S1x1024x5632, .f32⟩
  | .hbm, ⟨9, _⟩ => ⟨S16384x1024, .f32⟩
  | .hbm, ⟨10, _⟩ => ⟨S16384x5632, .f32⟩
  | .hbm, ⟨11, _⟩ => ⟨S1024x5632, .f32⟩
  | .hbm, ⟨12, _⟩ => ⟨S1024x5632, .bf16⟩
  | .hbm, ⟨13, _⟩ => ⟨S1024x8x704, .bf16⟩
  | .hbm, ⟨14, _⟩ => ⟨S8x704x1024, .bf16⟩
  | .hbm, ⟨15, _⟩ => ⟨S16384x5632, .bf16⟩
  | .hbm, ⟨16, _⟩ => ⟨S16384x8x704, .bf16⟩
  | .hbm, ⟨17, _⟩ => ⟨S8x16384x704, .bf16⟩
  | .hbm, ⟨18, _⟩ => ⟨S1024x1024, .f32⟩
  | .hbm, ⟨19, _⟩ => ⟨S1024x1024, .bf16⟩
  | .hbm, ⟨20, _⟩ => ⟨S16384x1024, .f32⟩
  | .hbm, ⟨21, _⟩ => ⟨S16384x1024, .f32⟩
  | .hbm, ⟨22, _⟩ => ⟨S16384x1024, .bf16⟩
  | .hbm, ⟨23, _⟩ => ⟨S1024x16384, .bf16⟩
  | .hbm, ⟨24, _⟩ => ⟨S4x16384x704, .bf16⟩
  | .hbm, ⟨25, _⟩ => ⟨S4x16384x704, .bf16⟩
  | .hbm, ⟨26, _⟩ => ⟨S16384x1024, .f32⟩
  | .hbm, ⟨27, _⟩ => ⟨S16384x1024, .bf16⟩
  | .hbm, ⟨28, _⟩ => ⟨S1x1024, .f32⟩
  | .hbm, ⟨29, _⟩ => ⟨S1x1024, .f32⟩
  | .hbm, ⟨30, _⟩ => ⟨S16384x1024, .f32⟩
  | .hbm, ⟨31, _⟩ => ⟨S1024x16384, .f32⟩
  | .hbm, ⟨32, _⟩ => ⟨S16384x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S1x512, .f32⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S1024x512, .bf16⟩
  | .local _ .vmem, ⟨18, _⟩ => ⟨S1024x512, .bf16⟩
  | .local _ .vmem, ⟨19, _⟩ => ⟨S4x512x704, .bf16⟩
  | .local _ .vmem, ⟨20, _⟩ => ⟨S4x512x704, .bf16⟩
  | .local _ .vmem, ⟨21, _⟩ => ⟨S4x512x704, .bf16⟩
  | .local _ .vmem, ⟨22, _⟩ => ⟨S4x512x704, .bf16⟩
  | .local _ .vmem, ⟨23, _⟩ => ⟨S8x704x1024, .bf16⟩
  | .local _ .vmem, ⟨24, _⟩ => ⟨S512x1024, .f32⟩
  | .local _ .vmem, ⟨25, _⟩ => ⟨S512x1024, .f32⟩
  | .local _ .vmem, ⟨26, _⟩ => ⟨S512x1024, .f32⟩
  | .local _ .vmem, ⟨27, _⟩ => ⟨S512x1024, .f32⟩
  | .local _ .vmem, ⟨28, _⟩ => ⟨S512x1024, .f32⟩
  | .local _ .vmem, ⟨29, _⟩ => ⟨S512x1024, .f32⟩
  | .local _ .vmem, ⟨30, _⟩ => ⟨S1x1024, .f32⟩
  | .local _ .vmem, ⟨31, _⟩ => ⟨S1x1024, .f32⟩
  | .local _ .vmem, ⟨32, _⟩ => ⟨S512x1024, .f32⟩
  | .local _ .vmem, ⟨33, _⟩ => ⟨S512x1024, .f32⟩
  | .local _ .vmem, ⟨34, _⟩ => ⟨S512x1024, .bf16⟩
  | .local _ .vmem, ⟨35, _⟩ => ⟨S512x1024, .bf16⟩
  | .local _ .vmem, ⟨36, _⟩ => ⟨S1x1024, .f32⟩
  | .local _ .vmem, ⟨37, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev main_v9_2 : Ref sig .tc := ⟨.hbm, 22, rfl⟩
abbrev main_v9_3 : Ref sig .tc := ⟨.hbm, 23, rfl⟩
abbrev main_v10 : Ref sig .tc := ⟨.hbm, 24, rfl⟩
abbrev main_v11 : Ref sig .tc := ⟨.hbm, 25, rfl⟩
abbrev main_v12_0 : Ref sig .tc := ⟨.hbm, 26, rfl⟩
abbrev main_v12_1 : Ref sig .tc := ⟨.hbm, 27, rfl⟩
abbrev main_v12_2 : Ref sig .tc := ⟨.hbm, 28, rfl⟩
abbrev main_v12_3 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc1_stg5_0 : Ref sig .tc := ⟨.vmem, 28, rfl⟩
abbrev cc1_stg5_1 : Ref sig .tc := ⟨.vmem, 29, rfl⟩
abbrev cc1_stg6_0 : Ref sig .tc := ⟨.vmem, 30, rfl⟩
abbrev cc1_stg7_0 : Ref sig .tc := ⟨.vmem, 31, rfl⟩
abbrev cc1_stg8_0 : Ref sig .tc := ⟨.vmem, 32, rfl⟩
abbrev cc1_stg8_1 : Ref sig .tc := ⟨.vmem, 33, rfl⟩
abbrev cc1_stg9_0 : Ref sig .tc := ⟨.vmem, 34, rfl⟩
abbrev cc1_stg9_1 : Ref sig .tc := ⟨.vmem, 35, rfl⟩
abbrev cc1_stg10_0 : Ref sig .tc := ⟨.vmem, 36, rfl⟩
abbrev cc1_stg11_0 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc1_sem0_0 : DmaSem sig := 19
abbrev cc1_sem0_1 : DmaSem sig := 20
abbrev cc1_sem1_0 : DmaSem sig := 21
abbrev cc1_sem1_1 : DmaSem sig := 22
abbrev cc1_sem2_0 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem5_1 : DmaSem sig := 29
abbrev cc1_sem6_0 : DmaSem sig := 30
abbrev cc1_sem7_0 : DmaSem sig := 31
abbrev cc1_sem8_0 : DmaSem sig := 32
abbrev cc1_sem8_1 : DmaSem sig := 33
abbrev cc1_sem9_0 : DmaSem sig := 34
abbrev cc1_sem9_1 : DmaSem sig := 35
abbrev cc1_sem10_0 : DmaSem sig := 36
abbrev cc1_sem11_0 : DmaSem sig := 37

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S4x512x704 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4x512x704 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S8x704x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S512x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S512x1024 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 1 → Memref sig .tc .vmem S1x1024 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x1024 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]
-- ==== Reference5Ideal.lean ====
abbrev S16384x1024 : Shape := ⟨2, ![16384, 1024]⟩
abbrev S16384x512 : Shape := ⟨2, ![16384, 512]⟩
abbrev S1x512 : Shape := ⟨2, ![1, 512]⟩
abbrev S1x1024x1024 : Shape := ⟨3, ![1, 1024, 1024]⟩
abbrev S1x1024 : Shape := ⟨2, ![1, 1024]⟩
abbrev S1x1024x5632 : Shape := ⟨3, ![1, 1024, 5632]⟩
abbrev S16384x5632 : Shape := ⟨2, ![16384, 5632]⟩
abbrev S_ : Shape := ⟨0, ![]⟩
abbrev S16384 : Shape := ⟨1, ![16384]⟩
abbrev S16384x1 : Shape := ⟨2, ![16384, 1]⟩
abbrev S512 : Shape := ⟨1, ![512]⟩
abbrev S1024x1024 : Shape := ⟨2, ![1024, 1024]⟩
abbrev S1024 : Shape := ⟨1, ![1024]⟩
abbrev S1024x5632 : Shape := ⟨2, ![1024, 5632]⟩
abbrev S1024x16384 : Shape := ⟨2, ![1024, 16384]⟩

abbrev nBuf : Space → Nat
  | .hbm => 149
  | .vmem => 0
  | .smem => 0
  | _ => 0

abbrev hbmTy0_0 (i : Nat) : BufTy := match i % 128 with
  | 0 => ⟨S16384x1024, .f32⟩
  | 1 => ⟨S16384x512, .f32⟩
  | 2 => ⟨S16384x512, .f32⟩
  | 3 => ⟨S1x512, .f32⟩
  | 4 => ⟨S1x512, .f32⟩
  | 5 => ⟨S1x1024x1024, .f32⟩
  | 6 => ⟨S1x1024, .f32⟩
  | 7 => ⟨S1x1024, .f32⟩
  | 8 => ⟨S1x1024x5632, .f32⟩
  | 9 => ⟨S16384x1024, .f32⟩
  | 10 => ⟨S16384x5632, .f32⟩
  | 11 => ⟨S16384x512, .f32⟩
  | 12 => ⟨S_, .f32⟩
  | 13 => ⟨S16384, .f32⟩
  | 14 => ⟨S16384x1, .f32⟩
  | 15 => ⟨S_, .f32⟩
  | 16 => ⟨S16384x1, .f32⟩
  | 17 => ⟨S16384x1, .f32⟩
  | 18 => ⟨S_, .f32⟩
  | 19 => ⟨S16384x1, .f32⟩
  | 20 => ⟨S16384x1, .f32⟩
  | 21 => ⟨S16384x1, .f32⟩
  | 22 => ⟨S16384x512, .f32⟩
  | 23 => ⟨S16384x512, .f32⟩
  | 24 => ⟨S512, .f32⟩
  | 25 => ⟨S1x512, .f32⟩
  | 26 => ⟨S16384x512, .f32⟩
  | 27 => ⟨S16384x512, .f32⟩
  | 28 => ⟨S16384x512, .f32⟩
  | 29 => ⟨S_, .f32⟩
  | 30 => ⟨S16384, .f32⟩
  | 31 => ⟨S16384x1, .f32⟩
  | 32 => ⟨S_, .f32⟩
  | 33 => ⟨S16384x1, .f32⟩
  | 34 => ⟨S16384x1, .f32⟩
  | 35 => ⟨S_, .f32⟩
  | 36 => ⟨S16384x1, .f32⟩
  | 37 => ⟨S16384x1, .f32⟩
  | 38 => ⟨S16384x1, .f32⟩
  | 39 => ⟨S16384x512, .f32⟩
  | 40 => ⟨S16384x512, .f32⟩
  | 41 => ⟨S512, .f32⟩
  | 42 => ⟨S1x512, .f32⟩
  | 43 => ⟨S16384x512, .f32⟩
  | 44 => ⟨S16384x512, .f32⟩
  | 45 => ⟨S16384x1024, .f32⟩
  | 46 => ⟨S1024x1024, .f32⟩
  | 47 => ⟨S16384x1024, .f32⟩
  | 48 => ⟨S1024, .f32⟩
  | 49 => ⟨S16384x1024, .f32⟩
  | 50 => ⟨S_, .f32⟩
  | 51 => ⟨S16384, .f32⟩
  | 52 => ⟨S16384x1, .f32⟩
  | 53 => ⟨S_, .f32⟩
  | 54 => ⟨S16384x1, .f32⟩
  | 55 => ⟨S16384x1, .f32⟩
  | 56 => ⟨S_, .f32⟩
  | 57 => ⟨S16384x1, .f32⟩
  | 58 => ⟨S16384x1, .f32⟩
  | 59 => ⟨S16384x1, .f32⟩
  | 60 => ⟨S16384x1, .f32⟩
  | 61 => ⟨S_, .f32⟩
  | 62 => ⟨S16384x1, .f32⟩
  | 63 => ⟨S16384x1, .f32⟩
  | 64 => ⟨S16384x1024, .f32⟩
  | 65 => ⟨S16384x1024, .f32⟩
  | 66 => ⟨S1x1024, .f32⟩
  | 67 => ⟨S16384x1024, .f32⟩
  | 68 => ⟨S16384x1024, .f32⟩
  | 69 => ⟨S16384x1024, .f32⟩
  | 70 => ⟨S1024, .f32⟩
  | 71 => ⟨S16384x1024, .f32⟩
  | 72 => ⟨S_, .f32⟩
  | 73 => ⟨S16384, .f32⟩
  | 74 => ⟨S16384x1, .f32⟩
  | 75 => ⟨S_, .f32⟩
  | 76 => ⟨S16384x1, .f32⟩
  | 77 => ⟨S16384x1, .f32⟩
  | 78 => ⟨S_, .f32⟩
  | 79 => ⟨S16384x1, .f32⟩
  | 80 => ⟨S16384x1, .f32⟩
  | 81 => ⟨S16384x1, .f32⟩
  | 82 => ⟨S16384x1, .f32⟩
  | 83 => ⟨S_, .f32⟩
  | 84 => ⟨S16384x1, .f32⟩
  | 85 => ⟨S16384x1, .f32⟩
  | 86 => ⟨S16384x1024, .f32⟩
  | 87 => ⟨S16384x1024, .f32⟩
  | 88 => ⟨S1x1024, .f32⟩
  | 89 => ⟨S16384x1024, .f32⟩
  | 90 => ⟨S16384x1024, .f32⟩
  | 91 => ⟨S1024x5632, .f32⟩
  | 92 => ⟨S16384x5632, .f32⟩
  | 93 => ⟨S16384x1024, .f32⟩
  | 94 => ⟨S16384x1024, .f32⟩
  | 95 => ⟨S_, .f32⟩
  | 96 => ⟨S1024, .f32⟩
  | 97 => ⟨S1x1024, .f32⟩
  | 98 => ⟨S16384x1024, .f32⟩
  | 99 => ⟨S16384x1024, .f32⟩
  | 100 => ⟨S_, .f32⟩
  | 101 => ⟨S1024, .f32⟩
  | 102 => ⟨S16384x1024, .f32⟩
  | 103 => ⟨S_, .f32⟩
  | 104 => ⟨S16384, .f32⟩
  | 105 => ⟨S16384x1, .f32⟩
  | 106 => ⟨S16384x1024, .f32⟩
  | 107 => ⟨S16384x1024, .f32⟩
  | 108 => ⟨S16384x1024, .f32⟩
  | 109 => ⟨S16384x1, .f32⟩
  | 110 => ⟨S_, .f32⟩
  | 111 => ⟨S16384x1, .f32⟩
  | 112 => ⟨S16384x1, .f32⟩
  | 113 => ⟨S_, .f32⟩
  | 114 => ⟨S16384, .f32⟩
  | 115 => ⟨S16384x1024, .f32⟩
  | 116 => ⟨S16384x1024, .f32⟩
  | 117 => ⟨S16384x1024, .f32⟩
  | 118 => ⟨S16384x1024, .f32⟩
  | 119 => ⟨S16384x1024, .f32⟩
  | 120 => ⟨S1x1024, .f32⟩
  | 121 => ⟨S16384x1024, .f32⟩
  | 122 => ⟨S16384x1024, .f32⟩
  | 123 => ⟨S_, .f32⟩
  | 124 => ⟨S1024, .f32⟩
  | 125 => ⟨S1x1024, .f32⟩
  | 126 => ⟨S16384x1024, .f32⟩
  | 127 => ⟨S16384x1024, .f32⟩
  | _ => ⟨S16384x1024, .f32⟩

abbrev hbmTy0_1 (i : Nat) : BufTy := match i % 128 with
  | 0 => ⟨S_, .f32⟩
  | 1 => ⟨S1024, .f32⟩
  | 2 => ⟨S16384x1024, .f32⟩
  | 3 => ⟨S_, .f32⟩
  | 4 => ⟨S16384, .f32⟩
  | 5 => ⟨S16384x1, .f32⟩
  | 6 => ⟨S16384x1024, .f32⟩
  | 7 => ⟨S16384x1024, .f32⟩
  | 8 => ⟨S16384x1, .f32⟩
  | 9 => ⟨S_, .f32⟩
  | 10 => ⟨S16384x1, .f32⟩
  | 11 => ⟨S16384x1, .f32⟩
  | 12 => ⟨S_, .f32⟩
  | 13 => ⟨S16384, .f32⟩
  | 14 => ⟨S16384x1024, .f32⟩
  | 15 => ⟨S16384x1024, .f32⟩
  | 16 => ⟨S16384x1024, .f32⟩
  | 17 => ⟨S16384x1024, .f32⟩
  | 18 => ⟨S16384x1024, .f32⟩
  | 19 => ⟨S1x1024, .f32⟩
  | 20 => ⟨S1024x16384, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_5 : Ref sig .tc := ⟨.hbm, 50, rfl⟩
abbrev main_v33 : Ref sig .tc := ⟨.hbm, 51, rfl⟩
abbrev main_v34 : Ref sig .tc := ⟨.hbm, 52, rfl⟩
abbrev main_cst_6 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_13 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_14 : Ref sig .tc := ⟨.hbm, 100, rfl⟩
abbrev main_v74 : Ref sig .tc := ⟨.hbm, 101, rfl⟩
abbrev main_v75 : Ref sig .tc := ⟨.hbm, 102, rfl⟩
abbrev main_cst_15 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_16 : Ref sig .tc := ⟨.hbm, 110, rfl⟩
abbrev main_v82 : Ref sig .tc := ⟨.hbm, 111, rfl⟩
abbrev main_v83 : Ref sig .tc := ⟨.hbm, 112, rfl⟩
abbrev main_cst_17 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_cst_18 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_cst_19 : Ref sig .tc := ⟨.hbm, 128, rfl⟩
abbrev main_v97 : Ref sig .tc := ⟨.hbm, 129, rfl⟩
abbrev main_v98 : Ref sig .tc := ⟨.hbm, 130, rfl⟩
abbrev main_cst_20 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_cst_21 : Ref sig .tc := ⟨.hbm, 137, rfl⟩
abbrev main_v104 : Ref sig .tc := ⟨.hbm, 138, rfl⟩
abbrev main_v105 : Ref sig .tc := ⟨.hbm, 139, rfl⟩
abbrev main_cst_22 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩

abbrev nD : Nat := 1
abbrev τ : Topo := Topo.v7x

variable {F : FTy → Type} [FloatOps F]
-- ==== Kernel6.lean ====
abbrev S16384x1024 : Shape := ⟨2, ![16384, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1024x5632 : Shape := ⟨2, ![1024, 5632]⟩
abbrev S16384x5632 : Shape := ⟨2, ![16384, 5632]⟩
abbrev S3x5632 : Shape := ⟨2, ![3, 5632]⟩
abbrev S5632 : Shape := ⟨1, ![5632]⟩
abbrev S_ : Shape := ⟨0, ![]⟩
abbrev S2x5632 : Shape := ⟨2, ![2, 5632]⟩
abbrev S16386x5632 : Shape := ⟨2, ![16386, 5632]⟩
abbrev S16384x8x704 : Shape := ⟨3, ![16384, 8, 704]⟩
abbrev S8x16384x704 : Shape := ⟨3, ![8, 16384, 704]⟩
abbrev S3x8x704 : Shape := ⟨3, ![3, 8, 704]⟩
abbrev S8x3x704 : Shape := ⟨3, ![8, 3, 704]⟩
abbrev S2816x1024 : Shape := ⟨2, ![2816, 1024]⟩
abbrev S4x704x1024 : Shape := ⟨3, ![4, 704, 1024]⟩
abbrev S1024x16384 : Shape := ⟨2, ![1024, 16384]⟩
abbrev S4x16384x704 : Shape := ⟨3, ![4, 16384, 704]⟩
abbrev S4x1024x704 : Shape := ⟨3, ![4, 1024, 704]⟩
abbrev S4x1x704 : Shape := ⟨3, ![4, 1, 704]⟩
abbrev S4x3x704 : Shape := ⟨3, ![4, 3, 704]⟩
abbrev S1x1024x704 : Shape := ⟨3, ![1, 1024, 704]⟩
abbrev S1x3x704 : Shape := ⟨3, ![1, 3, 704]⟩
abbrev S1x704x1024 : Shape := ⟨3, ![1, 704, 1024]⟩
abbrev S1024x1024 : Shape := ⟨2, ![1024, 1024]⟩
abbrev S1x1x704 : Shape := ⟨3, ![1, 1, 704]⟩
abbrev S2x16x704 : Shape := ⟨3, ![2, 16, 704]⟩
abbrev S704x1024 : Shape := ⟨2, ![704, 1024]⟩
abbrev S1024x704 : Shape := ⟨2, ![1024, 704]⟩
abbrev S1x16x704 : Shape := ⟨3, ![1, 16, 704]⟩
abbrev S16x704 : Shape := ⟨2, ![16, 704]⟩
abbrev S1040x704 : Shape := ⟨2, ![1040, 704]⟩
abbrev S1x704 : Shape := ⟨2, ![1, 704]⟩
abbrev S704 : Shape := ⟨1, ![704]⟩
abbrev S8x1024x704 : Shape := ⟨3, ![8, 1024, 704]⟩
abbrev S8x1x704 : Shape := ⟨3, ![8, 1, 704]⟩

abbrev nBuf : Space → Nat
  | .hbm => 65
  | .vmem => 29
  | .smem => 0
  | _ => 0

abbrev bufTy : (tb : Table) → Fin (tcTables nBuf tb) → BufTy
  | .hbm, ⟨0, _⟩ => ⟨S16384x1024, .f32⟩
  | .hbm, ⟨1, _⟩ => ⟨S1x1024x5632, .f32⟩
  | .hbm, ⟨2, _⟩ => ⟨S1x3x5632, .f32⟩
  | .hbm, ⟨3, _⟩ => ⟨S1x5632, .f32⟩
  | .hbm, ⟨4, _⟩ => ⟨S1x2816x1024, .f32⟩
  | .hbm, ⟨5, _⟩ => ⟨S16384x1024, .f32⟩
  | .hbm, ⟨6, _⟩ => ⟨S1024x5632, .f32⟩
  | .hbm, ⟨7, _⟩ => ⟨S16384x5632, .f32⟩
  | .hbm, ⟨8, _⟩ => ⟨S3x5632, .f32⟩
  | .hbm, ⟨9, _⟩ => ⟨S5632, .f32⟩
  | .hbm, ⟨10, _⟩ => ⟨S_, .f32⟩
  | .hbm, ⟨11, _⟩ => ⟨S2x5632, .f32⟩
  | .hbm, ⟨12, _⟩ => ⟨S16386x5632, .f32⟩
  | .hbm, ⟨13, _⟩ => ⟨S1x5632, .f32⟩
  | .hbm, ⟨14, _⟩ => ⟨S5632, .f32⟩
  | .hbm, ⟨15, _⟩ => ⟨S16384x5632, .f32⟩
  | .hbm, ⟨16, _⟩ => ⟨S1x5632, .f32⟩
  | .hbm, ⟨17, _⟩ => ⟨S16384x5632, .f32⟩
  | .hbm, ⟨18, _⟩ => ⟨S16384x5632, .f32⟩
  | .hbm, ⟨19, _⟩ => ⟨S1x5632, .f32⟩
  | .hbm, ⟨20, _⟩ => ⟨S16384x5632, .f32⟩
  | .hbm, ⟨21, _⟩ => ⟨S16384x5632, .f32⟩
  | .hbm, ⟨22, _⟩ => ⟨S1x5632, .f32⟩
  | .hbm, ⟨23, _⟩ => ⟨S5632, .f32⟩
  | .hbm, ⟨24, _⟩ => ⟨S16384x5632, .f32⟩
  | .hbm, ⟨25, _⟩ => ⟨S1x5632, .f32⟩
  | .hbm, ⟨26, _⟩ => ⟨S16384x5632, .f32⟩
  | .hbm, ⟨27, _⟩ => ⟨S16384x5632, .f32⟩
  | .hbm, ⟨28, _⟩ => ⟨S16384x5632, .f32⟩
  | .hbm, ⟨29, _⟩ => ⟨S1x5632, .f32⟩
  | .hbm, ⟨30, _⟩ => ⟨S5632, .f32⟩
  | .hbm, ⟨31, _⟩ => ⟨S16384x5632, .f32⟩
  | .hbm, ⟨32, _⟩ => ⟨S1x5632, .f32⟩
  | .hbm, ⟨33, _⟩ => ⟨S16384x5632, .f32⟩
  | .hbm, ⟨34, _⟩ => ⟨S16384x5632, .f32⟩
  | .hbm, ⟨35, _⟩ => ⟨S16384x5632, .f32⟩
  | .hbm, ⟨36, _⟩ => ⟨S16384x5632, .bf16⟩
  | .hbm, ⟨37, _⟩ => ⟨S16384x8x704, .bf16⟩
  | .hbm, ⟨38, _⟩ => ⟨S8x16384x704, .bf16⟩
  | .hbm, ⟨39, _⟩ => ⟨S16384x5632, .bf16⟩
  | .hbm, ⟨40, _⟩ => ⟨S16384x8x704, .bf16⟩
  | .hbm, ⟨41, _⟩ => ⟨S8x16384x704, .bf16⟩
  | .hbm, ⟨42, _⟩ => ⟨S3x5632, .f32⟩
  | .hbm, ⟨43, _⟩ => ⟨S3x8x704, .f32⟩
  | .hbm, ⟨44, _⟩ => ⟨S8x3x704, .f32⟩
  | .hbm, ⟨45, _⟩ => ⟨S2816x1024, .f32⟩
  | .hbm, ⟨46, _⟩ => ⟨S2816x1024, .bf16⟩
  | .hbm, ⟨47, _⟩ => ⟨S4x704x1024, .bf16⟩
  | .hbm, ⟨48, _⟩ => ⟨S16384x1024, .bf16⟩
  | .hbm, ⟨49, _⟩ => ⟨S16384x1024, .bf16⟩
  | .hbm, ⟨50, _⟩ => ⟨S1024x16384, .bf16⟩
  | .hbm, ⟨51, _⟩ => ⟨S4x704x1024, .f32⟩
  | .hbm, ⟨52, _⟩ => ⟨S4x16384x704, .bf16⟩
  | .hbm, ⟨53, _⟩ => ⟨S4x16384x704, .bf16⟩
  | .hbm, ⟨54, _⟩ => ⟨S4x1024x704, .f32⟩
  | .hbm, ⟨55, _⟩ => ⟨S4x1024x704, .f32⟩
  | .hbm, ⟨56, _⟩ => ⟨S4x1x704, .f32⟩
  | .hbm, ⟨57, _⟩ => ⟨S4x1x704, .f32⟩
  | .hbm, ⟨58, _⟩ => ⟨S4x3x704, .f32⟩
  | .hbm, ⟨59, _⟩ => ⟨S4x3x704, .f32⟩
  | .hbm, ⟨60, _⟩ => ⟨S8x1024x704, .f32⟩
  | .hbm, ⟨61, _⟩ => ⟨S8x1x704, .f32⟩
  | .hbm, ⟨62, _⟩ => ⟨S8x3x704, .f32⟩
  | .hbm, ⟨63, _⟩ => ⟨S4x16384x704, .f32⟩
  | .hbm, ⟨64, _⟩ => ⟨S4x16384x704, .f32⟩
  | .local _ .vmem, ⟨0, _⟩ => ⟨S1x1024x704, .bf16⟩
  | .local _ .vmem, ⟨1, _⟩ => ⟨S1x1024x704, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x3x704, .f32⟩
  | .local _ .vmem, ⟨9, _⟩ => ⟨S1x3x704, .f32⟩
  | .local _ .vmem, ⟨10, _⟩ => ⟨S1x3x704, .f32⟩
  | .local _ .vmem, ⟨11, _⟩ => ⟨S1x3x704, .f32⟩
  | .local _ .vmem, ⟨12, _⟩ => ⟨S1x704x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1x704x1024, .f32⟩
  | .local _ .vmem, ⟨18, _⟩ => ⟨S1x1024x704, .bf16⟩
  | .local _ .vmem, ⟨19, _⟩ => ⟨S1x1024x704, .bf16⟩
  | .local _ .vmem, ⟨20, _⟩ => ⟨S1x1024x704, .bf16⟩
  | .local _ .vmem, ⟨21, _⟩ => ⟨S1x1024x704, .bf16⟩
  | .local _ .vmem, ⟨22, _⟩ => ⟨S1x1024x704, .f32⟩
  | .local _ .vmem, ⟨23, _⟩ => ⟨S1x1024x704, .f32⟩
  | .local _ .vmem, ⟨24, _⟩ => ⟨S1x1x704, .f32⟩
  | .local _ .vmem, ⟨25, _⟩ => ⟨S1x1x704, .f32⟩
  | .local _ .vmem, ⟨26, _⟩ => ⟨S1x3x704, .f32⟩
  | .local _ .vmem, ⟨27, _⟩ => ⟨S1x3x704, .f32⟩
  | .local _ .vmem, ⟨28, _⟩ => ⟨S2x16x704, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44_0 : Ref sig .tc := ⟨.hbm, 51, rfl⟩
abbrev main_v44_1 : Ref sig .tc := ⟨.hbm, 52, rfl⟩
abbrev main_v44_2 : Ref sig .tc := ⟨.hbm, 53, rfl⟩
abbrev main_v44_3 : Ref sig .tc := ⟨.hbm, 54, rfl⟩
abbrev main_v44_4 : Ref sig .tc := ⟨.hbm, 55, rfl⟩
abbrev main_v44_5 : Ref sig .tc := ⟨.hbm, 56, rfl⟩
abbrev main_v44_6 : Ref sig .tc := ⟨.hbm, 57, rfl⟩
abbrev main_v44_7 : Ref sig .tc := ⟨.hbm, 58, rfl⟩
abbrev main_v44_8 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem17_0 : DmaSem sig := 27

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c15_i32 : BitVec 32 := 15#32
  let v1 : BitVec 32 := Scalar.subi c15_i32 arg1
  let c0_i32_0 : BitVec 32 := 0#32
  let c0_i32_1 : BitVec 32 := 0#32
  ![v0.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c15_i32 : BitVec 32 := 15#32
  let v1 : BitVec 32 := Scalar.subi c15_i32 arg1
  let c0_i32 : BitVec 32 := 0#32
  let c0_i32_0 : BitVec 32 := 0#32
  ![v0.toNat, v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c15_i32 : BitVec 32 := 15#32
  let v1 : BitVec 32 := Scalar.subi c15_i32 arg1
  let c0_i32_0 : BitVec 32 := 0#32
  let c0_i32_1 : BitVec 32 := 0#32
  ![v0.toNat, v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c15_i32 : BitVec 32 := 15#32
  let v1 : BitVec 32 := Scalar.subi c15_i32 arg1
  let c0_i32 : BitVec 32 := 0#32
  let c0_i32_0 : BitVec 32 := 0#32
  ![v0.toNat, v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![v0.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  ![v0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![c0_i32.toNat, v0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c15_i32 : BitVec 32 := 15#32
  let v1 : BitVec 32 := Scalar.subi c15_i32 arg1
  let c0_i32_0 : BitVec 32 := 0#32
  let c0_i32_1 : BitVec 32 := 0#32
  ![v0.toNat, v1.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c15_i32 : BitVec 32 := 15#32
  let v1 : BitVec 32 := Scalar.subi c15_i32 arg1
  let c0_i32_0 : BitVec 32 := 0#32
  let c0_i32_1 : BitVec 32 := 0#32
  ![v0.toNat, v1.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x3x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x3x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x704x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 1 → Memref sig .tc .vmem S1x704x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]

abbrev stage0_10 : Fin 2 → Memref sig .tc .vmem S1x1024x704 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x704 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S1x1024x704 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, false]

abbrev stage0_13 : Fin 1 → Memref sig .tc .vmem S1x1024x704 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true, false]

abbrev stage0_14 : Fin 1 → Memref sig .tc .vmem S1x1x704 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true, false]

abbrev stage0_15 : Fin 1 → Memref sig .tc .vmem S1x1x704 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true, false]

abbrev stage0_16 : Fin 1 → Memref sig .tc .vmem S1x3x704 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true, false]

abbrev stage0_17 : Fin 1 → Memref sig .tc .vmem S1x3x704 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true, false]
-- ==== Reference6Ideal.lean ====
abbrev S16384x1024 : Shape := ⟨2, ![16384, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1024x5632 : Shape := ⟨2, ![1024, 5632]⟩
abbrev S16384x5632 : Shape := ⟨2, ![16384, 5632]⟩
abbrev S3x5632 : Shape := ⟨2, ![3, 5632]⟩
abbrev S5632 : Shape := ⟨1, ![5632]⟩
abbrev S_ : Shape := ⟨0, ![]⟩
abbrev S2x5632 : Shape := ⟨2, ![2, 5632]⟩
abbrev S16386x5632 : Shape := ⟨2, ![16386, 5632]⟩
abbrev S16384x2816 : Shape := ⟨2, ![16384, 2816]⟩
abbrev S2816x1024 : Shape := ⟨2, ![2816, 1024]⟩
abbrev S1024x2816 : Shape := ⟨2, ![1024, 2816]⟩
abbrev S5632x1024 : Shape := ⟨2, ![5632, 1024]⟩
abbrev S16384x8x704 : Shape := ⟨3, ![16384, 8, 704]⟩
abbrev S8x16384x704 : Shape := ⟨3, ![8, 16384, 704]⟩
abbrev S4x16384x704 : Shape := ⟨3, ![4, 16384, 704]⟩
abbrev S4x704x1024 : Shape := ⟨3, ![4, 704, 1024]⟩
abbrev S1024x8x704 : Shape := ⟨3, ![1024, 8, 704]⟩
abbrev S8x1024x704 : Shape := ⟨3, ![8, 1024, 704]⟩
abbrev S8x1x704 : Shape := ⟨3, ![8, 1, 704]⟩
abbrev S3x8x704 : Shape := ⟨3, ![3, 8, 704]⟩
abbrev S8x3x704 : Shape := ⟨3, ![8, 3, 704]⟩

abbrev nBuf : Space → Nat
  | .hbm => 139
  | .vmem => 0
  | .smem => 0
  | _ => 0

abbrev hbmTy0_0 (i : Nat) : BufTy := match i % 128 with
  | 0 => ⟨S16384x1024, .f32⟩
  | 1 => ⟨S1x1024x5632, .f32⟩
  | 2 => ⟨S1x3x5632, .f32⟩
  | 3 => ⟨S1x5632, .f32⟩
  | 4 => ⟨S1x2816x1024, .f32⟩
  | 5 => ⟨S16384x1024, .f32⟩
  | 6 => ⟨S1024x5632, .f32⟩
  | 7 => ⟨S16384x5632, .f32⟩
  | 8 => ⟨S3x5632, .f32⟩
  | 9 => ⟨S5632, .f32⟩
  | 10 => ⟨S_, .f32⟩
  | 11 => ⟨S2x5632, .f32⟩
  | 12 => ⟨S16386x5632, .f32⟩
  | 13 => ⟨S_, .f32⟩
  | 14 => ⟨S2x5632, .f32⟩
  | 15 => ⟨S1x5632, .f32⟩
  | 16 => ⟨S5632, .f32⟩
  | 17 => ⟨S16384x5632, .f32⟩
  | 18 => ⟨S1x5632, .f32⟩
  | 19 => ⟨S16384x5632, .f32⟩
  | 20 => ⟨S16384x5632, .f32⟩
  | 21 => ⟨S1x5632, .f32⟩
  | 22 => ⟨S16384x5632, .f32⟩
  | 23 => ⟨S16384x5632, .f32⟩
  | 24 => ⟨S1x5632, .f32⟩
  | 25 => ⟨S5632, .f32⟩
  | 26 => ⟨S16384x5632, .f32⟩
  | 27 => ⟨S1x5632, .f32⟩
  | 28 => ⟨S16384x5632, .f32⟩
  | 29 => ⟨S16384x5632, .f32⟩
  | 30 => ⟨S16384x5632, .f32⟩
  | 31 => ⟨S1x5632, .f32⟩
  | 32 => ⟨S5632, .f32⟩
  | 33 => ⟨S16384x5632, .f32⟩
  | 34 => ⟨S1x5632, .f32⟩
  | 35 => ⟨S16384x5632, .f32⟩
  | 36 => ⟨S16384x5632, .f32⟩
  | 37 => ⟨S16384x5632, .f32⟩
  | 38 => ⟨S16384x2816, .f32⟩
  | 39 => ⟨S16384x2816, .f32⟩
  | 40 => ⟨S16384x2816, .f32⟩
  | 41 => ⟨S16384x2816, .f32⟩
  | 42 => ⟨S_, .f32⟩
  | 43 => ⟨S16384x2816, .f32⟩
  | 44 => ⟨S16384x2816, .f32⟩
  | 45 => ⟨S_, .f32⟩
  | 46 => ⟨S16384x2816, .f32⟩
  | 47 => ⟨S16384x2816, .f32⟩
  | 48 => ⟨S_, .f32⟩
  | 49 => ⟨S16384x2816, .f32⟩
  | 50 => ⟨S16384x2816, .f32⟩
  | 51 => ⟨S16384x2816, .f32⟩
  | 52 => ⟨S16384x2816, .f32⟩
  | 53 => ⟨S16384x2816, .f32⟩
  | 54 => ⟨S2816x1024, .f32⟩
  | 55 => ⟨S16384x1024, .f32⟩
  | 56 => ⟨S1024x2816, .f32⟩
  | 57 => ⟨S2816x1024, .f32⟩
  | 58 => ⟨S16384x2816, .f32⟩
  | 59 => ⟨S1x2816x1024, .f32⟩
  | 60 => ⟨S16384x2816, .f32⟩
  | 61 => ⟨S16384x2816, .f32⟩
  | 62 => ⟨S16384x2816, .f32⟩
  | 63 => ⟨S16384x2816, .f32⟩
  | 64 => ⟨S16384x2816, .f32⟩
  | 65 => ⟨S16384x2816, .f32⟩
  | 66 => ⟨S_, .f32⟩
  | 67 => ⟨S16384x5632, .f32⟩
  | 68 => ⟨S_, .f32⟩
  | 69 => ⟨S16384x5632, .f32⟩
  | 70 => ⟨S16384x5632, .f32⟩
  | 71 => ⟨S16384x5632, .f32⟩
  | 72 => ⟨S16384x5632, .f32⟩
  | 73 => ⟨S16384x5632, .f32⟩
  | 74 => ⟨S_, .f32⟩
  | 75 => ⟨S5632, .f32⟩
  | 76 => ⟨S1x5632, .f32⟩
  | 77 => ⟨S_, .f32⟩
  | 78 => ⟨S5632, .f32⟩
  | 79 => ⟨S_, .f32⟩
  | 80 => ⟨S16386x5632, .f32⟩
  | 81 => ⟨S1x5632, .f32⟩
  | 82 => ⟨S_, .f32⟩
  | 83 => ⟨S3x5632, .f32⟩
  | 84 => ⟨S16384x5632, .f32⟩
  | 85 => ⟨S16384x5632, .f32⟩
  | 86 => ⟨S16384x5632, .f32⟩
  | 87 => ⟨S_, .f32⟩
  | 88 => ⟨S5632, .f32⟩
  | 89 => ⟨S1x5632, .f32⟩
  | 90 => ⟨S_, .f32⟩
  | 91 => ⟨S5632, .f32⟩
  | 92 => ⟨S_, .f32⟩
  | 93 => ⟨S16386x5632, .f32⟩
  | 94 => ⟨S16386x5632, .f32⟩
  | 95 => ⟨S1x5632, .f32⟩
  | 96 => ⟨S_, .f32⟩
  | 97 => ⟨S3x5632, .f32⟩
  | 98 => ⟨S3x5632, .f32⟩
  | 99 => ⟨S_, .f32⟩
  | 100 => ⟨S5632, .f32⟩
  | 101 => ⟨S1x5632, .f32⟩
  | 102 => ⟨S_, .f32⟩
  | 103 => ⟨S5632, .f32⟩
  | 104 => ⟨S16384x5632, .f32⟩
  | 105 => ⟨S16384x5632, .f32⟩
  | 106 => ⟨S16384x5632, .f32⟩
  | 107 => ⟨S_, .f32⟩
  | 108 => ⟨S5632, .f32⟩
  | 109 => ⟨S1x5632, .f32⟩
  | 110 => ⟨S_, .f32⟩
  | 111 => ⟨S5632, .f32⟩
  | 112 => ⟨S_, .f32⟩
  | 113 => ⟨S16386x5632, .f32⟩
  | 114 => ⟨S16386x5632, .f32⟩
  | 115 => ⟨S1x5632, .f32⟩
  | 116 => ⟨S_, .f32⟩
  | 117 => ⟨S3x5632, .f32⟩
  | 118 => ⟨S3x5632, .f32⟩
  | 119 => ⟨S2x5632, .f32⟩
  | 120 => ⟨S16384x5632, .f32⟩
  | 121 => ⟨S1x5632, .f32⟩
  | 122 => ⟨S1x3x5632, .f32⟩
  | 123 => ⟨S5632x1024, .f32⟩
  | 124 => ⟨S1024x5632, .f32⟩
  | 125 => ⟨S1x1024x5632, .f32⟩
  | 126 => ⟨S16384x8x704, .f32⟩
  | 127 => ⟨S8x16384x704, .f32⟩
  | _ => ⟨S16384x1024, .f32⟩

abbrev hbmTy0_1 (i : Nat) : BufTy := match i % 128 with
  | 0 => ⟨S4x16384x704, .f32⟩
  | 1 => ⟨S4x16384x704, .f32⟩
  | 2 => ⟨S2816x1024, .f32⟩
  | 3 => ⟨S4x704x1024, .f32⟩
  | 4 => ⟨S1024x5632, .f32⟩
  | 5 => ⟨S1024x8x704, .f32⟩
  | 6 => ⟨S8x1024x704, .f32⟩
  | 7 => ⟨S8x1x704, .f32⟩
  | 8 => ⟨S3x5632, .f32⟩
  | 9 => ⟨S3x8x704, .f32⟩
  | 10 => ⟨S8x3x704, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_v32_2 : Ref sig .tc := ⟨.hbm, 47, rfl⟩
abbrev main_call0_cst_1 : Ref sig .tc := ⟨.hbm, 48, rfl⟩
abbrev main_call0_v6 : Ref sig .tc := ⟨.hbm, 49, rfl⟩
abbrev main_call0_v7 : Ref sig .tc := ⟨.hbm, 50, rfl⟩
abbrev main_v32_1 : Ref sig .tc := ⟨.hbm, 51, rfl⟩
abbrev main_v32_0 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_v42 : Ref sig .tc := ⟨.hbm, 65, rfl⟩
abbrev main_cst_1 : Ref sig .tc := ⟨.hbm, 66, rfl⟩
abbrev main_v43 : Ref sig .tc := ⟨.hbm, 67, rfl⟩
abbrev main_cst_2 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_3 : Ref sig .tc := ⟨.hbm, 74, rfl⟩
abbrev main_v49 : Ref sig .tc := ⟨.hbm, 75, rfl⟩
abbrev main_v50 : Ref sig .tc := ⟨.hbm, 76, rfl⟩
abbrev main_cst_4 : Ref sig .tc := ⟨.hbm, 77, rfl⟩
abbrev main_v51 : Ref sig .tc := ⟨.hbm, 78, rfl⟩
abbrev main_cst_5 : Ref sig .tc := ⟨.hbm, 79, rfl⟩
abbrev main_v52 : Ref sig .tc := ⟨.hbm, 80, rfl⟩
abbrev main_v53 : Ref sig .tc := ⟨.hbm, 81, rfl⟩
abbrev main_cst_6 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_7 : Ref sig .tc := ⟨.hbm, 87, rfl⟩
abbrev main_v58 : Ref sig .tc := ⟨.hbm, 88, rfl⟩
abbrev main_v59 : Ref sig .tc := ⟨.hbm, 89, rfl⟩
abbrev main_cst_8 : Ref sig .tc := ⟨.hbm, 90, rfl⟩
abbrev main_v60 : Ref sig .tc := ⟨.hbm, 91, rfl⟩
abbrev main_cst_9 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_10 : Ref sig .tc := ⟨.hbm, 96, rfl⟩
abbrev main_v64 : Ref sig .tc := ⟨.hbm, 97, rfl⟩
abbrev main_v65 : Ref sig .tc := ⟨.hbm, 98, rfl⟩
abbrev main_cst_11 : Ref sig .tc := ⟨.hbm, 99, rfl⟩
abbrev main_v66 : Ref sig .tc := ⟨.hbm, 100, rfl⟩
abbrev main_v67 : Ref sig .tc := ⟨.hbm, 101, rfl⟩
abbrev main_cst_12 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_cst_13 : Ref sig .tc := ⟨.hbm, 107, rfl⟩
abbrev main_v72 : Ref sig .tc := ⟨.hbm, 108, rfl⟩
abbrev main_v73 : Ref sig .tc := ⟨.hbm, 109, rfl⟩
abbrev main_cst_14 : Ref sig .tc := ⟨.hbm, 110, rfl⟩
abbrev main_v74 : Ref sig .tc := ⟨.hbm, 111, rfl⟩
abbrev main_cst_15 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_cst_16 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩

abbrev nD : Nat := 1
abbrev τ : Topo := Topo.v7x

variable {F : FTy → Type} [FloatOps F]
-- ==== Kernel7.lean ====
abbrev S16384x1024 : Shape := ⟨2, ![16384, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1024x5632 : Shape := ⟨2, ![1024, 5632]⟩
abbrev S1024x8x704 : Shape := ⟨3, ![1024, 8, 704]⟩
abbrev S8x1024x704 : Shape := ⟨3, ![8, 1024, 704]⟩
abbrev S3x5632 : Shape := ⟨2, ![3, 5632]⟩
abbrev S3x8x704 : Shape := ⟨3, ![3, 8, 704]⟩
abbrev S8x3x704 : Shape := ⟨3, ![8, 3, 704]⟩
abbrev S8x1x704 : Shape := ⟨3, ![8, 1, 704]⟩
abbrev S2816x1024 : Shape := ⟨2, ![2816, 1024]⟩
abbrev S4x704x1024 : Shape := ⟨3, ![4, 704, 1024]⟩
abbrev S8x16384x704 : Shape := ⟨3, ![8, 16384, 704]⟩
abbrev S256x1024 : Shape := ⟨2, ![256, 1024]⟩
abbrev S8x256x704 : Shape := ⟨3, ![8, 256, 704]⟩
abbrev S8x16x704 : Shape := ⟨3, ![8, 16, 704]⟩
abbrev S1x1024x704 : Shape := ⟨3, ![1, 1024, 704]⟩
abbrev S1024x704 : Shape := ⟨2, ![1024, 704]⟩
abbrev S256x704 : Shape := ⟨2, ![256, 704]⟩
abbrev S1x256x704 : Shape := ⟨3, ![1, 256, 704]⟩
abbrev S1x16x704 : Shape := ⟨3, ![1, 16, 704]⟩
abbrev S16x704 : Shape := ⟨2, ![16, 704]⟩
abbrev S272x704 : Shape := ⟨2, ![272, 704]⟩
abbrev S1x1x704 : Shape := ⟨3, ![1, 1, 704]⟩
abbrev S1x704 : Shape := ⟨2, ![1, 704]⟩
abbrev S1x704x1024 : Shape := ⟨3, ![1, 704, 1024]⟩
abbrev S704x1024 : Shape := ⟨2, ![704, 1024]⟩
abbrev S256 : Shape := ⟨1, ![256]⟩
abbrev S256x1 : Shape := ⟨2, ![256, 1]⟩
abbrev S1024 : Shape := ⟨1, ![1024]⟩
abbrev S_ : Shape := ⟨0, ![]⟩

abbrev nBuf : Space → Nat
  | .hbm => 35
  | .vmem => 22
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1x1024, .f32⟩
  | .hbm, ⟨4, _⟩ => ⟨S1x1024x5632, .f32⟩
  | .hbm, ⟨5, _⟩ => ⟨S1x3x5632, .f32⟩
  | .hbm, ⟨6, _⟩ => ⟨S1x5632, .f32⟩
  | .hbm, ⟨7, _⟩ => ⟨S1x2816x1024, .f32⟩
  | .hbm, ⟨8, _⟩ => ⟨S1024x5632, .f32⟩
  | .hbm, ⟨9, _⟩ => ⟨S1024x5632, .bf16⟩
  | .hbm, ⟨10, _⟩ => ⟨S1024x8x704, .bf16⟩
  | .hbm, ⟨11, _⟩ => ⟨S8x1024x704, .bf16⟩
  | .hbm, ⟨12, _⟩ => ⟨S3x5632, .f32⟩
  | .hbm, ⟨13, _⟩ => ⟨S3x8x704, .f32⟩
  | .hbm, ⟨14, _⟩ => ⟨S8x3x704, .f32⟩
  | .hbm, ⟨15, _⟩ => ⟨S8x1x704, .f32⟩
  | .hbm, ⟨16, _⟩ => ⟨S2816x1024, .f32⟩
  | .hbm, ⟨17, _⟩ => ⟨S2816x1024, .bf16⟩
  | .hbm, ⟨18, _⟩ => ⟨S4x704x1024, .bf16⟩
  | .hbm, ⟨19, _⟩ => ⟨S16384x1024, .bf16⟩
  | .hbm, ⟨20, _⟩ => ⟨S8x16384x704, .bf16⟩
  | .hbm, ⟨21, _⟩ => ⟨S8x16384x704, .bf16⟩
  | .hbm, ⟨22, _⟩ => ⟨S16384x1024, .f32⟩
  | .hbm, ⟨23, _⟩ => ⟨S16384x1024, .bf16⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S16384x1024, .f32⟩
  | .hbm, ⟨33, _⟩ => ⟨S8x16384x704, .f32⟩
  | .hbm, ⟨34, _⟩ => ⟨S8x16384x704, .f32⟩
  | .local _ .vmem, ⟨0, _⟩ => ⟨S256x1024, .bf16⟩
  | .local _ .vmem, ⟨1, _⟩ => ⟨S256x1024, .bf16⟩
  | .local _ .vmem, ⟨2, _⟩ => ⟨S8x1024x704, .bf16⟩
  | .local _ .vmem, ⟨3, _⟩ => ⟨S8x3x704, .f32⟩
  | .local _ .vmem, ⟨4, _⟩ => ⟨S8x1x704, .f32⟩
  | .local _ .vmem, ⟨5, _⟩ => ⟨S4x704x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S8x256x704, .bf16⟩
  | .local _ .vmem, ⟨12, _⟩ => ⟨S8x256x704, .bf16⟩
  | .local _ .vmem, ⟨13, _⟩ => ⟨S8x256x704, .bf16⟩
  | .local _ .vmem, ⟨14, _⟩ => ⟨S8x256x704, .bf16⟩
  | .local _ .vmem, ⟨15, _⟩ => ⟨S256x1024, .f32⟩
  | .local _ .vmem, ⟨16, _⟩ => ⟨S256x1024, .f32⟩
  | .local _ .vmem, ⟨17, _⟩ => ⟨S256x1024, .bf16⟩
  | .local _ .vmem, ⟨18, _⟩ => ⟨S256x1024, .bf16⟩
  | .local _ .vmem, ⟨19, _⟩ => ⟨S1x1024, .f32⟩
  | .local _ .vmem, ⟨20, _⟩ => ⟨S1x1024, .f32⟩
  | .local _ .vmem, ⟨21, _⟩ => ⟨S8x16x704, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev main_v12_2 : Ref sig .tc := ⟨.hbm, 22, rfl⟩
abbrev main_v12_3 : Ref sig .tc := ⟨.hbm, 23, rfl⟩
abbrev main_v12_4 : Ref sig .tc := ⟨.hbm, 24, rfl⟩
abbrev main_v12_5 : Ref sig .tc := ⟨.hbm, 25, rfl⟩
abbrev main_cst : Ref sig .tc := ⟨.hbm, 26, rfl⟩
abbrev main_v13 : Ref sig .tc := ⟨.hbm, 27, rfl⟩
abbrev main_cst_0 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg13_0 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem13_0 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x704 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x3x704 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1x704 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x704x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S8x256x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x256x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference7Ideal.lean ====
abbrev S16384x1024 : Shape := ⟨2, ![16384, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1024x5632 : Shape := ⟨2, ![1024, 5632]⟩
abbrev S16384x5632 : Shape := ⟨2, ![16384, 5632]⟩
abbrev S3x5632 : Shape := ⟨2, ![3, 5632]⟩
abbrev S5632 : Shape := ⟨1, ![5632]⟩
abbrev S_ : Shape := ⟨0, ![]⟩
abbrev S2x5632 : Shape := ⟨2, ![2, 5632]⟩
abbrev S16386x5632 : Shape := ⟨2, ![16386, 5632]⟩
abbrev S16384x2816 : Shape := ⟨2, ![16384, 2816]⟩
abbrev S2816x1024 : Shape := ⟨2, ![2816, 1024]⟩
abbrev S1024 : Shape := ⟨1, ![1024]⟩
abbrev S16384 : Shape := ⟨1, ![16384]⟩
abbrev S16384x1 : Shape := ⟨2, ![16384, 1]⟩
abbrev S16384x8x704 : Shape := ⟨3, ![16384, 8, 704]⟩
abbrev S8x16384x704 : Shape := ⟨3, ![8, 16384, 704]⟩

abbrev nBuf : Space → Nat
  | .hbm => 127
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1x1024, .f32⟩
  | .hbm, ⟨4, _⟩ => ⟨S1x1024x5632, .f32⟩
  | .hbm, ⟨5, _⟩ => ⟨S1x3x5632, .f32⟩
  | .hbm, ⟨6, _⟩ => ⟨S1x5632, .f32⟩
  | .hbm, ⟨7, _⟩ => ⟨S1x2816x1024, .f32⟩
  | .hbm, ⟨8, _⟩ => ⟨S1024x5632, .f32⟩
  | .hbm, ⟨9, _⟩ => ⟨S16384x5632, .f32⟩
  | .hbm, ⟨10, _⟩ => ⟨S3x5632, .f32⟩
  | .hbm, ⟨11, _⟩ => ⟨S5632, .f32⟩
  | .hbm, ⟨12, _⟩ => ⟨S_, .f32⟩
  | .hbm, ⟨13, _⟩ => ⟨S2x5632, .f32⟩
  | .hbm, ⟨14, _⟩ => ⟨S16386x5632, .f32⟩
  | .hbm, ⟨15, _⟩ => ⟨S1x5632, .f32⟩
  | .hbm, ⟨16, _⟩ => ⟨S5632, .f32⟩
  | .hbm, ⟨17, _⟩ => ⟨S16384x5632, .f32⟩
  | .hbm, ⟨18, _⟩ => ⟨S1x5632, .f32⟩
  | .hbm, ⟨19, _⟩ => ⟨S16384x5632, .f32⟩
  | .hbm, ⟨20, _⟩ => ⟨S16384x5632, .f32⟩
  | .hbm, ⟨21, _⟩ => ⟨S1x5632, .f32⟩
  | .hbm, ⟨22, _⟩ => ⟨S16384x5632, .f32⟩
  | .hbm, ⟨23, _⟩ => ⟨S16384x5632, .f32⟩
  | .hbm, ⟨24, _⟩ => ⟨S1x5632, .f32⟩
  | .hbm, ⟨25, _⟩ => ⟨S5632, .f32⟩
  | .hbm, ⟨26, _⟩ => ⟨S16384x5632, .f32⟩
  | .hbm, ⟨27, _⟩ => ⟨S1x5632, .f32⟩
  | .hbm, ⟨28, _⟩ => ⟨S16384x5632, .f32⟩
  | .hbm, ⟨29, _⟩ => ⟨S16384x5632, .f32⟩
  | .hbm, ⟨30, _⟩ => ⟨S16384x5632, .f32⟩
  | .hbm, ⟨31, _⟩ => ⟨S1x5632, .f32⟩
  | .hbm, ⟨32, _⟩ => ⟨S5632, .f32⟩
  | .hbm, ⟨33, _⟩ => ⟨S16384x5632, .f32⟩
  | .hbm, ⟨34, _⟩ => ⟨S1x5632, .f32⟩
  | .hbm, ⟨35, _⟩ => ⟨S16384x5632, .f32⟩
  | .hbm, ⟨36, _⟩ => ⟨S16384x5632, .f32⟩
  | .hbm, ⟨37, _⟩ => ⟨S16384x5632, .f32⟩
  | .hbm, ⟨38, _⟩ => ⟨S16384x2816, .f32⟩
  | .hbm, ⟨39, _⟩ => ⟨S16384x2816, .f32⟩
  | .hbm, ⟨40, _⟩ => ⟨S16384x2816, .f32⟩
  | .hbm, ⟨41, _⟩ => ⟨S_, .f32⟩
  | .hbm, ⟨42, _⟩ => ⟨S16384x2816, .f32⟩
  | .hbm, ⟨43, _⟩ => ⟨S16384x2816, .f32⟩
  | .hbm, ⟨44, _⟩ => ⟨S_, .f32⟩
  | .hbm, ⟨45, _⟩ => ⟨S16384x2816, .f32⟩
  | .hbm, ⟨46, _⟩ => ⟨S16384x2816, .f32⟩
  | .hbm, ⟨47, _⟩ => ⟨S16384x2816, .f32⟩
  | .hbm, ⟨48, _⟩ => ⟨S16384x2816, .f32⟩
  | .hbm, ⟨49, _⟩ => ⟨S16384x2816, .f32⟩
  | .hbm, ⟨50, _⟩ => ⟨S2816x1024, .f32⟩
  | .hbm, ⟨51, _⟩ => ⟨S16384x1024, .f32⟩
  | .hbm, ⟨52, _⟩ => ⟨S1024, .f32⟩
  | .hbm, ⟨53, _⟩ => ⟨S16384x1024, .f32⟩
  | .hbm, ⟨54, _⟩ => ⟨S_, .f32⟩
  | .hbm, ⟨55, _⟩ => ⟨S16384, .f32⟩
  | .hbm, ⟨56, _⟩ => ⟨S16384x1, .f32⟩
  | .hbm, ⟨57, _⟩ => ⟨S_, .f32⟩
  | .hbm, ⟨58, _⟩ => ⟨S16384x1, .f32⟩
  | .hbm, ⟨59, _⟩ => ⟨S16384x1, .f32⟩
  | .hbm, ⟨60, _⟩ => ⟨S_, .f32⟩
  | .hbm, ⟨61, _⟩ => ⟨S16384x1, .f32⟩
  | .hbm, ⟨62, _⟩ => ⟨S16384x1, .f32⟩
  | .hbm, ⟨63, _⟩ => ⟨S16384x1, .f32⟩
  | .hbm, ⟨64, _⟩ => ⟨S16384x1, .f32⟩
  | .hbm, ⟨65, _⟩ => ⟨S_, .f32⟩
  | .hbm, ⟨66, _⟩ => ⟨S16384x1, .f32⟩
  | .hbm, ⟨67, _⟩ => ⟨S16384x1, .f32⟩
  | .hbm, ⟨68, _⟩ => ⟨S16384x1024, .f32⟩
  | .hbm, ⟨69, _⟩ => ⟨S16384x1024, .f32⟩
  | .hbm, ⟨70, _⟩ => ⟨S1x1024, .f32⟩
  | .hbm, ⟨71, _⟩ => ⟨S16384x1024, .f32⟩
  | .hbm, ⟨72, _⟩ => ⟨S16384x1024, .f32⟩
  | .hbm, ⟨73, _⟩ => ⟨S16384x1024, .f32⟩
  | .hbm, ⟨74, _⟩ => ⟨S16384x1024, .f32⟩
  | .hbm, ⟨75, _⟩ => ⟨S16384x1024, .f32⟩
  | .hbm, ⟨76, _⟩ => ⟨S_, .f32⟩
  | .hbm, ⟨77, _⟩ => ⟨S16384x1024, .f32⟩
  | .hbm, ⟨78, _⟩ => ⟨S16384x1024, .f32⟩
  | .hbm, ⟨79, _⟩ => ⟨S_, .f32⟩
  | .hbm, ⟨80, _⟩ => ⟨S16384, .f32⟩
  | .hbm, ⟨81, _⟩ => ⟨S_, .f32⟩
  | .hbm, ⟨82, _⟩ => ⟨S16384, .f32⟩
  | .hbm, ⟨83, _⟩ => ⟨S16384, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S16384, .f32⟩
  | .hbm, ⟨92, _⟩ => ⟨S_, .f32⟩
  | .hbm, ⟨93, _⟩ => ⟨S16384, .f32⟩
  | .hbm, ⟨94, _⟩ => ⟨S16384, .f32⟩
  | .hbm, ⟨95, _⟩ => ⟨S16384x1024, .f32⟩
  | .hbm, ⟨96, _⟩ => ⟨S16384x1024, .f32⟩
  | .hbm, ⟨97, _⟩ => ⟨S16384x1024, .f32⟩
  | .hbm, ⟨98, _⟩ => ⟨S_, .f32⟩
  | .hbm, ⟨99, _⟩ => ⟨S1024, .f32⟩
  | .hbm, ⟨100, _⟩ => ⟨S1x1024, .f32⟩
  | .hbm, ⟨101, _⟩ => ⟨S16384x1024, .f32⟩
  | .hbm, ⟨102, _⟩ => ⟨S16384x1024, .f32⟩
  | .hbm, ⟨103, _⟩ => ⟨S_, .f32⟩
  | .hbm, ⟨104, _⟩ => ⟨S1024, .f32⟩
  | .hbm, ⟨105, _⟩ => ⟨S16384x1024, .f32⟩
  | .hbm, ⟨106, _⟩ => ⟨S_, .f32⟩
  | .hbm, ⟨107, _⟩ => ⟨S16384, .f32⟩
  | .hbm, ⟨108, _⟩ => ⟨S16384x1, .f32⟩
  | .hbm, ⟨109, _⟩ => ⟨S16384x1024, .f32⟩
  | .hbm, ⟨110, _⟩ => ⟨S16384x1024, .f32⟩
  | .hbm, ⟨111, _⟩ => ⟨S16384x1, .f32⟩
  | .hbm, ⟨112, _⟩ => ⟨S_, .f32⟩
  | .hbm, ⟨113, _⟩ => ⟨S16384x1, .f32⟩
  | .hbm, ⟨114, _⟩ => ⟨S16384x1, .f32⟩
  | .hbm, ⟨115, _⟩ => ⟨S_, .f32⟩
  | .hbm, ⟨116, _⟩ => ⟨S16384, .f32⟩
  | .hbm, ⟨117, _⟩ => ⟨S16384x1024, .f32⟩
  | .hbm, ⟨118, _⟩ => ⟨S16384x1024, .f32⟩
  | .hbm, ⟨119, _⟩ => ⟨S16384x1024, .f32⟩
  | .hbm, ⟨120, _⟩ => ⟨S16384x1024, .f32⟩
  | .hbm, ⟨121, _⟩ => ⟨S16384x1024, .f32⟩
  | .hbm, ⟨122, _⟩ => ⟨S1x1024, .f32⟩
  | .hbm, ⟨123, _⟩ => ⟨S16384x8x704, .f32⟩
  | .hbm, ⟨124, _⟩ => ⟨S8x16384x704, .f32⟩
  | .hbm, ⟨125, _⟩ => ⟨S16384x8x704, .f32⟩
  | .hbm, ⟨126, _⟩ => ⟨S8x16384x704, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_0 : Ref sig .tc := ⟨.hbm, 54, rfl⟩
abbrev main_v37 : Ref sig .tc := ⟨.hbm, 55, rfl⟩
abbrev main_v38 : Ref sig .tc := ⟨.hbm, 56, rfl⟩
abbrev main_cst_1 : Ref sig .tc := ⟨.hbm, 57, rfl⟩
abbrev main_v39 : Ref sig .tc := ⟨.hbm, 58, rfl⟩
abbrev main_v40 : Ref sig .tc := ⟨.hbm, 59, rfl⟩
abbrev main_cst_2 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_3 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_4 : Ref sig .tc := ⟨.hbm, 76, rfl⟩
abbrev main_v55 : Ref sig .tc := ⟨.hbm, 77, rfl⟩
abbrev main_v56 : Ref sig .tc := ⟨.hbm, 78, rfl⟩
abbrev main_cst_5 : Ref sig .tc := ⟨.hbm, 79, rfl⟩
abbrev main_v57 : Ref sig .tc := ⟨.hbm, 80, rfl⟩
abbrev main_cst_6 : Ref sig .tc := ⟨.hbm, 81, rfl⟩
abbrev main_v58 : Ref sig .tc := ⟨.hbm, 82, rfl⟩
abbrev main_v59 : Ref sig .tc := ⟨.hbm, 83, rfl⟩
abbrev main_cst_7 : Ref sig .tc := ⟨.hbm, 84, rfl⟩
abbrev main_v60 : Ref sig .tc := ⟨.hbm, 85, rfl⟩
abbrev main_cst_8 : Ref sig .tc := ⟨.hbm, 86, rfl⟩
abbrev main_v61 : Ref sig .tc := ⟨.hbm, 87, rfl⟩
abbrev main_cst_9 : Ref sig .tc := ⟨.hbm, 88, rfl⟩
abbrev main_cst_10 : Ref sig .tc := ⟨.hbm, 89, rfl⟩
abbrev main_v62 : Ref sig .tc := ⟨.hbm, 90, rfl⟩
abbrev main_v63 : Ref sig .tc := ⟨.hbm, 91, rfl⟩
abbrev main_cst_11 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_12 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_13 : Ref sig .tc := ⟨.hbm, 103, rfl⟩
abbrev main_v73 : Ref sig .tc := ⟨.hbm, 104, rfl⟩
abbrev main_v74 : Ref sig .tc := ⟨.hbm, 105, rfl⟩
abbrev main_cst_14 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_15 : Ref sig .tc := ⟨.hbm, 112, rfl⟩
abbrev main_v80 : Ref sig .tc := ⟨.hbm, 113, rfl⟩
abbrev main_v81 : Ref sig .tc := ⟨.hbm, 114, rfl⟩
abbrev main_cst_16 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩

abbrev nD : Nat := 1
abbrev τ : Topo := Topo.v7x

variable {F : FTy → Type} [FloatOps F]
-- ==== Kernel8.lean ====
abbrev S16384x1024 : Shape := ⟨2, ![16384, 1024]⟩
abbrev S1x1024 : Shape := ⟨2, ![1, 1024]⟩
abbrev S1x1024x2048 : Shape := ⟨3, ![1, 1024, 2048]⟩
abbrev S16384x512 : Shape := ⟨2, ![16384, 512]⟩
abbrev S1024x2048 : Shape := ⟨2, ![1024, 2048]⟩
abbrev S1024x8x256 : Shape := ⟨3, ![1024, 8, 256]⟩
abbrev S8x1024x256 : Shape := ⟨3, ![8, 1024, 256]⟩
abbrev S1024x16384 : Shape := ⟨2, ![1024, 16384]⟩
abbrev S16384x1536 : Shape := ⟨2, ![16384, 1536]⟩
abbrev S512x1024 : Shape := ⟨2, ![512, 1024]⟩
abbrev S1024x512 : Shape := ⟨2, ![1024, 512]⟩
abbrev S512x512 : Shape := ⟨2, ![512, 512]⟩
abbrev S512x1536 : Shape := ⟨2, ![512, 1536]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S16384x2048 : Shape := ⟨2, ![16384, 2048]⟩
abbrev S512x2048 : Shape := ⟨2, ![512, 2048]⟩

abbrev nBuf : Space → Nat
  | .hbm => 19
  | .vmem => 23
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024x2048, .f32⟩
  | .hbm, ⟨3, _⟩ => ⟨S16384x512, .f32⟩
  | .hbm, ⟨4, _⟩ => ⟨S16384x512, .f32⟩
  | .hbm, ⟨5, _⟩ => ⟨S16384x512, .f32⟩
  | .hbm, ⟨6, _⟩ => ⟨S16384x512, .f32⟩
  | .hbm, ⟨7, _⟩ => ⟨S1024x2048, .f32⟩
  | .hbm, ⟨8, _⟩ => ⟨S1024x2048, .bf16⟩
  | .hbm, ⟨9, _⟩ => ⟨S1024x8x256, .bf16⟩
  | .hbm, ⟨10, _⟩ => ⟨S8x1024x256, .bf16⟩
  | .hbm, ⟨11, _⟩ => ⟨S1024x16384, .bf16⟩
  | .hbm, ⟨12, _⟩ => ⟨S16384x512, .f32⟩
  | .hbm, ⟨13, _⟩ => ⟨S16384x1536, .bf16⟩
  | .hbm, ⟨14, _⟩ => ⟨S16384x2048, .bf16⟩
  | .hbm, ⟨15, _⟩ => ⟨S8x1024x256, .f32⟩
  | .hbm, ⟨16, _⟩ => ⟨S1024x16384, .f32⟩
  | .hbm, ⟨17, _⟩ => ⟨S16384x1536, .f32⟩
  | .hbm, ⟨18, _⟩ => ⟨S16384x2048, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S8x1024x256, .bf16⟩
  | .local _ .vmem, ⟨4, _⟩ => ⟨S1024x512, .bf16⟩
  | .local _ .vmem, ⟨5, _⟩ => ⟨S1024x512, .bf16⟩
  | .local _ .vmem, ⟨6, _⟩ => ⟨S512x512, .f32⟩
  | .local _ .vmem, ⟨7, _⟩ => ⟨S512x512, .f32⟩
  | .local _ .vmem, ⟨8, _⟩ => ⟨S512x1536, .bf16⟩
  | .local _ .vmem, ⟨9, _⟩ => ⟨S512x1536, .bf16⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S1024x512, .bf16⟩
  | .local _ .vmem, ⟨19, _⟩ => ⟨S1024x512, .bf16⟩
  | .local _ .vmem, ⟨20, _⟩ => ⟨S512x2048, .bf16⟩
  | .local _ .vmem, ⟨21, _⟩ => ⟨S512x2048, .bf16⟩
  | .local _ .vmem, ⟨22, _⟩ => ⟨S8x1024x256, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v5_0 : Ref sig .tc := ⟨.hbm, 14, rfl⟩
abbrev main_v5_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1024x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x2048 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S8x1024x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]
-- ==== Reference8Ideal.lean ====
abbrev S16384x1024 : Shape := ⟨2, ![16384, 1024]⟩
abbrev S1x1024 : Shape := ⟨2, ![1, 1024]⟩
abbrev S1x1024x2048 : Shape := ⟨3, ![1, 1024, 2048]⟩
abbrev S16384x512 : Shape := ⟨2, ![16384, 512]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x2048 : Shape := ⟨2, ![1024, 2048]⟩
abbrev S16384x2048 : Shape := ⟨2, ![16384, 2048]⟩
abbrev S2048x1024 : Shape := ⟨2, ![2048, 1024]⟩
abbrev S1024x16384 : Shape := ⟨2, ![1024, 16384]⟩
abbrev S16384x1536 : Shape := ⟨2, ![16384, 1536]⟩
abbrev S1024x8x256 : Shape := ⟨3, ![1024, 8, 256]⟩
abbrev S8x1024x256 : Shape := ⟨3, ![8, 1024, 256]⟩

abbrev nBuf : Space → Nat
  | .hbm => 36
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024x2048, .f32⟩
  | .hbm, ⟨3, _⟩ => ⟨S16384x512, .f32⟩
  | .hbm, ⟨4, _⟩ => ⟨S16384x512, .f32⟩
  | .hbm, ⟨5, _⟩ => ⟨S16384x512, .f32⟩
  | .hbm, ⟨6, _⟩ => ⟨S16384x512, .f32⟩
  | .hbm, ⟨7, _⟩ => ⟨S1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S1x1024, .f32⟩
  | .hbm, ⟨22, _⟩ => ⟨S16384x1024, .f32⟩
  | .hbm, ⟨23, _⟩ => ⟨S16384x1024, .f32⟩
  | .hbm, ⟨24, _⟩ => ⟨S1024x2048, .f32⟩
  | .hbm, ⟨25, _⟩ => ⟨S16384x2048, .f32⟩
  | .hbm, ⟨26, _⟩ => ⟨S16384x2048, .f32⟩
  | .hbm, ⟨27, _⟩ => ⟨S2048x1024, .f32⟩
  | .hbm, ⟨28, _⟩ => ⟨S1024x2048, .f32⟩
  | .hbm, ⟨29, _⟩ => ⟨S1x1024x2048, .f32⟩
  | .hbm, ⟨30, _⟩ => ⟨S1024x16384, .f32⟩
  | .hbm, ⟨31, _⟩ => ⟨S16384x512, .f32⟩
  | .hbm, ⟨32, _⟩ => ⟨S16384x1536, .f32⟩
  | .hbm, ⟨33, _⟩ => ⟨S1024x2048, .f32⟩
  | .hbm, ⟨34, _⟩ => ⟨S1024x8x256, .f32⟩
  | .hbm, ⟨35, _⟩ => ⟨S8x1024x256, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Proof.NormBwd.lean ====
/- Rows and columns as plain functions of extended reals: the root mean square's backward pass in the two forms the programs
   compute it (no entry assumed finite), the residual and the two normalisations of a row, the causal convolution and the gate. -/
module

public import Idealize.ShloMosaic.PureOps.Ideal
public import Idealize.ShloMosaic.Lib.Pointwise

@[expose] public section

noncomputable section

/-- The point before a point is one. -/
theorem Cert.lt_prev {n : ℕ} (t : Fin n) : t.val - 1 < n := Nat.lt_of_le_of_lt (Nat.sub_le _ _) t.isLt

namespace Cert.Norm

open Idealize.ShloMosaic

/-- Twice an extended real is its product with the real 2. -/
theorem add_self (x : EReal) : x + x = x * ((2 : ℝ) : EReal) := by
  induction x with
  | bot => rw [EReal.bot_mul_coe_of_pos two_pos]; rfl
  | top => rw [EReal.top_mul_coe_of_pos two_pos]; rfl
  | coe a => rw [← EReal.coe_add, ← EReal.coe_mul, mul_two]

/-- A square is not negative, at the infinities too. -/
theorem mul_self_nonneg (x : EReal) : 0 ≤ x * x := by
  induction x with
  | bot => simp
  | top => simp
  | coe a => rw [← EReal.coe_mul]; exact_mod_cast _root_.mul_self_nonneg a

/-- A finite sum of real numbers, as extended reals. -/
theorem coe_sum {ι : Type} (s : Finset ι) (f : ι → ℝ) : ((∑ i ∈ s, f i : ℝ) : EReal) = ∑ i ∈ s, (f i : EReal) :=
  map_sum (⟨⟨fun x : ℝ => (x : EReal), EReal.coe_zero⟩, EReal.coe_add⟩ : ℝ →+ EReal) f s

/-- A nonnegative real factor moves out of a finite sum of extended reals. -/
theorem sum_mul_real {ι : Type} (s : Finset ι) (f : ι → EReal) {a : ℝ} (ha : 0 ≤ a) : ∑ i ∈ s, f i * (a : EReal) = (∑ i ∈ s, f i) * (a : EReal) := by
  classical
  induction s using Finset.induction_on with
  | empty => simp
  | insert i s hi ih =>
    rw [Finset.sum_insert hi, Finset.sum_insert hi, ih,
      EReal.right_distrib_of_nonneg_of_ne_top (by exact_mod_cast ha) (EReal.coe_ne_top a)]

/-- Either some square of the row is infinite, and so is their sum, or every entry of the row is a real number. -/
theorem sum_sq_top_or {ι : Type} [Fintype ι] (x : ι → EReal) : (∑ j, x j * x j) = ⊤ ∨ ∃ y : ι → ℝ, x = fun j => (y j : EReal) := by
  classical
  by_cases h : (∑ j, x j * x j) = ⊤
  · exact .inl h
  refine .inr ⟨fun j => (x j).toReal, funext fun j => (EReal.coe_toReal ?_ ?_).symm⟩
  · intro hj
    apply h
    have := Finset.single_le_sum (f := fun j => x j * x j) (fun i _ => mul_self_nonneg (x i)) (Finset.mem_univ j)
    rw [hj] at this
    simpa using this
  · intro hj
    apply h
    have := Finset.single_le_sum (f := fun j => x j * x j) (fun i _ => mul_self_nonneg (x i)) (Finset.mem_univ j)
    rw [hj] at this
    simpa using this

/-- THE BACKWARD IDENTITY: the kernels' form of the gradient of the root-mean-square normalisation (left) is the
    derivative taken term by term (right), for every row `x` and every cotangent `c` of extended reals. -/
theorem bwd {ι : Type} [Fintype ι] (x c : ι → EReal) (i : ι) (D e h : EReal) (d ε : ℝ) (hD : D = (d : EReal)) (hd : 0 < d)
    (he : e = (ε : EReal)) (hε : 0 < ε) (hh : h = ((-(1 / 2) : ℝ) : EReal)) (r v : EReal) (hv : v = Ideal.div (∑ j, x j * x j) D + e) (hr : r = Ideal.rsqrt v) :
    r * (c i - x i * r * Ideal.div (∑ j, c j * (x j * r)) D) = c i * r + x i * Ideal.div ((∑ j, x j * c j) * (h * Ideal.div r v)) D
          + Ideal.div ((∑ j, x j * c j) * (h * Ideal.div r v)) D * x i := by
  subst hD he hh
  rcases sum_sq_top_or x with ht | ⟨y, rfl⟩
  · have hv' : v = ⊤ := by
      rw [hv, ht, Ideal.div_coe hd.ne', EReal.top_mul_coe_of_pos (by positivity), EReal.top_add_coe]
    have hr' : r = 0 := by rw [hr, hv', Ideal.rsqrt_top]
    have : Ideal.div 0 (⊤ : EReal) = 0 := by simp [Ideal.div]
    rw [hr', hv', this, mul_zero, mul_zero, mul_zero, mul_zero]
    simp only [Ideal.div_coe hd.ne']
    simp
  · set w : ℝ := (∑ j, y j * y j) * (1 / d) + ε with hw
    have hs : (∑ j, (y j : EReal) * (y j : EReal)) = ((∑ j, y j * y j : ℝ) : EReal) := by
      simp only [← EReal.coe_mul]; exact (coe_sum _ _).symm
    have hwpos : 0 < w := by
      have : 0 ≤ ∑ j, y j * y j := Finset.sum_nonneg fun j _ => _root_.mul_self_nonneg _
      have : 0 ≤ (∑ j, y j * y j) * (1 / d) := mul_nonneg this (by positivity)
      rw [hw]; linarith
    have hv' : v = (w : EReal) := by
      rw [hv, hs, Ideal.div_coe hd.ne', ← EReal.coe_mul, ← EReal.coe_add]
    set ρ : ℝ := (Real.sqrt w)⁻¹ with hρ
    have hρpos : 0 < ρ := inv_pos.mpr (Real.sqrt_pos.mpr hwpos)
    have hr' : r = (ρ : EReal) := by
      rw [hr, hv', Ideal.rsqrt_coe, if_neg (not_lt.mpr hwpos.le), if_neg hwpos.ne']
    have hρw : ρ * ρ * w = 1 := by
      rw [hρ]
      have := Real.mul_self_sqrt hwpos.le
      have h0 : Real.sqrt w ≠ 0 := (Real.sqrt_pos.mpr hwpos).ne'
      field_simp
      nlinarith
    have h1w : (1 / w) = ρ * ρ := by field_simp; linarith
    have hsum : (∑ j, c j * ((y j : EReal) * (ρ : EReal))) = (∑ j, (y j : EReal) * c j) * (ρ : EReal) := by
      rw [← sum_mul_real _ _ hρpos.le]
      exact Finset.sum_congr rfl fun j _ => by rw [← mul_assoc, mul_comm (c j)]
    rw [hr', hv', hsum]
    generalize (∑ j, (y j : EReal) * c j) = T
    rw [Ideal.div_coe hd.ne', Ideal.div_coe hd.ne', Ideal.div_coe hwpos.ne', h1w, sub_eq_add_neg,
      EReal.left_distrib_of_nonneg_of_ne_top (by exact_mod_cast hρpos.le) (EReal.coe_ne_top ρ), mul_comm _ (c i), add_assoc]
    congr 1
    have e1 : (y i : EReal) * (T * (((-(1 / 2) : ℝ) : EReal) * ((ρ : EReal) * ((ρ * ρ : ℝ) : EReal))) * ((1 / d : ℝ) : EReal))
        = T * ((y i * (-(1 / 2) * (ρ * (ρ * ρ))) * (1 / d) : ℝ) : EReal) := by
      simp only [EReal.coe_mul]; ac_rfl
    have e2 : T * (((-(1 / 2) : ℝ) : EReal) * ((ρ : EReal) * ((ρ * ρ : ℝ) : EReal))) * ((1 / d : ℝ) : EReal) * (y i : EReal)
        = T * ((y i * (-(1 / 2) * (ρ * (ρ * ρ))) * (1 / d) : ℝ) : EReal) := by
      simp only [EReal.coe_mul]; ac_rfl
    have e3 : (ρ : EReal) * -((y i : EReal) * (ρ : EReal) * (T * (ρ : EReal) * ((1 / d : ℝ) : EReal)))
        = -(T * ((ρ * (y i * ρ) * ρ * (1 / d) : ℝ) : EReal)) := by
      rw [mul_neg]; simp only [EReal.coe_mul]; congr 1; ac_rfl
    rw [e1, e2, e3, add_self, mul_assoc T, ← EReal.coe_mul, ← mul_neg, ← EReal.coe_neg]
    congr 2
    ring

/-- The constant 512 of the head groups' mean. -/
theorem c512 : Ideal.ofBits .f32 0x44000000#32 = ((512 : ℝ) : EReal) := by
  simp [Ideal.ofBits, Ideal.ieee]; rw [← EReal.coe_mul]; norm_num

/-- The constant 1024 of a row's mean. -/
theorem c1024 : Ideal.ofBits .f32 0x44800000#32 = ((1024 : ℝ) : EReal) := by
  simp [Ideal.ofBits, Ideal.ieee]; rw [← EReal.coe_mul]; norm_num

/-- The constant -1/2 of the derivative of the reciprocal root. -/
theorem chalf : Ideal.ofBits .f32 0xBF000000#32 = ((-(1 / 2) : ℝ) : EReal) := by
  simp [Ideal.ofBits, Ideal.ieee]; rw [← EReal.coe_mul]; norm_num

/-- The constant added to the mean under the root is a positive real number. -/
theorem ceps : ∃ ε : ℝ, 0 < ε ∧ Ideal.ofBits .f32 0x358637BD#32 = (ε : EReal) := by
  simp [Ideal.ofBits, Ideal.ieee]; exact ⟨8796093 * (2 ^ 43)⁻¹, by norm_num, (EReal.coe_mul _ _).symm⟩

/-- The mean square of a row plus the constant under the root. -/
def ms {ι : Type} [Fintype ι] (D : EReal) (x : ι → EReal) : EReal :=
  Ideal.div (∑ j, x j * x j) D + Ideal.ofBits .f32 0x358637BD#32

/-- The gradient of the root-mean-square normalisation, in the kernels' form. -/
def nb {ι : Type} [Fintype ι] (D : EReal) (x c : ι → EReal) (i : ι) : EReal :=
  Ideal.rsqrt (ms D x) * (c i - x i * Ideal.rsqrt (ms D x) * Ideal.div (∑ j, c j * (x j * Ideal.rsqrt (ms D x))) D)

/-- The term-by-term derivative is the kernels' form; `D` is the row's length as the programs write it. -/
theorem nb_eq {ι : Type} [Fintype ι] (D : EReal) {d : ℝ} (hD : D = (d : EReal)) (hd : 0 < d) (x c : ι → EReal) (i : ι) : c i * Ideal.rsqrt (ms D x)
        + x i * Ideal.div ((∑ j, x j * c j) * (Ideal.ofBits .f32 0xBF000000#32 * Ideal.div (Ideal.rsqrt (ms D x)) (ms D x))) D
        + Ideal.div ((∑ j, x j * c j) * (Ideal.ofBits .f32 0xBF000000#32 * Ideal.div (Ideal.rsqrt (ms D x)) (ms D x))) D * x i = nb D x c i := by
  obtain ⟨ε, hε, he⟩ := ceps
  exact (bwd x c i D _ _ d ε hD hd he hε chalf _ _ rfl rfl).symm

end Cert.Norm

open Idealize.ShloMosaic
namespace Cert.Tok

/-- The row length 512 as the programs write it. -/
abbrev D5 : EReal := Ideal.ofBits .f32 0x44000000#32

/-- The row length 1024 as the programs write it. -/
abbrev D10 : EReal := Ideal.ofBits .f32 0x44800000#32

/-- A row, normalised. -/
def nrm {ι : Type} [Fintype ι] (D : EReal) (x : ι → EReal) (k : ι) : EReal := x k * Ideal.rsqrt (Norm.ms D x)

/-- Both head groups of a row, normalised, scaled and projected. -/
def mixRow (p a sp sa : Fin 512 → EReal) (w : Fin 1024 → Fin 1024 → EReal) (k : Fin 1024) : EReal :=
  (∑ l : Fin 512, nrm D5 p l * sp l * w (Fin.castAdd 512 l) k) + ∑ l : Fin 512, nrm D5 a l * sa l * w (Fin.natAdd 512 l) k

/-- The residual row. -/
def x2Row (x mix g : Fin 1024 → EReal) (k : Fin 1024) : EReal := x k + nrm D10 mix k * g k

/-- The normalised, scaled residual row. -/
def h2Row (x2 g : Fin 1024 → EReal) (k : Fin 1024) : EReal := nrm D10 x2 k * g k

/-- The expanding product's backward row, column block by column block. -/
def dhRow (du : Fin 8 → Fin 704 → EReal) (w : Fin 8 → Fin 704 → Fin 1024 → EReal) (k : Fin 1024) : EReal :=
  ∑ n : Fin 8, ∑ l : Fin 704, du n l * w n l k

/-- The residual row's gradient. -/
def dx2Row (dy x2 dh g : Fin 1024 → EReal) (k : Fin 1024) : EReal := dy k + Norm.nb D10 x2 (fun j => dh j * g j) k

/-- The output projection row's gradient. -/
def dmixRow (mix dx2 g : Fin 1024 → EReal) (k : Fin 1024) : EReal := Norm.nb D10 mix (fun j => dx2 j * g j) k

/-- The residual row's gradient of equal rows. -/
theorem dx2Row_congr {dy dy' x x' d d' g g' : Fin 1024 → EReal} (h1 : ∀ k, dy k = dy' k) (h2 : ∀ k, x k = x' k) (h3 : ∀ k, d k = d' k) (h4 : ∀ k, g k = g' k)
    (k : Fin 1024) : dx2Row dy x d g k = dx2Row dy' x' d' g' k := by
  obtain rfl := funext h1; obtain rfl := funext h2; obtain rfl := funext h3; obtain rfl := funext h4; rfl

/-- The projection row's gradient of equal rows. -/
theorem dmixRow_congr {x x' d d' g g' : Fin 1024 → EReal} (h2 : ∀ k, x k = x' k) (h3 : ∀ k, d k = d' k) (h4 : ∀ k, g k = g' k)
    (k : Fin 1024) : dmixRow x d g k = dmixRow x' d' g' k := by
  obtain rfl := funext h2; obtain rfl := funext h3; obtain rfl := funext h4; rfl

/-- The arguments, entry by entry. -/
structure Ins where
  /-- The step's input. -/
  x : Fin 16384 → Fin 1024 → EReal
  /-- The pooled heads' output. -/
  p : Fin 16384 → Fin 512 → EReal
  /-- The attention heads' output. -/
  a : Fin 16384 → Fin 512 → EReal
  /-- The pooled heads' scale. -/
  sp : Fin 512 → EReal
  /-- The attention heads' scale. -/
  sa : Fin 512 → EReal
  /-- The output projection. -/
  w : Fin 1024 → Fin 1024 → EReal
  /-- The projected row's scale. -/
  g2 : Fin 1024 → EReal
  /-- The residual row's scale. -/
  g3 : Fin 1024 → EReal
  /-- The expanding weights. -/
  wu : Fin 1024 → Fin 5632 → EReal
  /-- The residual's cotangent. -/
  dy : Fin 16384 → Fin 1024 → EReal
  /-- The expanding product's cotangent. -/
  du : Fin 16384 → Fin 5632 → EReal

/-- Column `l` of column block `n`. -/
def col (n : Fin 8) (l : Fin 704) : Fin 5632 := ⟨n.val * 704 + l.val, by omega⟩

namespace Ins

variable (I : Ins)

/-- The projected rows. -/
def mix (r : Fin 16384) : Fin 1024 → EReal := mixRow (I.p r) (I.a r) I.sp I.sa I.w
/-- The residual rows. -/
def x2 (r : Fin 16384) : Fin 1024 → EReal := x2Row (I.x r) (I.mix r) I.g2
/-- The rows the feed-forward block reads. -/
def h2 (r : Fin 16384) : Fin 1024 → EReal := h2Row (I.x2 r) I.g3
/-- The cotangent of those rows. -/
def dh (r : Fin 16384) : Fin 1024 → EReal := dhRow (fun n l => I.du r (col n l)) (fun n l k => I.wu k (col n l))
/-- The residual's gradient. -/
def dx2 (r : Fin 16384) : Fin 1024 → EReal := dx2Row (I.dy r) (I.x2 r) (I.dh r) I.g3
/-- The projection's gradient. -/
def dmix (r : Fin 16384) : Fin 1024 → EReal := dmixRow (I.mix r) (I.dx2 r) I.g2
/-- One row's part of the residual scale's gradient. -/
def dg3R (r : Fin 16384) (k : Fin 1024) : EReal := I.dh r k * nrm D10 (I.x2 r) k
/-- One row's part of the projected row's scale's gradient. -/
def dg2R (r : Fin 16384) (k : Fin 1024) : EReal := I.dx2 r k * nrm D10 (I.mix r) k

end Ins

/-- The entries of the argument arrays. -/
def mkIns (x : (⟨2, ![16384, 1024]⟩ : Shape).Idx → EReal) (p : (⟨2, ![16384, 512]⟩ : Shape).Idx → EReal) (a : (⟨2, ![16384, 512]⟩ : Shape).Idx → EReal) (sp : (⟨2, ![1, 512]⟩ : Shape).Idx → EReal) (sa : (⟨2, ![1, 512]⟩ : Shape).Idx → EReal) (w : (⟨3, ![1, 1024, 1024]⟩ : Shape).Idx → EReal) (g2 : (⟨2, ![1, 1024]⟩ : Shape).Idx → EReal) (g3 : (⟨2, ![1, 1024]⟩ : Shape).Idx → EReal) (wu : (⟨3, ![1, 1024, 5632]⟩ : Shape).Idx → EReal) (dy : (⟨2, ![16384, 1024]⟩ : Shape).Idx → EReal) (du : (⟨2, ![16384, 5632]⟩ : Shape).Idx → EReal) : Ins where
  x r k := x (ix2 r k)
  p r k := p (ix2 r k)
  a r k := a (ix2 r k)
  sp k := sp (ix2 0 k)
  sa k := sa (ix2 0 k)
  w l k := w (ix3 0 l k)
  g2 k := g2 (ix2 0 k)
  g3 k := g3 (ix2 0 k)
  wu k l := wu (ix3 0 k l)
  dy r k := dy (ix2 r k)
  du r l := du (ix2 r l)

/-- A two-axis array of extended reals from its entries. -/
def arr2 {a b : ℕ} (f : Fin a → Fin b → EReal) : (⟨2, ![a, b]⟩ : Shape).Idx → EReal := fun j => f (j 0) (j 1)

/-- Summing over the columns is summing over the column blocks and inside them. -/
theorem sum_col (f : Fin 5632 → EReal) : ∑ l : Fin 5632, f l = ∑ n : Fin 8, ∑ l : Fin 704, f (col n l) := by
  rw [← Fintype.sum_prod_type' (f := fun (n : Fin 8) (l : Fin 704) => f (col n l))]
  refine (Fintype.sum_equiv (finProdFinEquiv (m := 8) (n := 704)) _ _ fun p => ?_).symm
  refine congrArg f (Fin.ext ?_)
  simp [col, finProdFinEquiv]; omega

/-- Two two-axis arrays with the same entries are the same array. -/
theorem ext2 {a b : ℕ} (X : (⟨2, ![a, b]⟩ : Shape).Idx → EReal) (f : Fin a → Fin b → EReal) (h : ∀ i j, X (ix2 i j) = f i j) : X = arr2 f := by
  funext j
  have e : j = ix2 (j 0) (j 1) := by
    funext i
    fin_cases i <;> rfl
  exact (congrArg X e).trans (h _ _)

end Cert.Tok

namespace Cert.Ffn

open Cert.Tok (col)

/-- The logistic function as the programs write it. -/
def lgs (x : EReal) : EReal := Ideal.div 1 (1 + Ideal.exp (0 - x))

/-- A column, `j` rows later; zero past its end. -/
def lead {N : ℕ} (f : Fin N → EReal) (j : ℕ) (r : Fin N) : EReal := if h : r.val + j < N then f ⟨r.val + j, h⟩ else 0

/-- A column, `j` rows earlier; zero before its start. -/
def lag {N : ℕ} (f : Fin N → EReal) (j : ℕ) (r : Fin N) : EReal := if h : j ≤ r.val then f ⟨r.val - j, by omega⟩ else 0

/-- The causal convolution of a column. -/
def conv (b w0 w1 w2 : EReal) (f : Fin 16384 → EReal) (r : Fin 16384) : EReal := b + w0 * lag f 2 r + w1 * lag f 1 r + w2 * f r

/-- The convolution's backward pass over a column. -/
def back (w0 w1 w2 : EReal) (d : Fin 16384 → EReal) (r : Fin 16384) : EReal := w2 * d r + w1 * lead d 1 r + w0 * lead d 2 r

/-- The gate's gradient: of the gate's column. -/
def dGate (a g v : EReal) : EReal := a * v * (lgs g * (1 + g * (1 - lgs g)))

/-- The gate's gradient: of the value's column. -/
def dVal (a g : EReal) : EReal := a * (g * lgs g)

/-- The arguments, entry by entry. -/
structure Ins where
  /-- The block's input. -/
  h2 : Fin 16384 → Fin 1024 → EReal
  /-- The expanding weights. -/
  wu : Fin 1024 → Fin 5632 → EReal
  /-- The convolution's taps. -/
  cw : Fin 3 → Fin 5632 → EReal
  /-- The convolution's bias. -/
  cb : Fin 5632 → EReal
  /-- The contracting weights. -/
  wd : Fin 2816 → Fin 1024 → EReal
  /-- The block's output's cotangent. -/
  df : Fin 16384 → Fin 1024 → EReal

/-- Column `l` of the contracting weights' row block `s`. -/
def row (s : Fin 4) (l : Fin 704) : Fin 2816 := ⟨s.val * 704 + l.val, by omega⟩

/-- A gate's column block. -/
def lo (s : Fin 4) : Fin 8 := ⟨s.val, by omega⟩

/-- A value's column block. -/
def hi (s : Fin 4) : Fin 8 := ⟨s.val + 4, by omega⟩

namespace Ins

variable (I : Ins)

/-- The expanded rows. -/
def up (c : Fin 5632) (r : Fin 16384) : EReal := ∑ k : Fin 1024, I.h2 r k * I.wu k c
/-- The convolved rows. -/
def cv (c : Fin 5632) (r : Fin 16384) : EReal := conv (I.cb c) (I.cw 0 c) (I.cw 1 c) (I.cw 2 c) (I.up c) r
/-- The gated product's cotangent. -/
def da (s : Fin 4) (l : Fin 704) (r : Fin 16384) : EReal := ∑ d : Fin 1024, I.df r d * I.wd (row s l) d
/-- The convolved gate's cotangent. -/
def dg (s : Fin 4) (l : Fin 704) (r : Fin 16384) : EReal := dGate (I.da s l r) (I.cv (col (lo s) l) r) (I.cv (col (hi s) l) r)
/-- The convolved value's cotangent. -/
def dv (s : Fin 4) (l : Fin 704) (r : Fin 16384) : EReal := dVal (I.da s l r) (I.cv (col (lo s) l) r)
/-- The convolved rows' cotangent, by column block. -/
def du (n : Fin 8) (l : Fin 704) (r : Fin 16384) : EReal := if h : n.val < 4 then I.dg ⟨n.val, h⟩ l r else I.dv ⟨n.val - 4, by omega⟩ l r
/-- The expanded rows' gradient. -/
def dp (n : Fin 8) (r : Fin 16384) (l : Fin 704) : EReal := back (I.cw 0 (col n l)) (I.cw 1 (col n l)) (I.cw 2 (col n l)) (I.du n l) r
/-- The gated product. -/
def act (s : Fin 4) (l : Fin 704) (r : Fin 16384) : EReal := I.cv (col (lo s) l) r * lgs (I.cv (col (lo s) l) r) * I.cv (col (hi s) l) r
/-- The contracting weights' gradient. -/
def dwd (s : Fin 4) (l : Fin 704) (d : Fin 1024) : EReal := ∑ r : Fin 16384, I.act s l r * I.df r d
/-- The expanding weights' gradient. -/
def dwu (n : Fin 8) (k : Fin 1024) (l : Fin 704) : EReal := ∑ r : Fin 16384, I.h2 r k * I.dp n r l
/-- The bias's gradient. -/
def dcb (n : Fin 8) (_ : Fin 1) (l : Fin 704) : EReal := ∑ r : Fin 16384, I.du n l r
/-- The taps' gradient. -/
def dcw (n : Fin 8) (k : Fin 3) (l : Fin 704) : EReal := ∑ r : Fin 16384, lead (I.du n l) (2 - k.val) r * I.up (col n l) r

theorem du_lo (s : Fin 4) (l : Fin 704) (r : Fin 16384) : I.du (lo s) l r = I.dg s l r := by
  unfold du; rw [dif_pos (show (lo s).val < 4 from s.isLt)]; rfl

theorem du_hi (s : Fin 4) (l : Fin 704) (r : Fin 16384) : I.du (hi s) l r = I.dv s l r := by
  unfold du; rw [dif_neg (show ¬ (hi s).val < 4 by simp [hi])]; rfl

end Ins

/-- The arguments' arrays. -/
def ins (h : FVec Ideal ⟨2, ![16384, 1024]⟩ .f32) (wu : FVec Ideal ⟨3, ![1, 1024, 5632]⟩ .f32) (w : FVec Ideal ⟨3, ![1, 3, 5632]⟩ .f32)
    (b : FVec Ideal ⟨2, ![1, 5632]⟩ .f32) (wd : FVec Ideal ⟨3, ![1, 2816, 1024]⟩ .f32) (df : FVec Ideal ⟨2, ![16384, 1024]⟩ .f32) : Ins where
  h2 r k := h (ix2 r k)
  wu k c := wu (ix3 0 k c)
  cw k c := w (ix3 0 k c)
  cb c := b (ix2 0 c)
  wd q d := wd (ix3 0 q d)
  df r d := df (ix2 r d)

/-- An array of three axes from its entries. -/
def arr3 {a b c : ℕ} (f : Fin a → Fin b → Fin c → EReal) : (⟨3, ![a, b, c]⟩ : Shape).Idx → EReal := fun j => f (j 0) (j 1) (j 2)

/-- Equal arrays of three axes. -/
theorem ext3 {a b c : ℕ} {x y : (⟨3, ![a, b, c]⟩ : Shape).Idx → EReal} (h : ∀ i j k, x (ix3 i j k) = y (ix3 i j k)) : x = y := by
  funext j
  have e : j = ix3 (j 0) (j 1) (j 2) := by funext i; fin_cases i <;> rfl
  rw [e]; exact h _ _ _

/-- A lead moved to the other factor of a sum. -/
theorem sum_lead {N : ℕ} (f g : Fin N → EReal) (j : ℕ) : ∑ r, lead f j r * g r = ∑ r, f r * lag g j r := by
  unfold lead lag
  have h1 : ∑ r : Fin N, (if h : r.val + j < N then f ⟨r.val + j, h⟩ else 0) * g r
      = ∑ r ∈ Finset.univ.filter (fun r : Fin N => r.val + j < N), (if h : r.val + j < N then f ⟨r.val + j, h⟩ else 0) * g r := by
    rw [Finset.sum_filter]
    exact Finset.sum_congr rfl fun r _ => by split_ifs <;> simp_all
  have h2 : ∑ r : Fin N, f r * (if h : j ≤ r.val then g ⟨r.val - j, by omega⟩ else 0)
      = ∑ r ∈ Finset.univ.filter (fun r : Fin N => j ≤ r.val), f r * (if h : j ≤ r.val then g ⟨r.val - j, by omega⟩ else 0) := by
    rw [Finset.sum_filter]
    exact Finset.sum_congr rfl fun r _ => by split_ifs <;> simp_all
  rw [h1, h2]
  refine Finset.sum_bij' (fun r hr => ⟨r.val + j, (Finset.mem_filter.1 hr).2⟩) (fun r _ => ⟨r.val - j, by omega⟩) ?_ ?_ ?_ ?_ ?_
  · intro r hr; simp
  · intro r hr
    have := (Finset.mem_filter.1 hr).2
    simp only [Finset.mem_filter, Finset.mem_univ, true_and]
    omega
  · intro r hr; ext; simp
  · intro r hr
    have := (Finset.mem_filter.1 hr).2
    ext; simp only []; omega
  · intro r hr
    have := (Finset.mem_filter.1 hr).2
    rw [dif_pos this, dif_pos (by simp)]
    have e : (⟨r.val + j - j, by omega⟩ : Fin N) = r := by ext; simp
    exact congrArg (fun q => f ⟨r.val + j, this⟩ * g q) e.symm

end Cert.Ffn

end
-- ==== Proof.Merge.lean ====
/- The merge's backward pass (two normalised head groups, the output projection): the reference, the kernel, and the claim. -/
module

public import proofs.«01_k».proof.Proof.Gen.ReferenceIdeal.Run
public import proofs.«01_k».proof.Proof.NormBwd
public import Idealize.ShloMosaic.Lib.Pointwise
public import proofs.«01_k».proof.Proof.Gen.KernelIdeal.Frame
public import Idealize.ShloMosaic.Lib.Pipeline.ValueKit
public import proofs.«01_k».proof.Defs
public import Idealize.ShloMosaic.Lib.Claim

@[expose] public section

set_option maxRecDepth 16384

noncomputable section

open Idealize.ShloMosaic Idealize.ShloMosaic.TcCoe Idealize.SL.Sem
open Idealize.ShloMosaic.Pipeline (Dat)
namespace Cert.ReferenceIdeal.Stage

open Cert.ReferenceIdeal Cert.ReferenceIdeal.Gen Cert.ReferenceIdeal.Value

def vN (a2 : FVec Ideal S16384x512 .f32) : FVec Ideal S16384x1 .f32 :=
  (addf (Host.divf (broadcastInDim S16384x1 ![0] bcast_S16384_S16384x1_0 (Host.reduceAdd (mulf a2 a2) (constant S_ .f32 0x00000000#32) reducesTo_S16384x512_S16384_d1 h_S_)) (broadcastInDim S16384x1 ![] bcast_S_S16384x1 (constant S_ .f32 0x44000000#32))) (broadcastInDim S16384x1 ![] bcast_S_S16384x1 (constant S_ .f32 0x358637BD#32)))

def rN (a2 : FVec Ideal S16384x512 .f32) : FVec Ideal S16384x1 .f32 :=
  (Host.rsqrt (vN a2))

def nN (a2 : FVec Ideal S16384x512 .f32) : FVec Ideal S16384x512 .f32 :=
  (mulf a2 (broadcastInDim S16384x512 ![0, 1] bcast_S16384x1_S16384x512_0_1 (rN a2)))

def merged (a2 : FVec Ideal S16384x512 .f32) (a3 : FVec Ideal S16384x512 .f32) (a4 : FVec Ideal S1x512 .f32) (a5 : FVec Ideal S1x512 .f32) : FVec Ideal S16384x1024 .f32 :=
  ((fn_main_v34 (F := Ideal)) (mulf (nN a2) (broadcastInDim S16384x512 ![0, 1] bcast_S1x512_S16384x512_0_1 (broadcastInDim S1x512 ![1] bcast_S512_S1x512_1 (shapeCast S512 a4 shapeCasts_S1x512_S512)))) (mulf (nN a3) (broadcastInDim S16384x512 ![0, 1] bcast_S1x512_S16384x512_0_1 (broadcastInDim S1x512 ![1] bcast_S512_S1x512_1 (shapeCast S512 a5 shapeCasts_S1x512_S512)))))

def dMerged (a0 : FVec Ideal S16384x1024 .f32) (a1 : FVec Ideal S1x1024x1024 .f32) : FVec Ideal S16384x1024 .f32 :=
  (Host.dotGeneral dot_S16384x1024_S1024x1024_S16384x1024_1_1_0_0_n_n none a0 (shapeCast S1024x1024 a1 shapeCasts_S1x1024x1024_S1024x1024))

def ctA (a0 : FVec Ideal S16384x1024 .f32) (a1 : FVec Ideal S1x1024x1024 .f32) (a5 : FVec Ideal S1x512 .f32) : FVec Ideal S16384x512 .f32 :=
  (mulf (extractStridedSlice S16384x512 ![0, 512] (dMerged a0 a1) slices_S16384x1024_S16384x512_0_512) (broadcastInDim S16384x512 ![0, 1] bcast_S1x512_S16384x512_0_1 (broadcastInDim S1x512 ![1] bcast_S512_S1x512_1 (shapeCast S512 a5 shapeCasts_S1x512_S512))))

def dAs (a0 : FVec Ideal S16384x1024 .f32) (a1 : FVec Ideal S1x1024x1024 .f32) (a3 : FVec Ideal S16384x512 .f32) : FVec Ideal S1x512 .f32 :=
  (broadcastInDim S1x512 ![1] bcast_S512_S1x512_1 (Host.reduceAdd (shapeCast S1x512 (Host.reduceAdd (mulf (nN a3) (extractStridedSlice S16384x512 ![0, 512] (dMerged a0 a1) slices_S16384x1024_S16384x512_0_512)) (constant S_ .f32 0x00000000#32) reducesTo_S16384x512_S512_d0 h_S_) shapeCasts_S512_S1x512) (constant S_ .f32 0x00000000#32) reducesTo_S1x512_S512_d0 h_S_))

def tA (a0 : FVec Ideal S16384x1024 .f32) (a1 : FVec Ideal S1x1024x1024 .f32) (a3 : FVec Ideal S16384x512 .f32) (a5 : FVec Ideal S1x512 .f32) : FVec Ideal S16384 .f32 :=
  (Host.reduceAdd (mulf a3 (ctA a0 a1 a5)) (constant S_ .f32 0x00000000#32) reducesTo_S16384x512_S16384_d1 h_S_)

def dAttn (a0 : FVec Ideal S16384x1024 .f32) (a1 : FVec Ideal S1x1024x1024 .f32) (a3 : FVec Ideal S16384x512 .f32) (a5 : FVec Ideal S1x512 .f32) : FVec Ideal S16384x512 .f32 :=
  (addf (addf (mulf (ctA a0 a1 a5) (broadcastInDim S16384x512 ![0, 1] bcast_S16384x1_S16384x512_0_1 (rN a3))) (mulf a3 (broadcastInDim S16384x512 ![0] bcast_S16384_S16384x512_0 (Host.reduceAdd (Host.divf (mulf (shapeCast S16384x1 (tA a0 a1 a3 a5) shapeCasts_S16384_S16384x1) (mulf (broadcastInDim S16384x1 ![] bcast_S_S16384x1 (constant S_ .f32 0xBF000000#32)) (Host.divf (rN a3) (vN a3)))) (broadcastInDim S16384x1 ![] bcast_S_S16384x1 (constant S_ .f32 0x44000000#32))) (constant S_ .f32 0x00000000#32) reducesTo_S16384x1_S16384_d1 h_S_)))) (mulf (broadcastInDim S16384x512 ![0] bcast_S16384_S16384x512_0 (Host.reduceAdd (Host.divf (mulf (shapeCast S16384x1 (tA a0 a1 a3 a5) shapeCasts_S16384_S16384x1) (mulf (broadcastInDim S16384x1 ![] bcast_S_S16384x1 (constant S_ .f32 0xBF000000#32)) (Host.divf (rN a3) (vN a3)))) (broadcastInDim S16384x1 ![] bcast_S_S16384x1 (constant S_ .f32 0x44000000#32))) (constant S_ .f32 0x00000000#32) reducesTo_S16384x1_S16384_d1 h_S_)) a3))

def ctP (a0 : FVec Ideal S16384x1024 .f32) (a1 : FVec Ideal S1x1024x1024 .f32) (a4 : FVec Ideal S1x512 .f32) : FVec Ideal S16384x512 .f32 :=
  (mulf (extractStridedSlice S16384x512 ![0, 0] (dMerged a0 a1) slices_S16384x1024_S16384x512_0_0) (broadcastInDim S16384x512 ![0, 1] bcast_S1x512_S16384x512_0_1 (broadcastInDim S1x512 ![1] bcast_S512_S1x512_1 (shapeCast S512 a4 shapeCasts_S1x512_S512))))

def dPs (a0 : FVec Ideal S16384x1024 .f32) (a1 : FVec Ideal S1x1024x1024 .f32) (a2 : FVec Ideal S16384x512 .f32) : FVec Ideal S1x512 .f32 :=
  (broadcastInDim S1x512 ![1] bcast_S512_S1x512_1 (Host.reduceAdd (shapeCast S1x512 (Host.reduceAdd (mulf (nN a2) (extractStridedSlice S16384x512 ![0, 0] (dMerged a0 a1) slices_S16384x1024_S16384x512_0_0)) (constant S_ .f32 0x00000000#32) reducesTo_S16384x512_S512_d0 h_S_) shapeCasts_S512_S1x512) (constant S_ .f32 0x00000000#32) reducesTo_S1x512_S512_d0 h_S_))

def tP (a0 : FVec Ideal S16384x1024 .f32) (a1 : FVec Ideal S1x1024x1024 .f32) (a2 : FVec Ideal S16384x512 .f32) (a4 : FVec Ideal S1x512 .f32) : FVec Ideal S16384 .f32 :=
  (Host.reduceAdd (mulf a2 (ctP a0 a1 a4)) (constant S_ .f32 0x00000000#32) reducesTo_S16384x512_S16384_d1 h_S_)

def dPool (a0 : FVec Ideal S16384x1024 .f32) (a1 : FVec Ideal S1x1024x1024 .f32) (a2 : FVec Ideal S16384x512 .f32) (a4 : FVec Ideal S1x512 .f32) : FVec Ideal S16384x512 .f32 :=
  (addf (addf (mulf (ctP a0 a1 a4) (broadcastInDim S16384x512 ![0, 1] bcast_S16384x1_S16384x512_0_1 (rN a2))) (mulf a2 (broadcastInDim S16384x512 ![0] bcast_S16384_S16384x512_0 (Host.reduceAdd (Host.divf (mulf (shapeCast S16384x1 (tP a0 a1 a2 a4) shapeCasts_S16384_S16384x1) (mulf (broadcastInDim S16384x1 ![] bcast_S_S16384x1 (constant S_ .f32 0xBF000000#32)) (Host.divf (rN a2) (vN a2)))) (broadcastInDim S16384x1 ![] bcast_S_S16384x1 (constant S_ .f32 0x44000000#32))) (constant S_ .f32 0x00000000#32) reducesTo_S16384x1_S16384_d1 h_S_)))) (mulf (broadcastInDim S16384x512 ![0] bcast_S16384_S16384x512_0 (Host.reduceAdd (Host.divf (mulf (shapeCast S16384x1 (tP a0 a1 a2 a4) shapeCasts_S16384_S16384x1) (mulf (broadcastInDim S16384x1 ![] bcast_S_S16384x1 (constant S_ .f32 0xBF000000#32)) (Host.divf (rN a2) (vN a2)))) (broadcastInDim S16384x1 ![] bcast_S_S16384x1 (constant S_ .f32 0x44000000#32))) (constant S_ .f32 0x00000000#32) reducesTo_S16384x1_S16384_d1 h_S_)) a2))

def dW (a0 : FVec Ideal S16384x1024 .f32) (a2 : FVec Ideal S16384x512 .f32) (a3 : FVec Ideal S16384x512 .f32) (a4 : FVec Ideal S1x512 .f32) (a5 : FVec Ideal S1x512 .f32) : FVec Ideal S1024x1024 .f32 :=
  (shapeCast S1024x1024 (broadcastInDim S1x1024x1024 ![1, 2] bcast_S1024x1024_S1x1024x1024_1_2 (transpose S1024x1024 [1, 0] (Host.dotGeneral dot_S16384x1024_S16384x1024_S1024x1024_0_0_1_1_n_n none a0 (merged a2 a3 a4 a5)) transposes_S1024x1024_S1024x1024_1_0)) shapeCasts_S1x1024x1024_S1024x1024)

/-- The backward product of the output projection: row `r`, merged feature `k`. -/
def dm (a0 : FVec Ideal S16384x1024 .f32) (a1 : FVec Ideal S1x1024x1024 .f32) (r : Fin 16384) (k : Fin 1024) : EReal :=
  ∑ l : Fin 1024, a0 (ix2 r l) * a1 (ix3 0 k l)

/-- The root's argument, at a row. -/
theorem vN_at (a : FVec Ideal S16384x512 .f32) (r : Fin 16384) (k : Fin 1) :
    vN a (ix2 r k) = Norm.ms (Ideal.ofBits .f32 0x44000000#32) (fun j : Fin 512 => a (ix2 r j)) := by
  pointwise [vN, Norm.ms]

/-- The pooled head group's gradient at row `r`, feature `k`. -/
theorem dPool_at (a0 a1 a2 a4) (r : Fin 16384) (k : Fin 512) : dPool a0 a1 a2 a4 (ix2 r k) = Norm.nb (Ideal.ofBits .f32 0x44000000#32) (fun j : Fin 512 => a2 (ix2 r j))
      (fun j => dm a0 a1 r ⟨j.val, by omega⟩ * a4 (ix2 0 j)) k := by
  rw [← Norm.nb_eq _ Norm.c512 (by norm_num)]
  pointwise [dPool, tP, ctP, dMerged, rN, dm]
  simp only [Fin.sum_univ_one, vN_at]

/-- The attention head group's gradient at row `r`, feature `k`. -/
theorem dAttn_at (a0 a1 a2 a4) (r : Fin 16384) (k : Fin 512) : dAttn a0 a1 a2 a4 (ix2 r k) = Norm.nb (Ideal.ofBits .f32 0x44000000#32) (fun j : Fin 512 => a2 (ix2 r j))
      (fun j => dm a0 a1 r ⟨512 + j.val, by omega⟩ * a4 (ix2 0 j)) k := by
  rw [← Norm.nb_eq _ Norm.c512 (by norm_num)]
  pointwise [dAttn, tA, ctA, dMerged, rN, dm]
  simp only [Fin.sum_univ_one, vN_at]

/-- The normalised row. -/
def nrm (a : FVec Ideal S16384x512 .f32) (r : Fin 16384) (k : Fin 512) : EReal :=
  a (ix2 r k) * Ideal.rsqrt (Norm.ms (Ideal.ofBits .f32 0x44000000#32) (fun j : Fin 512 => a (ix2 r j)))

/-- The pooled heads' scale gradient. -/
theorem dPs_at (a0 a1 a2) (r : Fin 1) (k : Fin 512) : dPs a0 a1 a2 (ix2 r k) = ∑ s : Fin 16384, nrm a2 s k * dm a0 a1 s ⟨k.val, by omega⟩ := by
  pointwise [dPs, nN, dMerged, rN, dm, nrm]
  simp only [Fin.sum_univ_one, vN_at]

/-- The attention heads' scale gradient. -/
theorem dAs_at (a0 a1 a2) (r : Fin 1) (k : Fin 512) : dAs a0 a1 a2 (ix2 r k) = ∑ s : Fin 16384, nrm a2 s k * dm a0 a1 s ⟨512 + k.val, by omega⟩ := by
  pointwise [dAs, nN, dMerged, rN, dm, nrm]
  simp only [Fin.sum_univ_one, vN_at]

/-- The merged row that entered the output projection. -/
def mrg (a2 a3 : FVec Ideal S16384x512 .f32) (a4 a5 : FVec Ideal S1x512 .f32) (r : Fin 16384) (k : Fin 1024) : EReal :=
  if h : k.val < 512 then nrm a2 r ⟨k.val, h⟩ * a4 (ix2 0 ⟨k.val, h⟩)
  else nrm a3 r ⟨k.val - 512, by omega⟩ * a5 (ix2 0 ⟨k.val - 512, by omega⟩)

/-- The output projection's weight gradient. -/
theorem dW_at (a0 a2 a3 a4 a5) (r : Fin 1024) (k : Fin 1024) : dW a0 a2 a3 a4 a5 (ix2 r k) = ∑ s : Fin 16384, a0 (ix2 s k) * mrg a2 a3 a4 a5 s r := by
  pointwise [dW, merged, fn_main_v34, nN, rN, mrg, nrm]
  simp only [vN_at]

section Run

variable (m : (ℓ : Loc nD τ sig) → Buf (Elt Ideal) ℓ) (ρ : Dev nD → PrngReg)

/-- The reference's run, its results named by the stages above. -/
theorem run_stages : θ_run defs (onTc (τ := τ) (main (F := Ideal))) ⟨m, fun _ => 0, ρ⟩ fun r => ∀ c : Dev nD,
      r.2.mem (c.tc.loc main_v84) = dPool (m (c.tc.loc main_arg0)) (m (c.tc.loc main_arg1))
          (m (c.tc.loc main_arg2)) (m (c.tc.loc main_arg4))
      ∧ r.2.mem (c.tc.loc main_v63) = dAttn (m (c.tc.loc main_arg0)) (m (c.tc.loc main_arg1))
          (m (c.tc.loc main_arg3)) (m (c.tc.loc main_arg5))
      ∧ r.2.mem (c.tc.loc main_v85) = dW (m (c.tc.loc main_arg0)) (m (c.tc.loc main_arg2))
          (m (c.tc.loc main_arg3)) (m (c.tc.loc main_arg4)) (m (c.tc.loc main_arg5))
      ∧ r.2.mem (c.tc.loc main_v70) = dPs (m (c.tc.loc main_arg0)) (m (c.tc.loc main_arg1))
          (m (c.tc.loc main_arg2))
      ∧ r.2.mem (c.tc.loc main_v49) = dAs (m (c.tc.loc main_arg0)) (m (c.tc.loc main_arg1))
          (m (c.tc.loc main_arg3))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5) :=
  (θ_run defs _ _).mono (fun r h c => ⟨(h c).1.trans rfl, (h c).2.1.trans rfl, (h c).2.2.1.trans rfl, (h c).2.2.2.1.trans rfl,
    (h c).2.2.2.2.1.trans rfl, (h c).2.2.2.2.2⟩) (run m ρ)

end Run

end Cert.ReferenceIdeal.Stage

namespace Cert.KernelIdeal.Value

open Cert.KernelIdeal Cert.KernelIdeal.Gen

variable (m : (ℓ : Loc nD τ sig) → Buf (Elt Ideal) ℓ)

/-- The windows' block indices at every grid point. -/
theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![0, 0] ∧ win0_6.index t = ![t.val, 0]
    ∧ win0_7.index t = ![t.val, 0] ∧ win0_8.index t = ![0, 0] ∧ win0_9.index t = ![0, 0] ∧ win0_10.index t = ![0, 0] :=
  (by decide +kernel : ∀ t : Fin grid0.N, _)

/-- The last grid point. -/
def lastPt : Fin cfg0.N := ⟨31, by decide⟩

/-- Pooled heads: what the body stores at row `r`, feature `k`, from the blocks it read. -/
theorem pool_pay (dmx : FVec Ideal S512x1024 .bf16) (w : FVec Ideal S1024x1024 .bf16) (p : FVec Ideal S512x512 .f32) (s : Vec Ideal S1x512 .f32) (r : Fin 512) (k : Fin 512) :
    k0_pay18 (F := Ideal) (k0_pay6 dmx w) (k0_pay7 p) (k0_pay9 p) s (ix2 r k)
      = Norm.nb (Ideal.ofBits .f32 0x44000000#32) (fun j : Fin 512 => p (ix2 r j))
          (fun j => (∑ l : Fin 1024, dmx (ix2 r l) * w (ix2 ⟨j.val, by omega⟩ l)) * s (ix2 0 j)) k := by
  pointwise [k0_pay18, k0_pay6, k0_pay5, k0_pay7, k0_pay9, k0_pay14, Norm.nb, Norm.ms]

/-- Attention heads: what the body stores at row `r`, feature `k`, from the blocks it read. -/
theorem attn_pay (dmx : FVec Ideal S512x1024 .bf16) (w : FVec Ideal S1024x1024 .bf16) (p : FVec Ideal S512x512 .f32) (s : Vec Ideal S1x512 .f32) (r : Fin 512) (k : Fin 512) :
    k0_pay1 (F := Ideal) (k0_pay8 p) (k0_pay10 p) (k0_pay15 (k0_pay6 dmx w)) s (ix2 r k)
      = Norm.nb (Ideal.ofBits .f32 0x44000000#32) (fun j : Fin 512 => p (ix2 r j))
          (fun j => (∑ l : Fin 1024, dmx (ix2 r l) * w (ix2 ⟨512 + j.val, by omega⟩ l)) * s (ix2 0 j)) k := by
  pointwise [k0_pay1, k0_pay6, k0_pay5, k0_pay8, k0_pay10, k0_pay15, Norm.nb, Norm.ms]

/-- A block's normalised entry. -/
def nrmB (a : FVec Ideal S512x512 .f32) (r : Fin 512) (k : Fin 512) : EReal :=
  a (ix2 r k) * Ideal.rsqrt (Norm.ms (Ideal.ofBits .f32 0x44000000#32) (fun j : Fin 512 => a (ix2 r j)))

/-- A block's merged entry. -/
def mrgB (p q : FVec Ideal S512x512 .f32) (s u : Vec Ideal S1x512 .f32) (r : Fin 512) (k : Fin 1024) : EReal :=
  if h : k.val < 512 then nrmB p r ⟨k.val, h⟩ * s (ix2 0 ⟨k.val, h⟩)
  else nrmB q r ⟨k.val - 512, by omega⟩ * u (ix2 0 ⟨k.val - 512, by omega⟩)

/-- The weight gradient's step: what was there plus this block's rows' products. -/
theorem dw_pay (dmx : FVec Ideal S512x1024 .bf16) (p q : FVec Ideal S512x512 .f32) (s u : Vec Ideal S1x512 .f32) (acc : Vec Ideal S1024x1024 .f32) (r k : Fin 1024) :
    k0_pay13 (F := Ideal) (k0_pay5 dmx) (k0_pay11 p s) (k0_pay12 q u) acc (ix2 r k)
      = (acc (ix2 r k) : EReal) + ∑ l : Fin 512, dmx (ix2 l k) * mrgB p q s u l r := by
  pointwise [k0_pay13, k0_pay5, k0_pay7, k0_pay8, k0_pay9, k0_pay10, k0_pay11, k0_pay12, mrgB, nrmB, Norm.ms]
  congr 1
  exact Finset.sum_congr rfl fun l _ => mul_comm _ _

/-- The pooled scale gradient's step. -/
theorem dps_pay (dmx : FVec Ideal S512x1024 .bf16) (w : FVec Ideal S1024x1024 .bf16) (p : FVec Ideal S512x512 .f32) (acc : Vec Ideal S1x512 .f32) (k : Fin 512) :
    k0_pay16 (F := Ideal) (k0_pay6 dmx w) (k0_pay9 p) acc (ix2 0 k)
      = (acc (ix2 0 k) : EReal) + ∑ l : Fin 512, nrmB p l k * ∑ j : Fin 1024, dmx (ix2 l j) * w (ix2 ⟨k.val, by omega⟩ j) := by
  pointwise [k0_pay16, k0_pay6, k0_pay5, k0_pay7, k0_pay9, k0_pay14, nrmB, Norm.ms]
  congr 1
  exact Finset.sum_congr rfl fun l _ => mul_comm _ _

/-- The attention scale gradient's step. -/
theorem das_pay (dmx : FVec Ideal S512x1024 .bf16) (w : FVec Ideal S1024x1024 .bf16) (p : FVec Ideal S512x512 .f32) (acc : Vec Ideal S1x512 .f32) (k : Fin 512) :
    k0_pay17 (F := Ideal) (k0_pay6 dmx w) (k0_pay10 p) acc (ix2 0 k)
      = (acc (ix2 0 k) : EReal) + ∑ l : Fin 512, nrmB p l k * ∑ j : Fin 1024, dmx (ix2 l j) * w (ix2 ⟨512 + k.val, by omega⟩ j) := by
  pointwise [k0_pay17, k0_pay6, k0_pay5, k0_pay8, k0_pay10, k0_pay15, nrmB, Norm.ms]
  congr 1
  exact Finset.sum_congr rfl fun l _ => mul_comm _ _

/-- The kernel's product of a cotangent row with the projection, from the blocks, is the reference's. -/
theorem dm_blk (c : Dev nD) (t : Fin cfg0.N) (r : Fin 512) (j0 : Fin 16384) (hj : (j0 : ℕ) = t.val * 512 + (r : ℕ)) (k : Fin 1024) :
    (∑ l : Fin 1024, (show FVec Ideal S512x1024 .bf16 from iblk m c 0 t) (ix2 r l) * (show FVec Ideal S1024x1024 .bf16 from iblk m c 1 t) (ix2 k l))
      = Cert.ReferenceIdeal.Stage.dm (m (c.tc.loc main_arg0)) (m (c.tc.loc main_arg1)) j0 k := by
  unfold Cert.ReferenceIdeal.Stage.dm
  blk_point [iblk, V, idx t]

/-- The pooled heads' block, read at an index. -/
theorem p_blk (c : Dev nD) (t : Fin cfg0.N) (r : Fin 512) (j0 : Fin 16384) (hj : (j0 : ℕ) = t.val * 512 + (r : ℕ)) (k : Fin 512) :
    (show FVec Ideal S512x512 .f32 from iblk m c 2 t) (ix2 r k) = m (c.tc.loc main_arg2) (ix2 j0 k) := by
  blk_point [iblk, V, idx t]

/-- The attention heads' block, read at an index. -/
theorem q_blk (c : Dev nD) (t : Fin cfg0.N) (r : Fin 512) (j0 : Fin 16384) (hj : (j0 : ℕ) = t.val * 512 + (r : ℕ)) (k : Fin 512) :
    (show FVec Ideal S512x512 .f32 from iblk m c 3 t) (ix2 r k) = m (c.tc.loc main_arg3) (ix2 j0 k) := by
  blk_point [iblk, V, idx t]

/-- The pooled scale's block is its array. -/
theorem s_blk (c : Dev nD) (t : Fin cfg0.N) (k : Fin 512) : (show FVec Ideal S1x512 .f32 from iblk m c 4 t) (ix2 0 k) = m (c.tc.loc main_arg4) (ix2 0 k) := by
  blk_point [iblk, V, idx t]

/-- The attention scale's block is its array. -/
theorem u_blk (c : Dev nD) (t : Fin cfg0.N) (k : Fin 512) : (show FVec Ideal S1x512 .f32 from iblk m c 5 t) (ix2 0 k) = m (c.tc.loc main_arg5) (ix2 0 k) := by
  blk_point [iblk, V, idx t]

open Cert.ReferenceIdeal.Stage in
/-- Pooled heads: the stored value is the reference's at the row's place in the array. -/
theorem pool_point (c : Dev nD) (t : Fin cfg0.N) (y : S512x512.Idx) (j : S16384x512.Idx) (hj0 : (j 0 : ℕ) = t.val * 512 + (y 0 : ℕ)) (hj1 : (j 1 : ℕ) = (y 1 : ℕ)) :
    k0_pay18 (F := Ideal) (k0_pay6 (iblk m c 0 t) (iblk m c 1 t)) (k0_pay7 (iblk m c 2 t)) (k0_pay9 (iblk m c 2 t)) (iblk m c 4 t) y
      = dPool (m (c.tc.loc main_arg0)) (m (c.tc.loc main_arg1))
        (m (c.tc.loc main_arg2)) (m (c.tc.loc main_arg4)) j := by
  idx_vars y
  idx_vars j
  refine (pool_pay _ _ _ _ y0 y1).trans (Eq.trans ?_ (dPool_at _ _ _ _ j0 j1).symm)
  obtain rfl : j1 = y1 := Fin.ext hj1
  exact congrArg₂ (fun x c => Norm.nb _ x c j1) (funext fun k => p_blk m c t y0 j0 hj0 k)
    (funext fun k => congrArg₂ (· * ·) (dm_blk m c t y0 j0 hj0 _) (s_blk m c t k))

open Cert.ReferenceIdeal.Stage in
/-- Attention heads: the stored value is the reference's at the row's place in the array. -/
theorem attn_point (c : Dev nD) (t : Fin cfg0.N) (y : S512x512.Idx) (j : S16384x512.Idx) (hj0 : (j 0 : ℕ) = t.val * 512 + (y 0 : ℕ)) (hj1 : (j 1 : ℕ) = (y 1 : ℕ)) :
    k0_pay1 (F := Ideal) (k0_pay8 (iblk m c 3 t)) (k0_pay10 (iblk m c 3 t)) (k0_pay15 (k0_pay6 (iblk m c 0 t) (iblk m c 1 t))) (iblk m c 5 t) y
      = dAttn (m (c.tc.loc main_arg0)) (m (c.tc.loc main_arg1))
        (m (c.tc.loc main_arg3)) (m (c.tc.loc main_arg5)) j := by
  idx_vars y
  idx_vars j
  refine (attn_pay _ _ _ _ y0 y1).trans (Eq.trans ?_ (dAttn_at _ _ _ _ j0 j1).symm)
  obtain rfl : j1 = y1 := Fin.ext hj1
  exact congrArg₂ (fun x c => Norm.nb _ x c j1) (funext fun k => q_blk m c t y0 j0 hj0 k)
    (funext fun k => congrArg₂ (· * ·) (dm_blk m c t y0 j0 hj0 _) (u_blk m c t k))

/-- The pooled heads' gradient array after the run is the reference's. -/
theorem final6 (c : Dev nD) : (dats m 0 c).arrAt 6 (cfgs 0).N = Cert.ReferenceIdeal.Stage.dPool (m (c.tc.loc main_arg0)) (m (c.tc.loc main_arg1))
        (m (c.tc.loc main_arg2)) (m (c.tc.loc main_arg4)) := by
  refine (dats m 0 c).arrAt_eq_of_covers 6 _ (by decide +kernel) fun t _ y => ?_
  blk_simp
  rw [after0_6]
  by_cases h0 : t.val % 32 = 0
  · rw [outsAt0_A m c t h0]; frame_out
    refine pool_point m c t y _ ?_ ?_ <;> (blk_simp [idx t] <;> try omega)
  · rw [outsAt0_B m c t h0]; frame_out
    refine pool_point m c t y _ ?_ ?_ <;> (blk_simp [idx t] <;> try omega)

/-- The attention heads' gradient array after the run is the reference's. -/
theorem final7 (c : Dev nD) : (dats m 0 c).arrAt 7 (cfgs 0).N = Cert.ReferenceIdeal.Stage.dAttn (m (c.tc.loc main_arg0)) (m (c.tc.loc main_arg1))
        (m (c.tc.loc main_arg3)) (m (c.tc.loc main_arg5)) := by
  refine (dats m 0 c).arrAt_eq_of_covers 7 _ (by decide +kernel) fun t _ y => ?_
  blk_simp
  rw [after0_7]
  by_cases h0 : t.val % 32 = 0
  · rw [outsAt0_A m c t h0]; frame_out
    refine attn_point m c t y _ ?_ ?_ <;> (blk_simp [idx t] <;> try omega)
  · rw [outsAt0_B m c t h0]; frame_out
    refine attn_point m c t y _ ?_ ?_ <;> (blk_simp [idx t] <;> try omega)

/-- The zero fills. -/
theorem zero8 (j) : k0_pay2 (F := Ideal) j = 0 := by pointwise [k0_pay2]
theorem zero9 (j) : k0_pay3 (F := Ideal) j = 0 := by pointwise [k0_pay3]
theorem zero10 (j) : k0_pay4 (F := Ideal) j = 0 := by pointwise [k0_pay4]

/-- A block's normalised entry is the array's. -/
theorem nrm_p (c : Dev nD) (t : Fin cfg0.N) (r : Fin 512) (j0 : Fin 16384) (hj : (j0 : ℕ) = t.val * 512 + (r : ℕ)) (k : Fin 512) :
    nrmB (iblk m c 2 t) r k = Cert.ReferenceIdeal.Stage.nrm (m (c.tc.loc main_arg2)) j0 k :=
  congrArg₂ (fun a x => a * Ideal.rsqrt (Norm.ms (ι := Fin 512) _ x)) (p_blk m c t r j0 hj k) (funext fun i => p_blk m c t r j0 hj i)

/-- A block's normalised entry is the array's. -/
theorem nrm_q (c : Dev nD) (t : Fin cfg0.N) (r : Fin 512) (j0 : Fin 16384) (hj : (j0 : ℕ) = t.val * 512 + (r : ℕ)) (k : Fin 512) :
    nrmB (iblk m c 3 t) r k = Cert.ReferenceIdeal.Stage.nrm (m (c.tc.loc main_arg3)) j0 k :=
  congrArg₂ (fun a x => a * Ideal.rsqrt (Norm.ms (ι := Fin 512) _ x)) (q_blk m c t r j0 hj k) (funext fun i => q_blk m c t r j0 hj i)

/-- A block's merged entry is the array's. -/
theorem mrg_blk (c : Dev nD) (t : Fin cfg0.N) (r : Fin 512) (j0 : Fin 16384) (hj : (j0 : ℕ) = t.val * 512 + (r : ℕ)) (k : Fin 1024) :
    mrgB (iblk m c 2 t) (iblk m c 3 t) (iblk m c 4 t) (iblk m c 5 t) r k = Cert.ReferenceIdeal.Stage.mrg (m (c.tc.loc main_arg2)) (m (c.tc.loc main_arg3))
        (m (c.tc.loc main_arg4)) (m (c.tc.loc main_arg5)) j0 k := by
  unfold mrgB Cert.ReferenceIdeal.Stage.mrg
  by_cases h : k.val < 512
  · rw [dif_pos h, dif_pos h]
    exact congrArg₂ (· * ·) (nrm_p m c t r j0 hj _) (s_blk m c t _)
  · rw [dif_neg h, dif_neg h]
    exact congrArg₂ (· * ·) (nrm_q m c t r j0 hj _) (u_blk m c t _)

/-- The cotangent's block, read at an index. -/
theorem d_blk (c : Dev nD) (t : Fin cfg0.N) (r : Fin 512) (j0 : Fin 16384) (hj : (j0 : ℕ) = t.val * 512 + (r : ℕ)) (k : Fin 1024) :
    (show FVec Ideal S512x1024 .bf16 from iblk m c 0 t) (ix2 r k) = m (c.tc.loc main_arg0) (ix2 j0 k) := by
  blk_point [iblk, V, idx t]

/-- The output projection's weight gradient after the run is the reference's. -/
theorem final8 (c : Dev nD) : (dats m 0 c).arrAt 8 (cfgs 0).N = Cert.ReferenceIdeal.Stage.dW (m (c.tc.loc main_arg0)) (m (c.tc.loc main_arg2))
        (m (c.tc.loc main_arg3)) (m (c.tc.loc main_arg4)) (m (c.tc.loc main_arg5)) := by
  refine (dats m 0 c).arrAt_eq_of_after_last 8 lastPt (by decide +kernel) _ fun j => ?_
  blk_simp
  idx_vars j
  rw [after0_8, Pipeline.eq_sum_fin_of_reset_step_apply_last (fun n h => (outsAt0 m c n h).2.2.1) 32 (fun _ => 0)
    (fun p j => ∑ l : Fin 512, (show FVec Ideal S512x1024 .bf16 from iblk m c 0 p) (ix2 l (j 1))
      * mrgB (iblk m c 2 p) (iblk m c 3 p) (iblk m c 4 p) (iblk m c 5 p) l (j 0))
    (fun t h j => by
      rw [outsAt0_A m c t h]; frame_out; idx_vars j
      exact (dw_pay _ _ _ _ _ _ j0 j1).trans (congrArg (· + _) (zero8 _)))
    (fun t h j => by rw [outsAt0_B m c t h]; frame_out; idx_vars j; exact dw_pay _ _ _ _ _ _ j0 j1)
    (le_of_eq N_0) lastPt rfl _, zero_add]
  refine Eq.trans ?_ (Cert.ReferenceIdeal.Stage.dW_at _ _ _ _ _ j0 j1).symm
  refine Fin.sum_mul_add_congr fun t l hl => ?_
  exact congrArg₂ (· * ·) (d_blk m c t l ⟨_, hl⟩ rfl j1) (mrg_blk m c t l ⟨_, hl⟩ rfl j0)

/-- The pooled heads' scale's gradient after the run is the reference's. -/
theorem final9 (c : Dev nD) : (dats m 0 c).arrAt 9 (cfgs 0).N = Cert.ReferenceIdeal.Stage.dPs (m (c.tc.loc main_arg0)) (m (c.tc.loc main_arg1))
        (m (c.tc.loc main_arg2)) := by
  refine (dats m 0 c).arrAt_eq_of_after_last 9 lastPt (by decide +kernel) _ fun j => ?_
  blk_simp
  idx_vars j
  obtain rfl := j0.eq_zero
  rw [after0_9, Pipeline.eq_sum_fin_of_reset_step_apply_last (fun n h => (outsAt0 m c n h).2.2.2.1) 32 (fun _ => 0)
    (fun p (j : S1x512.Idx) => ∑ l : Fin 512, nrmB (iblk m c 2 p) l (j 1)
      * ∑ i : Fin 1024, (show FVec Ideal S512x1024 .bf16 from iblk m c 0 p) (ix2 l i)
        * (show FVec Ideal S1024x1024 .bf16 from iblk m c 1 p) (ix2 ⟨(j 1).val, by have : (j 1).val < 512 := (j 1).isLt; omega⟩ i))
    (fun t h j => by
      rw [outsAt0_A m c t h]; frame_out; idx_vars j
      obtain rfl := j0.eq_zero
      exact (dps_pay _ _ _ _ j1).trans (congrArg (· + _) (zero9 _)))
    (fun t h j => by
      rw [outsAt0_B m c t h]; frame_out; idx_vars j
      obtain rfl := j0.eq_zero
      exact dps_pay _ _ _ _ j1)
    (le_of_eq N_0) lastPt rfl _, zero_add]
  refine Eq.trans ?_ (Cert.ReferenceIdeal.Stage.dPs_at _ _ _ 0 j1).symm
  refine Fin.sum_mul_add_congr fun t l hl => ?_
  exact congrArg₂ (· * ·) (nrm_p m c t l ⟨_, hl⟩ rfl j1) (dm_blk m c t l ⟨_, hl⟩ rfl _)

/-- The attention heads' scale's gradient after the run is the reference's. -/
theorem final10 (c : Dev nD) : (dats m 0 c).arrAt 10 (cfgs 0).N = Cert.ReferenceIdeal.Stage.dAs (m (c.tc.loc main_arg0)) (m (c.tc.loc main_arg1))
        (m (c.tc.loc main_arg3)) := by
  refine (dats m 0 c).arrAt_eq_of_after_last 10 lastPt (by decide +kernel) _ fun j => ?_
  blk_simp
  idx_vars j
  obtain rfl := j0.eq_zero
  rw [after0_10, Pipeline.eq_sum_fin_of_reset_step_apply_last (fun n h => (outsAt0 m c n h).2.2.2.2) 32 (fun _ => 0)
    (fun p (j : S1x512.Idx) => ∑ l : Fin 512, nrmB (iblk m c 3 p) l (j 1)
      * ∑ i : Fin 1024, (show FVec Ideal S512x1024 .bf16 from iblk m c 0 p) (ix2 l i)
        * (show FVec Ideal S1024x1024 .bf16 from iblk m c 1 p) (ix2 ⟨512 + (j 1).val, by have : (j 1).val < 512 := (j 1).isLt; omega⟩ i))
    (fun t h j => by
      rw [outsAt0_A m c t h]; frame_out; idx_vars j
      obtain rfl := j0.eq_zero
      exact (das_pay _ _ _ _ j1).trans (congrArg (· + _) (zero10 _)))
    (fun t h j => by
      rw [outsAt0_B m c t h]; frame_out; idx_vars j
      obtain rfl := j0.eq_zero
      exact das_pay _ _ _ _ j1)
    (le_of_eq N_0) lastPt rfl _, zero_add]
  refine Eq.trans ?_ (Cert.ReferenceIdeal.Stage.dAs_at _ _ _ 0 j1).symm
  refine Fin.sum_mul_add_congr fun t l hl => ?_
  exact congrArg₂ (· * ·) (nrm_q m c t l ⟨_, hl⟩ rfl j1) (dm_blk m c t l ⟨_, hl⟩ rfl _)

end Cert.KernelIdeal.Value

namespace Cert.Proof

open Idealize.ShloMosaic Idealize.ShloMosaic.TcCoe Idealize.SL.Sem

/-- All five results of the merge's backward pass, for every argument. -/
theorem merge : Cert.algebraic_KernelIdeal_ReferenceIdeal := by
  pair_intro
  · run_from Cert.KernelIdeal.Gen.run_main m g
  · refine (θ_run _ _ _).mono (fun r h c => ?_) (Cert.ReferenceIdeal.Stage.run_stages m' g')
    obtain ⟨e0, e1, e2, e3, e4, e5⟩ := hagree c
    obtain ⟨h0, h1, h2, h3, h4, k⟩ := h c
    rw [e0, e1, e2, e4] at h0
    rw [e0, e1, e3, e5] at h1
    rw [e0, e2, e3, e4, e5] at h2
    rw [e0, e1, e2] at h3
    rw [e0, e1, e3] at h4
    have f0 := Cert.KernelIdeal.Value.final6 m c
    have f1 := Cert.KernelIdeal.Value.final7 m c
    have f2 := Cert.KernelIdeal.Value.final8 m c
    have f3 := Cert.KernelIdeal.Value.final9 m c
    have f4 := Cert.KernelIdeal.Value.final10 m c
    refine ⟨?_, ?_, ?_, ?_, ?_, k⟩
    · rw [f0]; exact h0
    · rw [f1]; exact h1
    · rw [f2]; exact h2
    · rw [f3]; exact h3
    · rw [f4]; exact h4

end Cert.Proof

end
-- ==== Proof.AttnDef.lean ====
/-
  The attention backward kernel in this proof's own words. The pure part of one grid step is written as a handful of
  functions: the two heads a 128-lane tile holds, the scores of a block of keys, the running row sums, the sums over
  later keys, the attention weights, and the gradient of the scores. The kernel's memory operations are written over them
  as three programs: one trip of the loop that only sums (`farProg`), one trip of the loop that also accumulates the
  gradients (`stepProg`), and the grid step (`bodyProg`). AttnRun.lean proves the printed functions equal to these.

  The attention backward kernel's tile functions over the reals. A tile whose entries are real numbers is described by a
  function of two natural numbers (`Is`); each function of AttnDef.lean is then a plain formula: a score is a scaled
  product, the two triangular products are sums over the later keys, and the pieces the kernel splits a number into
  add up to the number.

  The tiles of the attention backward kernel against the whole rows. For one head, `Z i j` is the score of row `i` against
  key `j` and `D i j` the gradient that meets the weight; `W`, `G` and `DZ` are the weight, the weighted gradient and the
  gradient of the score, as sums over the keys before the row. A far tile (128 keys) and the near window (256 keys) hold
  these very numbers when what is carried into them are the sums over the later keys.
-/
module

public import proofs.«01_k».proof.Proof.Gen.Kernel2Ideal
public import proofs.«01_k».proof.Proof.NormBwd
public import Idealize.ShloMosaic.Lib.Pointwise

@[expose] public section

set_option maxRecDepth 16384

noncomputable section

namespace Cert.Kernel2Ideal.Attn

open Cert.Kernel2Ideal Cert.Kernel2Ideal.Gen
open Idealize.ShloMosaic Idealize.SL.Sem

variable {F : FTy → Type} [FloatOps F]

/-! ## Shorthands for the shapes -/

/-- A 128 by 128 tile of numbers. -/
abbrev Tile (F : FTy → Type) : Type := FVec F S128x128 .f32
/-- A 128 by 128 tile of rounded numbers: 128 rows of two heads of 64 lanes. -/
abbrev Half (F : FTy → Type) : Type := FVec F S128x128 .bf16
/-- One number for each of 128 rows. -/
abbrev Col (F : FTy → Type) : Type := FVec F S128x1 .f32
/-- The scores of 128 rows against the 256 nearest keys. -/
abbrev Wide (F : FTy → Type) : Type := FVec F S128x256 .f32

/-! ## Constant tiles -/

/-- Zero everywhere. -/
def zeros (s : Shape) : FVec F s .f32 := broadcast s (Scalar.ofBits .f32 0x00000000#32)
/-- One everywhere. -/
def ones (s : Shape) : FVec F s .f32 := broadcast s (Scalar.ofBits .f32 0x3F800000#32)
/-- The scale 1/8 everywhere. -/
def eighth (s : Shape) : FVec F s .f32 := broadcast s (Scalar.ofBits .f32 0x3E000000#32)
/-- The accumulator a product starts from. -/
abbrev acc (s : Shape) : FVec F s .f32 := constant s .f32 0x00000000#32

/-- The lanes of the first head of a tile: those below 64. -/
def lowLanes : IVec S128x128 1 := cmpi .slt (iota .tc S128x128 32 [1] iota_S128x128_d1_w32) (broadcast S128x128 64#32)

/-- The row number of a 256-row tile taken within its half of 128 rows, as the kernel computes it. -/
def halfRow : IVec S256x128 32 :=
  let n := Scalar.select (Scalar.cmpi .eq 128#32 0#32) 1#32 128#32
  let r := remsi (iota .tc S256x128 32 [0] iota_S256x128_d0_w32) (broadcast S256x128 n)
  select (andi (xori (cmpi .slt r (broadcast S256x128 0#32))
      (broadcastTo S256x128 (broadcast S256x128 (Scalar.cmpi .slt n 0#32)) broadcasts_S256x128_S256x128))
    (cmpi .ne r (broadcast S256x128 0#32))) (addi r (broadcast S256x128 n)) r

/-- The row number of a 384-row tile taken within its third of 128 rows, as the kernel computes it. -/
def thirdRow : IVec S384x128 32 :=
  let n := Scalar.select (Scalar.cmpi .eq 128#32 0#32) 1#32 128#32
  let r := remsi (iota .tc S384x128 32 [0] iota_S384x128_d0_w32) (broadcast S384x128 n)
  select (andi (xori (cmpi .slt r (broadcast S384x128 0#32))
      (broadcastTo S384x128 (broadcast S384x128 (Scalar.cmpi .slt n 0#32)) broadcasts_S384x128_S384x128))
    (cmpi .ne r (broadcast S384x128 0#32))) (addi r (broadcast S384x128 n)) r

/-- One where the row number exceeds the column number, twice over. -/
def laterTri : FVec F S256x128 .bf16 :=
  truncf .bf16 (sitofp .f32 (extui 32 (cmpi .sgt halfRow (iota .tc S256x128 32 [1] iota_S256x128_d1_w32)) natLt_1_32)) bitsLt_bf16_f32

/-- One where the row number is at least the column number, three times over. -/
def fromTri : FVec F S384x128 .bf16 :=
  truncf .bf16 (sitofp .f32 (extui 32 (cmpi .sge thirdRow (iota .tc S384x128 32 [1] iota_S384x128_d1_w32)) natLt_1_32)) bitsLt_bf16_f32

/-! ## The two heads of a tile -/

/-- The first head's lanes, the others zero. -/
def lowHead (low : IVec S128x128 1) (x : Tile F) : Half F := truncf .bf16 (select low x (zeros S128x128)) bitsLt_bf16_f32
/-- The second head's lanes, the others zero. -/
def highHead (low : IVec S128x128 1) (x : Tile F) : Half F := truncf .bf16 (select low (zeros S128x128) x) bitsLt_bf16_f32

/-! ## Scores -/

/-- The scores of 128 rows against 128 keys. -/
def score (q k : Half F) : Tile F :=
  mulf (matmul dot_S128x128_S128x128_S128x128_1_1_0_0_n_n none q k (acc S128x128)) (eighth S128x128)
/-- The scores of 128 rows against 256 keys. -/
def wscore (q : Half F) (k : FVec F S256x128 .bf16) : Wide F :=
  mulf (matmul dot_S128x128_S256x128_S128x256_1_1_0_0_n_n none q k (acc S128x256)) (eighth S128x256)

/-- `exp (-|z|)`. -/
def expNeg {s : Shape} (z : FVec F s .f32) : FVec F s .f32 := exp (subf (zeros s) (absf z))
/-- `log (1 + exp z)`, written without a large exponential. -/
def softplus {s : Shape} (z : FVec F s .f32) : FVec F s .f32 :=
  addf (maximumf z (zeros s)) (log (addf (ones s) (expNeg z)))
/-- The logarithm of the part a key leaves over. -/
def logKeep {s : Shape} (z : FVec F s .f32) : FVec F s .f32 := subf (zeros s) (softplus z)

/-- The sum of each row. -/
def rowSum (x : Tile F) : Col F :=
  shapeCast S128x1 (multiReduction .add [1] S128 x 0x00000000#32 reduces_S128x128_S128 (.inl rfl) rfl) shapeCasts_S128_S128x1
/-- A row number repeated along the row. -/
def along (c : Col F) : Tile F := broadcastTo S128x128 c broadcasts_S128x1_S128x128

/-- The sum over the later keys of the tile, added to what is carried: two rounded pieces against the triangle. -/
def later (tri : FVec F S256x128 .bf16) (x : Tile F) (c : Col F) : Tile F :=
  let hi := truncf .bf16 x bitsLt_bf16_f32
  let lo := truncf .bf16 (subf x (extf .f32 hi bitsLt_bf16_f32)) bitsLt_bf16_f32
  addf (matmul dot_S128x256_S256x128_S128x128_1_0_0_1_n_n none
    (concatenate S128x256 1 [⟨S128x128, hi⟩, ⟨S128x128, lo⟩] concatenates_S128x128_S128x128_S128x256_d1) tri (acc S128x128)) (along c)

/-- The sum over a key and the later ones of the tile, added to what is carried: three rounded pieces. -/
def fromHere (tri : FVec F S384x128 .bf16) (x : Tile F) (c : Col F) : Tile F :=
  let hi := truncf .bf16 x bitsLt_bf16_f32
  let r := subf x (extf .f32 hi bitsLt_bf16_f32)
  let mid := truncf .bf16 r bitsLt_bf16_f32
  let lo := truncf .bf16 (subf r (extf .f32 mid bitsLt_bf16_f32)) bitsLt_bf16_f32
  addf (matmul dot_S128x384_S384x128_S128x128_1_0_0_1_n_n none
    (concatenate S128x384 1 [⟨S128x128, hi⟩, ⟨S128x128, mid⟩, ⟨S128x128, lo⟩] concatenates_S128x128_S128x128_S128x128_S128x384_d1) tri
      (acc S128x128)) (along c)

/-- A key's weight: its own share times what the later keys leave over. -/
def weight {s : Shape} (z suf : FVec F s .f32) : FVec F s .f32 := exp (addf (subf z (softplus z)) suf)

/-- The gradient of the score: through the key's own share, and through what it leaves over for the keys `far` sums. -/
def dscore {s : Shape} (z g far : FVec F s .f32) : FVec F s .f32 :=
  let e := expNeg z
  let inv := divf (ones s) (addf (ones s) e)
  let en := mulf e inv
  let pos := cmpf .oge z (zeros s)
  subf (mulf g (select pos en inv)) (mulf (select pos inv en) far)

/-! ## One block of 128 far keys, one head -/

/-- The logarithms of what the block's keys leave over. -/
def tLog (q k : Half F) : Tile F := logKeep (score q k)
/-- The block's weights, `c` being carried from the later keys. -/
def tWeight (tri : FVec F S256x128 .bf16) (q k : Half F) (c : Col F) : Tile F := weight (score q k) (later tri (tLog q k) c)
/-- Each weight times the gradient that meets it. -/
def tG (tri : FVec F S256x128 .bf16) (q k d v : Half F) (c : Col F) : Tile F :=
  mulf (tWeight tri q k c) (matmul dot_S128x128_S128x128_S128x128_1_1_0_0_n_n none d v (acc S128x128))
/-- The gradient of the block's scores. -/
def tDz (tri : FVec F S256x128 .bf16) (tri3 : FVec F S384x128 .bf16) (q k d v : Half F) (tot c s : Col F) : Half F :=
  truncf .bf16 (mulf (dscore (score q k) (tG tri q k d v c) (subf (along tot) (fromHere tri3 (tG tri q k d v c) s))) (eighth S128x128)) bitsLt_bf16_f32
/-- The block's part of the gradient of the rows. -/
def tDq (dz k : Half F) : Tile F := matmul dot_S128x128_S128x128_S128x128_1_0_0_1_n_n none dz k (acc S128x128)
/-- A block's part of the gradient of the keys (or, of the weights and the rows' gradient, of the values). -/
def tDk (dz q : Half F) : Tile F := matmul dot_S128x128_S128x128_S128x128_0_0_1_1_n_n none dz q (acc S128x128)

/-! ## The 256 nearest keys, one head -/

/-- The upper and the lower 128 of 256 columns. -/
def upper (x : Wide F) : Tile F := extractStridedSlice S128x128 ![0, 128] x slices_S128x256_o0_128_S128x128
@[inherit_doc upper] def lower (x : Wide F) : Tile F := extractStridedSlice S128x128 ![0, 0] x slices_S128x256_o0_0_S128x128

/-- Rows without anything carried. -/
def none0 : Col F := broadcast S128x1 (Scalar.ofBits .f32 0x00000000#32)

/-- The sum of each row of 256. -/
def wSum (x : Wide F) : Col F := addf (addf none0 (rowSum (upper x))) (rowSum (lower x))
/-- The sums over the later keys of 256. -/
def wLater (tri : FVec F S256x128 .bf16) (x : Wide F) : Wide F :=
  concatenate S128x256 1 [⟨S128x128, later tri (lower x) (addf none0 (rowSum (upper x)))⟩, ⟨S128x128, later tri (upper x) none0⟩]
    concatenates_S128x128_S128x128_S128x256_d1
/-- The sums over a key and the later ones of 256. -/
def wFrom (tri : FVec F S384x128 .bf16) (x : Wide F) : Wide F :=
  concatenate S128x256 1 [⟨S128x128, fromHere tri (lower x) (addf none0 (rowSum (upper x)))⟩, ⟨S128x128, fromHere tri (upper x) none0⟩]
    concatenates_S128x128_S128x128_S128x256_d1

/-- The logarithms of what the keys leave over, zero where the mask hides the key. -/
def wLog (mask : IVec S128x256 1) (q : Half F) (k : FVec F S256x128 .bf16) : Wide F :=
  select mask (logKeep (wscore q k)) (zeros S128x256)
/-- The weights of the 256 keys. -/
def wWeight (tri : FVec F S256x128 .bf16) (mask : IVec S128x256 1) (q : Half F) (k : FVec F S256x128 .bf16) : Wide F :=
  select mask (weight (wscore q k) (wLater tri (wLog mask q k))) (zeros S128x256)
/-- Each weight times the gradient that meets it. -/
def wG (tri : FVec F S256x128 .bf16) (mask : IVec S128x256 1) (q : Half F) (k : FVec F S256x128 .bf16) (d : Half F) (v : FVec F S256x128 .bf16) : Wide F :=
  mulf (wWeight tri mask q k) (matmul dot_S128x128_S256x128_S128x256_1_1_0_0_n_n none d v (acc S128x256))
/-- The gradient of the 256 scores. -/
def wDz (tri : FVec F S256x128 .bf16) (tri3 : FVec F S384x128 .bf16) (mask : IVec S128x256 1) (q : Half F) (k : FVec F S256x128 .bf16)
    (d : Half F) (v : FVec F S256x128 .bf16) (tot : Col F) : FVec F S128x256 .bf16 :=
  truncf .bf16 (mulf (select mask (dscore (wscore q k) (wG tri mask q k d v)
    (subf (broadcastTo S128x256 tot broadcasts_S128x1_S128x256) (wFrom tri3 (wG tri mask q k d v)))) (zeros S128x256)) (eighth S128x256)) bitsLt_bf16_f32
/-- The 256 keys' part of the gradient of the rows. -/
def wDq (dz : FVec F S128x256 .bf16) (k : FVec F S256x128 .bf16) : Tile F :=
  matmul dot_S128x256_S256x128_S128x128_1_0_0_1_n_n none dz k (acc S128x128)
/-- The rows' part of the gradient of the 256 keys (or, of the weights and the rows' gradient, of the values). -/
def wDk (dz : FVec F S128x256 .bf16) (q : Half F) : FVec F S256x128 .f32 :=
  matmul dot_S128x256_S128x128_S256x128_0_0_1_1_n_n none dz q (acc S256x128)

/-! ## The early exit -/

/-- The largest entry of a column. -/
def colMax (c : Col F) : F .f32 :=
  extractAt ![0, 0, 0] (shapeCast S1x1x1 (multiReduction .maximumf [1, 2] S1 (shapeCast S1x128x1 c shapeCasts_S128x1_S1x128x1) 0xFF800000#32
    reduces_S1x128x1_S1 (.inl rfl) rfl) shapeCasts_S1_S1x1x1) inpos_S1x1x1_p0_0_0

variable [Named F]

/-- The word that says whether every row of both heads has nothing left for farther keys. -/
def doneWord (c0 c1 : Col F) : BitVec 32 :=
  Scalar.extui (Scalar.cmpf .olt (Scalar.maximumf (colMax c0) (colMax c1)) (Named.named κ "exp_underflow" 0xC2B00000#32))

/-! ## The loops -/

/-- What the rows of a block are to a loop: both heads' rows and both heads' incoming gradients. -/
structure Rows (F : FTy → Type) where
  /-- the first head's rows -/
  q0 : Half F
  /-- the second head's rows -/
  q1 : Half F
  /-- the gradient that meets the first head -/
  d0 : Half F
  /-- the gradient that meets the second head -/
  d1 : Half F

/-- What the summing loop carries: the block to visit, the exit word, and per head the sum of the logarithms and the sum
    of the weighted gradients. -/
abbrev FarState (F : FTy → Type) : Type := BitVec 32 × BitVec 32 × Col F × Col F × Col F × Col F
/-- What the accumulating loop carries: the block, the exit word, the rows' gradient, and the same sums. -/
abbrev StepState (F : FTy → Type) : Type := BitVec 32 × BitVec 32 × Tile F × Col F × Col F × Col F × Col F

/-- The state after the summing loop has met a block of keys `k` and values `v`. -/
def farNext (tri : FVec F S256x128 .bf16) (R : Rows F) (k v : Half F) (s : FarState F) : FarState F :=
  let c0 := addf s.2.2.1 (rowSum (tLog R.q0 k))
  let c1 := addf s.2.2.2.1 (rowSum (tLog R.q1 k))
  (Scalar.subi s.1 1#32, doneWord c0 c1, c0, c1,
    addf s.2.2.2.2.1 (rowSum (tG tri R.q0 k R.d0 v s.2.2.1)), addf s.2.2.2.2.2 (rowSum (tG tri R.q1 k R.d1 v s.2.2.2.1)))

/-- The constants the accumulating loop is given. -/
structure Consts (F : FTy → Type) where
  /-- the strict triangle -/
  tri : FVec F S256x128 .bf16
  /-- the triangle with its diagonal -/
  tri3 : FVec F S384x128 .bf16
  /-- the first head's lanes -/
  low : IVec S128x128 1

/-- The state after the accumulating loop has met a block of keys `k` and values `v`. -/
def stepNext (C : Consts F) (R : Rows F) (tot0 tot1 : Col F) (k v : Half F) (s : StepState F) : StepState F :=
  let c0 := addf s.2.2.2.1 (rowSum (tLog R.q0 k))
  let c1 := addf s.2.2.2.2.1 (rowSum (tLog R.q1 k))
  (Scalar.subi s.1 1#32, doneWord c0 c1,
    addf s.2.2.1 (select C.low (tDq (tDz C.tri C.tri3 R.q0 k R.d0 v tot0 s.2.2.2.1 s.2.2.2.2.2.1) k)
      (tDq (tDz C.tri C.tri3 R.q1 k R.d1 v tot1 s.2.2.2.2.1 s.2.2.2.2.2.2) k)),
    c0, c1, addf s.2.2.2.2.2.1 (rowSum (tG C.tri R.q0 k R.d0 v s.2.2.2.1)),
    addf s.2.2.2.2.2.2 (rowSum (tG C.tri R.q1 k R.d1 v s.2.2.2.2.1)))

/-- What a block adds to the gradient of its keys. -/
def stepDk (C : Consts F) (R : Rows F) (tot0 tot1 : Col F) (k v : Half F) (s : StepState F) : Tile F :=
  addf (tDk (tDz C.tri C.tri3 R.q0 k R.d0 v tot0 s.2.2.2.1 s.2.2.2.2.2.1) R.q0)
    (tDk (tDz C.tri C.tri3 R.q1 k R.d1 v tot1 s.2.2.2.2.1 s.2.2.2.2.2.2) R.q1)

/-- What a block adds to the gradient of its values. -/
def stepDv (C : Consts F) (R : Rows F) (k v : Half F) (s : StepState F) : Tile F :=
  addf (tDk (truncf .bf16 (tWeight C.tri R.q0 k s.2.2.2.1) bitsLt_bf16_f32) R.d0)
    (tDk (truncf .bf16 (tWeight C.tri R.q1 k s.2.2.2.2.1) bitsLt_bf16_f32) R.d1)

/-- Whether a loop goes on: the block's number is not negative and the exit word is zero. -/
abbrev goes (j d : BitVec 32) : BitVec 1 := Scalar.andi (Scalar.cmpi .sge j 0#32) (Scalar.cmpi .eq d 0#32)

/-- Programs of the kernel's core. -/
abbrev Pr (F : FTy → Type) [FloatOps F] (α : Type) : Type 1 := Prog (TpuEff nD τ sig (Elt F) (Λ₀ F) .tc) α

/-- A whole buffer of 16384 rows. -/
abbrev Big (e : EltTy) : Type := Memref sig .tc .vmem S16384x128 e
/-- A whole buffer of 512 rows. -/
abbrev Small (e : EltTy) : Type := Memref sig .tc .vmem S512x128 e

/-- The rows of block `j`. -/
abbrev tileRect (j : BitVec 32) (h : k0_chk1 j) : Rect S16384x128 := Rect.unit (s := S16384x128) (k0_off2 j) S128x128.size (k0_off2_inb j h)

/-- One trip of the summing loop, `rec` being the loop itself. -/
def farProg (rec : FarState F → Pr F (FarState F)) (arg3 arg4 : Big .bf16) (tri : FVec F S256x128 .bf16) (R : Rows F) (s : FarState F) : Pr F (FarState F) :=
  if goes s.1 s.2.1 = 1#1 then do
    let h : k0_chk1 s.1 := (← Prog.lift (TpuEff.assume (k0_chk1 s.1) (k0_chk1.dec s.1))).down
    let k : Vec F S128x128 .bf16 ← Prog.lift (.load arg3 (tileRect s.1 h).toLoadRect (View.loadsAt_vmem h_S128x128))
    let v : Vec F S128x128 .bf16 ← Prog.lift (.load arg4 (tileRect s.1 h).toLoadRect (View.loadsAt_vmem h_S128x128))
    rec (farNext tri R (shapeCast S128x128 k shapeCasts_S128x128_S128x128) (shapeCast S128x128 v shapeCasts_S128x128_S128x128) s)
  else pure s

/-- Adds a tile to a block of a buffer: the kernel reads the block, reads it again, and writes the sum. -/
def addTile (m : Big .f32) (j : BitVec 32) (h : k0_chk1 j) (x : Tile F) : Pr F PUnit := do
  let a : Vec F S128x128 .f32 ← Prog.lift (.load m (tileRect j h).toLoadRect (View.loadsAt_vmem h_S128x128))
  let _b : Vec F S128x128 .f32 ← Prog.lift (.load m (tileRect j h).toLoadRect (View.loadsAt_vmem h_S128x128))
  Prog.lift (.store m (tileRect j h) (addf (shapeCast S128x128 a shapeCasts_S128x128_S128x128) x) Finset.univ (View.stores_vmem_bits_univ h_S128x128 rfl) (.inl rfl))

/-- One trip of the accumulating loop, `rec` being the loop itself. -/
def stepProg (rec : StepState F → Pr F (StepState F)) (arg3 arg4 : Big .bf16) (arg7 arg8 : Big .f32) (C : Consts F) (R : Rows F) (tot0 tot1 : Col F)
    (s : StepState F) : Pr F (StepState F) :=
  if goes s.1 s.2.1 = 1#1 then do
    let h : k0_chk1 s.1 := (← Prog.lift (TpuEff.assume (k0_chk1 s.1) (k0_chk1.dec s.1))).down
    let k : Vec F S128x128 .bf16 ← Prog.lift (.load arg3 (tileRect s.1 h).toLoadRect (View.loadsAt_vmem h_S128x128))
    let v : Vec F S128x128 .bf16 ← Prog.lift (.load arg4 (tileRect s.1 h).toLoadRect (View.loadsAt_vmem h_S128x128))
    let k' := shapeCast S128x128 k shapeCasts_S128x128_S128x128
    let v' := shapeCast S128x128 v shapeCasts_S128x128_S128x128
    addTile arg7 s.1 h (stepDk C R tot0 tot1 k' v' s)
    addTile arg8 s.1 h (stepDv C R k' v' s)
    rec (stepNext C R tot0 tot1 k' v' s)
  else pure s

/-! ## The grid step -/

/-- What a block of 128 rows reads: its rows, the gradient that meets them, and the 256 nearest keys and values. -/
structure Raw (F : FTy → Type) where
  /-- the rows, both heads side by side -/
  q : Vec F S128x128 .bf16
  /-- the gradient of the result's rows -/
  d : Vec F S128x128 .f32
  /-- the nearest keys -/
  k : Vec F S256x128 .bf16
  /-- the nearest values -/
  v : Vec F S256x128 .bf16

/-- The two heads of what was read. -/
def Raw.rows (r : Raw F) : Rows F :=
  let q := extf .f32 (shapeCast S128x128 r.q shapeCasts_S128x128_S128x128) bitsLt_bf16_f32
  ⟨lowHead lowLanes q, highHead lowLanes q, lowHead lowLanes r.d, highHead lowLanes r.d⟩
/-- The nearest keys. -/
abbrev Raw.kw (r : Raw F) : FVec F S256x128 .bf16 := shapeCast S256x128 r.k shapeCasts_S256x128_S256x128
/-- The nearest values. -/
abbrev Raw.vw (r : Raw F) : FVec F S256x128 .bf16 := shapeCast S256x128 r.v shapeCasts_S256x128_S256x128

/-- The number of block `s` of the grid step. -/
abbrev blkWord (i : grid0.Coords) (s : BitVec 32) : BitVec 32 := Scalar.addi (Scalar.muli (BitVec.ofNat 32 (i 1).val) 4#32) s
/-- The first of the two blocks of keys nearest to it. -/
abbrev firstWord (i : grid0.Coords) (s : BitVec 32) : BitVec 32 := Scalar.maxsi (Scalar.subi (blkWord i s) 1#32) 0#32
/-- The keys before each row, among the 256 nearest. -/
def nearMask (i : grid0.Coords) (s : BitVec 32) : IVec S128x256 1 :=
  cmpi .slt (iota .tc S128x256 32 [1] iota_S128x256_d1_w32)
    (addi (iota .tc S128x256 32 [0] iota_S128x256_d0_w32) (broadcast S128x256 (Scalar.muli (Scalar.subi (blkWord i s) (firstWord i s)) 128#32)))

/-- The constants every block is given. -/
def consts : Consts F := ⟨laterTri, fromTri, lowLanes⟩

/-- The sums of the logarithms over the nearest keys, and the exit word they give. -/
abbrev Raw.c0 (r : Raw F) (M : IVec S128x256 1) : Col F := wSum (wLog M r.rows.q0 r.kw)
@[inherit_doc Raw.c0] abbrev Raw.c1 (r : Raw F) (M : IVec S128x256 1) : Col F := wSum (wLog M r.rows.q1 r.kw)
/-- The sums of the weighted gradients over the nearest keys. -/
abbrev Raw.s0 (r : Raw F) (M : IVec S128x256 1) : Col F := wSum (wG laterTri M r.rows.q0 r.kw r.rows.d0 r.vw)
@[inherit_doc Raw.s0] abbrev Raw.s1 (r : Raw F) (M : IVec S128x256 1) : Col F := wSum (wG laterTri M r.rows.q1 r.kw r.rows.d1 r.vw)
/-- The gradient of the nearest scores, `f` being the sum over the far keys. -/
abbrev Raw.dz0 (r : Raw F) (M : IVec S128x256 1) (f : Col F) : FVec F S128x256 .bf16 :=
  wDz laterTri fromTri M r.rows.q0 r.kw r.rows.d0 r.vw (addf f (r.s0 M))
@[inherit_doc Raw.dz0] abbrev Raw.dz1 (r : Raw F) (M : IVec S128x256 1) (f : Col F) : FVec F S128x256 .bf16 :=
  wDz laterTri fromTri M r.rows.q1 r.kw r.rows.d1 r.vw (addf f (r.s1 M))
/-- What the block adds to the gradient of the nearest keys. -/
abbrev Raw.dk (r : Raw F) (M : IVec S128x256 1) (f0 f1 : Col F) : FVec F S256x128 .f32 :=
  addf (wDk (r.dz0 M f0) r.rows.q0) (wDk (r.dz1 M f1) r.rows.q1)
/-- What the block adds to the gradient of the nearest values. -/
abbrev Raw.dv (r : Raw F) (M : IVec S128x256 1) : FVec F S256x128 .f32 :=
  addf (wDk (truncf .bf16 (wWeight laterTri M r.rows.q0 r.kw) bitsLt_bf16_f32) r.rows.d0)
    (wDk (truncf .bf16 (wWeight laterTri M r.rows.q1 r.kw) bitsLt_bf16_f32) r.rows.d1)
/-- What the nearest keys add to the gradient of the rows. -/
abbrev Raw.dq (r : Raw F) (M : IVec S128x256 1) (f0 f1 : Col F) : Tile F :=
  select lowLanes (wDq (r.dz0 M f0) r.kw) (wDq (r.dz1 M f1) r.kw)

/-- The rows of block `s` within the step's 512. -/
abbrev rowRect0 : Rect S512x128 := Rect.unit (s := S512x128) ![0, 0] S128x128.size inb_S512x128_S128x128_0_0
/-- The rows of the 256 keys nearest to block `s`. -/
abbrev winRect (i : grid0.Coords) (s : Fin 4) : Rect S16384x128 :=
  Rect.unit (s := S16384x128) (k0_off1 i (BitVec.ofNat 32 s.val)) S256x128.size (k0_off1_inb i s)

/-- The whole buffer. -/
abbrev allRect : Rect S16384x128 := Rect.unit (s := S16384x128) ![0, 0] S16384x128.size inb_S16384x128_S16384x128_0_0

/-- Sets a buffer to zero. -/
def clear (m : Big .f32) : Pr F PUnit := do
  let _b : Vec F S16384x128 .f32 ← Prog.lift (.load m allRect.toLoadRect (View.loadsAt_vmem h_S16384x128))
  Prog.lift (.store m allRect (broadcast S16384x128 (Scalar.ofBits .f32 0x00000000#32)) Finset.univ (View.stores_vmem_bits_univ h_S16384x128 rfl) (.inl rfl))

/-- What the step reads for block `s`: the rows `R` of the step, and the nearest keys and values. -/
def readRaw (i : grid0.Coords) (arg2 : Small .bf16) (arg3 arg4 : Big .bf16) (arg5 : Small .f32) (off : Fin 2 → ℕ)
    (inb : ∀ a, off a + S128x128.size a ≤ S512x128.size a) (s : Fin 4) : Pr F (Raw F) := do
  let q : Vec F S128x128 .bf16 ← Prog.lift (.load arg2 (Rect.unit (s := S512x128) off S128x128.size inb).toLoadRect (View.loadsAt_vmem h_S128x128))
  let d : Vec F S128x128 .f32 ← Prog.lift (.load arg5 (Rect.unit (s := S512x128) off S128x128.size inb).toLoadRect (View.loadsAt_vmem h_S128x128))
  let k : Vec F S256x128 .bf16 ← Prog.lift (.load arg3 (winRect i s).toLoadRect (View.loadsAt_vmem h_S256x128))
  let v : Vec F S256x128 .bf16 ← Prog.lift (.load arg4 (winRect i s).toLoadRect (View.loadsAt_vmem h_S256x128))
  pure ⟨q, d, k, v⟩

/-- Adds to the 256 rows nearest to block `s`. -/
def addWin (m : Big .f32) (i : grid0.Coords) (s : Fin 4) (x : FVec F S256x128 .f32) : Pr F PUnit := do
  let a : Vec F S256x128 .f32 ← Prog.lift (.load m (winRect i s).toLoadRect (View.loadsAt_vmem h_S256x128))
  let _b : Vec F S256x128 .f32 ← Prog.lift (.load m (winRect i s).toLoadRect (View.loadsAt_vmem h_S256x128))
  Prog.lift (.store m (winRect i s) (addf (shapeCast S256x128 a shapeCasts_S256x128_S256x128) x) Finset.univ (View.stores_vmem_bits_univ h_S256x128 rfl) (.inl rfl))

/-- Writes the gradient of a block's rows. -/
def putRows (m : Small .f32) (off : Fin 2 → ℕ) (inb : ∀ a, off a + S128x128.size a ≤ S512x128.size a) (x : Tile F) : Pr F PUnit := do
  let _b : Vec F S128x128 .f32 ← Prog.lift (.load m (Rect.unit (s := S512x128) off S128x128.size inb).toLoadRect (View.loadsAt_vmem h_S128x128))
  Prog.lift (.store m (Rect.unit (s := S512x128) off S128x128.size inb) x Finset.univ (View.stores_vmem_bits_univ h_S128x128 rfl) (.inl rfl))

/-- The state the summing loop starts from. -/
def farStart (r : Raw F) (i : grid0.Coords) (s : BitVec 32) : FarState F :=
  (Scalar.subi (firstWord i s) 1#32, doneWord (r.c0 (nearMask i s)) (r.c1 (nearMask i s)), r.c0 (nearMask i s), r.c1 (nearMask i s), none0, none0)

/-- The state the accumulating loop starts from. -/
def stepStart (r : Raw F) (i : grid0.Coords) (s : BitVec 32) (f0 f1 : Col F) : StepState F :=
  (Scalar.subi (firstWord i s) 1#32, doneWord (r.c0 (nearMask i s)) (r.c1 (nearMask i s)), r.dq (nearMask i s) f0 f1,
    r.c0 (nearMask i s), r.c1 (nearMask i s), r.s0 (nearMask i s), r.s1 (nearMask i s))

/-- The grid step over its memory operations; `far` and `step` are the loops. -/
def bodyProg (far : Fin 4 → Rows F → FarState F → Pr F (FarState F)) (step : Fin 4 → Rows F → Col F → Col F → StepState F → Pr F (StepState F))
    (i : grid0.Coords) (arg2 : Small .bf16) (arg3 arg4 : Big .bf16) (arg5 arg6 : Small .f32) (arg7 arg8 : Big .f32) : Pr F PUnit := do
  (if Scalar.cmpi .ne (Scalar.extui (Scalar.cmpi .eq (BitVec.ofNat 32 (i 1).val) 0#32)) 0#32 = 1#1 then do
    clear arg7
    clear arg8
    pure ⟨⟩
  else do pure ⟨⟩)
  let r0 ← readRaw i arg2 arg3 arg4 arg5 ![0, 0] inb_S512x128_S128x128_0_0 0
  let r1 ← readRaw i arg2 arg3 arg4 arg5 ![128, 0] inb_S512x128_S128x128_128_0 1
  let r2 ← readRaw i arg2 arg3 arg4 arg5 ![256, 0] inb_S512x128_S128x128_256_0 2
  let r3 ← readRaw i arg2 arg3 arg4 arg5 ![384, 0] inb_S512x128_S128x128_384_0 3
  let f0 ← far 0 r0.rows (farStart r0 i 0#32)
  let f1 ← far 1 r1.rows (farStart r1 i 1#32)
  let f2 ← far 2 r2.rows (farStart r2 i 2#32)
  let f3 ← far 3 r3.rows (farStart r3 i 3#32)
  addWin arg7 i 0 (r0.dk (nearMask i 0#32) f0.2.2.2.2.1 f0.2.2.2.2.2)
  addWin arg8 i 0 (r0.dv (nearMask i 0#32))
  addWin arg7 i 1 (r1.dk (nearMask i 1#32) f1.2.2.2.2.1 f1.2.2.2.2.2)
  addWin arg8 i 1 (r1.dv (nearMask i 1#32))
  addWin arg7 i 2 (r2.dk (nearMask i 2#32) f2.2.2.2.2.1 f2.2.2.2.2.2)
  addWin arg8 i 2 (r2.dv (nearMask i 2#32))
  addWin arg7 i 3 (r3.dk (nearMask i 3#32) f3.2.2.2.2.1 f3.2.2.2.2.2)
  addWin arg8 i 3 (r3.dv (nearMask i 3#32))
  let t0 ← step 0 r0.rows (addf f0.2.2.2.2.1 (r0.s0 (nearMask i 0#32))) (addf f0.2.2.2.2.2 (r0.s1 (nearMask i 0#32))) (stepStart r0 i 0#32 f0.2.2.2.2.1 f0.2.2.2.2.2)
  putRows arg6 ![0, 0] inb_S512x128_S128x128_0_0 t0.2.2.1
  let t1 ← step 1 r1.rows (addf f1.2.2.2.2.1 (r1.s0 (nearMask i 1#32))) (addf f1.2.2.2.2.2 (r1.s1 (nearMask i 1#32))) (stepStart r1 i 1#32 f1.2.2.2.2.1 f1.2.2.2.2.2)
  putRows arg6 ![128, 0] inb_S512x128_S128x128_128_0 t1.2.2.1
  let t2 ← step 2 r2.rows (addf f2.2.2.2.2.1 (r2.s0 (nearMask i 2#32))) (addf f2.2.2.2.2.2 (r2.s1 (nearMask i 2#32))) (stepStart r2 i 2#32 f2.2.2.2.2.1 f2.2.2.2.2.2)
  putRows arg6 ![256, 0] inb_S512x128_S128x128_256_0 t2.2.2.1
  let t3 ← step 3 r3.rows (addf f3.2.2.2.2.1 (r3.s0 (nearMask i 3#32))) (addf f3.2.2.2.2.2 (r3.s1 (nearMask i 3#32))) (stepStart r3 i 3#32 f3.2.2.2.2.1 f3.2.2.2.2.2)
  putRows arg6 ![384, 0] inb_S512x128_S128x128_384_0 t3.2.2.1

open Finset (range Ico)

/-! ## Real functions -/

/-- `log (1 + exp z)`. -/
def sp (z : ℝ) : ℝ := Real.log (1 + Real.exp z)
/-- The logistic function. -/
def sg (z : ℝ) : ℝ := 1 / (1 + Real.exp (-z))

theorem one_add_exp_pos (z : ℝ) : 0 < 1 + Real.exp z := by positivity

/-- The form without a large exponential. -/
theorem sp_eq (z : ℝ) : max z 0 + Real.log (1 + Real.exp (-|z|)) = sp z := by
  unfold sp
  rcases le_total 0 z with h | h
  · rw [max_eq_left h, abs_of_nonneg h, ← Real.log_exp z, ← Real.log_mul (Real.exp_pos _).ne' (one_add_exp_pos _).ne', Real.log_exp,
      mul_add, ← Real.exp_add]
    simp [add_comm]
  · rw [max_eq_right h, abs_of_nonpos h]; simp

/-- The logistic function from a small exponential, where the score is not negative, -/
theorem sg_pos {z : ℝ} (h : 0 ≤ z) : 1 / (1 + Real.exp (-|z|)) = sg z := by rw [abs_of_nonneg h, sg]
/-- and where it is not positive. -/
theorem sg_neg {z : ℝ} (h : z ≤ 0) : Real.exp (-|z|) * (1 / (1 + Real.exp (-|z|))) = sg z := by
  rw [abs_of_nonpos h, neg_neg, sg, Real.exp_neg]
  have := Real.exp_pos z
  field_simp
  ring
/-! ## Real tiles -/

/-- The tile's entries are the real numbers `f row column`. -/
def Is {n m : ℕ} (x : (⟨2, ![n, m]⟩ : Shape).Idx → EReal) (f : ℕ → ℕ → ℝ) : Prop := ∀ (a : Fin n) (b : Fin m), x (ix2 a b) = ((f a.val b.val : ℝ) : EReal)

theorem Is.congr {n m : ℕ} {x : (⟨2, ![n, m]⟩ : Shape).Idx → EReal} {f g : ℕ → ℕ → ℝ} (h : Is x f) (e : ∀ a < n, ∀ b < m, f a b = g a b) : Is x g :=
  fun a b => (h a b).trans (by rw [e a.val a.isLt b.val b.isLt])

/-- A finite sum of products of reals. -/
theorem coe_sum_mul (n : ℕ) (f g : ℕ → ℝ) : ∑ k : Fin n, ((f k.val : ℝ) : EReal) * ((g k.val : ℝ) : EReal) = ((∑ k ∈ range n, f k * g k : ℝ) : EReal) := by
  rw [← Fin.sum_univ_eq_sum_range (fun k => f k * g k) n, Cert.Norm.coe_sum]
  exact Finset.sum_congr rfl fun k _ => (EReal.coe_mul _ _).symm

theorem coe_sum_fin (n : ℕ) (f : ℕ → ℝ) : ∑ k : Fin n, ((f k.val : ℝ) : EReal) = ((∑ k ∈ range n, f k : ℝ) : EReal) := by
  rw [← Fin.sum_univ_eq_sum_range f n, Cert.Norm.coe_sum]

section Plain
variable {n m : ℕ} {x y : FVec Ideal ⟨2, ![n, m]⟩ .f32} {f g : ℕ → ℕ → ℝ}

theorem Is.add (hx : Is x f) (hy : Is y g) : Is (addf x y) (fun a b => f a b + g a b) := by
  intro a b; pointwise [hx a b, hy a b]; exact (EReal.coe_add _ _).symm
theorem Is.sub (hx : Is x f) (hy : Is y g) : Is (subf x y) (fun a b => f a b - g a b) := by
  intro a b; pointwise [hx a b, hy a b]; exact (EReal.coe_sub _ _).symm
theorem Is.mul (hx : Is x f) (hy : Is y g) : Is (mulf x y) (fun a b => f a b * g a b) := by
  intro a b; pointwise [hx a b, hy a b]; exact (EReal.coe_mul _ _).symm
theorem Is.trunc (hx : Is x f) : Is (truncf .bf16 x bitsLt_bf16_f32 : FVec Ideal ⟨2, ![n, m]⟩ .bf16) f := by
  intro a b; pointwise [hx a b]
theorem Is.select {c : IVec ⟨2, ![n, m]⟩ 1} {p : ℕ → ℕ → Prop} [DecidableRel p] (hc : ∀ (a : Fin n) (b : Fin m), c (ix2 a b) = if p a.val b.val then 1#1 else 0#1)
    (hx : Is x f) (hy : Is y g) : Is (select c x y) (fun a b => if p a b then f a b else g a b) := by
  intro a b
  change Scalar.select (c (ix2 a b)) (x (ix2 a b)) (y (ix2 a b)) = _
  rw [hc a b]
  by_cases h : p a.val b.val
  · rw [if_pos h]; refine (hx a b).trans ?_; dsimp only; rw [if_pos h]
  · rw [if_neg h]; refine (hy a b).trans ?_; dsimp only; rw [if_neg h]
end Plain

theorem Is.ext' {n m : ℕ} {x : FVec Ideal ⟨2, ![n, m]⟩ .bf16} {f : ℕ → ℕ → ℝ} (hx : Is x f) : Is (extf .f32 x bitsLt_bf16_f32 : FVec Ideal ⟨2, ![n, m]⟩ .f32) f := by
  intro a b; pointwise [hx a b]

theorem is_zeros {n m : ℕ} : Is (zeros (F := Ideal) ⟨2, ![n, m]⟩) (fun _ _ => 0) := by
  intro a b; pointwise [zeros]; rfl
theorem is_eighth {n m : ℕ} : Is (eighth (F := Ideal) ⟨2, ![n, m]⟩) (fun _ _ => 1 / 8) := by
  intro a b; pointwise [eighth]
  simp [Ideal.ofBits, Ideal.ieee]
  rw [← EReal.coe_mul]
  norm_num

/-! ## Masks and triangles -/

theorem low_apply (a b : Fin 128) : lowLanes (ix2 a b) = if b.val < 64 then 1#1 else 0#1 := by
  pointwise [lowLanes]; revert b; decide

theorem halfRow_apply (a : Fin 256) (b : Fin 128) : halfRow (ix2 a b) = BitVec.ofNat 32 (a.val % 128) := by
  pointwise [halfRow]; revert a; decide

theorem thirdRow_apply (a : Fin 384) (b : Fin 128) : thirdRow (ix2 a b) = BitVec.ofNat 32 (a.val % 128) := by
  pointwise [thirdRow]; revert a; decide

theorem gt_word : ∀ a b : Fin 128, IntOp.cmpi .sgt (BitVec.ofNat 32 a.val) (BitVec.ofNat 32 b.val) = if b.val < a.val then 1#1 else 0#1 := by decide +kernel
theorem ge_word : ∀ a b : Fin 128, IntOp.cmpi .sge (BitVec.ofNat 32 a.val) (BitVec.ofNat 32 b.val) = if b.val ≤ a.val then 1#1 else 0#1 := by decide +kernel

theorem is_laterTri : Is (laterTri (F := Ideal)) (fun a b => if b < a % 128 then 1 else 0) := by
  intro a b
  pointwise [laterTri, halfRow_apply]
  rw [gt_word ⟨a.val % 128, Nat.mod_lt _ (by decide)⟩ b]
  by_cases h : b.val < a.val % 128
  · simp only [h, if_true]; simp [FloatOps.sitofp]
  · simp only [h, if_false]; simp [FloatOps.sitofp]

theorem is_fromTri : Is (fromTri (F := Ideal)) (fun a b => if b ≤ a % 128 then 1 else 0) := by
  intro a b
  pointwise [fromTri, thirdRow_apply]
  rw [ge_word ⟨a.val % 128, Nat.mod_lt _ (by decide)⟩ b]
  by_cases h : b.val ≤ a.val % 128
  · simp only [h, if_true]; simp [FloatOps.sitofp]
  · simp only [h, if_false]; simp [FloatOps.sitofp]

/-! ## Heads -/

/-- The lanes of head `h` of a tile, the others zero. -/
def lane (h : ℕ) (f : ℕ → ℕ → ℝ) : ℕ → ℕ → ℝ := fun a b => if b / 64 = h then f a b else 0

theorem is_lowHead {x : Tile Ideal} {f : ℕ → ℕ → ℝ} (hx : Is x f) : Is (lowHead lowLanes x) (lane 0 f) := by
  refine ((Is.select (p := fun _ b => b < 64) low_apply hx is_zeros).trunc).congr fun a ha b hb => ?_
  unfold lane
  by_cases h : b < 64
  · rw [if_pos h, if_pos (by omega)]
  · rw [if_neg h, if_neg (by omega)]

theorem is_highHead {x : Tile Ideal} {f : ℕ → ℕ → ℝ} (hx : Is x f) : Is (highHead lowLanes x) (lane 1 f) := by
  refine ((Is.select (p := fun _ b => b < 64) low_apply is_zeros hx).trunc).congr fun a ha b hb => ?_
  unfold lane
  by_cases h : b < 64
  · rw [if_pos h, if_neg (by omega)]
  · rw [if_neg h, if_pos (by omega)]

/-! ## Products -/

section Dots
variable {φ₁ φ₂ : FTy} {f g : ℕ → ℕ → ℝ}

theorem is_dotT {x : FVec Ideal S128x128 φ₁} {y : FVec Ideal S128x128 φ₂} (hx : Is x f) (hy : Is y g) :
    Is (matmul dot_S128x128_S128x128_S128x128_1_1_0_0_n_n none x y (acc S128x128)) (fun a b => ∑ k ∈ range 128, f a k * g b k) := by
  intro a b
  pointwise [acc]
  simp only [hx _ _, hy _ _]
  exact coe_sum_mul 128 (f a) (g b)

theorem is_dotTw {x : FVec Ideal S128x128 φ₁} {y : FVec Ideal S256x128 φ₂} (hx : Is x f) (hy : Is y g) :
    Is (matmul dot_S128x128_S256x128_S128x256_1_1_0_0_n_n none x y (acc S128x256)) (fun a b => ∑ k ∈ range 128, f a k * g b k) := by
  intro a b
  pointwise [acc]
  simp only [hx _ _, hy _ _]
  exact coe_sum_mul 128 (f a) (g b)

theorem is_dot {x : FVec Ideal S128x128 φ₁} {y : FVec Ideal S128x128 φ₂} (hx : Is x f) (hy : Is y g) :
    Is (matmul dot_S128x128_S128x128_S128x128_1_0_0_1_n_n none x y (acc S128x128)) (fun a b => ∑ k ∈ range 128, f a k * g k b) := by
  intro a b
  pointwise [acc]
  simp only [hx _ _, hy _ _]
  exact coe_sum_mul 128 (f a) (fun k => g k b)

theorem is_dotw {x : FVec Ideal S128x256 φ₁} {y : FVec Ideal S256x128 φ₂} (hx : Is x f) (hy : Is y g) :
    Is (matmul dot_S128x256_S256x128_S128x128_1_0_0_1_n_n none x y (acc S128x128)) (fun a b => ∑ k ∈ range 256, f a k * g k b) := by
  intro a b
  pointwise [acc]
  simp only [hx _ _, hy _ _]
  exact coe_sum_mul 256 (f a) (fun k => g k b)

theorem is_dott {x : FVec Ideal S128x384 φ₁} {y : FVec Ideal S384x128 φ₂} (hx : Is x f) (hy : Is y g) :
    Is (matmul dot_S128x384_S384x128_S128x128_1_0_0_1_n_n none x y (acc S128x128)) (fun a b => ∑ k ∈ range 384, f a k * g k b) := by
  intro a b
  pointwise [acc]
  simp only [hx _ _, hy _ _]
  exact coe_sum_mul 384 (f a) (fun k => g k b)

theorem is_tdot {x : FVec Ideal S128x128 φ₁} {y : FVec Ideal S128x128 φ₂} (hx : Is x f) (hy : Is y g) :
    Is (matmul dot_S128x128_S128x128_S128x128_0_0_1_1_n_n none x y (acc S128x128)) (fun a b => ∑ k ∈ range 128, f k a * g k b) := by
  intro a b
  pointwise [acc]
  simp only [hx _ _, hy _ _]
  exact coe_sum_mul 128 (fun k => f k a) (fun k => g k b)

theorem is_tdotw {x : FVec Ideal S128x256 φ₁} {y : FVec Ideal S128x128 φ₂} (hx : Is x f) (hy : Is y g) :
    Is (matmul dot_S128x256_S128x128_S256x128_0_0_1_1_n_n none x y (acc S256x128)) (fun a b => ∑ k ∈ range 128, f k a * g k b) := by
  intro a b
  pointwise [acc]
  simp only [hx _ _, hy _ _]
  exact coe_sum_mul 128 (fun k => f k a) (fun k => g k b)

end Dots

/-! ## Rows -/

theorem is_rowSum {x : Tile Ideal} {f : ℕ → ℕ → ℝ} (hx : Is x f) : Is (rowSum x) (fun a _ => ∑ k ∈ range 128, f a k) := by
  intro a b
  pointwise [rowSum]
  simp only [hx _ _]
  exact coe_sum_fin 128 (f a)

theorem is_along {c : Col Ideal} {f : ℕ → ℕ → ℝ} (hc : Is c f) : Is (along c) (fun a _ => f a 0) := by
  intro a b
  pointwise [along]
  exact hc a 0

theorem is_alongw {c : Col Ideal} {f : ℕ → ℕ → ℝ} (hc : Is c f) : Is (broadcastTo S128x256 c broadcasts_S128x1_S128x256) (fun a _ => f a 0) := by
  intro a b
  pointwise
  exact hc a 0

theorem is_none0 : Is (none0 (F := Ideal)) (fun _ _ => 0) := by
  intro a b; pointwise [none0]; rfl

theorem is_upper {x : Wide Ideal} {f : ℕ → ℕ → ℝ} (hx : Is x f) : Is (upper x) (fun a b => f a (128 + b)) := by
  intro a b; pointwise [upper]; exact hx _ _
theorem is_lower {x : Wide Ideal} {f : ℕ → ℕ → ℝ} (hx : Is x f) : Is (lower x) f := by
  intro a b; pointwise [lower]; exact hx a ⟨b.val, by omega⟩

/-! ## Two and three tiles side by side -/

theorem is_cat2 {φ : FTy} {x y : FVec Ideal S128x128 φ} {f g : ℕ → ℕ → ℝ} (hx : Is x f) (hy : Is y g) :
    Is (concatenate S128x256 1 [⟨S128x128, x⟩, ⟨S128x128, y⟩] concatenates_S128x128_S128x128_S128x256_d1 : FVec Ideal S128x256 φ)
      (fun a b => if b < 128 then f a b else g a (b - 128)) := by
  intro a b
  pointwise
  by_cases h : b.val < 128
  · rw [dif_pos h, if_pos h]; exact hx _ _
  · rw [dif_neg h, if_neg h]; exact hy a ⟨b.val - 128, by omega⟩

theorem is_cat3 {φ : FTy} {x y z : FVec Ideal S128x128 φ} {f g k : ℕ → ℕ → ℝ} (hx : Is x f) (hy : Is y g) (hz : Is z k) :
    Is (concatenate S128x384 1 [⟨S128x128, x⟩, ⟨S128x128, y⟩, ⟨S128x128, z⟩] concatenates_S128x128_S128x128_S128x128_S128x384_d1 : FVec Ideal S128x384 φ)
      (fun a b => if b < 128 then f a b else if b - 128 < 128 then g a (b - 128) else k a (b - 128 - 128)) := by
  intro a b
  pointwise
  by_cases h : b.val < 128
  · rw [dif_pos h, if_pos h]; exact hx _ _
  · rw [dif_neg h, if_neg h]
    by_cases h' : b.val - 128 < 128
    · rw [dif_pos h', if_pos h']; exact hy a ⟨b.val - 128, by omega⟩
    · rw [dif_neg h', if_neg h']; exact hz a ⟨b.val - 128 - 128, by omega⟩

/-- A product with the strict triangle is a sum over the later columns, -/
theorem sum_gt (n : ℕ) (f : ℕ → ℝ) (b : ℕ) : ∑ k ∈ range n, f k * (if b < k then 1 else 0) = ∑ k ∈ Ico (b + 1) n, f k := by
  simp only [mul_ite, mul_one, mul_zero]
  rw [← Finset.sum_filter]
  congr 1
  ext k; simp only [Finset.mem_filter, Finset.mem_range, Finset.mem_Ico]; omega
/-- with the full triangle, over the column and the later ones. -/
theorem sum_ge (n : ℕ) (f : ℕ → ℝ) (b : ℕ) : ∑ k ∈ range n, f k * (if b ≤ k then 1 else 0) = ∑ k ∈ Ico b n, f k := by
  simp only [mul_ite, mul_one, mul_zero]
  rw [← Finset.sum_filter]
  congr 1
  ext k; simp only [Finset.mem_filter, Finset.mem_range, Finset.mem_Ico]; omega

theorem is_later {x : Tile Ideal} {c : Col Ideal} {f g : ℕ → ℕ → ℝ} (hx : Is x f) (hc : Is c g) :
    Is (later laterTri x c) (fun a b => ∑ k ∈ Ico (b + 1) 128, f a k + g a 0) := by
  unfold later
  dsimp only
  have hlo := (hx.sub (hx.trunc.ext')).trunc
  refine (Is.add (is_dotw (is_cat2 hx.trunc hlo) is_laterTri) (is_along hc)).congr fun a ha b hb => ?_
  congr 1
  rw [show (256 : ℕ) = 128 + 128 from rfl, Finset.sum_range_add, ← sum_gt 128 (f a) b]
  refine (congrArg₂ (· + ·) (Finset.sum_congr rfl fun k hk => ?_) (Finset.sum_eq_zero fun k hk => ?_)).trans (add_zero _)
  · have := Finset.mem_range.mp hk
    rw [if_pos this, Nat.mod_eq_of_lt this]
  · rw [if_neg (by omega), sub_self, zero_mul]

theorem is_fromHere {x : Tile Ideal} {c : Col Ideal} {f g : ℕ → ℕ → ℝ} (hx : Is x f) (hc : Is c g) :
    Is (fromHere fromTri x c) (fun a b => ∑ k ∈ Ico b 128, f a k + g a 0) := by
  unfold fromHere
  dsimp only
  have hr := hx.sub (hx.trunc.ext')
  have hlo := (hr.sub (hr.trunc.ext')).trunc
  refine (Is.add (is_dott (is_cat3 hx.trunc hr.trunc hlo) is_fromTri) (is_along hc)).congr fun a ha b hb => ?_
  congr 1
  rw [show (384 : ℕ) = 128 + 256 from rfl, Finset.sum_range_add, ← sum_ge 128 (f a) b]
  refine (congrArg₂ (· + ·) (Finset.sum_congr rfl fun k hk => ?_) (Finset.sum_eq_zero fun k hk => ?_)).trans (add_zero _)
  · have := Finset.mem_range.mp hk
    rw [if_pos this, Nat.mod_eq_of_lt this]
  · rw [if_neg (by omega), sub_self, sub_self, ite_self, zero_mul]

/-! ## Scores, weights and their gradients -/

theorem is_score {q k : Half Ideal} {f g : ℕ → ℕ → ℝ} (hq : Is q f) (hk : Is k g) :
    Is (score q k) (fun a b => (∑ l ∈ range 128, f a l * g b l) * (1 / 8)) := (is_dotT hq hk).mul is_eighth

theorem is_wscore {q : Half Ideal} {k : FVec Ideal S256x128 .bf16} {f g : ℕ → ℕ → ℝ} (hq : Is q f) (hk : Is k g) :
    Is (wscore q k) (fun a b => (∑ l ∈ range 128, f a l * g b l) * (1 / 8)) := (is_dotTw hq hk).mul is_eighth

/-- The largest of a real and its opposite, as an extended real. -/
theorem coe_abs (x : ℝ) : max (x : EReal) (-(x : EReal)) = ((|x| : ℝ) : EReal) := by
  rw [← EReal.coe_neg, ← EReal.coe_strictMono.monotone.map_max]; rfl

theorem coe_max0 (x : ℝ) : max (x : EReal) 0 = ((max x 0 : ℝ) : EReal) := by
  rw [← EReal.coe_zero, ← EReal.coe_strictMono.monotone.map_max]

theorem log_one_add (t : ℝ) : Ideal.log (1 + ((Real.exp t : ℝ) : EReal)) = ((Real.log (1 + Real.exp t) : ℝ) : EReal) := by
  rw [← EReal.coe_one, ← EReal.coe_add, Ideal.log_coe, if_neg (not_le.mpr (one_add_exp_pos t))]

theorem inv_one_add (t : ℝ) : Ideal.div 1 (1 + ((Real.exp t : ℝ) : EReal)) = ((1 / (1 + Real.exp t) : ℝ) : EReal) := by
  rw [← EReal.coe_one, ← EReal.coe_add, Ideal.div_coe (one_add_exp_pos t).ne', EReal.coe_one, one_mul]

section Elementwise
variable {n m : ℕ} {z g s : FVec Ideal ⟨2, ![n, m]⟩ .f32} {f h r : ℕ → ℕ → ℝ}

theorem is_expNeg (hz : Is z f) : Is (expNeg z) (fun a b => Real.exp (-|f a b|)) := by
  intro a b
  pointwise [expNeg, zeros, hz a b]
  rw [Ideal.absf_def, coe_abs, ← EReal.coe_zero, ← EReal.coe_sub, zero_sub, Ideal.exp_coe]

theorem is_softplus (hz : Is z f) : Is (softplus z) (fun a b => sp (f a b)) := by
  intro a b
  pointwise [softplus, zeros, ones, is_expNeg hz a b, hz a b]
  rw [coe_max0, log_one_add, ← EReal.coe_add, sp_eq]

theorem is_logKeep (hz : Is z f) : Is (logKeep z) (fun a b => -sp (f a b)) :=
  (is_zeros.sub (is_softplus hz)).congr fun a _ b _ => zero_sub _

theorem is_weight (hz : Is z f) (hs : Is s r) : Is (weight z s) (fun a b => Real.exp (f a b - sp (f a b) + r a b)) := by
  intro a b
  have := (hz.sub (is_softplus hz)).add hs a b
  unfold weight
  pointwise [this]
  rfl

theorem is_dscore (hz : Is z f) (hg : Is g h) (hs : Is s r) : Is (dscore z g s) (fun a b => h a b * sg (-f a b) - sg (f a b) * r a b) := by
  intro a b
  unfold dscore
  pointwise [zeros, ones, is_expNeg hz a b, hz a b, hg a b, hs a b]
  simp only [inv_one_add, ← EReal.coe_mul]
  by_cases hp : 0 ≤ f a.val b.val
  · rw [if_pos (by exact_mod_cast hp), if_pos (by exact_mod_cast hp), sg_pos hp]
    rw [← sg_neg (z := -f a.val b.val) (by linarith), abs_neg, sg_pos hp, ← EReal.coe_mul, ← EReal.coe_mul, ← EReal.coe_sub]
  · have hn : f a.val b.val ≤ 0 := le_of_not_ge hp
    rw [if_neg (by exact_mod_cast hp), if_neg (by exact_mod_cast hp), sg_neg hn]
    rw [← sg_pos (z := -f a.val b.val) (by linarith), abs_neg, ← EReal.coe_mul, ← EReal.coe_mul, ← EReal.coe_sub]

end Elementwise

/-! ## One head over the reals -/

section Head
variable (Z D : ℕ → ℕ → ℝ)

/-- What the keys after `j` and before the row leave over, as a logarithm. -/
def left (i j : ℕ) : ℝ := ∑ j' ∈ Ico (j + 1) i, -sp (Z i j')
/-- The weight of key `j` for row `i`. -/
def wt (i j : ℕ) : ℝ := Real.exp (Z i j - sp (Z i j) + left Z i j)
/-- The weight times the gradient that meets it. -/
def gr (i j : ℕ) : ℝ := wt Z i j * D i j
/-- The gradient of the score. -/
def ds (i j : ℕ) : ℝ := (gr Z D i j * sg (-Z i j) - sg (Z i j) * ∑ j' ∈ range j, gr Z D i j') * (1 / 8)

end Head

/-- A shifted sum. -/
theorem sum_shift (g : ℕ → ℝ) (c m n : ℕ) : ∑ k ∈ Ico m n, g (c + k) = ∑ k ∈ Ico (c + m) (c + n), g k := by
  rw [Finset.sum_Ico_add g m n c, add_comm m, add_comm n]

theorem sum_shift0 (g : ℕ → ℝ) (c n : ℕ) : ∑ k ∈ range n, g (c + k) = ∑ k ∈ Ico c (c + n), g k := by
  rw [Finset.range_eq_Ico, sum_shift, add_zero]

/-- A sum over what is left of a range. -/
theorem sum_rest (g : ℕ → ℝ) {m n : ℕ} (h : m ≤ n) : ∑ k ∈ range n, g k - ∑ k ∈ Ico m n, g k = ∑ k ∈ range m, g k := by
  rw [Finset.range_eq_Ico, Finset.range_eq_Ico, ← Finset.sum_Ico_consecutive g (Nat.zero_le m) h]; ring

/-! ## A far tile -/

section Far
variable {Z D : ℕ → ℕ → ℝ} {q k d v : Half Ideal} {tot c s : Col Ideal} {fq fk fd fv : ℕ → ℕ → ℝ} {B C : ℕ}

/-- The tile's scores are the rows' scores. -/
structure FarTile (Z D : ℕ → ℕ → ℝ) (B C : ℕ) (q k d v : Half Ideal) : Prop where
  z : Is (score q k) (fun a b => Z (B + a) (C + b))
  d : Is (matmul dot_S128x128_S128x128_S128x128_1_1_0_0_n_n none d v (acc S128x128)) (fun a b => D (B + a) (C + b))
  le : C + 128 ≤ B

theorem FarTile.log (h : FarTile Z D B C q k d v) : Is (tLog q k) (fun a b => -sp (Z (B + a) (C + b))) := is_logKeep h.z

theorem FarTile.weight (h : FarTile Z D B C q k d v) (hc : Is c (fun a _ => ∑ j ∈ Ico (C + 128) (B + a), -sp (Z (B + a) j))) :
    Is (tWeight laterTri q k c) (fun a b => wt Z (B + a) (C + b)) := by
  refine (is_weight h.z (is_later h.log hc)).congr fun a ha b hb => ?_
  unfold wt left
  rw [sum_shift (fun j => -sp (Z (B + a) j)), Finset.sum_Ico_consecutive _ (by omega) (by have := h.le; omega), add_assoc C]

theorem FarTile.g (h : FarTile Z D B C q k d v) (hc : Is c (fun a _ => ∑ j ∈ Ico (C + 128) (B + a), -sp (Z (B + a) j))) :
    Is (tG laterTri q k d v c) (fun a b => gr Z D (B + a) (C + b)) := (h.weight hc).mul h.d

theorem FarTile.logSum (h : FarTile Z D B C q k d v) (hc : Is c (fun a _ => ∑ j ∈ Ico (C + 128) (B + a), -sp (Z (B + a) j))) :
    Is (addf c (rowSum (tLog q k))) (fun a _ => ∑ j ∈ Ico C (B + a), -sp (Z (B + a) j)) := by
  refine (hc.add (is_rowSum h.log)).congr fun a ha b hb => ?_
  rw [sum_shift0 (fun j => -sp (Z (B + a) j)), add_comm, Finset.sum_Ico_consecutive _ (by omega) (by have := h.le; omega)]

/-- The sum of the weighted gradients from the tile to a bound above it. -/
theorem FarTile.gSum {E : ℕ → ℕ} (h : FarTile Z D B C q k d v) (hE : ∀ a, C + 128 ≤ E a) (hc : Is c (fun a _ => ∑ j ∈ Ico (C + 128) (B + a), -sp (Z (B + a) j)))
    (hs : Is s (fun a _ => ∑ j ∈ Ico (C + 128) (E a), gr Z D (B + a) j)) :
    Is (addf s (rowSum (tG laterTri q k d v c))) (fun a _ => ∑ j ∈ Ico C (E a), gr Z D (B + a) j) := by
  refine (hs.add (is_rowSum (h.g hc))).congr fun a ha b hb => ?_
  rw [sum_shift0 (fun j => gr Z D (B + a) j), add_comm, Finset.sum_Ico_consecutive _ (by omega) (hE a)]

theorem FarTile.dz (h : FarTile Z D B C q k d v) (hc : Is c (fun a _ => ∑ j ∈ Ico (C + 128) (B + a), -sp (Z (B + a) j)))
    (hs : Is s (fun a _ => ∑ j ∈ Ico (C + 128) (B + a), gr Z D (B + a) j)) (ht : Is tot (fun a _ => ∑ j ∈ range (B + a), gr Z D (B + a) j)) :
    Is (tDz laterTri fromTri q k d v tot c s) (fun a b => ds Z D (B + a) (C + b)) := by
  refine (((is_dscore h.z (h.g hc) ((is_along ht).sub (is_fromHere (h.g hc) hs))).mul is_eighth).trunc).congr fun a ha b hb => ?_
  unfold ds
  rw [sum_shift (fun j => gr Z D (B + a) j), Finset.sum_Ico_consecutive _ (by omega) (by have := h.le; omega), sum_rest _ (by have := h.le; omega)]

end Far

/-! ## The near window -/

section Near
variable {Z D : ℕ → ℕ → ℝ} {q d : Half Ideal} {k v : FVec Ideal S256x128 .bf16} {M : IVec S128x256 1} {tot : Col Ideal} {B C : ℕ}

/-- The window's scores are the rows' scores, the mask shows the keys before the row, and no key after the window is
    before a row. -/
structure NearTile (Z D : ℕ → ℕ → ℝ) (B C : ℕ) (M : IVec S128x256 1) (q : Half Ideal) (k : FVec Ideal S256x128 .bf16) (d : Half Ideal)
    (v : FVec Ideal S256x128 .bf16) : Prop where
  z : Is (wscore q k) (fun a b => Z (B + a) (C + b))
  d : Is (matmul dot_S128x128_S256x128_S128x256_1_1_0_0_n_n none d v (acc S128x256)) (fun a b => D (B + a) (C + b))
  m : ∀ (a : Fin 128) (b : Fin 256), M (ix2 a b) = if C + b.val < B + a.val then 1#1 else 0#1
  le : B ≤ C + 128

/-- A masked sum stops at the row. -/
theorem sum_masked (g : ℕ → ℝ) {C b i : ℕ} (h : i ≤ C + 256) : ∑ k ∈ Ico b 256, (if C + k < i then g (C + k) else 0) = ∑ k ∈ Ico (C + b) i, g k := by
  rw [← Finset.sum_filter, ← Finset.sum_image (f := g) (g := fun k => C + k) (s := (Ico b 256).filter (fun k => C + k < i)) (fun x _ y _ h => by simpa using h)]
  congr 1
  ext k
  simp only [Finset.mem_image, Finset.mem_filter, Finset.mem_Ico]
  constructor
  · rintro ⟨x, hx, rfl⟩; omega
  · intro hk; exact ⟨k - C, by omega, by omega⟩

theorem is_wSum {x : Wide Ideal} {f : ℕ → ℕ → ℝ} (hx : Is x f) : Is (wSum x) (fun a _ => ∑ k ∈ range 256, f a k) := by
  refine ((is_none0.add (is_rowSum (is_upper hx))).add (is_rowSum (is_lower hx))).congr fun a ha b hb => ?_
  rw [show (256 : ℕ) = 128 + 128 from rfl, Finset.sum_range_add]; ring

theorem sum_upper (f : ℕ → ℝ) (b : ℕ) : ∑ k ∈ Ico b 128, f (128 + k) = ∑ k ∈ Ico (128 + b) 256, f k := sum_shift f 128 b 128

theorem is_wLater {x : Wide Ideal} {f : ℕ → ℕ → ℝ} (hx : Is x f) : Is (wLater laterTri x) (fun a b => ∑ k ∈ Ico (b + 1) 256, f a k) := by
  refine (is_cat2 (is_later (is_lower hx) (is_none0.add (is_rowSum (is_upper hx)))) (is_later (is_upper hx) is_none0)).congr fun a ha b hb => ?_
  by_cases h : b < 128
  · rw [if_pos h, zero_add, sum_shift0 (f a), Finset.sum_Ico_consecutive _ (by omega) (by omega)]
  · rw [if_neg h, add_zero, sum_upper (f a)]; congr 2; omega

theorem is_wFrom {x : Wide Ideal} {f : ℕ → ℕ → ℝ} (hx : Is x f) : Is (wFrom fromTri x) (fun a b => ∑ k ∈ Ico b 256, f a k) := by
  refine (is_cat2 (is_fromHere (is_lower hx) (is_none0.add (is_rowSum (is_upper hx)))) (is_fromHere (is_upper hx) is_none0)).congr fun a ha b hb => ?_
  by_cases h : b < 128
  · rw [if_pos h, zero_add, sum_shift0 (f a), Finset.sum_Ico_consecutive _ (by omega) (by omega)]
  · rw [if_neg h, add_zero, sum_upper (f a)]; congr 2; omega

theorem NearTile.log (h : NearTile Z D B C M q k d v) : Is (wLog M q k) (fun a b => if C + b < B + a then -sp (Z (B + a) (C + b)) else 0) :=
  Is.select (p := fun a b => C + b < B + a) h.m (is_logKeep h.z) is_zeros

theorem NearTile.weight (h : NearTile Z D B C M q k d v) : Is (wWeight laterTri M q k) (fun a b => if C + b < B + a then wt Z (B + a) (C + b) else 0) := by
  refine (Is.select (p := fun a b => C + b < B + a) h.m (is_weight h.z (is_wLater h.log)) is_zeros).congr fun a ha b hb => ?_
  rw [sum_masked (fun j => -sp (Z (B + a) j)) (by have := h.le; omega)]
  rfl

theorem NearTile.g (h : NearTile Z D B C M q k d v) : Is (wG laterTri M q k d v) (fun a b => if C + b < B + a then gr Z D (B + a) (C + b) else 0) := by
  refine (h.weight.mul h.d).congr fun a ha b hb => ?_
  rw [ite_mul, zero_mul]; rfl

theorem NearTile.logSum (h : NearTile Z D B C M q k d v) : Is (wSum (wLog M q k)) (fun a _ => ∑ j ∈ Ico C (B + a), -sp (Z (B + a) j)) := by
  refine (is_wSum h.log).congr fun a ha b hb => ?_
  rw [Finset.range_eq_Ico, sum_masked (fun j => -sp (Z (B + a) j)) (by have := h.le; omega), add_zero]

theorem NearTile.gSum (h : NearTile Z D B C M q k d v) : Is (wSum (wG laterTri M q k d v)) (fun a _ => ∑ j ∈ Ico C (B + a), gr Z D (B + a) j) := by
  refine (is_wSum h.g).congr fun a ha b hb => ?_
  rw [Finset.range_eq_Ico, sum_masked (fun j => gr Z D (B + a) j) (by have := h.le; omega), add_zero]

theorem NearTile.dz (h : NearTile Z D B C M q k d v) (ht : Is tot (fun a _ => ∑ j ∈ range (B + a), gr Z D (B + a) j)) :
    Is (wDz laterTri fromTri M q k d v tot) (fun a b => if C + b < B + a then ds Z D (B + a) (C + b) else 0) := by
  refine (((Is.select (p := fun a b => C + b < B + a) h.m (is_dscore h.z h.g ((is_alongw ht).sub (is_wFrom h.g))) is_zeros).mul is_eighth).trunc).congr
    fun a ha b hb => ?_
  rw [sum_masked (fun j => gr Z D (B + a) j) (by have := h.le; omega)]
  by_cases hm : C + b < B + a
  · simp only [if_pos hm]; rw [sum_rest _ hm.le]; rfl
  · simp only [if_neg hm, zero_mul]

end Near

end Cert.Kernel2Ideal.Attn

end
-- ==== Proof.AttnRun.lean ====
/-
  The eight printed loops are the two loops of AttnDef.lean: four only sum (one per block of 128 rows), four also
  accumulate. Each equality holds by unfolding both sides.

  The grid step's triples. A step holds seven whole buffers; `Mem` names what they read, `held` says so, and `Tr` is the
  triple "from memory `M` the program returns `v` and leaves memory `M'`". Triples compose along the program (`Tr.bind`), so
  the whole step is proved by naming the memory after each operation. The loops are answered at a variant that counts the
  trips left.

  The grid step as a function of its memory. `farRun` and `stepRun` are the loops with their trips counted down,
  `bodyRun` the whole step; the triples say the programs compute them. Block numbers become natural numbers: the words the
  kernel computes its offsets from stay below 128, so each is settled by trying all of them.

  The grid step's effect, buffer by buffer. `bodyRun` says what memory a step leaves; here each of the three gradients is
  written on its own, over the four things a step reads (`In`): the rows' gradient is put in place block by block, and the
  gradients of keys and values receive one addition per visited block.
-/
module

public import proofs.«01_k».proof.Proof.AttnDef
public import Idealize.ShloMosaic.Lib.Tactic
public import proofs.«01_k».proof.Proof.Gen.Kernel2Ideal.Launch
public import Idealize.ShloMosaic.Lib.Pipeline.FrameBody
public import Idealize.ShloMosaic.Lib.Exec.Geometry
public import Idealize.ShloMosaic.Lib.Claim

@[expose] public section

noncomputable section

namespace Cert.Kernel2Ideal.Attn

open Cert.Kernel2Ideal Cert.Kernel2Ideal.Gen
open Idealize.ShloMosaic Idealize.ShloMosaic.Tactic Idealize.SL.Sem

variable {F : FTy → Type} [FloatOps F] [Named F]

section Loops

variable (n : Fin 4) (i : grid0.Coords) (arg3 : Big .bf16) (harg3 : arg3.IsWhole) (arg4 : Big .bf16) (harg4 : arg4.IsWhole)
  (arg7 : Big .f32) (harg7 : arg7.IsWhole) (arg8 : Big .f32) (harg8 : arg8.IsWhole) (tri : FVec F S256x128 .bf16) (C : Consts F) (R : Rows F) (tot0 tot1 : Col F)

/-- The labels of the summing loops, called with what they carry. -/
abbrev farCall (s : FarState F) : Pr F (FarState F) :=
  match n with
  | 0 => Prog.lift (.call (1 : (Λ₀ F).Label) ⟨i, arg3, harg3, arg4, harg4, R.q0, R.q1, tri, R.d0, R.d1, s.1, s.2.1, s.2.2.1, s.2.2.2.1, s.2.2.2.2.1, s.2.2.2.2.2⟩)
  | 1 => Prog.lift (.call (2 : (Λ₀ F).Label) ⟨i, arg3, harg3, arg4, harg4, R.q0, R.q1, tri, R.d0, R.d1, s.1, s.2.1, s.2.2.1, s.2.2.2.1, s.2.2.2.2.1, s.2.2.2.2.2⟩)
  | 2 => Prog.lift (.call (3 : (Λ₀ F).Label) ⟨i, arg3, harg3, arg4, harg4, R.q0, R.q1, tri, R.d0, R.d1, s.1, s.2.1, s.2.2.1, s.2.2.2.1, s.2.2.2.2.1, s.2.2.2.2.2⟩)
  | 3 => Prog.lift (.call (4 : (Λ₀ F).Label) ⟨i, arg3, harg3, arg4, harg4, R.q0, R.q1, tri, R.d0, R.d1, s.1, s.2.1, s.2.2.1, s.2.2.2.1, s.2.2.2.2.1, s.2.2.2.2.2⟩)

/-- The labels of the accumulating loops, called with what they carry. -/
abbrev stepCall (s : StepState F) : Pr F (StepState F) :=
  match n with
  | 0 => Prog.lift (.call (5 : (Λ₀ F).Label) ⟨i, arg3, harg3, arg4, harg4, R.q0, R.q1, C.tri, R.d0, R.d1, C.tri3, tot0, tot1, arg7, harg7, arg8, harg8, C.low,
      s.1, s.2.1, s.2.2.1, s.2.2.2.1, s.2.2.2.2.1, s.2.2.2.2.2.1, s.2.2.2.2.2.2⟩)
  | 1 => Prog.lift (.call (6 : (Λ₀ F).Label) ⟨i, arg3, harg3, arg4, harg4, R.q0, R.q1, C.tri, R.d0, R.d1, C.tri3, tot0, tot1, arg7, harg7, arg8, harg8, C.low,
      s.1, s.2.1, s.2.2.1, s.2.2.2.1, s.2.2.2.2.1, s.2.2.2.2.2.1, s.2.2.2.2.2.2⟩)
  | 2 => Prog.lift (.call (7 : (Λ₀ F).Label) ⟨i, arg3, harg3, arg4, harg4, R.q0, R.q1, C.tri, R.d0, R.d1, C.tri3, tot0, tot1, arg7, harg7, arg8, harg8, C.low,
      s.1, s.2.1, s.2.2.1, s.2.2.2.1, s.2.2.2.2.1, s.2.2.2.2.2.1, s.2.2.2.2.2.2⟩)
  | 3 => Prog.lift (.call (8 : (Λ₀ F).Label) ⟨i, arg3, harg3, arg4, harg4, R.q0, R.q1, C.tri, R.d0, R.d1, C.tri3, tot0, tot1, arg7, harg7, arg8, harg8, C.low,
      s.1, s.2.1, s.2.2.1, s.2.2.2.1, s.2.2.2.2.1, s.2.2.2.2.2.1, s.2.2.2.2.2.2⟩)

/-! The summing loops, then the accumulating ones. -/

theorem while1_eq (s : FarState F) :
    cc0_while1 i arg3 harg3 arg4 harg4 R.q0 R.q1 tri R.d0 R.d1 s.1 s.2.1 s.2.2.1 s.2.2.2.1 s.2.2.2.2.1 s.2.2.2.2.2
      = farProg (farCall 0 i arg3 harg3 arg4 harg4 tri R) arg3 arg4 tri R s := by
  sl_kernel_rfl

theorem while2_eq (s : FarState F) :
    cc0_while2 i arg3 harg3 arg4 harg4 R.q0 R.q1 tri R.d0 R.d1 s.1 s.2.1 s.2.2.1 s.2.2.2.1 s.2.2.2.2.1 s.2.2.2.2.2
      = farProg (farCall 1 i arg3 harg3 arg4 harg4 tri R) arg3 arg4 tri R s := by
  sl_kernel_rfl

theorem while3_eq (s : FarState F) :
    cc0_while3 i arg3 harg3 arg4 harg4 R.q0 R.q1 tri R.d0 R.d1 s.1 s.2.1 s.2.2.1 s.2.2.2.1 s.2.2.2.2.1 s.2.2.2.2.2
      = farProg (farCall 2 i arg3 harg3 arg4 harg4 tri R) arg3 arg4 tri R s := by
  sl_kernel_rfl

theorem while4_eq (s : FarState F) :
    cc0_while4 i arg3 harg3 arg4 harg4 R.q0 R.q1 tri R.d0 R.d1 s.1 s.2.1 s.2.2.1 s.2.2.2.1 s.2.2.2.2.1 s.2.2.2.2.2
      = farProg (farCall 3 i arg3 harg3 arg4 harg4 tri R) arg3 arg4 tri R s := by
  sl_kernel_rfl

theorem while5_eq (s : StepState F) :
    cc0_while5 i arg3 harg3 arg4 harg4 R.q0 R.q1 C.tri R.d0 R.d1 C.tri3 tot0 tot1 arg7 harg7 arg8 harg8 C.low
        s.1 s.2.1 s.2.2.1 s.2.2.2.1 s.2.2.2.2.1 s.2.2.2.2.2.1 s.2.2.2.2.2.2
      = stepProg (stepCall 0 i arg3 harg3 arg4 harg4 arg7 harg7 arg8 harg8 C R tot0 tot1) arg3 arg4 arg7 arg8 C R tot0 tot1 s := by
  sl_kernel_rfl

theorem while6_eq (s : StepState F) :
    cc0_while6 i arg3 harg3 arg4 harg4 R.q0 R.q1 C.tri R.d0 R.d1 C.tri3 tot0 tot1 arg7 harg7 arg8 harg8 C.low
        s.1 s.2.1 s.2.2.1 s.2.2.2.1 s.2.2.2.2.1 s.2.2.2.2.2.1 s.2.2.2.2.2.2
      = stepProg (stepCall 1 i arg3 harg3 arg4 harg4 arg7 harg7 arg8 harg8 C R tot0 tot1) arg3 arg4 arg7 arg8 C R tot0 tot1 s := by
  sl_kernel_rfl

theorem while7_eq (s : StepState F) :
    cc0_while7 i arg3 harg3 arg4 harg4 R.q0 R.q1 C.tri R.d0 R.d1 C.tri3 tot0 tot1 arg7 harg7 arg8 harg8 C.low
        s.1 s.2.1 s.2.2.1 s.2.2.2.1 s.2.2.2.2.1 s.2.2.2.2.2.1 s.2.2.2.2.2.2
      = stepProg (stepCall 2 i arg3 harg3 arg4 harg4 arg7 harg7 arg8 harg8 C R tot0 tot1) arg3 arg4 arg7 arg8 C R tot0 tot1 s := by
  sl_kernel_rfl

theorem while8_eq (s : StepState F) :
    cc0_while8 i arg3 harg3 arg4 harg4 R.q0 R.q1 C.tri R.d0 R.d1 C.tri3 tot0 tot1 arg7 harg7 arg8 harg8 C.low
        s.1 s.2.1 s.2.2.1 s.2.2.2.1 s.2.2.2.2.1 s.2.2.2.2.2.1 s.2.2.2.2.2.2
      = stepProg (stepCall 3 i arg3 harg3 arg4 harg4 arg7 harg7 arg8 harg8 C R tot0 tot1) arg3 arg4 arg7 arg8 C R tot0 tot1 s := by
  sl_kernel_rfl

end Loops

/-- The grid step. -/
theorem body_eq (i : grid0.Coords) (arg2 : Small .bf16) (harg2 : arg2.IsWhole) (arg3 : Big .bf16) (harg3 : arg3.IsWhole) (arg4 : Big .bf16) (harg4 : arg4.IsWhole)
    (arg5 : Small .f32) (harg5 : arg5.IsWhole) (arg6 : Small .f32) (harg6 : arg6.IsWhole)
    (arg7 : Big .f32) (harg7 : arg7.IsWhole) (arg8 : Big .f32) (harg8 : arg8.IsWhole) :
    cc0_bwd_attn i arg2 harg2 arg3 harg3 arg4 harg4 arg5 harg5 arg6 harg6 arg7 harg7 arg8 harg8
      = bodyProg (F := F) (fun n R s => farCall n i arg3 harg3 arg4 harg4 laterTri R s)
          (fun n R t0 t1 s => stepCall n i arg3 harg3 arg4 harg4 arg7 harg7 arg8 harg8 consts R t0 t1 s)
          i arg2 arg3 arg4 arg5 arg6 arg7 arg8 := by
  by_cases h : Scalar.cmpi .ne (Scalar.extui (Scalar.cmpi .eq (BitVec.ofNat 32 (i 1).val) 0#32) : BitVec 32) 0#32 = 1#1
  all_goals
    unfold cc0_bwd_attn k0_part1 bodyProg
    simp only [h, ↓reduceIte, ↓reduceDIte]
    sl_kernel_rfl

end Cert.Kernel2Ideal.Attn

namespace Cert.Kernel2Ideal.Attn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] {nD : ℕ} {τ : Topo} {sig : RefSig} {Λ : Labels} (D : Defs nD τ sig (Elt F) Λ)

local notation "𝕄" => MT nD τ sig Unit (Elt F) ℕ (UR sig nD τ) ℕ

/-- Loops are answered at the number of trips left. -/
abbrev 𝒱₀ : Variants := Variants.nat

/-! ## What the buffers read -/

/-- What a step's seven buffers read. -/
structure Mem (F : FTy → Type) where
  /-- the step's rows -/
  q : S512x128.Idx → Elt F .bf16
  /-- all keys -/
  k : S16384x128.Idx → Elt F .bf16
  /-- all values -/
  v : S16384x128.Idx → Elt F .bf16
  /-- the gradient of the step's result rows -/
  d : S512x128.Idx → Elt F .f32
  /-- the gradient of the step's rows -/
  dq : S512x128.Idx → Elt F .f32
  /-- the gradient of the keys -/
  dk : S16384x128.Idx → Elt F .f32
  /-- the gradient of the values -/
  dv : S16384x128.Idx → Elt F .f32

/-- The seven buffers a step is given, each whole. -/
structure Bufs (sig : RefSig) where
  /-- the rows -/
  a2 : Memref sig .tc .vmem S512x128 .bf16
  h2 : a2.IsWhole
  /-- the keys -/
  a3 : Memref sig .tc .vmem S16384x128 .bf16
  h3 : a3.IsWhole
  /-- the values -/
  a4 : Memref sig .tc .vmem S16384x128 .bf16
  h4 : a4.IsWhole
  /-- the gradient of the result -/
  a5 : Memref sig .tc .vmem S512x128 .f32
  h5 : a5.IsWhole
  /-- the gradient of the rows -/
  a6 : Memref sig .tc .vmem S512x128 .f32
  h6 : a6.IsWhole
  /-- the gradient of the keys -/
  a7 : Memref sig .tc .vmem S16384x128 .f32
  h7 : a7.IsWhole
  /-- the gradient of the values -/
  a8 : Memref sig .tc .vmem S16384x128 .f32
  h8 : a8.IsWhole

variable (c : Dev nD) (B : Bufs sig)

/-- The seven buffers held whole, reading `M`. -/
def held (M : Mem F) : sProp 𝕄 :=
  iprop(owns (c : Thread nD τ) B.a2 fullShare M.q ∗ owns (c : Thread nD τ) B.a3 fullShare M.k ∗ owns (c : Thread nD τ) B.a4 fullShare M.v
    ∗ owns (c : Thread nD τ) B.a5 fullShare M.d ∗ owns (c : Thread nD τ) B.a6 fullShare M.dq ∗ owns (c : Thread nD τ) B.a7 fullShare M.dk
    ∗ owns (c : Thread nD τ) B.a8 fullShare M.dv)

/-- From memory `M` the program returns `v` and leaves memory `M'`, its calls answered below `bd`. -/
def Tr (bd : Option ℕ) (M : Mem F) {α : Type} (p : Prog (TpuEff nD τ sig (Elt F) Λ .tc) α) (v : α) (M' : Mem F) : Prop :=
  ∀ Q : α → sProp 𝕄, held c B M ⊢ iprop((held c B M' -∗ Q v) -∗ wp frame (wpE D 𝒱₀ (c : Thread nD τ) bd) Set.univ p Q)

variable {D c B}

/-- A program that only returns. -/
theorem Tr.ret (bd : Option ℕ) (M : Mem F) {α : Type} (v : α) : Tr D c B bd M (Prog.ret v) v M := by
  intro Q
  iintro H Hk
  rw [wp_ret]; imodintro
  iapply Hk; iexact H

/-- One program after another. -/
theorem Tr.bind {bd : Option ℕ} {M M' M'' : Mem F} {α β : Type} {p : Prog (TpuEff nD τ sig (Elt F) Λ .tc) α} {v : α} {k : α → Prog (TpuEff nD τ sig (Elt F) Λ .tc) β} {w : β}
    (hp : Tr D c B bd M p v M') (hk : Tr D c B bd M' (k v) w M'') : Tr D c B bd M (p >>= k) w M'' := by
  intro Q
  rw [wp_bind]
  iintro H Hk
  iapply (hp _) $$ H
  iintro H
  iapply (hk Q) $$ H
  iexact Hk

/-- A call of a label is the label's program, at a variant below. -/
theorem Tr.call {bd : Option ℕ} {ℓ : Λ.Label} {a : Λ.Args ℓ} {p : Prog (TpuEff nD τ sig (Elt F) Λ .tc) (Λ.Result ℓ)} (hd : D .tc ℓ a = p) (k : ℕ) (hk : ∀ u ∈ bd, k < u)
    {M M' : Mem F} {v : Λ.Result ℓ} (h : Tr D c B (some k) M p v M') : Tr D c B bd M (Prog.lift (.call ℓ a)) v M' := by
  intro Q
  subst hd
  refine (h Q).trans (wand_mono_right ?_)
  refine (wp_mono frame (wpE D 𝒱₀ (c : Thread nD τ) (some k)) Set.univ
    (Q' := fun x => wp frame (wpE D 𝒱₀ (c : Thread nD τ) bd) Set.univ (Prog.ret x) Q) (fun a => by rw [wp_ret]; exact BI.fupd_intro)).trans ?_
  exact wp_call (ℓ := ℓ) (a := a) (k := Prog.ret) 𝒱₀ (c : Thread nD τ) bd Set.univ k hk

/-- An assumption that holds. -/
theorem Tr.assume {bd : Option ℕ} (M : Mem F) {P : Prop} {d : Decidable P} (h : P) : Tr D c B bd M (Prog.lift (.assume P d)) ⟨h⟩ M := by
  intro Q
  iintro H Hk
  iapply (wp_assume 𝒱₀ (c : Thread nD τ) bd Set.univ h)
  rw [wp_ret]; imodintro
  iapply Hk; iexact H

/-! ## Loads and stores -/

/-- A load through a rectangle of a buffer reading `X`. -/
theorem wp_load_owns (bd : Option ℕ) {s : Shape} {e : EltTy} (m : Memref sig .tc .vmem s e) {r : Rect s} {hl : m.view.LoadsAt r.toLoadRect} {α : Type}
    {k : (r.shape.Idx → Elt F e) → Prog (TpuEff nD τ sig (Elt F) Λ .tc) α} {Q : α → sProp 𝕄} (X : s.Idx → Elt F e) : owns (c : Thread nD τ) m fullShare X
      ⊢ iprop((owns (c : Thread nD τ) m fullShare X -∗ wp frame (wpE D 𝒱₀ (c : Thread nD τ) bd) Set.univ (k (View.ld X r)) Q)
        -∗ wp frame (wpE D 𝒱₀ (c : Thread nD τ) bd) Set.univ (.op (.load m r.toLoadRect hl) k) Q) := by
  unfold owns
  iintro ⟨%f, %hf, H⟩ Hk
  subst hf
  iapply (wp_load 𝒱₀ (c : Thread nD τ) bd Set.univ (m := m) (View.setOn_subset_set _ _)) $$ H
  iintro H
  iapply Hk
  iexists f
  isplitr
  · ipureintro; rfl
  · iexact H

/-- What a buffer reads after a store through a rectangle. -/
theorem read_write_rect {s : Shape} {e : EltTy} (m : Memref sig .tc .vmem s e) (r : Rect s) (f : m.view.ty.Contents (Elt F)) (w : r.shape.Idx → Elt F e) :
    m.view.read (Elt F) ((m.access r).write (Elt F) f w Finset.univ) = r.overlay (m.view.read (Elt F) f) w := by
  funext y
  by_cases hy : y ∈ r.set
  · obtain ⟨x, rfl⟩ : ∃ x, r.emb x = y := r.exists_idx_of_mem hy
    rw [r.overlay_emb]
    exact View.read_writes_cons_emb (v := m.view) (f := f) r w [] x
  · rw [r.overlay_of_not_mem _ _ hy]
    exact View.read_slice_write_of_not_mem (v := m.view) r f w Finset.univ (by rwa [Rect.map_emb_univ])

/-- A store through a rectangle of a buffer reading `X`. -/
theorem wp_store_owns (bd : Option ℕ) {s : Shape} {e : EltTy} (m : Memref sig .tc .vmem s e) {r : Rect s} {w : r.shape.Idx → Elt F e}
    {hx : (m.access r).Stores Finset.univ} {hm : Finset.univ = Finset.univ ∨ ∀ a, r.stride a = 1} {α : Type}
    {k : PUnit → Prog (TpuEff nD τ sig (Elt F) Λ .tc) α} {Q : α → sProp 𝕄} (X : s.Idx → Elt F e) : owns (c : Thread nD τ) m fullShare X
      ⊢ iprop((owns (c : Thread nD τ) m fullShare (r.overlay X w) -∗ wp frame (wpE D 𝒱₀ (c : Thread nD τ) bd) Set.univ (k ⟨⟩) Q)
        -∗ wp frame (wpE D 𝒱₀ (c : Thread nD τ) bd) Set.univ (.op (.store m r w Finset.univ hx hm) k) Q) := by
  unfold owns
  iintro ⟨%f, %hf, H⟩ Hk
  subst hf
  iapply (wp_store 𝒱₀ (c : Thread nD τ) bd Set.univ (m := m) (r := r) (w := w) (Mk := Finset.univ) (S := m.view.set) (View.setOn_slice_subset_set _ _ _)) $$ H
  iintro H
  iapply Hk
  iexists _
  isplitr
  rotate_left
  · iexact H
  · ipureintro; exact read_write_rect m r f w

theorem Tr.load_q (bd : Option ℕ) (M : Mem F) {r : Rect S512x128} {hl : B.a2.view.LoadsAt r.toLoadRect} :
    Tr D c B bd M (Prog.lift (.load B.a2 r.toLoadRect hl)) (View.ld M.q r) M := by
  intro Q
  unfold held
  iintro ⟨H2, H3, H4, H5, H6, H7, H8⟩ Hk
  iapply (wp_load_owns bd B.a2 M.q) $$ H2
  iintro H2
  rw [wp_ret]; imodintro
  iapply Hk
  iframe

theorem Tr.load_k (bd : Option ℕ) (M : Mem F) {r : Rect S16384x128} {hl : B.a3.view.LoadsAt r.toLoadRect} :
    Tr D c B bd M (Prog.lift (.load B.a3 r.toLoadRect hl)) (View.ld M.k r) M := by
  intro Q
  unfold held
  iintro ⟨H2, H3, H4, H5, H6, H7, H8⟩ Hk
  iapply (wp_load_owns bd B.a3 M.k) $$ H3
  iintro H3
  rw [wp_ret]; imodintro
  iapply Hk
  iframe

theorem Tr.load_v (bd : Option ℕ) (M : Mem F) {r : Rect S16384x128} {hl : B.a4.view.LoadsAt r.toLoadRect} :
    Tr D c B bd M (Prog.lift (.load B.a4 r.toLoadRect hl)) (View.ld M.v r) M := by
  intro Q
  unfold held
  iintro ⟨H2, H3, H4, H5, H6, H7, H8⟩ Hk
  iapply (wp_load_owns bd B.a4 M.v) $$ H4
  iintro H4
  rw [wp_ret]; imodintro
  iapply Hk
  iframe

theorem Tr.load_d (bd : Option ℕ) (M : Mem F) {r : Rect S512x128} {hl : B.a5.view.LoadsAt r.toLoadRect} :
    Tr D c B bd M (Prog.lift (.load B.a5 r.toLoadRect hl)) (View.ld M.d r) M := by
  intro Q
  unfold held
  iintro ⟨H2, H3, H4, H5, H6, H7, H8⟩ Hk
  iapply (wp_load_owns bd B.a5 M.d) $$ H5
  iintro H5
  rw [wp_ret]; imodintro
  iapply Hk
  iframe

theorem Tr.load_dq (bd : Option ℕ) (M : Mem F) {r : Rect S512x128} {hl : B.a6.view.LoadsAt r.toLoadRect} :
    Tr D c B bd M (Prog.lift (.load B.a6 r.toLoadRect hl)) (View.ld M.dq r) M := by
  intro Q
  unfold held
  iintro ⟨H2, H3, H4, H5, H6, H7, H8⟩ Hk
  iapply (wp_load_owns bd B.a6 M.dq) $$ H6
  iintro H6
  rw [wp_ret]; imodintro
  iapply Hk
  iframe

theorem Tr.load_dk (bd : Option ℕ) (M : Mem F) {r : Rect S16384x128} {hl : B.a7.view.LoadsAt r.toLoadRect} :
    Tr D c B bd M (Prog.lift (.load B.a7 r.toLoadRect hl)) (View.ld M.dk r) M := by
  intro Q
  unfold held
  iintro ⟨H2, H3, H4, H5, H6, H7, H8⟩ Hk
  iapply (wp_load_owns bd B.a7 M.dk) $$ H7
  iintro H7
  rw [wp_ret]; imodintro
  iapply Hk
  iframe

theorem Tr.load_dv (bd : Option ℕ) (M : Mem F) {r : Rect S16384x128} {hl : B.a8.view.LoadsAt r.toLoadRect} :
    Tr D c B bd M (Prog.lift (.load B.a8 r.toLoadRect hl)) (View.ld M.dv r) M := by
  intro Q
  unfold held
  iintro ⟨H2, H3, H4, H5, H6, H7, H8⟩ Hk
  iapply (wp_load_owns bd B.a8 M.dv) $$ H8
  iintro H8
  rw [wp_ret]; imodintro
  iapply Hk
  iframe

theorem Tr.store_dq (bd : Option ℕ) (M : Mem F) {r : Rect S512x128} {w : r.shape.Idx → Elt F .f32}
    {hx : (B.a6.access r).Stores Finset.univ} {hm : Finset.univ = Finset.univ ∨ ∀ a, r.stride a = 1} :
    Tr D c B bd M (Prog.lift (.store B.a6 r w Finset.univ hx hm)) ⟨⟩ { M with dq := r.overlay M.dq w } := by
  intro Q
  unfold held
  iintro ⟨H2, H3, H4, H5, H6, H7, H8⟩ Hk
  iapply (wp_store_owns bd B.a6 M.dq) $$ H6
  iintro H6
  rw [wp_ret]; imodintro
  iapply Hk
  iframe

theorem Tr.store_dk (bd : Option ℕ) (M : Mem F) {r : Rect S16384x128} {w : r.shape.Idx → Elt F .f32}
    {hx : (B.a7.access r).Stores Finset.univ} {hm : Finset.univ = Finset.univ ∨ ∀ a, r.stride a = 1} :
    Tr D c B bd M (Prog.lift (.store B.a7 r w Finset.univ hx hm)) ⟨⟩ { M with dk := r.overlay M.dk w } := by
  intro Q
  unfold held
  iintro ⟨H2, H3, H4, H5, H6, H7, H8⟩ Hk
  iapply (wp_store_owns bd B.a7 M.dk) $$ H7
  iintro H7
  rw [wp_ret]; imodintro
  iapply Hk
  iframe

theorem Tr.store_dv (bd : Option ℕ) (M : Mem F) {r : Rect S16384x128} {w : r.shape.Idx → Elt F .f32}
    {hx : (B.a8.access r).Stores Finset.univ} {hm : Finset.univ = Finset.univ ∨ ∀ a, r.stride a = 1} :
    Tr D c B bd M (Prog.lift (.store B.a8 r w Finset.univ hx hm)) ⟨⟩ { M with dv := r.overlay M.dv w } := by
  intro Q
  unfold held
  iintro ⟨H2, H3, H4, H5, H6, H7, H8⟩ Hk
  iapply (wp_store_owns bd B.a8 M.dv) $$ H8
  iintro H8
  rw [wp_ret]; imodintro
  iapply Hk
  iframe

end Cert.Kernel2Ideal.Attn

namespace Cert.Kernel2Ideal.Attn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## Words and offsets -/

/-- The word that counts `k` trips left. -/
abbrev jw (k : ℕ) : BitVec 32 := Scalar.subi (BitVec.ofNat 32 k) 1#32

/-- The first of the two blocks nearest to block `s` of step `a`. -/
abbrev first (a s : ℕ) : ℕ := 4 * a + s - 1

/-- With `k + 1` trips left, one less is `k`. -/
theorem jw_succ (k : ℕ) : Scalar.subi (jw (k + 1)) 1#32 = jw k := by
  have h : jw (k + 1) = BitVec.ofNat 32 k := by
    show BitVec.ofNat 32 (k + 1) - 1#32 = BitVec.ofNat 32 k
    rw [BitVec.ofNat_add]; exact BitVec.add_sub_cancel _ _
  rw [h]

/-- A block's number is not negative, -/
theorem sge_jw : ∀ k : Fin 128, Scalar.cmpi .sge (jw (k.val + 1)) 0#32 = 1#1 := by decide
/-- and what follows the last one is. -/
theorem sge_jw_zero : Scalar.cmpi .sge (jw 0) 0#32 = 0#1 := by decide

/-- A block's rows lie inside the buffer, -/
theorem chk_jw : ∀ k : Fin 128, k0_chk1 (jw (k.val + 1)) := by decide
/-- and start at 128 times its number. -/
theorem off_jw : ∀ k : Fin 128, k0_off2 (jw (k.val + 1)) = ![128 * (k.val % 128), 0] := by decide

/-- The offset of the nearest keys, as the kernel computes it. -/
def winOff (a s : BitVec 32) : Fin 2 → ℕ :=
  ![(Scalar.muli (Scalar.maxsi (Scalar.subi (Scalar.addi (Scalar.muli a 4#32) s) 1#32) 0#32) 128#32).toNat, 0]
/-- It is 128 times the first nearest block's number. -/
theorem winOff_eq : ∀ (a : Fin 32) (s : Fin 4), winOff (BitVec.ofNat 32 a.val) (BitVec.ofNat 32 s.val) = ![128 * (first a.val s.val % 127), 0] := by decide
/-- The word of the first nearest block. -/
def firstW (a s : BitVec 32) : BitVec 32 := Scalar.subi (Scalar.maxsi (Scalar.subi (Scalar.addi (Scalar.muli a 4#32) s) 1#32) 0#32) 1#32
/-- It counts as many trips as there are blocks before. -/
theorem firstW_eq : ∀ (a : Fin 32) (s : Fin 4), firstW (BitVec.ofNat 32 a.val) (BitVec.ofNat 32 s.val) = jw (first a.val s.val) := by decide

/-- The step's number along the rows. -/
abbrev row (i : grid0.Coords) : Fin 32 := i 1

/-- The rows of block `k`. -/
def tRect (k : ℕ) : Rect S16384x128 := Rect.unit (s := S16384x128) ![128 * (k % 128), 0] S128x128.size (by
  intro a; have := Nat.mod_lt k (show 0 < 128 by decide); fin_cases a
  · show 128 * (k % 128) + 128 ≤ 16384; omega
  · show 0 + 128 ≤ 128; omega)
/-- The rows of blocks `k` and `k + 1`. -/
def wRect (k : ℕ) : Rect S16384x128 := Rect.unit (s := S16384x128) ![128 * (k % 127), 0] S256x128.size (by
  intro a; have := Nat.mod_lt k (show 0 < 127 by decide); fin_cases a
  · show 128 * (k % 127) + 256 ≤ 16384; omega
  · show 0 + 128 ≤ 128; omega)
/-- The rows of the step's block at `off`. -/
abbrev rRect (off : Fin 2 → ℕ) (inb : ∀ a, off a + S128x128.size a ≤ S512x128.size a) : Rect S512x128 := Rect.unit (s := S512x128) off S128x128.size inb

/-- A block's rows of a buffer. -/
def tile {e : EltTy} (X : S16384x128.Idx → Elt F e) (k : ℕ) : Vec F S128x128 e := View.ld X (tRect k)

/-- A read through the same rectangle, its offset named otherwise. -/
theorem ld_congr {e : EltTy} {s : Shape} (X : s.Idx → Elt F e) {off off' size : Fin s.rank → ℕ} (h : off = off')
    (inb : ∀ a, off a + size a ≤ s.size a) (inb' : ∀ a, off' a + size a ≤ s.size a) :
    (View.ld X (Rect.unit off size inb) : (Rect.unit off size inb).shape.Idx → Elt F e) = View.ld X (Rect.unit off' size inb') := by
  subst h; rfl

/-- A write through the same rectangle, its offset named otherwise. -/
theorem overlay_congr {e : EltTy} {s : Shape} (X : s.Idx → Elt F e) {off off' size : Fin s.rank → ℕ} (h : off = off')
    (inb : ∀ a, off a + size a ≤ s.size a) (inb' : ∀ a, off' a + size a ≤ s.size a) (w : (Rect.unit off size inb).shape.Idx → Elt F e) :
    (Rect.unit off size inb).overlay X w = (Rect.unit off' size inb').overlay X w := by
  subst h; rfl

/-! ## The loops, trips counted down -/

/-- Keys or values of a block, as the kernel handles them. -/
abbrev half (X : S16384x128.Idx → Elt F .bf16) (k : ℕ) : Half F := shapeCast S128x128 (tile X k) shapeCasts_S128x128_S128x128

/-- The summing loop with `k` trips left, over the buffers `K` and `V`. -/
def farRun (K V : S16384x128.Idx → Elt F .bf16) (tri : FVec F S256x128 .bf16) (R : Rows F) : ℕ → FarState F → FarState F
  | 0, s => s
  | k + 1, s => if s.2.1 = 0#32 then farRun K V tri R k (farNext tri R (half K k) (half V k) s) else s

/-- Adds a tile to a block of a buffer's contents. -/
def addT (X : S16384x128.Idx → Elt F .f32) (k : ℕ) (x : Tile F) : S16384x128.Idx → Elt F .f32 :=
  (tRect k).overlay X (addf (shapeCast S128x128 (tile X k) shapeCasts_S128x128_S128x128) x : Tile F)

/-- The memory after one trip of the accumulating loop. -/
def stepMem (C : Consts F) (R : Rows F) (tot0 tot1 : Col F) (k : ℕ) (s : StepState F) (M : Mem F) : Mem F :=
  { M with
    dk := addT M.dk k (stepDk C R tot0 tot1 (half M.k k) (half M.v k) s)
    dv := addT M.dv k (stepDv C R (half M.k k) (half M.v k) s) }

/-- The accumulating loop with `k` trips left: what it carries and the memory. -/
def stepRun (C : Consts F) (R : Rows F) (tot0 tot1 : Col F) : ℕ → StepState F → Mem F → StepState F × Mem F
  | 0, s, M => (s, M)
  | k + 1, s, M =>
    if s.2.1 = 0#32 then stepRun C R tot0 tot1 k (stepNext C R tot0 tot1 (half M.k k) (half M.v k) s) (stepMem C R tot0 tot1 k s M) else (s, M)

/-! ## The step -/

/-- What block `s` of the step reads. -/
def raw (M : Mem F) (i : grid0.Coords) (s : Fin 4) (off : Fin 2 → ℕ) (inb : ∀ a, off a + S128x128.size a ≤ S512x128.size a) : Raw F :=
  ⟨View.ld M.q (rRect off inb), View.ld M.d (rRect off inb), View.ld M.k (wRect (first (row i).val s.val)), View.ld M.v (wRect (first (row i).val s.val))⟩

/-- The rows of block `s` within the step. -/
abbrev rOff (s : Fin 4) : Fin 2 → ℕ := ![128 * s.val, 0]
/-- They lie within the step's rows. -/
theorem rOff_inb (s : Fin 4) : ∀ a, rOff s a + S128x128.size a ≤ S512x128.size a := by
  intro a; fin_cases a
  · show 128 * s.val + 128 ≤ 512; omega
  · show 0 + 128 ≤ 128; omega

/-- What block `s` of the step reads. -/
abbrev rawOf (M : Mem F) (i : grid0.Coords) (s : Fin 4) : Raw F := raw M i s (rOff s) (rOff_inb s)
/-- Its number within the step, as a word. -/
abbrev sw (s : Fin 4) : BitVec 32 := BitVec.ofNat 32 s.val

/-- What the summing loop of block `s` returns. -/
def farOf (M : Mem F) (i : grid0.Coords) (s : Fin 4) : FarState F :=
  farRun M.k M.v laterTri (rawOf M i s).rows (first (row i).val s.val) (farStart (rawOf M i s) i (sw s))

/-- The gradients of keys and values set to zero. -/
def clearMem (M : Mem F) : Mem F := { M with dk := zeros S16384x128, dv := zeros S16384x128 }

/-- Adds a tile of 256 rows to a buffer's contents. -/
def addW (X : S16384x128.Idx → Elt F .f32) (k : ℕ) (x : FVec F S256x128 .f32) : S16384x128.Idx → Elt F .f32 :=
  (wRect k).overlay X (addf (shapeCast S256x128 (View.ld X (wRect k)) shapeCasts_S256x128_S256x128) x : FVec F S256x128 .f32)

/-- The memory after block `s` has added to its nearest keys and values. -/
def winMem (i : grid0.Coords) (s : Fin 4) (M : Mem F) : Mem F :=
  { M with
    dk := addW M.dk (first (row i).val s.val) ((rawOf M i s).dk (nearMask i (sw s)) (farOf M i s).2.2.2.2.1 (farOf M i s).2.2.2.2.2)
    dv := addW M.dv (first (row i).val s.val) ((rawOf M i s).dv (nearMask i (sw s))) }

/-- What the accumulating loop of block `s` returns, and the memory. -/
def stepOf (i : grid0.Coords) (s : Fin 4) (M : Mem F) : StepState F × Mem F :=
  stepRun consts (rawOf M i s).rows (addf (farOf M i s).2.2.2.2.1 ((rawOf M i s).s0 (nearMask i (sw s))))
    (addf (farOf M i s).2.2.2.2.2 ((rawOf M i s).s1 (nearMask i (sw s)))) (first (row i).val s.val)
    (stepStart (rawOf M i s) i (sw s) (farOf M i s).2.2.2.2.1 (farOf M i s).2.2.2.2.2) M

/-- The memory after block `s` has met its far keys and written its rows' gradient. -/
def rowMem (i : grid0.Coords) (s : Fin 4) (M : Mem F) : Mem F :=
  { (stepOf i s M).2 with dq := (rRect (rOff s) (rOff_inb s)).overlay (stepOf i s M).2.dq (stepOf i s M).1.2.2.1 }

/-- The memory after the step's start. -/
def startMem (i : grid0.Coords) (M : Mem F) : Mem F := if (row i).val = 0 then clearMem M else M

/-- The memory after the step. -/
def bodyRun (i : grid0.Coords) (M : Mem F) : Mem F :=
  rowMem i 3 (rowMem i 2 (rowMem i 1 (rowMem i 0 (winMem i 3 (winMem i 2 (winMem i 1 (winMem i 0 (startMem i M))))))))

/-! ## The triples -/

variable {c : Dev nD} {B : Bufs sig} {bd : Option ℕ}

/-- A call of a summing loop's label is the loop's body, at a variant below. -/
theorem Tr.far_call (n : Fin 4) (i : grid0.Coords) (tri : FVec F S256x128 .bf16) (R : Rows F) (s : FarState F) (k : ℕ) (hk : ∀ u ∈ bd, k < u)
    {M M' : Mem F} {v : FarState F} (h : Tr defs₀ c B (some k) M (farProg (farCall n i B.a3 B.h3 B.a4 B.h4 tri R) B.a3 B.a4 tri R s) v M') :
    Tr defs₀ c B bd M (farCall n i B.a3 B.h3 B.a4 B.h4 tri R s) v M' := by
  match n with
  | 0 =>
    exact Tr.call (ℓ := (1 : (Λ₀ F).Label))
      (by unfold defs₀; rw [Defs.onTc_tc]; exact while1_eq i B.a3 B.h3 B.a4 B.h4 tri R s) k hk h
  | 1 =>
    exact Tr.call (ℓ := (2 : (Λ₀ F).Label))
      (by unfold defs₀; rw [Defs.onTc_tc]; exact while2_eq i B.a3 B.h3 B.a4 B.h4 tri R s) k hk h
  | 2 =>
    exact Tr.call (ℓ := (3 : (Λ₀ F).Label))
      (by unfold defs₀; rw [Defs.onTc_tc]; exact while3_eq i B.a3 B.h3 B.a4 B.h4 tri R s) k hk h
  | 3 =>
    exact Tr.call (ℓ := (4 : (Λ₀ F).Label))
      (by unfold defs₀; rw [Defs.onTc_tc]; exact while4_eq i B.a3 B.h3 B.a4 B.h4 tri R s) k hk h

/-- A call of an accumulating loop's label is the loop's body, at a variant below. -/
theorem Tr.step_call (n : Fin 4) (i : grid0.Coords) (C : Consts F) (R : Rows F) (tot0 tot1 : Col F) (s : StepState F) (k : ℕ) (hk : ∀ u ∈ bd, k < u)
    {M M' : Mem F} {v : StepState F}
    (h : Tr defs₀ c B (some k) M (stepProg (stepCall n i B.a3 B.h3 B.a4 B.h4 B.a7 B.h7 B.a8 B.h8 C R tot0 tot1) B.a3 B.a4 B.a7 B.a8 C R tot0 tot1 s) v M') :
    Tr defs₀ c B bd M (stepCall n i B.a3 B.h3 B.a4 B.h4 B.a7 B.h7 B.a8 B.h8 C R tot0 tot1 s) v M' := by
  match n with
  | 0 =>
    exact Tr.call (ℓ := (5 : (Λ₀ F).Label))
      (by unfold defs₀; rw [Defs.onTc_tc]; exact while5_eq i B.a3 B.h3 B.a4 B.h4 B.a7 B.h7 B.a8 B.h8 C R tot0 tot1 s) k hk h
  | 1 =>
    exact Tr.call (ℓ := (6 : (Λ₀ F).Label))
      (by unfold defs₀; rw [Defs.onTc_tc]; exact while6_eq i B.a3 B.h3 B.a4 B.h4 B.a7 B.h7 B.a8 B.h8 C R tot0 tot1 s) k hk h
  | 2 =>
    exact Tr.call (ℓ := (7 : (Λ₀ F).Label))
      (by unfold defs₀; rw [Defs.onTc_tc]; exact while7_eq i B.a3 B.h3 B.a4 B.h4 B.a7 B.h7 B.a8 B.h8 C R tot0 tot1 s) k hk h
  | 3 =>
    exact Tr.call (ℓ := (8 : (Λ₀ F).Label))
      (by unfold defs₀; rw [Defs.onTc_tc]; exact while8_eq i B.a3 B.h3 B.a4 B.h4 B.a7 B.h7 B.a8 B.h8 C R tot0 tot1 s) k hk h

/-- A loop whose counter has run out stops. -/
theorem not_goes_zero (d : BitVec 32) : ¬goes (jw 0) d = 1#1 := by
  unfold goes; rw [sge_jw_zero]
  show ¬(0#1 &&& (_ : BitVec 1)) = 1#1
  rw [BitVec.zero_and]; decide

/-- Otherwise the exit word decides. -/
theorem goes_succ (k : ℕ) (hk : k < 128) (d : BitVec 32) : goes (jw (k + 1)) d = 1#1 ↔ d = 0#32 := by
  unfold goes; rw [sge_jw ⟨k, hk⟩]
  show (1#1 &&& BitVec.ofBool (d == 0#32)) = 1#1 ↔ _
  by_cases h : d = 0#32
  · subst h; decide
  · rw [beq_false_of_ne h]; simp [h]

/-- What a load of block `k` reads. -/
theorem ld_tile {e : EltTy} (X : S16384x128.Idx → Elt F e) (k : ℕ) (hk : k < 128) (j : BitVec 32) (hj : j = jw (k + 1)) (h : k0_chk1 j) :
    (View.ld X (tileRect j h) : S128x128.Idx → Elt F e) = tile X k :=
  ld_congr X (by rw [hj]; exact off_jw ⟨k, hk⟩) _ _

/-- The summing loop. -/
theorem Tr.far (n : Fin 4) (i : grid0.Coords) (tri : FVec F S256x128 .bf16) (R : Rows F) (M : Mem F) (k : ℕ) :
    ∀ (hk : k < 128) (s : FarState F) (hs : s.1 = jw k) (bd : Option ℕ) (hb : ∀ u ∈ bd, k < u),
      Tr defs₀ c B bd M (farCall n i B.a3 B.h3 B.a4 B.h4 tri R s) (farRun M.k M.v tri R k s) M := by
  induction k with
  | zero =>
    intro hk s hs bd hb
    refine Tr.far_call n i tri R s 0 hb ?_
    unfold farProg
    rw [if_neg (by rw [hs]; exact not_goes_zero _)]
    exact Tr.ret _ _ _
  | succ k ih =>
    intro hk s hs bd hb
    refine Tr.far_call n i tri R s (k + 1) hb ?_
    have hk' : k < 128 := by omega
    unfold farProg farRun
    by_cases hd : s.2.1 = 0#32
    · rw [if_pos (by rw [hs]; exact (goes_succ k hk' _).mpr hd), if_pos hd]
      have hc : k0_chk1 s.1 := by rw [hs]; exact chk_jw ⟨k, hk'⟩
      refine Tr.bind (Tr.assume M hc) ?_
      refine Tr.bind (Tr.load_k _ M) ?_
      refine Tr.bind (Tr.load_v _ M) ?_
      rw [ld_tile M.k k hk' s.1 hs hc, ld_tile M.v k hk' s.1 hs hc]
      exact ih hk' _ (by rw [← jw_succ k, ← hs]; rfl) _ (fun u hu => by cases hu; exact Nat.lt_succ_self k)
    · rw [if_neg (by rw [hs]; exact fun h => hd ((goes_succ k hk' _).mp h)), if_neg hd]
      exact Tr.ret _ _ _

/-- Adding a tile to a block of the gradient of the keys. -/
theorem Tr.addTile_dk (M : Mem F) (k : ℕ) (hk : k < 128) (j : BitVec 32) (hj : j = jw (k + 1)) (h : k0_chk1 j) (x : Tile F) :
    Tr defs₀ c B bd M (addTile B.a7 j h x) ⟨⟩ { M with dk := addT M.dk k x } := by
  unfold addTile
  refine Tr.bind (Tr.load_dk _ M) (Tr.bind (Tr.load_dk _ M) ?_)
  rw [ld_tile M.dk k hk j hj h]
  have e : addT M.dk k x = (tileRect j h).overlay M.dk (addf (shapeCast S128x128 (tile M.dk k) shapeCasts_S128x128_S128x128) x : Tile F) :=
    (overlay_congr M.dk (by rw [hj]; exact off_jw ⟨k, hk⟩) _ _ _).symm
  rw [e]
  exact Tr.store_dk _ M

/-- Adding a tile to a block of the gradient of the values. -/
theorem Tr.addTile_dv (M : Mem F) (k : ℕ) (hk : k < 128) (j : BitVec 32) (hj : j = jw (k + 1)) (h : k0_chk1 j) (x : Tile F) :
    Tr defs₀ c B bd M (addTile B.a8 j h x) ⟨⟩ { M with dv := addT M.dv k x } := by
  unfold addTile
  refine Tr.bind (Tr.load_dv _ M) (Tr.bind (Tr.load_dv _ M) ?_)
  rw [ld_tile M.dv k hk j hj h]
  have e : addT M.dv k x = (tileRect j h).overlay M.dv (addf (shapeCast S128x128 (tile M.dv k) shapeCasts_S128x128_S128x128) x : Tile F) :=
    (overlay_congr M.dv (by rw [hj]; exact off_jw ⟨k, hk⟩) _ _ _).symm
  rw [e]
  exact Tr.store_dv _ M

/-- The accumulating loop. -/
theorem Tr.step (n : Fin 4) (i : grid0.Coords) (C : Consts F) (R : Rows F) (tot0 tot1 : Col F) (k : ℕ) :
    ∀ (M : Mem F) (hk : k < 128) (s : StepState F) (hs : s.1 = jw k) (bd : Option ℕ) (hb : ∀ u ∈ bd, k < u),
      Tr defs₀ c B bd M (stepCall n i B.a3 B.h3 B.a4 B.h4 B.a7 B.h7 B.a8 B.h8 C R tot0 tot1 s) (stepRun C R tot0 tot1 k s M).1 (stepRun C R tot0 tot1 k s M).2 := by
  induction k with
  | zero =>
    intro M hk s hs bd hb
    refine Tr.step_call n i C R tot0 tot1 s 0 hb ?_
    unfold stepProg
    rw [if_neg (by rw [hs]; exact not_goes_zero _)]
    exact Tr.ret _ _ _
  | succ k ih =>
    intro M hk s hs bd hb
    refine Tr.step_call n i C R tot0 tot1 s (k + 1) hb ?_
    have hk' : k < 128 := by omega
    unfold stepProg stepRun
    by_cases hd : s.2.1 = 0#32
    · rw [if_pos (by rw [hs]; exact (goes_succ k hk' _).mpr hd), if_pos hd]
      have hc : k0_chk1 s.1 := by rw [hs]; exact chk_jw ⟨k, hk'⟩
      refine Tr.bind (Tr.assume M hc) ?_
      refine Tr.bind (Tr.load_k _ M) ?_
      refine Tr.bind (Tr.load_v _ M) ?_
      rw [ld_tile M.k k hk' s.1 hs hc, ld_tile M.v k hk' s.1 hs hc]
      refine Tr.bind (Tr.addTile_dk M k hk' s.1 hs hc _) ?_
      refine Tr.bind (Tr.addTile_dv _ k hk' s.1 hs hc _) ?_
      exact ih _ hk' _ (by rw [← jw_succ k, ← hs]; rfl) _ (fun u hu => by cases hu; exact Nat.lt_succ_self k)
    · rw [if_neg (by rw [hs]; exact fun h => hd ((goes_succ k hk' _).mp h)), if_neg hd]
      exact Tr.ret _ _ _

/-! ## The step's other operations -/

/-- The nearest keys start at 128 times the first nearest block's number. -/
theorem off1_eq (i : grid0.Coords) (s : Fin 4) : k0_off1 i (BitVec.ofNat 32 s.val) = ![128 * (first (row i).val s.val % 127), 0] :=
  winOff_eq (row i) s

/-- What a load of the 256 nearest keys reads. -/
theorem ld_win {e : EltTy} (X : S16384x128.Idx → Elt F e) (i : grid0.Coords) (s : Fin 4) :
    (View.ld X (winRect i s) : S256x128.Idx → Elt F e) = View.ld X (wRect (first (row i).val s.val)) :=
  ld_congr X (off1_eq i s) _ _

/-- Reading what block `s` needs. -/
theorem Tr.readRaw (M : Mem F) (i : grid0.Coords) (off : Fin 2 → ℕ) (inb : ∀ a, off a + S128x128.size a ≤ S512x128.size a) (s : Fin 4) :
    Tr defs₀ c B bd M (readRaw i B.a2 B.a3 B.a4 B.a5 off inb s) (raw M i s off inb) M := by
  unfold Attn.readRaw raw
  refine Tr.bind (Tr.load_q _ M) (Tr.bind (Tr.load_d _ M) (Tr.bind (Tr.load_k _ M) (Tr.bind (Tr.load_v _ M) ?_)))
  rw [ld_win M.k i s, ld_win M.v i s]
  exact Tr.ret _ _ _

/-- Adding to the 256 rows nearest to block `s`, in the gradient of the keys. -/
theorem Tr.addWin_dk (M : Mem F) (i : grid0.Coords) (s : Fin 4) (x : FVec F S256x128 .f32) :
    Tr defs₀ c B bd M (addWin B.a7 i s x) ⟨⟩ { M with dk := addW M.dk (first (row i).val s.val) x } := by
  unfold addWin
  refine Tr.bind (Tr.load_dk _ M) (Tr.bind (Tr.load_dk _ M) ?_)
  rw [ld_win M.dk i s]
  have e : addW M.dk (first (row i).val s.val) x = (winRect i s).overlay M.dk
      (addf (shapeCast S256x128 (View.ld M.dk (wRect (first (row i).val s.val))) shapeCasts_S256x128_S256x128) x : FVec F S256x128 .f32) :=
    (overlay_congr M.dk (off1_eq i s) _ _ _).symm
  rw [e]
  exact Tr.store_dk _ M

/-- Adding to the 256 rows nearest to block `s`, in the gradient of the values. -/
theorem Tr.addWin_dv (M : Mem F) (i : grid0.Coords) (s : Fin 4) (x : FVec F S256x128 .f32) :
    Tr defs₀ c B bd M (addWin B.a8 i s x) ⟨⟩ { M with dv := addW M.dv (first (row i).val s.val) x } := by
  unfold addWin
  refine Tr.bind (Tr.load_dv _ M) (Tr.bind (Tr.load_dv _ M) ?_)
  rw [ld_win M.dv i s]
  have e : addW M.dv (first (row i).val s.val) x = (winRect i s).overlay M.dv
      (addf (shapeCast S256x128 (View.ld M.dv (wRect (first (row i).val s.val))) shapeCasts_S256x128_S256x128) x : FVec F S256x128 .f32) :=
    (overlay_congr M.dv (off1_eq i s) _ _ _).symm
  rw [e]
  exact Tr.store_dv _ M

/-- Writing a block's rows. -/
theorem Tr.putRows (M : Mem F) (off : Fin 2 → ℕ) (inb : ∀ a, off a + S128x128.size a ≤ S512x128.size a) (x : Tile F) :
    Tr defs₀ c B bd M (putRows B.a6 off inb x) ⟨⟩ { M with dq := (rRect off inb).overlay M.dq x } := by
  unfold Attn.putRows
  exact Tr.bind (Tr.load_dq _ M) (Tr.store_dq _ M)

/-- A store over the whole buffer leaves what it stores. -/
theorem overlay_all (X w : S16384x128.Idx → Elt F .f32) : allRect.overlay X w = w := by
  funext j
  have hj : allRect.emb j = j := by
    funext a; apply Fin.ext; fin_cases a
    · show 0 + 1 * (j 0).val = (j 0).val; omega
    · show 0 + 1 * (j 1).val = (j 1).val; omega
  conv_lhs => rw [← hj]
  exact allRect.overlay_emb X w j

/-- Clearing both gradients. -/
theorem Tr.clear2 (M : Mem F) : Tr defs₀ c B bd M (do clear B.a7; clear B.a8; pure ⟨⟩ : Pr F PUnit) ⟨⟩ (clearMem M) := by
  have h7 : ∀ M : Mem F, Tr defs₀ c B bd M (clear B.a7) ⟨⟩ { M with dk := zeros S16384x128 } := by
    intro M
    rw [← overlay_all M.dk (zeros S16384x128)]
    unfold clear
    exact Tr.bind (Tr.load_dk bd M) (Tr.store_dk bd M)
  have h8 : ∀ M : Mem F, Tr defs₀ c B bd M (clear B.a8) ⟨⟩ { M with dv := zeros S16384x128 } := by
    intro M
    rw [← overlay_all M.dv (zeros S16384x128)]
    unfold clear
    exact Tr.bind (Tr.load_dv bd M) (Tr.store_dv bd M)
  exact Tr.bind (h7 M) (Tr.bind (h8 _) (Tr.ret _ _ _))

/-- The word the start's test is made of. -/
theorem start_iff : ∀ a : Fin 32, Scalar.cmpi .ne (Scalar.extui (Scalar.cmpi .eq (BitVec.ofNat 32 a.val) 0#32) : BitVec 32) 0#32 = 1#1 ↔ a.val = 0 := by decide

/-- The loops start with as many trips as there are blocks before the nearest two. -/
theorem far_start (M : Mem F) (i : grid0.Coords) (s : Fin 4) : (farStart (rawOf M i s) i (sw s)).1 = jw (first (row i).val s.val) :=
  firstW_eq (row i) s

/-- The number of trips stays below 128. -/
theorem first_lt (i : grid0.Coords) (s : Fin 4) : first (row i).val s.val < 128 := by
  have := (row i).isLt; have := s.isLt; unfold first; omega

/-- The summing loop of block `s`. -/
theorem Tr.farOf (M : Mem F) (i : grid0.Coords) (s : Fin 4) :
    Tr defs₀ c B none M (farCall s i B.a3 B.h3 B.a4 B.h4 laterTri (rawOf M i s).rows (farStart (rawOf M i s) i (sw s))) (farOf M i s) M :=
  Tr.far s i laterTri _ M _ (first_lt i s) _ (far_start M i s) none (fun u hu => nomatch hu)

/-- Block `s` adds to its nearest keys and values. -/
theorem Tr.winMem (M : Mem F) (i : grid0.Coords) (s : Fin 4) (r : Raw F) (f : FarState F) (hr : rawOf M i s = r) (hf : Attn.farOf M i s = f)
    {α : Type} {k : PUnit → Pr F α} {w : α} {M' : Mem F} (h : Tr defs₀ c B none (winMem i s M) (k ⟨⟩) w M') : Tr defs₀ c B none M (do
      addWin B.a7 i s (r.dk (nearMask i (sw s)) f.2.2.2.2.1 f.2.2.2.2.2)
      let u ← addWin B.a8 i s (r.dv (nearMask i (sw s)))
      k u) w M' := by
  subst hr hf
  exact Tr.bind (Tr.addWin_dk M i s _) (Tr.bind (Tr.addWin_dv _ i s _) h)

/-- Block `s` meets its far keys and writes its rows' gradient. -/
theorem Tr.rowMem (M : Mem F) (i : grid0.Coords) (s : Fin 4) (r : Raw F) (f : FarState F) (hr : rawOf M i s = r) (hf : Attn.farOf M i s = f)
    {α : Type} {k : PUnit → Pr F α} {w : α} {M' : Mem F} (h : Tr defs₀ c B none (rowMem i s M) (k ⟨⟩) w M') : Tr defs₀ c B none M (do
      let t ← stepCall s i B.a3 B.h3 B.a4 B.h4 B.a7 B.h7 B.a8 B.h8 consts r.rows
        (addf f.2.2.2.2.1 (r.s0 (nearMask i (sw s)))) (addf f.2.2.2.2.2 (r.s1 (nearMask i (sw s)))) (stepStart r i (sw s) f.2.2.2.2.1 f.2.2.2.2.2)
      let u ← Attn.putRows B.a6 (rOff s) (rOff_inb s) t.2.2.1
      k u) w M' := by
  subst hr hf
  exact Tr.bind (Tr.step s i consts _ _ _ _ M (first_lt i s) _ (far_start M i s) none (fun u hu => nomatch hu)) (Tr.bind (Tr.putRows _ _ _ _) h)

/-- What two memories agree on: everything but the three gradients. -/
def Same (M M' : Mem F) : Prop := M.q = M'.q ∧ M.k = M'.k ∧ M.v = M'.v ∧ M.d = M'.d

/-- What a block reads is none of the gradients, -/
theorem Same.raw {M M' : Mem F} (h : Same M M') (i : grid0.Coords) (s : Fin 4) : rawOf M i s = rawOf M' i s := by
  obtain ⟨h1, h2, h3, h4⟩ := h
  unfold rawOf Attn.raw
  rw [h1, h2, h3, h4]

/-- nor is what its summing loop returns. -/
theorem Same.far {M M' : Mem F} (h : Same M M') (i : grid0.Coords) (s : Fin 4) : farOf M i s = farOf M' i s := by
  unfold farOf
  rw [h.raw i s, h.2.1, h.2.2.1]

/-- Agreement composes. -/
theorem Same.trans {M M' M'' : Mem F} (h : Same M M') (h' : Same M' M'') : Same M M'' :=
  ⟨h.1.trans h'.1, h.2.1.trans h'.2.1, h.2.2.1.trans h'.2.2.1, h.2.2.2.trans h'.2.2.2⟩

/-- Adding to the nearest keys changes gradients only, -/
theorem Same.win (i : grid0.Coords) (s : Fin 4) (M : Mem F) : Same (winMem i s M) M := ⟨rfl, rfl, rfl, rfl⟩

/-- so does the accumulating loop, -/
theorem Same.run (C : Consts F) (R : Rows F) (tot0 tot1 : Col F) (k : ℕ) : ∀ (s : StepState F) (M : Mem F), Same (stepRun C R tot0 tot1 k s M).2 M := by
  induction k with
  | zero => exact fun s M => ⟨rfl, rfl, rfl, rfl⟩
  | succ k ih =>
    intro s M
    unfold stepRun
    split
    · exact (ih _ _).trans ⟨rfl, rfl, rfl, rfl⟩
    · exact ⟨rfl, rfl, rfl, rfl⟩

/-- and a block's rows. -/
theorem Same.rows (i : grid0.Coords) (s : Fin 4) (M : Mem F) : Same (rowMem i s M) M := by
  have h := Same.run consts (rawOf M i s).rows (addf (farOf M i s).2.2.2.2.1 ((rawOf M i s).s0 (nearMask i (sw s))))
    (addf (farOf M i s).2.2.2.2.2 ((rawOf M i s).s1 (nearMask i (sw s)))) (first (row i).val s.val)
    (stepStart (rawOf M i s) i (sw s) (farOf M i s).2.2.2.2.1 (farOf M i s).2.2.2.2.2) M
  exact ⟨h.1, h.2.1, h.2.2.1, h.2.2.2⟩

/-- And the start. -/
theorem Same.start (i : grid0.Coords) (M : Mem F) : Same (startMem i M) M := by
  unfold startMem; split
  · exact ⟨rfl, rfl, rfl, rfl⟩
  · exact ⟨rfl, rfl, rfl, rfl⟩

/-- The step. -/
theorem Tr.body (M : Mem F) (i : grid0.Coords) :
    Tr defs₀ c B none M (cc0_bwd_attn i B.a2 B.h2 B.a3 B.h3 B.a4 B.h4 B.a5 B.h5 B.a6 B.h6 B.a7 B.h7 B.a8 B.h8) ⟨⟩ (bodyRun i M) := by
  rw [body_eq]
  unfold bodyProg bodyRun
  have h0 : Tr defs₀ c B none M (if Scalar.cmpi .ne (Scalar.extui (Scalar.cmpi .eq (BitVec.ofNat 32 (i 1).val) 0#32)) 0#32 = 1#1 then do
      clear B.a7
      clear B.a8
      pure ⟨⟩
    else do pure ⟨⟩ : Pr F PUnit) ⟨⟩ (startMem i M) := by
    unfold startMem
    by_cases h : (row i).val = 0
    · rw [if_pos ((start_iff (row i)).mpr h), if_pos h]; exact Tr.clear2 M
    · rw [if_neg (fun hh => h ((start_iff (row i)).mp hh)), if_neg h]; exact Tr.ret _ _ _
  refine Tr.bind h0 ?_
  generalize startMem i M = M
  refine Tr.bind (v := rawOf M i 0) (Tr.readRaw M i _ _ 0) ?_
  refine Tr.bind (v := rawOf M i 1) (Tr.readRaw M i _ _ 1) ?_
  refine Tr.bind (v := rawOf M i 2) (Tr.readRaw M i _ _ 2) ?_
  refine Tr.bind (v := rawOf M i 3) (Tr.readRaw M i _ _ 3) ?_
  refine Tr.bind (v := Attn.farOf M i 0) (Tr.farOf M i 0) ?_
  refine Tr.bind (v := Attn.farOf M i 1) (Tr.farOf M i 1) ?_
  refine Tr.bind (v := Attn.farOf M i 2) (Tr.farOf M i 2) ?_
  refine Tr.bind (v := Attn.farOf M i 3) (Tr.farOf M i 3) ?_
  generalize hr0 : rawOf M i 0 = r0
  generalize hr1 : rawOf M i 1 = r1
  generalize hr2 : rawOf M i 2 = r2
  generalize hr3 : rawOf M i 3 = r3
  generalize hf0 : Attn.farOf M i 0 = f0
  generalize hf1 : Attn.farOf M i 1 = f1
  generalize hf2 : Attn.farOf M i 2 = f2
  generalize hf3 : Attn.farOf M i 3 = f3
  have e1 := Same.win i 0 M
  have e2 := (Same.win i 1 _).trans e1
  have e3 := (Same.win i 2 _).trans e2
  refine Tr.winMem M i 0 r0 f0 hr0 hf0 ?_
  refine Tr.winMem _ i 1 r1 f1 ((e1.raw i 1).trans hr1) ((e1.far i 1).trans hf1) ?_
  refine Tr.winMem _ i 2 r2 f2 ((e2.raw i 2).trans hr2) ((e2.far i 2).trans hf2) ?_
  refine Tr.winMem _ i 3 r3 f3 ((e3.raw i 3).trans hr3) ((e3.far i 3).trans hf3) ?_
  have e4 := (Same.win i 3 _).trans e3
  have e5 := (Same.rows i 0 _).trans e4
  have e6 := (Same.rows i 1 _).trans e5
  have e7 := (Same.rows i 2 _).trans e6
  refine Tr.rowMem _ i 0 r0 f0 ((e4.raw i 0).trans hr0) ((e4.far i 0).trans hf0) ?_
  refine Tr.rowMem _ i 1 r1 f1 ((e5.raw i 1).trans hr1) ((e5.far i 1).trans hf1) ?_
  refine Tr.rowMem _ i 2 r2 f2 ((e6.raw i 2).trans hr2) ((e6.far i 2).trans hf2) ?_
  have h := Tr.rowMem (c := c) (B := B) _ i 3 r3 f3 ((e7.raw i 3).trans hr3) ((e7.far i 3).trans hf3) (k := fun u => Prog.ret u) (Tr.ret none _ _)
  exact h

open Idealize.ShloMosaic Idealize.SL.Sem

/-- What a step reads. -/
structure In (F : FTy → Type) where
  /-- the step's rows -/
  q : S512x128.Idx → Elt F .bf16
  /-- all keys -/
  k : S16384x128.Idx → Elt F .bf16
  /-- all values -/
  v : S16384x128.Idx → Elt F .bf16
  /-- the gradient of the step's result rows -/
  d : S512x128.Idx → Elt F .f32

/-- The part of a memory that a step reads. -/
abbrev Mem.inp (M : Mem F) : In F := ⟨M.q, M.k, M.v, M.d⟩
/-- A memory with given contents to read and zero gradients. -/
abbrev In.mem (I : In F) : Mem F := ⟨I.q, I.k, I.v, I.d, zeros _, zeros _, zeros _⟩

/-- What block `s` reads. -/
def In.raw (I : In F) (i : grid0.Coords) (s : Fin 4) : Raw F := rawOf I.mem i s
/-- What the summing loop of block `s` returns: the sums over the far keys. -/
def In.far (I : In F) (i : grid0.Coords) (s : Fin 4) : FarState F :=
  farRun I.k I.v laterTri (I.raw i s).rows (first (row i).val s.val) (farStart (I.raw i s) i (sw s))
/-- The whole sum of a row's weighted gradients, first head, -/
def In.tot0 (I : In F) (i : grid0.Coords) (s : Fin 4) : Col F := addf (I.far i s).2.2.2.2.1 ((I.raw i s).s0 (nearMask i (sw s)))
/-- and second head. -/
def In.tot1 (I : In F) (i : grid0.Coords) (s : Fin 4) : Col F := addf (I.far i s).2.2.2.2.2 ((I.raw i s).s1 (nearMask i (sw s)))
/-- The state the accumulating loop of block `s` starts from. -/
def In.start (I : In F) (i : grid0.Coords) (s : Fin 4) : StepState F :=
  stepStart (I.raw i s) i (sw s) (I.far i s).2.2.2.2.1 (I.far i s).2.2.2.2.2

/-! ## The accumulating loop, component by component -/

section Loop
variable (K V : S16384x128.Idx → Elt F .bf16) (C : Consts F) (R : Rows F) (tot0 tot1 : Col F)

/-- What the loop carries after its trips. -/
def stateRun : ℕ → StepState F → StepState F
  | 0, s => s
  | k + 1, s => if s.2.1 = 0#32 then stateRun k (stepNext C R tot0 tot1 (half K k) (half V k) s) else s

/-- The gradient of the keys after its trips. -/
def dkRun : ℕ → StepState F → (S16384x128.Idx → Elt F .f32) → S16384x128.Idx → Elt F .f32
  | 0, _, X => X
  | k + 1, s, X => if s.2.1 = 0#32 then dkRun k (stepNext C R tot0 tot1 (half K k) (half V k) s) (addT X k (stepDk C R tot0 tot1 (half K k) (half V k) s)) else X

/-- The gradient of the values after its trips. -/
def dvRun : ℕ → StepState F → (S16384x128.Idx → Elt F .f32) → S16384x128.Idx → Elt F .f32
  | 0, _, X => X
  | k + 1, s, X => if s.2.1 = 0#32 then dvRun k (stepNext C R tot0 tot1 (half K k) (half V k) s) (addT X k (stepDv C R (half K k) (half V k) s)) else X

end Loop

/-- The loop's memory is its three components. -/
theorem stepRun_eq (C : Consts F) (R : Rows F) (tot0 tot1 : Col F) (k : ℕ) : ∀ (s : StepState F) (M : Mem F),
    stepRun C R tot0 tot1 k s M = (stateRun M.k M.v C R tot0 tot1 k s,
      { M with dk := dkRun M.k M.v C R tot0 tot1 k s M.dk, dv := dvRun M.k M.v C R tot0 tot1 k s M.dv }) := by
  induction k with
  | zero => intro s M; rfl
  | succ k ih =>
    intro s M
    unfold stepRun stateRun dkRun dvRun
    by_cases hd : s.2.1 = 0#32
    · rw [if_pos hd, if_pos hd, if_pos hd, if_pos hd, ih]; rfl
    · rw [if_neg hd, if_neg hd, if_neg hd, if_neg hd]

/-! ## The step -/

/-- What the accumulating loop of block `s` carries at its end. -/
def In.state (I : In F) (i : grid0.Coords) (s : Fin 4) : StepState F :=
  stateRun I.k I.v consts (I.raw i s).rows (I.tot0 i s) (I.tot1 i s) (first (row i).val s.val) (I.start i s)

/-- The gradient of the keys after block `s` has met its nearest keys, -/
def In.nearDk (I : In F) (i : grid0.Coords) (s : Fin 4) (X : S16384x128.Idx → Elt F .f32) : S16384x128.Idx → Elt F .f32 :=
  addW X (first (row i).val s.val) ((I.raw i s).dk (nearMask i (sw s)) (I.far i s).2.2.2.2.1 (I.far i s).2.2.2.2.2)
/-- and the gradient of the values. -/
def In.nearDv (I : In F) (i : grid0.Coords) (s : Fin 4) (X : S16384x128.Idx → Elt F .f32) : S16384x128.Idx → Elt F .f32 :=
  addW X (first (row i).val s.val) ((I.raw i s).dv (nearMask i (sw s)))
/-- The gradient of the keys after block `s` has met its far keys, -/
def In.farDk (I : In F) (i : grid0.Coords) (s : Fin 4) (X : S16384x128.Idx → Elt F .f32) : S16384x128.Idx → Elt F .f32 :=
  dkRun I.k I.v consts (I.raw i s).rows (I.tot0 i s) (I.tot1 i s) (first (row i).val s.val) (I.start i s) X
/-- and the gradient of the values. -/
def In.farDv (I : In F) (i : grid0.Coords) (s : Fin 4) (X : S16384x128.Idx → Elt F .f32) : S16384x128.Idx → Elt F .f32 :=
  dvRun I.k I.v consts (I.raw i s).rows (I.tot0 i s) (I.tot1 i s) (first (row i).val s.val) (I.start i s) X

/-- The rows' gradient after block `s` has written its own. -/
def putT (s : Fin 4) (X : S512x128.Idx → Elt F .f32) (x : Tile F) : S512x128.Idx → Elt F .f32 := (rRect (rOff s) (rOff_inb s)).overlay X x

/-- The memory after block `s` has met its nearest keys. -/
theorem winMem_eq (i : grid0.Coords) (s : Fin 4) (M : Mem F) : winMem i s M = { M with dk := M.inp.nearDk i s M.dk, dv := M.inp.nearDv i s M.dv } := rfl

/-- The memory after block `s` has met its far keys. -/
theorem rowMem_eq (i : grid0.Coords) (s : Fin 4) (M : Mem F) :
    rowMem i s M = { M with dq := putT s M.dq (M.inp.state i s).2.2.1, dk := M.inp.farDk i s M.dk, dv := M.inp.farDv i s M.dv } := by
  unfold rowMem stepOf
  rw [stepRun_eq]
  rfl

/-- The gradient of the keys after a step, from `X`. -/
def In.dk (I : In F) (i : grid0.Coords) (X : S16384x128.Idx → Elt F .f32) : S16384x128.Idx → Elt F .f32 :=
  I.farDk i 3 (I.farDk i 2 (I.farDk i 1 (I.farDk i 0 (I.nearDk i 3 (I.nearDk i 2 (I.nearDk i 1 (I.nearDk i 0 X)))))))
/-- The gradient of the values after a step, from `X`. -/
def In.dv (I : In F) (i : grid0.Coords) (X : S16384x128.Idx → Elt F .f32) : S16384x128.Idx → Elt F .f32 :=
  I.farDv i 3 (I.farDv i 2 (I.farDv i 1 (I.farDv i 0 (I.nearDv i 3 (I.nearDv i 2 (I.nearDv i 1 (I.nearDv i 0 X)))))))
/-- The rows' gradient after a step. -/
def In.dq (I : In F) (i : grid0.Coords) (X : S512x128.Idx → Elt F .f32) : S512x128.Idx → Elt F .f32 :=
  putT 3 (putT 2 (putT 1 (putT 0 X (I.state i 0).2.2.1) (I.state i 1).2.2.1) (I.state i 2).2.2.1) (I.state i 3).2.2.1

/-- A step, buffer by buffer. -/
theorem bodyRun_eq (i : grid0.Coords) (M : Mem F) : bodyRun i M = ⟨M.q, M.k, M.v, M.d, M.inp.dq i M.dq, M.inp.dk i (if (row i).val = 0 then zeros _ else M.dk),
      M.inp.dv i (if (row i).val = 0 then zeros _ else M.dv)⟩ := by
  unfold bodyRun
  simp only [rowMem_eq, winMem_eq]
  unfold startMem
  by_cases h : (row i).val = 0
  · simp only [if_pos h]; rfl
  · simp only [if_neg h]; rfl

/-- A block's rows, where they are. -/
theorem mem_rRect (s : Fin 4) (y : S512x128.Idx) : y ∈ (rRect (rOff s) (rOff_inb s)).set ↔ (y 0).val / 128 = s.val := by
  rw [Rect.mem_set_unit]
  have h0 := (y 0).isLt
  have h1 := (y 1).isLt
  constructor
  · intro h
    have := h 0
    change 128 * s.val ≤ (y 0).val ∧ (y 0).val < 128 * s.val + 128 at this
    omega
  · intro h a
    match a with
    | ⟨0, _⟩ =>
      change 128 * s.val ≤ (y 0).val ∧ (y 0).val < 128 * s.val + 128
      omega
    | ⟨1, _⟩ =>
      change 0 ≤ (y 1).val ∧ (y 1).val < 0 + 128
      change (y 1).val < 128 at h1
      omega

/-- The rows' gradient does not depend on what the buffer held. -/
theorem In.dq_indep (I : In F) (i : grid0.Coords) (X Y : S512x128.Idx → Elt F .f32) : I.dq i X = I.dq i Y := by
  have key : ∀ (s : Fin 4) (x : Tile F) (X Y : S512x128.Idx → Elt F .f32) (y : S512x128.Idx),
      ((y 0).val / 128 ≠ s.val → X y = Y y) → putT s X x y = putT s Y x y := by
    intro s x X Y y h
    unfold putT
    by_cases hy : y ∈ (rRect (rOff s) (rOff_inb s)).set
    · obtain ⟨z, rfl⟩ := (rRect (rOff s) (rOff_inb s)).exists_idx_of_mem hy
      exact (Rect.overlay_emb _ _ _ z).trans (Rect.overlay_emb _ _ _ z).symm
    · rw [Rect.overlay_of_not_mem _ _ _ hy, Rect.overlay_of_not_mem _ _ _ hy]
      exact h (fun e => hy ((mem_rRect s y).mpr e))
  funext y
  have h0 : (y 0).val < 512 := (y 0).isLt
  unfold In.dq
  refine key 3 _ _ _ y fun h3 => key 2 _ _ _ y fun h2 => key 1 _ _ _ y fun h1 => key 0 _ _ _ y fun h0' => ?_
  exfalso
  simp only [Fin.isValue, ne_eq] at h3 h2 h1 h0'
  change ¬_ = 3 at h3; change ¬_ = 2 at h2; change ¬_ = 1 at h1; change ¬_ = 0 at h0'
  omega

end Cert.Kernel2Ideal.Attn

end
-- ==== Proof.Plain.lean ====
/-
  The attention backward kernel as written. It is the kernel of AttnDef.lean but for one constant, which is a word here
  and a name there; `wordNamed` reads the name as the word, so that the functions of the idealization's modules serve
  here too, and only what mentions the kernel's own buffers and loops is stated again.
-/
module

public import proofs.«01_k».proof.Proof.Gen.Kernel2
public import proofs.«01_k».proof.Proof.AttnRun
public import Idealize.ShloMosaic.Lib.Tactic
public import proofs.«01_k».proof.Proof.Gen.Kernel2.Launch
public import proofs.«01_k».proof.Proof.Gen.Kernel2.Points
public import Idealize.ShloMosaic.Lib.Ring
public import Idealize.ShloMosaic.Lib.WordCmp

@[expose] public section

set_option maxRecDepth 16384

noncomputable section

namespace Cert.Kernel2.Attn

open Cert.Kernel2 Cert.Kernel2.Gen Cert.Kernel2Ideal.Attn
open Idealize.ShloMosaic Idealize.SL.Sem

variable {F : FTy → Type} [FloatOps F]

/-- A named constant read as its word. -/
abbrev wordNamed {F : FTy → Type} [FloatOps F] : Named F := ⟨fun _ _ {φ} w => Scalar.ofBits φ w⟩

attribute [local instance] wordNamed

/-- Programs of the kernel's core. -/
abbrev Pr (F : FTy → Type) [FloatOps F] (α : Type) : Type 1 := Prog (TpuEff nD τ sig (Elt F) (Λ₀ F) .tc) α

/-- A whole buffer of 16384 rows. -/
abbrev Big (e : EltTy) : Type := Memref sig .tc .vmem S16384x128 e
/-- A whole buffer of 512 rows. -/
abbrev Small (e : EltTy) : Type := Memref sig .tc .vmem S512x128 e

/-- The rows of block `j`. -/
abbrev tileRect (j : BitVec 32) (h : k0_chk1 j) : Rect S16384x128 := Rect.unit (s := S16384x128) (k0_off2 j) S128x128.size (k0_off2_inb j h)

/-- One trip of the summing loop, `rec` being the loop itself. -/
def farProg (rec : FarState F → Pr F (FarState F)) (arg3 arg4 : Big .bf16) (tri : FVec F S256x128 .bf16) (R : Rows F) (s : FarState F) : Pr F (FarState F) :=
  if goes s.1 s.2.1 = 1#1 then do
    let h : k0_chk1 s.1 := (← Prog.lift (TpuEff.assume (k0_chk1 s.1) (k0_chk1.dec s.1))).down
    let k : Vec F S128x128 .bf16 ← Prog.lift (.load arg3 (tileRect s.1 h).toLoadRect (View.loadsAt_vmem h_S128x128))
    let v : Vec F S128x128 .bf16 ← Prog.lift (.load arg4 (tileRect s.1 h).toLoadRect (View.loadsAt_vmem h_S128x128))
    rec (farNext tri R (shapeCast S128x128 k shapeCasts_S128x128_S128x128) (shapeCast S128x128 v shapeCasts_S128x128_S128x128) s)
  else pure s

/-- Adds a tile to a block of a buffer: the kernel reads the block, reads it again, and writes the sum. -/
def addTile (m : Big .f32) (j : BitVec 32) (h : k0_chk1 j) (x : Tile F) : Pr F PUnit := do
  let a : Vec F S128x128 .f32 ← Prog.lift (.load m (tileRect j h).toLoadRect (View.loadsAt_vmem h_S128x128))
  let _b : Vec F S128x128 .f32 ← Prog.lift (.load m (tileRect j h).toLoadRect (View.loadsAt_vmem h_S128x128))
  Prog.lift (.store m (tileRect j h) (addf (shapeCast S128x128 a shapeCasts_S128x128_S128x128) x) Finset.univ (View.stores_vmem_bits_univ h_S128x128 rfl) (.inl rfl))

/-- One trip of the accumulating loop, `rec` being the loop itself. -/
def stepProg (rec : StepState F → Pr F (StepState F)) (arg3 arg4 : Big .bf16) (arg7 arg8 : Big .f32) (C : Consts F) (R : Rows F) (tot0 tot1 : Col F)
    (s : StepState F) : Pr F (StepState F) :=
  if goes s.1 s.2.1 = 1#1 then do
    let h : k0_chk1 s.1 := (← Prog.lift (TpuEff.assume (k0_chk1 s.1) (k0_chk1.dec s.1))).down
    let k : Vec F S128x128 .bf16 ← Prog.lift (.load arg3 (tileRect s.1 h).toLoadRect (View.loadsAt_vmem h_S128x128))
    let v : Vec F S128x128 .bf16 ← Prog.lift (.load arg4 (tileRect s.1 h).toLoadRect (View.loadsAt_vmem h_S128x128))
    let k' := shapeCast S128x128 k shapeCasts_S128x128_S128x128
    let v' := shapeCast S128x128 v shapeCasts_S128x128_S128x128
    addTile arg7 s.1 h (stepDk C R tot0 tot1 k' v' s)
    addTile arg8 s.1 h (stepDv C R k' v' s)
    rec (stepNext C R tot0 tot1 k' v' s)
  else pure s

/-- The rows of the 256 keys nearest to block `s`. -/
abbrev winRect (i : grid0.Coords) (s : Fin 4) : Rect S16384x128 :=
  Rect.unit (s := S16384x128) (k0_off1 i (BitVec.ofNat 32 s.val)) S256x128.size (k0_off1_inb i s)

/-- Sets a buffer to zero. -/
def clear (m : Big .f32) : Pr F PUnit := do
  let _b : Vec F S16384x128 .f32 ← Prog.lift (.load m allRect.toLoadRect (View.loadsAt_vmem h_S16384x128))
  Prog.lift (.store m allRect (broadcast S16384x128 (Scalar.ofBits .f32 0x00000000#32)) Finset.univ (View.stores_vmem_bits_univ h_S16384x128 rfl) (.inl rfl))

/-- What the step reads for block `s`: the rows `R` of the step, and the nearest keys and values. -/
def readRaw (i : grid0.Coords) (arg2 : Small .bf16) (arg3 arg4 : Big .bf16) (arg5 : Small .f32) (off : Fin 2 → ℕ)
    (inb : ∀ a, off a + S128x128.size a ≤ S512x128.size a) (s : Fin 4) : Pr F (Raw F) := do
  let q : Vec F S128x128 .bf16 ← Prog.lift (.load arg2 (Rect.unit (s := S512x128) off S128x128.size inb).toLoadRect (View.loadsAt_vmem h_S128x128))
  let d : Vec F S128x128 .f32 ← Prog.lift (.load arg5 (Rect.unit (s := S512x128) off S128x128.size inb).toLoadRect (View.loadsAt_vmem h_S128x128))
  let k : Vec F S256x128 .bf16 ← Prog.lift (.load arg3 (winRect i s).toLoadRect (View.loadsAt_vmem h_S256x128))
  let v : Vec F S256x128 .bf16 ← Prog.lift (.load arg4 (winRect i s).toLoadRect (View.loadsAt_vmem h_S256x128))
  pure ⟨q, d, k, v⟩

/-- Adds to the 256 rows nearest to block `s`. -/
def addWin (m : Big .f32) (i : grid0.Coords) (s : Fin 4) (x : FVec F S256x128 .f32) : Pr F PUnit := do
  let a : Vec F S256x128 .f32 ← Prog.lift (.load m (winRect i s).toLoadRect (View.loadsAt_vmem h_S256x128))
  let _b : Vec F S256x128 .f32 ← Prog.lift (.load m (winRect i s).toLoadRect (View.loadsAt_vmem h_S256x128))
  Prog.lift (.store m (winRect i s) (addf (shapeCast S256x128 a shapeCasts_S256x128_S256x128) x) Finset.univ (View.stores_vmem_bits_univ h_S256x128 rfl) (.inl rfl))

/-- Writes the gradient of a block's rows. -/
def putRows (m : Small .f32) (off : Fin 2 → ℕ) (inb : ∀ a, off a + S128x128.size a ≤ S512x128.size a) (x : Tile F) : Pr F PUnit := do
  let _b : Vec F S128x128 .f32 ← Prog.lift (.load m (Rect.unit (s := S512x128) off S128x128.size inb).toLoadRect (View.loadsAt_vmem h_S128x128))
  Prog.lift (.store m (Rect.unit (s := S512x128) off S128x128.size inb) x Finset.univ (View.stores_vmem_bits_univ h_S128x128 rfl) (.inl rfl))

/-- The grid step over its memory operations; `far` and `step` are the loops. -/
def bodyProg (far : Fin 4 → Rows F → FarState F → Pr F (FarState F)) (step : Fin 4 → Rows F → Col F → Col F → StepState F → Pr F (StepState F))
    (i : grid0.Coords) (arg2 : Small .bf16) (arg3 arg4 : Big .bf16) (arg5 arg6 : Small .f32) (arg7 arg8 : Big .f32) : Pr F PUnit := do
  (if Scalar.cmpi .ne (Scalar.extui (Scalar.cmpi .eq (BitVec.ofNat 32 (i 1).val) 0#32)) 0#32 = 1#1 then do
    clear arg7
    clear arg8
    pure ⟨⟩
  else do pure ⟨⟩)
  let r0 ← readRaw i arg2 arg3 arg4 arg5 ![0, 0] inb_S512x128_S128x128_0_0 0
  let r1 ← readRaw i arg2 arg3 arg4 arg5 ![128, 0] inb_S512x128_S128x128_128_0 1
  let r2 ← readRaw i arg2 arg3 arg4 arg5 ![256, 0] inb_S512x128_S128x128_256_0 2
  let r3 ← readRaw i arg2 arg3 arg4 arg5 ![384, 0] inb_S512x128_S128x128_384_0 3
  let f0 ← far 0 r0.rows (farStart r0 i 0#32)
  let f1 ← far 1 r1.rows (farStart r1 i 1#32)
  let f2 ← far 2 r2.rows (farStart r2 i 2#32)
  let f3 ← far 3 r3.rows (farStart r3 i 3#32)
  addWin arg7 i 0 (r0.dk (nearMask i 0#32) f0.2.2.2.2.1 f0.2.2.2.2.2)
  addWin arg8 i 0 (r0.dv (nearMask i 0#32))
  addWin arg7 i 1 (r1.dk (nearMask i 1#32) f1.2.2.2.2.1 f1.2.2.2.2.2)
  addWin arg8 i 1 (r1.dv (nearMask i 1#32))
  addWin arg7 i 2 (r2.dk (nearMask i 2#32) f2.2.2.2.2.1 f2.2.2.2.2.2)
  addWin arg8 i 2 (r2.dv (nearMask i 2#32))
  addWin arg7 i 3 (r3.dk (nearMask i 3#32) f3.2.2.2.2.1 f3.2.2.2.2.2)
  addWin arg8 i 3 (r3.dv (nearMask i 3#32))
  let t0 ← step 0 r0.rows (addf f0.2.2.2.2.1 (r0.s0 (nearMask i 0#32))) (addf f0.2.2.2.2.2 (r0.s1 (nearMask i 0#32))) (stepStart r0 i 0#32 f0.2.2.2.2.1 f0.2.2.2.2.2)
  putRows arg6 ![0, 0] inb_S512x128_S128x128_0_0 t0.2.2.1
  let t1 ← step 1 r1.rows (addf f1.2.2.2.2.1 (r1.s0 (nearMask i 1#32))) (addf f1.2.2.2.2.2 (r1.s1 (nearMask i 1#32))) (stepStart r1 i 1#32 f1.2.2.2.2.1 f1.2.2.2.2.2)
  putRows arg6 ![128, 0] inb_S512x128_S128x128_128_0 t1.2.2.1
  let t2 ← step 2 r2.rows (addf f2.2.2.2.2.1 (r2.s0 (nearMask i 2#32))) (addf f2.2.2.2.2.2 (r2.s1 (nearMask i 2#32))) (stepStart r2 i 2#32 f2.2.2.2.2.1 f2.2.2.2.2.2)
  putRows arg6 ![256, 0] inb_S512x128_S128x128_256_0 t2.2.2.1
  let t3 ← step 3 r3.rows (addf f3.2.2.2.2.1 (r3.s0 (nearMask i 3#32))) (addf f3.2.2.2.2.2 (r3.s1 (nearMask i 3#32))) (stepStart r3 i 3#32 f3.2.2.2.2.1 f3.2.2.2.2.2)
  putRows arg6 ![384, 0] inb_S512x128_S128x128_384_0 t3.2.2.1

open Idealize.ShloMosaic Idealize.ShloMosaic.Tactic Idealize.SL.Sem

section Loops

variable (n : Fin 4) (i : grid0.Coords) (arg3 : Big .bf16) (harg3 : arg3.IsWhole) (arg4 : Big .bf16) (harg4 : arg4.IsWhole)
  (arg7 : Big .f32) (harg7 : arg7.IsWhole) (arg8 : Big .f32) (harg8 : arg8.IsWhole) (tri : FVec F S256x128 .bf16) (C : Consts F) (R : Rows F) (tot0 tot1 : Col F)

/-- The labels of the summing loops, called with what they carry. -/
abbrev farCall (s : FarState F) : Pr F (FarState F) :=
  match n with
  | 0 => Prog.lift (.call (1 : (Λ₀ F).Label) ⟨i, arg3, harg3, arg4, harg4, R.q0, R.q1, tri, R.d0, R.d1, s.1, s.2.1, s.2.2.1, s.2.2.2.1, s.2.2.2.2.1, s.2.2.2.2.2⟩)
  | 1 => Prog.lift (.call (2 : (Λ₀ F).Label) ⟨i, arg3, harg3, arg4, harg4, R.q0, R.q1, tri, R.d0, R.d1, s.1, s.2.1, s.2.2.1, s.2.2.2.1, s.2.2.2.2.1, s.2.2.2.2.2⟩)
  | 2 => Prog.lift (.call (3 : (Λ₀ F).Label) ⟨i, arg3, harg3, arg4, harg4, R.q0, R.q1, tri, R.d0, R.d1, s.1, s.2.1, s.2.2.1, s.2.2.2.1, s.2.2.2.2.1, s.2.2.2.2.2⟩)
  | 3 => Prog.lift (.call (4 : (Λ₀ F).Label) ⟨i, arg3, harg3, arg4, harg4, R.q0, R.q1, tri, R.d0, R.d1, s.1, s.2.1, s.2.2.1, s.2.2.2.1, s.2.2.2.2.1, s.2.2.2.2.2⟩)

/-- The labels of the accumulating loops, called with what they carry. -/
abbrev stepCall (s : StepState F) : Pr F (StepState F) :=
  match n with
  | 0 => Prog.lift (.call (5 : (Λ₀ F).Label) ⟨i, arg3, harg3, arg4, harg4, R.q0, R.q1, C.tri, R.d0, R.d1, C.tri3, tot0, tot1, arg7, harg7, arg8, harg8, C.low,
      s.1, s.2.1, s.2.2.1, s.2.2.2.1, s.2.2.2.2.1, s.2.2.2.2.2.1, s.2.2.2.2.2.2⟩)
  | 1 => Prog.lift (.call (6 : (Λ₀ F).Label) ⟨i, arg3, harg3, arg4, harg4, R.q0, R.q1, C.tri, R.d0, R.d1, C.tri3, tot0, tot1, arg7, harg7, arg8, harg8, C.low,
      s.1, s.2.1, s.2.2.1, s.2.2.2.1, s.2.2.2.2.1, s.2.2.2.2.2.1, s.2.2.2.2.2.2⟩)
  | 2 => Prog.lift (.call (7 : (Λ₀ F).Label) ⟨i, arg3, harg3, arg4, harg4, R.q0, R.q1, C.tri, R.d0, R.d1, C.tri3, tot0, tot1, arg7, harg7, arg8, harg8, C.low,
      s.1, s.2.1, s.2.2.1, s.2.2.2.1, s.2.2.2.2.1, s.2.2.2.2.2.1, s.2.2.2.2.2.2⟩)
  | 3 => Prog.lift (.call (8 : (Λ₀ F).Label) ⟨i, arg3, harg3, arg4, harg4, R.q0, R.q1, C.tri, R.d0, R.d1, C.tri3, tot0, tot1, arg7, harg7, arg8, harg8, C.low,
      s.1, s.2.1, s.2.2.1, s.2.2.2.1, s.2.2.2.2.1, s.2.2.2.2.2.1, s.2.2.2.2.2.2⟩)

/-! The summing loops, then the accumulating ones. -/

theorem while1_eq (s : FarState F) :
    cc0_while1 i arg3 harg3 arg4 harg4 R.q0 R.q1 tri R.d0 R.d1 s.1 s.2.1 s.2.2.1 s.2.2.2.1 s.2.2.2.2.1 s.2.2.2.2.2
      = farProg (farCall 0 i arg3 harg3 arg4 harg4 tri R) arg3 arg4 tri R s := by
  sl_kernel_rfl

theorem while2_eq (s : FarState F) :
    cc0_while2 i arg3 harg3 arg4 harg4 R.q0 R.q1 tri R.d0 R.d1 s.1 s.2.1 s.2.2.1 s.2.2.2.1 s.2.2.2.2.1 s.2.2.2.2.2
      = farProg (farCall 1 i arg3 harg3 arg4 harg4 tri R) arg3 arg4 tri R s := by
  sl_kernel_rfl

theorem while3_eq (s : FarState F) :
    cc0_while3 i arg3 harg3 arg4 harg4 R.q0 R.q1 tri R.d0 R.d1 s.1 s.2.1 s.2.2.1 s.2.2.2.1 s.2.2.2.2.1 s.2.2.2.2.2
      = farProg (farCall 2 i arg3 harg3 arg4 harg4 tri R) arg3 arg4 tri R s := by
  sl_kernel_rfl

theorem while4_eq (s : FarState F) :
    cc0_while4 i arg3 harg3 arg4 harg4 R.q0 R.q1 tri R.d0 R.d1 s.1 s.2.1 s.2.2.1 s.2.2.2.1 s.2.2.2.2.1 s.2.2.2.2.2
      = farProg (farCall 3 i arg3 harg3 arg4 harg4 tri R) arg3 arg4 tri R s := by
  sl_kernel_rfl

theorem while5_eq (s : StepState F) :
    cc0_while5 i arg3 harg3 arg4 harg4 R.q0 R.q1 C.tri R.d0 R.d1 C.tri3 tot0 tot1 arg7 harg7 arg8 harg8 C.low
        s.1 s.2.1 s.2.2.1 s.2.2.2.1 s.2.2.2.2.1 s.2.2.2.2.2.1 s.2.2.2.2.2.2
      = stepProg (stepCall 0 i arg3 harg3 arg4 harg4 arg7 harg7 arg8 harg8 C R tot0 tot1) arg3 arg4 arg7 arg8 C R tot0 tot1 s := by
  sl_kernel_rfl

theorem while6_eq (s : StepState F) :
    cc0_while6 i arg3 harg3 arg4 harg4 R.q0 R.q1 C.tri R.d0 R.d1 C.tri3 tot0 tot1 arg7 harg7 arg8 harg8 C.low
        s.1 s.2.1 s.2.2.1 s.2.2.2.1 s.2.2.2.2.1 s.2.2.2.2.2.1 s.2.2.2.2.2.2
      = stepProg (stepCall 1 i arg3 harg3 arg4 harg4 arg7 harg7 arg8 harg8 C R tot0 tot1) arg3 arg4 arg7 arg8 C R tot0 tot1 s := by
  sl_kernel_rfl

theorem while7_eq (s : StepState F) :
    cc0_while7 i arg3 harg3 arg4 harg4 R.q0 R.q1 C.tri R.d0 R.d1 C.tri3 tot0 tot1 arg7 harg7 arg8 harg8 C.low
        s.1 s.2.1 s.2.2.1 s.2.2.2.1 s.2.2.2.2.1 s.2.2.2.2.2.1 s.2.2.2.2.2.2
      = stepProg (stepCall 2 i arg3 harg3 arg4 harg4 arg7 harg7 arg8 harg8 C R tot0 tot1) arg3 arg4 arg7 arg8 C R tot0 tot1 s := by
  sl_kernel_rfl

theorem while8_eq (s : StepState F) :
    cc0_while8 i arg3 harg3 arg4 harg4 R.q0 R.q1 C.tri R.d0 R.d1 C.tri3 tot0 tot1 arg7 harg7 arg8 harg8 C.low
        s.1 s.2.1 s.2.2.1 s.2.2.2.1 s.2.2.2.2.1 s.2.2.2.2.2.1 s.2.2.2.2.2.2
      = stepProg (stepCall 3 i arg3 harg3 arg4 harg4 arg7 harg7 arg8 harg8 C R tot0 tot1) arg3 arg4 arg7 arg8 C R tot0 tot1 s := by
  sl_kernel_rfl

end Loops

/-- The grid step. -/
theorem body_eq (i : grid0.Coords) (arg2 : Small .bf16) (harg2 : arg2.IsWhole) (arg3 : Big .bf16) (harg3 : arg3.IsWhole) (arg4 : Big .bf16) (harg4 : arg4.IsWhole)
    (arg5 : Small .f32) (harg5 : arg5.IsWhole) (arg6 : Small .f32) (harg6 : arg6.IsWhole)
    (arg7 : Big .f32) (harg7 : arg7.IsWhole) (arg8 : Big .f32) (harg8 : arg8.IsWhole) :
    cc0_bwd_attn i arg2 harg2 arg3 harg3 arg4 harg4 arg5 harg5 arg6 harg6 arg7 harg7 arg8 harg8
      = bodyProg (F := F) (fun n R s => farCall n i arg3 harg3 arg4 harg4 laterTri R s)
          (fun n R t0 t1 s => stepCall n i arg3 harg3 arg4 harg4 arg7 harg7 arg8 harg8 consts R t0 t1 s)
          i arg2 arg3 arg4 arg5 arg6 arg7 arg8 := by
  by_cases h : Scalar.cmpi .ne (Scalar.extui (Scalar.cmpi .eq (BitVec.ofNat 32 (i 1).val) 0#32) : BitVec 32) 0#32 = 1#1
  all_goals
    unfold cc0_bwd_attn k0_part1 bodyProg
    simp only [h, ↓reduceIte, ↓reduceDIte]
    sl_kernel_rfl

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt F) ℕ (UR sig nD τ) ℕ

variable {c : Dev nD} {B : Bufs sig} {bd : Option ℕ}

/-! Each is the triple of the same name in AttnRun.lean. -/

theorem Tr.far_call (n : Fin 4) (i : grid0.Coords) (tri : FVec F S256x128 .bf16) (R : Rows F) (s : FarState F) (k : ℕ) (hk : ∀ u ∈ bd, k < u)
    {M M' : Mem F} {v : FarState F} (h : Tr defs₀ c B (some k) M (farProg (farCall n i B.a3 B.h3 B.a4 B.h4 tri R) B.a3 B.a4 tri R s) v M') :
    Tr defs₀ c B bd M (farCall n i B.a3 B.h3 B.a4 B.h4 tri R s) v M' := by
  match n with
  | 0 =>
    exact Tr.call (ℓ := (1 : (Λ₀ F).Label))
      (by unfold defs₀; rw [Defs.onTc_tc]; exact while1_eq i B.a3 B.h3 B.a4 B.h4 tri R s) k hk h
  | 1 =>
    exact Tr.call (ℓ := (2 : (Λ₀ F).Label))
      (by unfold defs₀; rw [Defs.onTc_tc]; exact while2_eq i B.a3 B.h3 B.a4 B.h4 tri R s) k hk h
  | 2 =>
    exact Tr.call (ℓ := (3 : (Λ₀ F).Label))
      (by unfold defs₀; rw [Defs.onTc_tc]; exact while3_eq i B.a3 B.h3 B.a4 B.h4 tri R s) k hk h
  | 3 =>
    exact Tr.call (ℓ := (4 : (Λ₀ F).Label))
      (by unfold defs₀; rw [Defs.onTc_tc]; exact while4_eq i B.a3 B.h3 B.a4 B.h4 tri R s) k hk h

theorem Tr.step_call (n : Fin 4) (i : grid0.Coords) (C : Consts F) (R : Rows F) (tot0 tot1 : Col F) (s : StepState F) (k : ℕ) (hk : ∀ u ∈ bd, k < u)
    {M M' : Mem F} {v : StepState F}
    (h : Tr defs₀ c B (some k) M (stepProg (stepCall n i B.a3 B.h3 B.a4 B.h4 B.a7 B.h7 B.a8 B.h8 C R tot0 tot1) B.a3 B.a4 B.a7 B.a8 C R tot0 tot1 s) v M') :
    Tr defs₀ c B bd M (stepCall n i B.a3 B.h3 B.a4 B.h4 B.a7 B.h7 B.a8 B.h8 C R tot0 tot1 s) v M' := by
  match n with
  | 0 =>
    exact Tr.call (ℓ := (5 : (Λ₀ F).Label))
      (by unfold defs₀; rw [Defs.onTc_tc]; exact while5_eq i B.a3 B.h3 B.a4 B.h4 B.a7 B.h7 B.a8 B.h8 C R tot0 tot1 s) k hk h
  | 1 =>
    exact Tr.call (ℓ := (6 : (Λ₀ F).Label))
      (by unfold defs₀; rw [Defs.onTc_tc]; exact while6_eq i B.a3 B.h3 B.a4 B.h4 B.a7 B.h7 B.a8 B.h8 C R tot0 tot1 s) k hk h
  | 2 =>
    exact Tr.call (ℓ := (7 : (Λ₀ F).Label))
      (by unfold defs₀; rw [Defs.onTc_tc]; exact while7_eq i B.a3 B.h3 B.a4 B.h4 B.a7 B.h7 B.a8 B.h8 C R tot0 tot1 s) k hk h
  | 3 =>
    exact Tr.call (ℓ := (8 : (Λ₀ F).Label))
      (by unfold defs₀; rw [Defs.onTc_tc]; exact while8_eq i B.a3 B.h3 B.a4 B.h4 B.a7 B.h7 B.a8 B.h8 C R tot0 tot1 s) k hk h

theorem ld_tile {e : EltTy} (X : S16384x128.Idx → Elt F e) (k : ℕ) (hk : k < 128) (j : BitVec 32) (hj : j = jw (k + 1)) (h : k0_chk1 j) :
    (View.ld X (tileRect j h) : S128x128.Idx → Elt F e) = tile X k :=
  ld_congr X (by rw [hj]; exact off_jw ⟨k, hk⟩) _ _

theorem Tr.far (n : Fin 4) (i : grid0.Coords) (tri : FVec F S256x128 .bf16) (R : Rows F) (M : Mem F) (k : ℕ) :
    ∀ (hk : k < 128) (s : FarState F) (hs : s.1 = jw k) (bd : Option ℕ) (hb : ∀ u ∈ bd, k < u),
      Tr defs₀ c B bd M (farCall n i B.a3 B.h3 B.a4 B.h4 tri R s) (farRun M.k M.v tri R k s) M := by
  induction k with
  | zero =>
    intro hk s hs bd hb
    refine Tr.far_call n i tri R s 0 hb ?_
    unfold farProg
    rw [if_neg (by rw [hs]; exact not_goes_zero _)]
    exact Tr.ret _ _ _
  | succ k ih =>
    intro hk s hs bd hb
    refine Tr.far_call n i tri R s (k + 1) hb ?_
    have hk' : k < 128 := by omega
    unfold farProg farRun
    by_cases hd : s.2.1 = 0#32
    · rw [if_pos (by rw [hs]; exact (goes_succ k hk' _).mpr hd), if_pos hd]
      have hc : k0_chk1 s.1 := by rw [hs]; exact chk_jw ⟨k, hk'⟩
      refine Tr.bind (Tr.assume M hc) ?_
      refine Tr.bind (Tr.load_k _ M) ?_
      refine Tr.bind (Tr.load_v _ M) ?_
      rw [ld_tile M.k k hk' s.1 hs hc, ld_tile M.v k hk' s.1 hs hc]
      exact ih hk' _ (by rw [← jw_succ k, ← hs]; rfl) _ (fun u hu => by cases hu; exact Nat.lt_succ_self k)
    · rw [if_neg (by rw [hs]; exact fun h => hd ((goes_succ k hk' _).mp h)), if_neg hd]
      exact Tr.ret _ _ _

theorem Tr.addTile_dk (M : Mem F) (k : ℕ) (hk : k < 128) (j : BitVec 32) (hj : j = jw (k + 1)) (h : k0_chk1 j) (x : Tile F) :
    Tr defs₀ c B bd M (addTile B.a7 j h x) ⟨⟩ { M with dk := addT M.dk k x } := by
  unfold addTile
  refine Tr.bind (Tr.load_dk _ M) (Tr.bind (Tr.load_dk _ M) ?_)
  rw [ld_tile M.dk k hk j hj h]
  have e : addT M.dk k x = (tileRect j h).overlay M.dk (addf (shapeCast S128x128 (tile M.dk k) shapeCasts_S128x128_S128x128) x : Tile F) :=
    (overlay_congr M.dk (by rw [hj]; exact off_jw ⟨k, hk⟩) _ _ _).symm
  rw [e]
  exact Tr.store_dk _ M

theorem Tr.addTile_dv (M : Mem F) (k : ℕ) (hk : k < 128) (j : BitVec 32) (hj : j = jw (k + 1)) (h : k0_chk1 j) (x : Tile F) :
    Tr defs₀ c B bd M (addTile B.a8 j h x) ⟨⟩ { M with dv := addT M.dv k x } := by
  unfold addTile
  refine Tr.bind (Tr.load_dv _ M) (Tr.bind (Tr.load_dv _ M) ?_)
  rw [ld_tile M.dv k hk j hj h]
  have e : addT M.dv k x = (tileRect j h).overlay M.dv (addf (shapeCast S128x128 (tile M.dv k) shapeCasts_S128x128_S128x128) x : Tile F) :=
    (overlay_congr M.dv (by rw [hj]; exact off_jw ⟨k, hk⟩) _ _ _).symm
  rw [e]
  exact Tr.store_dv _ M

theorem Tr.step (n : Fin 4) (i : grid0.Coords) (C : Consts F) (R : Rows F) (tot0 tot1 : Col F) (k : ℕ) :
    ∀ (M : Mem F) (hk : k < 128) (s : StepState F) (hs : s.1 = jw k) (bd : Option ℕ) (hb : ∀ u ∈ bd, k < u),
      Tr defs₀ c B bd M (stepCall n i B.a3 B.h3 B.a4 B.h4 B.a7 B.h7 B.a8 B.h8 C R tot0 tot1 s) (stepRun C R tot0 tot1 k s M).1 (stepRun C R tot0 tot1 k s M).2 := by
  induction k with
  | zero =>
    intro M hk s hs bd hb
    refine Tr.step_call n i C R tot0 tot1 s 0 hb ?_
    unfold stepProg
    rw [if_neg (by rw [hs]; exact not_goes_zero _)]
    exact Tr.ret _ _ _
  | succ k ih =>
    intro M hk s hs bd hb
    refine Tr.step_call n i C R tot0 tot1 s (k + 1) hb ?_
    have hk' : k < 128 := by omega
    unfold stepProg stepRun
    by_cases hd : s.2.1 = 0#32
    · rw [if_pos (by rw [hs]; exact (goes_succ k hk' _).mpr hd), if_pos hd]
      have hc : k0_chk1 s.1 := by rw [hs]; exact chk_jw ⟨k, hk'⟩
      refine Tr.bind (Tr.assume M hc) ?_
      refine Tr.bind (Tr.load_k _ M) ?_
      refine Tr.bind (Tr.load_v _ M) ?_
      rw [ld_tile M.k k hk' s.1 hs hc, ld_tile M.v k hk' s.1 hs hc]
      refine Tr.bind (Tr.addTile_dk M k hk' s.1 hs hc _) ?_
      refine Tr.bind (Tr.addTile_dv _ k hk' s.1 hs hc _) ?_
      exact ih _ hk' _ (by rw [← jw_succ k, ← hs]; rfl) _ (fun u hu => by cases hu; exact Nat.lt_succ_self k)
    · rw [if_neg (by rw [hs]; exact fun h => hd ((goes_succ k hk' _).mp h)), if_neg hd]
      exact Tr.ret _ _ _

theorem off1_eq (i : grid0.Coords) (s : Fin 4) : k0_off1 i (BitVec.ofNat 32 s.val) = ![128 * (first (row i).val s.val % 127), 0] :=
  winOff_eq (row i) s

theorem ld_win {e : EltTy} (X : S16384x128.Idx → Elt F e) (i : grid0.Coords) (s : Fin 4) :
    (View.ld X (winRect i s) : S256x128.Idx → Elt F e) = View.ld X (wRect (first (row i).val s.val)) :=
  ld_congr X (off1_eq i s) _ _

theorem Tr.readRaw (M : Mem F) (i : grid0.Coords) (off : Fin 2 → ℕ) (inb : ∀ a, off a + S128x128.size a ≤ S512x128.size a) (s : Fin 4) :
    Tr defs₀ c B bd M (readRaw i B.a2 B.a3 B.a4 B.a5 off inb s) (raw M i s off inb) M := by
  unfold Attn.readRaw raw
  refine Tr.bind (Tr.load_q _ M) (Tr.bind (Tr.load_d _ M) (Tr.bind (Tr.load_k _ M) (Tr.bind (Tr.load_v _ M) ?_)))
  rw [ld_win M.k i s, ld_win M.v i s]
  exact Tr.ret _ _ _

theorem Tr.addWin_dk (M : Mem F) (i : grid0.Coords) (s : Fin 4) (x : FVec F S256x128 .f32) :
    Tr defs₀ c B bd M (addWin B.a7 i s x) ⟨⟩ { M with dk := addW M.dk (first (row i).val s.val) x } := by
  unfold addWin
  refine Tr.bind (Tr.load_dk _ M) (Tr.bind (Tr.load_dk _ M) ?_)
  rw [ld_win M.dk i s]
  have e : addW M.dk (first (row i).val s.val) x = (winRect i s).overlay M.dk
      (addf (shapeCast S256x128 (View.ld M.dk (wRect (first (row i).val s.val))) shapeCasts_S256x128_S256x128) x : FVec F S256x128 .f32) :=
    (overlay_congr M.dk (off1_eq i s) _ _ _).symm
  rw [e]
  exact Tr.store_dk _ M

theorem Tr.addWin_dv (M : Mem F) (i : grid0.Coords) (s : Fin 4) (x : FVec F S256x128 .f32) :
    Tr defs₀ c B bd M (addWin B.a8 i s x) ⟨⟩ { M with dv := addW M.dv (first (row i).val s.val) x } := by
  unfold addWin
  refine Tr.bind (Tr.load_dv _ M) (Tr.bind (Tr.load_dv _ M) ?_)
  rw [ld_win M.dv i s]
  have e : addW M.dv (first (row i).val s.val) x = (winRect i s).overlay M.dv
      (addf (shapeCast S256x128 (View.ld M.dv (wRect (first (row i).val s.val))) shapeCasts_S256x128_S256x128) x : FVec F S256x128 .f32) :=
    (overlay_congr M.dv (off1_eq i s) _ _ _).symm
  rw [e]
  exact Tr.store_dv _ M

theorem Tr.putRows (M : Mem F) (off : Fin 2 → ℕ) (inb : ∀ a, off a + S128x128.size a ≤ S512x128.size a) (x : Tile F) :
    Tr defs₀ c B bd M (putRows B.a6 off inb x) ⟨⟩ { M with dq := (rRect off inb).overlay M.dq x } := by
  unfold Attn.putRows
  exact Tr.bind (Tr.load_dq _ M) (Tr.store_dq _ M)

theorem Tr.clear2 (M : Mem F) : Tr defs₀ c B bd M (do clear B.a7; clear B.a8; pure ⟨⟩ : Pr F PUnit) ⟨⟩ (clearMem M) := by
  have h7 : ∀ M : Mem F, Tr defs₀ c B bd M (clear B.a7) ⟨⟩ { M with dk := zeros S16384x128 } := by
    intro M
    rw [← overlay_all M.dk (zeros S16384x128)]
    unfold clear
    exact Tr.bind (Tr.load_dk bd M) (Tr.store_dk bd M)
  have h8 : ∀ M : Mem F, Tr defs₀ c B bd M (clear B.a8) ⟨⟩ { M with dv := zeros S16384x128 } := by
    intro M
    rw [← overlay_all M.dv (zeros S16384x128)]
    unfold clear
    exact Tr.bind (Tr.load_dv bd M) (Tr.store_dv bd M)
  exact Tr.bind (h7 M) (Tr.bind (h8 _) (Tr.ret _ _ _))

theorem Tr.farOf (M : Mem F) (i : grid0.Coords) (s : Fin 4) :
    Tr defs₀ c B none M (farCall s i B.a3 B.h3 B.a4 B.h4 laterTri (rawOf M i s).rows (farStart (rawOf M i s) i (sw s))) (farOf M i s) M :=
  Tr.far s i laterTri _ M _ (first_lt i s) _ (far_start M i s) none (fun u hu => nomatch hu)

theorem Tr.winMem (M : Mem F) (i : grid0.Coords) (s : Fin 4) (r : Raw F) (f : FarState F) (hr : rawOf M i s = r) (hf : Cert.Kernel2Ideal.Attn.farOf M i s = f)
    {α : Type} {k : PUnit → Pr F α} {w : α} {M' : Mem F} (h : Tr defs₀ c B none (winMem i s M) (k ⟨⟩) w M') : Tr defs₀ c B none M (do
      addWin B.a7 i s (r.dk (nearMask i (sw s)) f.2.2.2.2.1 f.2.2.2.2.2)
      let u ← addWin B.a8 i s (r.dv (nearMask i (sw s)))
      k u) w M' := by
  subst hr hf
  exact Tr.bind (Tr.addWin_dk M i s _) (Tr.bind (Tr.addWin_dv _ i s _) h)

theorem Tr.rowMem (M : Mem F) (i : grid0.Coords) (s : Fin 4) (r : Raw F) (f : FarState F) (hr : rawOf M i s = r) (hf : Cert.Kernel2Ideal.Attn.farOf M i s = f)
    {α : Type} {k : PUnit → Pr F α} {w : α} {M' : Mem F} (h : Tr defs₀ c B none (rowMem i s M) (k ⟨⟩) w M') : Tr defs₀ c B none M (do
      let t ← stepCall s i B.a3 B.h3 B.a4 B.h4 B.a7 B.h7 B.a8 B.h8 consts r.rows
        (addf f.2.2.2.2.1 (r.s0 (nearMask i (sw s)))) (addf f.2.2.2.2.2 (r.s1 (nearMask i (sw s)))) (stepStart r i (sw s) f.2.2.2.2.1 f.2.2.2.2.2)
      let u ← Attn.putRows B.a6 (rOff s) (rOff_inb s) t.2.2.1
      k u) w M' := by
  subst hr hf
  exact Tr.bind (Tr.step s i consts _ _ _ _ M (first_lt i s) _ (far_start M i s) none (fun u hu => nomatch hu)) (Tr.bind (Tr.putRows _ _ _ _) h)

theorem Tr.body (M : Mem F) (i : grid0.Coords) :
    Tr defs₀ c B none M (cc0_bwd_attn i B.a2 B.h2 B.a3 B.h3 B.a4 B.h4 B.a5 B.h5 B.a6 B.h6 B.a7 B.h7 B.a8 B.h8) ⟨⟩ (bodyRun i M) := by
  rw [body_eq]
  unfold bodyProg bodyRun
  have h0 : Tr defs₀ c B none M (if Scalar.cmpi .ne (Scalar.extui (Scalar.cmpi .eq (BitVec.ofNat 32 (i 1).val) 0#32)) 0#32 = 1#1 then do
      clear B.a7
      clear B.a8
      pure ⟨⟩
    else do pure ⟨⟩ : Pr F PUnit) ⟨⟩ (startMem i M) := by
    unfold startMem
    by_cases h : (row i).val = 0
    · rw [if_pos ((start_iff (row i)).mpr h), if_pos h]; exact Tr.clear2 M
    · rw [if_neg (fun hh => h ((start_iff (row i)).mp hh)), if_neg h]; exact Tr.ret _ _ _
  refine Tr.bind h0 ?_
  generalize startMem i M = M
  refine Tr.bind (v := rawOf M i 0) (Tr.readRaw M i _ _ 0) ?_
  refine Tr.bind (v := rawOf M i 1) (Tr.readRaw M i _ _ 1) ?_
  refine Tr.bind (v := rawOf M i 2) (Tr.readRaw M i _ _ 2) ?_
  refine Tr.bind (v := rawOf M i 3) (Tr.readRaw M i _ _ 3) ?_
  refine Tr.bind (v := Cert.Kernel2Ideal.Attn.farOf M i 0) (Tr.farOf M i 0) ?_
  refine Tr.bind (v := Cert.Kernel2Ideal.Attn.farOf M i 1) (Tr.farOf M i 1) ?_
  refine Tr.bind (v := Cert.Kernel2Ideal.Attn.farOf M i 2) (Tr.farOf M i 2) ?_
  refine Tr.bind (v := Cert.Kernel2Ideal.Attn.farOf M i 3) (Tr.farOf M i 3) ?_
  generalize hr0 : rawOf M i 0 = r0
  generalize hr1 : rawOf M i 1 = r1
  generalize hr2 : rawOf M i 2 = r2
  generalize hr3 : rawOf M i 3 = r3
  generalize hf0 : Cert.Kernel2Ideal.Attn.farOf M i 0 = f0
  generalize hf1 : Cert.Kernel2Ideal.Attn.farOf M i 1 = f1
  generalize hf2 : Cert.Kernel2Ideal.Attn.farOf M i 2 = f2
  generalize hf3 : Cert.Kernel2Ideal.Attn.farOf M i 3 = f3
  have e1 := Same.win i 0 M
  have e2 := (Same.win i 1 _).trans e1
  have e3 := (Same.win i 2 _).trans e2
  refine Tr.winMem M i 0 r0 f0 hr0 hf0 ?_
  refine Tr.winMem _ i 1 r1 f1 ((e1.raw i 1).trans hr1) ((e1.far i 1).trans hf1) ?_
  refine Tr.winMem _ i 2 r2 f2 ((e2.raw i 2).trans hr2) ((e2.far i 2).trans hf2) ?_
  refine Tr.winMem _ i 3 r3 f3 ((e3.raw i 3).trans hr3) ((e3.far i 3).trans hf3) ?_
  have e4 := (Same.win i 3 _).trans e3
  have e5 := (Same.rows i 0 _).trans e4
  have e6 := (Same.rows i 1 _).trans e5
  have e7 := (Same.rows i 2 _).trans e6
  refine Tr.rowMem _ i 0 r0 f0 ((e4.raw i 0).trans hr0) ((e4.far i 0).trans hf0) ?_
  refine Tr.rowMem _ i 1 r1 f1 ((e5.raw i 1).trans hr1) ((e5.far i 1).trans hf1) ?_
  refine Tr.rowMem _ i 2 r2 f2 ((e6.raw i 2).trans hr2) ((e6.far i 2).trans hf2) ?_
  have h := Tr.rowMem (c := c) (B := B) _ i 3 r3 f3 ((e7.raw i 3).trans hr3) ((e7.far i 3).trans hf3) (k := fun u => Prog.ret u) (Tr.ret none _ _)
  exact h

open Idealize.ShloMosaic.Rounds
open Idealize.ShloMosaic.Pipeline (Dat Cfg Window BodyObligation cellOf)

variable (m : (ℓ : Loc nD τ sig) → Buf (Elt F) ℓ) (ρ : Dev nD → PrngReg)

/-- The buffers when the kernel is entered: after the host has joined and rounded its arguments. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The host's operations, then the kernel. -/
theorem hmain : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host writes none of its arguments. -/
theorem V_arg (c : Dev nD) (b : Ref sig .tc) (h0 : Proc.devRef .tc b ≠ Proc.devRef (τ := τ) .tc main_v0) (h1 : Proc.devRef .tc b ≠ Proc.devRef (τ := τ) .tc main_v1) :
    V m c b = m (c.tc.loc b) :=
  StableHlo.after_of_forall_not_mem (b := Proc.devRef .tc b) _ _ (List.forall_iff_forall_mem.mp (by
    simp only [hostOps0, List.Forall, StableHlo.nary_writes, StableHlo.unary_writes, Finset.mem_singleton]
    exact ⟨h0, h1⟩))

theorem V_main_arg0 (c : Dev nD) : V m c main_arg0 = m (c.tc.loc main_arg0) :=
  V_arg m c main_arg0 (StableHlo.devRef_ne_of_ne (by decide)) (StableHlo.devRef_ne_of_ne (by decide))
theorem V_main_arg1 (c : Dev nD) : V m c main_arg1 = m (c.tc.loc main_arg1) :=
  V_arg m c main_arg1 (StableHlo.devRef_ne_of_ne (by decide)) (StableHlo.devRef_ne_of_ne (by decide))
theorem V_main_arg2 (c : Dev nD) : V m c main_arg2 = m (c.tc.loc main_arg2) :=
  V_arg m c main_arg2 (StableHlo.devRef_ne_of_ne (by decide)) (StableHlo.devRef_ne_of_ne (by decide))
theorem V_main_arg3 (c : Dev nD) : V m c main_arg3 = m (c.tc.loc main_arg3) :=
  V_arg m c main_arg3 (StableHlo.devRef_ne_of_ne (by decide)) (StableHlo.devRef_ne_of_ne (by decide))

/-- A window's block at a point. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- What point `t` reads. -/
def inAt (c : Dev nD) (t : Fin (cfg0 (F := F)).N) : In F := ⟨iblk m c 0 t, iblk m c 1 t, iblk m c 2 t, iblk m c 3 t⟩

/-- The gradients of keys and values after a point. -/
def accAt (c : Dev nD) : (n : ℕ) → n < (cfg0 (F := F)).N → (S16384x128.Idx → Elt F .f32) × (S16384x128.Idx → Elt F .f32)
  | 0, h => ((inAt m c ⟨0, h⟩).dk (grid0.coords ⟨0, h⟩) (zeros _), (inAt m c ⟨0, h⟩).dv (grid0.coords ⟨0, h⟩) (zeros _))
  | n + 1, h =>
    if (n + 1) % 32 = 0 then
      ((inAt m c ⟨n + 1, h⟩).dk (grid0.coords ⟨n + 1, h⟩) (zeros _), (inAt m c ⟨n + 1, h⟩).dv (grid0.coords ⟨n + 1, h⟩) (zeros _))
    else ((inAt m c ⟨n + 1, h⟩).dk (grid0.coords ⟨n + 1, h⟩) (accAt c n (Nat.lt_of_succ_lt h)).1,
      (inAt m c ⟨n + 1, h⟩).dv (grid0.coords ⟨n + 1, h⟩) (accAt c n (Nat.lt_of_succ_lt h)).2)

/-- At a pair's first point the gradients start from zero; -/
theorem accAt_first (c : Dev nD) (t : Fin (cfg0 (F := F)).N) (h : t.val % 32 = 0) :
    accAt m c t.val t.isLt = ((inAt m c t).dk (grid0.coords t) (zeros _), (inAt m c t).dv (grid0.coords t) (zeros _)) := by
  match t with
  | ⟨0, _⟩ => rfl
  | ⟨n + 1, _⟩ => exact if_pos h

/-- at the others from what the point before left. -/
theorem accAt_next (c : Dev nD) (t : Fin (cfg0 (F := F)).N) (h : ¬t.val % 32 = 0) :
    accAt m c t.val t.isLt = ((inAt m c t).dk (grid0.coords t) (accAt m c (t.val - 1) (lt_prev t)).1,
      (inAt m c t).dv (grid0.coords t) (accAt m c (t.val - 1) (lt_prev t)).2) := by
  match t with
  | ⟨0, _⟩ => exact absurd rfl h
  | ⟨n + 1, _⟩ => exact if_neg h

/-- The proof data: the arrays as the kernel finds them, and what each point leaves in the buffers. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (inAt m c t).dq (grid0.coords t) (zeros _)
    | ⟨5, _⟩ => (accAt m c t.val t.isLt).1
    | ⟨6, _⟩ => (accAt m c t.val t.isLt).2
  Φ _ := Pipeline.ΦA spec0 c
  q w := Pipeline.shareOf spec0 w
  owed _ := 0

theorem A_eq (c : Dev nD) (w : Fin (cfg0 (F := F)).W) : (dats m 0 c).A w = V m c (Pipeline.arrRef spec0 w) := by
  dsimp only [dats]

theorem after_0 (c : Dev nD) (t : Fin (cfg0 (F := F)).N) : (dats m 0 c).after 0 t = iblk m c 0 t := rfl
theorem after_1 (c : Dev nD) (t : Fin (cfg0 (F := F)).N) : (dats m 0 c).after 1 t = iblk m c 1 t := rfl
theorem after_2 (c : Dev nD) (t : Fin (cfg0 (F := F)).N) : (dats m 0 c).after 2 t = iblk m c 2 t := rfl
theorem after_3 (c : Dev nD) (t : Fin (cfg0 (F := F)).N) : (dats m 0 c).after 3 t = iblk m c 3 t := rfl
theorem after_4 (c : Dev nD) (t : Fin (cfg0 (F := F)).N) : (dats m 0 c).after 4 t = (inAt m c t).dq (grid0.coords t) (zeros _) := rfl
theorem after_5 (c : Dev nD) (t : Fin (cfg0 (F := F)).N) : (dats m 0 c).after 5 t = (accAt m c t.val t.isLt).1 := rfl
theorem after_6 (c : Dev nD) (t : Fin (cfg0 (F := F)).N) : (dats m 0 c).after 6 t = (accAt m c t.val t.isLt).2 := rfl

/-- Each buffer of an argument holds its block at every point. -/
theorem before_0 (c : Dev nD) (t : Fin (cfg0 (F := F)).N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin (cfg0 (F := F)).N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin (cfg0 (F := F)).N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin (cfg0 (F := F)).N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-- A point that is not a pair's first finds the gradient of the keys as the point before left it, -/
theorem before_5 (c : Dev nD) (t : Fin (cfg0 (F := F)).N) (h0 : ¬t.val % 32 = 0) (d) :
    (dats m 0 c).before 5 t d = (accAt m c (t.val - 1) (lt_prev t)).1 := by
  rw [Dat.before_out_kept _ 5 rfl t (by omega) (Bool.eq_false_iff.mpr fun h => by have := (flush0_5 _).mp h; dsimp only at this; omega)
    (fun _ => rfl) (fun _ _ => rfl)]
  rfl
/-- and the gradient of the values. -/
theorem before_6 (c : Dev nD) (t : Fin (cfg0 (F := F)).N) (h0 : ¬t.val % 32 = 0) (d) :
    (dats m 0 c).before 6 t d = (accAt m c (t.val - 1) (lt_prev t)).2 := by
  rw [Dat.before_out_kept _ 6 rfl t (by omega) (Bool.eq_false_iff.mpr fun h => by have := (flush0_6 _).mp h; dsimp only at this; omega)
    (fun _ => rfl) (fun _ _ => rfl)]
  rfl

/-- A point's number along the rows. -/
theorem row_coords (t : Fin grid0.N) : (row (grid0.coords t)).val = t.val % 32 := by
  have e : (grid0.coords t 1).val = t.val / 1 % 32 := Pipeline.Grid.coords_val t 1 (by decide) rfl
  exact e.trans (by rw [Nat.div_one])

/-- The buffers a point is given. -/
def bufsAt (t : Fin (cfg0 (F := F)).N) : Bufs sig where
  a2 := win0_0.stage ((cfg0 (F := F)).slots t 0)
  h2 := hstage0_0 (((cfg0 (F := F)).slots t 0).cast nbuf0_0)
  a3 := win0_1.stage ((cfg0 (F := F)).slots t 1)
  h3 := hstage0_1 (((cfg0 (F := F)).slots t 1).cast nbuf0_1)
  a4 := win0_2.stage ((cfg0 (F := F)).slots t 2)
  h4 := hstage0_2 (((cfg0 (F := F)).slots t 2).cast nbuf0_2)
  a5 := win0_3.stage ((cfg0 (F := F)).slots t 3)
  h5 := hstage0_3 (((cfg0 (F := F)).slots t 3).cast nbuf0_3)
  a6 := win0_4.stage ((cfg0 (F := F)).slots t 4)
  h6 := hstage0_4 (((cfg0 (F := F)).slots t 4).cast nbuf0_4)
  a7 := win0_5.stage ((cfg0 (F := F)).slots t 5)
  h7 := hstage0_5 (((cfg0 (F := F)).slots t 5).cast nbuf0_5)
  a8 := win0_6.stage ((cfg0 (F := F)).slots t 6)
  h8 := hstage0_6 (((cfg0 (F := F)).slots t 6).cast nbuf0_6)

/-- The memory a point finds, and leaves. -/
theorem bodyRun_at (c : Dev nD) (t : Fin (cfg0 (F := F)).N) (d4 d5 d6) :
    bodyRun (grid0.coords t) ⟨iblk m c 0 t, iblk m c 1 t, iblk m c 2 t, iblk m c 3 t, (dats m 0 c).before 4 t d4, (dats m 0 c).before 5 t d5, (dats m 0 c).before 6 t d6⟩
      = ⟨iblk m c 0 t, iblk m c 1 t, iblk m c 2 t, iblk m c 3 t, (inAt m c t).dq (grid0.coords t) (zeros _), (accAt m c t.val t.isLt).1, (accAt m c t.val t.isLt).2⟩ := by
  rw [bodyRun_eq, row_coords]
  by_cases h : t.val % 32 = 0
  · rw [if_pos h, if_pos h, accAt_first m c t h, In.dq_indep _ _ _ (zeros _)]; rfl
  · rw [if_neg h, if_neg h, accAt_next m c t h, In.dq_indep _ _ _ (zeros _), before_5 m c t h, before_6 m c t h]; rfl

/-- What the body is called with at a point, -/
def bodyPre (c : Dev nD) (t : Fin (cfg0 (F := F)).N) : sProp 𝕄 :=
  iprop((dats m 0 c).Φ t.castSucc ∗ (dats m 0 c).owesAt () t.castSucc
    ∗ (∃ d, owns (c : Thread nD τ) (bufsAt (F := F) t).a2 fullShare ((dats m 0 c).before 0 t d))
    ∗ (∃ d, owns (c : Thread nD τ) (bufsAt (F := F) t).a3 fullShare ((dats m 0 c).before 1 t d))
    ∗ (∃ d, owns (c : Thread nD τ) (bufsAt (F := F) t).a4 fullShare ((dats m 0 c).before 2 t d))
    ∗ (∃ d, owns (c : Thread nD τ) (bufsAt (F := F) t).a5 fullShare ((dats m 0 c).before 3 t d))
    ∗ (∃ d, owns (c : Thread nD τ) (bufsAt (F := F) t).a6 fullShare ((dats m 0 c).before 4 t d))
    ∗ (∃ d, owns (c : Thread nD τ) (bufsAt (F := F) t).a7 fullShare ((dats m 0 c).before 5 t d))
    ∗ (∃ d, owns (c : Thread nD τ) (bufsAt (F := F) t).a8 fullShare ((dats m 0 c).before 6 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (bufsAt (F := F) t).a2 fullShare ((dats m 0 c).after 0 t)
    ∗ owns (c : Thread nD τ) (bufsAt (F := F) t).a3 fullShare ((dats m 0 c).after 1 t)
    ∗ owns (c : Thread nD τ) (bufsAt (F := F) t).a4 fullShare ((dats m 0 c).after 2 t)
    ∗ owns (c : Thread nD τ) (bufsAt (F := F) t).a5 fullShare ((dats m 0 c).after 3 t)
    ∗ owns (c : Thread nD τ) (bufsAt (F := F) t).a6 fullShare ((dats m 0 c).after 4 t)
    ∗ owns (c : Thread nD τ) (bufsAt (F := F) t).a7 fullShare ((dats m 0 c).after 5 t)
    ∗ owns (c : Thread nD τ) (bufsAt (F := F) t).a8 fullShare ((dats m 0 c).after 6 t))

set_option maxHeartbeats 1600000 in
/-- The body at any point. -/
theorem sound_body (c : Dev nD) (t : Fin (cfg0 (F := F)).N) :
    bodyPre m c t ⊢ wp frame (wpE (defs₀ (F := F)) 𝒱₀ (c : Thread nD τ) none) Set.univ (bodyAt0 (F := F) t) (fun _ => bodyPost m c t) := by
  unfold bodyPre bodyPost
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (Tr.body (c := c) (B := bufsAt (F := F) t) ⟨iblk m c 0 t, iblk m c 1 t, iblk m c 2 t, iblk m c 3 t, (dats m 0 c).before 4 t d4, (dats m 0 c).before 5 t d5, (dats m 0 c).before 6 t d6⟩
    (grid0.coords t) _) $$ [H0 H1 H2 H3 H4 H5 H6]
  · unfold held
    iframe
  rw [bodyRun_at]
  unfold held
  iintro ⟨H0, H1, H2, H3, H4, H5, H6⟩
  iframe

/-- The body table's row is the body. -/
theorem defs₀_row (t : Fin (cfg0 (F := F)).N) :
    defs₀ (F := F) .tc (cfg0 (F := F)).body ((cfg0 (F := F)).bodyArgs t ((cfg0 (F := F)).slots t)) = bodyAt0 (F := F) t := by
  unfold defs₀; rw [Defs.onTc_tc]

/-- The library's obligation, at every point. -/
theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

set_option backward.isDefEq.respectTransparency.types false in
/-- The launch: every execution ends, the arrays at what the points left, every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ 𝒱₀ m ρ main
    (hbody := fun c => (body_obligation m c).loose) (hq := fun _ _ _ => rfl)
    (howed := fun _ _ => rfl) (V := V m) (hmain := hmain m) (hA := A_eq m) (hΦ := fun _ _ => rfl)

/-- The run, without the counters. -/
theorem run_main : θ_run defs (onTc (τ := τ) (main (F := F))) (s₀ m ρ) (Pipeline.FramePost cfgs (dats m) 0 (V m)) :=
  (θ_run defs _ _).mono (fun _ h => h.1) (run_main_quiescent m ρ)

/-- What the final arrays say of the arguments. -/
theorem args_of (c : Dev nD) (r : PUnit × MemSt nD τ sig (Elt F)) (h : Pipeline.FramePost cfgs (dats m) 0 (V m) r) : r.2.mem (c.tc.loc main_arg0) = m (c.tc.loc main_arg0)
      ∧ r.2.mem (c.tc.loc main_arg1) = m (c.tc.loc main_arg1) ∧ r.2.mem (c.tc.loc main_arg2) = m (c.tc.loc main_arg2)
      ∧ r.2.mem (c.tc.loc main_arg3) = m (c.tc.loc main_arg3) :=
  ⟨((h c).2 main_arg0 (Pipeline.mem_restRefs_of main_arg0 (by decide) (by decide : ∀ w : Fin 7, (spec0 w).arr.view.ref ≠ main_arg0))).trans (V_main_arg0 m c),
    ((h c).2 main_arg1 (Pipeline.mem_restRefs_of main_arg1 (by decide) (by decide : ∀ w : Fin 7, (spec0 w).arr.view.ref ≠ main_arg1))).trans (V_main_arg1 m c),
    ((h c).2 main_arg2 (Pipeline.mem_restRefs_of main_arg2 (by decide) (by decide : ∀ w : Fin 7, (spec0 w).arr.view.ref ≠ main_arg2))).trans (V_main_arg2 m c),
    ((h c).1 3).trans (((dats m 0 c).arrAt_in 3 rfl _).trans ((A_eq m c 3).trans (V_main_arg3 m c)))⟩

/-- The kernel ends, its arguments unchanged and every semaphore at zero. -/
theorem frame' : θ_run defs (onTc (τ := τ) (main (F := F))) ⟨m, fun _ => 0, ρ⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3))
      ∧ r.2.sem = fun _ => 0) :=
  (θ_run defs _ _).mono (fun r h => ⟨fun c => args_of m c r h.1, h.2⟩) (run_main_quiescent m ρ)

end Cert.Kernel2.Attn

end
-- ==== Proof.AttnGrid.lean ====
/-
  One block of 128 rows of the attention backward kernel over the reals. The two loops keep, for each head, the sums over
  the keys they have passed; at the end a block's rows hold their whole gradient, and every key and value has received the
  block's part.

  The two loops of the attention backward kernel over the reals, trip by trip. With `k` blocks of keys still to visit the
  loops carry, for each head, the sums over the keys from block `k` on; the accumulating loop also carries the rows'
  gradient so far, and each block it leaves behind has received the rows' part.

  A grid step of the attention backward kernel over the reals: from the rows `512 a …` and all keys and values it leaves
  the rows' whole gradient and adds those rows' part to the gradient of every key and value.
-/
module

public import proofs.«01_k».proof.Proof.AttnDef
public import proofs.«01_k».proof.Proof.AttnRun

@[expose] public section

set_option maxRecDepth 16384

noncomputable section

namespace Cert.Kernel2Ideal.Attn

open Cert.Kernel2Ideal Cert.Kernel2Ideal.Gen
open Idealize.ShloMosaic Idealize.SL.Sem
open Finset (range Ico)

/-! ## The early exit never fires -/

/-- Over the extended reals the exit's threshold is the least number, and nothing lies below it. -/
theorem doneWord_eq (c0 c1 : Col Ideal) : doneWord c0 c1 = 0#32 := by
  have h : (Named.named κ "exp_underflow" 0xC2B00000#32 : Ideal .f32) = (⊥ : EReal) := rfl
  unfold doneWord
  rw [h]
  pointwise
  rw [decide_eq_false (not_lt_bot)]
  rfl

/-! ## The rows' mask -/

theorem near_word : ∀ (a : Fin 32) (s : Fin 4), Scalar.muli (Scalar.subi (Scalar.addi (Scalar.muli (BitVec.ofNat 32 a.val) 4#32) (BitVec.ofNat 32 s.val))
      (Scalar.maxsi (Scalar.subi (Scalar.addi (Scalar.muli (BitVec.ofNat 32 a.val) 4#32) (BitVec.ofNat 32 s.val)) 1#32) 0#32)) 128#32
    = BitVec.ofNat 32 (128 * (4 * a.val + s.val - first a.val s.val)) := by decide

theorem lt_word (e : Fin 2) (a : Fin 128) (b : Fin 256) :
    IntOp.cmpi .slt (BitVec.ofNat 32 b.val) (IntOp.addi (BitVec.ofNat 32 a.val) (BitVec.ofNat 32 (128 * e.val))) = if b.val < a.val + 128 * e.val then 1#1 else 0#1 := by
  have h : IntOp.addi (BitVec.ofNat 32 a.val) (BitVec.ofNat 32 (128 * e.val)) = BitVec.ofNat 32 (a.val + 128 * e.val) := (BitVec.ofNat_add _ _).symm
  rw [h]
  have hx : (BitVec.ofNat 32 b.val).toInt = (b.val : ℤ) := by
    rw [BitVec.toInt_eq_toNat_of_lt] <;> rw [BitVec.toNat_ofNat, Nat.mod_eq_of_lt (by omega)]; omega
  have hy : (BitVec.ofNat 32 (a.val + 128 * e.val)).toInt = ((a.val + 128 * e.val : ℕ) : ℤ) := by
    rw [BitVec.toInt_eq_toNat_of_lt] <;> rw [BitVec.toNat_ofNat, Nat.mod_eq_of_lt (by omega)]; omega
  show BitVec.ofBool (decide ((BitVec.ofNat 32 b.val).toInt < (BitVec.ofNat 32 (a.val + 128 * e.val)).toInt)) = _
  rw [hx, hy]
  by_cases h : b.val < a.val + 128 * e.val
  · rw [if_pos h, decide_eq_true (by exact_mod_cast h)]; rfl
  · rw [if_neg h, decide_eq_false (by exact_mod_cast h)]; rfl

theorem nearMask_apply (i : grid0.Coords) (s : Fin 4) (a : Fin 128) (b : Fin 256) :
    nearMask i (sw s) (ix2 a b) = if 128 * first (row i).val s.val + b.val < 128 * (4 * (row i).val + s.val) + a.val then 1#1 else 0#1 := by
  pointwise [nearMask]
  rw [near_word (row i) s]
  refine (lt_word ⟨4 * (row i).val + s.val - first (row i).val s.val, by unfold first; omega⟩ a b).trans ?_
  refine if_congr ?_ rfl rfl
  dsimp only
  unfold first
  omega

/-! ## Reading and adding -/

theorem is_overlay {N n : ℕ} {X : (⟨2, ![N, 128]⟩ : Shape).Idx → Elt Ideal .f32} {o : ℕ} {x : (⟨2, ![n, 128]⟩ : Shape).Idx → EReal} {f g : ℕ → ℕ → ℝ}
    (inb : ∀ a, (![o, 0] : Fin 2 → ℕ) a + (![n, 128] : Fin 2 → ℕ) a ≤ (![N, 128] : Fin 2 → ℕ) a) (hX : Is X f) (hx : Is x g) :
    Is ((Rect.unit (s := ⟨2, ![N, 128]⟩) ![o, 0] ![n, 128] inb).overlay X x) (fun j l => if o ≤ j ∧ j < o + n then g (j - o) l else f j l) := by
  intro j l
  by_cases h : o ≤ j.val ∧ j.val < o + n
  · beta_reduce; rw [if_pos h]
    refine Eq.trans ?_ (hx ⟨j.val - o, by omega⟩ l)
    have e : ix2 j l = (Rect.unit (s := ⟨2, ![N, 128]⟩) ![o, 0] ![n, 128] inb).idx (ix2 ⟨j.val - o, by omega⟩ l) := by
      funext d
      match d with
      | ⟨0, _⟩ => apply Fin.ext; show j.val = o + 1 * (j.val - o); omega
      | ⟨1, _⟩ => apply Fin.ext; show l.val = 0 + 1 * l.val; omega
    rw [e]
    exact Rect.overlay_emb _ _ _ _
  · beta_reduce; rw [if_neg h]
    refine Eq.trans ?_ (hX j l)
    refine Rect.overlay_of_not_mem _ _ _ fun hm => h ?_
    exact (Rect.mem_set_unit.mp hm) 0

theorem is_half {X : S16384x128.Idx → Elt Ideal .bf16} {f : ℕ → ℕ → ℝ} (hX : Is X f) {k : ℕ} (hk : k < 128) : Is (half X k) (fun a l => f (128 * k + a) l) := by
  intro a l
  have e : k % 128 = k := Nat.mod_eq_of_lt hk
  pointwise [half, tile, tRect]
  refine (hX _ _).trans ?_
  dsimp only
  rw [e]

theorem is_addT {X : S16384x128.Idx → Elt Ideal .f32} {x : Tile Ideal} {f g : ℕ → ℕ → ℝ} (hX : Is X f) (hx : Is x g) {k : ℕ} (hk : k < 128) :
    Is (addT X k x) (fun j l => f j l + if 128 * k ≤ j ∧ j < 128 * k + 128 then g (j - 128 * k) l else 0) := by
  have e : k % 128 = k := Nat.mod_eq_of_lt hk
  have hs : Is (addf (shapeCast S128x128 (tile X k) shapeCasts_S128x128_S128x128) x : Tile Ideal) (fun a l => f (128 * k + a) l + g a l) := by
    refine Is.add (f := fun a l => f (128 * k + a) l) (fun a l => ?_) hx
    pointwise [tile, tRect]
    refine (hX _ _).trans ?_
    dsimp only
    rw [e]
  refine (is_overlay _ hX hs).congr fun j hj l hl => ?_
  rw [e]
  by_cases h : 128 * k ≤ j ∧ j < 128 * k + 128
  · rw [if_pos h, if_pos h, show 128 * k + (j - 128 * k) = j by omega]
  · rw [if_neg h, if_neg h, add_zero]

theorem is_addW {X : S16384x128.Idx → Elt Ideal .f32} {x : FVec Ideal S256x128 .f32} {f g : ℕ → ℕ → ℝ} (hX : Is X f) (hx : Is x g) {k : ℕ} (hk : k < 127) :
    Is (addW X k x) (fun j l => f j l + if 128 * k ≤ j ∧ j < 128 * k + 256 then g (j - 128 * k) l else 0) := by
  have e : k % 127 = k := Nat.mod_eq_of_lt hk
  have hs : Is (addf (shapeCast S256x128 (View.ld X (wRect k)) shapeCasts_S256x128_S256x128) x : FVec Ideal S256x128 .f32) (fun a l => f (128 * k + a) l + g a l) := by
    refine Is.add (f := fun a l => f (128 * k + a) l) (fun a l => ?_) hx
    pointwise [wRect]
    refine (hX _ _).trans ?_
    dsimp only
    rw [e]
  refine (is_overlay _ hX hs).congr fun j hj l hl => ?_
  rw [e]
  by_cases h : 128 * k ≤ j ∧ j < 128 * k + 256
  · rw [if_pos h, if_pos h, show 128 * k + (j - 128 * k) = j by omega]
  · rw [if_neg h, if_neg h, add_zero]

section Pair
variable (fq fk fd fv : ℕ → ℕ → ℝ)

/-- The score of row `i` against key `j`, head `h`. -/
def Zh (h i j : ℕ) : ℝ := (∑ l ∈ range 128, lane h fq i l * fk j l) * (1 / 8)
/-- The gradient that meets the weight of key `j` for row `i`. -/
def Dh (h i j : ℕ) : ℝ := ∑ l ∈ range 128, lane h fd i l * fv j l
/-- A head's logarithms, weighted gradients, and gradients of scores. -/
abbrev Lh (h i j : ℕ) : ℝ := -sp (Zh fq fk h i j)
@[inherit_doc Lh] abbrev Gh (h i j : ℕ) : ℝ := gr (Zh fq fk h) (Dh fd fv h) i j
@[inherit_doc Lh] abbrev Sh (h i j : ℕ) : ℝ := ds (Zh fq fk h) (Dh fd fv h) i j
/-- What key `j` adds to the gradient of row `i`. -/
def toQ (i j l : ℕ) : ℝ := (if l < 64 then Sh fq fk fd fv 0 i j else Sh fq fk fd fv 1 i j) * fk j l
/-- What row `i` adds to the gradient of key `j`, -/
def toK (i j l : ℕ) : ℝ := Sh fq fk fd fv 0 i j * lane 0 fq i l + Sh fq fk fd fv 1 i j * lane 1 fq i l
/-- and of value `j`. -/
def toV (i j l : ℕ) : ℝ := wt (Zh fq fk 0) i j * lane 0 fd i l + wt (Zh fq fk 1) i j * lane 1 fd i l

/-- The rows `B …` of both heads. -/
structure RowsAt (B : ℕ) (R : Rows Ideal) : Prop where
  q0 : Is R.q0 (fun a l => lane 0 fq (B + a) l)
  q1 : Is R.q1 (fun a l => lane 1 fq (B + a) l)
  d0 : Is R.d0 (fun a l => lane 0 fd (B + a) l)
  d1 : Is R.d1 (fun a l => lane 1 fd (B + a) l)

variable {fq fk fd fv}
variable {K V : S16384x128.Idx → Elt Ideal .bf16} {R : Rows Ideal} {B f : ℕ}

theorem RowsAt.tile0 (hR : RowsAt fq fd B R) (hK : Is K fk) (hV : Is V fv) {k : ℕ} (hk : k < 128) (hB : 128 * (k + 1) ≤ B) :
    FarTile (Zh fq fk 0) (Dh fd fv 0) B (128 * k) R.q0 (half K k) R.d0 (half V k) :=
  ⟨is_score hR.q0 (is_half hK hk), is_dotT hR.d0 (is_half hV hk), hB⟩
theorem RowsAt.tile1 (hR : RowsAt fq fd B R) (hK : Is K fk) (hV : Is V fv) {k : ℕ} (hk : k < 128) (hB : 128 * (k + 1) ≤ B) :
    FarTile (Zh fq fk 1) (Dh fd fv 1) B (128 * k) R.q1 (half K k) R.d1 (half V k) :=
  ⟨is_score hR.q1 (is_half hK hk), is_dotT hR.d1 (is_half hV hk), hB⟩

/-! ## The summing loop -/

variable (fq fk fd fv B f) in
/-- What the summing loop carries with `k` blocks left, having started below block `f`. -/
structure FarAt (k : ℕ) (S : FarState Ideal) : Prop where
  done : S.2.1 = 0#32
  c0 : Is S.2.2.1 (fun a _ => ∑ j ∈ Ico (128 * k) (B + a), Lh fq fk 0 (B + a) j)
  c1 : Is S.2.2.2.1 (fun a _ => ∑ j ∈ Ico (128 * k) (B + a), Lh fq fk 1 (B + a) j)
  s0 : Is S.2.2.2.2.1 (fun a _ => ∑ j ∈ Ico (128 * k) (128 * f), Gh fq fk fd fv 0 (B + a) j)
  s1 : Is S.2.2.2.2.2 (fun a _ => ∑ j ∈ Ico (128 * k) (128 * f), Gh fq fk fd fv 1 (B + a) j)

theorem FarAt.next (hR : RowsAt fq fd B R) (hK : Is K fk) (hV : Is V fv) {k : ℕ} (hk : k < 128) (hf : k + 1 ≤ f) (hB : 128 * f ≤ B)
    {S : FarState Ideal} (h : FarAt fq fk fd fv B f (k + 1) S) : FarAt fq fk fd fv B f k (farNext laterTri R (half K k) (half V k) S) := by
  have t0 := hR.tile0 hK hV hk (by omega)
  have t1 := hR.tile1 hK hV hk (by omega)
  exact ⟨doneWord_eq _ _, t0.logSum h.c0, t1.logSum h.c1, t0.gSum (E := fun _ => 128 * f) (fun _ => by omega) h.c0 h.s0,
    t1.gSum (E := fun _ => 128 * f) (fun _ => by omega) h.c1 h.s1⟩

theorem FarAt.run (hR : RowsAt fq fd B R) (hK : Is K fk) (hV : Is V fv) (hf128 : f ≤ 128) (hB : 128 * f ≤ B) :
    ∀ (k : ℕ) (S : FarState Ideal), k ≤ f → FarAt fq fk fd fv B f k S → FarAt fq fk fd fv B f 0 (farRun K V laterTri R k S) := by
  intro k
  induction k with
  | zero => intro S _ h; exact h
  | succ k ih =>
    intro S hk h
    unfold farRun
    rw [if_pos h.done]
    exact ih _ (by omega) (h.next hR hK hV (by omega) hk hB)

/-! ## The accumulating loop -/

variable (fq fk fd fv B) in
/-- What the accumulating loop carries with `k` blocks left. -/
structure StepAt (k : ℕ) (S : StepState Ideal) : Prop where
  done : S.2.1 = 0#32
  dq : Is S.2.2.1 (fun a l => ∑ j ∈ Ico (128 * k) (B + a), toQ fq fk fd fv (B + a) j l)
  c0 : Is S.2.2.2.1 (fun a _ => ∑ j ∈ Ico (128 * k) (B + a), Lh fq fk 0 (B + a) j)
  c1 : Is S.2.2.2.2.1 (fun a _ => ∑ j ∈ Ico (128 * k) (B + a), Lh fq fk 1 (B + a) j)
  s0 : Is S.2.2.2.2.2.1 (fun a _ => ∑ j ∈ Ico (128 * k) (B + a), Gh fq fk fd fv 0 (B + a) j)
  s1 : Is S.2.2.2.2.2.2 (fun a _ => ∑ j ∈ Ico (128 * k) (B + a), Gh fq fk fd fv 1 (B + a) j)

variable (fq fk fd fv B) in
/-- The whole sums of the rows' weighted gradients. -/
structure TotAt (tot0 tot1 : Col Ideal) : Prop where
  t0 : Is tot0 (fun a _ => ∑ j ∈ range (B + a), Gh fq fk fd fv 0 (B + a) j)
  t1 : Is tot1 (fun a _ => ∑ j ∈ range (B + a), Gh fq fk fd fv 1 (B + a) j)

variable {tot0 tot1 : Col Ideal}

theorem StepAt.dz0 (hR : RowsAt fq fd B R) (hK : Is K fk) (hV : Is V fv) {k : ℕ} (hk : k < 128) (hB : 128 * (k + 1) ≤ B)
    (hT : TotAt fq fk fd fv B tot0 tot1) {S : StepState Ideal} (h : StepAt fq fk fd fv B (k + 1) S) :
    Is (tDz laterTri fromTri R.q0 (half K k) R.d0 (half V k) tot0 S.2.2.2.1 S.2.2.2.2.2.1) (fun a b => Sh fq fk fd fv 0 (B + a) (128 * k + b)) :=
  (hR.tile0 hK hV hk hB).dz h.c0 h.s0 hT.t0

theorem StepAt.dz1 (hR : RowsAt fq fd B R) (hK : Is K fk) (hV : Is V fv) {k : ℕ} (hk : k < 128) (hB : 128 * (k + 1) ≤ B)
    (hT : TotAt fq fk fd fv B tot0 tot1) {S : StepState Ideal} (h : StepAt fq fk fd fv B (k + 1) S) :
    Is (tDz laterTri fromTri R.q1 (half K k) R.d1 (half V k) tot1 S.2.2.2.2.1 S.2.2.2.2.2.2) (fun a b => Sh fq fk fd fv 1 (B + a) (128 * k + b)) :=
  (hR.tile1 hK hV hk hB).dz h.c1 h.s1 hT.t1

/-- Two heads' parts side by side are one sum. -/
theorem sum_heads (C n i l : ℕ) : (if l < 64 then ∑ k ∈ range n, Sh fq fk fd fv 0 i (C + k) * fk (C + k) l else ∑ k ∈ range n, Sh fq fk fd fv 1 i (C + k) * fk (C + k) l)
      = ∑ k ∈ range n, toQ fq fk fd fv i (C + k) l := by
  unfold toQ
  by_cases h : l < 64
  · simp only [if_pos h]
  · simp only [if_neg h]

theorem StepAt.next (hR : RowsAt fq fd B R) (hK : Is K fk) (hV : Is V fv) {k : ℕ} (hk : k < 128) (hB : 128 * (k + 1) ≤ B)
    (hT : TotAt fq fk fd fv B tot0 tot1) {S : StepState Ideal} (h : StepAt fq fk fd fv B (k + 1) S) :
    StepAt fq fk fd fv B k (stepNext consts R tot0 tot1 (half K k) (half V k) S) := by
  have t0 := hR.tile0 hK hV hk hB
  have t1 := hR.tile1 hK hV hk hB
  refine ⟨doneWord_eq _ _, ?_, t0.logSum h.c0, t1.logSum h.c1, t0.gSum (E := fun a => B + a) (fun a => by omega) h.c0 h.s0,
    t1.gSum (E := fun a => B + a) (fun a => by omega) h.c1 h.s1⟩
  refine (h.dq.add (Is.select (p := fun _ b => b < 64) low_apply (is_dot (h.dz0 hR hK hV hk hB hT) (is_half hK hk))
    (is_dot (h.dz1 hR hK hV hk hB hT) (is_half hK hk)))).congr fun a ha b hb => ?_
  rw [sum_heads, sum_shift0 (fun j => toQ fq fk fd fv (B + a) j b), add_comm, show 128 * (k + 1) = 128 * k + 128 from rfl,
    Finset.sum_Ico_consecutive _ (by omega) (by omega)]

theorem StepAt.stepDk (hR : RowsAt fq fd B R) (hK : Is K fk) (hV : Is V fv) {k : ℕ} (hk : k < 128) (hB : 128 * (k + 1) ≤ B)
    (hT : TotAt fq fk fd fv B tot0 tot1) {S : StepState Ideal} (h : StepAt fq fk fd fv B (k + 1) S) :
    Is (stepDk consts R tot0 tot1 (half K k) (half V k) S) (fun b l => ∑ a ∈ range 128, toK fq fk fd fv (B + a) (128 * k + b) l) := by
  refine ((is_tdot (h.dz0 hR hK hV hk hB hT) hR.q0).add (is_tdot (h.dz1 hR hK hV hk hB hT) hR.q1)).congr fun b hb l hl => ?_
  rw [← Finset.sum_add_distrib]; rfl

theorem StepAt.stepDv (hR : RowsAt fq fd B R) (hK : Is K fk) (hV : Is V fv) {k : ℕ} (hk : k < 128) (hB : 128 * (k + 1) ≤ B)
    {S : StepState Ideal} (h : StepAt fq fk fd fv B (k + 1) S) :
    Is (Attn.stepDv consts R (half K k) (half V k) S) (fun b l => ∑ a ∈ range 128, toV fq fk fd (B + a) (128 * k + b) l) := by
  refine ((is_tdot ((hR.tile0 hK hV hk hB).weight h.c0).trunc hR.d0).add (is_tdot ((hR.tile1 hK hV hk hB).weight h.c1).trunc hR.d1)).congr fun b hb l hl => ?_
  rw [← Finset.sum_add_distrib]; rfl

theorem StepAt.run (hR : RowsAt fq fd B R) (hK : Is K fk) (hV : Is V fv) (hT : TotAt fq fk fd fv B tot0 tot1) :
    ∀ (k : ℕ) (S : StepState Ideal), k ≤ 128 → 128 * k ≤ B → StepAt fq fk fd fv B k S → StepAt fq fk fd fv B 0 (stateRun K V consts R tot0 tot1 k S) := by
  intro k
  induction k with
  | zero => intro S _ _ h; exact h
  | succ k ih =>
    intro S hk hB h
    unfold stateRun
    rw [if_pos h.done]
    exact ih _ (by omega) (by omega) (h.next hR hK hV (by omega) hB hT)

/-- One block more. -/
theorem sum_block (g : ℕ → ℝ) (x : ℝ) (j k : ℕ) (h : 128 * k ≤ j ∧ j < 128 * k + 128 → g (j - 128 * k) = x) :
    (if 128 * k ≤ j ∧ j < 128 * k + 128 then g (j - 128 * k) else 0) + (if j < 128 * k then x else 0) = if j < 128 * (k + 1) then x else 0 := by
  by_cases h1 : j < 128 * k
  · rw [if_neg (by omega), if_pos h1, if_pos (by omega), zero_add]
  · by_cases h2 : j < 128 * k + 128
    · rw [if_pos ⟨by omega, h2⟩, if_neg h1, if_pos (by omega), h ⟨by omega, h2⟩, add_zero]
    · rw [if_neg (by omega), if_neg h1, if_neg (by omega), add_zero]

theorem StepAt.dk (hR : RowsAt fq fd B R) (hK : Is K fk) (hV : Is V fv) (hT : TotAt fq fk fd fv B tot0 tot1) :
    ∀ (k : ℕ) (S : StepState Ideal) (X : S16384x128.Idx → Elt Ideal .f32) (fx : ℕ → ℕ → ℝ), k ≤ 128 → 128 * k ≤ B → StepAt fq fk fd fv B k S → Is X fx →
      Is (dkRun K V consts R tot0 tot1 k S X) (fun j l => fx j l + if j < 128 * k then ∑ a ∈ range 128, toK fq fk fd fv (B + a) j l else 0) := by
  intro k
  induction k with
  | zero => intro S X fx _ _ _ hX; exact hX.congr fun j _ l _ => by rw [if_neg (by omega), add_zero]
  | succ k ih =>
    intro S X fx hk hB h hX
    unfold dkRun
    rw [if_pos h.done]
    refine (ih _ _ _ (by omega) (by omega) (h.next hR hK hV (by omega) hB hT) (is_addT hX (h.stepDk hR hK hV (by omega) hB hT) (by omega))).congr fun j _ l _ => ?_
    rw [add_assoc]
    congr 1
    refine sum_block (fun b => ∑ a ∈ range 128, toK fq fk fd fv (B + a) (128 * k + b) l) _ j k fun h => ?_
    rw [show 128 * k + (j - 128 * k) = j by omega]

theorem StepAt.dv (hR : RowsAt fq fd B R) (hK : Is K fk) (hV : Is V fv) (hT : TotAt fq fk fd fv B tot0 tot1) :
    ∀ (k : ℕ) (S : StepState Ideal) (X : S16384x128.Idx → Elt Ideal .f32) (fx : ℕ → ℕ → ℝ), k ≤ 128 → 128 * k ≤ B → StepAt fq fk fd fv B k S → Is X fx →
      Is (dvRun K V consts R tot0 tot1 k S X) (fun j l => fx j l + if j < 128 * k then ∑ a ∈ range 128, toV fq fk fd (B + a) j l else 0) := by
  intro k
  induction k with
  | zero => intro S X fx _ _ _ hX; exact hX.congr fun j _ l _ => by rw [if_neg (by omega), add_zero]
  | succ k ih =>
    intro S X fx hk hB h hX
    unfold dvRun
    rw [if_pos h.done]
    refine (ih _ _ _ (by omega) (by omega) (h.next hR hK hV (by omega) hB hT) (is_addT hX (h.stepDv hR hK hV (by omega) hB) (by omega))).congr fun j _ l _ => ?_
    rw [add_assoc]
    congr 1
    refine sum_block (fun b => ∑ a ∈ range 128, toV fq fk fd (B + a) (128 * k + b) l) _ j k fun h => ?_
    rw [show 128 * k + (j - 128 * k) = j by omega]

end Pair

/-- What a grid step reads, over the reals: the rows from `512 a` on, and all keys and values. -/
structure InAt (fq fk fd fv : ℕ → ℕ → ℝ) (a : ℕ) (I : In Ideal) : Prop where
  q : Is I.q (fun r l => fq (512 * a + r) l)
  k : Is I.k fk
  v : Is I.v fv
  d : Is I.d (fun r l => fd (512 * a + r) l)

section Step
variable {fq fk fd fv : ℕ → ℕ → ℝ} {I : In Ideal} {i : grid0.Coords}

/-- The first row of block `s`. -/
abbrev base (i : grid0.Coords) (s : Fin 4) : ℕ := 128 * (4 * (row i).val + s.val)
/-- The first of the 256 keys nearest to it. -/
abbrev low (i : grid0.Coords) (s : Fin 4) : ℕ := 128 * first (row i).val s.val

theorem low_le (i : grid0.Coords) (s : Fin 4) : low i s ≤ base i s := by unfold low base first; omega
theorem base_le (i : grid0.Coords) (s : Fin 4) : base i s ≤ low i s + 128 := by unfold low base first; omega
theorem win_lt (i : grid0.Coords) (s : Fin 4) : first (row i).val s.val < 127 := by
  have := (row i).isLt; have := s.isLt; unfold first; omega

theorem InAt.rows (h : InAt fq fk fd fv (row i).val I) (s : Fin 4) : RowsAt fq fd (base i s) (I.raw i s).rows := by
  have hq : Is (extf .f32 (shapeCast S128x128 (I.raw i s).q shapeCasts_S128x128_S128x128) bitsLt_bf16_f32 : Tile Ideal) (fun a l => fq (base i s + a) l) := by
    refine Is.ext' fun a l => ?_
    pointwise [In.raw, raw]
    refine (h.q _ _).trans ?_
    dsimp only [base]
    rw [show 512 * (row i).val + (128 * s.val + a.val) = 128 * (4 * (row i).val + s.val) + a.val by ring]
  have hd : Is (I.raw i s).d (fun a l => fd (base i s + a) l) := by
    intro a l
    show View.ld I.d (rRect (rOff s) (rOff_inb s)) (ix2 a l) = _
    pointwise
    refine (h.d _ _).trans ?_
    dsimp only [base]
    rw [show 512 * (row i).val + (128 * s.val + a.val) = 128 * (4 * (row i).val + s.val) + a.val by ring]
  exact ⟨is_lowHead hq, is_highHead hq, is_lowHead hd, is_highHead hd⟩

theorem is_win {X : S16384x128.Idx → Elt Ideal .bf16} {f : ℕ → ℕ → ℝ} (hX : Is X f) {k : ℕ} (hk : k < 127) :
    Is (shapeCast S256x128 (View.ld X (wRect k)) shapeCasts_S256x128_S256x128 : FVec Ideal S256x128 .bf16) (fun a l => f (128 * k + a) l) := by
  intro a l
  have e : k % 127 = k := Nat.mod_eq_of_lt hk
  pointwise [wRect]
  refine (hX _ _).trans ?_
  dsimp only
  rw [e]

theorem InAt.near0 (h : InAt fq fk fd fv (row i).val I) (s : Fin 4) :
    NearTile (Zh fq fk 0) (Dh fd fv 0) (base i s) (low i s) (nearMask i (sw s)) (I.raw i s).rows.q0 (I.raw i s).kw (I.raw i s).rows.d0 (I.raw i s).vw :=
  ⟨is_wscore (h.rows s).q0 (is_win h.k (win_lt i s)), is_dotTw (h.rows s).d0 (is_win h.v (win_lt i s)), nearMask_apply i s, base_le i s⟩
theorem InAt.near1 (h : InAt fq fk fd fv (row i).val I) (s : Fin 4) :
    NearTile (Zh fq fk 1) (Dh fd fv 1) (base i s) (low i s) (nearMask i (sw s)) (I.raw i s).rows.q1 (I.raw i s).kw (I.raw i s).rows.d1 (I.raw i s).vw :=
  ⟨is_wscore (h.rows s).q1 (is_win h.k (win_lt i s)), is_dotTw (h.rows s).d1 (is_win h.v (win_lt i s)), nearMask_apply i s, base_le i s⟩

theorem InAt.far (h : InAt fq fk fd fv (row i).val I) (s : Fin 4) : FarAt fq fk fd fv (base i s) (first (row i).val s.val) 0 (I.far i s) := by
  refine FarAt.run (h.rows s) h.k h.v (by have := win_lt i s; omega) (low_le i s) _ _ le_rfl ?_
  exact ⟨doneWord_eq _ _, (h.near0 s).logSum, (h.near1 s).logSum, is_none0.congr fun a _ b _ => by simp, is_none0.congr fun a _ b _ => by simp⟩

theorem InAt.tot (h : InAt fq fk fd fv (row i).val I) (s : Fin 4) : TotAt fq fk fd fv (base i s) (I.tot0 i s) (I.tot1 i s) := by
  have hl := low_le i s
  constructor
  · refine ((h.far s).s0.add (h.near0 s).gSum).congr fun a _ b _ => ?_
    rw [Finset.range_eq_Ico]; exact Finset.sum_Ico_consecutive _ (Nat.zero_le _) (hl.trans (Nat.le_add_right _ _))
  · refine ((h.far s).s1.add (h.near1 s).gSum).congr fun a _ b _ => ?_
    rw [Finset.range_eq_Ico]; exact Finset.sum_Ico_consecutive _ (Nat.zero_le _) (hl.trans (Nat.le_add_right _ _))

theorem InAt.dz0 (h : InAt fq fk fd fv (row i).val I) (s : Fin 4) : Is ((I.raw i s).dz0 (nearMask i (sw s)) (I.far i s).2.2.2.2.1)
      (fun a b => if low i s + b < base i s + a then Sh fq fk fd fv 0 (base i s + a) (low i s + b) else 0) := (h.near0 s).dz (h.tot s).t0
theorem InAt.dz1 (h : InAt fq fk fd fv (row i).val I) (s : Fin 4) : Is ((I.raw i s).dz1 (nearMask i (sw s)) (I.far i s).2.2.2.2.2)
      (fun a b => if low i s + b < base i s + a then Sh fq fk fd fv 1 (base i s + a) (low i s + b) else 0) := (h.near1 s).dz (h.tot s).t1

theorem InAt.dqStart (h : InAt fq fk fd fv (row i).val I) (s : Fin 4) : Is ((I.raw i s).dq (nearMask i (sw s)) (I.far i s).2.2.2.2.1 (I.far i s).2.2.2.2.2)
      (fun a l => ∑ j ∈ Ico (low i s) (base i s + a), toQ fq fk fd fv (base i s + a) j l) := by
  refine (Is.select (p := fun _ b => b < 64) low_apply (is_dotw (h.dz0 s) (is_win h.k (win_lt i s)))
    (is_dotw (h.dz1 s) (is_win h.k (win_lt i s)))).congr fun a ha l hl => ?_
  have hb := base_le i s
  rw [show low i s = low i s + 0 from rfl, ← sum_masked (fun j => toQ fq fk fd fv (base i s + a) j l) (by omega), ← Finset.range_eq_Ico]
  unfold toQ
  by_cases hl : l < 64
  · simp only [if_pos hl, ite_mul, zero_mul, add_zero]
  · simp only [if_neg hl, ite_mul, zero_mul, add_zero]

theorem InAt.start (h : InAt fq fk fd fv (row i).val I) (s : Fin 4) : StepAt fq fk fd fv (base i s) (first (row i).val s.val) (I.start i s) :=
  ⟨doneWord_eq _ _, h.dqStart s, (h.near0 s).logSum, (h.near1 s).logSum, (h.near0 s).gSum, (h.near1 s).gSum⟩

theorem InAt.state (h : InAt fq fk fd fv (row i).val I) (s : Fin 4) : StepAt fq fk fd fv (base i s) 0 (I.state i s) :=
  StepAt.run (h.rows s) h.k h.v (h.tot s) _ _ (by have := win_lt i s; omega) (low_le i s) (h.start s)

/-! ## Keys and values -/

theorem InAt.nearDk (h : InAt fq fk fd fv (row i).val I) (s : Fin 4) {X : S16384x128.Idx → Elt Ideal .f32} {fx : ℕ → ℕ → ℝ} (hX : Is X fx) :
    Is (I.nearDk i s X) (fun j l => fx j l + if low i s ≤ j ∧ j < low i s + 256 then
      ∑ a ∈ range 128, (if j < base i s + a then toK fq fk fd fv (base i s + a) j l else 0) else 0) := by
  refine (is_addW hX ((is_tdotw (h.dz0 s) (h.rows s).q0).add (is_tdotw (h.dz1 s) (h.rows s).q1)) (win_lt i s)).congr fun j _ l _ => ?_
  congr 1
  refine if_ctx_congr Iff.rfl (fun hj => ?_) fun _ => rfl
  rw [← Finset.sum_add_distrib]
  refine Finset.sum_congr rfl fun a _ => ?_
  rw [show low i s + (j - 128 * first (row i).val s.val) = j by unfold low at hj ⊢; omega]
  by_cases hm : j < base i s + a
  · simp only [if_pos hm]; rfl
  · simp only [if_neg hm, zero_mul, add_zero]

theorem InAt.nearDv (h : InAt fq fk fd fv (row i).val I) (s : Fin 4) {X : S16384x128.Idx → Elt Ideal .f32} {fx : ℕ → ℕ → ℝ} (hX : Is X fx) :
    Is (I.nearDv i s X) (fun j l => fx j l + if low i s ≤ j ∧ j < low i s + 256 then
      ∑ a ∈ range 128, (if j < base i s + a then toV fq fk fd (base i s + a) j l else 0) else 0) := by
  refine (is_addW hX ((is_tdotw (h.near0 s).weight.trunc (h.rows s).d0).add (is_tdotw (h.near1 s).weight.trunc (h.rows s).d1)) (win_lt i s)).congr fun j _ l _ => ?_
  congr 1
  refine if_ctx_congr Iff.rfl (fun hj => ?_) fun _ => rfl
  rw [← Finset.sum_add_distrib]
  refine Finset.sum_congr rfl fun a _ => ?_
  rw [show low i s + (j - 128 * first (row i).val s.val) = j by unfold low at hj ⊢; omega]
  by_cases hm : j < base i s + a
  · simp only [if_pos hm]; rfl
  · simp only [if_neg hm, zero_mul, add_zero]

theorem InAt.farDk (h : InAt fq fk fd fv (row i).val I) (s : Fin 4) {X : S16384x128.Idx → Elt Ideal .f32} {fx : ℕ → ℕ → ℝ} (hX : Is X fx) :
    Is (I.farDk i s X) (fun j l => fx j l + if j < low i s then ∑ a ∈ range 128, toK fq fk fd fv (base i s + a) j l else 0) :=
  StepAt.dk (h.rows s) h.k h.v (h.tot s) _ _ X fx (by have := win_lt i s; omega) (low_le i s) (h.start s) hX

theorem InAt.farDv (h : InAt fq fk fd fv (row i).val I) (s : Fin 4) {X : S16384x128.Idx → Elt Ideal .f32} {fx : ℕ → ℕ → ℝ} (hX : Is X fx) :
    Is (I.farDv i s X) (fun j l => fx j l + if j < low i s then ∑ a ∈ range 128, toV fq fk fd (base i s + a) j l else 0) :=
  StepAt.dv (h.rows s) h.k h.v (h.tot s) _ _ X fx (by have := win_lt i s; omega) (low_le i s) (h.start s) hX

/-- The near and the far part of a block are its whole part. -/
theorem near_far (i : grid0.Coords) (s : Fin 4) (g : ℕ → ℝ) (j : ℕ) :
    (if low i s ≤ j ∧ j < low i s + 256 then ∑ a ∈ range 128, (if j < base i s + a then g (base i s + a) else 0) else 0)
      + (if j < low i s then ∑ a ∈ range 128, g (base i s + a) else 0) = ∑ a ∈ range 128, (if j < base i s + a then g (base i s + a) else 0) := by
  have hl := low_le i s
  have hb := base_le i s
  by_cases h1 : j < low i s
  · rw [if_neg (by omega), if_pos h1, zero_add]
    exact Finset.sum_congr rfl fun a _ => by rw [if_pos (by omega)]
  · by_cases h2 : j < low i s + 256
    · rw [if_pos ⟨by omega, h2⟩, if_neg h1, add_zero]
    · rw [if_neg (by omega), if_neg h1, add_zero]
      refine (Finset.sum_eq_zero fun a ha => ?_).symm
      have := Finset.mem_range.mp ha
      rw [if_neg (by omega)]

/-- What rows `B …` add to something, row `i` adding `g i` where it lies after `j`. -/
def part (g : ℕ → ℝ) (j B : ℕ) : ℝ := ∑ a ∈ range 128, (if j < B + a then g (B + a) else 0)

/-- Four near parts and four far parts, regrouped. -/
theorem regroup {x n0 n1 n2 n3 f0 f1 f2 f3 p0 p1 p2 p3 : ℝ} (h0 : n0 + f0 = p0) (h1 : n1 + f1 = p1) (h2 : n2 + f2 = p2) (h3 : n3 + f3 = p3) :
    x + n0 + n1 + n2 + n3 + f0 + f1 + f2 + f3 = x + (p0 + p1 + p2 + p3) := by
  subst h0 h1 h2 h3; ring

theorem InAt.dk (h : InAt fq fk fd fv (row i).val I) {X : S16384x128.Idx → Elt Ideal .f32} {fx : ℕ → ℕ → ℝ} (hX : Is X fx) :
    Is (I.dk i X) (fun j l => fx j l + ∑ s : Fin 4, part (fun r => toK fq fk fd fv r j l) j (base i s)) := by
  refine (h.farDk 3 (h.farDk 2 (h.farDk 1 (h.farDk 0 (h.nearDk 3 (h.nearDk 2 (h.nearDk 1 (h.nearDk 0 hX)))))))).congr fun j _ l _ => ?_
  rw [Fin.sum_univ_four]
  unfold part
  exact regroup (near_far i 0 (fun r => toK fq fk fd fv r j l) j) (near_far i 1 (fun r => toK fq fk fd fv r j l) j)
    (near_far i 2 (fun r => toK fq fk fd fv r j l) j) (near_far i 3 (fun r => toK fq fk fd fv r j l) j)

theorem InAt.dv (h : InAt fq fk fd fv (row i).val I) {X : S16384x128.Idx → Elt Ideal .f32} {fx : ℕ → ℕ → ℝ} (hX : Is X fx) :
    Is (I.dv i X) (fun j l => fx j l + ∑ s : Fin 4, part (fun r => toV fq fk fd r j l) j (base i s)) := by
  refine (h.farDv 3 (h.farDv 2 (h.farDv 1 (h.farDv 0 (h.nearDv 3 (h.nearDv 2 (h.nearDv 1 (h.nearDv 0 hX)))))))).congr fun j _ l _ => ?_
  rw [Fin.sum_univ_four]
  unfold part
  exact regroup (near_far i 0 (fun r => toV fq fk fd r j l) j) (near_far i 1 (fun r => toV fq fk fd r j l) j)
    (near_far i 2 (fun r => toV fq fk fd r j l) j) (near_far i 3 (fun r => toV fq fk fd r j l) j)

/-! ## Rows -/

theorem is_putT (s : Fin 4) {X : S512x128.Idx → Elt Ideal .f32} {x : Tile Ideal} {f g : ℕ → ℕ → ℝ} (hX : Is X f) (hx : Is x g) :
    Is (putT s X x) (fun r l => if 128 * s.val ≤ r ∧ r < 128 * s.val + 128 then g (r - 128 * s.val) l else f r l) := is_overlay _ hX hx

theorem InAt.dq (h : InAt fq fk fd fv (row i).val I) :
    Is (I.dq i (zeros S512x128 : FVec Ideal S512x128 .f32)) (fun r l => ∑ j ∈ range (512 * (row i).val + r), toQ fq fk fd fv (512 * (row i).val + r) j l) := by
  refine (is_putT 3 (is_putT 2 (is_putT 1 (is_putT 0 is_zeros (h.state 0).dq) (h.state 1).dq) (h.state 2).dq) (h.state 3).dq).congr fun r hr l _ => ?_
  have e : ∀ s : Fin 4, 128 * s.val ≤ r → base i s + (r - 128 * s.val) = 512 * (row i).val + r := fun s hs => by unfold base; omega
  have e0 := e 0; have e1 := e 1; have e2 := e 2; have e3 := e 3
  simp only [Finset.range_eq_Ico]
  change 0 ≤ r → _ at e0; change 128 ≤ r → _ at e1; change 256 ≤ r → _ at e2; change 384 ≤ r → _ at e3
  change (if 384 ≤ r ∧ r < 512 then _ else if 256 ≤ r ∧ r < 384 then _ else if 128 ≤ r ∧ r < 256 then _ else if 0 ≤ r ∧ r < 128 then _ else _) = _
  by_cases h3 : 384 ≤ r
  · rw [if_pos ⟨h3, by omega⟩, e3 h3]
  · rw [if_neg (by omega)]
    by_cases h2 : 256 ≤ r
    · rw [if_pos ⟨h2, by omega⟩, e2 h2]
    · rw [if_neg (by omega)]
      by_cases h1 : 128 ≤ r
      · rw [if_pos ⟨h1, by omega⟩, e1 h1]
      · rw [if_neg (by omega), if_pos ⟨by omega, by omega⟩, e0 (by omega)]

end Step

end Cert.Kernel2Ideal.Attn

end
-- ==== Proof.AttnFinal.lean ====
/-
  The attention backward kernel's run. The grid's points are steps of 512 rows, 32 for each of four pairs of heads; the
  rows' gradient is written at every point, the gradients of keys and values are carried over a pair's 32 points. `memAt`
  names what a point leaves, the triple of the step (AttnRun.lean) is the obligation, and the library's launch gives the
  final arrays (`run_main`).

  The arrays the attention backward kernel leaves, over the reals: the gradients of queries, keys and values, each entry
  one sum over the keys before a row, or over the rows after a key.
-/
module

public import proofs.«01_k».proof.Proof.AttnRun
public import proofs.«01_k».proof.Proof.Gen.Kernel2Ideal.Points
public import Idealize.ShloMosaic.Lib.Ring
public import Idealize.ShloMosaic.Lib.Tactic
public import Idealize.ShloMosaic.Lib.WordCmp
public import proofs.«01_k».proof.Proof.AttnGrid
public import Idealize.ShloMosaic.Lib.Pipeline.ValueKit
public import Idealize.ShloMosaic.Lib.Pointwise

@[expose] public section

set_option maxRecDepth 16384

noncomputable section

namespace Cert.Kernel2Ideal.Attn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The buffers when the kernel is entered: after the host has joined and rounded its arguments. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The host's operations, then the kernel. -/
theorem hmain : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host writes none of its arguments. -/
theorem V_arg (c : Dev nD) (b : Ref sig .tc) (h0 : Proc.devRef .tc b ≠ Proc.devRef (τ := τ) .tc main_v0) (h1 : Proc.devRef .tc b ≠ Proc.devRef (τ := τ) .tc main_v1) :
    V m c b = m (c.tc.loc b) :=
  StableHlo.after_of_forall_not_mem (b := Proc.devRef .tc b) _ _ (List.forall_iff_forall_mem.mp (by
    simp only [hostOps0, List.Forall, StableHlo.nary_writes, StableHlo.unary_writes, Finset.mem_singleton]
    exact ⟨h0, h1⟩))

theorem V_main_arg0 (c : Dev nD) : V m c main_arg0 = m (c.tc.loc main_arg0) :=
  V_arg m c main_arg0 (StableHlo.devRef_ne_of_ne (by decide)) (StableHlo.devRef_ne_of_ne (by decide))
theorem V_main_arg1 (c : Dev nD) : V m c main_arg1 = m (c.tc.loc main_arg1) :=
  V_arg m c main_arg1 (StableHlo.devRef_ne_of_ne (by decide)) (StableHlo.devRef_ne_of_ne (by decide))
theorem V_main_arg2 (c : Dev nD) : V m c main_arg2 = m (c.tc.loc main_arg2) :=
  V_arg m c main_arg2 (StableHlo.devRef_ne_of_ne (by decide)) (StableHlo.devRef_ne_of_ne (by decide))
theorem V_main_arg3 (c : Dev nD) : V m c main_arg3 = m (c.tc.loc main_arg3) :=
  V_arg m c main_arg3 (StableHlo.devRef_ne_of_ne (by decide)) (StableHlo.devRef_ne_of_ne (by decide))

/-- A window's block at a point. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- What point `t` reads. -/
def inAt (c : Dev nD) (t : Fin (cfg0 (F := F)).N) : In F := ⟨iblk m c 0 t, iblk m c 1 t, iblk m c 2 t, iblk m c 3 t⟩

/-- The gradients of keys and values after a point. -/
def accAt (c : Dev nD) : (n : ℕ) → n < (cfg0 (F := F)).N → (S16384x128.Idx → Elt F .f32) × (S16384x128.Idx → Elt F .f32)
  | 0, h => ((inAt m c ⟨0, h⟩).dk (grid0.coords ⟨0, h⟩) (zeros _), (inAt m c ⟨0, h⟩).dv (grid0.coords ⟨0, h⟩) (zeros _))
  | n + 1, h =>
    if (n + 1) % 32 = 0 then
      ((inAt m c ⟨n + 1, h⟩).dk (grid0.coords ⟨n + 1, h⟩) (zeros _), (inAt m c ⟨n + 1, h⟩).dv (grid0.coords ⟨n + 1, h⟩) (zeros _))
    else ((inAt m c ⟨n + 1, h⟩).dk (grid0.coords ⟨n + 1, h⟩) (accAt c n (Nat.lt_of_succ_lt h)).1,
      (inAt m c ⟨n + 1, h⟩).dv (grid0.coords ⟨n + 1, h⟩) (accAt c n (Nat.lt_of_succ_lt h)).2)

/-- At a pair's first point the gradients start from zero; -/
theorem accAt_first (c : Dev nD) (t : Fin (cfg0 (F := F)).N) (h : t.val % 32 = 0) :
    accAt m c t.val t.isLt = ((inAt m c t).dk (grid0.coords t) (zeros _), (inAt m c t).dv (grid0.coords t) (zeros _)) := by
  match t with
  | ⟨0, _⟩ => rfl
  | ⟨n + 1, _⟩ => exact if_pos h

/-- at the others from what the point before left. -/
theorem accAt_next (c : Dev nD) (t : Fin (cfg0 (F := F)).N) (h : ¬t.val % 32 = 0) :
    accAt m c t.val t.isLt = ((inAt m c t).dk (grid0.coords t) (accAt m c (t.val - 1) (lt_prev t)).1,
      (inAt m c t).dv (grid0.coords t) (accAt m c (t.val - 1) (lt_prev t)).2) := by
  match t with
  | ⟨0, _⟩ => exact absurd rfl h
  | ⟨n + 1, _⟩ => exact if_neg h

/-- The proof data: the arrays as the kernel finds them, and what each point leaves in the buffers. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (inAt m c t).dq (grid0.coords t) (zeros _)
    | ⟨5, _⟩ => (accAt m c t.val t.isLt).1
    | ⟨6, _⟩ => (accAt m c t.val t.isLt).2
  Φ _ := Pipeline.ΦA spec0 c
  q w := Pipeline.shareOf spec0 w
  owed _ := 0

theorem A_eq (c : Dev nD) (w : Fin (cfg0 (F := F)).W) : (dats m 0 c).A w = V m c (Pipeline.arrRef spec0 w) := by
  dsimp only [dats]

theorem after_0 (c : Dev nD) (t : Fin (cfg0 (F := F)).N) : (dats m 0 c).after 0 t = iblk m c 0 t := rfl
theorem after_1 (c : Dev nD) (t : Fin (cfg0 (F := F)).N) : (dats m 0 c).after 1 t = iblk m c 1 t := rfl
theorem after_2 (c : Dev nD) (t : Fin (cfg0 (F := F)).N) : (dats m 0 c).after 2 t = iblk m c 2 t := rfl
theorem after_3 (c : Dev nD) (t : Fin (cfg0 (F := F)).N) : (dats m 0 c).after 3 t = iblk m c 3 t := rfl
theorem after_4 (c : Dev nD) (t : Fin (cfg0 (F := F)).N) : (dats m 0 c).after 4 t = (inAt m c t).dq (grid0.coords t) (zeros _) := rfl
theorem after_5 (c : Dev nD) (t : Fin (cfg0 (F := F)).N) : (dats m 0 c).after 5 t = (accAt m c t.val t.isLt).1 := rfl
theorem after_6 (c : Dev nD) (t : Fin (cfg0 (F := F)).N) : (dats m 0 c).after 6 t = (accAt m c t.val t.isLt).2 := rfl

/-- Each buffer of an argument holds its block at every point. -/
theorem before_0 (c : Dev nD) (t : Fin (cfg0 (F := F)).N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin (cfg0 (F := F)).N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin (cfg0 (F := F)).N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin (cfg0 (F := F)).N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-- A point that is not a pair's first finds the gradient of the keys as the point before left it, -/
theorem before_5 (c : Dev nD) (t : Fin (cfg0 (F := F)).N) (h0 : ¬t.val % 32 = 0) (d) :
    (dats m 0 c).before 5 t d = (accAt m c (t.val - 1) (lt_prev t)).1 := by
  rw [Dat.before_out_kept _ 5 rfl t (by omega) (Bool.eq_false_iff.mpr fun h => by have := (flush0_5 _).mp h; dsimp only at this; omega)
    (fun _ => rfl) (fun _ _ => rfl)]
  rfl
/-- and the gradient of the values. -/
theorem before_6 (c : Dev nD) (t : Fin (cfg0 (F := F)).N) (h0 : ¬t.val % 32 = 0) (d) :
    (dats m 0 c).before 6 t d = (accAt m c (t.val - 1) (lt_prev t)).2 := by
  rw [Dat.before_out_kept _ 6 rfl t (by omega) (Bool.eq_false_iff.mpr fun h => by have := (flush0_6 _).mp h; dsimp only at this; omega)
    (fun _ => rfl) (fun _ _ => rfl)]
  rfl

/-- A point's number along the rows. -/
theorem row_coords (t : Fin grid0.N) : (row (grid0.coords t)).val = t.val % 32 := by
  have e : (grid0.coords t 1).val = t.val / 1 % 32 := Pipeline.Grid.coords_val t 1 (by decide) rfl
  exact e.trans (by rw [Nat.div_one])

/-- The buffers a point is given. -/
def bufsAt (t : Fin (cfg0 (F := F)).N) : Bufs sig where
  a2 := win0_0.stage ((cfg0 (F := F)).slots t 0)
  h2 := hstage0_0 (((cfg0 (F := F)).slots t 0).cast nbuf0_0)
  a3 := win0_1.stage ((cfg0 (F := F)).slots t 1)
  h3 := hstage0_1 (((cfg0 (F := F)).slots t 1).cast nbuf0_1)
  a4 := win0_2.stage ((cfg0 (F := F)).slots t 2)
  h4 := hstage0_2 (((cfg0 (F := F)).slots t 2).cast nbuf0_2)
  a5 := win0_3.stage ((cfg0 (F := F)).slots t 3)
  h5 := hstage0_3 (((cfg0 (F := F)).slots t 3).cast nbuf0_3)
  a6 := win0_4.stage ((cfg0 (F := F)).slots t 4)
  h6 := hstage0_4 (((cfg0 (F := F)).slots t 4).cast nbuf0_4)
  a7 := win0_5.stage ((cfg0 (F := F)).slots t 5)
  h7 := hstage0_5 (((cfg0 (F := F)).slots t 5).cast nbuf0_5)
  a8 := win0_6.stage ((cfg0 (F := F)).slots t 6)
  h8 := hstage0_6 (((cfg0 (F := F)).slots t 6).cast nbuf0_6)

/-- The memory a point finds, and leaves. -/
theorem bodyRun_at (c : Dev nD) (t : Fin (cfg0 (F := F)).N) (d4 d5 d6) :
    bodyRun (grid0.coords t) ⟨iblk m c 0 t, iblk m c 1 t, iblk m c 2 t, iblk m c 3 t, (dats m 0 c).before 4 t d4, (dats m 0 c).before 5 t d5, (dats m 0 c).before 6 t d6⟩
      = ⟨iblk m c 0 t, iblk m c 1 t, iblk m c 2 t, iblk m c 3 t, (inAt m c t).dq (grid0.coords t) (zeros _), (accAt m c t.val t.isLt).1, (accAt m c t.val t.isLt).2⟩ := by
  rw [bodyRun_eq, row_coords]
  by_cases h : t.val % 32 = 0
  · rw [if_pos h, if_pos h, accAt_first m c t h, In.dq_indep _ _ _ (zeros _)]; rfl
  · rw [if_neg h, if_neg h, accAt_next m c t h, In.dq_indep _ _ _ (zeros _), before_5 m c t h, before_6 m c t h]; rfl

/-- What the body is called with at a point, -/
def bodyPre (c : Dev nD) (t : Fin (cfg0 (F := F)).N) : sProp 𝕄 :=
  iprop((dats m 0 c).Φ t.castSucc ∗ (dats m 0 c).owesAt () t.castSucc
    ∗ (∃ d, owns (c : Thread nD τ) (bufsAt (F := F) t).a2 fullShare ((dats m 0 c).before 0 t d))
    ∗ (∃ d, owns (c : Thread nD τ) (bufsAt (F := F) t).a3 fullShare ((dats m 0 c).before 1 t d))
    ∗ (∃ d, owns (c : Thread nD τ) (bufsAt (F := F) t).a4 fullShare ((dats m 0 c).before 2 t d))
    ∗ (∃ d, owns (c : Thread nD τ) (bufsAt (F := F) t).a5 fullShare ((dats m 0 c).before 3 t d))
    ∗ (∃ d, owns (c : Thread nD τ) (bufsAt (F := F) t).a6 fullShare ((dats m 0 c).before 4 t d))
    ∗ (∃ d, owns (c : Thread nD τ) (bufsAt (F := F) t).a7 fullShare ((dats m 0 c).before 5 t d))
    ∗ (∃ d, owns (c : Thread nD τ) (bufsAt (F := F) t).a8 fullShare ((dats m 0 c).before 6 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (bufsAt (F := F) t).a2 fullShare ((dats m 0 c).after 0 t)
    ∗ owns (c : Thread nD τ) (bufsAt (F := F) t).a3 fullShare ((dats m 0 c).after 1 t)
    ∗ owns (c : Thread nD τ) (bufsAt (F := F) t).a4 fullShare ((dats m 0 c).after 2 t)
    ∗ owns (c : Thread nD τ) (bufsAt (F := F) t).a5 fullShare ((dats m 0 c).after 3 t)
    ∗ owns (c : Thread nD τ) (bufsAt (F := F) t).a6 fullShare ((dats m 0 c).after 4 t)
    ∗ owns (c : Thread nD τ) (bufsAt (F := F) t).a7 fullShare ((dats m 0 c).after 5 t)
    ∗ owns (c : Thread nD τ) (bufsAt (F := F) t).a8 fullShare ((dats m 0 c).after 6 t))

set_option maxHeartbeats 1600000 in
/-- The body at any point. -/
theorem sound_body (c : Dev nD) (t : Fin (cfg0 (F := F)).N) :
    bodyPre m c t ⊢ wp frame (wpE (defs₀ (F := F)) 𝒱₀ (c : Thread nD τ) none) Set.univ (bodyAt0 (F := F) t) (fun _ => bodyPost m c t) := by
  unfold bodyPre bodyPost
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (Tr.body (c := c) (B := bufsAt (F := F) t) ⟨iblk m c 0 t, iblk m c 1 t, iblk m c 2 t, iblk m c 3 t, (dats m 0 c).before 4 t d4, (dats m 0 c).before 5 t d5, (dats m 0 c).before 6 t d6⟩
    (grid0.coords t) _) $$ [H0 H1 H2 H3 H4 H5 H6]
  · unfold held
    iframe
  rw [bodyRun_at]
  unfold held
  iintro ⟨H0, H1, H2, H3, H4, H5, H6⟩
  iframe

/-- The body table's row is the body. -/
theorem defs₀_row (t : Fin (cfg0 (F := F)).N) :
    defs₀ (F := F) .tc (cfg0 (F := F)).body ((cfg0 (F := F)).bodyArgs t ((cfg0 (F := F)).slots t)) = bodyAt0 (F := F) t := by
  unfold defs₀; rw [Defs.onTc_tc]

/-- The library's obligation, at every point. -/
theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

set_option backward.isDefEq.respectTransparency.types false in
/-- The launch: every execution ends, the arrays at what the points left, every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ 𝒱₀ m ρ main
    (hbody := fun c => (body_obligation m c).loose) (hq := fun _ _ _ => rfl)
    (howed := fun _ _ => rfl) (V := V m) (hmain := hmain m) (hA := A_eq m) (hΦ := fun _ _ => rfl)

/-- The run, without the counters. -/
theorem run_main : θ_run defs (onTc (τ := τ) (main (F := F))) (s₀ m ρ) (Pipeline.FramePost cfgs (dats m) 0 (V m)) :=
  (θ_run defs _ _).mono (fun _ h => h.1) (run_main_quiescent m ρ)

/-- What the final arrays say of the arguments. -/
theorem args_of (c : Dev nD) (r : PUnit × MemSt nD τ sig (Elt F)) (h : Pipeline.FramePost cfgs (dats m) 0 (V m) r) : r.2.mem (c.tc.loc main_arg0) = m (c.tc.loc main_arg0)
      ∧ r.2.mem (c.tc.loc main_arg1) = m (c.tc.loc main_arg1) ∧ r.2.mem (c.tc.loc main_arg2) = m (c.tc.loc main_arg2)
      ∧ r.2.mem (c.tc.loc main_arg3) = m (c.tc.loc main_arg3) :=
  ⟨((h c).2 main_arg0 (Pipeline.mem_restRefs_of main_arg0 (by decide) (by decide : ∀ w : Fin 7, (spec0 w).arr.view.ref ≠ main_arg0))).trans (V_main_arg0 m c),
    ((h c).2 main_arg1 (Pipeline.mem_restRefs_of main_arg1 (by decide) (by decide : ∀ w : Fin 7, (spec0 w).arr.view.ref ≠ main_arg1))).trans (V_main_arg1 m c),
    ((h c).2 main_arg2 (Pipeline.mem_restRefs_of main_arg2 (by decide) (by decide : ∀ w : Fin 7, (spec0 w).arr.view.ref ≠ main_arg2))).trans (V_main_arg2 m c),
    ((h c).1 3).trans (((dats m 0 c).arrAt_in 3 rfl _).trans ((A_eq m c 3).trans (V_main_arg3 m c)))⟩

/-- The kernel ends, its arguments unchanged and every semaphore at zero. -/
theorem frame' : θ_run defs (onTc (τ := τ) (main (F := F))) ⟨m, fun _ => 0, ρ⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3))
      ∧ r.2.sem = fun _ => 0) :=
  (θ_run defs _ _).mono (fun r h => ⟨fun c => args_of m c r h.1, h.2⟩) (run_main_quiescent m ρ)

end Cert.Kernel2Ideal.Attn

open Idealize.ShloMosaic Idealize.ShloMosaic.TcCoe Idealize.SL.Sem
open Idealize.ShloMosaic.Pipeline (Dat)
namespace Cert.Kernel2Ideal.Attn

open Cert.Kernel2Ideal Cert.Kernel2Ideal.Gen
open Finset (range Ico)

variable (m : (ℓ : Loc nD τ sig) → Buf (Elt Ideal) ℓ)

/-- The windows' block indices at every grid point. -/
theorem idx (t : Fin (cfg0 (F := Ideal)).N) : win0_0.index t = ![t.val % 32, t.val / 32] ∧ win0_1.index t = ![0, 4 + t.val / 32] ∧ win0_2.index t = ![0, 8 + t.val / 32]
    ∧ win0_3.index t = ![t.val % 32, t.val / 32] ∧ win0_4.index t = ![t.val % 32, t.val / 32] ∧ win0_5.index t = ![0, t.val / 32]
    ∧ win0_6.index t = ![0, t.val / 32] :=
  (by decide +kernel : ∀ t : Fin grid0.N, win0_0.index t = ![t.val % 32, t.val / 32] ∧ win0_1.index t = ![0, 4 + t.val / 32] ∧ win0_2.index t = ![0, 8 + t.val / 32]
    ∧ win0_3.index t = ![t.val % 32, t.val / 32] ∧ win0_4.index t = ![t.val % 32, t.val / 32] ∧ win0_5.index t = ![0, t.val / 32]
    ∧ win0_6.index t = ![0, t.val / 32]) t

/-- The joined array, entry by entry. -/
theorem joined (c : Dev nD) (j : Fin 16384) (K : Fin 1536) :
    (show FVec Ideal S16384x1536 .bf16 from V m c main_v1) (ix2 j K) = if h : K.val < 512 then m (c.tc.loc main_arg0) (ix2 j ⟨K.val, h⟩)
      else if h : K.val - 512 < 512 then m (c.tc.loc main_arg1) (ix2 j ⟨K.val - 512, h⟩) else m (c.tc.loc main_arg2) (ix2 j ⟨K.val - 512 - 512, by omega⟩) := by
  have e : (show FVec Ideal S16384x1536 .bf16 from V m c main_v1) = (truncf .bf16 (concatenate S16384x1536 1 [⟨S16384x512, m (c.tc.loc main_arg0)⟩, ⟨S16384x512, m (c.tc.loc main_arg1)⟩, ⟨S16384x512, m (c.tc.loc main_arg2)⟩] concatenates_S16384x512_S16384x512_S16384x512_S16384x1536_d1 : FVec Ideal S16384x1536 .f32) bitsLt_bf16_f32 : FVec Ideal S16384x1536 .bf16) := rfl
  rw [e]
  pointwise

/-- The queries' block. -/
theorem q_blk (c : Dev nD) (t : Fin cfg0.N) (r : Fin 512) (l : Fin 128) (j : Fin 16384) (hj : j.val = 512 * (t.val % 32) + r.val) (k : Fin 512) (hk : k.val = 128 * (t.val / 32) + l.val) :
    (show FVec Ideal S512x128 .bf16 from iblk m c 0 t) (ix2 r l) = m (c.tc.loc main_arg0) (ix2 j k) := by
  refine Eq.trans ?_ ((joined m c j ⟨k.val, by omega⟩).trans (dif_pos k.isLt))
  blk_point [iblk, idx t]

/-- The keys' block. -/
theorem k_blk (c : Dev nD) (t : Fin cfg0.N) (r : Fin 16384) (l : Fin 128) (k : Fin 512) (hk : k.val = 128 * (t.val / 32) + l.val) :
    (show FVec Ideal S16384x128 .bf16 from iblk m c 1 t) (ix2 r l) = m (c.tc.loc main_arg1) (ix2 r k) := by
  have e : (show FVec Ideal S16384x1536 .bf16 from V m c main_v1) (ix2 r ⟨512 + k.val, by omega⟩) = m (c.tc.loc main_arg1) (ix2 r k) := by
    rw [joined, dif_neg (by simp), dif_pos (by simp)]
    congr 2
    exact Fin.ext (by simp)
  rw [← e]
  blk_point [iblk, idx t]

/-- The values' block. -/
theorem v_blk (c : Dev nD) (t : Fin cfg0.N) (r : Fin 16384) (l : Fin 128) (k : Fin 512) (hk : k.val = 128 * (t.val / 32) + l.val) :
    (show FVec Ideal S16384x128 .bf16 from iblk m c 2 t) (ix2 r l) = m (c.tc.loc main_arg2) (ix2 r k) := by
  have e : (show FVec Ideal S16384x1536 .bf16 from V m c main_v1) (ix2 r ⟨1024 + k.val, by omega⟩) = m (c.tc.loc main_arg2) (ix2 r k) := by
    rw [joined, dif_neg (by dsimp only; omega), dif_neg (by dsimp only; omega)]
    congr 2
    exact Fin.ext (by dsimp only; omega)
  rw [← e]
  blk_point [iblk, idx t]

/-- The cotangent's block. -/
theorem d_blk (c : Dev nD) (t : Fin cfg0.N) (r : Fin 512) (l : Fin 128) (j : Fin 16384) (hj : j.val = 512 * (t.val % 32) + r.val) (k : Fin 512) (hk : k.val = 128 * (t.val / 32) + l.val) :
    (show FVec Ideal S512x128 .f32 from iblk m c 3 t) (ix2 r l) = m (c.tc.loc main_arg3) (ix2 j k) := by
  blk_point [iblk, V, idx t]

/-- The columns of one pair of heads. -/
def pair (p : ℕ) (f : ℕ → ℕ → ℝ) (i l : ℕ) : ℝ := f i (128 * p + l)

/-- The gradient of the queries: row `i`, column `k`. -/
def DQ (fq fk fd fv : ℕ → ℕ → ℝ) (i k : ℕ) : ℝ :=
  ∑ j ∈ range i, toQ (pair (k / 128) fq) (pair (k / 128) fk) (pair (k / 128) fd) (pair (k / 128) fv) i j (k % 128)
/-- The gradient of the keys: row `j`, column `k`. -/
def DK (fq fk fd fv : ℕ → ℕ → ℝ) (j k : ℕ) : ℝ :=
  ∑ i ∈ range 16384, if j < i then toK (pair (k / 128) fq) (pair (k / 128) fk) (pair (k / 128) fd) (pair (k / 128) fv) i j (k % 128) else 0
/-- The gradient of the values: row `j`, column `k`. -/
def DV (fq fk fd : ℕ → ℕ → ℝ) (j k : ℕ) : ℝ :=
  ∑ i ∈ range 16384, if j < i then toV (pair (k / 128) fq) (pair (k / 128) fk) (pair (k / 128) fd) i j (k % 128) else 0

/-- The blocks of rows before block `n` together are the rows before `128 n`. -/
theorem sum_part (g : ℕ → ℝ) (j n : ℕ) : ∑ b ∈ range n, part g j (128 * b) = ∑ i ∈ range (128 * n), if j < i then g i else 0 := by
  induction n with
  | zero => simp
  | succ n ih => rw [Finset.sum_range_succ, ih, Nat.mul_succ, Finset.sum_range_add]; rfl

/-- One grid point's four blocks, after those of the points before it. -/
theorem sum_step (g : ℕ → ℝ) (j a : ℕ) (i : grid0.Coords) (hi : (row i).val = a) :
    (∑ r ∈ range (512 * a), if j < r then g r else 0) + ∑ s : Fin 4, part g j (base i s) = ∑ r ∈ range (512 * (a + 1)), if j < r then g r else 0 := by
  have e : ∀ n, 512 * n = 128 * (4 * n) := fun n => by ring
  rw [e, e, ← sum_part, ← sum_part, Nat.mul_succ, Finset.sum_range_add]
  congr 1
  rw [Finset.sum_range]
  refine Finset.sum_congr rfl fun s _ => ?_
  unfold base
  rw [hi]

/-- The four arguments hold real numbers. -/
structure Real (fq fk fv fd : ℕ → ℕ → ℝ) (c : Dev nD) : Prop where
  q : Is (show FVec Ideal S16384x512 .f32 from m (c.tc.loc main_arg0)) fq
  k : Is (show FVec Ideal S16384x512 .f32 from m (c.tc.loc main_arg1)) fk
  v : Is (show FVec Ideal S16384x512 .f32 from m (c.tc.loc main_arg2)) fv
  d : Is (show FVec Ideal S16384x512 .f32 from m (c.tc.loc main_arg3)) fd

section Final
variable {m} {fq fk fv fd : ℕ → ℕ → ℝ} {c : Dev nD}

theorem t_lt (t : Fin (cfg0 (F := Ideal)).N) : t.val < 128 := t.isLt.trans_eq N_0

/-- The blocks a point reads, over the reals. -/
theorem Real.inAt (h : Real m fq fk fv fd c) (t : Fin (cfg0 (F := Ideal)).N) :
    InAt (pair (t.val / 32) fq) (pair (t.val / 32) fk) (pair (t.val / 32) fd) (pair (t.val / 32) fv) (row (grid0.coords t)).val (inAt m c t) := by
  have ht := t_lt t
  rw [row_coords]
  exact ⟨fun r l => (q_blk m c t r l ⟨512 * (t.val % 32) + r.val, by omega⟩ rfl ⟨128 * (t.val / 32) + l.val, by omega⟩ rfl).trans (h.q _ _),
    fun r l => (k_blk m c t r l ⟨128 * (t.val / 32) + l.val, by omega⟩ rfl).trans (h.k _ _),
    fun r l => (v_blk m c t r l ⟨128 * (t.val / 32) + l.val, by omega⟩ rfl).trans (h.v _ _),
    fun r l => (d_blk m c t r l ⟨512 * (t.val % 32) + r.val, by omega⟩ rfl ⟨128 * (t.val / 32) + l.val, by omega⟩ rfl).trans (h.d _ _)⟩

/-- The gradients of keys and values after a point. -/
theorem Real.acc (h : Real m fq fk fv fd c) : ∀ n (hn : n < (cfg0 (F := Ideal)).N),
    Is (accAt m c n hn).1 (fun j l => ∑ i ∈ range (512 * (n % 32 + 1)), if j < i then
      toK (pair (n / 32) fq) (pair (n / 32) fk) (pair (n / 32) fd) (pair (n / 32) fv) i j l else 0)
    ∧ Is (accAt m c n hn).2 (fun j l => ∑ i ∈ range (512 * (n % 32 + 1)), if j < i then
      toV (pair (n / 32) fq) (pair (n / 32) fk) (pair (n / 32) fd) i j l else 0) := by
  intro n
  induction n using Nat.strong_induction_on with
  | _ n ih =>
    intro hn
    have hr := row_coords ⟨n, hn⟩
    by_cases h0 : n % 32 = 0
    · rw [accAt_first m c ⟨n, hn⟩ h0]
      refine ⟨((h.inAt ⟨n, hn⟩).dk is_zeros).congr fun j _ l _ => ?_, ((h.inAt ⟨n, hn⟩).dv is_zeros).congr fun j _ l _ => ?_⟩
      all_goals
        rw [← sum_step _ _ _ _ hr]
        congr 1
        dsimp only
        rw [h0]; simp
    · have e : (n - 1) / 32 = n / 32 := by omega
      have e' : (n - 1) % 32 + 1 = n % 32 := by omega
      have ih' := ih (n - 1) (by omega) (by omega)
      rw [e, e'] at ih'
      rw [accAt_next m c ⟨n, hn⟩ h0]
      refine ⟨((h.inAt ⟨n, hn⟩).dk ih'.1).congr fun j _ l _ => ?_, ((h.inAt ⟨n, hn⟩).dv ih'.2).congr fun j _ l _ => ?_⟩
      all_goals exact sum_step _ _ _ _ hr

/-- The queries' gradient after the run. -/
theorem Real.final4 (h : Real m fq fk fv fd c) : Is (show FVec Ideal S16384x512 .f32 from (dats m 0 c).arrAt 4 (cfgs (F := Ideal) 0).N) (DQ fq fk fd fv) := by
  refine fun a b => (dats m 0 c).arrAt_forall_of_covers 4 (fun i v => v = ((DQ fq fk fd fv (i 0).val (i 1).val : ℝ) : EReal)) (by decide +kernel) (fun t hf y => ?_) (ix2 a b)
  blk_simp
  rw [after_4]
  have hr := row_coords t
  idx_vars y
  refine ((h.inAt t).dq y0 y1).trans ?_
  obtain ⟨_, _, _, _, e, _⟩ := idx t
  have e0 : win0_4.index t 0 = t.val % 32 := by rw [e]; rfl
  have e1 : win0_4.index t 1 = t.val / 32 := by rw [e]; rfl
  rw [e0, e1]
  unfold DQ
  rw [show (t.val / 32 * 128 + y1.val) / 128 = t.val / 32 by omega, show (t.val / 32 * 128 + y1.val) % 128 = y1.val by omega, Nat.mul_comm (t.val % 32) 512, ← hr]

/-- The points that write the gradients of keys and values back are the last of each pair of heads. -/
theorem flush_last (t : Fin (cfg0 (F := Ideal)).N) : ((cfg0 (F := Ideal)).win 5).flush t = true → t.val % 32 = 31 :=
  (by decide +kernel : ∀ t : Fin grid0.N, (win0 5).flush t = true → t.val % 32 = 31) t
theorem flush_last' (t : Fin (cfg0 (F := Ideal)).N) : ((cfg0 (F := Ideal)).win 6).flush t = true → t.val % 32 = 31 :=
  (by decide +kernel : ∀ t : Fin grid0.N, (win0 6).flush t = true → t.val % 32 = 31) t

/-- The keys' gradient after the run. -/
theorem Real.final5 (h : Real m fq fk fv fd c) : Is (show FVec Ideal S16384x512 .f32 from (dats m 0 c).arrAt 5 (cfgs (F := Ideal) 0).N) (DK fq fk fd fv) := by
  refine fun a b => (dats m 0 c).arrAt_forall_of_covers 5 (fun i v => v = ((DK fq fk fd fv (i 0).val (i 1).val : ℝ) : EReal)) (by decide +kernel) (fun t hf y => ?_) (ix2 a b)
  blk_simp
  rw [after_5]
  have hr := flush_last t hf
  idx_vars y
  refine ((h.acc t.val t.isLt).1 y0 y1).trans ?_
  obtain ⟨_, _, _, _, _, e, _⟩ := idx t
  have e0 : win0_5.index t 0 = 0 := by rw [e]; rfl
  have e1 : win0_5.index t 1 = t.val / 32 := by rw [e]; rfl
  rw [e0, e1]
  unfold DK
  rw [show (t.val / 32 * 128 + y1.val) / 128 = t.val / 32 by omega, show (t.val / 32 * 128 + y1.val) % 128 = y1.val by omega, Nat.zero_mul, Nat.zero_add]
  dsimp only
  rw [hr]

/-- The values' gradient after the run. -/
theorem Real.final6 (h : Real m fq fk fv fd c) : Is (show FVec Ideal S16384x512 .f32 from (dats m 0 c).arrAt 6 (cfgs (F := Ideal) 0).N) (DV fq fk fd) := by
  refine fun a b => (dats m 0 c).arrAt_forall_of_covers 6 (fun i v => v = ((DV fq fk fd (i 0).val (i 1).val : ℝ) : EReal)) (by decide +kernel) (fun t hf y => ?_) (ix2 a b)
  blk_simp
  rw [after_6]
  have hr := flush_last' t hf
  idx_vars y
  refine ((h.acc t.val t.isLt).2 y0 y1).trans ?_
  obtain ⟨_, _, _, _, _, _, e⟩ := idx t
  have e0 : win0_6.index t 0 = 0 := by rw [e]; rfl
  have e1 : win0_6.index t 1 = t.val / 32 := by rw [e]; rfl
  rw [e0, e1]
  unfold DV
  rw [show (t.val / 32 * 128 + y1.val) / 128 = t.val / 32 by omega, show (t.val / 32 * 128 + y1.val) % 128 = y1.val by omega, Nat.zero_mul, Nat.zero_add]
  dsimp only
  rw [hr]

end Final

end Cert.Kernel2Ideal.Attn

end
-- ==== Proof.AttnRef.lean ====
/-
  The reference of the attention's backward pass, stage by stage: the scores of all rows and keys, their logarithms, the
  weights, the gradients of the scores and the three products, each read entry by entry over the reals.
-/
module

public import proofs.«01_k».proof.Proof.Gen.Reference2Ideal.Run
public import proofs.«01_k».proof.Proof.AttnGrid
public import Idealize.ShloMosaic.Lib.Pointwise

@[expose] public section

set_option maxRecDepth 16384

noncomputable section

namespace Cert.Reference2Ideal.Stage

open Cert.Reference2Ideal Cert.Reference2Ideal.Gen
open Idealize.ShloMosaic Idealize.ShloMosaic.TcCoe Idealize.SL.Sem
open Cert.Kernel2Ideal.Attn (sp sg Is left wt gr ds)
open Finset (range Ico)

/-! ## The stages -/

/-- An array of rows, its columns grouped by head. -/
abbrev Rows := FVec Ideal S16384x512 .f32
/-- One matrix of 64 columns per head. -/
abbrev Heads := FVec Ideal S8x16384x64 .f32
/-- One square matrix per head. -/
abbrev Square := FVec Ideal S8x16384x16384 .f32

def heads (x : Rows) : Heads := transpose S8x16384x64 [1, 0, 2] (shapeCast S16384x8x64 x shapeCasts_S16384x512_S16384x8x64) transposes_S16384x8x64_S8x16384x64_1_0_2
def unheads (x : Heads) : Rows := shapeCast S16384x512 (transpose S16384x8x64 [1, 0, 2] x transposes_S8x16384x64_S16384x8x64_1_0_2) shapeCasts_S16384x8x64_S16384x512
def zero3 : Square := broadcastInDim S8x16384x16384 ![] bcast_S_S8x16384x16384 (constant S_ .f32 0x00000000#32)
def inf3 : Square := broadcastInDim S8x16384x16384 ![] bcast_S_S8x16384x16384 (constant S_ .f32 0x7F800000#32)
def eighth3 : Square := broadcastInDim S8x16384x16384 ![] bcast_S_S8x16384x16384 (constant S_ .f32 0x3E000000#32)
def zero0 : FVec Ideal S_ .f32 := broadcastInDim S_ ![] bcast_S_S_ (constant S_ .f32 0x00000000#32)
/-- The product of two heads' rows. -/
def dotRows (x y : Heads) : Square := Host.dotGeneral dot_S8x16384x64_S8x16384x64_S8x16384x16384_2_2_1_1_0_0 none x y
def score (q k : Rows) : Square := mulf (dotRows (heads q) (heads k)) eighth3
/-- Key before row. -/
def before : IVec S16384x16384 1 :=
  cmpi .slt (broadcastInDim S16384x16384 ![0, 1] bcast_S1x16384_S16384x16384_0_1 (broadcastInDim S1x16384 ![1] bcast_S16384_S1x16384_1 (iotaInDim S16384 32 0)))
    (broadcastInDim S16384x16384 ![0, 1] bcast_S16384x1_S16384x16384_0_1 (broadcastInDim S16384x1 ![0] bcast_S16384_S16384x1_0 (iotaInDim S16384 32 0)))
def masked (x : Square) : Square := select (broadcastInDim S8x16384x16384 ![1, 2] bcast_S16384x16384_S8x16384x16384_1_2 before) x zero3
def soft (z : Square) : Square :=
  select (cmpf .une (subf z zero3) (subf z zero3)) (addf z zero3) (addf (maximumf z zero3) (Host.log1p (Host.exp (Host.negf (Host.absf (subf z zero3))))))
def sigm (z : Square) : Square :=
  Host.exp (subf (select (cmpf .oeq z inf3) zero3 z) (select (cmpf .oeq (soft z) inf3) zero3 (soft z)))
/-- Sum over a key and the keys after it. -/
def sumFrom (x : Square) : Square :=
  Host.reduceWindowAdd ![1, 1, 16384] ![1, 1, 1] ![0, 0, 0] ![0, 0, 16383] x zero0 reduceWindows_S8x16384x16384_S8x16384x16384_w1s1p0_0_w1s1p0_0_w16384s1p0_16383 h_S_
/-- Sum over a key and the keys before it. -/
def sumUpTo (x : Square) : Square :=
  Host.reduceWindowAdd ![1, 1, 16384] ![1, 1, 1] ![0, 0, 16383] ![0, 0, 0] x zero0 reduceWindows_S8x16384x16384_S8x16384x16384_w1s1p0_0_w1s1p0_0_w16384s1p16383_0 h_S_
def logs (z : Square) : Square := masked (Host.negf (soft (Host.negf (Host.negf z))))
def weights (z : Square) : Square := Host.exp (addf (Host.negf (soft (Host.negf z))) (subf (sumFrom (logs z)) (logs z)))
def grads (z d : Square) : Square := mulf (masked d) (weights z)
def dscores (z d : Square) : Square :=
  mulf (addf (Host.negf (mulf (Host.negf (grads z d)) (sigm (Host.negf z))))
    (Host.negf (Host.negf (mulf (Host.negf (masked (addf (Host.negf (grads z d)) (sumUpTo (grads z d))))) (sigm (Host.negf (Host.negf z))))))) eighth3
def refQ (q k v d : Rows) : Rows :=
  unheads (Host.dotGeneral dot_S8x16384x16384_S8x16384x64_S8x16384x64_2_1_1_2_0_0 none (dscores (score q k) (dotRows (heads d) (heads v))) (heads k))
def refK (q k v d : Rows) : Rows :=
  unheads (Host.dotGeneral dot_S8x16384x16384_S8x16384x64_S8x16384x64_1_1_2_2_0_0 none (dscores (score q k) (dotRows (heads d) (heads v))) (heads q))
def refV (q k d : Rows) : Rows :=
  unheads (transpose S8x16384x64 [0, 2, 1] (Host.dotGeneral dot_S8x16384x64_S8x16384x16384_S8x64x16384_1_1_2_2_0_0 none (heads d) (masked (weights (score q k))))
    transposes_S8x64x16384_S8x16384x64_0_2_1)

section Run
open Cert.Reference2Ideal.Value
variable (m : (ℓ : Loc nD τ sig) → Buf (Elt Ideal) ℓ) (ρ : Dev nD → PrngReg)

/-- The reference's run, its results named by the stages above. -/
theorem run_stages : θ_run defs (onTc (τ := τ) (main (F := Ideal))) ⟨m, fun _ => 0, ρ⟩ fun r => ∀ c : Dev nD,
      r.2.mem (c.tc.loc main_v51) = refQ (m (c.tc.loc main_arg0)) (m (c.tc.loc main_arg1))
          (m (c.tc.loc main_arg2)) (m (c.tc.loc main_arg3))
      ∧ r.2.mem (c.tc.loc main_v49) = refK (m (c.tc.loc main_arg0)) (m (c.tc.loc main_arg1))
          (m (c.tc.loc main_arg2)) (m (c.tc.loc main_arg3))
      ∧ r.2.mem (c.tc.loc main_v33) = refV (m (c.tc.loc main_arg0)) (m (c.tc.loc main_arg1))
          (m (c.tc.loc main_arg3))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) :=
  (θ_run defs _ _).mono (fun r h c => ⟨(h c).1.trans rfl, (h c).2.1.trans rfl, (h c).2.2.1.trans rfl, (h c).2.2.2⟩) (run m ρ)

end Run

open Cert.Kernel2Ideal.Attn (sp sg Is left wt gr ds coe_abs coe_max0 log_one_add coe_sum_mul coe_sum_fin sp_eq one_add_exp_pos)

/-- The entries are the real numbers `f head row column`. -/
def Is3 {n m k : ℕ} (x : (⟨3, ![n, m, k]⟩ : Shape).Idx → EReal) (f : ℕ → ℕ → ℕ → ℝ) : Prop :=
  ∀ (h : Fin n) (a : Fin m) (b : Fin k), x (ix3 h a b) = ((f h.val a.val b.val : ℝ) : EReal)

theorem Is3.congr {n m k : ℕ} {x : (⟨3, ![n, m, k]⟩ : Shape).Idx → EReal} {f g : ℕ → ℕ → ℕ → ℝ} (h : Is3 x f)
    (e : ∀ c < n, ∀ a < m, ∀ b < k, f c a b = g c a b) : Is3 x g :=
  fun c a b => (h c a b).trans (by rw [e c.val c.isLt a.val a.isLt b.val b.isLt])

section Plain
variable {x y : Square} {f g : ℕ → ℕ → ℕ → ℝ}

theorem Is3.add (hx : Is3 x f) (hy : Is3 y g) : Is3 (addf x y) (fun h a b => f h a b + g h a b) := by
  intro h a b; pointwise [hx h a b, hy h a b]; exact (EReal.coe_add _ _).symm
theorem Is3.sub (hx : Is3 x f) (hy : Is3 y g) : Is3 (subf x y) (fun h a b => f h a b - g h a b) := by
  intro h a b; pointwise [hx h a b, hy h a b]; exact (EReal.coe_sub _ _).symm
theorem Is3.mul (hx : Is3 x f) (hy : Is3 y g) : Is3 (mulf x y) (fun h a b => f h a b * g h a b) := by
  intro h a b; pointwise [hx h a b, hy h a b]; exact (EReal.coe_mul _ _).symm
theorem Is3.neg (hx : Is3 x f) : Is3 (Host.negf x) (fun h a b => -f h a b) := by
  intro h a b; pointwise [hx h a b]; exact (EReal.coe_neg _).symm
theorem Is3.exp (hx : Is3 x f) : Is3 (Host.exp x) (fun h a b => Real.exp (f h a b)) := by
  intro h a b; pointwise [hx h a b]; exact Ideal.exp_coe _

theorem is_zero3 : Is3 zero3 (fun _ _ _ => 0) := by
  intro h a b; pointwise [zero3]; rfl
theorem is_eighth3 : Is3 eighth3 (fun _ _ _ => 1 / 8) := by
  intro h a b; pointwise [eighth3]
  simp [Ideal.ofBits, Ideal.ieee]
  rw [← EReal.coe_mul]
  norm_num
theorem inf3_apply (h : Fin 8) (a b : Fin 16384) : inf3 (ix3 h a b) = (⊤ : EReal) := by
  pointwise [inf3]
  try simp [Ideal.ofBits, Ideal.ieee]

theorem sg_eq (z : ℝ) : Real.exp (z - sp z) = sg z := by
  unfold sp sg
  rw [Real.exp_sub, Real.exp_log (one_add_exp_pos z), Real.exp_neg]
  have := Real.exp_pos z
  field_simp
  ring

theorem sp_neg (z : ℝ) : sp (-z) = sp z - z := by
  unfold sp
  rw [eq_sub_iff_add_eq, ← Real.log_exp z, ← Real.log_mul (one_add_exp_pos _).ne' (Real.exp_pos _).ne', Real.log_exp, add_mul, one_mul, ← Real.exp_add]
  congr 1
  rw [neg_add_cancel, Real.exp_zero, add_comm]

theorem is_soft (hx : Is3 x f) : Is3 (soft x) (fun h a b => sp (f h a b)) := by
  intro h a b
  pointwise [soft, is_zero3 h a b, hx h a b]
  rw [if_neg (not_not.mpr rfl), ← EReal.coe_sub, sub_zero, Ideal.absf_def, coe_abs, ← EReal.coe_neg, Ideal.exp_coe, EReal.coe_zero, coe_max0]
  unfold Ideal.log1p
  rw [log_one_add, ← EReal.coe_add, sp_eq]

theorem is_sigm (hx : Is3 x f) : Is3 (sigm x) (fun h a b => sg (f h a b)) := by
  intro h a b
  pointwise [sigm, is_zero3 h a b, hx h a b, is_soft hx h a b, inf3_apply h a b]
  rw [if_neg (EReal.coe_ne_top _), if_neg (EReal.coe_ne_top _), ← EReal.coe_sub, Ideal.exp_coe, sg_eq]

theorem before_apply (a b : Fin 16384) : before (ix2 a b) = if b.val < a.val then 1#1 else 0#1 := by
  pointwise [before]
  have e : ∀ n : Fin 16384, (BitVec.ofNat 32 n.val).toInt = (n.val : ℤ) := fun n => by
    rw [BitVec.toInt_eq_toNat_of_lt] <;> rw [BitVec.toNat_ofNat, Nat.mod_eq_of_lt (by omega)]; omega
  show BitVec.ofBool (decide ((BitVec.ofNat 32 b.val).toInt < (BitVec.ofNat 32 a.val).toInt)) = _
  rw [e, e]
  by_cases h : b.val < a.val
  · rw [if_pos h, decide_eq_true (by exact_mod_cast h)]; rfl
  · rw [if_neg h, decide_eq_false (by exact_mod_cast h)]; rfl

theorem is_masked (hx : Is3 x f) : Is3 (masked x) (fun h a b => if b < a then f h a b else 0) := by
  intro h a b
  pointwise [masked, is_zero3 h a b, hx h a b, before_apply]
  by_cases h : b.val < a.val
  · rw [if_pos h, if_pos h]; rfl
  · rw [if_neg h, if_neg h]; rfl

end Plain

/-! ## Running sums -/

/-- A fold that adds is the start and a sum. -/
theorem foldl_add {α : Type*} (g : α → EReal) (l : List α) (v : EReal) : l.foldl (fun r n => r + g n) v = v + (l.map g).sum := by
  induction l generalizing v with
  | nil => simp
  | cons a l ih => rw [List.foldl_cons, ih, List.map_cons, List.sum_cons, add_assoc]

/-- A window of one row and every key. -/
theorem window_sum {A R K : ℕ} (lo hi : Fin 3 → ℕ) (x : FVec Ideal ⟨3, ![A, R, K]⟩ .f32) (v : FVec Ideal ⟨0, ![]⟩ .f32) (hv : ∀ q, v q = (0 : EReal))
    (h : (⟨3, ![A, R, K]⟩ : Shape).ReduceWindows (![1, 1, K] : Fin 3 → ℕ) ![1, 1, 1] lo hi ⟨3, ![A, R, K]⟩) (hu) (c : Fin A) (i : Fin R) (j : Fin K)
    (hlo0 : lo 0 = 0) (hlo1 : lo 1 = 0) (g : Fin K → EReal)
    (hg : ∀ w : Fin K, ∀ q : lo 2 ≤ j.val + w.val ∧ j.val + w.val - lo 2 < K, g w = x (ix3 c i ⟨j.val + w.val - lo 2, q.2⟩))
    (hn : ∀ w : Fin K, ¬(lo 2 ≤ j.val + w.val ∧ j.val + w.val - lo 2 < K) → g w = 0) :
    (Host.reduceWindowAdd (![1, 1, K] : Fin 3 → ℕ) ![1, 1, 1] lo hi x v h hu : FVec Ideal ⟨3, ![A, R, K]⟩ .f32) (ix3 c i j) = ∑ w, g w := by
  change Host.reduceWindow (· + ·) (![1, 1, K] : Fin 3 → ℕ) ![1, 1, 1] lo hi x (fun _ : (⟨0, ![]⟩ : Shape).Idx => v (Shape.Idx.first hu)) h hu (ix3 c i j) = _
  rw [hv]
  unfold Host.reduceWindow
  dsimp only
  rw [foldl_add, zero_add, ← Fin.sum_univ_def]
  refine (Finset.sum_congr rfl fun n _ => ?_).trans ((Equiv.sum_comp (Shape.rowMajor ⟨3, ![1, 1, K]⟩).symm (fun q : (⟨3, ![1, 1, K]⟩ : Shape).Idx => g (q 2))).trans ?_)
  · have q0 : ((Shape.rowMajor ⟨3, ![1, 1, K]⟩).symm n 0).val = 0 := Nat.lt_one_iff.mp ((Shape.rowMajor ⟨3, ![1, 1, K]⟩).symm n 0).isLt
    have q1 : ((Shape.rowMajor ⟨3, ![1, 1, K]⟩).symm n 1).val = 0 := Nat.lt_one_iff.mp ((Shape.rowMajor ⟨3, ![1, 1, K]⟩).symm n 1).isLt
    have hc := c.isLt
    have hi := i.isLt
    by_cases hq : lo 2 ≤ j.val + ((Shape.rowMajor ⟨3, ![1, 1, K]⟩).symm n 2).val ∧ j.val + ((Shape.rowMajor ⟨3, ![1, 1, K]⟩).symm n 2).val - lo 2 < K
    · refine Eq.trans (dif_pos fun a => ?_) (Eq.trans (congrArg x (funext fun a => Fin.ext ?_)) (hg ((Shape.rowMajor ⟨3, ![1, 1, K]⟩).symm n 2) hq).symm)
      · match a with
        | ⟨0, _⟩ => show lo 0 ≤ c.val * 1 + ((Shape.rowMajor ⟨3, ![1, 1, K]⟩).symm n 0).val ∧ c.val * 1 + ((Shape.rowMajor ⟨3, ![1, 1, K]⟩).symm n 0).val - lo 0 < A; omega
        | ⟨1, _⟩ => show lo 1 ≤ i.val * 1 + ((Shape.rowMajor ⟨3, ![1, 1, K]⟩).symm n 1).val ∧ i.val * 1 + ((Shape.rowMajor ⟨3, ![1, 1, K]⟩).symm n 1).val - lo 1 < R; omega
        | ⟨2, _⟩ => show lo 2 ≤ j.val * 1 + ((Shape.rowMajor ⟨3, ![1, 1, K]⟩).symm n 2).val ∧ j.val * 1 + ((Shape.rowMajor ⟨3, ![1, 1, K]⟩).symm n 2).val - lo 2 < K; omega
      · match a with
        | ⟨0, _⟩ => show c.val * 1 + ((Shape.rowMajor ⟨3, ![1, 1, K]⟩).symm n 0).val - lo 0 = c.val; omega
        | ⟨1, _⟩ => show i.val * 1 + ((Shape.rowMajor ⟨3, ![1, 1, K]⟩).symm n 1).val - lo 1 = i.val; omega
        | ⟨2, _⟩ => show j.val * 1 + ((Shape.rowMajor ⟨3, ![1, 1, K]⟩).symm n 2).val - lo 2 = j.val + ((Shape.rowMajor ⟨3, ![1, 1, K]⟩).symm n 2).val - lo 2; omega
    · refine Eq.trans (dif_neg fun hin => hq ?_) (hn ((Shape.rowMajor ⟨3, ![1, 1, K]⟩).symm n 2) hq).symm
      have := hin 2
      change lo 2 ≤ j.val * 1 + ((Shape.rowMajor ⟨3, ![1, 1, K]⟩).symm n 2).val ∧ j.val * 1 + ((Shape.rowMajor ⟨3, ![1, 1, K]⟩).symm n 2).val - lo 2 < K at this
      omega
  · rw [sum_idx3, Fin.sum_univ_one, Fin.sum_univ_one]
    exact Finset.sum_congr rfl fun w _ => rfl

theorem zero0_apply (q) : zero0 q = (0 : EReal) := by
  rw [show q = ix0 from funext fun a => a.elim0]
  pointwise [zero0]

/-- The sum over a key and those after it. -/
theorem is_sumFrom {x : Square} {f : ℕ → ℕ → ℕ → ℝ} (hx : Is3 x f) : Is3 (sumFrom x) (fun h i j => ∑ j' ∈ Ico j 16384, f h i j') := by
  intro h i j
  refine (window_sum _ _ x zero0 zero0_apply _ _ h i j rfl rfl (fun w => (((if j.val + w.val < 16384 then f h i (j.val + w.val) else 0 : ℝ)) : EReal)) (fun w q => ?_) fun w q => ?_).trans ?_
  · refine Eq.trans ?_ (hx h i _).symm
    exact congrArg (fun r : ℝ => (r : EReal)) (if_pos q.2)
  · exact (congrArg (fun r : ℝ => (r : EReal)) (if_neg fun r => q ⟨Nat.zero_le _, r⟩)).trans EReal.coe_zero
  · refine (coe_sum_fin 16384 fun w => if j.val + w < 16384 then f h i (j.val + w) else 0).trans (congrArg (fun r : ℝ => (r : EReal)) ?_)
    dsimp only
    rw [← Finset.sum_filter, Finset.sum_Ico_eq_sum_range]
    refine Finset.sum_congr (Finset.ext fun n => ?_) fun _ _ => rfl
    simp only [Finset.mem_filter, Finset.mem_range]
    omega

/-- The sum over a key and those before it. -/
theorem is_sumUpTo {x : Square} {f : ℕ → ℕ → ℕ → ℝ} (hx : Is3 x f) : Is3 (sumUpTo x) (fun h i j => ∑ j' ∈ range (j + 1), f h i j') := by
  intro h i j
  refine (window_sum _ _ x zero0 zero0_apply _ _ h i j rfl rfl (fun w => (((if 16383 ≤ j.val + w.val then f h i (j.val + w.val - 16383) else 0 : ℝ)) : EReal)) (fun w q => ?_) fun w q => ?_).trans ?_
  · refine Eq.trans ?_ (hx h i _).symm
    exact congrArg (fun r : ℝ => (r : EReal)) (if_pos q.1)
  · have hj := j.isLt
    exact (congrArg (fun r : ℝ => (r : EReal)) (if_neg fun r => q ⟨r, show j.val + w.val - 16383 < 16384 by omega⟩)).trans EReal.coe_zero
  · refine (coe_sum_fin 16384 fun w => if 16383 ≤ j.val + w then f h i (j.val + w - 16383) else 0).trans (congrArg (fun r : ℝ => (r : EReal)) ?_)
    dsimp only
    rw [← Finset.sum_filter]
    have hj := j.isLt
    refine Finset.sum_bij' (fun w _ => j.val + w - 16383) (fun n _ => n + 16383 - j.val) ?_ ?_ ?_ ?_ ?_
    · intro n hn; simp only [Finset.mem_filter, Finset.mem_range] at hn ⊢; omega
    · intro n hn; simp only [Finset.mem_filter, Finset.mem_range] at hn ⊢; omega
    · intro n hn; simp only [Finset.mem_filter, Finset.mem_range] at hn; omega
    · intro n hn; simp only [Finset.mem_range] at hn; omega
    · intro n hn; rfl

/-! ## Heads and products -/

theorem is_heads {x : Rows} {f : ℕ → ℕ → ℝ} (hx : Is x f) : Is3 (heads x) (fun h i d => f i (64 * h + d)) := by
  intro h i d
  pointwise [heads]
  refine (hx i _).trans ?_
  dsimp only
  rw [Nat.mul_comm]

theorem is_unheads {x : Heads} {f : ℕ → ℕ → ℕ → ℝ} (hx : Is3 x f) : Is (unheads x) (fun i k => f (k / 64) i (k % 64)) := by
  intro i k
  pointwise [unheads]
  exact hx _ _ _

theorem is_dotRows {x y : Heads} {f g : ℕ → ℕ → ℕ → ℝ} (hx : Is3 x f) (hy : Is3 y g) : Is3 (dotRows x y) (fun h i j => ∑ d ∈ range 64, f h i d * g h j d) := by
  intro h i j
  pointwise [dotRows, fun d => hx h i d, fun d => hy h j d]
  exact coe_sum_mul 64 (fun d => f h i d) fun d => g h j d

theorem is_dotQ {x : Square} {y : Heads} {f g : ℕ → ℕ → ℕ → ℝ} (hx : Is3 x f) (hy : Is3 y g) :
    Is3 (Host.dotGeneral dot_S8x16384x16384_S8x16384x64_S8x16384x64_2_1_1_2_0_0 none x y : Heads) (fun h i d => ∑ j ∈ range 16384, f h i j * g h j d) := by
  intro h i d
  pointwise [fun j => hx h i j, fun j => hy h j d]
  exact coe_sum_mul 16384 (fun j => f h i j) fun j => g h j d

theorem is_dotK {x : Square} {y : Heads} {f g : ℕ → ℕ → ℕ → ℝ} (hx : Is3 x f) (hy : Is3 y g) :
    Is3 (Host.dotGeneral dot_S8x16384x16384_S8x16384x64_S8x16384x64_1_1_2_2_0_0 none x y : Heads) (fun h j d => ∑ i ∈ range 16384, f h i j * g h i d) := by
  intro h j d
  pointwise [fun i => hx h i j, fun i => hy h i d]
  exact coe_sum_mul 16384 (fun i => f h i j) fun i => g h i d

theorem is_dotV {x : Heads} {y : Square} {f g : ℕ → ℕ → ℕ → ℝ} (hx : Is3 x f) (hy : Is3 y g) :
    Is3 (transpose S8x16384x64 [0, 2, 1] (Host.dotGeneral dot_S8x16384x64_S8x16384x16384_S8x64x16384_1_1_2_2_0_0 none x y : FVec Ideal S8x64x16384 .f32)
      transposes_S8x64x16384_S8x16384x64_0_2_1 : Heads) (fun h j d => ∑ i ∈ range 16384, f h i d * g h i j) := by
  intro h j d
  pointwise [fun i => hx h i d, fun i => hy h i j]
  exact coe_sum_mul 16384 (fun i => f h i d) fun i => g h i j

/-! ## Weights and gradients of the scores -/

section Scores
variable {z d : Square} {Z D : ℕ → ℕ → ℕ → ℝ}

/-- The logarithms of what earlier keys leave. -/
theorem is_logs (hz : Is3 z Z) : Is3 (logs z) (fun h i j => if j < i then -sp (Z h i j) else 0) :=
  (is_masked (is_soft hz.neg.neg).neg).congr fun h _ i _ j _ => by simp only [neg_neg]

/-- The weights. -/
theorem is_weights (hz : Is3 z Z) : Is3 (weights z) (fun h i j => wt (Z h) i j) := by
  refine ((is_soft hz.neg).neg.add ((is_sumFrom (is_logs hz)).sub (is_logs hz))).exp.congr fun h _ i hi j hj => ?_
  unfold wt left
  congr 1
  have e1 : ∑ j' ∈ Ico j 16384, (if j' < i then -sp (Z h i j') else 0) - (if j < i then -sp (Z h i j) else 0) = ∑ j' ∈ Ico (j + 1) i, -sp (Z h i j') := by
    rw [Finset.sum_eq_sum_Ico_succ_bot hj, add_sub_cancel_left, ← Finset.sum_filter]
    refine Finset.sum_congr (Finset.ext fun n => ?_) fun _ _ => rfl
    simp only [Finset.mem_filter, Finset.mem_Ico]
    omega
  rw [e1]
  congr 1
  have e2 := sp_neg (Z h i j)
  linarith

/-- The weighted gradients. -/
theorem is_grads (hz : Is3 z Z) (hd : Is3 d D) : Is3 (grads z d) (fun h i j => if j < i then gr (Z h) (D h) i j else 0) := by
  refine ((is_masked hd).mul (is_weights hz)).congr fun h _ i _ j _ => ?_
  unfold gr
  by_cases hm : j < i
  · simp only [if_pos hm]; ring
  · simp only [if_neg hm]; ring

/-- The gradients of the scores. -/
theorem is_dscores (hz : Is3 z Z) (hd : Is3 d D) : Is3 (dscores z d) (fun h i j => if j < i then ds (Z h) (D h) i j else 0) := by
  have hg := is_grads hz hd
  refine (((hg.neg.mul (is_sigm hz.neg)).neg.add ((is_masked (hg.neg.add (is_sumUpTo hg))).neg.mul (is_sigm hz.neg.neg)).neg.neg).mul is_eighth3).congr fun h _ i _ j _ => ?_
  by_cases hm : j < i
  · simp only [if_pos hm]
    have e : ∑ j' ∈ range (j + 1), (if j' < i then gr (Z h) (D h) i j' else 0) = ∑ j' ∈ range j, gr (Z h) (D h) i j' + gr (Z h) (D h) i j := by
      rw [Finset.sum_range_succ, if_pos hm]
      congr 1
      exact Finset.sum_congr rfl fun j' hj' => if_pos ((Finset.mem_range.mp hj').trans hm)
    rw [e, neg_neg]
    unfold ds
    ring
  · simp only [if_neg hm]; ring

end Scores

end Cert.Reference2Ideal.Stage

end
-- ==== Proof.Pre.lean ====
/- What the preconditions say: every element of the arguments they name is a real number. -/
module

public import proofs.«01_k».proof.Defs
public import Idealize.ShloMosaic.Lib.ReduceAll
public import proofs.«01_k».proof.Proof.AttnRef

@[expose] public section

noncomputable section

open Idealize.ShloMosaic Idealize.ShloMosaic.TcCoe Idealize.SL.Sem
namespace Cert.Pre_finite_args

open Facts

/-- The predicate's side conditions. -/
theorem facts : Cert.Pre_finite_args.Facts where
  bcast_S_S16384x512 := by decide
  reducesTo_S16384x512_S_d0_1 := by decide
  h_S_ := by decide

instance : Cert.Pre_finite_args.Facts := facts

instance : Subsingleton S_.Idx := ⟨fun a b => funext fun i => i.elim0⟩

/-- A size below infinity is that of a real number. -/
theorem real_of_below (x : FVec Ideal S16384x512 .f32) (i : S16384x512.Idx)
    (h : cmpf .olt (Host.absf x) (broadcastInDim S16384x512 ![] bcast_S_S16384x512 (constant (F := Ideal) S_ .f32 0x7F800000#32)) i = 1#1) :
    x i ≠ ⊤ ∧ x i ≠ ⊥ := by
  have e : (broadcastInDim S16384x512 ![] bcast_S_S16384x512 (constant (F := Ideal) S_ .f32 0x7F800000#32)) i = (⊤ : EReal) := by
    pointwise
    try simp [Ideal.ofBits, Ideal.ieee]
  have h' : BitVec.ofBool (decide ((max (x i) (-(x i)) : EReal) < ⊤)) = 1#1 := by
    rw [← e]; exact h
  have h2 : (max (x i) (-(x i)) : EReal) < ⊤ := by
    by_contra hc
    rw [decide_eq_false hc] at h'
    exact absurd h' (by decide)
  rw [max_lt_iff] at h2
  refine ⟨h2.1.ne, fun hb => ?_⟩
  rw [hb] at h2
  exact absurd h2.2 (by simp)

/-- The predicate of one array. -/
theorem real_of_all (x : FVec Ideal S16384x512 .f32)
    (h : Host.reduce IntOp.andi (cmpf .olt (Host.absf x) (broadcastInDim S16384x512 ![] bcast_S_S16384x512 (constant (F := Ideal) S_ .f32 0x7F800000#32)))
      (constantI S_ 1 1#1) reducesTo_S16384x512_S_d0_1 h_S_ (fun a : Fin 0 => a.elim0) = 1#1) :
    ∀ i, x i ≠ ⊤ ∧ x i ≠ ⊥ :=
  fun i => real_of_below x i (Host.reduce_andi_all _ _ _ _ _ h i)

/-- Both of two bits are set where their conjunction is. -/
theorem both_of_andi (a b : BitVec 1) (h : IntOp.andi a b = 1#1) : a = 1#1 ∧ b = 1#1 := by
  revert h; revert a b; decide

/-- The precondition of the four arguments. -/
theorem real_of_fn (q k v d : FVec Ideal S16384x512 .f32) (h : fn (F := Ideal) q k v d = fun _ => 1#1) :
    (∀ i, q i ≠ ⊤ ∧ q i ≠ ⊥) ∧ (∀ i, k i ≠ ⊤ ∧ k i ≠ ⊥) ∧ (∀ i, v i ≠ ⊤ ∧ v i ≠ ⊥) ∧ (∀ i, d i ≠ ⊤ ∧ d i ≠ ⊥) := by
  have e := congrFun h (fun a : Fin 0 => a.elim0)
  obtain ⟨e, e3⟩ := both_of_andi _ _ e
  obtain ⟨e, e2⟩ := both_of_andi _ _ e
  obtain ⟨e0, e1⟩ := both_of_andi _ _ e
  exact ⟨real_of_all q e0, real_of_all k e1, real_of_all v e2, real_of_all d e3⟩

end Cert.Pre_finite_args

namespace Cert.Pre_finite_pool

open Facts

/-- The predicate's side conditions. -/
theorem facts : Cert.Pre_finite_pool.Facts where
  bcast_S_S16384x512 := by decide
  reducesTo_S16384x512_S_d0_1 := by decide
  h_S_ := by decide
  bcast_S_S1x4x128x128 := by decide
  reducesTo_S1x4x128x128_S_d0_1_2_3 := by decide

instance : Cert.Pre_finite_pool.Facts := facts

instance : Subsingleton S_.Idx := ⟨fun a b => funext fun i => i.elim0⟩

/-- An element whose size is below infinity is neither infinity. -/
theorem real_of_lt (x b : EReal) (e : b = ⊤) (h' : BitVec.ofBool (decide ((max x (-x) : EReal) < b)) = 1#1) : x ≠ ⊤ ∧ x ≠ ⊥ := by
  have h2 : (max x (-x) : EReal) < ⊤ := by
    by_contra hc
    rw [e, decide_eq_false hc] at h'
    exact absurd h' (by decide)
  rw [max_lt_iff] at h2
  refine ⟨h2.1.ne, fun hb => ?_⟩
  rw [hb] at h2
  exact absurd h2.2 (by simp)

/-- Over any shape: every element of an array whose comparisons all hold is a real number. -/
theorem real_of {S : Shape} (hb : S_.BroadcastsInDim S (![] : Fin 0 → Fin S.rank)) (x : FVec Ideal S .f32) (i : S.Idx)
    (h : cmpf .olt (Host.absf x) (broadcastInDim S ![] hb (constant (F := Ideal) S_ .f32 0x7F800000#32)) i = 1#1) : x i ≠ ⊤ ∧ x i ≠ ⊥ :=
  real_of_lt (x i) (Ideal.ofBits .f32 0x7F800000#32) (by simp [Ideal.ofBits, Ideal.ieee]) h

/-- Both of two bits are set where their conjunction is. -/
theorem both_of_andi (a b : BitVec 1) (h : IntOp.andi a b = 1#1) : a = 1#1 ∧ b = 1#1 := by
  revert h; revert a b; decide

/-- The precondition of the three arguments. -/
theorem real_of_fn (u d : FVec Ideal S16384x512 .f32) (w : FVec Ideal S1x4x128x128 .f32) (h : fn (F := Ideal) u d w = fun _ => 1#1) :
    (∀ i, u i ≠ ⊤ ∧ u i ≠ ⊥) ∧ (∀ i, d i ≠ ⊤ ∧ d i ≠ ⊥) ∧ (∀ i, w i ≠ ⊤ ∧ w i ≠ ⊥) := by
  have e := congrFun h (fun a : Fin 0 => a.elim0)
  obtain ⟨e, e2⟩ := both_of_andi _ _ e
  obtain ⟨e0, e1⟩ := both_of_andi _ _ e
  exact ⟨fun i => real_of _ u i (Host.reduce_andi_all _ _ _ _ _ e0 i), fun i => real_of _ d i (Host.reduce_andi_all _ _ _ _ _ e1 i),
    fun i => real_of _ w i (Host.reduce_andi_all _ _ _ _ _ e2 i)⟩

end Cert.Pre_finite_pool

namespace Cert.Pre_finite_ffn

open Facts

/-- The predicate's side conditions. -/
theorem facts : Cert.Pre_finite_ffn.Facts := by constructor <;> decide

instance : Cert.Pre_finite_ffn.Facts := facts

open Cert.Pre_finite_pool (real_of both_of_andi)

/-- The precondition of the six arguments. -/
theorem real_of_fn (h : FVec Ideal S16384x1024 .f32) (wu : FVec Ideal S1x1024x5632 .f32) (w : FVec Ideal S1x3x5632 .f32) (b : FVec Ideal S1x5632 .f32)
    (wd : FVec Ideal S1x2816x1024 .f32) (df : FVec Ideal S16384x1024 .f32) (p : fn (F := Ideal) h wu w b wd df = fun _ => 1#1) :
    (∀ i, h i ≠ ⊤ ∧ h i ≠ ⊥) ∧ (∀ i, wu i ≠ ⊤ ∧ wu i ≠ ⊥) ∧ (∀ i, w i ≠ ⊤ ∧ w i ≠ ⊥) ∧ (∀ i, b i ≠ ⊤ ∧ b i ≠ ⊥) ∧ (∀ i, wd i ≠ ⊤ ∧ wd i ≠ ⊥) ∧ (∀ i, df i ≠ ⊤ ∧ df i ≠ ⊥) := by
  have e := congrFun p (fun a : Fin 0 => a.elim0)
  obtain ⟨e, e5⟩ := both_of_andi _ _ e
  obtain ⟨e, e4⟩ := both_of_andi _ _ e
  obtain ⟨e, e3⟩ := both_of_andi _ _ e
  obtain ⟨e, e2⟩ := both_of_andi _ _ e
  obtain ⟨e0, e1⟩ := both_of_andi _ _ e
  exact ⟨fun i => real_of _ h i (Host.reduce_andi_all _ _ _ _ _ e0 i), fun i => real_of _ wu i (Host.reduce_andi_all _ _ _ _ _ e1 i),
    fun i => real_of _ w i (Host.reduce_andi_all _ _ _ _ _ e2 i), fun i => real_of _ b i (Host.reduce_andi_all _ _ _ _ _ e3 i),
    fun i => real_of _ wd i (Host.reduce_andi_all _ _ _ _ _ e4 i), fun i => real_of _ df i (Host.reduce_andi_all _ _ _ _ _ e5 i)⟩

end Cert.Pre_finite_ffn

end
-- ==== Proof.AttnClaim.lean ====
/-
  The attention's backward kernel computes the reference's three gradients, on finite arguments.
-/
module

public import proofs.«01_k».proof.Defs
public import proofs.«01_k».proof.Proof.AttnFinal
public import proofs.«01_k».proof.Proof.AttnRef
public import proofs.«01_k».proof.Proof.Pre
public import Idealize.ShloMosaic.Lib.Claim

@[expose] public section

set_option maxRecDepth 16384

noncomputable section

open Idealize.ShloMosaic Idealize.ShloMosaic.TcCoe Idealize.SL.Sem

namespace Cert.Kernel2Ideal.Attn

open Cert.Reference2Ideal.Stage (Is3 refQ refK refV dotRows heads is_heads is_dotRows is_eighth3 is_unheads is_dotQ is_dotK is_dotV is_dscores is_weights is_masked)
open Finset (range Ico)

/-- The score of one head, and the gradient that meets its weight. -/
def Zr (fq fk : ℕ → ℕ → ℝ) (h i j : ℕ) : ℝ := (∑ d ∈ range 64, fq i (64 * h + d) * fk j (64 * h + d)) * (1 / 8)
@[inherit_doc Zr] def Dr (fd fv : ℕ → ℕ → ℝ) (h i j : ℕ) : ℝ := ∑ d ∈ range 64, fd i (64 * h + d) * fv j (64 * h + d)

/-- The lanes of one head of a pair. -/
theorem sum_lane (f g : ℕ → ℕ → ℝ) (p e i j : ℕ) (he : e < 2) :
    ∑ l ∈ range 128, lane e (pair p f) i l * pair p g j l = ∑ d ∈ range 64, f i (64 * (2 * p + e) + d) * g j (64 * (2 * p + e) + d) := by
  rw [show (128 : ℕ) = 64 + 64 from rfl, Finset.sum_range_add]
  rcases (by omega : e = 0 ∨ e = 1) with rfl | rfl
  · rw [Finset.sum_eq_zero (s := range 64) (f := fun x => lane 0 (pair p f) i (64 + x) * pair p g j (64 + x)), add_zero]
    · refine Finset.sum_congr rfl fun d hd => ?_
      have := Finset.mem_range.mp hd
      unfold lane pair
      rw [if_pos (by omega), show 128 * p + d = 64 * (2 * p + 0) + d by ring]
    · intro d hd
      have := Finset.mem_range.mp hd
      unfold lane
      rw [if_neg (by omega), zero_mul]
  · rw [Finset.sum_eq_zero (s := range 64) (f := fun x => lane 1 (pair p f) i x * pair p g j x), zero_add]
    · refine Finset.sum_congr rfl fun d hd => ?_
      have := Finset.mem_range.mp hd
      unfold lane pair
      rw [if_pos (by omega), show 128 * p + (64 + d) = 64 * (2 * p + 1) + d by ring]
    · intro d hd
      have := Finset.mem_range.mp hd
      unfold lane
      rw [if_neg (by omega), zero_mul]

theorem Zh_eq (fq fk : ℕ → ℕ → ℝ) (p e : ℕ) (he : e < 2) : Zh (pair p fq) (pair p fk) e = Zr fq fk (2 * p + e) := by
  funext i j; unfold Zh Zr; rw [sum_lane fq fk p e i j he]
theorem Dh_eq (fd fv : ℕ → ℕ → ℝ) (p e : ℕ) (he : e < 2) : Dh (pair p fd) (pair p fv) e = Dr fd fv (2 * p + e) := by
  funext i j; unfold Dh Dr; exact sum_lane fd fv p e i j he

/-- The gradient of a score, of either head of a pair. -/
theorem Sh_eq (fq fk fd fv : ℕ → ℕ → ℝ) (p e i j : ℕ) (he : e < 2) :
    Sh (pair p fq) (pair p fk) (pair p fd) (pair p fv) e i j = ds (Zr fq fk (2 * p + e)) (Dr fd fv (2 * p + e)) i j := by
  rw [Sh, Zh_eq fq fk p e he, Dh_eq fd fv p e he]

section
variable {q k v d : Cert.Reference2Ideal.Stage.Rows} {fq fk fv fd : ℕ → ℕ → ℝ}

theorem is_score' (hq : Is q fq) (hk : Is k fk) : Is3 (Cert.Reference2Ideal.Stage.score q k) (Zr fq fk) :=
  (is_dotRows (is_heads hq) (is_heads hk)).mul is_eighth3

theorem is_back (hd : Is d fd) (hv : Is v fv) : Is3 (dotRows (heads d) (heads v)) (Dr fd fv) :=
  is_dotRows (is_heads hd) (is_heads hv)

/-- The head of a column. -/
theorem head_low {c : ℕ} (h : c % 128 < 64) : 2 * (c / 128) + 0 = c / 64 := by omega
theorem head_high {c : ℕ} (h : ¬c % 128 < 64) : 2 * (c / 128) + 1 = c / 64 := by omega
theorem col (c : ℕ) : 64 * (c / 64) + c % 64 = 128 * (c / 128) + c % 128 := by omega

theorem is_refQ (hq : Is q fq) (hk : Is k fk) (hv : Is v fv) (hd : Is d fd) : Is (refQ q k v d) (DQ fq fk fd fv) := by
  refine (is_unheads (is_dotQ (is_dscores (is_score' hq hk) (is_back hd hv)) (is_heads hk))).congr fun i hi c hc => ?_
  unfold DQ
  rw [← Finset.sum_subset (Finset.range_subset_range.mpr hi.le) (fun j _ hj => by
    rw [if_neg (by simpa using hj), zero_mul])]
  refine Finset.sum_congr rfl fun j hj => ?_
  rw [if_pos (Finset.mem_range.mp hj), col]
  unfold toQ
  rw [Sh_eq _ _ _ _ _ 0 _ _ (by omega), Sh_eq _ _ _ _ _ 1 _ _ (by omega)]
  by_cases h : c % 128 < 64
  · rw [if_pos h, head_low h]; rfl
  · rw [if_neg h, head_high h]; rfl

theorem is_refK (hq : Is q fq) (hk : Is k fk) (hv : Is v fv) (hd : Is d fd) : Is (refK q k v d) (DK fq fk fd fv) := by
  refine (is_unheads (is_dotK (is_dscores (is_score' hq hk) (is_back hd hv)) (is_heads hq))).congr fun j hj c hc => ?_
  unfold DK
  refine Finset.sum_congr rfl fun i _ => ?_
  rw [col]
  unfold toK
  rw [Sh_eq _ _ _ _ _ 0 _ _ (by omega), Sh_eq _ _ _ _ _ 1 _ _ (by omega)]
  unfold lane
  by_cases hm : j < i
  · rw [if_pos hm, if_pos hm]
    by_cases h : c % 128 < 64
    · rw [if_pos (by omega), if_neg (by omega), head_low h, mul_zero, add_zero]; rfl
    · rw [if_neg (by omega), if_pos (by omega), head_high h, mul_zero, zero_add]; rfl
  · rw [if_neg hm, if_neg hm, zero_mul]

theorem is_refV (hq : Is q fq) (hk : Is k fk) (hd : Is d fd) : Is (refV q k d) (DV fq fk fd) := by
  refine (is_unheads (is_dotV (is_heads hd) (is_masked (is_weights (is_score' hq hk))))).congr fun j hj c hc => ?_
  unfold DV
  refine Finset.sum_congr rfl fun i _ => ?_
  rw [col]
  unfold toV
  rw [Zh_eq _ _ _ 0 (by omega), Zh_eq _ _ _ 1 (by omega)]
  unfold lane
  by_cases hm : j < i
  · rw [if_pos hm, if_pos hm]
    by_cases h : c % 128 < 64
    · rw [if_pos (by omega), if_neg (by omega), head_low h, mul_zero, add_zero, mul_comm]; rfl
    · rw [if_neg (by omega), if_pos (by omega), head_high h, mul_zero, zero_add, mul_comm]; rfl
  · rw [if_neg hm, if_neg hm, mul_zero]

end

/-- A finite array's real entries. -/
def re (x : Cert.Reference2Ideal.Stage.Rows) (i l : ℕ) : ℝ := if h : i < 16384 ∧ l < 512 then (x (ix2 ⟨i, h.1⟩ ⟨l, h.2⟩)).toReal else 0

theorem is_re (x : Cert.Reference2Ideal.Stage.Rows) (hx : ∀ i, x i ≠ ⊤ ∧ x i ≠ ⊥) : Is x (re x) := by
  intro a b
  unfold re
  rw [dif_pos ⟨a.isLt, b.isLt⟩]
  exact (EReal.coe_toReal (hx _).1 (hx _).2).symm

/-- Two arrays that hold the same real numbers are the same. -/
theorem Is.same {x y : Cert.Reference2Ideal.Stage.Rows} {f : ℕ → ℕ → ℝ} (hx : Is x f) (hy : Is y f) : x = y := by
  funext i
  have e : i = ix2 (n0 := 16384) (n1 := 512) ⟨(i 0).val, (i 0).isLt⟩ ⟨(i 1).val, (i 1).isLt⟩ := by
    funext a; fin_cases a <;> rfl
  rw [e]
  exact (hx _ _).trans (hy _ _).symm

/-- The arguments as real numbers. -/
theorem real_of (m : (ℓ : Loc nD τ sig) → Buf (Elt Ideal) ℓ) (c : Dev nD) (h : Pre_Kernel2Ideal_finite_args m) :
    Real m (re (m (c.tc.loc main_arg0))) (re (m (c.tc.loc main_arg1))) (re (m (c.tc.loc main_arg2))) (re (m (c.tc.loc main_arg3))) c := by
  obtain ⟨hq, hk, hv, hd⟩ := Cert.Pre_finite_args.real_of_fn _ _ _ _ (h c)
  exact ⟨is_re _ hq, is_re _ hk, is_re _ hv, is_re _ hd⟩

/-- All three results of the attention's backward pass, on finite arguments. -/
theorem attention : Cert.algebraic_Kernel2Ideal_Reference2Ideal_pre_finite_args := by
  pair_intro
  · run_from Cert.Kernel2Ideal.Attn.run_main m g
  · refine (θ_run _ _ _).mono (fun r h c => ?_) (Cert.Reference2Ideal.Stage.run_stages m' g')
    obtain ⟨e0, e1, e2, e3⟩ := hagree c
    obtain ⟨h0, h1, h2, k⟩ := h c
    rw [e0, e1, e2, e3] at h0
    rw [e0, e1, e2, e3] at h1
    rw [e0, e1, e3] at h2
    have R := real_of m c hpre
    refine ⟨h0.trans ?_, h1.trans ?_, h2.trans ?_, k⟩
    · exact (is_refQ R.q R.k R.v R.d).same R.final4
    · exact (is_refK R.q R.k R.v R.d).same R.final5
    · exact (is_refV R.q R.k R.d).same R.final6

/-- The name given to the exit's threshold is the one recorded. -/
theorem exit_named : Cert.preserves_Kernel2_Kernel2Ideal :=
  IdealRules.named_const.statement Cert.Kernel2Ideal.κ "exp_underflow" .f32 0xC2B00000#32 ⊥ rfl

end Cert.Kernel2Ideal.Attn

end
-- ==== Proof.FfnBwd.lean ====
/- The feed-forward block's backward pass: every stored block, what each grid point leaves, and the arrays after the run. -/
module

public import proofs.«01_k».proof.Proof.Gen.Kernel6Ideal.Frame
public import proofs.«01_k».proof.Proof.NormBwd
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
namespace Cert.Kernel6Ideal.Bwd

open Cert.Kernel6Ideal Cert.Kernel6Ideal.Gen Cert.Ffn
open Cert.Tok (col)

variable (I : Ins) (s : Fin 4) (R : Fin 1024 → Fin 16384)
variable (df ht : Vec Ideal S1024x1024 .bf16) (wd : Vec Ideal S1x704x1024 .bf16) (g v u : Vec Ideal S1x1024x704 .bf16)
variable (n : Vec Ideal S1x16x704 .f32) (c0 c1 c2 : Vec Ideal S1x1x704 .f32)

/-- The tile's blocks hold the rows `R` of column block `s`. -/
structure Tile : Prop where
  step : ∀ r, (R r).val = (R 0).val + r.val
  df : ∀ r d, (df (ix2 r d) : EReal) = I.df (R r) d
  wd : ∀ l d, (wd (ix3 0 l d) : EReal) = I.wd (row s l) d
  g : ∀ r l, (g (ix3 0 r l) : EReal) = I.cv (col (lo s) l) (R r)
  v : ∀ r l, (v (ix3 0 r l) : EReal) = I.cv (col (hi s) l) (R r)
  ht : ∀ r k, (ht (ix2 k r) : EReal) = I.h2 (R r) k

/-- The rows after the tile. -/
def Halo (q : Fin 8) : Prop := ∀ (j : Fin 16) l, (n (ix3 0 j l) : EReal) = lead (I.du q l) (1024 + j.val) (R 0)

/-- The blocks of one column half: the expanded rows, the rows after the tile, the taps. -/
structure Half (q : Fin 8) : Prop where
  n : Halo I R n q
  c0 : ∀ l, (c0 (ix3 0 0 l) : EReal) = I.cw 0 (col q l)
  c1 : ∀ l, (c1 (ix3 0 0 l) : EReal) = I.cw 1 (col q l)
  c2 : ∀ l, (c2 (ix3 0 0 l) : EReal) = I.cw 2 (col q l)

/-- A shift within the tile is a lead, if the rows after the tile are the later rows. -/
theorem shift_eq (hR : ∀ r, (R r).val = (R 0).val + r.val) (f : Fin 16384 → EReal) (d : Fin 1024 → EReal) (e : Fin 16 → EReal) (k : ℕ) (hk : k < 16)
    (hd : ∀ r, d r = f (R r)) (he : ∀ j : Fin 16, e j = lead f (1024 + j.val) (R 0)) (r : Fin 1024) :
    (if h : r.val + k < 1024 then d ⟨r.val + k, h⟩ else e ⟨r.val + k - 1024, by omega⟩) = lead f k (R r) := by
  have hr := hR r
  split
  · next h =>
    have h2 := hR ⟨r.val + k, h⟩
    rw [hd]
    unfold lead
    have h3 := (R ⟨r.val + k, h⟩).isLt
    simp only [] at h2
    rw [dif_pos (by omega)]
    exact congrArg f (Fin.ext (by simp only []; omega))
  · next h =>
    rw [he]
    unfold lead
    simp only []
    have e : (R 0).val + (1024 + (r.val + k - 1024)) = (R r).val + k := by omega
    split
    · next h2 => rw [dif_pos (e ▸ h2)]; exact congrArg f (Fin.ext e)
    · next h2 => rw [dif_neg (e ▸ h2)]

/-- The gate's cotangent, and the same one and two rows later, and the gate's expanded rows' gradient. -/
abbrev gD := k0_pay20 (F := Ideal) (k0_pay13 df wd) (k0_pay14 g) (k0_pay15 v) (k0_pay16 g)
@[inherit_doc gD] abbrev g1 := k0_pay22 (F := Ideal) (k0_pay13 df wd) (k0_pay14 g) (k0_pay15 v) (k0_pay16 g) n
@[inherit_doc gD] abbrev g2 := k0_pay23 (F := Ideal) (k0_pay13 df wd) (k0_pay14 g) (k0_pay15 v) (k0_pay16 g) n
@[inherit_doc gD] abbrev gP := k0_pay25 (F := Ideal) (k0_pay13 df wd) (k0_pay14 g) (k0_pay15 v) (k0_pay16 g) n c0 c1 c2
/-- The same of the value. -/
abbrev vD := k0_pay33 (F := Ideal) (k0_pay13 df wd) (k0_pay17 g)
@[inherit_doc vD] abbrev v1 := k0_pay35 (F := Ideal) (k0_pay13 df wd) (k0_pay17 g) n
@[inherit_doc vD] abbrev v2 := k0_pay36 (F := Ideal) (k0_pay13 df wd) (k0_pay17 g) n
@[inherit_doc vD] abbrev vP := k0_pay40 (F := Ideal) (k0_pay33 (k0_pay13 df wd) (k0_pay17 g)) (k0_pay35 (k0_pay13 df wd) (k0_pay17 g) n) (k0_pay36 (k0_pay13 df wd) (k0_pay17 g) n) (k0_pay38 c0) c1 c2

/-- Equal factors have equal products. -/
theorem mul2 {a b x y : EReal} (h : a = b) (k : x = y) : a * x = b * y := by rw [h, k]

/-- Equal terms have equal sums. -/
theorem add2 {N : ℕ} (a : EReal) {f g : Fin N → EReal} (h : ∀ r, f r = g r) : a + ∑ r, f r = a + ∑ r, g r := by rw [funext h]

variable {I s R df ht wd g v u n c0 c1 c2}

/-- The gated product's gradient's step. -/
theorem dwd_pay (T : Tile I s R df ht wd g v) (old : Vec Ideal S1x704x1024 .f32) (l : Fin 704) (d : Fin 1024) :
    k0_pay18 (F := Ideal) df g v old (ix3 0 l d) = (old (ix3 0 l d) : EReal) + ∑ r : Fin 1024, I.act s l (R r) * I.df (R r) d := by
  refine Eq.trans (b := (old (ix3 0 l d) : EReal) + ∑ r : Fin 1024, g (ix3 0 r l) * lgs (g (ix3 0 r l)) * v (ix3 0 r l) * df (ix2 r d)) (by pointwise [k0_pay18, k0_pay17, k0_pay16, k0_pay15, k0_pay14, k0_pay12, lgs]) ?_
  refine add2 _ (fun r => ?_)
  rw [T.g, T.v, T.df]; rfl

/-- The gate's cotangent's block. -/
theorem dg_pay (T : Tile I s R df ht wd g v) (r : Fin 1024) (l : Fin 704) : gD df wd g v (ix2 r l) = I.du (lo s) l (R r) := by
  refine Eq.trans (b := dGate (∑ d : Fin 1024, (df (ix2 r d) : EReal) * wd (ix3 0 l d)) (g (ix3 0 r l)) (v (ix3 0 r l))) (by pointwise [k0_pay20, k0_pay16, k0_pay15, k0_pay14, k0_pay13, k0_pay12, lgs, dGate]) ?_
  rw [I.du_lo]
  unfold Ins.dg Ins.da
  rw [T.g, T.v]
  exact congrArg (fun x : EReal => dGate x _ _) (Finset.sum_congr rfl fun d _ => by rw [T.df, T.wd])

/-- The value's cotangent's block. -/
theorem dv_pay (T : Tile I s R df ht wd g v) (r : Fin 1024) (l : Fin 704) : vD df wd g (ix2 r l) = I.du (hi s) l (R r) := by
  refine Eq.trans (b := dVal (∑ d : Fin 1024, (df (ix2 r d) : EReal) * wd (ix3 0 l d)) (g (ix3 0 r l))) (by pointwise [k0_pay33, k0_pay17, k0_pay16, k0_pay14, k0_pay13, k0_pay12, lgs, dVal]) ?_
  rw [I.du_hi]
  unfold Ins.dv Ins.da
  rw [T.g]
  exact congrArg (fun x : EReal => dVal x _) (Finset.sum_congr rfl fun d _ => by rw [T.df, T.wd])

/-- The gate's cotangent, one row later. -/
theorem lead1g (T : Tile I s R df ht wd g v) (H : Halo I R n (lo s)) (r : Fin 1024) (l : Fin 704) : g1 df wd g v n (ix2 r l) = lead (I.du (lo s) l) 1 (R r) := by
  refine Eq.trans ?_ (shift_eq R T.step (I.du (lo s) l) (fun r => gD df wd g v (ix2 r l)) (fun j => n (ix3 0 j l)) 1 (by decide) (fun r => dg_pay T r l) (fun j => H j l) r)
  pointwise [k0_pay22, k0_pay21]
  simp only [show (r.val + 1040 - 1039) % 1040 = r.val + 1 by have := r.isLt; omega]

/-- The gate's cotangent, two rows later. -/
theorem lead2g (T : Tile I s R df ht wd g v) (H : Halo I R n (lo s)) (r : Fin 1024) (l : Fin 704) : g2 df wd g v n (ix2 r l) = lead (I.du (lo s) l) 2 (R r) := by
  refine Eq.trans ?_ (shift_eq R T.step (I.du (lo s) l) (fun r => gD df wd g v (ix2 r l)) (fun j => n (ix3 0 j l)) 2 (by decide) (fun r => dg_pay T r l) (fun j => H j l) r)
  pointwise [k0_pay23, k0_pay21]
  simp only [show (r.val + 1040 - 1038) % 1040 = r.val + 2 by have := r.isLt; omega]

/-- The value's cotangent, one row later. -/
theorem lead1v (T : Tile I s R df ht wd g v) (H : Halo I R n (hi s)) (r : Fin 1024) (l : Fin 704) : v1 df wd g n (ix2 r l) = lead (I.du (hi s) l) 1 (R r) := by
  refine Eq.trans ?_ (shift_eq R T.step (I.du (hi s) l) (fun r => vD df wd g (ix2 r l)) (fun j => n (ix3 0 j l)) 1 (by decide) (fun r => dv_pay T r l) (fun j => H j l) r)
  pointwise [k0_pay35, k0_pay34]
  simp only [show (r.val + 1040 - 1039) % 1040 = r.val + 1 by have := r.isLt; omega]

/-- The value's cotangent, two rows later. -/
theorem lead2v (T : Tile I s R df ht wd g v) (H : Halo I R n (hi s)) (r : Fin 1024) (l : Fin 704) : v2 df wd g n (ix2 r l) = lead (I.du (hi s) l) 2 (R r) := by
  refine Eq.trans ?_ (shift_eq R T.step (I.du (hi s) l) (fun r => vD df wd g (ix2 r l)) (fun j => n (ix3 0 j l)) 2 (by decide) (fun r => dv_pay T r l) (fun j => H j l) r)
  pointwise [k0_pay36, k0_pay34]
  simp only [show (r.val + 1040 - 1038) % 1040 = r.val + 2 by have := r.isLt; omega]

/-- The gate's expanded rows' gradient's block. -/
theorem dpg_pay (T : Tile I s R df ht wd g v) (H : Half I R n c0 c1 c2 (lo s)) (r : Fin 1024) (l : Fin 704) :
    k0_pay26 (F := Ideal) (gP df wd g v n c0 c1 c2) (ix3 0 r l) = I.dp (lo s) (R r) l := by
  refine Eq.trans (b := (c2 (ix3 0 0 l) : EReal) * gD df wd g v (ix2 r l) + c1 (ix3 0 0 l) * g1 df wd g v n (ix2 r l) + c0 (ix3 0 0 l) * g2 df wd g v n (ix2 r l)) (by pointwise [k0_pay26, k0_pay25]) ?_
  rw [dg_pay T, lead1g T H.n, lead2g T H.n, H.c0, H.c1, H.c2]
  rfl

/-- The gate's expanding weights' gradient's step. -/
theorem dwlo_pay (T : Tile I s R df ht wd g v) (H : Half I R n c0 c1 c2 (lo s)) (old : Vec Ideal S1x1024x704 .f32) (k : Fin 1024) (l : Fin 704) :
    k0_pay27 (F := Ideal) (k0_pay19 ht) (gP df wd g v n c0 c1 c2) old (ix3 0 k l) = (old (ix3 0 k l) : EReal) + ∑ r : Fin 1024, I.h2 (R r) k * I.dp (lo s) (R r) l := by
  refine Eq.trans (b := (old (ix3 0 k l) : EReal) + ∑ r : Fin 1024, (ht (ix2 k r) : EReal) * k0_pay26 (F := Ideal) (gP df wd g v n c0 c1 c2) (ix3 0 r l)) (by pointwise [k0_pay27, k0_pay26, k0_pay19]) ?_
  exact add2 _ (fun r => by rw [T.ht, dpg_pay T H])

/-- The gate's bias's gradient's step. -/
theorem dblo_pay (T : Tile I s R df ht wd g v) (old : Vec Ideal S1x1x704 .f32) (l : Fin 704) :
    k0_pay29 (F := Ideal) (gD df wd g v) old (ix3 0 0 l) = (old (ix3 0 0 l) : EReal) + ∑ r : Fin 1024, I.du (lo s) l (R r) := by
  refine Eq.trans (b := (old (ix3 0 0 l) : EReal) + ∑ r : Fin 1024, gD df wd g v (ix2 r l)) (by pointwise [k0_pay29]) ?_
  exact add2 _ (fun r => dg_pay T r l)

/-- The value's expanded rows' gradient's block. -/
theorem dpv_pay (T : Tile I s R df ht wd g v) (H : Half I R n c0 c1 c2 (hi s)) (r : Fin 1024) (l : Fin 704) :
    vP df wd g n c0 c1 c2 (ix3 0 r l) = I.dp (hi s) (R r) l := by
  refine Eq.trans (b := (c2 (ix3 0 0 l) : EReal) * vD df wd g (ix2 r l) + c1 (ix3 0 0 l) * v1 df wd g n (ix2 r l) + c0 (ix3 0 0 l) * v2 df wd g n (ix2 r l)) (by pointwise [k0_pay40, k0_pay39, k0_pay38]) ?_
  rw [dv_pay T, lead1v T H.n, lead2v T H.n, H.c0, H.c1, H.c2]
  rfl

/-- The value's expanding weights' gradient's step. -/
theorem dwhi_pay (T : Tile I s R df ht wd g v) (H : Half I R n c0 c1 c2 (hi s)) (old : Vec Ideal S1x1024x704 .f32) (k : Fin 1024) (l : Fin 704) :
    k0_pay41 (F := Ideal) (k0_pay19 ht) (vD df wd g) (v1 df wd g n) (v2 df wd g n) (k0_pay38 c0) c1 c2 old (ix3 0 k l) = (old (ix3 0 k l) : EReal) + ∑ r : Fin 1024, I.h2 (R r) k * I.dp (hi s) (R r) l := by
  refine Eq.trans (b := (old (ix3 0 k l) : EReal) + ∑ r : Fin 1024, (ht (ix2 k r) : EReal) * vP df wd g n c0 c1 c2 (ix3 0 r l)) (by pointwise [k0_pay41, k0_pay40, k0_pay19]) ?_
  exact add2 _ (fun r => by rw [T.ht, dpv_pay T H])

/-- The value's bias's gradient's step. -/
theorem dbhi_pay (T : Tile I s R df ht wd g v) (old : Vec Ideal S1x1x704 .f32) (l : Fin 704) :
    k0_pay43 (F := Ideal) (vD df wd g) old (ix3 0 0 l) = (old (ix3 0 0 l) : EReal) + ∑ r : Fin 1024, I.du (hi s) l (R r) := by
  refine Eq.trans (b := (old (ix3 0 0 l) : EReal) + ∑ r : Fin 1024, vD df wd g (ix2 r l)) (by pointwise [k0_pay43]) ?_
  exact add2 _ (fun r => dv_pay T r l)

/-- Rows summed by column against the expanded rows: the taps' gradients' steps, whose text differs by the tap. -/
theorem tap_sum (d : FVec Ideal S1024x704 .f32) (old : Vec Ideal S1x1x704 .f32) (l : Fin 704) :
    k0_pay30 (F := Ideal) d u old (ix3 0 0 l) = (old (ix3 0 0 l) : EReal) + ∑ r : Fin 1024, d (ix2 r l) * u (ix3 0 r l)
    ∧ k0_pay31 (F := Ideal) d (k0_pay28 u) old (ix3 0 0 l) = (old (ix3 0 0 l) : EReal) + ∑ r : Fin 1024, d (ix2 r l) * u (ix3 0 r l)
    ∧ k0_pay32 (F := Ideal) d (k0_pay28 u) old (ix3 0 0 l) = (old (ix3 0 0 l) : EReal) + ∑ r : Fin 1024, d (ix2 r l) * u (ix3 0 r l)
    ∧ k0_pay1 (F := Ideal) d (k0_pay42 u) old (ix3 0 0 l) = (old (ix3 0 0 l) : EReal) + ∑ r : Fin 1024, d (ix2 r l) * u (ix3 0 r l)
    ∧ k0_pay2 (F := Ideal) d (k0_pay42 u) old (ix3 0 0 l) = (old (ix3 0 0 l) : EReal) + ∑ r : Fin 1024, d (ix2 r l) * u (ix3 0 r l)
    ∧ k0_pay3 (F := Ideal) d (k0_pay42 u) old (ix3 0 0 l) = (old (ix3 0 0 l) : EReal) + ∑ r : Fin 1024, d (ix2 r l) * u (ix3 0 r l) := by
  refine ⟨?_, ?_, ?_, ?_, ?_, ?_⟩
  · pointwise [k0_pay30, k0_pay28]
  · pointwise [k0_pay31, k0_pay28]
  · pointwise [k0_pay32, k0_pay28]
  · pointwise [k0_pay1, k0_pay42]
  · pointwise [k0_pay2, k0_pay42]
  · pointwise [k0_pay3, k0_pay42]

/-- A lead by no row is the column. -/
theorem lead_zero (f : Fin 16384 → EReal) (r : Fin 16384) : lead f 0 r = f r := dif_pos r.isLt

/-- The tile's term of a tap's gradient. -/
def tapTerm (I : Ins) (R : Fin 1024 → Fin 16384) (q : Fin 8) (k : ℕ) (l : Fin 704) : EReal := ∑ r : Fin 1024, lead (I.du q l) k (R r) * I.up (col q l) (R r)

/-- The gate's tap 0's gradient's step. -/
theorem tap0lo (T : Tile I s R df ht wd g v) (H : Halo I R n (lo s)) (hu : ∀ r l, (u (ix3 0 r l) : EReal) = I.up (col (lo s) l) (R r)) (old : Vec Ideal S1x1x704 .f32) (l : Fin 704) :
    k0_pay30 (F := Ideal) (g2 df wd g v n) u old (ix3 0 0 l) = (old (ix3 0 0 l) : EReal) + tapTerm I R (lo s) 2 l :=
  (tap_sum _ _ _).1.trans (add2 _ (fun r => mul2 (lead2g T H r l) (hu r l)))

/-- The gate's tap 1's gradient's step. -/
theorem tap1lo (T : Tile I s R df ht wd g v) (H : Halo I R n (lo s)) (hu : ∀ r l, (u (ix3 0 r l) : EReal) = I.up (col (lo s) l) (R r)) (old : Vec Ideal S1x1x704 .f32) (l : Fin 704) :
    k0_pay31 (F := Ideal) (g1 df wd g v n) (k0_pay28 u) old (ix3 0 0 l) = (old (ix3 0 0 l) : EReal) + tapTerm I R (lo s) 1 l :=
  (tap_sum _ _ _).2.1.trans (add2 _ (fun r => mul2 (lead1g T H r l) (hu r l)))

/-- The gate's tap 2's gradient's step. -/
theorem tap2lo (T : Tile I s R df ht wd g v) (hu : ∀ r l, (u (ix3 0 r l) : EReal) = I.up (col (lo s) l) (R r)) (old : Vec Ideal S1x1x704 .f32) (l : Fin 704) :
    k0_pay32 (F := Ideal) (gD df wd g v) (k0_pay28 u) old (ix3 0 0 l) = (old (ix3 0 0 l) : EReal) + tapTerm I R (lo s) 0 l :=
  (tap_sum _ _ _).2.2.1.trans (add2 _ (fun r => mul2 ((dg_pay T r l).trans (lead_zero _ _).symm) (hu r l)))

/-- The value's tap 0's gradient's step. -/
theorem tap0hi (T : Tile I s R df ht wd g v) (H : Halo I R n (hi s)) (hu : ∀ r l, (u (ix3 0 r l) : EReal) = I.up (col (hi s) l) (R r)) (old : Vec Ideal S1x1x704 .f32) (l : Fin 704) :
    k0_pay1 (F := Ideal) (v2 df wd g n) (k0_pay42 u) old (ix3 0 0 l) = (old (ix3 0 0 l) : EReal) + tapTerm I R (hi s) 2 l :=
  (tap_sum _ _ _).2.2.2.1.trans (add2 _ (fun r => mul2 (lead2v T H r l) (hu r l)))

/-- The value's tap 1's gradient's step. -/
theorem tap1hi (T : Tile I s R df ht wd g v) (H : Halo I R n (hi s)) (hu : ∀ r l, (u (ix3 0 r l) : EReal) = I.up (col (hi s) l) (R r)) (old : Vec Ideal S1x1x704 .f32) (l : Fin 704) :
    k0_pay2 (F := Ideal) (v1 df wd g n) (k0_pay42 u) old (ix3 0 0 l) = (old (ix3 0 0 l) : EReal) + tapTerm I R (hi s) 1 l :=
  (tap_sum _ _ _).2.2.2.2.1.trans (add2 _ (fun r => mul2 (lead1v T H r l) (hu r l)))

/-- The value's tap 2's gradient's step. -/
theorem tap2hi (T : Tile I s R df ht wd g v) (hu : ∀ r l, (u (ix3 0 r l) : EReal) = I.up (col (hi s) l) (R r)) (old : Vec Ideal S1x1x704 .f32) (l : Fin 704) :
    k0_pay3 (F := Ideal) (vD df wd g) (k0_pay42 u) old (ix3 0 0 l) = (old (ix3 0 0 l) : EReal) + tapTerm I R (hi s) 0 l :=
  (tap_sum _ _ _).2.2.2.2.2.trans (add2 _ (fun r => mul2 ((dv_pay T r l).trans (lead_zero _ _).symm) (hu r l)))

/-- The gate's cotangent's first rows, kept for the tile before. -/
theorem keepg (T : Tile I s R df ht wd g v) (j : Fin 16) (l : Fin 704) :
    k0_pay24 (F := Ideal) (k0_pay13 df wd) (k0_pay14 g) (k0_pay15 v) (k0_pay16 g) (ix3 0 j l) = I.du (lo s) l (R ⟨j.val, by omega⟩) := by
  refine Eq.trans (b := gD df wd g v (ix2 ⟨j.val, by omega⟩ l)) (by pointwise [k0_pay24]) ?_
  rw [dg_pay T]

/-- The value's cotangent's first rows, kept for the tile before. -/
theorem keepv (T : Tile I s R df ht wd g v) (j : Fin 16) (l : Fin 704) :
    k0_pay37 (F := Ideal) (k0_pay13 df wd) (k0_pay17 g) (ix3 0 j l) = I.du (hi s) l (R ⟨j.val, by omega⟩) := by
  refine Eq.trans (b := vD df wd g (ix2 ⟨j.val, by omega⟩ l)) (by pointwise [k0_pay37]) ?_
  rw [dv_pay T]

/-- The windows' block indices at every grid point. -/
theorem idx : ∀ t : Fin cfg0.N, win0_0.index t = ![t.val / 16, 15 - t.val % 16, 0] ∧ win0_1.index t = ![t.val / 16 + 4, 15 - t.val % 16, 0]
    ∧ win0_2.index t = ![t.val / 16, 15 - t.val % 16, 0] ∧ win0_3.index t = ![t.val / 16 + 4, 15 - t.val % 16, 0]
    ∧ win0_4.index t = ![t.val / 16, 0, 0] ∧ win0_5.index t = ![t.val / 16 + 4, 0, 0] ∧ win0_6.index t = ![t.val / 16, 0, 0]
    ∧ win0_7.index t = ![15 - t.val % 16, 0] ∧ win0_8.index t = ![0, 15 - t.val % 16] ∧ win0_9.index t = ![t.val / 16, 0, 0]
    ∧ win0_10.index t = ![t.val / 16, 15 - t.val % 16, 0] ∧ win0_11.index t = ![t.val / 16, 15 - t.val % 16, 0] ∧ win0_12.index t = ![t.val / 16, 0, 0]
    ∧ win0_13.index t = ![t.val / 16, 0, 0] ∧ win0_14.index t = ![t.val / 16, 0, 0] ∧ win0_15.index t = ![t.val / 16, 0, 0]
    ∧ win0_16.index t = ![t.val / 16, 0, 0] ∧ win0_17.index t = ![t.val / 16, 0, 0] :=
  (by decide +kernel : ∀ t : Fin grid0.N, _)

/-- The column block of a grid point. -/
def sh (t : Fin cfg0.N) : Fin 4 := ⟨t.val / 16, by have := lt_of_lt_of_eq t.isLt N_0; omega⟩

/-- The row of the arrays that a grid point's tile holds at row `r`. -/
def rowAt (t : Fin cfg0.N) (r : Fin 1024) : Fin 16384 := ⟨(15 - t.val % 16) * 1024 + r.val, by omega⟩

variable (m : (ℓ : Loc nD τ sig) → Buf (Elt Ideal) ℓ) (c : Dev nD) (I : Ins)

/-- The arrays the region reads. -/
structure Reads : Prop where
  gv : ∀ (n : Fin 8) (r : Fin 16384) (l : Fin 704), (show FVec Ideal S8x16384x704 .bf16 from V m c main_v34) (ix3 n r l) = I.cv (col n l) r
  up : ∀ (n : Fin 8) (r : Fin 16384) (l : Fin 704), (show FVec Ideal S8x16384x704 .bf16 from V m c main_v31) (ix3 n r l) = I.up (col n l) r
  cw : ∀ (n : Fin 8) (k : Fin 3) (l : Fin 704), (show FVec Ideal S8x3x704 .f32 from V m c main_v37) (ix3 n k l) = I.cw k (col n l)
  wd : ∀ (s : Fin 4) (l : Fin 704) (d : Fin 1024), (show FVec Ideal S4x704x1024 .bf16 from V m c main_v40) (ix3 s l d) = I.wd (row s l) d
  df : ∀ (r : Fin 16384) (d : Fin 1024), (show FVec Ideal S16384x1024 .bf16 from V m c main_v41) (ix2 r d) = I.df r d
  ht : ∀ (k : Fin 1024) (r : Fin 16384), (show FVec Ideal S1024x16384 .bf16 from V m c main_v43) (ix2 k r) = I.h2 r k

variable {m c I} (h : Reads m c I)
include h

/-- A point's blocks. -/
theorem tile (t : Fin cfg0.N) : Tile I (sh t) (rowAt t) (iblk m c 7 t) (iblk m c 8 t) (iblk m c 6 t) (iblk m c 0 t) (iblk m c 1 t) where
  step r := rfl
  df r d := (h.df (rowAt t r) d).symm.trans (by unfold rowAt; blk_point [iblk, idx t]) |>.symm
  wd l d := (h.wd (sh t) l d).symm.trans (by unfold sh; blk_point [iblk, idx t]) |>.symm
  g r l := (h.gv (lo (sh t)) (rowAt t r) l).symm.trans (by unfold rowAt lo sh; blk_point [iblk, idx t]) |>.symm
  v r l := (h.gv (hi (sh t)) (rowAt t r) l).symm.trans (by unfold rowAt hi sh; blk_point [iblk, idx t]) |>.symm
  ht r k := (h.ht k (rowAt t r)).symm.trans (by unfold rowAt; blk_point [iblk, idx t]) |>.symm

/-- A point's expanded rows. -/
theorem ug_blk (t : Fin cfg0.N) (r : Fin 1024) (l : Fin 704) : (show FVec Ideal S1x1024x704 .bf16 from iblk m c 2 t) (ix3 0 r l) = I.up (col (lo (sh t)) l) (rowAt t r) := by
  refine Eq.trans ?_ (h.up (lo (sh t)) (rowAt t r) l)
  unfold rowAt lo sh; blk_point [iblk, idx t]

/-- The same of the value's half. -/
theorem uv_blk (t : Fin cfg0.N) (r : Fin 1024) (l : Fin 704) : (show FVec Ideal S1x1024x704 .bf16 from iblk m c 3 t) (ix3 0 r l) = I.up (col (hi (sh t)) l) (rowAt t r) := by
  refine Eq.trans ?_ (h.up (hi (sh t)) (rowAt t r) l)
  unfold rowAt hi sh; blk_point [iblk, idx t]

/-- A point's taps. -/
theorem cg_blk (t : Fin cfg0.N) (k : Fin 3) (l : Fin 704) : (show FVec Ideal S1x3x704 .f32 from iblk m c 4 t) (ix3 0 k l) = I.cw k (col (lo (sh t)) l) := by
  refine Eq.trans ?_ (h.cw (lo (sh t)) k l)
  unfold lo sh; blk_point [iblk, idx t]

/-- The same of the value's half. -/
theorem cv_blk (t : Fin cfg0.N) (k : Fin 3) (l : Fin 704) : (show FVec Ideal S1x3x704 .f32 from iblk m c 5 t) (ix3 0 k l) = I.cw k (col (hi (sh t)) l) := by
  refine Eq.trans ?_ (h.cw (hi (sh t)) k l)
  unfold hi sh; blk_point [iblk, idx t]

omit h in
/-- A row's index in the block of three rows. -/
theorem emb_row (k : ℕ) (hk : k < 3) (inb) (x : Fin 704) : (Rect.unit (s := S1x3x704) ![0, k, 0] ![1, 1, 704] inb).emb (ix3 0 0 x) = ix3 0 ⟨k, hk⟩ x := by
  funext a
  fin_cases a
  · exact Fin.ext (show 0 + 1 * 0 = 0 from rfl)
  · exact Fin.ext (show k + 1 * 0 = k by omega)
  · exact Fin.ext (show 0 + 1 * x.val = x.val by omega)

omit h in
/-- A half's index in the block of kept rows. -/
theorem emb_slot (k : ℕ) (hk : k < 2) (inb) (j : Fin 16) (x : Fin 704) : (Rect.unit (s := S2x16x704) ![k, 0, 0] ![1, 16, 704] inb).emb (ix3 0 j x) = ix3 ⟨k, hk⟩ j x := by
  funext a
  fin_cases a
  · exact Fin.ext (show k + 1 * 0 = k by omega)
  · exact Fin.ext (show 0 + 1 * j.val = j.val by omega)
  · exact Fin.ext (show 0 + 1 * x.val = x.val by omega)

omit h in
/-- The rows a point keeps for the next one. -/
def kept (I : Ins) (t : Fin cfg0.N) (y : S2x16x704.Idx) : EReal :=
  if (y 0 : ℕ) = 0 then I.du (lo (sh t)) ⟨y 2, (y 2).isLt⟩ (rowAt t ⟨y 1, lt_trans (y 1).isLt (by decide)⟩)
  else I.du (hi (sh t)) ⟨y 2, (y 2).isLt⟩ (rowAt t ⟨y 1, lt_trans (y 1).isLt (by decide)⟩)

/-- What the scratch holds after a point. -/
theorem scratch_at (t : Fin cfg0.N) (y : S2x16x704.Idx) : (outsAt0 m c t.val t.isLt).2.2.2.2.2.2.2.2.2 y = kept I t y := by
  by_cases h0 : t.val % 16 = 0
  · rw [outsAt0_A m c t h0]; frame_out
    refine View.canon_append_of_piecesOf (Val := Elt Ideal) (e := .f32) (kept I t) [_] [_, _] ⟨?_, ?_, trivial⟩ y ?_
    · intro x
      idx_vars x
      obtain rfl := x0.eq_zero
      refine (keepv (tile h t) _ _).trans ?_
      rw [emb_slot 1 (by decide)]; exact (if_neg (show ¬ (1 : ℕ) = 0 by decide)).symm
    · intro x
      idx_vars x
      obtain rfl := x0.eq_zero
      refine (keepg (tile h t) _ _).trans ?_
      rw [emb_slot 0 (by decide)]; exact (if_pos (show (0 : ℕ) = 0 by decide)).symm
    · exact View.cover_of_tiled_head _ _ _ rfl y
  · rw [outsAt0_B m c t h0]; frame_out
    refine View.canon_append_of_piecesOf (Val := Elt Ideal) (e := .f32) (kept I t) [] [_, _] ⟨?_, ?_, trivial⟩ y ?_
    · intro x
      idx_vars x
      obtain rfl := x0.eq_zero
      refine (keepv (tile h t) _ _).trans ?_
      rw [emb_slot 1 (by decide)]; exact (if_neg (show ¬ (1 : ℕ) = 0 by decide)).symm
    · intro x
      idx_vars x
      obtain rfl := x0.eq_zero
      refine (keepg (tile h t) _ _).trans ?_
      rw [emb_slot 0 (by decide)]; exact (if_pos (show (0 : ℕ) = 0 by decide)).symm
    · exact View.cover_of_tiled_head _ _ _ rfl y

/-- The rows kept by the point before are the rows after the tile. -/
theorem haloB (t : Fin cfg0.N) (h0 : ¬ t.val % 16 = 0) (j : Fin 16) (l : Fin 704) :
    (outsAt0 m c (t.val - 1) (lt_prev t)).2.2.2.2.2.2.2.2.2 (ix3 0 j l) = lead (I.du (lo (sh t)) l) (1024 + j.val) (rowAt t 0)
    ∧ (outsAt0 m c (t.val - 1) (lt_prev t)).2.2.2.2.2.2.2.2.2 (ix3 1 j l) = lead (I.du (hi (sh t)) l) (1024 + j.val) (rowAt t 0) := by
  have e1 : sh ⟨t.val - 1, lt_prev t⟩ = sh t := Fin.ext (by simp only [sh]; omega)
  have e2 : (rowAt ⟨t.val - 1, lt_prev t⟩ ⟨j.val, by omega⟩).val = (rowAt t 0).val + (1024 + j.val) := by
    have : ((0 : Fin 1024) : ℕ) = 0 := rfl
    simp only [rowAt, this]; omega
  have e3 : ∀ f : Fin 16384 → EReal, f (rowAt ⟨t.val - 1, lt_prev t⟩ ⟨j.val, by omega⟩) = lead f (1024 + j.val) (rowAt t 0) := by
    intro f
    unfold lead
    rw [dif_pos (e2 ▸ Fin.isLt _)]
    exact congrArg f (Fin.ext e2)
  refine ⟨?_, ?_⟩
  · refine (scratch_at h ⟨t.val - 1, lt_prev t⟩ (ix3 0 j l)).trans ?_
    rw [← e3, ← e1]; exact if_pos rfl
  · refine (scratch_at h ⟨t.val - 1, lt_prev t⟩ (ix3 1 j l)).trans ?_
    rw [← e3, ← e1]; exact if_neg (show ¬ (1 : ℕ) = 0 by decide)

omit h in
/-- No row follows the last tile. -/
theorem haloA (t : Fin cfg0.N) (h0 : t.val % 16 = 0) (f : Fin 16384 → EReal) (j : Fin 16) : (0 : EReal) = lead f (1024 + j.val) (rowAt t 0) := by
  unfold lead
  rw [dif_neg]
  simp only [rowAt]; omega

omit h in
/-- Equal terms have equal sums. -/
theorem plus {a b s : EReal} (h : a = b) : a + s = b + s := by rw [h]

omit h in
/-- One half's blocks. -/
theorem half {q : Fin 8} {t : Fin cfg0.N} {B : Vec Ideal S1x3x704 .f32} (hB : ∀ k l, B (ix3 0 k l) = I.cw k (col q l)) {n : Vec Ideal S1x16x704 .f32} {c0 c1 c2 : Vec Ideal S1x1x704 .f32}
    (hn : Halo I (rowAt t) n q) (h0 : ∀ l, c0 (ix3 0 0 l) = B (ix3 0 0 l)) (h1 : ∀ l, c1 (ix3 0 0 l) = B (ix3 0 1 l)) (h2 : ∀ l, c2 (ix3 0 0 l) = B (ix3 0 2 l)) :
    Half I (rowAt t) n c0 c1 c2 q := ⟨hn, fun l => (h0 l).trans (hB 0 l), fun l => (h1 l).trans (hB 1 l), fun l => (h2 l).trans (hB 2 l)⟩

omit h in
/-- The taps' gradients after a point. -/
def tapG (I : Ins) (t : Fin cfg0.N) (q : Fin 8) (old : S1x3x704.Idx → EReal) (y : S1x3x704.Idx) : EReal := old y + tapTerm I (rowAt t) q (2 - (y 1).val) ⟨(y 2).val, (y 2).isLt⟩

omit h in
/-- A row of the block of taps' gradients. -/
theorem tap_piece {G : S1x3x704.Idx → EReal} (k : ℕ) (hk : k < 3) (inb) (w : S1x1x704.Idx → EReal) (hw : ∀ l, w (ix3 0 0 l) = G (ix3 0 ⟨k, hk⟩ l)) :
    ∀ x, w x = G ((Rect.unit (s := S1x3x704) ![0, k, 0] ![1, 1, 704] inb).emb x) := by
  intro x
  idx_vars x
  obtain rfl := x0.eq_zero
  obtain rfl := x1.eq_zero
  rw [emb_row k hk]
  exact hw _

omit h in
/-- A result that starts a column block's run at zero and adds a tile's sum at every point. -/
def Steps {b d : ℕ} (f : (n : ℕ) → n < cfg0.N → (⟨3, ![1, b, d]⟩ : Shape).Idx → EReal) (F : Fin 4 → Fin b → Fin d → Fin 16384 → EReal) : Prop := ∀ (t : Fin cfg0.N) p q,
  (t.val % 16 = 0 → f t.val t.isLt (ix3 0 p q) = 0 + ∑ r : Fin 1024, F (sh t) p q (rowAt t r))
    ∧ (¬ t.val % 16 = 0 → f t.val t.isLt (ix3 0 p q) = f (t.val - 1) (lt_prev t) (ix3 0 p q) + ∑ r : Fin 1024, F (sh t) p q (rowAt t r))

/-- The contracting weights' gradient's step. -/
theorem step9 : Steps (fun n hn => (outsAt0 m c n hn).1) (fun s l d r => I.act s l r * I.df r d) := by
  intro t l d
  refine ⟨fun h0 => ?_, fun h0 => ?_⟩ <;> beta_reduce
  · rw [outsAt0_A m c t h0]; frame_out
    refine (dwd_pay (tile h t) _ l d).trans ?_
    exact plus (by pointwise [k0_pay4])
  · rw [outsAt0_B m c t h0]; frame_out
    refine (dwd_pay (tile h t) _ l d).trans ?_
    rfl

/-- The gate's expanding weights' gradient's step. -/
theorem step12 : Steps (fun n hn => (outsAt0 m c n hn).2.2.2.1) (fun s k l r => I.h2 r k * I.dp (lo s) r l) := by
  intro t k l
  refine ⟨fun h0 => ?_, fun h0 => ?_⟩ <;> beta_reduce
  · rw [outsAt0_A m c t h0]; frame_out
    simp (decide := true) only [↓View.readCov_skip, ↓View.readCov_fill]
    refine (dwlo_pay (tile h t) (half (cg_blk h t) ?_ ?_ ?_ ?_) _ k l).trans ?_
    · intro j l; refine Eq.trans ?_ (haloA t h0 (I.du (lo (sh t)) l) j); pointwise [k0_pay11]
    iterate 3 · intro l; pointwise
    exact plus (by pointwise [k0_pay5])
  · rw [outsAt0_B m c t h0]; frame_out
    refine (dwlo_pay (tile h t) (half (cg_blk h t) ?_ ?_ ?_ ?_) _ k l).trans ?_
    · intro j l; refine Eq.trans ?_ ((haloB h t h0 j l).1); pointwise; exact congrFun (read_unread_whole _ _ _) _
    iterate 3 · intro l; pointwise
    rfl

/-- The value's expanding weights' gradient's step. -/
theorem step13 : Steps (fun n hn => (outsAt0 m c n hn).2.2.2.2.1) (fun s k l r => I.h2 r k * I.dp (hi s) r l) := by
  intro t k l
  refine ⟨fun h0 => ?_, fun h0 => ?_⟩ <;> beta_reduce
  · rw [outsAt0_A m c t h0]; frame_out
    simp (decide := true) only [↓View.readCov_skip, ↓View.readCov_fill]
    refine (dwhi_pay (tile h t) (half (cv_blk h t) ?_ ?_ ?_ ?_) _ k l).trans ?_
    · intro j l; refine Eq.trans ?_ (haloA t h0 (I.du (hi (sh t)) l) j); pointwise [k0_pay11]
    iterate 3 · intro l; pointwise
    exact plus (by pointwise [k0_pay6])
  · rw [outsAt0_B m c t h0]; frame_out
    refine (dwhi_pay (tile h t) (half (cv_blk h t) ?_ ?_ ?_ ?_) _ k l).trans ?_
    · intro j l; refine Eq.trans ?_ ((haloB h t h0 j l).2); pointwise; exact congrFun (read_unread_whole _ _ _) _
    iterate 3 · intro l; pointwise
    rfl

/-- The gate's bias's gradient's step. -/
theorem step14 : Steps (fun n hn => (outsAt0 m c n hn).2.2.2.2.2.1) (fun s _ l r => I.du (lo s) l r) := by
  intro t p l
  obtain rfl := p.eq_zero
  refine ⟨fun h0 => ?_, fun h0 => ?_⟩ <;> beta_reduce
  · rw [outsAt0_A m c t h0]; frame_out
    refine (dblo_pay (tile h t) _ l).trans ?_
    exact plus (by pointwise [k0_pay7])
  · rw [outsAt0_B m c t h0]; frame_out
    refine (dblo_pay (tile h t) _ l).trans ?_
    rfl

/-- The value's bias's gradient's step. -/
theorem step15 : Steps (fun n hn => (outsAt0 m c n hn).2.2.2.2.2.2.1) (fun s _ l r => I.du (hi s) l r) := by
  intro t p l
  obtain rfl := p.eq_zero
  refine ⟨fun h0 => ?_, fun h0 => ?_⟩ <;> beta_reduce
  · rw [outsAt0_A m c t h0]; frame_out
    refine (dbhi_pay (tile h t) _ l).trans ?_
    exact plus (by pointwise [k0_pay8])
  · rw [outsAt0_B m c t h0]; frame_out
    refine (dbhi_pay (tile h t) _ l).trans ?_
    rfl

/-- The gate's taps' gradients' step. -/
theorem step16 : Steps (fun n hn => (outsAt0 m c n hn).2.2.2.2.2.2.2.1) (fun s k l r => lead (I.du (lo s) l) (2 - k.val) r * I.up (col (lo s) l) r) := by
  intro t k l
  refine ⟨fun h0 => ?_, fun h0 => ?_⟩ <;> beta_reduce
  · rw [outsAt0_A m c t h0]; frame_out
    simp (decide := true) only [↓View.readCov_skip, ↓View.readCov_fill]
    refine View.canon_append_of_piecesOf (Val := Elt Ideal) (e := .f32) (tapG I t (lo (sh t)) fun _ => 0) [_] [_, _, _] ⟨?_, ?_, ?_, trivial⟩ (ix3 0 k l) ?_
    · refine tap_piece 2 (by decide) (by decide) _ fun l => (tap2lo (tile h t) (ug_blk h t) _ _).trans ?_
      exact plus (by pointwise [k0_pay9])
    · refine tap_piece 1 (by decide) (by decide) _ fun l => (tap1lo (tile h t) ?_ (ug_blk h t) _ _).trans ?_
      · intro j l; refine Eq.trans ?_ (haloA t h0 (I.du (lo (sh t)) l) j); pointwise [k0_pay11]
      exact plus (by pointwise [k0_pay9])
    · refine tap_piece 0 (by decide) (by decide) _ fun l => (tap0lo (tile h t) ?_ (ug_blk h t) _ _).trans ?_
      · intro j l; refine Eq.trans ?_ (haloA t h0 (I.du (lo (sh t)) l) j); pointwise [k0_pay11]
      exact plus (by pointwise [k0_pay9])
    · exact View.cover_of_tiled_head _ _ _ rfl _
  · rw [outsAt0_B m c t h0]; frame_out
    refine View.canon_append_of_piecesOf (Val := Elt Ideal) (e := .f32) (tapG I t (lo (sh t)) (outsAt0 m c (t.val - 1) (lt_prev t)).2.2.2.2.2.2.2.1) [] [_, _, _] ⟨?_, ?_, ?_, trivial⟩ (ix3 0 k l) ?_
    · refine tap_piece 2 (by decide) (by decide) _ fun l => (tap2lo (tile h t) (ug_blk h t) _ _).trans ?_
      exact plus (by pointwise)
    · refine tap_piece 1 (by decide) (by decide) _ fun l => (tap1lo (tile h t) ?_ (ug_blk h t) _ _).trans ?_
      · intro j l; refine Eq.trans ?_ ((haloB h t h0 j l).1); pointwise; exact congrFun (read_unread_whole _ _ _) _
      exact plus (by pointwise)
    · refine tap_piece 0 (by decide) (by decide) _ fun l => (tap0lo (tile h t) ?_ (ug_blk h t) _ _).trans ?_
      · intro j l; refine Eq.trans ?_ ((haloB h t h0 j l).1); pointwise; exact congrFun (read_unread_whole _ _ _) _
      exact plus (by pointwise)
    · exact View.cover_of_tiled_head _ _ _ rfl _

/-- The value's taps' gradients' step. -/
theorem step17 : Steps (fun n hn => (outsAt0 m c n hn).2.2.2.2.2.2.2.2.1) (fun s k l r => lead (I.du (hi s) l) (2 - k.val) r * I.up (col (hi s) l) r) := by
  intro t k l
  refine ⟨fun h0 => ?_, fun h0 => ?_⟩ <;> beta_reduce
  · rw [outsAt0_A m c t h0]; frame_out
    simp (decide := true) only [↓View.readCov_skip, ↓View.readCov_fill]
    refine View.canon_append_of_piecesOf (Val := Elt Ideal) (e := .f32) (tapG I t (hi (sh t)) fun _ => 0) [_] [_, _, _] ⟨?_, ?_, ?_, trivial⟩ (ix3 0 k l) ?_
    · refine tap_piece 2 (by decide) (by decide) _ fun l => (tap2hi (tile h t) (uv_blk h t) _ _).trans ?_
      exact plus (by pointwise [k0_pay10])
    · refine tap_piece 1 (by decide) (by decide) _ fun l => (tap1hi (tile h t) ?_ (uv_blk h t) _ _).trans ?_
      · intro j l; refine Eq.trans ?_ (haloA t h0 (I.du (hi (sh t)) l) j); pointwise [k0_pay11]
      exact plus (by pointwise [k0_pay10])
    · refine tap_piece 0 (by decide) (by decide) _ fun l => (tap0hi (tile h t) ?_ (uv_blk h t) _ _).trans ?_
      · intro j l; refine Eq.trans ?_ (haloA t h0 (I.du (hi (sh t)) l) j); pointwise [k0_pay11]
      exact plus (by pointwise [k0_pay10])
    · exact View.cover_of_tiled_head _ _ _ rfl _
  · rw [outsAt0_B m c t h0]; frame_out
    refine View.canon_append_of_piecesOf (Val := Elt Ideal) (e := .f32) (tapG I t (hi (sh t)) (outsAt0 m c (t.val - 1) (lt_prev t)).2.2.2.2.2.2.2.2.1) [] [_, _, _] ⟨?_, ?_, ?_, trivial⟩ (ix3 0 k l) ?_
    · refine tap_piece 2 (by decide) (by decide) _ fun l => (tap2hi (tile h t) (uv_blk h t) _ _).trans ?_
      exact plus (by pointwise)
    · refine tap_piece 1 (by decide) (by decide) _ fun l => (tap1hi (tile h t) ?_ (uv_blk h t) _ _).trans ?_
      · intro j l; refine Eq.trans ?_ ((haloB h t h0 j l).2); pointwise; exact congrFun (read_unread_whole _ _ _) _
      exact plus (by pointwise)
    · refine tap_piece 0 (by decide) (by decide) _ fun l => (tap0hi (tile h t) ?_ (uv_blk h t) _ _).trans ?_
      · intro j l; refine Eq.trans ?_ ((haloB h t h0 j l).2); pointwise; exact congrFun (read_unread_whole _ _ _) _
      exact plus (by pointwise)
    · exact View.cover_of_tiled_head _ _ _ rfl _

/-- The gate's expanded rows' gradient at every point. -/
theorem dp10 (t : Fin cfg0.N) (r : Fin 1024) (l : Fin 704) : (show FVec Ideal S1x1024x704 .bf16 from (outsAt0 m c t.val t.isLt).2.1) (ix3 0 r l) = I.dp (lo (sh t)) (rowAt t r) l := by
  by_cases h0 : t.val % 16 = 0
  · rw [outsAt0_A m c t h0]; frame_out
    simp (decide := true) only [↓View.readCov_skip, ↓View.readCov_fill]
    refine dpg_pay (tile h t) (half (cg_blk h t) ?_ ?_ ?_ ?_) r l
    · intro j l; refine Eq.trans ?_ (haloA t h0 (I.du (lo (sh t)) l) j); pointwise [k0_pay11]
    iterate 3 · intro l; pointwise
  · rw [outsAt0_B m c t h0]; frame_out
    refine dpg_pay (tile h t) (half (cg_blk h t) ?_ ?_ ?_ ?_) r l
    · intro j l; refine Eq.trans ?_ ((haloB h t h0 j l).1); pointwise; exact congrFun (read_unread_whole _ _ _) _
    iterate 3 · intro l; pointwise

/-- The value's expanded rows' gradient at every point. -/
theorem dp11 (t : Fin cfg0.N) (r : Fin 1024) (l : Fin 704) : (show FVec Ideal S1x1024x704 .bf16 from (outsAt0 m c t.val t.isLt).2.2.1) (ix3 0 r l) = I.dp (hi (sh t)) (rowAt t r) l := by
  by_cases h0 : t.val % 16 = 0
  · rw [outsAt0_A m c t h0]; frame_out
    simp (decide := true) only [↓View.readCov_skip, ↓View.readCov_fill]
    refine dpv_pay (tile h t) (half (cv_blk h t) ?_ ?_ ?_ ?_) r l
    · intro j l; refine Eq.trans ?_ (haloA t h0 (I.du (hi (sh t)) l) j); pointwise [k0_pay11]
    iterate 3 · intro l; pointwise
  · rw [outsAt0_B m c t h0]; frame_out
    refine dpv_pay (tile h t) (half (cv_blk h t) ?_ ?_ ?_ ?_) r l
    · intro j l; refine Eq.trans ?_ ((haloB h t h0 j l).2); pointwise; exact congrFun (read_unread_whole _ _ _) _
    iterate 3 · intro l; pointwise

omit h in
/-- A point's run of tiles covers the array's rows. -/
theorem acc (f : (n : ℕ) → n < cfg0.N → EReal) (F : Fin 4 → Fin 16384 → EReal)
    (hs : ∀ t : Fin cfg0.N, (t.val % 16 = 0 → f t.val t.isLt = 0 + ∑ r : Fin 1024, F (sh t) (rowAt t r))
      ∧ (¬ t.val % 16 = 0 → f t.val t.isLt = f (t.val - 1) (lt_prev t) + ∑ r : Fin 1024, F (sh t) (rowAt t r)))
    (t : Fin cfg0.N) (ht : t.val % 16 = 15) : f t.val t.isLt = ∑ r : Fin 16384, F (sh t) r := by
  rw [Pipeline.eq_sum_fin_of_reset_step_of_flush f 16 0 (fun t => ∑ r : Fin 1024, F (sh t) (rowAt t r)) (fun t => (hs t).1) (fun t => (hs t).2) t ht, zero_add,
    ← Equiv.sum_comp Fin.revPerm]
  refine Fin.sum_mul_add_congr (S := 16) (n := 1024) fun i k hl => ?_
  have e1 : sh ⟨16 * (t.val / 16) + (Fin.revPerm i).val, Pipeline.run_point_lt_of_flush t ht _⟩ = sh t := Fin.ext (by simp only [sh, Fin.revPerm_apply, Fin.val_rev]; omega)
  rw [e1]
  exact congrArg (F (sh t)) (Fin.ext (by simp only [rowAt, Fin.revPerm_apply, Fin.val_rev]; omega))

/-- The gate's expanded rows' gradient. -/
theorem at10 (t : Fin cfg0.N) (y : S1x1024x704.Idx) (j : S4x16384x704.Idx) (h0 : (j 0 : ℕ) = t.val / 16) (h1 : (j 1 : ℕ) = (15 - t.val % 16) * 1024 + (y 1 : ℕ)) (h2 : (j 2 : ℕ) = (y 2 : ℕ)) :
    (outsAt0 m c t.val t.isLt).2.1 y = arr3 (fun s r l => I.dp (lo s) r l) j := by
  idx_vars y
  idx_vars j
  obtain rfl := y0.eq_zero
  obtain rfl : j0 = sh t := Fin.ext h0
  obtain rfl : j2 = y2 := Fin.ext h2
  obtain rfl : j1 = rowAt t y1 := Fin.ext h1
  exact dp10 h t y1 j2

/-- The array after the run. -/
theorem final10 : (dats m 0 c).arrAt 10 (cfgs 0).N = arr3 (fun s r l => I.dp (lo s) r l) := by
  refine (dats m 0 c).arrAt_eq_of_covers 10 _ (by decide +kernel) fun t _ y => ?_
  blk_simp
  rw [after0_10]
  refine at10 h t y _ ?_ ?_ ?_ <;> (blk_simp [idx t] <;> try omega)

/-- The value's expanded rows' gradient. -/
theorem at11 (t : Fin cfg0.N) (y : S1x1024x704.Idx) (j : S4x16384x704.Idx) (h0 : (j 0 : ℕ) = t.val / 16) (h1 : (j 1 : ℕ) = (15 - t.val % 16) * 1024 + (y 1 : ℕ)) (h2 : (j 2 : ℕ) = (y 2 : ℕ)) :
    (outsAt0 m c t.val t.isLt).2.2.1 y = arr3 (fun s r l => I.dp (hi s) r l) j := by
  idx_vars y
  idx_vars j
  obtain rfl := y0.eq_zero
  obtain rfl : j0 = sh t := Fin.ext h0
  obtain rfl : j2 = y2 := Fin.ext h2
  obtain rfl : j1 = rowAt t y1 := Fin.ext h1
  exact dp11 h t y1 j2

/-- The array after the run. -/
theorem final11 : (dats m 0 c).arrAt 11 (cfgs 0).N = arr3 (fun s r l => I.dp (hi s) r l) := by
  refine (dats m 0 c).arrAt_eq_of_covers 11 _ (by decide +kernel) fun t _ y => ?_
  blk_simp
  rw [after0_11]
  refine at11 h t y _ ?_ ?_ ?_ <;> (blk_simp [idx t] <;> try omega)

omit h in
/-- Such a result at the end of a column block's run. -/
theorem run_at {b d : ℕ} {f : (n : ℕ) → n < cfg0.N → (⟨3, ![1, b, d]⟩ : Shape).Idx → EReal} {F : Fin 4 → Fin b → Fin d → Fin 16384 → EReal} (hs : Steps f F) (t : Fin cfg0.N) (ht : t.val % 16 = 15)
    (y : (⟨3, ![1, b, d]⟩ : Shape).Idx) (j : (⟨3, ![4, b, d]⟩ : Shape).Idx) (h0 : (j 0 : ℕ) = t.val / 16) (h1 : (j 1 : ℕ) = (y 1 : ℕ)) (h2 : (j 2 : ℕ) = (y 2 : ℕ)) :
    f t.val t.isLt y = arr3 (fun s p q => ∑ r : Fin 16384, F s p q r) j := by
  obtain ⟨y0, y1, y2, rfl⟩ : ∃ a b c, y = ix3 a b c := ⟨y 0, y 1, y 2, by funext i; fin_cases i <;> rfl⟩
  obtain ⟨j0, j1, j2, rfl⟩ : ∃ a b c, j = ix3 a b c := ⟨j 0, j 1, j 2, by funext i; fin_cases i <;> rfl⟩
  obtain rfl := y0.eq_zero
  obtain rfl : j0 = sh t := Fin.ext h0
  obtain rfl : j2 = y2 := Fin.ext h2
  obtain rfl : j1 = y1 := Fin.ext h1
  exact acc (fun n hn => f n hn (ix3 0 j1 j2)) (fun s r => F s j1 j2 r) (fun t => hs t j1 j2) t ht

/-- The contracting weights' gradient. -/
theorem final9 : (dats m 0 c).arrAt 9 (cfgs 0).N = arr3 I.dwd := by
  refine (dats m 0 c).arrAt_eq_of_covers 9 _ (by decide +kernel) fun t hf y => ?_
  blk_simp
  rw [after0_9]
  refine run_at (step9 h) t ((flush0_9 t).mp hf) y _ ?_ ?_ ?_ <;> (blk_simp [idx t] <;> try omega)

/-- The gate's expanding weights' gradient. -/
theorem final12 : (dats m 0 c).arrAt 12 (cfgs 0).N = arr3 (fun s k l => I.dwu (lo s) k l) := by
  refine (dats m 0 c).arrAt_eq_of_covers 12 _ (by decide +kernel) fun t hf y => ?_
  blk_simp
  rw [after0_12]
  refine run_at (step12 h) t ((flush0_12 t).mp hf) y _ ?_ ?_ ?_ <;> (blk_simp [idx t] <;> try omega)

/-- The value's expanding weights' gradient. -/
theorem final13 : (dats m 0 c).arrAt 13 (cfgs 0).N = arr3 (fun s k l => I.dwu (hi s) k l) := by
  refine (dats m 0 c).arrAt_eq_of_covers 13 _ (by decide +kernel) fun t hf y => ?_
  blk_simp
  rw [after0_13]
  refine run_at (step13 h) t ((flush0_13 t).mp hf) y _ ?_ ?_ ?_ <;> (blk_simp [idx t] <;> try omega)

/-- The gate's bias's gradient. -/
theorem final14 : (dats m 0 c).arrAt 14 (cfgs 0).N = arr3 (fun s k l => I.dcb (lo s) k l) := by
  refine (dats m 0 c).arrAt_eq_of_covers 14 _ (by decide +kernel) fun t hf y => ?_
  blk_simp
  rw [after0_14]
  refine run_at (step14 h) t ((flush0_14 t).mp hf) y _ ?_ ?_ ?_ <;> (blk_simp [idx t] <;> try omega)

/-- The value's bias's gradient. -/
theorem final15 : (dats m 0 c).arrAt 15 (cfgs 0).N = arr3 (fun s k l => I.dcb (hi s) k l) := by
  refine (dats m 0 c).arrAt_eq_of_covers 15 _ (by decide +kernel) fun t hf y => ?_
  blk_simp
  rw [after0_15]
  refine run_at (step15 h) t ((flush0_15 t).mp hf) y _ ?_ ?_ ?_ <;> (blk_simp [idx t] <;> try omega)

/-- The gate's taps' gradients. -/
theorem final16 : (dats m 0 c).arrAt 16 (cfgs 0).N = arr3 (fun s k l => I.dcw (lo s) k l) := by
  refine (dats m 0 c).arrAt_eq_of_covers 16 _ (by decide +kernel) fun t hf y => ?_
  blk_simp
  rw [after0_16]
  refine run_at (step16 h) t ((flush0_16 t).mp hf) y _ ?_ ?_ ?_ <;> (blk_simp [idx t] <;> try omega)

/-- The value's taps' gradients. -/
theorem final17 : (dats m 0 c).arrAt 17 (cfgs 0).N = arr3 (fun s k l => I.dcw (hi s) k l) := by
  refine (dats m 0 c).arrAt_eq_of_covers 17 _ (by decide +kernel) fun t hf y => ?_
  blk_simp
  rw [after0_17]
  refine run_at (step17 h) t ((flush0_17 t).mp hf) y _ ?_ ?_ ?_ <;> (blk_simp [idx t] <;> try omega)

end Cert.Kernel6Ideal.Bwd

end
-- ==== Proof.FfnClaim.lean ====
/- The feed-forward block's backward pass: the reference's arrays, and the claim on finite arguments. -/
module

public import proofs.«01_k».proof.Proof.Gen.Reference6Ideal.Run
public import proofs.«01_k».proof.Proof.NormBwd
public import proofs.«01_k».proof.Proof.AttnRef
public import proofs.«01_k».proof.Defs
public import proofs.«01_k».proof.Proof.FfnBwd
public import proofs.«01_k».proof.Proof.Pre
public import Idealize.ShloMosaic.Lib.Claim

@[expose] public section

set_option maxRecDepth 16384

noncomputable section

open Idealize.ShloMosaic Idealize.ShloMosaic.TcCoe Idealize.SL.Sem
namespace Cert.Reference6Ideal.Ffn

open Cert.Reference6Ideal Cert.Reference6Ideal.Gen Cert.Reference6Ideal.Value Cert.Ffn
open Cert.Tok (col)

/-- Shapes: tokens by expanded columns, -/
abbrev Up : Type := FVec Ideal S16384x5632 .f32
/-- the same under two rows of zeros, -/
abbrev Long : Type := FVec Ideal S16386x5632 .f32
/-- tokens by half the columns, -/
abbrev Half : Type := FVec Ideal S16384x2816 .f32
/-- tokens, -/
abbrev Tok : Type := FVec Ideal S16384x1024 .f32
/-- one entry per expanded column, -/
abbrev Line : Type := FVec Ideal S5632 .f32
/-- the taps. -/
abbrev Taps : Type := FVec Ideal S1x3x5632 .f32

/-- Zero, alone. -/
abbrev nil : FVec Ideal S_ .f32 := constant S_ .f32 0x00000000#32
/-- One, everywhere. -/
abbrev one : Half := broadcastInDim S16384x2816 ![] bcast_S_S16384x2816 (constant S_ .f32 0x3F800000#32)

/-- The expanded rows. -/
def up (h : Tok) (w : FVec Ideal S1x1024x5632 .f32) : Up :=
  Host.dotGeneral dot_S16384x1024_S1024x5632_S16384x5632_1_0_0_1_n_n none h (shapeCast _ w shapeCasts_S1x1024x5632_S1024x5632)
/-- Two rows of zeros before them. -/
def long (a : Up) : Long := concatenate S16386x5632 0 [⟨S2x5632, broadcastInDim S2x5632 ![] bcast_S_S2x5632 nil⟩, ⟨S16384x5632, a⟩] concatenates_S2x5632_S16384x5632_S16386x5632_d0
/-- Two rows earlier, -/
def s0 (p : Long) : Up := extractStridedSlice S16384x5632 ![0, 0] p slices_S16386x5632_S16384x5632_0_0
/-- one row earlier, -/
def s1 (p : Long) : Up := extractStridedSlice S16384x5632 ![1, 0] p slices_S16386x5632_S16384x5632_1_0
/-- the row itself. -/
def s2 (p : Long) : Up := extractStridedSlice S16384x5632 ![2, 0] p slices_S16386x5632_S16384x5632_2_0
/-- A tap along the tokens. -/
def wide (t : FVec Ideal S1x5632 .f32) : Up :=
  broadcastInDim S16384x5632 ![0, 1] bcast_S1x5632_S16384x5632_0_1 (broadcastInDim S1x5632 ![1] bcast_S5632_S1x5632_1 (shapeCast _ t shapeCasts_S1x5632_S5632))
/-- The taps in turn. -/
def t0 (w : Taps) : Up := wide (extractStridedSlice S1x5632 ![0, 0] (shapeCast _ w shapeCasts_S1x3x5632_S3x5632) slices_S3x5632_S1x5632_0_0)
@[inherit_doc t0] def t1 (w : Taps) : Up := wide (extractStridedSlice S1x5632 ![1, 0] (shapeCast _ w shapeCasts_S1x3x5632_S3x5632) slices_S3x5632_S1x5632_1_0)
@[inherit_doc t0] def t2 (w : Taps) : Up := wide (extractStridedSlice S1x5632 ![2, 0] (shapeCast _ w shapeCasts_S1x3x5632_S3x5632) slices_S3x5632_S1x5632_2_0)
/-- The convolved rows. -/
def cv (b : FVec Ideal S1x5632 .f32) (w : Taps) (p : Long) : Up :=
  addf (addf (addf (wide b) (mulf (t0 w) (s0 p))) (mulf (t1 w) (s1 p))) (mulf (t2 w) (s2 p))
/-- The gates, -/
def gate (u : Up) : Half := extractStridedSlice S16384x2816 ![0, 0] u slices_S16384x5632_S16384x2816_0_0
/-- and the values. -/
def val (u : Up) : Half := extractStridedSlice S16384x2816 ![0, 2816] u slices_S16384x5632_S16384x2816_0_2816
/-- The logistic function. -/
def lg (g : Half) : Half := Host.divf one (addf one (Host.exp (Host.negf g)))
/-- The gated product's cotangent. -/
def da (df : Tok) (wd : FVec Ideal S1x2816x1024 .f32) : Half :=
  Host.dotGeneral dot_S16384x1024_S2816x1024_S16384x2816_1_1_0_0_n_n none df (shapeCast _ wd shapeCasts_S1x2816x1024_S2816x1024)
/-- The gate's cotangent. -/
def dg (a g v : Half) : Half := addf (mulf (mulf a v) (lg g)) (mulf (mulf g (mulf a v)) (mulf (lg g) (subf one (lg g))))
/-- Both cotangents side by side. -/
def du (a g v : Half) : Up :=
  addf (pad S16384x5632 ![0, 2816] ![0, 0] ![0, 0] (mulf (mulf g (lg g)) a) nil pads_S16384x2816_S16384x5632_000_281600 h_S_)
    (pad S16384x5632 ![0, 0] ![0, 2816] ![0, 0] (dg a g v) nil pads_S16384x2816_S16384x5632_000_028160 h_S_)
/-- The convolution's backward pass. -/
def bk (w : Taps) (d : Up) : Up :=
  s2 (addf (addf (pad S16386x5632 ![2, 0] ![0, 0] ![0, 0] (mulf (t2 w) d) nil pads_S16384x5632_S16386x5632_200_000 h_S_)
    (pad S16386x5632 ![1, 0] ![1, 0] ![0, 0] (mulf (t1 w) d) nil pads_S16384x5632_S16386x5632_110_000 h_S_))
    (pad S16386x5632 ![0, 0] ![2, 0] ![0, 0] (mulf (t0 w) d) nil pads_S16384x5632_S16386x5632_020_000 h_S_))
/-- The sum over the tokens. -/
def tot (x : Up) : FVec Ideal S1x5632 .f32 :=
  broadcastInDim S1x5632 ![1] bcast_S5632_S1x5632_1 (Host.reduceAdd (shapeCast _ (Host.reduceAdd x nil reducesTo_S16384x5632_S5632_d0 h_S_) shapeCasts_S5632_S1x5632) nil reducesTo_S1x5632_S5632_d0 h_S_)
/-- The taps' gradients, one above the other. -/
def taps (e0 e1 e2 : FVec Ideal S1x5632 .f32) : FVec Ideal S3x5632 .f32 :=
  addf (addf (pad S3x5632 ![2, 0] ![0, 0] ![0, 0] e2 nil pads_S1x5632_S3x5632_200_000 h_S_)
    (pad S3x5632 ![1, 0] ![1, 0] ![0, 0] e1 nil pads_S1x5632_S3x5632_110_000 h_S_))
    (pad S3x5632 ![0, 0] ![2, 0] ![0, 0] e0 nil pads_S1x5632_S3x5632_020_000 h_S_)
/-- Columns by blocks. -/
def blocks (x : Up) : FVec Ideal S8x16384x704 .f32 :=
  transpose S8x16384x704 [1, 0, 2] (shapeCast _ x shapeCasts_S16384x5632_S16384x8x704) transposes_S16384x8x704_S8x16384x704_1_0_2

theorem up_at (h : Tok) (w : FVec Ideal S1x1024x5632 .f32) (r : Fin 16384) (c : Fin 5632) : up h w (ix2 r c) = ∑ k : Fin 1024, h (ix2 r k) * w (ix3 0 k c) := by
  unfold up; pointwise

theorem s0_at (a : Up) (r : Fin 16384) (c : Fin 5632) : s0 (long a) (ix2 r c) = lag (fun r => a (ix2 r c)) 2 r := by
  unfold s0 long lag; pointwise
  by_cases h : r.val < 2
  · rw [dif_pos h, dif_neg (by omega)]
  · rw [dif_neg h, dif_pos (by omega)]

theorem s1_at (a : Up) (r : Fin 16384) (c : Fin 5632) : s1 (long a) (ix2 r c) = lag (fun r => a (ix2 r c)) 1 r := by
  unfold s1 long lag; pointwise
  by_cases h : 1 + r.val < 2
  · rw [dif_pos h, dif_neg (by omega)]
  · rw [dif_neg h, dif_pos (by omega)]
    exact congrArg (fun q => a (ix2 q c)) (Fin.ext (show 1 + r.val - 2 = r.val - 1 by omega))

theorem s2_at (a : Up) (r : Fin 16384) (c : Fin 5632) : s2 (long a) (ix2 r c) = a (ix2 r c) := by
  unfold s2 long; pointwise

theorem t0_at (w : Taps) (r : Fin 16384) (c : Fin 5632) : t0 w (ix2 r c) = w (ix3 0 0 c) := by
  unfold t0 wide; pointwise
theorem t1_at (w : Taps) (r : Fin 16384) (c : Fin 5632) : t1 w (ix2 r c) = w (ix3 0 1 c) := by
  unfold t1 wide; pointwise
theorem t2_at (w : Taps) (r : Fin 16384) (c : Fin 5632) : t2 w (ix2 r c) = w (ix3 0 2 c) := by
  unfold t2 wide; pointwise

theorem cv_at (b : FVec Ideal S1x5632 .f32) (w : Taps) (a : Up) (r : Fin 16384) (c : Fin 5632) :
    cv b w (long a) (ix2 r c) = conv (b (ix2 0 c)) (w (ix3 0 0 c)) (w (ix3 0 1 c)) (w (ix3 0 2 c)) (fun r => a (ix2 r c)) r := by
  unfold cv wide; pointwise [s0_at, s1_at, s2_at, t0_at, t1_at, t2_at]
  rfl

theorem gate_at (u : Up) (r : Fin 16384) (s : Fin 4) (l : Fin 704) : gate u (ix2 r (row s l)) = u (ix2 r (col (lo s) l)) := by
  unfold gate; pointwise
  rfl

theorem val_at (u : Up) (r : Fin 16384) (s : Fin 4) (l : Fin 704) : val u (ix2 r (row s l)) = u (ix2 r (col (hi s) l)) := by
  unfold val; pointwise
  exact congrArg (fun q => u (ix2 r q)) (Fin.ext (show 2816 + (s.val * 704 + l.val) = (s.val + 4) * 704 + l.val by omega))

theorem lg_at (g : Half) (j : S16384x2816.Idx) : lg g j = lgs (g j) := by
  unfold lg lgs; pointwise
  rw [sub_eq_add_neg, zero_add]

theorem da_at (df : Tok) (wd : FVec Ideal S1x2816x1024 .f32) (r : Fin 16384) (q : Fin 2816) : da df wd (ix2 r q) = ∑ d : Fin 1024, df (ix2 r d) * wd (ix3 0 q d) := by
  unfold da; pointwise

theorem du_lo_at (a g v : Half) (r : Fin 16384) (s : Fin 4) (l : Fin 704) : du a g v (ix2 r (col (lo s) l)) = dg a g v (ix2 r (row s l)) := by
  unfold du; pointwise
  have h : (col (lo s) l).val < 2816 := (row s l).isLt
  rw [dif_neg (by omega), dif_pos h, zero_add]
  rfl

theorem du_hi_at (a g v : Half) (r : Fin 16384) (s : Fin 4) (l : Fin 704) : du a g v (ix2 r (col (hi s) l)) = g (ix2 r (row s l)) * lgs (g (ix2 r (row s l))) * a (ix2 r (row s l)) := by
  unfold du; pointwise [lg_at]
  have e : (col (hi s) l).val = 2816 + (row s l).val := show (s.val + 4) * 704 + l.val = 2816 + (s.val * 704 + l.val) by omega
  have h := (row s l).isLt
  rw [dif_pos (by omega), dif_neg (by omega), add_zero]
  have q : (⟨(col (hi s) l).val - 2816, by omega⟩ : Fin 2816) = row s l := Fin.ext (show (col (hi s) l).val - 2816 = (row s l).val by omega)
  exact congrArg (fun q => g (ix2 r q) * lgs (g (ix2 r q)) * a (ix2 r q)) q

theorem bk_at (w : Taps) (d : Up) (r : Fin 16384) (c : Fin 5632) : bk w d (ix2 r c) = back (w (ix3 0 0 c)) (w (ix3 0 1 c)) (w (ix3 0 2 c)) (fun r => d (ix2 r c)) r := by
  unfold bk s2 back lead; pointwise [t0_at, t1_at, t2_at]
  refine congrArg₂ (fun x y : EReal => x + y) (congrArg₂ (fun x y : EReal => x + y) rfl ?_) ?_
  · by_cases h : r.val + 1 < 16384
    · rw [dif_pos (by omega), dif_pos h]
      exact congrArg (fun q => w (ix3 0 1 c) * d (ix2 q c)) (Fin.ext (show 2 + r.val - 1 = r.val + 1 by omega))
    · rw [dif_neg (by omega), dif_neg h, mul_zero]
  · by_cases h : r.val + 2 < 16384
    · rw [dif_pos (by omega), dif_pos h]
      exact congrArg (fun q => w (ix3 0 0 c) * d (ix2 q c)) (Fin.ext (show 2 + r.val = r.val + 2 by omega))
    · rw [dif_neg (by omega), dif_neg h, mul_zero]

theorem tot_at (x : Up) (i : Fin 1) (c : Fin 5632) : tot x (ix2 i c) = ∑ r : Fin 16384, x (ix2 r c) := by
  unfold tot; pointwise
  exact Fin.sum_univ_one _

theorem taps_at (e0 e1 e2 : FVec Ideal S1x5632 .f32) (c : Fin 5632) (k : Fin 3) : taps e0 e1 e2 (ix2 k c) = (if k.val = 0 then e0 else if k.val = 1 then e1 else e2) (ix2 0 c) := by
  unfold taps; fin_cases k <;> pointwise
  all_goals first | rfl | trace_state

theorem blocks_at (x : Up) (n : Fin 8) (r : Fin 16384) (l : Fin 704) : blocks x (ix3 n r l) = x (ix2 r (col n l)) := by
  unfold blocks; pointwise
  rfl

/-- A real number. -/
def Fine (x : EReal) : Prop := ∃ a : ℝ, x = a

theorem Fine.of {x : EReal} (h : x ≠ ⊤ ∧ x ≠ ⊥) : Fine x := ⟨x.toReal, (EReal.coe_toReal h.1 h.2).symm⟩
theorem Fine.add {x y : EReal} : Fine x → Fine y → Fine (x + y) := fun ⟨a, ha⟩ ⟨b, hb⟩ => ⟨a + b, by rw [ha, hb, EReal.coe_add]⟩
theorem Fine.mul {x y : EReal} : Fine x → Fine y → Fine (x * y) := fun ⟨a, ha⟩ ⟨b, hb⟩ => ⟨a * b, by rw [ha, hb, EReal.coe_mul]⟩
theorem Fine.sum {n : ℕ} {f : Fin n → EReal} (h : ∀ k, Fine (f k)) : Fine (∑ k, f k) := by
  choose g hg using h
  exact ⟨∑ k, g k, by rw [Cert.Norm.coe_sum]; exact Finset.sum_congr rfl fun k _ => hg k⟩
theorem Fine.lag {f : Fin 16384 → EReal} (h : ∀ r, Fine (f r)) (j : ℕ) (r : Fin 16384) : Fine (Cert.Ffn.lag f j r) := by
  unfold Cert.Ffn.lag
  by_cases e : j ≤ r.val
  · rw [dif_pos e]; exact h _
  · rw [dif_neg e]; exact ⟨0, rfl⟩

/-- The two spellings of the gate's cotangent on real numbers. -/
theorem gate_eq {a g v : EReal} (ha : Fine a) (hg : Fine g) (hv : Fine v) : a * v * lgs g + g * (a * v) * (lgs g * (1 - lgs g)) = dGate a g v := by
  obtain ⟨a, rfl⟩ := ha
  obtain ⟨g, rfl⟩ := hg
  obtain ⟨v, rfl⟩ := hv
  have e : lgs (g : EReal) = ((1 / (1 + Real.exp (-g)) : ℝ) : EReal) := by
    unfold lgs
    rw [sub_eq_add_neg, zero_add, ← EReal.coe_neg, Ideal.exp_coe]
    exact Cert.Kernel2Ideal.Attn.inv_one_add (-g)
  unfold dGate
  rw [e]
  simp only [← EReal.coe_one, ← EReal.coe_mul, ← EReal.coe_add, ← EReal.coe_sub]
  congr 1
  ring

section Results

variable (h : Tok) (wu : FVec Ideal S1x1024x5632 .f32) (w : Taps) (b : FVec Ideal S1x5632 .f32) (wd : FVec Ideal S1x2816x1024 .f32) (df : Tok)

/-- Every argument is an array of real numbers. -/
structure Reals : Prop where
  /-- the block's input, -/
  h : ∀ i, Fine (h i)
  /-- the expanding weights, -/
  wu : ∀ i, Fine (wu i)
  /-- the taps, -/
  w : ∀ i, Fine (w i)
  /-- the bias, -/
  b : ∀ i, Fine (b i)
  /-- the contracting weights, -/
  wd : ∀ i, Fine (wd i)
  /-- the cotangent. -/
  df : ∀ i, Fine (df i)

/-- The convolved rows, from the arguments. -/
def u : Up := cv b w (long (up h wu))
/-- Their cotangent. -/
def d : Up := du (da df wd) (gate (u h wu w b)) (val (u h wu w b))

theorem u_at (r : Fin 16384) (c : Fin 5632) : u h wu w b (ix2 r c) = (ins h wu w b wd df).cv c r := by
  unfold u; rw [cv_at]
  unfold Ins.cv Ins.up ins
  simp only [up_at]

theorem fine_cv (R : Reals h wu w b wd df) (c : Fin 5632) (r : Fin 16384) : Fine ((ins h wu w b wd df).cv c r) := by
  have U : ∀ r, Fine ((ins h wu w b wd df).up c r) := fun r => Fine.sum fun k => (R.h _).mul (R.wu _)
  exact (((R.b _).add ((R.w _).mul (Fine.lag U _ _))).add ((R.w _).mul (Fine.lag U _ _))).add ((R.w _).mul (U r))

theorem d_at (R : Reals h wu w b wd df) (n : Fin 8) (l : Fin 704) (r : Fin 16384) : d h wu w b wd df (ix2 r (col n l)) = (ins h wu w b wd df).du n l r := by
  by_cases hn : n.val < 4
  · have e : n = lo ⟨n.val, hn⟩ := rfl
    rw [e, Ins.du_lo]
    unfold d
    rw [du_lo_at]
    unfold dg
    pointwise [lg_at, gate_at, val_at, u_at h wu w b wd df, da_at]
    exact gate_eq (Fine.sum fun k => (R.df _).mul (R.wd _)) (fine_cv h wu w b wd df R _ _) (fine_cv h wu w b wd df R _ _)
  · have e : n = hi ⟨n.val - 4, by omega⟩ := Fin.ext (show n.val = n.val - 4 + 4 by omega)
    rw [e, Ins.du_hi]
    unfold d
    rw [du_hi_at, gate_at, u_at h wu w b wd df, da_at]
    exact mul_comm _ _

theorem dp_at (R : Reals h wu w b wd df) (n : Fin 8) (l : Fin 704) (r : Fin 16384) : bk w (d h wu w b wd df) (ix2 r (col n l)) = (ins h wu w b wd df).dp n r l := by
  rw [bk_at]
  exact congrArg (fun f => back _ _ _ f r) (funext fun r => d_at h wu w b wd df R n l r)

/-- The gates' columns of the expanded rows' gradient, -/
def r0 : FVec Ideal S4x16384x704 .f32 := extractStridedSlice S4x16384x704 ![0, 0, 0] (blocks (bk w (d h wu w b wd df))) slices_S8x16384x704_S4x16384x704_0_0_0
/-- the values', -/
def r1 : FVec Ideal S4x16384x704 .f32 := extractStridedSlice S4x16384x704 ![4, 0, 0] (blocks (bk w (d h wu w b wd df))) slices_S8x16384x704_S4x16384x704_4_0_0
/-- the contracting weights', -/
def r2 : FVec Ideal S4x704x1024 .f32 :=
  shapeCast _ (shapeCast _ (broadcastInDim S1x2816x1024 ![1, 2] bcast_S2816x1024_S1x2816x1024_1_2 (transpose S2816x1024 [1, 0]
    (Host.dotGeneral (φ₁ := .f32) (φ₂ := .f32) dot_S16384x1024_S16384x2816_S1024x2816_0_0_1_1_n_n none df (mulf (mulf (gate (u h wu w b)) (lg (gate (u h wu w b)))) (val (u h wu w b))))
    transposes_S1024x2816_S2816x1024_1_0)) shapeCasts_S1x2816x1024_S2816x1024) shapeCasts_S2816x1024_S4x704x1024
/-- the expanding weights', -/
def r3 : FVec Ideal S8x1024x704 .f32 :=
  transpose S8x1024x704 [1, 0, 2] (shapeCast _ (shapeCast _ (broadcastInDim S1x1024x5632 ![1, 2] bcast_S1024x5632_S1x1024x5632_1_2 (transpose S1024x5632 [1, 0]
    (Host.dotGeneral (φ₁ := .f32) (φ₂ := .f32) dot_S16384x5632_S16384x1024_S5632x1024_0_0_1_1_n_n none (bk w (d h wu w b wd df)) h)
    transposes_S5632x1024_S1024x5632_1_0)) shapeCasts_S1x1024x5632_S1024x5632) shapeCasts_S1024x5632_S1024x8x704) transposes_S1024x8x704_S8x1024x704_1_0_2
/-- the bias's, -/
def r4 : FVec Ideal S8x1x704 .f32 := shapeCast _ (tot (d h wu w b wd df)) shapeCasts_S1x5632_S8x1x704
/-- the taps'. -/
def r5 : FVec Ideal S8x3x704 .f32 :=
  transpose S8x3x704 [1, 0, 2] (shapeCast _ (shapeCast _ (broadcastInDim S1x3x5632 ![1, 2] bcast_S3x5632_S1x3x5632_1_2
    (taps (tot (mulf (d h wu w b wd df) (s0 (long (up h wu))))) (tot (mulf (d h wu w b wd df) (s1 (long (up h wu))))) (tot (mulf (d h wu w b wd df) (s2 (long (up h wu)))))))
    shapeCasts_S1x3x5632_S3x5632) shapeCasts_S3x5632_S3x8x704) transposes_S3x8x704_S8x3x704_1_0_2

theorem r0_at (R : Reals h wu w b wd df) : r0 h wu w b wd df = arr3 fun s r l => (ins h wu w b wd df).dp (lo s) r l := by
  refine ext3 fun s r l => ?_
  unfold r0; pointwise
  exact (blocks_at _ (lo s) r l).trans (dp_at h wu w b wd df R (lo s) l r)

theorem r1_at (R : Reals h wu w b wd df) : r1 h wu w b wd df = arr3 fun s r l => (ins h wu w b wd df).dp (hi s) r l := by
  refine ext3 fun s r l => ?_
  unfold r1; pointwise
  have e : (⟨4 + s.val, by omega⟩ : Fin 8) = hi s := Fin.ext (Nat.add_comm _ _)
  exact (congrArg (fun q => blocks _ (ix3 q r l)) e).trans ((blocks_at _ (hi s) r l).trans (dp_at h wu w b wd df R (hi s) l r))

theorem r2_at : r2 h wu w b df = arr3 (ins h wu w b wd df).dwd := by
  refine ext3 fun s l k => ?_
  unfold r2; pointwise
  have e : (⟨s.val * 704 + l.val, by omega⟩ : Fin 2816) = row s l := rfl
  rw [e]
  simp only [lg_at, gate_at, val_at, u_at h wu w b wd df, mul_comm (df _)]
  rfl

theorem r3_at (R : Reals h wu w b wd df) : r3 h wu w b wd df = arr3 (ins h wu w b wd df).dwu := by
  refine ext3 fun n k l => ?_
  unfold r3; pointwise
  have e : (⟨n.val * 704 + l.val, by omega⟩ : Fin 5632) = col n l := rfl
  rw [e]
  simp only [dp_at h wu w b wd df R, mul_comm _ (h _)]
  rfl

theorem r4_at (R : Reals h wu w b wd df) : r4 h wu w b wd df = arr3 (ins h wu w b wd df).dcb := by
  refine ext3 fun n i l => ?_
  unfold r4; pointwise
  refine (tot_at _ 0 (col n l)).trans ?_
  simp only [d_at h wu w b wd df R]
  rfl

theorem r5_at (R : Reals h wu w b wd df) : r5 h wu w b wd df = arr3 (ins h wu w b wd df).dcw := by
  refine ext3 fun n k l => ?_
  unfold r5; pointwise
  refine (taps_at _ _ _ (col n l) k).trans ?_
  unfold arr3 Ins.dcw
  rw [sum_lead]
  fin_cases k
  · refine (tot_at _ 0 (col n l)).trans (Finset.sum_congr rfl fun r _ => ?_)
    pointwise [d_at h wu w b wd df R n l r, s0_at, up_at]
    rfl
  · refine (tot_at _ 0 (col n l)).trans (Finset.sum_congr rfl fun r _ => ?_)
    pointwise [d_at h wu w b wd df R n l r, s1_at, up_at]
    rfl
  · refine (tot_at _ 0 (col n l)).trans (Finset.sum_congr rfl fun r _ => ?_)
    pointwise [d_at h wu w b wd df R n l r, s2_at, up_at]
    unfold lag
    rfl

end Results

section Run

variable (m : (ℓ : Loc nD τ sig) → Buf (Elt Ideal) ℓ) (c : Dev nD)

theorem eq0 : res_main_v89 m c = r0 (m (c.tc.loc main_arg0)) (m (c.tc.loc main_arg1)) (m (c.tc.loc main_arg2)) (m (c.tc.loc main_arg3)) (m (c.tc.loc main_arg4)) (m (c.tc.loc main_arg5)) := rfl
theorem eq1 : res_main_v90 m c = r1 (m (c.tc.loc main_arg0)) (m (c.tc.loc main_arg1)) (m (c.tc.loc main_arg2)) (m (c.tc.loc main_arg3)) (m (c.tc.loc main_arg4)) (m (c.tc.loc main_arg5)) := rfl
theorem eq2 : res_main_v92 m c = r2 (m (c.tc.loc main_arg0)) (m (c.tc.loc main_arg1)) (m (c.tc.loc main_arg2)) (m (c.tc.loc main_arg3)) (m (c.tc.loc main_arg5)) := rfl
theorem eq3 : res_main_v95 m c = r3 (m (c.tc.loc main_arg0)) (m (c.tc.loc main_arg1)) (m (c.tc.loc main_arg2)) (m (c.tc.loc main_arg3)) (m (c.tc.loc main_arg4)) (m (c.tc.loc main_arg5)) := rfl
theorem eq4 : res_main_v96 m c = r4 (m (c.tc.loc main_arg0)) (m (c.tc.loc main_arg1)) (m (c.tc.loc main_arg2)) (m (c.tc.loc main_arg3)) (m (c.tc.loc main_arg4)) (m (c.tc.loc main_arg5)) := rfl
theorem eq5 : res_main_v99 m c = r5 (m (c.tc.loc main_arg0)) (m (c.tc.loc main_arg1)) (m (c.tc.loc main_arg2)) (m (c.tc.loc main_arg3)) (m (c.tc.loc main_arg4)) (m (c.tc.loc main_arg5)) := rfl

end Run

end Cert.Reference6Ideal.Ffn

namespace Cert.Kernel6Ideal.Bwd

open Cert.Kernel6Ideal Cert.Kernel6Ideal.Gen Cert.Ffn
open Cert.Tok (col)

section Kernel

variable (m : (ℓ : Loc nD τ sig) → Buf (Elt Ideal) ℓ) (ρ : Dev nD → PrngReg) (c : Dev nD)

/-- The arguments' entries. -/
abbrev I : Ins := ins (m (c.tc.loc main_arg0)) (m (c.tc.loc main_arg1)) (m (c.tc.loc main_arg2)) (m (c.tc.loc main_arg3)) (m (c.tc.loc main_arg4)) (m (c.tc.loc main_arg5))

/-- Column blocks of a table of expanded rows. -/
def cut (x : FVec Ideal S16384x5632 .f32) : FVec Ideal S8x16384x704 .bf16 :=
  transpose S8x16384x704 [1, 0, 2] (shapeCast S16384x8x704 (truncf .bf16 x bitsLt_bf16_f32) shapeCasts_S16384x5632_S16384x8x704) transposes_S16384x8x704_S8x16384x704_1_0_2

theorem cut_at (x : FVec Ideal S16384x5632 .f32) (n : Fin 8) (r : Fin 16384) (l : Fin 704) : cut x (ix3 n r l) = x (ix2 r (col n l)) := by
  unfold cut; pointwise; rfl

/-- What the region reads. -/
theorem reads : Reads m c (I m c) where
  gv n r l := by
    have e : (show FVec Ideal S8x16384x704 .bf16 from V m c main_v34) = cut (Cert.Reference6Ideal.Ffn.u (m (c.tc.loc main_arg0)) (m (c.tc.loc main_arg1)) (m (c.tc.loc main_arg2)) (m (c.tc.loc main_arg3))) := rfl
    rw [e, cut_at]
    exact Cert.Reference6Ideal.Ffn.u_at (m (c.tc.loc main_arg0)) (m (c.tc.loc main_arg1)) (m (c.tc.loc main_arg2)) (m (c.tc.loc main_arg3)) (m (c.tc.loc main_arg4)) (m (c.tc.loc main_arg5)) r (col n l)
  up n r l := by
    have e : (show FVec Ideal S8x16384x704 .bf16 from V m c main_v31) = cut (Cert.Reference6Ideal.Ffn.up (m (c.tc.loc main_arg0)) (m (c.tc.loc main_arg1))) := rfl
    rw [e, cut_at]
    exact Cert.Reference6Ideal.Ffn.up_at _ _ r (col n l)
  cw n k l := by
    have e : (show FVec Ideal S8x3x704 .f32 from V m c main_v37) = transpose S8x3x704 [1, 0, 2] (shapeCast S3x8x704 (shapeCast S3x5632
      (show FVec Ideal S1x3x5632 .f32 from m (c.tc.loc main_arg2)) shapeCasts_S1x3x5632_S3x5632) shapeCasts_S3x5632_S3x8x704) transposes_S3x8x704_S8x3x704_1_0_2 := rfl
    rw [e]
    pointwise
    rfl
  wd s l d := by
    have e : (show FVec Ideal S4x704x1024 .bf16 from V m c main_v40) = shapeCast S4x704x1024 (truncf (F := Ideal) .bf16 (shapeCast S2816x1024
      (show FVec Ideal S1x2816x1024 .f32 from m (c.tc.loc main_arg4)) shapeCasts_S1x2816x1024_S2816x1024) bitsLt_bf16_f32) shapeCasts_S2816x1024_S4x704x1024 := rfl
    rw [e]
    pointwise
    rfl
  df r d := by
    have e : (show FVec Ideal S16384x1024 .bf16 from V m c main_v41) = truncf (F := Ideal) .bf16 (show FVec Ideal S16384x1024 .f32 from m (c.tc.loc main_arg5)) bitsLt_bf16_f32 := rfl
    rw [e]
    pointwise
    rfl
  ht k r := by
    have e : (show FVec Ideal S1024x16384 .bf16 from V m c main_v43) = transpose S1024x16384 [1, 0] (truncf (F := Ideal) .bf16
      (show FVec Ideal S16384x1024 .f32 from m (c.tc.loc main_arg0)) bitsLt_bf16_f32) transposes_S16384x1024_S1024x16384_1_0 := rfl
    rw [e]
    pointwise
    rfl

/-- A window's array after the region. -/
abbrev W1 (w : Fin cfg0.W) := Pipeline.withArrays (cfgs 0).spec c (V0 m c) (fun w => (dats m 0 c).arrAt w (cfgs 0).N) (Proc.devRef .tc (Pipeline.arrRef spec0 w))

theorem W1_arr (w : Fin cfg0.W) : W1 m c w = (dats m 0 c).arrAt w (cfgs 0).N :=
  (dats m 0 c).withArrays_arrAt sharedIn0 (V0 m c) (A_eq m c) w

/-- A host result after the region. -/
abbrev end_ (b : Ref sig .tc) := Pipeline.afterTail₀ cfgs (dats m) 0 (V0 m) [hostOps1] c b

/-- The gates' column blocks and the values' are all the column blocks. -/
theorem halves (f : Fin 8 → EReal) (n : Fin 8) : (if h : n.val < 4 then f (lo ⟨n.val, h⟩) else f (hi ⟨n.val - 4, by omega⟩)) = f n := by
  by_cases h : n.val < 4
  · rw [dif_pos h]; rfl
  · rw [dif_neg h]; exact congrArg f (Fin.ext (show n.val - 4 + 4 = n.val by omega))

theorem res3 : (show FVec Ideal S8x1024x704 .f32 from end_ m c main_v45) = arr3 (I m c).dwu := by
  have e : (show FVec Ideal S8x1024x704 .f32 from end_ m c main_v45) = concatenate S8x1024x704 0 [⟨S4x1024x704, W1 m c 12⟩, ⟨S4x1024x704, W1 m c 13⟩] concatenates_S4x1024x704_S4x1024x704_S8x1024x704_d0 := rfl
  rw [e, W1_arr, W1_arr, final12 (reads m c), final13 (reads m c)]
  refine ext3 fun n i j => ?_
  pointwise
  exact halves (fun n => (I m c).dwu n i j) n

theorem res4 : (show FVec Ideal S8x1x704 .f32 from end_ m c main_v46) = arr3 (I m c).dcb := by
  have e : (show FVec Ideal S8x1x704 .f32 from end_ m c main_v46) = concatenate S8x1x704 0 [⟨S4x1x704, W1 m c 14⟩, ⟨S4x1x704, W1 m c 15⟩] concatenates_S4x1x704_S4x1x704_S8x1x704_d0 := rfl
  rw [e, W1_arr, W1_arr, final14 (reads m c), final15 (reads m c)]
  refine ext3 fun n i j => ?_
  pointwise
  exact halves (fun n => (I m c).dcb n i j) n

theorem res5 : (show FVec Ideal S8x3x704 .f32 from end_ m c main_v47) = arr3 (I m c).dcw := by
  have e : (show FVec Ideal S8x3x704 .f32 from end_ m c main_v47) = concatenate S8x3x704 0 [⟨S4x3x704, W1 m c 16⟩, ⟨S4x3x704, W1 m c 17⟩] concatenates_S4x3x704_S4x3x704_S8x3x704_d0 := rfl
  rw [e, W1_arr, W1_arr, final16 (reads m c), final17 (reads m c)]
  refine ext3 fun n i j => ?_
  pointwise
  exact halves (fun n => (I m c).dcw n i j) n

theorem res0 : end_ m c main_v48 = arr3 fun s r l => (I m c).dp (lo s) r l :=
  (show _ = extf (F := Ideal) .f32 (show FVec Ideal S4x16384x704 .bf16 from W1 m c 10) bitsLt_bf16_f32 from rfl).trans
    ((W1_arr m c 10).trans (final10 (reads m c)))

theorem res1 : end_ m c main_v49 = arr3 fun s r l => (I m c).dp (hi s) r l :=
  (show _ = extf (F := Ideal) .f32 (show FVec Ideal S4x16384x704 .bf16 from W1 m c 11) bitsLt_bf16_f32 from rfl).trans
    ((W1_arr m c 11).trans (final11 (reads m c)))

/-- The kernel's run: its results entry by entry, its arguments unchanged. -/
theorem run_rows : θ_run defs (onTc (τ := τ) (main (F := Ideal))) ⟨m, fun _ => 0, ρ⟩ (fun r => ∀ c : Dev nD,
      r.2.mem (c.tc.loc main_v48) = arr3 (fun s r l => (I m c).dp (lo s) r l)
      ∧ r.2.mem (c.tc.loc main_v49) = arr3 (fun s r l => (I m c).dp (hi s) r l)
      ∧ r.2.mem (c.tc.loc main_v44_0) = arr3 (I m c).dwd
      ∧ r.2.mem (c.tc.loc main_v45) = arr3 (I m c).dwu
      ∧ r.2.mem (c.tc.loc main_v46) = arr3 (I m c).dcb
      ∧ r.2.mem (c.tc.loc main_v47) = arr3 (I m c).dcw
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)) :=
by
  refine (θ_run defs _ _).mono (fun r h c => ?_) (θ_run_and (run_main m ρ) (unchanged m ρ))
  have M := fun (b : Ref sig .tc) h₁ h₂ => (h.1 c).2 b (Pipeline.mem_restRefs_of b h₁ h₂)
  exact ⟨(M main_v48 (by decide) (by decide)).trans (res0 m c), (M main_v49 (by decide) (by decide)).trans (res1 m c), ((h.1 c).1 9).trans (final9 (reads m c)),
    (M main_v45 (by decide) (by decide)).trans (res3 m c), (M main_v46 (by decide) (by decide)).trans (res4 m c), (M main_v47 (by decide) (by decide)).trans (res5 m c), h.2 c⟩

end Kernel

end Cert.Kernel6Ideal.Bwd

namespace Cert.Reference6Ideal.Ffn

open Cert.Reference6Ideal Cert.Reference6Ideal.Gen Cert.Reference6Ideal.Value Cert.Ffn

/-- The arguments' entries. -/
abbrev I (m : (ℓ : Loc nD τ sig) → Buf (Elt Ideal) ℓ) (c : Dev nD) : Ins := ins (m (c.tc.loc main_arg0)) (m (c.tc.loc main_arg1)) (m (c.tc.loc main_arg2)) (m (c.tc.loc main_arg3)) (m (c.tc.loc main_arg4)) (m (c.tc.loc main_arg5))

/-- A run of the reference on real arguments: its results entry by entry, its arguments unchanged. -/
theorem run_rows (m : (ℓ : Loc nD τ sig) → Buf (Elt Ideal) ℓ) (ρ : Dev nD → PrngReg)
    (R : ∀ c : Dev nD, Reals (m (c.tc.loc main_arg0)) (m (c.tc.loc main_arg1)) (m (c.tc.loc main_arg2)) (m (c.tc.loc main_arg3)) (m (c.tc.loc main_arg4)) (m (c.tc.loc main_arg5))) :
    θ_run defs (onTc (τ := τ) (main (F := Ideal))) ⟨m, fun _ => 0, ρ⟩ (fun r => ∀ c : Dev nD,
      r.2.mem (c.tc.loc main_v89) = arr3 (fun s r l => (I m c).dp (lo s) r l)
      ∧ r.2.mem (c.tc.loc main_v90) = arr3 (fun s r l => (I m c).dp (hi s) r l)
      ∧ r.2.mem (c.tc.loc main_v92) = arr3 (I m c).dwd
      ∧ r.2.mem (c.tc.loc main_v95) = arr3 (I m c).dwu
      ∧ r.2.mem (c.tc.loc main_v96) = arr3 (I m c).dcb
      ∧ r.2.mem (c.tc.loc main_v99) = arr3 (I m c).dcw
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)) :=
  (θ_run _ _ _).mono (fun r h c => by
    obtain ⟨h0, h1, h2, h3, h4, h5, k⟩ := h c
    exact ⟨h0.trans ((eq0 m c).trans (r0_at _ _ _ _ _ _ (R c))), h1.trans ((eq1 m c).trans (r1_at _ _ _ _ _ _ (R c))),
      h2.trans ((eq2 m c).trans (r2_at _ _ _ _ _ _)), h3.trans ((eq3 m c).trans (r3_at _ _ _ _ _ _ (R c))),
      h4.trans ((eq4 m c).trans (r4_at _ _ _ _ _ _ (R c))), h5.trans ((eq5 m c).trans (r5_at _ _ _ _ _ _ (R c))), k⟩) (run (F := Ideal) m ρ)

end Cert.Reference6Ideal.Ffn

namespace Cert.Ffn

/-- Every result of the feed-forward block's backward pass, on finite arguments. -/
theorem claim : Cert.algebraic_Kernel6Ideal_Reference6Ideal_pre_finite_ffn := by
  pair_intro
  · run_from Cert.Kernel6Ideal.Bwd.run_rows m g
  · have R := fun c => Cert.Pre_finite_ffn.real_of_fn _ _ _ _ _ _ (hpre c)
    refine (θ_run _ _ _).mono (fun r h c => ?_) (Cert.Reference6Ideal.Ffn.run_rows m' g' (fun c => by
      obtain ⟨e0, e1, e2, e3, e4, e5⟩ := hagree c
      rw [e0, e1, e2, e3, e4, e5]
      obtain ⟨p0, p1, p2, p3, p4, p5⟩ := R c
      exact ⟨fun i => .of (p0 i), fun i => .of (p1 i), fun i => .of (p2 i), fun i => .of (p3 i), fun i => .of (p4 i), fun i => .of (p5 i)⟩))
    obtain ⟨e0, e1, e2, e3, e4, e5⟩ := hagree c
    have e : Cert.Reference6Ideal.Ffn.I m' c = Cert.Kernel6Ideal.Bwd.I m c := by
      rw [Cert.Reference6Ideal.Ffn.I, e0, e1, e2, e3, e4, e5]
    have q := h c
    rw [e] at q
    exact q

end Cert.Ffn

end
-- ==== Proof.Tokens.lean ====
/- The feed-forward block's token side: both regions' grid points and arrays, the reference, and the claim. -/
module

public import proofs.«01_k».proof.Proof.Gen.Kernel5Ideal.Frame
public import proofs.«01_k».proof.Proof.NormBwd
public import Idealize.ShloMosaic.Lib.Pipeline.ValueKit
public import Idealize.ShloMosaic.Lib.Pointwise
public import proofs.«01_k».proof.Proof.Gen.Reference5Ideal.Run
public import proofs.«01_k».proof.Defs
public import Idealize.ShloMosaic.Lib.Claim

@[expose] public section

set_option maxRecDepth 16384

noncomputable section

open Idealize.ShloMosaic Idealize.ShloMosaic.TcCoe Idealize.SL.Sem
open Idealize.ShloMosaic.Pipeline (Dat)
namespace Cert.Kernel5Ideal.Fwd

open Cert.Kernel5Ideal Cert.Kernel5Ideal.Gen Cert.Tok

/-- The windows' block indices at every grid point. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![t.val, 0] ∧ win0_6.index t = ![0, 0] ∧ win0_7.index t = ![0, 0]
    ∧ win0_8.index t = ![t.val, 0] ∧ win0_9.index t = ![t.val, 0] ∧ win0_10.index t = ![t.val, 0] ∧ win0_11.index t = ![0, t.val] :=
  (by decide +kernel : ∀ t : Fin grid0.N, _)

variable (V : (c : Dev nD) → (b : Ref sig .tc) → Buf (Elt Ideal) ((c : Thread nD τ).loc b)) (c : Dev nD) (I : Ins)

/-- The arrays the region reads hold the arguments' entries. -/
structure Reads : Prop where
  p : ∀ (r : Fin 16384) (k : Fin 512), (show FVec Ideal S16384x512 .f32 from V c main_arg1) (ix2 r k) = I.p r k
  a : ∀ (r : Fin 16384) (k : Fin 512), (show FVec Ideal S16384x512 .f32 from V c main_arg2) (ix2 r k) = I.a r k
  sp : ∀ k : Fin 512, (show FVec Ideal S1x512 .f32 from V c main_arg3) (ix2 0 k) = I.sp k
  sa : ∀ k : Fin 512, (show FVec Ideal S1x512 .f32 from V c main_arg4) (ix2 0 k) = I.sa k
  w : ∀ l k : Fin 1024, (show FVec Ideal S1024x1024 .bf16 from V c main_v8) (ix2 l k) = I.w l k
  x : ∀ (r : Fin 16384) (k : Fin 1024), (show FVec Ideal S16384x1024 .f32 from V c main_arg0) (ix2 r k) = I.x r k
  g2 : ∀ k : Fin 1024, (show FVec Ideal S1x1024 .f32 from V c main_arg6) (ix2 0 k) = I.g2 k
  g3 : ∀ k : Fin 1024, (show FVec Ideal S1x1024 .f32 from V c main_arg7) (ix2 0 k) = I.g3 k

/-- The projected row, from the blocks. -/
theorem mix_pay (p a : Vec Ideal S512x512 .f32) (sp sa : Vec Ideal S1x512 .f32) (wp wa : Vec Ideal S512x1024 .bf16) (r : Fin 512) (k : Fin 1024) :
    k0_pay4 (F := Ideal) p a sp wp sa wa (ix2 r k)
      = (∑ l : Fin 512, nrm D5 (fun j : Fin 512 => p (ix2 r j)) l * sp (ix2 0 l) * wp (ix2 l k))
        + ∑ l : Fin 512, nrm D5 (fun j : Fin 512 => a (ix2 r j)) l * sa (ix2 0 l) * wa (ix2 l k) := by
  pointwise [k0_pay4, nrm, Norm.ms]

/-- The residual row, from the blocks. -/
theorem x2_pay (mix : FVec Ideal S512x1024 .f32) (x : Vec Ideal S512x1024 .f32) (g : Vec Ideal S1x1024 .f32) (r : Fin 512) (k : Fin 1024) :
    k0_pay1 (F := Ideal) mix x g (ix2 r k)
      = x2Row (fun j => x (ix2 r j)) (fun j => mix (ix2 r j)) (fun j => g (ix2 0 j)) k := by
  pointwise [k0_pay1, x2Row, nrm, Norm.ms]

/-- The normalised residual row, from the blocks. -/
theorem h2_pay (mix : FVec Ideal S512x1024 .f32) (x : Vec Ideal S512x1024 .f32) (g g3 : Vec Ideal S1x1024 .f32) (r : Fin 512) (k : Fin 1024) :
    (show FVec Ideal S512x1024 .bf16 from k0_pay2 (F := Ideal) mix x g g3) (ix2 r k)
      = h2Row (x2Row (fun j => x (ix2 r j)) (fun j => mix (ix2 r j)) (fun j => g (ix2 0 j))) (fun j => g3 (ix2 0 j)) k := by
  refine Eq.trans ?_ (congrArg (fun f => h2Row f (fun j => (g3 (ix2 0 j) : EReal)) k) (funext fun j => x2_pay mix x g r j))
  unfold k0_pay2
  pointwise [h2Row, nrm, Norm.ms]

/-- Its transpose, from the blocks. -/
theorem h2t_pay (mix : FVec Ideal S512x1024 .f32) (x : Vec Ideal S512x1024 .f32) (g g3 : Vec Ideal S1x1024 .f32) (r : Fin 512) (k : Fin 1024) :
    (show FVec Ideal S1024x512 .bf16 from k0_pay3 (F := Ideal) mix x g g3) (ix2 k r)
      = h2Row (x2Row (fun j => x (ix2 r j)) (fun j => mix (ix2 r j)) (fun j => g (ix2 0 j))) (fun j => g3 (ix2 0 j)) k := by
  refine Eq.trans ?_ (h2_pay mix x g g3 r k)
  unfold k0_pay3
  pointwise

variable {V c I} (h : Reads V c I)
include h

/-- The projected row of a point is the array's row. -/
theorem mix_of (t : Fin cfg0.N) (wp wa : Vec Ideal S512x1024 .bf16)
    (hwp : ∀ (l : Fin 512) (k : Fin 1024), (wp (ix2 l k) : EReal) = I.w (Fin.castAdd 512 l) k) (hwa : ∀ (l : Fin 512) (k : Fin 1024), (wa (ix2 l k) : EReal) = I.w (Fin.natAdd 512 l) k)
    (r : Fin 512) (j0 : Fin 16384) (hj : (j0 : ℕ) = t.val * 512 + (r : ℕ)) (k : Fin 1024) :
    k0_pay4 (F := Ideal) (iblk0 V c 0 t) (iblk0 V c 1 t) (iblk0 V c 2 t) wp (iblk0 V c 3 t) wa (ix2 r k) = I.mix j0 k := by
  refine (mix_pay _ _ _ _ _ _ r k).trans ?_
  have hp : (fun l : Fin 512 => (show FVec Ideal S512x512 .f32 from iblk0 V c 0 t) (ix2 r l)) = I.p j0 := funext fun l => by
    refine Eq.trans ?_ (h.p j0 l)
    blk_point [iblk0, idx t]
  have ha : (fun l : Fin 512 => (show FVec Ideal S512x512 .f32 from iblk0 V c 1 t) (ix2 r l)) = I.a j0 := funext fun l => by
    refine Eq.trans ?_ (h.a j0 l)
    blk_point [iblk0, idx t]
  have hsp : ∀ l : Fin 512, (show FVec Ideal S1x512 .f32 from iblk0 V c 2 t) (ix2 0 l) = I.sp l := fun l => by
    refine Eq.trans ?_ (h.sp l)
    blk_point [iblk0, idx t]
  have hsa : ∀ l : Fin 512, (show FVec Ideal S1x512 .f32 from iblk0 V c 3 t) (ix2 0 l) = I.sa l := fun l => by
    refine Eq.trans ?_ (h.sa l)
    blk_point [iblk0, idx t]
  exact congrArg₂ (fun a b : EReal => a + b)
    (Finset.sum_congr rfl fun l _ => congrArg₂ (fun a b : EReal => a * b) (congrArg₂ (fun a b : EReal => a * b) (congrArg (fun f => nrm D5 f l) hp) (hsp l)) (hwp l k))
    (Finset.sum_congr rfl fun l _ => congrArg₂ (fun a b : EReal => a * b) (congrArg₂ (fun a b : EReal => a * b) (congrArg (fun f => nrm D5 f l) ha) (hsa l)) (hwa l k))

/-- The input's block, read at an index. -/
theorem x_blk (t : Fin cfg0.N) (r : Fin 512) (j0 : Fin 16384) (hj : (j0 : ℕ) = t.val * 512 + (r : ℕ)) (k : Fin 1024) :
    (show FVec Ideal S512x1024 .f32 from iblk0 V c 5 t) (ix2 r k) = I.x j0 k := by
  refine Eq.trans ?_ (h.x j0 k)
  blk_point [iblk0, idx t]

/-- The projected row's scale's block. -/
theorem g2_blk (t : Fin cfg0.N) (k : Fin 1024) : (show FVec Ideal S1x1024 .f32 from iblk0 V c 6 t) (ix2 0 k) = I.g2 k := by
  refine Eq.trans ?_ (h.g2 k)
  blk_point [iblk0, idx t]

/-- The residual row's scale's block. -/
theorem g3_blk (t : Fin cfg0.N) (k : Fin 1024) : (show FVec Ideal S1x1024 .f32 from iblk0 V c 7 t) (ix2 0 k) = I.g3 k := by
  refine Eq.trans ?_ (h.g3 k)
  blk_point [iblk0, idx t]

/-- What every point leaves: the payloads over one projected block, whose rows are the array's rows. -/
theorem step (t : Fin cfg0.N) : ∃ mix : FVec Ideal S512x1024 .f32,
    (∀ (r : Fin 512) (j0 : Fin 16384), (j0 : ℕ) = t.val * 512 + (r : ℕ) → ∀ k : Fin 1024, mix (ix2 r k) = I.mix j0 k) ∧ (dat0 V c).after 8 t = mix
    ∧ (dat0 V c).after 9 t = k0_pay1 mix (iblk0 V c 5 t) (iblk0 V c 6 t) ∧ (dat0 V c).after 10 t = k0_pay2 mix (iblk0 V c 5 t) (iblk0 V c 6 t) (iblk0 V c 7 t)
    ∧ (dat0 V c).after 11 t = k0_pay3 mix (iblk0 V c 5 t) (iblk0 V c 6 t) (iblk0 V c 7 t) := by
  refine ⟨?mix, ?row, ?e8, ?e9, ?e10, ?e11⟩
  case e8 => exact after0_8 V c t
  case e9 => rw [after0_9]; funext y; frame_out
  case e10 => rw [after0_10]; funext y; frame_out
  case e11 => rw [after0_11]; funext y; frame_out
  intro r j0 hj k
  frame_out
  unfold k0_pay5
  frame_out
  refine mix_of h t _ _ (fun l k => ?_) (fun l k => ?_) r j0 hj k
  · refine Eq.trans ?_ (h.w (Fin.castAdd 512 l) k)
    pointwise
    blk_point [iblk0, idx t]
    exact rfl
  · refine Eq.trans ?_ (h.w (Fin.natAdd 512 l) k)
    pointwise
    blk_point [iblk0, idx t]
    exact rfl

/-- The element of the projected rows' array that a point's block covers. -/
theorem at8 (t : Fin cfg0.N) (y : S512x1024.Idx) (j : S16384x1024.Idx) (h0 : (j 0 : ℕ) = t.val * 512 + (y 0 : ℕ)) (h1 : (j 1 : ℕ) = (y 1 : ℕ)) :
    (dat0 V c).after 8 t y = arr2 I.mix j := by
  obtain ⟨mix, hm, e, -⟩ := step h t
  rw [e]
  idx_vars y
  idx_vars j
  obtain rfl : j1 = y1 := Fin.ext h1
  exact hm y0 j0 h0 j1

/-- The same of the residual rows. -/
theorem at9 (t : Fin cfg0.N) (y : S512x1024.Idx) (j : S16384x1024.Idx) (h0 : (j 0 : ℕ) = t.val * 512 + (y 0 : ℕ)) (h1 : (j 1 : ℕ) = (y 1 : ℕ)) :
    (dat0 V c).after 9 t y = arr2 I.x2 j := by
  obtain ⟨mix, hm, -, e, -⟩ := step h t
  rw [e]
  idx_vars y
  idx_vars j
  obtain rfl : j1 = y1 := Fin.ext h1
  refine (x2_pay _ _ _ y0 j1).trans ?_
  rw [show (fun j => mix (ix2 y0 j)) = I.mix j0 from funext fun k => hm y0 j0 h0 k]
  exact congrArg₂ (fun a b => x2Row a (I.mix j0) b j1) (funext fun k => x_blk h t y0 j0 h0 k) (funext fun k => g2_blk h t k)

/-- The same of the normalised residual rows. -/
theorem at10 (t : Fin cfg0.N) (y : S512x1024.Idx) (j : S16384x1024.Idx) (h0 : (j 0 : ℕ) = t.val * 512 + (y 0 : ℕ)) (h1 : (j 1 : ℕ) = (y 1 : ℕ)) :
    (dat0 V c).after 10 t y = arr2 I.h2 j := by
  obtain ⟨mix, hm, -, -, e, -⟩ := step h t
  rw [e]
  idx_vars y
  idx_vars j
  obtain rfl : j1 = y1 := Fin.ext h1
  refine (h2_pay _ _ _ _ y0 j1).trans ?_
  rw [show (fun j => mix (ix2 y0 j)) = I.mix j0 from funext fun k => hm y0 j0 h0 k]
  exact congrArg₂ (fun a b => h2Row a b j1) (congrArg₂ (fun a b => x2Row a (I.mix j0) b) (funext fun k => x_blk h t y0 j0 h0 k) (funext fun k => g2_blk h t k))
    (funext fun k => g3_blk h t k)

/-- The same of their transpose. -/
theorem at11 (t : Fin cfg0.N) (y : S1024x512.Idx) (j : S1024x16384.Idx) (h0 : (j 1 : ℕ) = t.val * 512 + (y 1 : ℕ)) (h1 : (j 0 : ℕ) = (y 0 : ℕ)) :
    (dat0 V c).after 11 t y = arr2 (fun k r => I.h2 r k) j := by
  obtain ⟨mix, hm, -, -, -, e⟩ := step h t
  rw [e]
  idx_vars y
  idx_vars j
  obtain rfl : j0 = y0 := Fin.ext h1
  refine (h2t_pay _ _ _ _ y1 j0).trans ?_
  rw [show (fun j => mix (ix2 y1 j)) = I.mix j1 from funext fun k => hm y1 j1 h0 k]
  exact congrArg₂ (fun a b => h2Row a b j0) (congrArg₂ (fun a b => x2Row a (I.mix j1) b) (funext fun k => x_blk h t y1 j1 h0 k) (funext fun k => g2_blk h t k))
    (funext fun k => g3_blk h t k)

/-- The projected rows after the run. -/
theorem final8 : (dat0 V c).arrAt 8 cfg0.N = arr2 I.mix := by
  refine (dat0 V c).arrAt_eq_of_covers 8 _ (by decide +kernel) fun t _ y => ?_
  blk_simp
  refine at8 h t y _ ?_ ?_ <;> (blk_simp [idx t] <;> try omega)

/-- The residual rows after the run. -/
theorem final9 : (dat0 V c).arrAt 9 cfg0.N = arr2 I.x2 := by
  refine (dat0 V c).arrAt_eq_of_covers 9 _ (by decide +kernel) fun t _ y => ?_
  blk_simp
  refine at9 h t y _ ?_ ?_ <;> (blk_simp [idx t] <;> try omega)

/-- The normalised residual rows after the run. -/
theorem final10 : (dat0 V c).arrAt 10 cfg0.N = arr2 I.h2 := by
  refine (dat0 V c).arrAt_eq_of_covers 10 _ (by decide +kernel) fun t _ y => ?_
  blk_simp
  refine at10 h t y _ ?_ ?_ <;> (blk_simp [idx t] <;> try omega)

/-- Their transpose after the run. -/
theorem final11 : (dat0 V c).arrAt 11 cfg0.N = arr2 (fun k r => I.h2 r k) := by
  refine (dat0 V c).arrAt_eq_of_covers 11 _ (by decide +kernel) fun t _ y => ?_
  blk_simp
  refine at11 h t y _ ?_ ?_ <;> (blk_simp [idx t] <;> try omega)

end Cert.Kernel5Ideal.Fwd

namespace Cert.Kernel5Ideal.Bwd

open Cert.Kernel5Ideal Cert.Kernel5Ideal.Gen Cert.Tok

/-- The windows' block indices at every grid point. -/
theorem idx : ∀ t : Fin cfg1.N, win1_0.index t = ![0, t.val, 0] ∧ win1_1.index t = ![0, t.val, 0] ∧ win1_2.index t = ![0, 0, 0]
    ∧ win1_3.index t = ![t.val, 0] ∧ win1_4.index t = ![t.val, 0] ∧ win1_5.index t = ![t.val, 0] ∧ win1_6.index t = ![0, 0] ∧ win1_7.index t = ![0, 0]
    ∧ win1_8.index t = ![t.val, 0] ∧ win1_9.index t = ![t.val, 0] ∧ win1_10.index t = ![0, 0] ∧ win1_11.index t = ![0, 0] :=
  (by decide +kernel : ∀ t : Fin grid1.N, _)

/-- The last grid point. -/
def lastPt : Fin cfg1.N := ⟨31, by decide⟩

variable (V : (c : Dev nD) → (b : Ref sig .tc) → Buf (Elt Ideal) ((c : Thread nD τ).loc b)) (c : Dev nD) (I : Ins)

/-- The arrays the region reads hold the arguments' entries and the forward region's rows. -/
structure Reads : Prop where
  dg : ∀ (n : Fin 4) (r : Fin 16384) (l : Fin 704), (show FVec Ideal S4x16384x704 .bf16 from V c main_v10) (ix3 n r l) = I.du r (col ⟨n.val, by omega⟩ l)
  dv : ∀ (n : Fin 4) (r : Fin 16384) (l : Fin 704), (show FVec Ideal S4x16384x704 .bf16 from V c main_v11) (ix3 n r l) = I.du r (col ⟨4 + n.val, by omega⟩ l)
  w : ∀ (n : Fin 8) (l : Fin 704) (k : Fin 1024), (show FVec Ideal S8x704x1024 .bf16 from V c main_v3) (ix3 n l k) = I.wu k (col n l)
  x2 : ∀ (r : Fin 16384) (k : Fin 1024), (show FVec Ideal S16384x1024 .f32 from V c main_v9_1) (ix2 r k) = I.x2 r k
  dy : ∀ (r : Fin 16384) (k : Fin 1024), (show FVec Ideal S16384x1024 .f32 from V c main_arg9) (ix2 r k) = I.dy r k
  mix : ∀ (r : Fin 16384) (k : Fin 1024), (show FVec Ideal S16384x1024 .f32 from V c main_v9_0) (ix2 r k) = I.mix r k
  g2 : ∀ k : Fin 1024, (show FVec Ideal S1x1024 .f32 from V c main_arg6) (ix2 0 k) = I.g2 k
  g3 : ∀ k : Fin 1024, (show FVec Ideal S1x1024 .f32 from V c main_arg7) (ix2 0 k) = I.g3 k

/-- The expanding product's backward block, from the slices it reads. -/
theorem dh_pay (d0 d1 d2 d3 d4 d5 d6 d7 : Vec Ideal S1x512x704 .bf16) (w0 w1 w2 w3 w4 w5 w6 w7 : Vec Ideal S1x704x1024 .bf16) (r : Fin 512) (k : Fin 1024) :
    k1_pay11 (F := Ideal) (k1_pay6 d0 w0) (k1_pay7 d1 w1) (k1_pay8 d2 w2) (k1_pay9 d3 w3) (k1_pay10 d4) w4 d5 w5 d6 w6 d7 w7 (ix2 r k)
      = (∑ l : Fin 704, d0 (ix3 0 r l) * w0 (ix3 0 l k) : EReal) + (∑ l : Fin 704, d1 (ix3 0 r l) * w1 (ix3 0 l k) : EReal) + ((∑ l : Fin 704, d2 (ix3 0 r l) * w2 (ix3 0 l k) : EReal) + (∑ l : Fin 704, d3 (ix3 0 r l) * w3 (ix3 0 l k) : EReal)) + ((∑ l : Fin 704, d4 (ix3 0 r l) * w4 (ix3 0 l k) : EReal) + (∑ l : Fin 704, d5 (ix3 0 r l) * w5 (ix3 0 l k) : EReal) + ((∑ l : Fin 704, d6 (ix3 0 r l) * w6 (ix3 0 l k) : EReal) + (∑ l : Fin 704, d7 (ix3 0 r l) * w7 (ix3 0 l k) : EReal))) := by
  pointwise [k1_pay6, k1_pay7, k1_pay8, k1_pay9, k1_pay10, k1_pay11]

/-- The residual row's gradient, from the blocks. -/
theorem dx2_pay (dh : FVec Ideal S512x1024 .f32) (x dy : Vec Ideal S512x1024 .f32) (g : Vec Ideal S1x1024 .f32) (r : Fin 512) (k : Fin 1024) :
    k1_pay18 (F := Ideal) dh (k1_pay12 x) (k1_pay13 x) k1_pay14 dy g (ix2 r k)
      = dx2Row (fun j => dy (ix2 r j)) (fun j => x (ix2 r j)) (fun j => dh (ix2 r j)) (fun j => g (ix2 0 j)) k := by
  pointwise [k1_pay18, k1_pay16, k1_pay15, k1_pay12, k1_pay13, k1_pay14, dx2Row, Norm.nb, Norm.ms]

/-- The residual scale's gradient's step. -/
theorem dg3_pay (dh : FVec Ideal S512x1024 .f32) (x : Vec Ideal S512x1024 .f32) (acc : Vec Ideal S1x1024 .f32) (k : Fin 1024) :
    k1_pay17 (F := Ideal) dh (k1_pay12 x) (k1_pay13 x) k1_pay14 acc (ix2 0 k)
      = (acc (ix2 0 k) : EReal) + ∑ s : Fin 512, dh (ix2 s k) * nrm D10 (fun j : Fin 1024 => x (ix2 s j)) k := by
  pointwise [k1_pay17, k1_pay16, k1_pay15, k1_pay12, k1_pay13, k1_pay14, nrm, Norm.ms]

/-- The projection row's gradient, from the blocks. -/
theorem dmix_pay (d : FVec Ideal S512x1024 .f32) (x : Vec Ideal S512x1024 .f32) (g : Vec Ideal S1x1024 .f32) (r : Fin 512) (k : Fin 1024) :
    (show FVec Ideal S512x1024 .bf16 from k1_pay3 (F := Ideal) d (k1_pay19 x) (k1_pay20 x) g) (ix2 r k)
      = dmixRow (fun j => x (ix2 r j)) (fun j => d (ix2 r j)) (fun j => g (ix2 0 j)) k := by
  unfold k1_pay3
  pointwise [k1_pay1, k1_pay19, k1_pay20, dmixRow, Norm.nb, Norm.ms]

/-- The projected row's scale's gradient's step. -/
theorem dg2_pay (d : FVec Ideal S512x1024 .f32) (x : Vec Ideal S512x1024 .f32) (acc : Vec Ideal S1x1024 .f32) (k : Fin 1024) :
    k1_pay2 (F := Ideal) d (k1_pay19 x) (k1_pay20 x) acc (ix2 0 k)
      = (acc (ix2 0 k) : EReal) + ∑ s : Fin 512, d (ix2 s k) * nrm D10 (fun j : Fin 1024 => x (ix2 s j)) k := by
  pointwise [k1_pay2, k1_pay1, k1_pay19, k1_pay20, nrm, Norm.ms]

/-- The zero fills. -/
theorem zero10 (j) : k1_pay4 (F := Ideal) j = 0 := by pointwise [k1_pay4]
theorem zero11 (j) : k1_pay5 (F := Ideal) j = 0 := by pointwise [k1_pay5]

variable {V c I} (h : Reads V c I)
include h

/-- The eight slices' products sum to the row's cotangent. -/
theorem dh_sum (r : Fin 16384) (k : Fin 1024) :
    (∑ l : Fin 704, (show FVec Ideal S4x16384x704 .bf16 from V c main_v10) (ix3 0 r l) * (show FVec Ideal S8x704x1024 .bf16 from V c main_v3) (ix3 0 l k)) + (∑ l : Fin 704, (show FVec Ideal S4x16384x704 .bf16 from V c main_v10) (ix3 1 r l) * (show FVec Ideal S8x704x1024 .bf16 from V c main_v3) (ix3 1 l k)) + ((∑ l : Fin 704, (show FVec Ideal S4x16384x704 .bf16 from V c main_v10) (ix3 2 r l) * (show FVec Ideal S8x704x1024 .bf16 from V c main_v3) (ix3 2 l k)) + (∑ l : Fin 704, (show FVec Ideal S4x16384x704 .bf16 from V c main_v10) (ix3 3 r l) * (show FVec Ideal S8x704x1024 .bf16 from V c main_v3) (ix3 3 l k))) + ((∑ l : Fin 704, (show FVec Ideal S4x16384x704 .bf16 from V c main_v11) (ix3 0 r l) * (show FVec Ideal S8x704x1024 .bf16 from V c main_v3) (ix3 4 l k)) + (∑ l : Fin 704, (show FVec Ideal S4x16384x704 .bf16 from V c main_v11) (ix3 1 r l) * (show FVec Ideal S8x704x1024 .bf16 from V c main_v3) (ix3 5 l k)) + ((∑ l : Fin 704, (show FVec Ideal S4x16384x704 .bf16 from V c main_v11) (ix3 2 r l) * (show FVec Ideal S8x704x1024 .bf16 from V c main_v3) (ix3 6 l k)) + (∑ l : Fin 704, (show FVec Ideal S4x16384x704 .bf16 from V c main_v11) (ix3 3 r l) * (show FVec Ideal S8x704x1024 .bf16 from V c main_v3) (ix3 7 l k)))) = I.dh r k := by
  refine (congrArg₂ (fun a b : EReal => a + b)
    (congrArg₂ (fun a b : EReal => a + b) (congrArg₂ (fun a b : EReal => a + b) (Finset.sum_congr rfl fun l _ => congrArg₂ (fun a b : EReal => a * b) (h.dg 0 r l) (h.w 0 l k)) (Finset.sum_congr rfl fun l _ => congrArg₂ (fun a b : EReal => a * b) (h.dg 1 r l) (h.w 1 l k))) (congrArg₂ (fun a b : EReal => a + b) (Finset.sum_congr rfl fun l _ => congrArg₂ (fun a b : EReal => a * b) (h.dg 2 r l) (h.w 2 l k)) (Finset.sum_congr rfl fun l _ => congrArg₂ (fun a b : EReal => a * b) (h.dg 3 r l) (h.w 3 l k))))
    (congrArg₂ (fun a b : EReal => a + b) (congrArg₂ (fun a b : EReal => a + b) (Finset.sum_congr rfl fun l _ => congrArg₂ (fun a b : EReal => a * b) (h.dv 0 r l) (h.w 4 l k)) (Finset.sum_congr rfl fun l _ => congrArg₂ (fun a b : EReal => a * b) (h.dv 1 r l) (h.w 5 l k))) (congrArg₂ (fun a b : EReal => a + b) (Finset.sum_congr rfl fun l _ => congrArg₂ (fun a b : EReal => a * b) (h.dv 2 r l) (h.w 6 l k)) (Finset.sum_congr rfl fun l _ => congrArg₂ (fun a b : EReal => a * b) (h.dv 3 r l) (h.w 7 l k))))).trans ?_
  unfold Ins.dh dhRow
  rw [Fin.sum_univ_eight]
  simp only [add_assoc]
  exact rfl

/-- What the first point leaves: the payloads over one backward block, whose rows are the array's rows, the sums from zero. -/
theorem stepA (t : Fin cfg1.N) (h0 : t.val % 32 = 0) : ∃ dh : FVec Ideal S512x1024 .f32,
    (∀ (r : Fin 512) (j0 : Fin 16384), (j0 : ℕ) = t.val * 512 + (r : ℕ) → ∀ k : Fin 1024, dh (ix2 r k) = I.dh j0 k)
    ∧ (outsAt1 V c t.val t.isLt).1 = k1_pay18 dh (k1_pay12 (iblk1 V c 3 t)) (k1_pay13 (iblk1 V c 3 t)) k1_pay14 (iblk1 V c 4 t) (iblk1 V c 7 t)
    ∧ (outsAt1 V c t.val t.isLt).2.1 = k1_pay3 (outsAt1 V c t.val t.isLt).1 (k1_pay19 (iblk1 V c 5 t)) (k1_pay20 (iblk1 V c 5 t)) (iblk1 V c 6 t)
    ∧ (outsAt1 V c t.val t.isLt).2.2.1 = k1_pay17 dh (k1_pay12 (iblk1 V c 3 t)) (k1_pay13 (iblk1 V c 3 t)) k1_pay14 (k1_pay4 (F := Ideal))
    ∧ (outsAt1 V c t.val t.isLt).2.2.2 = k1_pay2 (outsAt1 V c t.val t.isLt).1 (k1_pay19 (iblk1 V c 5 t)) (k1_pay20 (iblk1 V c 5 t)) (k1_pay5 (F := Ideal)) := by
  rw [outsAt1_A V c t h0]
  refine ⟨?dh, ?row, ?e8, ?e9, ?e10, ?e11⟩
  case e8 =>
    funext y; frame_out
    refine congrFun (f := k1_pay18 (F := Ideal) _ _ _ _ _ _) (g := k1_pay18 (F := Ideal) _ _ _ _ _ _) ?_ y
    refine congrArg (fun d => k1_pay18 (F := Ideal) d (k1_pay12 (iblk1 V c 3 t)) (k1_pay13 (iblk1 V c 3 t)) k1_pay14 (iblk1 V c 4 t) (iblk1 V c 7 t)) ?_
    exact Eq.refl _
  case e9 => funext y; frame_out
  case e10 => funext y; frame_out
  case e11 => funext y; frame_out
  intro r j0 hj k
  refine (dh_pay _ _ _ _ _ _ _ _ _ _ _ _ _ _ _ _ r k).trans (Eq.trans ?_ (dh_sum h j0 k))
  pointwise
  blk_point [iblk1, idx t]

/-- What a later point leaves: the same, the sums from what the point before left. -/
theorem stepB (t : Fin cfg1.N) (h0 : ¬ t.val % 32 = 0) : ∃ dh : FVec Ideal S512x1024 .f32,
    (∀ (r : Fin 512) (j0 : Fin 16384), (j0 : ℕ) = t.val * 512 + (r : ℕ) → ∀ k : Fin 1024, dh (ix2 r k) = I.dh j0 k)
    ∧ (outsAt1 V c t.val t.isLt).1 = k1_pay18 dh (k1_pay12 (iblk1 V c 3 t)) (k1_pay13 (iblk1 V c 3 t)) k1_pay14 (iblk1 V c 4 t) (iblk1 V c 7 t)
    ∧ (outsAt1 V c t.val t.isLt).2.1 = k1_pay3 (outsAt1 V c t.val t.isLt).1 (k1_pay19 (iblk1 V c 5 t)) (k1_pay20 (iblk1 V c 5 t)) (iblk1 V c 6 t)
    ∧ (outsAt1 V c t.val t.isLt).2.2.1 = k1_pay17 dh (k1_pay12 (iblk1 V c 3 t)) (k1_pay13 (iblk1 V c 3 t)) k1_pay14 (outsAt1 V c (t.val - 1) (lt_prev t)).2.2.1
    ∧ (outsAt1 V c t.val t.isLt).2.2.2 = k1_pay2 (outsAt1 V c t.val t.isLt).1 (k1_pay19 (iblk1 V c 5 t)) (k1_pay20 (iblk1 V c 5 t)) (outsAt1 V c (t.val - 1) (lt_prev t)).2.2.2 := by
  rw [outsAt1_B V c t h0]
  refine ⟨?dh, ?row, ?e8, ?e9, ?e10, ?e11⟩
  case e8 =>
    funext y; frame_out
    refine congrFun (f := k1_pay18 (F := Ideal) _ _ _ _ _ _) (g := k1_pay18 (F := Ideal) _ _ _ _ _ _) ?_ y
    refine congrArg (fun d => k1_pay18 (F := Ideal) d (k1_pay12 (iblk1 V c 3 t)) (k1_pay13 (iblk1 V c 3 t)) k1_pay14 (iblk1 V c 4 t) (iblk1 V c 7 t)) ?_
    exact Eq.refl _
  case e9 => funext y; frame_out
  case e10 => funext y; frame_out
  case e11 => funext y; frame_out
  intro r j0 hj k
  refine (dh_pay _ _ _ _ _ _ _ _ _ _ _ _ _ _ _ _ r k).trans (Eq.trans ?_ (dh_sum h j0 k))
  pointwise
  blk_point [iblk1, idx t]

/-- The residual rows' block, read at an index. -/
theorem x2_blk (t : Fin cfg1.N) (r : Fin 512) (j0 : Fin 16384) (hj : (j0 : ℕ) = t.val * 512 + (r : ℕ)) (k : Fin 1024) :
    (show FVec Ideal S512x1024 .f32 from iblk1 V c 3 t) (ix2 r k) = I.x2 j0 k := by
  refine Eq.trans ?_ (h.x2 j0 k)
  blk_point [iblk1, idx t]

/-- The residual's cotangent's block, read at an index. -/
theorem dy_blk (t : Fin cfg1.N) (r : Fin 512) (j0 : Fin 16384) (hj : (j0 : ℕ) = t.val * 512 + (r : ℕ)) (k : Fin 1024) :
    (show FVec Ideal S512x1024 .f32 from iblk1 V c 4 t) (ix2 r k) = I.dy j0 k := by
  refine Eq.trans ?_ (h.dy j0 k)
  blk_point [iblk1, idx t]

/-- The projected rows' block, read at an index. -/
theorem mix_blk (t : Fin cfg1.N) (r : Fin 512) (j0 : Fin 16384) (hj : (j0 : ℕ) = t.val * 512 + (r : ℕ)) (k : Fin 1024) :
    (show FVec Ideal S512x1024 .f32 from iblk1 V c 5 t) (ix2 r k) = I.mix j0 k := by
  refine Eq.trans ?_ (h.mix j0 k)
  blk_point [iblk1, idx t]

/-- The projected row's scale's block. -/
theorem g2_blk (t : Fin cfg1.N) (k : Fin 1024) : (show FVec Ideal S1x1024 .f32 from iblk1 V c 6 t) (ix2 0 k) = I.g2 k := by
  refine Eq.trans ?_ (h.g2 k)
  blk_point [iblk1, idx t]

/-- The residual row's scale's block. -/
theorem g3_blk (t : Fin cfg1.N) (k : Fin 1024) : (show FVec Ideal S1x1024 .f32 from iblk1 V c 7 t) (ix2 0 k) = I.g3 k := by
  refine Eq.trans ?_ (h.g3 k)
  blk_point [iblk1, idx t]

/-- The residual's gradient at every point. -/
theorem dx2_of (t : Fin cfg1.N) (r : Fin 512) (j0 : Fin 16384) (hj : (j0 : ℕ) = t.val * 512 + (r : ℕ)) (k : Fin 1024) :
    (outsAt1 V c t.val t.isLt).1 (ix2 r k) = I.dx2 j0 k := by
  have go : ∀ dh : FVec Ideal S512x1024 .f32,
      (∀ (r : Fin 512) (j0 : Fin 16384), (j0 : ℕ) = t.val * 512 + (r : ℕ) → ∀ k : Fin 1024, dh (ix2 r k) = I.dh j0 k) →
      k1_pay18 (F := Ideal) dh (k1_pay12 (iblk1 V c 3 t)) (k1_pay13 (iblk1 V c 3 t)) k1_pay14 (iblk1 V c 4 t) (iblk1 V c 7 t) (ix2 r k) = I.dx2 j0 k := by
    intro dh hd
    refine (dx2_pay _ _ _ _ r k).trans ?_
    exact dx2Row_congr (fun k => dy_blk h t r j0 hj k) (fun k => x2_blk h t r j0 hj k) (fun k => hd r j0 hj k) (fun k => g3_blk h t k) k
  by_cases h0 : t.val % 32 = 0
  · obtain ⟨dh, hd, e, -⟩ := stepA h t h0
    rw [e]; exact go dh hd
  · obtain ⟨dh, hd, e, -⟩ := stepB h t h0
    rw [e]; exact go dh hd

/-- The projection's gradient at every point. -/
theorem dmix_of (t : Fin cfg1.N) (r : Fin 512) (j0 : Fin 16384) (hj : (j0 : ℕ) = t.val * 512 + (r : ℕ)) (k : Fin 1024) :
    (show FVec Ideal S512x1024 .bf16 from (outsAt1 V c t.val t.isLt).2.1) (ix2 r k) = I.dmix j0 k := by
  have e : (outsAt1 V c t.val t.isLt).2.1 = k1_pay3 (outsAt1 V c t.val t.isLt).1 (k1_pay19 (iblk1 V c 5 t)) (k1_pay20 (iblk1 V c 5 t)) (iblk1 V c 6 t) := by
    by_cases h0 : t.val % 32 = 0
    · obtain ⟨dh, hd, -, e, -⟩ := stepA h t h0
      exact e
    · obtain ⟨dh, hd, -, e, -⟩ := stepB h t h0
      exact e
  rw [e]
  refine (dmix_pay _ _ _ r k).trans ?_
  exact dmixRow_congr (fun k => mix_blk h t r j0 hj k) (fun k => dx2_of h t r j0 hj k) (fun k => g2_blk h t k) k

/-- The element of the residual's gradient that a point's block covers. -/
theorem at8 (t : Fin cfg1.N) (y : S512x1024.Idx) (j : S16384x1024.Idx) (h0 : (j 0 : ℕ) = t.val * 512 + (y 0 : ℕ)) (h1 : (j 1 : ℕ) = (y 1 : ℕ)) :
    (outsAt1 V c t.val t.isLt).1 y = arr2 I.dx2 j := by
  idx_vars y
  idx_vars j
  obtain rfl : j1 = y1 := Fin.ext h1
  exact dx2_of h t y0 j0 h0 j1

/-- The same of the projection's gradient. -/
theorem at9 (t : Fin cfg1.N) (y : S512x1024.Idx) (j : S16384x1024.Idx) (h0 : (j 0 : ℕ) = t.val * 512 + (y 0 : ℕ)) (h1 : (j 1 : ℕ) = (y 1 : ℕ)) :
    (outsAt1 V c t.val t.isLt).2.1 y = arr2 I.dmix j := by
  idx_vars y
  idx_vars j
  obtain rfl : j1 = y1 := Fin.ext h1
  exact dmix_of h t y0 j0 h0 j1

/-- The residual's gradient after the run. -/
theorem final8 : (dat1 V c).arrAt 8 cfg1.N = arr2 I.dx2 := by
  refine (dat1 V c).arrAt_eq_of_covers 8 _ (by decide +kernel) fun t _ y => ?_
  blk_simp
  rw [after1_8]
  refine at8 h t y _ ?_ ?_ <;> (blk_simp [idx t] <;> try omega)

/-- The projection's gradient after the run. -/
theorem final9 : (dat1 V c).arrAt 9 cfg1.N = arr2 I.dmix := by
  refine (dat1 V c).arrAt_eq_of_covers 9 _ (by decide +kernel) fun t _ y => ?_
  blk_simp
  rw [after1_9]
  refine at9 h t y _ ?_ ?_ <;> (blk_simp [idx t] <;> try omega)

/-- A row of a point's block, in the array. -/
def rowOf (p : Fin cfg1.N) (s : Fin 512) : Fin 16384 := ⟨p.val * 512 + s.val, by have := lt_of_lt_of_eq p.isLt N_1; omega⟩

/-- The residual scale's gradient after the run. -/
theorem final10 : (dat1 V c).arrAt 10 cfg1.N = arr2 (fun (_ : Fin 1) k => ∑ s : Fin 16384, I.dg3R s k) := by
  refine (dat1 V c).arrAt_eq_of_after_last 10 lastPt (by decide +kernel) _ fun j => ?_
  blk_simp
  idx_vars j
  obtain rfl := j0.eq_zero
  rw [after1_10, Pipeline.eq_sum_fin_of_reset_step_apply_last (fun n h => (outsAt1 V c n h).2.2.1) 32 (fun _ => 0)
    (fun p (j : S1x1024.Idx) => ∑ s : Fin 512, I.dg3R (rowOf p s) (j 1))
    (fun t h0 j => by
      idx_vars j
      obtain rfl := j0.eq_zero
      obtain ⟨dh, hd, -, -, e, -⟩ := stepA h t h0
      exact (congrFun e _).trans ((dg3_pay _ _ _ j1).trans (congrArg₂ (fun a b : EReal => a + b) (zero10 _) (Finset.sum_congr rfl fun s _ => congrArg₂ (fun a b : EReal => a * b) (hd s (rowOf t s) rfl j1) (congrArg (fun f => nrm D10 f j1) (funext fun k => x2_blk h t s (rowOf t s) rfl k))))))
    (fun t h0 j => by
      idx_vars j
      obtain rfl := j0.eq_zero
      obtain ⟨dh, hd, -, -, e, -⟩ := stepB h t h0
      exact (congrFun e _).trans ((dg3_pay _ _ _ j1).trans (congrArg (fun b : EReal => _ + b) (Finset.sum_congr rfl fun s _ => congrArg₂ (fun a b : EReal => a * b) (hd s (rowOf t s) rfl j1) (congrArg (fun f => nrm D10 f j1) (funext fun k => x2_blk h t s (rowOf t s) rfl k))))))
    (le_of_eq N_1) lastPt rfl _, zero_add]
  exact Fin.sum_mul_add_congr fun t l hl => rfl

/-- The projected row's scale's gradient after the run. -/
theorem final11 : (dat1 V c).arrAt 11 cfg1.N = arr2 (fun (_ : Fin 1) k => ∑ s : Fin 16384, I.dg2R s k) := by
  refine (dat1 V c).arrAt_eq_of_after_last 11 lastPt (by decide +kernel) _ fun j => ?_
  blk_simp
  idx_vars j
  obtain rfl := j0.eq_zero
  rw [after1_11, Pipeline.eq_sum_fin_of_reset_step_apply_last (fun n h => (outsAt1 V c n h).2.2.2) 32 (fun _ => 0)
    (fun p (j : S1x1024.Idx) => ∑ s : Fin 512, I.dg2R (rowOf p s) (j 1))
    (fun t h0 j => by
      idx_vars j
      obtain rfl := j0.eq_zero
      obtain ⟨dh, hd, -, -, -, e⟩ := stepA h t h0
      exact (congrFun e _).trans ((dg2_pay _ _ _ j1).trans (congrArg₂ (fun a b : EReal => a + b) (zero11 _) (Finset.sum_congr rfl fun s _ => congrArg₂ (fun a b : EReal => a * b) (dx2_of h t s (rowOf t s) rfl j1) (congrArg (fun f => nrm D10 f j1) (funext fun k => mix_blk h t s (rowOf t s) rfl k))))))
    (fun t h0 j => by
      idx_vars j
      obtain rfl := j0.eq_zero
      obtain ⟨dh, hd, -, -, -, e⟩ := stepB h t h0
      exact (congrFun e _).trans ((dg2_pay _ _ _ j1).trans (congrArg (fun b : EReal => _ + b) (Finset.sum_congr rfl fun s _ => congrArg₂ (fun a b : EReal => a * b) (dx2_of h t s (rowOf t s) rfl j1) (congrArg (fun f => nrm D10 f j1) (funext fun k => mix_blk h t s (rowOf t s) rfl k))))))
    (le_of_eq N_1) lastPt rfl _, zero_add]
  exact Fin.sum_mul_add_congr fun t l hl => rfl

end Cert.Kernel5Ideal.Bwd

open Idealize.ShloMosaic.StableHlo (launchContents)
namespace Cert.Reference5Ideal.Tok

open Cert.Reference5Ideal Cert.Reference5Ideal.Gen Cert.Reference5Ideal.Value Cert.Tok

variable (V : Valuation τ sig (Elt Ideal))

/-- The arguments' entries. -/
def ins : Ins where
  x r k := (show FVec Ideal S16384x1024 .f32 from V (Proc.devRef .tc main_arg0)) (ix2 r k)
  p r k := (show FVec Ideal S16384x512 .f32 from V (Proc.devRef .tc main_arg1)) (ix2 r k)
  a r k := (show FVec Ideal S16384x512 .f32 from V (Proc.devRef .tc main_arg2)) (ix2 r k)
  sp k := (show FVec Ideal S1x512 .f32 from V (Proc.devRef .tc main_arg3)) (ix2 0 k)
  sa k := (show FVec Ideal S1x512 .f32 from V (Proc.devRef .tc main_arg4)) (ix2 0 k)
  w l k := (show FVec Ideal S1x1024x1024 .f32 from V (Proc.devRef .tc main_arg5)) (ix3 0 l k)
  g2 k := (show FVec Ideal S1x1024 .f32 from V (Proc.devRef .tc main_arg6)) (ix2 0 k)
  g3 k := (show FVec Ideal S1x1024 .f32 from V (Proc.devRef .tc main_arg7)) (ix2 0 k)
  wu k l := (show FVec Ideal S1x1024x5632 .f32 from V (Proc.devRef .tc main_arg8)) (ix3 0 k l)
  dy r k := (show FVec Ideal S16384x1024 .f32 from V (Proc.devRef .tc main_arg9)) (ix2 r k)
  du r l := (show FVec Ideal S16384x5632 .f32 from V (Proc.devRef .tc main_arg10)) (ix2 r l)

/-- The projected rows. -/
theorem v30_at (r : Fin 16384) (k : Fin 1024) : (show FVec Ideal S16384x1024 .f32 from res_main_v30 V) (ix2 r k) = (ins V).mix r k := by
  unfold res_main_v30
  pointwise
  rfl

/-- The root's argument of the projected rows. -/
theorem v38_at (r : Fin 16384) (k : Fin 1) : (show FVec Ideal S16384x1 .f32 from res_main_v38 V) (ix2 r k) = Norm.ms D10 ((ins V).mix r) := by
  unfold res_main_v38
  pointwise [Norm.ms]
  simp only [v30_at]

/-- The projected rows, normalised. -/
theorem v44_at (r : Fin 16384) (k : Fin 1024) : (show FVec Ideal S16384x1024 .f32 from res_main_v44 V) (ix2 r k) = nrm D10 ((ins V).mix r) k := by
  unfold res_main_v44 res_main_v39
  pointwise [nrm]
  simp only [v30_at, v38_at]

/-- The residual rows. -/
theorem v48_at (r : Fin 16384) (k : Fin 1024) : (show FVec Ideal S16384x1024 .f32 from res_main_v48 V) (ix2 r k) = (ins V).x2 r k := by
  unfold res_main_v48 res_main_v45
  pointwise
  simp only [v44_at]
  rfl

/-- The root's argument of the residual rows. -/
theorem v56_at (r : Fin 16384) (k : Fin 1) : (show FVec Ideal S16384x1 .f32 from res_main_v56 V) (ix2 r k) = Norm.ms D10 ((ins V).x2 r) := by
  unfold res_main_v56
  pointwise [Norm.ms]
  simp only [v48_at]

/-- The residual rows, normalised. -/
theorem v62_at (r : Fin 16384) (k : Fin 1024) : (show FVec Ideal S16384x1024 .f32 from res_main_v62 V) (ix2 r k) = nrm D10 ((ins V).x2 r) k := by
  unfold res_main_v62 res_main_v57
  pointwise [nrm]
  simp only [v48_at, v56_at]

/-- The rows the feed-forward block reads. -/
theorem v65_at (r : Fin 16384) (k : Fin 1024) : (show FVec Ideal S16384x1024 .f32 from res_main_v65 V) (ix2 r k) = (ins V).h2 r k := by
  unfold res_main_v65 res_main_v63
  pointwise
  simp only [v62_at]
  rfl

/-- The cotangent of those rows. -/
theorem v68_at (r : Fin 16384) (k : Fin 1024) : (show FVec Ideal S16384x1024 .f32 from res_main_v68 V) (ix2 r k) = (ins V).dh r k := by
  unfold res_main_v68 res_main_v66
  pointwise
  exact sum_col _

/-- The cotangent, scaled. -/
theorem v73_at (r : Fin 16384) (k : Fin 1024) : (show FVec Ideal S16384x1024 .f32 from res_main_v73 V) (ix2 r k) = (ins V).dh r k * (ins V).g3 k := by
  unfold res_main_v73 res_main_v63
  pointwise
  simp only [v68_at]
  rfl

/-- The residual's gradient. -/
def dX2 : FVec Ideal S16384x1024 .f32 :=
  addf (addf (addf (V (Proc.devRef .tc main_arg9)) (mulf (res_main_v73 V) (broadcastInDim S16384x1024 ![0, 1] bcast_S16384x1_S16384x1024_0_1 (res_main_v57 V)))) (mulf (res_main_v48 V) (res_main_v85 V))) (mulf (res_main_v85 V) (res_main_v48 V))

/-- The residual's gradient, entry by entry. -/
theorem dX2_at (r : Fin 16384) (k : Fin 1024) : dX2 V (ix2 r k) = (ins V).dx2 r k := by
  unfold Ins.dx2 dx2Row
  rw [← Norm.nb_eq _ Norm.c1024 (by norm_num)]
  unfold dX2 res_main_v85 res_main_v57
  pointwise
  simp only [Fin.sum_univ_one, v48_at, v56_at, v73_at, add_assoc]
  rfl

/-- The residual's gradient, scaled. -/
theorem v96_at (r : Fin 16384) (k : Fin 1024) : (show FVec Ideal S16384x1024 .f32 from res_main_v96 V) (ix2 r k) = (ins V).dx2 r k * (ins V).g2 k := by
  unfold res_main_v96 res_main_v91 res_main_v45
  pointwise
  refine congrArg₂ (fun a b : EReal => a * b) ((Eq.trans ?_ (dX2_at V r k))) rfl
  pointwise [dX2]

/-- The projection's gradient. -/
def dMix : FVec Ideal S16384x1024 .f32 :=
  addf (addf (mulf (res_main_v96 V) (broadcastInDim S16384x1024 ![0, 1] bcast_S16384x1_S16384x1024_0_1 (res_main_v39 V))) (mulf (res_main_v30 V) (res_main_v107 V))) (mulf (res_main_v107 V) (res_main_v30 V))

/-- The projection's gradient, entry by entry. -/
theorem dMix_at (r : Fin 16384) (k : Fin 1024) : dMix V (ix2 r k) = (ins V).dmix r k := by
  unfold Ins.dmix dmixRow
  rw [← Norm.nb_eq _ Norm.c1024 (by norm_num)]
  unfold dMix res_main_v107 res_main_v39
  pointwise
  simp only [Fin.sum_univ_one, v30_at, v38_at, v96_at]

/-- The residual scale's gradient. -/
def dG3 : FVec Ideal S1x1024 .f32 :=
  broadcastInDim S1x1024 ![1] bcast_S1024_S1x1024_1 (Host.reduceAdd (shapeCast _ (Host.reduceAdd (mulf (res_main_v62 V) (res_main_v68 V)) (constant S_ .f32 0x00000000#32) reducesTo_S16384x1024_S1024_d0 h_S_) shapeCasts_S1024_S1x1024) (constant S_ .f32 0x00000000#32) reducesTo_S1x1024_S1024_d0 h_S_)

/-- The residual scale's gradient, entry by entry. -/
theorem dG3_at (r : Fin 1) (k : Fin 1024) : dG3 V (ix2 r k) = ∑ s : Fin 16384, (ins V).dg3R s k := by
  unfold dG3
  pointwise
  simp only [Fin.sum_univ_one, v62_at, v68_at]
  exact Finset.sum_congr rfl fun s _ => mul_comm _ _

/-- The projected row's scale's gradient. -/
def dG2 : FVec Ideal S1x1024 .f32 :=
  broadcastInDim S1x1024 ![1] bcast_S1024_S1x1024_1 (Host.reduceAdd (shapeCast _ (Host.reduceAdd (mulf (res_main_v44 V) (res_main_v91 V)) (constant S_ .f32 0x00000000#32) reducesTo_S16384x1024_S1024_d0 h_S_) shapeCasts_S1024_S1x1024) (constant S_ .f32 0x00000000#32) reducesTo_S1x1024_S1024_d0 h_S_)

/-- The reshaped residual's gradient, entry by entry. -/
theorem v91_at (r : Fin 16384) (k : Fin 1024) : (show FVec Ideal S16384x1024 .f32 from res_main_v91 V) (ix2 r k) = (ins V).dx2 r k := by
  refine Eq.trans ?_ (dX2_at V r k)
  unfold res_main_v91
  pointwise [dX2]

/-- The projected row's scale's gradient, entry by entry. -/
theorem dG2_at (r : Fin 1) (k : Fin 1024) : dG2 V (ix2 r k) = ∑ s : Fin 16384, (ins V).dg2R s k := by
  unfold dG2
  pointwise
  simp only [Fin.sum_univ_one, v44_at, v91_at]
  exact Finset.sum_congr rfl fun s _ => mul_comm _ _

variable (m : (ℓ : Loc nD τ sig) → Buf (Elt Ideal) ℓ) (ρ : Dev nD → PrngReg)

/-- The entries of the arrays at launch. -/
theorem ins_eq (c : Dev nD) : ins (launchContents m c) = mkIns (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) := rfl

/-- The reference's run, its results entry by entry. -/
theorem run_rows : θ_run defs (onTc (τ := τ) (main (F := Ideal))) ⟨m, fun _ => 0, ρ⟩ fun r => ∀ c : Dev nD,
      r.2.mem (c.tc.loc main_v30) = arr2 (ins (launchContents m c)).mix
      ∧ r.2.mem (c.tc.loc main_v48) = arr2 (ins (launchContents m c)).x2
      ∧ r.2.mem (c.tc.loc main_v65) = arr2 (ins (launchContents m c)).h2
      ∧ r.2.mem (c.tc.loc main_v113) = arr2 (fun k r => (ins (launchContents m c)).h2 r k)
      ∧ r.2.mem (c.tc.loc main_v89) = arr2 (ins (launchContents m c)).dx2
      ∧ r.2.mem (c.tc.loc main_v111) = arr2 (ins (launchContents m c)).dmix
      ∧ r.2.mem (c.tc.loc main_v90) = arr2 (fun (_ : Fin 1) k => ∑ s : Fin 16384, (ins (launchContents m c)).dg3R s k)
      ∧ r.2.mem (c.tc.loc main_v112) = arr2 (fun (_ : Fin 1) k => ∑ s : Fin 16384, (ins (launchContents m c)).dg2R s k)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)
      ∧ r.2.mem (c.tc.loc main_arg8) = m (c.tc.loc main_arg8)
      ∧ r.2.mem (c.tc.loc main_arg9) = m (c.tc.loc main_arg9)
      ∧ r.2.mem (c.tc.loc main_arg10) = m (c.tc.loc main_arg10) :=
  (θ_run defs _ _).mono (fun r h c => ⟨(h c).1.trans (ext2 _ _ fun i j => v30_at _ i j), (h c).2.1.trans (ext2 _ _ fun i j => v48_at _ i j),
    (h c).2.2.1.trans (ext2 _ _ fun i j => v65_at _ i j),
    (h c).2.2.2.1.trans (ext2 _ _ fun i j => Eq.trans (by pointwise) (v65_at _ j i)),
    (h c).2.2.2.2.1.trans (ext2 _ _ fun i j => dX2_at _ i j), (h c).2.2.2.2.2.1.trans (ext2 _ _ fun i j => dMix_at _ i j),
    (h c).2.2.2.2.2.2.1.trans (ext2 _ _ fun i j => dG3_at _ i j), (h c).2.2.2.2.2.2.2.1.trans (ext2 _ _ fun i j => dG2_at _ i j), (h c).2.2.2.2.2.2.2.2⟩) (run m ρ)

end Cert.Reference5Ideal.Tok

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
namespace Cert.Kernel5Ideal.Tok

open Cert.Kernel5Ideal Cert.Kernel5Ideal.Gen Cert.Tok

local notation "𝕄" => MT nD τ sig Unit (Elt Ideal) ℕ (UR sig nD τ) ℕ

variable (m : (ℓ : Loc nD τ sig) → Buf (Elt Ideal) ℓ) (ρ : Dev nD → PrngReg) (c : Dev nD)

/-- The argument arrays' entries. -/
def ins : Ins := mkIns (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10))

/-- An array no host operation before the forward region writes is as launched. -/
theorem arg1 (r : Ref sig .tc) (h : r ∉ hostOps0_W) : V1 m ρ c r = W0 m ρ c (Proc.devRef .tc r) := W1_of m ρ c r h

/-- What the forward region reads. -/
theorem reads0 : Fwd.Reads (V1 m ρ) c (ins m c) where
  p r k := congrFun (arg1 m ρ c main_arg1 (by decide)) _
  a r k := congrFun (arg1 m ρ c main_arg2 (by decide)) _
  sp k := congrFun (arg1 m ρ c main_arg3 (by decide)) _
  sa k := congrFun (arg1 m ρ c main_arg4 (by decide)) _
  w l k := by
    have e : (show FVec Ideal S1024x1024 .bf16 from V1 m ρ c main_v8)
      = truncf .bf16 (shapeCast S1024x1024 (show FVec Ideal S1x1024x1024 .f32 from m (c.tc.loc main_arg5)) shapeCasts_S1x1024x1024_S1024x1024) bitsLt_bf16_f32 := rfl
    rw [e]
    pointwise
    rfl
  x r k := congrFun (arg1 m ρ c main_arg0 (by decide)) _
  g2 k := congrFun (arg1 m ρ c main_arg6 (by decide)) _
  g3 k := congrFun (arg1 m ρ c main_arg7 (by decide)) _

/-- An array neither the forward region nor the host operations around it write is as launched. -/
theorem arg3 (r : Ref sig .tc) (h0 : r ∉ hostOps0_W) (h1 : r ∉ hostOps1_W) (h : ∀ w : Fin cfg0.W, Pipeline.arrRef spec0 w = r → (cfg0.win w).isOut = false) :
    V3 m ρ c r = W0 m ρ c (Proc.devRef .tc r) := (W3_of m ρ c r h1).trans ((W2_of m ρ c r h).trans (W1_of m ρ c r h0))

/-- The cotangent, column block by column block. -/
theorem du_at (n : Fin 8) (r : Fin 16384) (l : Fin 704) : (show FVec Ideal S8x16384x704 .bf16 from W2 m ρ c (Proc.devRef .tc main_v6)) (ix3 n r l) = (ins m c).du r (col n l) := by
  have e : (show FVec Ideal S8x16384x704 .bf16 from W2 m ρ c (Proc.devRef .tc main_v6))
      = transpose S8x16384x704 [1, 0, 2] (shapeCast S16384x8x704 (truncf .bf16 (show FVec Ideal S16384x5632 .f32 from m (c.tc.loc main_arg10)) bitsLt_bf16_f32)
        shapeCasts_S16384x5632_S16384x8x704) transposes_S16384x8x704_S8x16384x704_1_0_2 :=
    (W2_of m ρ c main_v6 (by decide)).trans rfl
  rw [e]
  pointwise
  rfl

/-- What the backward region reads. -/
theorem reads1 : Bwd.Reads (V3 m ρ) c (ins m c) where
  dg n r l := by
    have e : (show FVec Ideal S4x16384x704 .bf16 from V3 m ρ c main_v10)
      = extractStridedSlice S4x16384x704 ![0, 0, 0] (show FVec Ideal S8x16384x704 .bf16 from W2 m ρ c (Proc.devRef .tc main_v6)) slices_S8x16384x704_S4x16384x704_0_0_0 := rfl
    rw [e]
    refine Eq.trans ?_ (du_at m ρ c ⟨n.val, by omega⟩ r l)
    pointwise
  dv n r l := by
    have e : (show FVec Ideal S4x16384x704 .bf16 from V3 m ρ c main_v11)
      = extractStridedSlice S4x16384x704 ![4, 0, 0] (show FVec Ideal S8x16384x704 .bf16 from W2 m ρ c (Proc.devRef .tc main_v6)) slices_S8x16384x704_S4x16384x704_4_0_0 := rfl
    rw [e]
    refine Eq.trans ?_ (du_at m ρ c ⟨4 + n.val, by omega⟩ r l)
    pointwise
  w n l k := by
    have e : (show FVec Ideal S8x704x1024 .bf16 from V3 m ρ c main_v3)
      = transpose S8x704x1024 [1, 2, 0] (shapeCast S1024x8x704 (truncf .bf16 (shapeCast S1024x5632 (show FVec Ideal S1x1024x5632 .f32 from m (c.tc.loc main_arg8))
        shapeCasts_S1x1024x5632_S1024x5632) bitsLt_bf16_f32) shapeCasts_S1024x5632_S1024x8x704) transposes_S1024x8x704_S8x704x1024_1_2_0 :=
      (W3_of m ρ c main_v3 (by decide)).trans ((W2_of m ρ c main_v3 (by decide)).trans rfl)
    rw [e]
    pointwise
    rfl
  x2 r k := congrFun ((W3_of m ρ c main_v9_1 (by decide)).trans ((W2_arr m ρ c 9).trans (Fwd.final9 (reads0 m ρ c)))) _
  dy r k := congrFun (arg3 m ρ c main_arg9 (by decide) (by decide) (by decide)) _
  mix r k := congrFun ((W3_of m ρ c main_v9_0 (by decide)).trans ((W2_arr m ρ c 8).trans (Fwd.final8 (reads0 m ρ c)))) _
  g2 k := congrFun (arg3 m ρ c main_arg6 (by decide) (by decide) (by decide)) _
  g3 k := congrFun (arg3 m ρ c main_arg7 (by decide) (by decide) (by decide)) _

/-- A result of the forward region after the whole program. -/
theorem out0 (w : Fin cfg0.W) (r : Ref sig .tc) (hr : Pipeline.arrRef spec0 w = r) (h1 : r ∉ hostOps1_W)
    (h : ∀ w : Fin cfg1.W, Pipeline.arrRef spec1 w = r → (cfg1.win w).isOut = false) :
    W4 m ρ c (Proc.devRef .tc (Pipeline.arrRef spec0 w)) = (dat0 (V1 m ρ) c).arrAt w cfg0.N := by
  subst hr
  exact (W4_of m ρ c _ h).trans ((W3_of m ρ c _ h1).trans (W2_arr m ρ c w))

theorem res0 : W5 m ρ c (Proc.devRef .tc main_v9_0) = arr2 (ins m c).mix :=
  (W5_of m ρ c main_v9_0 (by decide)).trans ((out0 m ρ c 8 main_v9_0 rfl (by decide) (by decide)).trans (Fwd.final8 (reads0 m ρ c)))

theorem res1 : W5 m ρ c (Proc.devRef .tc main_v9_1) = arr2 (ins m c).x2 :=
  (W5_of m ρ c main_v9_1 (by decide)).trans ((out0 m ρ c 9 main_v9_1 rfl (by decide) (by decide)).trans (Fwd.final9 (reads0 m ρ c)))

theorem res2 : W5 m ρ c (Proc.devRef .tc main_v13) = arr2 (ins m c).h2 :=
  (show _ = extf (F := Ideal) .f32 (show FVec Ideal S16384x1024 .bf16 from W4 m ρ c (Proc.devRef .tc main_v9_2)) bitsLt_bf16_f32 from rfl).trans
    ((out0 m ρ c 10 main_v9_2 rfl (by decide) (by decide)).trans (Fwd.final10 (reads0 m ρ c)))

theorem res3 : W5 m ρ c (Proc.devRef .tc main_v14) = arr2 (fun k r => (ins m c).h2 r k) :=
  (show _ = extf (F := Ideal) .f32 (show FVec Ideal S1024x16384 .bf16 from W4 m ρ c (Proc.devRef .tc main_v9_3)) bitsLt_bf16_f32 from rfl).trans
    ((out0 m ρ c 11 main_v9_3 rfl (by decide) (by decide)).trans (Fwd.final11 (reads0 m ρ c)))

theorem res4 : W5 m ρ c (Proc.devRef .tc main_v12_0) = arr2 (ins m c).dx2 :=
  (W5_of m ρ c main_v12_0 (by decide)).trans ((W4_arr m ρ c 8).trans (Bwd.final8 (reads1 m ρ c)))

theorem res5 : W5 m ρ c (Proc.devRef .tc main_v15) = arr2 (ins m c).dmix :=
  (show _ = extf (F := Ideal) .f32 (show FVec Ideal S16384x1024 .bf16 from W4 m ρ c (Proc.devRef .tc main_v12_1)) bitsLt_bf16_f32 from rfl).trans
    ((W4_arr m ρ c 9).trans (Bwd.final9 (reads1 m ρ c)))

theorem res6 : W5 m ρ c (Proc.devRef .tc main_v12_2) = arr2 (fun (_ : Fin 1) k => ∑ s : Fin 16384, (ins m c).dg3R s k) :=
  (W5_of m ρ c main_v12_2 (by decide)).trans ((W4_arr m ρ c 10).trans (Bwd.final10 (reads1 m ρ c)))

theorem res7 : W5 m ρ c (Proc.devRef .tc main_v12_3) = arr2 (fun (_ : Fin 1) k => ∑ s : Fin 16384, (ins m c).dg2R s k) :=
  (W5_of m ρ c main_v12_3 (by decide)).trans ((W4_arr m ρ c 11).trans (Bwd.final11 (reads1 m ρ c)))

set_option backward.isDefEq.respectTransparency.types false in
/-- The kernel's run: its results entry by entry, its arguments unchanged. -/
theorem run_rows : θ_run defs (onTc (τ := τ) (main (F := Ideal))) ⟨m, fun _ => 0, ρ⟩ (fun r => ∀ c : Dev nD,
      r.2.mem (c.tc.loc main_v9_0) = arr2 (ins m c).mix
      ∧ r.2.mem (c.tc.loc main_v9_1) = arr2 (ins m c).x2
      ∧ r.2.mem (c.tc.loc main_v13) = arr2 (ins m c).h2
      ∧ r.2.mem (c.tc.loc main_v14) = arr2 (fun k r => (ins m c).h2 r k)
      ∧ r.2.mem (c.tc.loc main_v12_0) = arr2 (ins m c).dx2
      ∧ r.2.mem (c.tc.loc main_v15) = arr2 (ins m c).dmix
      ∧ r.2.mem (c.tc.loc main_v12_2) = arr2 (fun (_ : Fin 1) k => ∑ s : Fin 16384, (ins m c).dg3R s k)
      ∧ r.2.mem (c.tc.loc main_v12_3) = arr2 (fun (_ : Fin 1) k => ∑ s : Fin 16384, (ins m c).dg2R s k)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)
      ∧ r.2.mem (c.tc.loc main_arg8) = m (c.tc.loc main_arg8)
      ∧ r.2.mem (c.tc.loc main_arg9) = m (c.tc.loc main_arg9)
      ∧ r.2.mem (c.tc.loc main_arg10) = m (c.tc.loc main_arg10)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz c =>
      ⟨(h c _ (mem_uc main_v9_0 (by decide))).trans (res0 m ρ c),
       (h c _ (mem_uc main_v9_1 (by decide))).trans (res1 m ρ c),
       (h c _ (mem_uc main_v13 (by decide))).trans (res2 m ρ c),
       (h c _ (mem_uc main_v14 (by decide))).trans (res3 m ρ c),
       (h c _ (mem_uc main_v12_0 (by decide))).trans (res4 m ρ c),
       (h c _ (mem_uc main_v15 (by decide))).trans (res5 m ρ c),
       (h c _ (mem_uc main_v12_2 (by decide))).trans (res6 m ρ c),
       (h c _ (mem_uc main_v12_3 (by decide))).trans (res7 m ρ c),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c)⟩)

end Cert.Kernel5Ideal.Tok

namespace Cert.Proof

/-- The output projection, the residual and the feed-forward block's token gradients agree with the reference's. -/
theorem tokens : Cert.algebraic_Kernel5Ideal_Reference5Ideal := by
  pair_intro
  · run_from Cert.Kernel5Ideal.Tok.run_rows m g
  · refine (θ_run _ _ _).mono (fun r h c => ?_) (Cert.Reference5Ideal.Tok.run_rows m' g')
    obtain ⟨e0, e1, e2, e3, e4, e5, e6, e7, e8, e9, e10⟩ := hagree c
    have e : Cert.Reference5Ideal.Tok.ins (StableHlo.launchContents m' c) = Cert.Kernel5Ideal.Tok.ins m c := by
      rw [Cert.Reference5Ideal.Tok.ins_eq, e0, e1, e2, e3, e4, e5, e6, e7, e8, e9, e10]
      rfl
    have k := h c
    rw [e] at k
    exact k

end Cert.Proof

end
-- ==== Proof.Loss.lean ====
/- The feed-forward block with its loss: the grid points, the arrays after the run, the reference, and the claim. -/
module

public import proofs.«01_k».proof.Proof.Gen.Kernel7Ideal.Frame
public import proofs.«01_k».proof.Proof.NormBwd
public import Idealize.ShloMosaic.Lib.Pipeline.ValueKit
public import Idealize.ShloMosaic.Lib.Pipeline.ReadBack
public import Idealize.ShloMosaic.Lib.Pointwise
public import proofs.«01_k».proof.Proof.Gen.Reference7Ideal.Run
public import proofs.«01_k».proof.Proof.FfnClaim
public import proofs.«01_k».proof.Defs
public import Idealize.ShloMosaic.Lib.Claim

@[expose] public section

set_option maxRecDepth 16384

noncomputable section

open Idealize.ShloMosaic Idealize.ShloMosaic.TcCoe Idealize.SL.Sem
open Idealize.ShloMosaic.Pipeline (Dat)
namespace Cert.Loss

open Cert.Tok (nrm D10)

/-- The arguments, entry by entry. -/
structure Ins where
  /-- The block's own arguments. -/
  b : Ffn.Ins
  /-- The residual. -/
  x2 : Fin 16384 → Fin 1024 → EReal
  /-- The target. -/
  tg : Fin 16384 → Fin 1024 → EReal
  /-- The last norm's scale. -/
  g : Fin 1024 → EReal

namespace Ins

variable (I : Ins)

/-- The block's output. -/
def f (r : Fin 16384) (d : Fin 1024) : EReal := ∑ s : Fin 4, ∑ l : Fin 704, I.b.act s l r * I.b.wd (Ffn.row s l) d
/-- The distance from the target. -/
def err (r : Fin 16384) (k : Fin 1024) : EReal := I.x2 r k + nrm D10 (I.f r) k * I.g k - I.tg r k
/-- The step's output's gradient. -/
def dy (r : Fin 16384) (k : Fin 1024) : EReal := I.err r k * Ideal.ofBits .f32 0x3A800000#32
/-- The block's output's gradient. -/
def df (r : Fin 16384) : Fin 1024 → EReal := Tok.dmixRow (I.f r) (I.dy r) I.g
/-- One row's part of the squared distance. -/
def sq (r : Fin 16384) (k : Fin 1024) : EReal := I.err r k * I.err r k
/-- One row's part of the scale's gradient. -/
def dg (r : Fin 16384) (k : Fin 1024) : EReal := I.dy r k * nrm D10 (I.f r) k

end Ins

end Cert.Loss

namespace Cert.Kernel7Ideal.Loss

open Cert.Kernel7Ideal Cert.Kernel7Ideal.Gen Cert.Loss
open Cert.Ffn (lgs lag conv row lo hi arr3)
open Cert.Tok (col nrm D10 dmixRow dmixRow_congr arr2)

/-- Slot `n` of an array of three axes, from row `o` on. -/
abbrev sl {p a b : ℕ} (n o a' : ℕ) (h : n < p ∧ o + a' ≤ a) : Rect ⟨3, ![p, a, b]⟩ :=
  Rect.unit ![n, o, 0] ![1, a', b] (by intro i; fin_cases i; exacts [h.1, h.2, (Nat.zero_add b).le])

/-- A slot's index in the array. -/
theorem emb_at {p a b n o a' : ℕ} (h : n < p ∧ o + a' ≤ a) (j : Fin a') (l : Fin b) :
    (sl (p := p) (a := a) (b := b) n o a' h).emb (ix3 0 j l) = ix3 ⟨n, h.1⟩ ⟨o + j.val, by omega⟩ l := by
  funext i
  fin_cases i
  · exact Fin.ext (show n + 1 * 0 = n by omega)
  · exact Fin.ext (show o + 1 * j.val = o + j.val by omega)
  · exact Fin.ext (show 0 + 1 * l.val = l.val by omega)

variable (h : Vec Ideal S256x1024 .bf16) (W : Vec Ideal S8x1024x704 .bf16) (N : Vec Ideal S8x16x704 .bf16) (C : Vec Ideal S8x3x704 .f32)
variable (B : Vec Ideal S8x1x704 .f32) (D : Vec Ideal S4x704x1024 .bf16)

/-- A column block's expanded rows. -/
def uT (q : Fin 8) : FVec Ideal S256x704 .bf16 := k0_pay7 h (View.ld W (sl q.val 0 1024 ⟨q.isLt, by decide⟩))
/-- The rows before the tile. -/
def hT (q : Fin 8) : Vec Ideal S1x16x704 .bf16 := View.ld N (sl q.val 0 16 ⟨q.isLt, by decide⟩)
/-- A column block's convolved rows. -/
def cT (q : Fin 8) : FVec Ideal S256x704 .f32 :=
  k0_pay27 (k0_pay14 (uT h W q) (hT N q)) (k0_pay15 (uT h W q) (hT N q)) (k0_pay16 (uT h W q) (hT N q))
    (k0_pay21 (View.ld C (sl q.val 0 1 ⟨q.isLt, by decide⟩))) (k0_pay22 (View.ld C (sl q.val 1 1 ⟨q.isLt, by decide⟩)))
    (k0_pay23 (View.ld C (sl q.val 2 1 ⟨q.isLt, by decide⟩))) (View.ld B (sl q.val 0 1 ⟨q.isLt, by decide⟩))
/-- The logistic function's denominator. -/
def den (x : FVec Ideal S256x704 .f32) : FVec Ideal S256x704 .f32 :=
  addf (broadcast S256x704 (Scalar.ofBits .f32 0x3F800000#32)) (exp (subf (broadcast S256x704 (Scalar.ofBits .f32 0x00000000#32)) x))
/-- A column block's part added to the output. -/
def fS (acc : FVec Ideal S256x1024 .f32) (s : Fin 4) : FVec Ideal S256x1024 .f32 :=
  k0_pay109 acc (cT h W N C B (lo s)) (cT h W N C B (hi s)) (den (cT h W N C B (lo s))) (FloatOps.ofBits FTy.f32 1065353216#32) (View.ld D (sl s.val 0 704 ⟨s.isLt, by decide⟩))
/-- The output before its last part. -/
def f3 : FVec Ideal S256x1024 .f32 := fS h W N C B D (fS h W N C B D (fS h W N C B D k0_pay6 0) 1) 2
/-- The output's norm. -/
def rT : FVec Ideal S256x1 .f32 :=
  k0_pay110 (f3 h W N C B D) (cT h W N C B 3) (cT h W N C B 7) (den (cT h W N C B 3)) (FloatOps.ofBits FTy.f32 1065353216#32) (View.ld D (sl 3 0 704 (by decide)))
/-- The output, normalised. -/
def nT : FVec Ideal S256x1024 .f32 :=
  k0_pay111 (f3 h W N C B D) (cT h W N C B 3) (cT h W N C B 7) (den (cT h W N C B 3)) (FloatOps.ofBits FTy.f32 1065353216#32) (View.ld D (sl 3 0 704 (by decide)))

variable (I : Ins) (R : Fin 256 → Fin 16384)

/-- The blocks hold the rows `R` and the rows before them. -/
structure Tile : Prop where
  step : ∀ r, (R r).val = (R 0).val + r.val
  h : ∀ r k, (h (ix2 r k) : EReal) = I.b.h2 (R r) k
  W : ∀ q k l, (W (ix3 q k l) : EReal) = I.b.wu k (col q l)
  C : ∀ q k l, (C (ix3 q k l) : EReal) = I.b.cw k (col q l)
  B : ∀ q l, (B (ix3 q 0 l) : EReal) = I.b.cb (col q l)
  D : ∀ s l d, (D (ix3 s l d) : EReal) = I.b.wd (row s l) d

/-- A shift within the tile is a lag, if the rows before the tile are the earlier rows. -/
theorem shift_eq (hR : ∀ r, (R r).val = (R 0).val + r.val) (f : Fin 16384 → EReal) (d : Fin 256 → EReal) (e : Fin 16 → EReal) (k : ℕ) (hk : k < 16)
    (hd : ∀ r, d r = f (R r)) (he : ∀ j : Fin 16, e j = lag f (16 - j.val) (R 0)) (r : Fin 256) :
    (if h : (16 + r.val + 272 - k) % 272 < 16 then e ⟨(16 + r.val + 272 - k) % 272, h⟩ else d ⟨(16 + r.val + 272 - k) % 272 - 16, by omega⟩) = lag f k (R r) := by
  have hr := hR r
  have e1 : (16 + r.val + 272 - k) % 272 = r.val + 16 - k := by omega
  simp only [e1]
  unfold lag
  split
  · next h =>
    rw [he]
    unfold lag
    have e : 16 - (r.val + 16 - k) = k - r.val := by omega
    simp only [e]
    by_cases h2 : k ≤ (R r).val
    · rw [dif_pos h2, dif_pos (by omega)]; exact congrArg f (Fin.ext (by simp only []; omega))
    · rw [dif_neg h2, dif_neg (by omega)]
  · next h =>
    have h2 := hR ⟨r.val + 16 - k - 16, by omega⟩
    simp only [] at h2
    rw [hd, dif_pos (by omega)]
    exact congrArg f (Fin.ext (by simp only []; omega))

variable {h W N C B D I R} (T : Tile h W C B D I R) (H : ∀ q (j : Fin 16) l, (N (ix3 q j l) : EReal) = lag (I.b.up (col q l)) (16 - j.val) (R 0))

include T in
theorem uT_at (q : Fin 8) (r : Fin 256) (l : Fin 704) : uT h W q (ix2 r l) = I.b.up (col q l) (R r) := by
  unfold uT
  pointwise [k0_pay7, k0_pay5]
  exact Finset.sum_congr rfl fun k _ => congrArg₂ (fun a b : EReal => a * b) (T.h r k) (T.W q k l)

include T H in
theorem cT_at (q : Fin 8) (r : Fin 256) (l : Fin 704) : cT h W N C B q (ix2 r l) = I.b.cv (col q l) (R r) := by
  have hr := r.isLt
  have hh : ∀ j : Fin 16, hT N q (ix3 0 j l) = lag (I.b.up (col q l)) (16 - j.val) (R 0) := fun j => by
    unfold hT
    pointwise
    exact H q j l
  have s2 : k0_pay14 (uT h W q) (hT N q) (ix2 r l) = lag (I.b.up (col q l)) 2 (R r) := by
    refine Eq.trans ?_ (shift_eq R T.step (I.b.up (col q l)) (fun r => uT h W q (ix2 r l)) (fun j => hT N q (ix3 0 j l)) 2 (by decide) (fun r => uT_at T q r l) hh r)
    pointwise [k0_pay14, k0_pay13]
  have s1 : k0_pay15 (uT h W q) (hT N q) (ix2 r l) = lag (I.b.up (col q l)) 1 (R r) := by
    refine Eq.trans ?_ (shift_eq R T.step (I.b.up (col q l)) (fun r => uT h W q (ix2 r l)) (fun j => hT N q (ix3 0 j l)) 1 (by decide) (fun r => uT_at T q r l) hh r)
    pointwise [k0_pay15, k0_pay13]
  have s0 : k0_pay16 (uT h W q) (hT N q) (ix2 r l) = I.b.up (col q l) (R r) := by
    refine Eq.trans ?_ (uT_at T q r l)
    pointwise [k0_pay16, k0_pay13]
  have e : cT h W N C B q (ix2 r l) = (C (ix3 q 0 l) : EReal) * k0_pay14 (uT h W q) (hT N q) (ix2 r l) + C (ix3 q 1 l) * k0_pay15 (uT h W q) (hT N q) (ix2 r l)
      + C (ix3 q 2 l) * k0_pay16 (uT h W q) (hT N q) (ix2 r l) + B (ix3 q 0 l) := by
    unfold cT
    pointwise [k0_pay27, k0_pay21, k0_pay22, k0_pay23]
    try rfl
  rw [e, s2, s1, s0, T.C, T.C, T.C, T.B, add_comm _ (I.b.cb _), ← add_assoc, ← add_assoc]
  rfl

include T H in
theorem fS_at (acc : FVec Ideal S256x1024 .f32) (s : Fin 4) (r : Fin 256) (d : Fin 1024) :
    fS h W N C B D acc s (ix2 r d) = (acc (ix2 r d) : EReal) + ∑ l : Fin 704, I.b.act s l (R r) * I.b.wd (row s l) d := by
  have e : fS h W N C B D acc s (ix2 r d) = (acc (ix2 r d) : EReal) + ∑ l : Fin 704, (cT h W N C B (lo s) (ix2 r l)) * lgs (cT h W N C B (lo s) (ix2 r l)) * (cT h W N C B (hi s) (ix2 r l))
      * D (ix3 s l d) := by
    unfold fS
    pointwise [k0_pay109, den, lgs]
  rw [e]
  refine congrArg (fun x : EReal => _ + x) (Finset.sum_congr rfl fun l _ => ?_)
  rw [cT_at T H, cT_at T H, T.D]
  rfl

include T H in
theorem fT_at (r : Fin 256) (d : Fin 1024) : fS h W N C B D (f3 h W N C B D) 3 (ix2 r d) = I.f (R r) d := by
  unfold f3
  have z : k0_pay6 (F := Ideal) (ix2 r d) = (0 : EReal) := by pointwise [k0_pay6]
  rw [fS_at T H, fS_at T H, fS_at T H, fS_at T H, z, zero_add]
  unfold Ins.f
  rw [Fin.sum_univ_four]

/-- The normalised output, from the output. -/
theorem n_pay (acc : FVec Ideal S256x1024 .f32) (a b dn : FVec Ideal S256x704 .f32) (one : EReal) (wd : Vec Ideal S1x704x1024 .bf16) (r : Fin 256) (d : Fin 1024) :
    k0_pay111 (F := Ideal) acc a b dn one wd (ix2 r d) = nrm D10 (fun d => k0_pay109 (F := Ideal) acc a b dn one wd (ix2 r d)) d := by
  pointwise [k0_pay111, k0_pay110, nrm, Norm.ms]

include T H in
theorem nT_at (r : Fin 256) (d : Fin 1024) : nT h W N C B D (ix2 r d) = nrm D10 (I.f (R r)) d := by
  refine (n_pay _ _ _ _ _ _ r d).trans (congrArg (fun f => nrm D10 f d) (funext fun d => fT_at T H r d))

include T H in
theorem rT_at (r : Fin 256) : rT h W N C B D (ix2 r 0) = Ideal.rsqrt (Norm.ms D10 (I.f (R r))) := by
  have go : ∀ (acc : FVec Ideal S256x1024 .f32) (a b dn : FVec Ideal S256x704 .f32) (one : EReal) (wd : Vec Ideal S1x704x1024 .bf16),
      k0_pay110 (F := Ideal) acc a b dn one wd (ix2 r 0) = Ideal.rsqrt (Norm.ms D10 (fun d => k0_pay109 (F := Ideal) acc a b dn one wd (ix2 r d))) := by
    intro acc a b dn one wd
    pointwise [k0_pay110, Norm.ms]
  exact (go _ _ _ _ _ _).trans (congrArg (fun f => Ideal.rsqrt (Norm.ms D10 f)) (funext fun d => fT_at T H r d))

section Rows

variable {n x tg : FVec Ideal S256x1024 .f32} {q : FVec Ideal S256x1 .f32} {g acc : FVec Ideal S1x1024 .f32}
variable (hn : ∀ r k, (n (ix2 r k) : EReal) = nrm D10 (I.f (R r)) k) (hx : ∀ r k, (x (ix2 r k) : EReal) = I.x2 (R r) k)
variable (ht : ∀ r k, (tg (ix2 r k) : EReal) = I.tg (R r) k) (hg : ∀ k, (g (ix2 0 k) : EReal) = I.g k)
include hn hx ht hg

theorem err_at (r : Fin 256) (k : Fin 1024) : k0_pay112 (F := Ideal) n x g tg (ix2 r k) = I.err (R r) k := by
  have e : k0_pay112 (F := Ideal) n x g tg (ix2 r k) = (x (ix2 r k) : EReal) + n (ix2 r k) * g (ix2 0 k) - tg (ix2 r k) := by pointwise [k0_pay112]
  rw [e, hn, hx, ht, hg]
  rfl

theorem dy_at (r : Fin 256) (k : Fin 1024) : k0_pay113 (F := Ideal) n x g tg (ix2 r k) = I.dy (R r) k := by
  have e : k0_pay113 (F := Ideal) n x g tg (ix2 r k) = (k0_pay112 (F := Ideal) n x g tg (ix2 r k) : EReal) * Ideal.ofBits .f32 0x3A800000#32 := by pointwise [k0_pay113]
  rw [e, err_at hn hx ht hg]
  rfl

theorem df_at (hq : ∀ r, (q (ix2 r 0) : EReal) = Ideal.rsqrt (Norm.ms D10 (I.f (R r)))) (r : Fin 256) (k : Fin 1024) :
    k0_pay114 (F := Ideal) q n x g tg g (ix2 r k) = I.df (R r) k := by
  have e : k0_pay114 (F := Ideal) q n x g tg g (ix2 r k) = (q (ix2 r 0) : EReal) * (k0_pay113 (F := Ideal) n x g tg (ix2 r k) * g (ix2 0 k)
      - n (ix2 r k) * Ideal.div (∑ j, k0_pay113 (F := Ideal) n x g tg (ix2 r j) * g (ix2 0 j) * n (ix2 r j)) D10) := by pointwise [k0_pay114]
  simp only [e, dy_at hn hx ht hg, hn, hg, hq]
  rfl

theorem sq_at (k : Fin 1024) : k0_pay115 (F := Ideal) n x g tg acc (ix2 0 k) = (acc (ix2 0 k) : EReal) + ∑ r : Fin 256, I.sq (R r) k := by
  have e : k0_pay115 (F := Ideal) n x g tg acc (ix2 0 k) = (acc (ix2 0 k) : EReal) + ∑ r : Fin 256, k0_pay112 (F := Ideal) n x g tg (ix2 r k) * k0_pay112 (F := Ideal) n x g tg (ix2 r k) := by
    pointwise [k0_pay115]
  simp only [e, err_at hn hx ht hg]
  rfl

theorem dg_at (k : Fin 1024) : k0_pay1 (F := Ideal) (k0_pay116 acc) (k0_pay117 n x g tg) (ix2 0 k) = (acc (ix2 0 k) : EReal) + ∑ r : Fin 256, I.dg (R r) k := by
  have e : k0_pay1 (F := Ideal) (k0_pay116 acc) (k0_pay117 n x g tg) (ix2 0 k) = (acc (ix2 0 k) : EReal) + ∑ r : Fin 256, k0_pay113 (F := Ideal) n x g tg (ix2 r k) * n (ix2 r k) := by
    pointwise [k0_pay1, k0_pay116, k0_pay117]
  simp only [e, dy_at hn hx ht hg, hn]
  rfl

end Rows

/-- The windows' block indices at every grid point. -/
theorem idx : ∀ t : Fin cfg0.N, win0_0.index t = ![t.val, 0] ∧ win0_1.index t = ![0, 0, 0] ∧ win0_2.index t = ![0, 0, 0] ∧ win0_3.index t = ![0, 0, 0]
    ∧ win0_4.index t = ![0, 0, 0] ∧ win0_5.index t = ![t.val, 0] ∧ win0_6.index t = ![t.val, 0] ∧ win0_7.index t = ![0, 0]
    ∧ win0_8.index t = ![0, t.val, 0] ∧ win0_9.index t = ![0, t.val, 0] ∧ win0_10.index t = ![t.val, 0] ∧ win0_11.index t = ![t.val, 0]
    ∧ win0_12.index t = ![0, 0] ∧ win0_13.index t = ![0, 0] :=
  (by decide +kernel : ∀ t : Fin grid0.N, _)

/-- The row of the arrays that a grid point's tile holds at row `r`. -/
def rowAt (t : Fin cfg0.N) (r : Fin 256) : Fin 16384 := ⟨t.val * 256 + r.val, by have := lt_of_lt_of_eq t.isLt N_0; omega⟩

variable (m : (ℓ : Loc nD τ sig) → Buf (Elt Ideal) ℓ) (c : Dev nD)

/-- The kept rows a point reads. -/
def halo (t : Fin cfg0.N) : Vec Ideal S8x16x704 .bf16 := if t.val % 64 = 0 then k0_pay4 (F := Ideal) else (outsAt0 m c (t.val - 1) (lt_prev t)).2.2.2.2.2.2
/-- A point's normalised output. -/
abbrev nn (t : Fin cfg0.N) := nT (iblk m c 0 t) (iblk m c 1 t) (halo m c t) (iblk m c 2 t) (iblk m c 3 t) (iblk m c 4 t)

set_option maxHeartbeats 4000000 in
/-- What a point leaves. -/
theorem outs (t : Fin cfg0.N) : (outsAt0 m c t.val t.isLt).2.2.1 = k0_pay113 (nn m c t) (iblk m c 5 t) (iblk m c 7 t) (iblk m c 6 t)
    ∧ (outsAt0 m c t.val t.isLt).2.2.2.1 = k0_pay114 (rT (iblk m c 0 t) (iblk m c 1 t) (halo m c t) (iblk m c 2 t) (iblk m c 3 t) (iblk m c 4 t)) (nn m c t) (iblk m c 5 t) (iblk m c 7 t) (iblk m c 6 t) (iblk m c 7 t)
    ∧ (outsAt0 m c t.val t.isLt).2.2.2.2.1 = k0_pay115 (nn m c t) (iblk m c 5 t) (iblk m c 7 t) (iblk m c 6 t)
        (if t.val % 64 = 0 then k0_pay2 (F := Ideal) else (outsAt0 m c (t.val - 1) (lt_prev t)).2.2.2.2.1)
    ∧ (outsAt0 m c t.val t.isLt).2.2.2.2.2.1 = k0_pay1 (k0_pay116
        (if t.val % 64 = 0 then k0_pay3 (F := Ideal) else (outsAt0 m c (t.val - 1) (lt_prev t)).2.2.2.2.2.1)) (k0_pay117 (nn m c t) (iblk m c 5 t) (iblk m c 7 t) (iblk m c 6 t)) := by
  by_cases h0 : t.val % 64 = 0
  · unfold nn halo
    simp only [if_pos h0]
    rw [outsAt0_A m c t h0]
    refine ⟨?_, ?_, ?_, ?_⟩ <;> (funext y; frame_out; simp (decide := true) only [↓View.readCov_skip, ↓View.readCov_fill])
    all_goals rfl
  · unfold nn halo
    simp only [if_neg h0]
    rw [outsAt0_B m c t h0]
    refine ⟨?_, ?_, ?_, ?_⟩ <;> (funext y; frame_out; rw [read_unread_whole])
    all_goals rfl

section Pieces

variable (I) (R)

/-- Column blocks of a table of columns, over the rows `R`. -/
def cols {n : ℕ} (R : Fin n → Fin 16384) (f : Fin 5632 → Fin 16384 → EReal) : (⟨3, ![8, n, 704]⟩ : Shape).Idx → EReal := fun y => f (col (y 0) (y 2)) (R (y 1))

variable {I} {R}

include T in
theorem up_piece (q : Fin 8) (x : (⟨3, ![1, 256, 704]⟩ : Shape).Idx) :
    k0_pay11 (F := Ideal) h (View.ld W (sl q.val 0 1024 ⟨q.isLt, by decide⟩)) x = cols R I.b.up ((sl (p := 8) q.val 0 256 ⟨q.isLt, by decide⟩).emb x) := by
  idx_vars x
  obtain rfl := x0.eq_zero
  rw [emb_at]
  have e : k0_pay11 (F := Ideal) h (View.ld W (sl q.val 0 1024 ⟨q.isLt, by decide⟩)) (ix3 0 x1 x2) = uT h W q (ix2 x1 x2) := by
    unfold k0_pay11
    pointwise
    rfl
  rw [e, uT_at T]
  exact congrArg (fun r => I.b.up (col q x2) (R r)) (Fin.ext (Nat.zero_add _).symm)

include T H in
theorem cv_piece (q : Fin 8) (x : (⟨3, ![1, 256, 704]⟩ : Shape).Idx) :
    k0_pay34 (F := Ideal) (cT h W N C B q) x = cols R I.b.cv ((sl (p := 8) q.val 0 256 ⟨q.isLt, by decide⟩).emb x) := by
  idx_vars x
  obtain rfl := x0.eq_zero
  rw [emb_at]
  have e : k0_pay34 (F := Ideal) (cT h W N C B q) (ix3 0 x1 x2) = cT h W N C B q (ix2 x1 x2) := by
    pointwise [k0_pay34]
  rw [e, cT_at T H]
  exact congrArg (fun r => I.b.cv (col q x2) (R r)) (Fin.ext (Nat.zero_add _).symm)

include T in
theorem keep_piece (q : Fin 8) (x : (⟨3, ![1, 16, 704]⟩ : Shape).Idx) :
    k0_pay30 (F := Ideal) (uT h W q) x = cols (fun j : Fin 16 => R ⟨240 + j.val, by omega⟩) I.b.up ((sl (p := 8) q.val 0 16 ⟨q.isLt, by decide⟩).emb x) := by
  idx_vars x
  obtain rfl := x0.eq_zero
  rw [emb_at]
  have e : k0_pay30 (F := Ideal) (uT h W q) (ix3 0 x1 x2) = uT h W q (ix2 ⟨240 + x1.val, by omega⟩ x2) := by
    pointwise [k0_pay30]
  rw [e, uT_at T]
  exact congrArg (fun r => I.b.up (col q x2) (R r)) (Fin.ext (show 240 + x1.val = 240 + (0 + x1.val) by omega))

end Pieces

variable (I) in
/-- The arrays the region reads. -/
structure Reads : Prop where
  h2 : ∀ (r : Fin 16384) (k : Fin 1024), (show FVec Ideal S16384x1024 .bf16 from V m c main_v11) (ix2 r k) = I.b.h2 r k
  wu : ∀ (q : Fin 8) (k : Fin 1024) (l : Fin 704), (show FVec Ideal S8x1024x704 .bf16 from V m c main_v3) (ix3 q k l) = I.b.wu k (col q l)
  cw : ∀ (q : Fin 8) (k : Fin 3) (l : Fin 704), (show FVec Ideal S8x3x704 .f32 from V m c main_v6) (ix3 q k l) = I.b.cw k (col q l)
  cb : ∀ (q : Fin 8) (l : Fin 704), (show FVec Ideal S8x1x704 .f32 from V m c main_v7) (ix3 q 0 l) = I.b.cb (col q l)
  wd : ∀ (s : Fin 4) (l : Fin 704) (d : Fin 1024), (show FVec Ideal S4x704x1024 .bf16 from V m c main_v10) (ix3 s l d) = I.b.wd (row s l) d
  x2 : ∀ (r : Fin 16384) (k : Fin 1024), (show FVec Ideal S16384x1024 .f32 from V m c main_arg1) (ix2 r k) = I.x2 r k
  tg : ∀ (r : Fin 16384) (k : Fin 1024), (show FVec Ideal S16384x1024 .f32 from V m c main_arg2) (ix2 r k) = I.tg r k
  g : ∀ k : Fin 1024, (show FVec Ideal S1x1024 .f32 from V m c main_arg3) (ix2 0 k) = I.g k

variable {m c} (A : Reads I m c)
include A

/-- A point's blocks. -/
theorem tile (t : Fin cfg0.N) : Tile (iblk m c 0 t) (iblk m c 1 t) (iblk m c 2 t) (iblk m c 3 t) (iblk m c 4 t) I (rowAt t) where
  step r := rfl
  h r k := by refine Eq.trans ?_ (A.h2 (rowAt t r) k); unfold rowAt; blk_point [iblk, idx t]
  W q k l := by refine Eq.trans ?_ (A.wu q k l); blk_point [iblk, idx t]
  C q k l := by refine Eq.trans ?_ (A.cw q k l); blk_point [iblk, idx t]
  B q l := by refine Eq.trans ?_ (A.cb q l); blk_point [iblk, idx t]
  D s l d := by refine Eq.trans ?_ (A.wd s l d); blk_point [iblk, idx t]

theorem x2_blk (t : Fin cfg0.N) (r : Fin 256) (k : Fin 1024) : (show FVec Ideal S256x1024 .f32 from iblk m c 5 t) (ix2 r k) = I.x2 (rowAt t r) k := by
  refine Eq.trans ?_ (A.x2 (rowAt t r) k); unfold rowAt; blk_point [iblk, idx t]

theorem tg_blk (t : Fin cfg0.N) (r : Fin 256) (k : Fin 1024) : (show FVec Ideal S256x1024 .f32 from iblk m c 6 t) (ix2 r k) = I.tg (rowAt t r) k := by
  refine Eq.trans ?_ (A.tg (rowAt t r) k); unfold rowAt; blk_point [iblk, idx t]

theorem g_blk (t : Fin cfg0.N) (k : Fin 1024) : (show FVec Ideal S1x1024 .f32 from iblk m c 7 t) (ix2 0 k) = I.g k := by
  refine Eq.trans ?_ (A.g k); blk_point [iblk, idx t]

/-- What the scratch holds after a point: the tile's last rows. -/
theorem scratch_at (t : Fin cfg0.N) (y : S8x16x704.Idx) : (outsAt0 m c t.val t.isLt).2.2.2.2.2.2 y = cols (fun j : Fin 16 => rowAt t ⟨240 + j.val, by omega⟩) I.b.up y := by
  have T := tile A t
  by_cases h0 : t.val % 64 = 0
  · rw [outsAt0_A m c t h0]; frame_out
    exact View.canon_append_of_piecesOf (Val := Elt Ideal) (e := .bf16) _ [_] [_, _, _, _, _, _, _, _] ⟨keep_piece T 7, keep_piece T 3, keep_piece T 6, keep_piece T 2, keep_piece T 5, keep_piece T 1, keep_piece T 4, keep_piece T 0, trivial⟩ y (View.cover_of_tiled_head _ _ _ rfl y)
  · rw [outsAt0_B m c t h0]; frame_out
    exact View.canon_append_of_piecesOf (Val := Elt Ideal) (e := .bf16) _ [] [_, _, _, _, _, _, _, _] ⟨keep_piece T 7, keep_piece T 3, keep_piece T 6, keep_piece T 2, keep_piece T 5, keep_piece T 1, keep_piece T 4, keep_piece T 0, trivial⟩ y (View.cover_of_tiled_head _ _ _ rfl y)

/-- The rows before a tile. -/
theorem halo_at (t : Fin cfg0.N) (q : Fin 8) (j : Fin 16) (l : Fin 704) : (halo m c t (ix3 q j l) : EReal) = lag (I.b.up (col q l)) (16 - j.val) (rowAt t 0) := by
  have ht := lt_of_lt_of_eq t.isLt N_0
  unfold halo lag
  have z : ((0 : Fin 256) : ℕ) = 0 := rfl
  by_cases h0 : t.val % 64 = 0
  · rw [if_pos h0, dif_neg (by simp only [rowAt, z]; omega)]
    pointwise [k0_pay4]
  · rw [if_neg h0, dif_pos (by simp only [rowAt, z]; omega)]
    exact (scratch_at A ⟨t.val - 1, lt_prev t⟩ (ix3 q j l)).trans (congrArg (I.b.up (col q l)) (Fin.ext (show (t.val - 1) * 256 + (240 + j.val) = t.val * 256 + 0 - (16 - j.val) by omega)))

/-- The expanded rows that a point's block covers. -/
theorem at8 (t : Fin cfg0.N) (y : S8x256x704.Idx) (j : S8x16384x704.Idx) (h0 : (j 0 : ℕ) = (y 0 : ℕ)) (h1 : (j 1 : ℕ) = t.val * 256 + (y 1 : ℕ)) (h2 : (j 2 : ℕ) = (y 2 : ℕ)) :
    (outsAt0 m c t.val t.isLt).1 y = arr3 (fun q r l => I.b.up (col q l) r) j := by
  have e : (outsAt0 m c t.val t.isLt).1 y = cols (rowAt t) I.b.up y := by
    by_cases h0 : t.val % 64 = 0
    · rw [outsAt0_A m c t h0]; frame_out
      exact View.canon_append_of_piecesOf (Val := Elt Ideal) (e := .bf16) _ [] [_, _, _, _, _, _, _, _] ⟨up_piece (tile A t) 7, up_piece (tile A t) 3, up_piece (tile A t) 6, up_piece (tile A t) 2, up_piece (tile A t) 5, up_piece (tile A t) 1, up_piece (tile A t) 4, up_piece (tile A t) 0, trivial⟩ y (View.cover_of_tiled_head _ _ _ rfl y)
    · rw [outsAt0_B m c t h0]; frame_out
      exact View.canon_append_of_piecesOf (Val := Elt Ideal) (e := .bf16) _ [] [_, _, _, _, _, _, _, _] ⟨up_piece (tile A t) 7, up_piece (tile A t) 3, up_piece (tile A t) 6, up_piece (tile A t) 2, up_piece (tile A t) 5, up_piece (tile A t) 1, up_piece (tile A t) 4, up_piece (tile A t) 0, trivial⟩ y (View.cover_of_tiled_head _ _ _ rfl y)
  rw [e]
  exact congrArg₂ I.b.up (congrArg₂ col (Fin.ext h0.symm) (Fin.ext h2.symm)) (Fin.ext h1.symm)

/-- The array after the run. -/
theorem final8 : (dats m 0 c).arrAt 8 (cfgs 0).N = arr3 (fun q r l => I.b.up (col q l) r) := by
  refine (dats m 0 c).arrAt_eq_of_covers 8 _ (by decide +kernel) fun t hf y => ?_
  blk_simp
  rw [after0_8]
  refine at8 A t y _ ?_ ?_ ?_ <;> (blk_simp [idx t] <;> try omega)

set_option maxHeartbeats 4000000 in
/-- The convolved rows that a point's block covers. -/
theorem at9 (t : Fin cfg0.N) (y : S8x256x704.Idx) (j : S8x16384x704.Idx) (h0 : (j 0 : ℕ) = (y 0 : ℕ)) (h1 : (j 1 : ℕ) = t.val * 256 + (y 1 : ℕ)) (h2 : (j 2 : ℕ) = (y 2 : ℕ)) :
    (outsAt0 m c t.val t.isLt).2.1 y = arr3 (fun q r l => I.b.cv (col q l) r) j := by
  have C := fun q => cv_piece (tile A t) (halo_at A t) q
  have e : (outsAt0 m c t.val t.isLt).2.1 y = cols (rowAt t) I.b.cv y := by
    by_cases h0 : t.val % 64 = 0
    · rw [show halo m c t = k0_pay4 (F := Ideal) from if_pos h0] at C
      rw [outsAt0_A m c t h0]; frame_out
      simp (decide := true) only [↓View.readCov_skip, ↓View.readCov_fill]
      exact View.canon_append_of_piecesOf (Val := Elt Ideal) (e := .bf16) _ [] [_, _, _, _, _, _, _, _] ⟨C 7, C 3, C 6, C 2, C 5, C 1, C 4, C 0, trivial⟩ y (View.cover_of_tiled_head _ _ _ rfl y)
    · rw [show halo m c t = (outsAt0 m c (t.val - 1) (lt_prev t)).2.2.2.2.2.2 from if_neg h0] at C
      rw [outsAt0_B m c t h0]; frame_out
      rw [read_unread_whole]
      exact View.canon_append_of_piecesOf (Val := Elt Ideal) (e := .bf16) _ [] [_, _, _, _, _, _, _, _] ⟨C 7, C 3, C 6, C 2, C 5, C 1, C 4, C 0, trivial⟩ y (View.cover_of_tiled_head _ _ _ rfl y)
  rw [e]
  exact congrArg₂ I.b.cv (congrArg₂ col (Fin.ext h0.symm) (Fin.ext h2.symm)) (Fin.ext h1.symm)

/-- The array after the run. -/
theorem final9 : (dats m 0 c).arrAt 9 (cfgs 0).N = arr3 (fun q r l => I.b.cv (col q l) r) := by
  refine (dats m 0 c).arrAt_eq_of_covers 9 _ (by decide +kernel) fun t hf y => ?_
  blk_simp
  rw [after0_9]
  refine at9 A t y _ ?_ ?_ ?_ <;> (blk_simp [idx t] <;> try omega)

/-- The output's gradient that a point's block covers. -/
theorem at10 (t : Fin cfg0.N) (y : S256x1024.Idx) (j : S16384x1024.Idx) (h0 : (j 0 : ℕ) = t.val * 256 + (y 0 : ℕ)) (h1 : (j 1 : ℕ) = (y 1 : ℕ)) :
    (outsAt0 m c t.val t.isLt).2.2.1 y = arr2 I.dy j := by
  idx_vars y
  idx_vars j
  obtain rfl : j1 = y1 := Fin.ext h1
  obtain rfl : j0 = rowAt t y0 := Fin.ext h0
  rw [(outs m c t).1]
  exact dy_at (nT_at (tile A t) (halo_at A t)) (x2_blk A t) (tg_blk A t) (g_blk A t) y0 j1

/-- The array after the run. -/
theorem final10 : (dats m 0 c).arrAt 10 (cfgs 0).N = arr2 I.dy := by
  refine (dats m 0 c).arrAt_eq_of_covers 10 _ (by decide +kernel) fun t hf y => ?_
  blk_simp
  rw [after0_10]
  refine at10 A t y _ ?_ ?_ <;> (blk_simp [idx t] <;> try omega)

/-- The block's output's gradient that a point's block covers. -/
theorem at11 (t : Fin cfg0.N) (y : S256x1024.Idx) (j : S16384x1024.Idx) (h0 : (j 0 : ℕ) = t.val * 256 + (y 0 : ℕ)) (h1 : (j 1 : ℕ) = (y 1 : ℕ)) :
    (outsAt0 m c t.val t.isLt).2.2.2.1 y = arr2 I.df j := by
  idx_vars y
  idx_vars j
  obtain rfl : j1 = y1 := Fin.ext h1
  obtain rfl : j0 = rowAt t y0 := Fin.ext h0
  rw [(outs m c t).2.1]
  exact df_at (nT_at (tile A t) (halo_at A t)) (x2_blk A t) (tg_blk A t) (g_blk A t) (rT_at (tile A t) (halo_at A t)) y0 j1

/-- The array after the run. -/
theorem final11 : (dats m 0 c).arrAt 11 (cfgs 0).N = arr2 I.df := by
  refine (dats m 0 c).arrAt_eq_of_covers 11 _ (by decide +kernel) fun t hf y => ?_
  blk_simp
  rw [after0_11]
  refine at11 A t y _ ?_ ?_ <;> (blk_simp [idx t] <;> try omega)

omit A in
/-- The last grid point. -/
def lastPt : Fin cfg0.N := ⟨63, by decide⟩

omit A in
/-- A sum carried over the grid's tiles is the sum over all the rows. -/
theorem acc (f : (n : ℕ) → n < cfg0.N → EReal) (F : Fin 16384 → EReal) (hs : ∀ t : Fin cfg0.N, (t.val % 64 = 0 → f t.val t.isLt = 0 + ∑ r : Fin 256, F (rowAt t r))
      ∧ (¬ t.val % 64 = 0 → f t.val t.isLt = f (t.val - 1) (lt_prev t) + ∑ r : Fin 256, F (rowAt t r))) :
    f lastPt.val lastPt.isLt = ∑ r : Fin 16384, F r := by
  have e := Pipeline.eq_sum_fin_of_reset_step_apply_last (fun n h (_ : Unit) => f n h) 64 (fun _ => 0) (fun t _ => ∑ r : Fin 256, F (rowAt t r))
    (fun t h _ => (hs t).1 h) (fun t h _ => (hs t).2 h) (by decide) lastPt (by decide) ()
  refine e.trans ((zero_add _).trans ?_)
  exact Fin.sum_mul_add_congr (S := 64) (n := 256) fun i k hl => congrArg F (Fin.ext (by simp only [rowAt]))

/-- The squared distances' column sums. -/
theorem final12 : (dats m 0 c).arrAt 12 (cfgs 0).N = arr2 (fun (_ : Fin 1) k => ∑ r : Fin 16384, I.sq r k) := by
  refine (dats m 0 c).arrAt_eq_of_after_last 12 lastPt (by decide +kernel) _ fun j => ?_
  blk_simp
  idx_vars j
  obtain rfl := j0.eq_zero
  rw [after0_12]
  refine Eq.trans ?_ (acc (fun n h => (outsAt0 m c n h).2.2.2.2.1 (ix2 0 j1)) (fun r => I.sq r j1) (fun t => ⟨fun h0 => ?_, fun h0 => ?_⟩))
  · exact congrArg _ (by blk_ext [idx lastPt])
  · refine (congrFun (outs m c t).2.2.1 _).trans ((sq_at (nT_at (tile A t) (halo_at A t)) (x2_blk A t) (tg_blk A t) (g_blk A t) j1).trans ?_)
    rw [if_pos h0]
    exact congrArg (fun x : EReal => x + _) (by pointwise [k0_pay2])
  · refine (congrFun (outs m c t).2.2.1 _).trans ((sq_at (nT_at (tile A t) (halo_at A t)) (x2_blk A t) (tg_blk A t) (g_blk A t) j1).trans ?_)
    rw [if_neg h0]

/-- The scale's gradient. -/
theorem final13 : (dats m 0 c).arrAt 13 (cfgs 0).N = arr2 (fun (_ : Fin 1) k => ∑ r : Fin 16384, I.dg r k) := by
  refine (dats m 0 c).arrAt_eq_of_after_last 13 lastPt (by decide +kernel) _ fun j => ?_
  blk_simp
  idx_vars j
  obtain rfl := j0.eq_zero
  rw [after0_13]
  refine Eq.trans ?_ (acc (fun n h => (outsAt0 m c n h).2.2.2.2.2.1 (ix2 0 j1)) (fun r => I.dg r j1) (fun t => ⟨fun h0 => ?_, fun h0 => ?_⟩))
  · exact congrArg _ (by blk_ext [idx lastPt])
  · refine (congrFun (outs m c t).2.2.2 _).trans ((dg_at (nT_at (tile A t) (halo_at A t)) (x2_blk A t) (tg_blk A t) (g_blk A t) j1).trans ?_)
    rw [if_pos h0]
    exact congrArg (fun x : EReal => x + _) (by pointwise [k0_pay3])
  · refine (congrFun (outs m c t).2.2.2 _).trans ((dg_at (nT_at (tile A t) (halo_at A t)) (x2_blk A t) (tg_blk A t) (g_blk A t) j1).trans ?_)
    rw [if_neg h0]

end Cert.Kernel7Ideal.Loss

open Idealize.ShloMosaic.StableHlo (launchContents)
namespace Cert.Loss

/-- The arguments' arrays. -/
def ins (h x2 tg : FVec Ideal ⟨2, ![16384, 1024]⟩ .f32) (g : FVec Ideal ⟨2, ![1, 1024]⟩ .f32) (wu : FVec Ideal ⟨3, ![1, 1024, 5632]⟩ .f32)
    (w : FVec Ideal ⟨3, ![1, 3, 5632]⟩ .f32) (b : FVec Ideal ⟨2, ![1, 5632]⟩ .f32) (wd : FVec Ideal ⟨3, ![1, 2816, 1024]⟩ .f32) : Ins where
  b := Ffn.ins h wu w b wd x2
  x2 r k := x2 (ix2 r k)
  tg r k := tg (ix2 r k)
  g k := g (ix2 0 k)

open Cert.Tok (D10)

/-- The loss. -/
def Ins.loss (I : Ins) : EReal := Ideal.div (Ideal.ofBits .f32 0x3F000000#32 * ∑ k : Fin 1024, ∑ r : Fin 16384, I.sq r k) D10

/-- The mean of the rows' squared distances is the mean of the columns'. -/
theorem Ins.loss_eq (I : Ins) : Ideal.ofBits .f32 0x3F000000#32 * ∑ r : Fin 16384, Ideal.div (∑ k : Fin 1024, I.sq r k) D10 = I.loss := by
  have d : ∀ x : EReal, Ideal.div x D10 = x * ((1 / 1024 : ℝ) : EReal) := fun x => by rw [D10, Norm.c1024, Ideal.div_coe (by norm_num)]
  unfold Ins.loss
  simp only [d]
  rw [Norm.sum_mul_real _ _ (by norm_num), Finset.sum_comm, mul_assoc]

/-- The gradient of half the mean square. -/
theorem mean_eq (x : EReal) : Ideal.div (Ideal.ofBits .f32 0x3F000000#32) D10 * (Ideal.ofBits .f32 0x40000000#32 * x) = x * Ideal.ofBits .f32 0x3A800000#32 := by
  have h : Ideal.ofBits .f32 0x3F000000#32 = ((1 / 2 : ℝ) : EReal) := by simp [Ideal.ofBits, Ideal.ieee]; rw [← EReal.coe_mul]; norm_num
  have t : Ideal.ofBits .f32 0x40000000#32 = ((2 : ℝ) : EReal) := by simp [Ideal.ofBits, Ideal.ieee]; rw [← EReal.coe_mul]; norm_num
  have s : Ideal.ofBits .f32 0x3A800000#32 = ((1 / 1024 : ℝ) : EReal) := by simp [Ideal.ofBits, Ideal.ieee]; rw [← EReal.coe_mul]; norm_num
  rw [h, t, s, D10, Norm.c1024, Ideal.div_coe (by norm_num), ← mul_assoc, ← EReal.coe_mul, ← EReal.coe_mul, mul_comm x]
  norm_num

end Cert.Loss

namespace Cert.Reference7Ideal.Loss

open Cert.Reference7Ideal Cert.Reference7Ideal.Gen Cert.Reference7Ideal.Value Cert.Loss
open Cert.Tok (col nrm D10 arr2 ext2 dmixRow)
open Cert.Ffn (row lo hi lgs arr3 ext3)

variable (V : Valuation τ sig (Elt Ideal))

/-- The arguments' entries. -/
abbrev I : Ins := ins (V (Proc.devRef .tc main_arg0)) (V (Proc.devRef .tc main_arg1)) (V (Proc.devRef .tc main_arg2)) (V (Proc.devRef .tc main_arg3))
  (V (Proc.devRef .tc main_arg4)) (V (Proc.devRef .tc main_arg5)) (V (Proc.devRef .tc main_arg6)) (V (Proc.devRef .tc main_arg7))

theorem v1_at (r : Fin 16384) (q : Fin 5632) : (show FVec Ideal S16384x5632 .f32 from res_main_v1 V) (ix2 r q) = (I V).b.up q r :=
  Cert.Reference6Ideal.Ffn.up_at (V (Proc.devRef .tc main_arg0)) (V (Proc.devRef .tc main_arg4)) r q

theorem v28_at (r : Fin 16384) (q : Fin 5632) : (show FVec Ideal S16384x5632 .f32 from res_main_v28 V) (ix2 r q) = (I V).b.cv q r :=
  Cert.Reference6Ideal.Ffn.u_at (V (Proc.devRef .tc main_arg0)) (V (Proc.devRef .tc main_arg4)) (V (Proc.devRef .tc main_arg5)) (V (Proc.devRef .tc main_arg6)) (V (Proc.devRef .tc main_arg7)) (V (Proc.devRef .tc main_arg1)) r q

/-- The block's output. -/
theorem v34_at (r : Fin 16384) (d : Fin 1024) : (show FVec Ideal S16384x1024 .f32 from res_main_v34 V) (ix2 r d) = (I V).f r d := by
  unfold res_main_v34 res_main_v29 Ins.f
  pointwise
  refine (Fin.sum_mul_add_congr (S := 4) (n := 704) fun s l h => ?_).symm
  simp only [v28_at]
  have e : (⟨2816 + (s.val * 704 + l.val), by omega⟩ : Fin 5632) = col (hi s) l := Fin.ext (show 2816 + (s.val * 704 + l.val) = (s.val + 4) * 704 + l.val by omega)
  rw [e, ← zero_add (-_), ← sub_eq_add_neg]
  rfl

theorem v42_at (r : Fin 16384) (k : Fin 1) : (show FVec Ideal S16384x1 .f32 from res_main_v42 V) (ix2 r k) = Norm.ms D10 ((I V).f r) := by
  unfold res_main_v42
  pointwise [Norm.ms]
  simp only [v34_at]

/-- The block's output, normalised. -/
theorem v48_at (r : Fin 16384) (k : Fin 1024) : (show FVec Ideal S16384x1024 .f32 from res_main_v48 V) (ix2 r k) = nrm D10 ((I V).f r) k := by
  unfold res_main_v48 res_main_v43
  pointwise [nrm]
  simp only [v34_at, v42_at]

/-- The distance from the target. -/
theorem v53_at (r : Fin 16384) (k : Fin 1024) : (show FVec Ideal S16384x1024 .f32 from res_main_v53 V) (ix2 r k) = (I V).err r k := by
  unfold res_main_v53 res_main_v49
  pointwise
  simp only [v48_at]
  rfl

/-- The output's gradient. -/
theorem v67_at (r : Fin 16384) (k : Fin 1024) : (show FVec Ideal S16384x1024 .f32 from res_main_v67 V) (ix2 r k) = (I V).dy r k := by
  unfold res_main_v67
  pointwise
  simp only [v53_at]
  exact mean_eq _

theorem v72_at (r : Fin 16384) (k : Fin 1024) : (show FVec Ideal S16384x1024 .f32 from res_main_v72 V) (ix2 r k) = (I V).dy r k * (I V).g k := by
  unfold res_main_v72 res_main_v49
  pointwise
  simp only [v67_at]
  rfl

/-- The block's output's gradient. -/
def dF : FVec Ideal S16384x1024 .f32 :=
  addf (addf (mulf (res_main_v72 V) (broadcastInDim S16384x1024 ![0, 1] bcast_S16384x1_S16384x1024_0_1 (res_main_v43 V))) (mulf (res_main_v34 V) (res_main_v83 V))) (mulf (res_main_v83 V) (res_main_v34 V))

theorem dF_at (r : Fin 16384) (k : Fin 1024) : dF V (ix2 r k) = (I V).df r k := by
  unfold Ins.df dmixRow
  rw [← Norm.nb_eq _ Norm.c1024 (by norm_num)]
  unfold dF res_main_v83 res_main_v43
  pointwise
  simp only [Fin.sum_univ_one, v34_at, v42_at, v72_at]

/-- The scale's gradient. -/
def dG : FVec Ideal S1x1024 .f32 :=
  broadcastInDim S1x1024 ![1] bcast_S1024_S1x1024_1 (Host.reduceAdd (shapeCast _ (Host.reduceAdd (mulf (res_main_v48 V) (res_main_v67 V)) (constant S_ .f32 0x00000000#32) reducesTo_S16384x1024_S1024_d0 h_S_) shapeCasts_S1024_S1x1024) (constant S_ .f32 0x00000000#32) reducesTo_S1x1024_S1024_d0 h_S_)

theorem dG_at (r : Fin 1) (k : Fin 1024) : dG V (ix2 r k) = ∑ s : Fin 16384, (I V).dg s k := by
  unfold dG
  pointwise
  simp only [Fin.sum_univ_one, v48_at, v67_at]
  exact Finset.sum_congr rfl fun s _ => mul_comm _ _

/-- The loss. -/
def dL : FVec Ideal S_ .f32 :=
  mulf (constant S_ .f32 0x3F000000#32) (Host.reduceAdd (Host.divf (Host.reduceAdd (mulf (res_main_v53 V) (res_main_v53 V)) (constant S_ .f32 0x00000000#32) reducesTo_S16384x1024_S16384_d1 h_S_) (broadcastInDim S16384 ![] bcast_S_S16384 (constant S_ .f32 0x44800000#32))) (constant S_ .f32 0x00000000#32) reducesTo_S16384_S_d0 h_S_)

theorem dL_at (j : S_.Idx) : dL V j = (I V).loss := by
  rw [← Ins.loss_eq]
  unfold dL
  pointwise
  simp only [v53_at]
  rfl

theorem blk_at (x : FVec Ideal S16384x5632 .f32) (f : Fin 5632 → Fin 16384 → EReal) (h : ∀ r q, x (ix2 r q) = f q r) :
    transpose S8x16384x704 [1, 0, 2] (shapeCast _ x shapeCasts_S16384x5632_S16384x8x704) transposes_S16384x8x704_S8x16384x704_1_0_2 = arr3 fun q r l => f (col q l) r :=
  ext3 fun q r l => (Cert.Reference6Ideal.Ffn.blocks_at x q r l).trans (h r (col q l))

end Cert.Reference7Ideal.Loss

namespace Cert.Kernel7Ideal.Loss

open Cert.Kernel7Ideal Cert.Kernel7Ideal.Gen Cert.Loss
open Cert.Tok (col arr2 D10)
open Cert.Ffn (arr3)

variable (m : (ℓ : Loc nD τ sig) → Buf (Elt Ideal) ℓ) (ρ : Dev nD → PrngReg) (c : Dev nD)

/-- The arguments' entries. -/
abbrev I : Ins := ins (m (c.tc.loc main_arg0)) (m (c.tc.loc main_arg1)) (m (c.tc.loc main_arg2)) (m (c.tc.loc main_arg3))
  (m (c.tc.loc main_arg4)) (m (c.tc.loc main_arg5)) (m (c.tc.loc main_arg6)) (m (c.tc.loc main_arg7))

/-- What the region reads. -/
theorem reads : Reads (I m c) m c where
  h2 r k := by
    have e : (show FVec Ideal S16384x1024 .bf16 from V m c main_v11) = truncf (F := Ideal) .bf16 (show FVec Ideal S16384x1024 .f32 from m (c.tc.loc main_arg0)) bitsLt_bf16_f32 := rfl
    rw [e]; pointwise; rfl
  wu q k l := by
    have e : (show FVec Ideal S8x1024x704 .bf16 from V m c main_v3) = transpose S8x1024x704 [1, 0, 2] (shapeCast S1024x8x704 (truncf (F := Ideal) .bf16 (shapeCast S1024x5632
      (show FVec Ideal S1x1024x5632 .f32 from m (c.tc.loc main_arg4)) shapeCasts_S1x1024x5632_S1024x5632) bitsLt_bf16_f32) shapeCasts_S1024x5632_S1024x8x704) transposes_S1024x8x704_S8x1024x704_1_0_2 := rfl
    rw [e]; pointwise; rfl
  cw q k l := by
    have e : (show FVec Ideal S8x3x704 .f32 from V m c main_v6) = transpose S8x3x704 [1, 0, 2] (shapeCast S3x8x704 (shapeCast S3x5632
      (show FVec Ideal S1x3x5632 .f32 from m (c.tc.loc main_arg5)) shapeCasts_S1x3x5632_S3x5632) shapeCasts_S3x5632_S3x8x704) transposes_S3x8x704_S8x3x704_1_0_2 := rfl
    rw [e]; pointwise; rfl
  cb q l := by
    have e : (show FVec Ideal S8x1x704 .f32 from V m c main_v7) = shapeCast S8x1x704 (show FVec Ideal S1x5632 .f32 from m (c.tc.loc main_arg6)) shapeCasts_S1x5632_S8x1x704 := rfl
    rw [e]; pointwise; rfl
  wd s l d := by
    have e : (show FVec Ideal S4x704x1024 .bf16 from V m c main_v10) = shapeCast S4x704x1024 (truncf (F := Ideal) .bf16 (shapeCast S2816x1024
      (show FVec Ideal S1x2816x1024 .f32 from m (c.tc.loc main_arg7)) shapeCasts_S1x2816x1024_S2816x1024) bitsLt_bf16_f32) shapeCasts_S2816x1024_S4x704x1024 := rfl
    rw [e]; pointwise; rfl
  x2 r k := rfl
  tg r k := rfl
  g k := rfl

/-- Every array after the region. -/
abbrev W1 (c : Dev nD) : Valuation τ sig (Elt Ideal) := Pipeline.withArrays (cfgs 0).spec c (V0 m c) fun w => (dats m 0 c).arrAt w (cfgs 0).N

theorem W1_arr (w : Fin cfg0.W) : W1 m c (Proc.devRef .tc (Pipeline.arrRef spec0 w)) = (dats m 0 c).arrAt w (cfgs 0).N :=
  Pipeline.withArrays_arr spec0 winFacts0.arr_inj c (V0 m c) _ w

/-- The loss. -/
theorem res0 : (show FVec Ideal S_ .f32 from Pipeline.afterTail₀ cfgs (dats m) 0 (V0 m) [hostOps1] c main_v15) = fun _ => (I m c).loss := by
  have e : (show FVec Ideal S_ .f32 from Pipeline.afterTail₀ cfgs (dats m) 0 (V0 m) [hostOps1] c main_v15)
      = Host.divf (mulf (constant S_ .f32 0x3F000000#32) (Host.reduceAdd (show FVec Ideal S1x1024 .f32 from W1 m c (Proc.devRef .tc (Pipeline.arrRef spec0 12)))
        (constant S_ .f32 0x00000000#32) reducesTo_S1x1024_S_d0_1 h_S_)) (constant S_ .f32 0x44800000#32) := rfl
  rw [e, W1_arr, final12 (reads m c)]
  funext j
  pointwise
  simp only [Fin.sum_univ_one]
  rfl

theorem res2 : Pipeline.afterTail₀ cfgs (dats m) 0 (V0 m) [hostOps1] c main_v16 = arr2 (I m c).df :=
  (show _ = extf (F := Ideal) .f32 (show FVec Ideal S16384x1024 .bf16 from W1 m c (Proc.devRef .tc (Pipeline.arrRef spec0 11))) bitsLt_bf16_f32 from rfl).trans
    ((W1_arr m c 11).trans (final11 (reads m c)))

theorem res4 : Pipeline.afterTail₀ cfgs (dats m) 0 (V0 m) [hostOps1] c main_v17 = arr3 fun q r l => (I m c).b.up (col q l) r :=
  (show _ = extf (F := Ideal) .f32 (show FVec Ideal S8x16384x704 .bf16 from W1 m c (Proc.devRef .tc (Pipeline.arrRef spec0 8))) bitsLt_bf16_f32 from rfl).trans
    ((W1_arr m c 8).trans (final8 (reads m c)))

theorem res5 : Pipeline.afterTail₀ cfgs (dats m) 0 (V0 m) [hostOps1] c main_v18 = arr3 fun q r l => (I m c).b.cv (col q l) r :=
  (show _ = extf (F := Ideal) .f32 (show FVec Ideal S8x16384x704 .bf16 from W1 m c (Proc.devRef .tc (Pipeline.arrRef spec0 9))) bitsLt_bf16_f32 from rfl).trans
    ((W1_arr m c 9).trans (final9 (reads m c)))

/-- The kernel's run: its results entry by entry, its arguments unchanged. -/
theorem run_rows : θ_run defs (onTc (τ := τ) (main (F := Ideal))) ⟨m, fun _ => 0, ρ⟩ (fun r => ∀ c : Dev nD,
      r.2.mem (c.tc.loc main_v15) = (fun _ => (I m c).loss)
      ∧ r.2.mem (c.tc.loc main_v12_2) = arr2 (I m c).dy
      ∧ r.2.mem (c.tc.loc main_v16) = arr2 (I m c).df
      ∧ r.2.mem (c.tc.loc main_v12_5) = arr2 (fun (_ : Fin 1) k => ∑ s : Fin 16384, (I m c).dg s k)
      ∧ r.2.mem (c.tc.loc main_v17) = arr3 (fun q r l => (I m c).b.up (col q l) r)
      ∧ r.2.mem (c.tc.loc main_v18) = arr3 (fun q r l => (I m c).b.cv (col q l) r)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)) := by
  refine (θ_run defs _ _).mono (fun r h c => ?_) (θ_run_and (run_main m ρ) (unchanged m ρ))
  have M := fun (b : Ref sig .tc) h₁ h₂ => (h.1 c).2 b (Pipeline.mem_restRefs_of b h₁ h₂)
  exact ⟨(M main_v15 (by decide) (by decide)).trans (res0 m c), ((h.1 c).1 10).trans (final10 (reads m c)), (M main_v16 (by decide) (by decide)).trans (res2 m c),
    ((h.1 c).1 13).trans (final13 (reads m c)), (M main_v17 (by decide) (by decide)).trans (res4 m c), (M main_v18 (by decide) (by decide)).trans (res5 m c), h.2 c⟩

end Cert.Kernel7Ideal.Loss

namespace Cert.Reference7Ideal.Loss

open Cert.Reference7Ideal Cert.Reference7Ideal.Value Cert.Loss
open Cert.Tok (col arr2 ext2)
open Cert.Ffn (arr3)

/-- The reference's run: its results entry by entry, its arguments unchanged. -/
theorem run_rows (m : (ℓ : Loc nD τ sig) → Buf (Elt Ideal) ℓ) (ρ : Dev nD → PrngReg) : θ_run defs (onTc (τ := τ) (main (F := Ideal))) ⟨m, fun _ => 0, ρ⟩ (fun r => ∀ c : Dev nD,
      r.2.mem (c.tc.loc main_v61) = (fun _ => (I (launchContents m c)).loss)
      ∧ r.2.mem (c.tc.loc main_v67) = arr2 (I (launchContents m c)).dy
      ∧ r.2.mem (c.tc.loc main_v87) = arr2 (I (launchContents m c)).df
      ∧ r.2.mem (c.tc.loc main_v88) = arr2 (fun (_ : Fin 1) k => ∑ s : Fin 16384, (I (launchContents m c)).dg s k)
      ∧ r.2.mem (c.tc.loc main_v90) = arr3 (fun q r l => (I (launchContents m c)).b.up (col q l) r)
      ∧ r.2.mem (c.tc.loc main_v92) = arr3 (fun q r l => (I (launchContents m c)).b.cv (col q l) r)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)) :=
  (θ_run _ _ _).mono (fun r h c => by
    obtain ⟨h0, h1, h2, h3, h4, h5, k⟩ := h c
    exact ⟨h0.trans (funext (dL_at _)), h1.trans (ext2 _ _ (v67_at _)), h2.trans (ext2 _ _ (dF_at _)), h3.trans (ext2 _ _ (dG_at _)),
      h4.trans (blk_at _ _ (v1_at _)), h5.trans (blk_at _ _ (v28_at _)), k⟩) (run (F := Ideal) m ρ)

end Cert.Reference7Ideal.Loss

namespace Cert.Loss

/-- Every result of the feed-forward block with its loss. -/
theorem claim : Cert.algebraic_Kernel7Ideal_Reference7Ideal := by
  pair_intro
  · run_from Cert.Kernel7Ideal.Loss.run_rows m g
  · refine (θ_run _ _ _).mono (fun r h c => ?_) (Cert.Reference7Ideal.Loss.run_rows m' g')
    obtain ⟨e0, e1, e2, e3, e4, e5, e6, e7⟩ := hagree c
    have e : Cert.Reference7Ideal.Loss.I (launchContents m' c) = Cert.Kernel7Ideal.Loss.I m c := by
      rw [show Cert.Reference7Ideal.Loss.I (launchContents m' c) = ins _ _ _ _ _ _ _ _ from rfl]
      exact congr (congr (congr (congr (congr (congr (congr (congrArg ins e0) e1) e2) e3) e4) e5) e6) e7
    have k := h c
    rw [e] at k
    exact k

end Cert.Loss

end
-- ==== Proof.Input.lean ====
/- The input normalisation's and projection's backward pass: the reference, the grid points and arrays, and the claim. -/
module

public import proofs.«01_k».proof.Proof.Gen.Reference4Ideal.Run
public import proofs.«01_k».proof.Proof.NormBwd
public import Idealize.ShloMosaic.Lib.Pointwise
public import proofs.«01_k».proof.Proof.Gen.Kernel4Ideal.Frame
public import Idealize.ShloMosaic.Lib.Pipeline.ValueKit
public import proofs.«01_k».proof.Defs
public import Idealize.ShloMosaic.Lib.Claim

@[expose] public section

set_option maxRecDepth 16384

noncomputable section

open Idealize.ShloMosaic Idealize.ShloMosaic.TcCoe Idealize.SL.Sem
namespace Cert.Reference4Ideal.Stage

open Cert.Reference4Ideal Cert.Reference4Ideal.Gen Cert.Reference4Ideal.Value

/-- The root's argument. -/
def vN (x : FVec Ideal S16384x1024 .f32) : FVec Ideal S16384x1 .f32 :=
  addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32))

/-- The reciprocal root, on every entry of a row. -/
def rN (x : FVec Ideal S16384x1024 .f32) : FVec Ideal S16384x1024 .f32 :=
  broadcastInDim S16384x1024 ![0, 1] bcast_S16384x1_S16384x1024_0_1 (Host.rsqrt (vN x))

/-- The input projection's product with its cotangent. -/
def dH (w : FVec Ideal S1x1024x2048 .f32) (d : FVec Ideal S16384x2048 .f32) : FVec Ideal S16384x1024 .f32 :=
  Host.dotGeneral dot_S16384x2048_S1024x2048_S16384x1024_1_1_0_0_n_n none d (shapeCast S1024x2048 w shapeCasts_S1x1024x2048_S1024x2048)

/-- The cotangent of the normalised row. -/
def ct (g : FVec Ideal S1x1024 .f32) (w : FVec Ideal S1x1024x2048 .f32) (d : FVec Ideal S16384x2048 .f32) : FVec Ideal S16384x1024 .f32 :=
  mulf (dH w d) (broadcastInDim S16384x1024 ![0, 1] bcast_S1x1024_S16384x1024_0_1 (broadcastInDim S1x1024 ![1] bcast_S1024_S1x1024_1 (shapeCast S1024 g shapeCasts_S1x1024_S1024)))

/-- The mean's part of the gradient, on every entry of a row. -/
def mN (x : FVec Ideal S16384x1024 .f32) (c : FVec Ideal S16384x1024 .f32) : FVec Ideal S16384x1024 .f32 :=
  broadcastInDim S16384x1024 ![0] bcast_S16384_S16384x1024_0 (Host.reduceAdd (Host.divf (mulf (shapeCast S16384x1 (Host.reduceAdd (mulf x c) (constant S_ .f32 0x00000000#32) reducesTo_S16384x1024_S16384_d1 h_S_) shapeCasts_S16384_S16384x1) (mulf (broadcastInDim S16384x1 ![] bcast_S_S16384x1 (constant S_ .f32 0xBF000000#32)) (Host.divf (Host.rsqrt (vN x)) (vN x)))) (broadcastInDim S16384x1 ![] bcast_S_S16384x1 (constant S_ .f32 0x44800000#32))) (constant S_ .f32 0x00000000#32) reducesTo_S16384x1_S16384_d1 h_S_)

/-- The gradient of the step's input. -/
def dX (x : FVec Ideal S16384x1024 .f32) (g : FVec Ideal S1x1024 .f32) (w : FVec Ideal S1x1024x2048 .f32) (d : FVec Ideal S16384x2048 .f32) (e : FVec Ideal S16384x1024 .f32) : FVec Ideal S16384x1024 .f32 :=
  addf (addf (addf e (mulf (ct g w d) (rN x))) (mulf x (mN x (ct g w d)))) (mulf (mN x (ct g w d)) x)

/-- The gradient of the normalisation's scale. -/
def dG (x : FVec Ideal S16384x1024 .f32) (w : FVec Ideal S1x1024x2048 .f32) (d : FVec Ideal S16384x2048 .f32) : FVec Ideal S1x1024 .f32 :=
  broadcastInDim S1x1024 ![1] bcast_S1024_S1x1024_1 (Host.reduceAdd (shapeCast S1x1024 (Host.reduceAdd (mulf (mulf x (rN x)) (dH w d)) (constant S_ .f32 0x00000000#32) reducesTo_S16384x1024_S1024_d0 h_S_) shapeCasts_S1024_S1x1024) (constant S_ .f32 0x00000000#32) reducesTo_S1x1024_S1024_d0 h_S_)

/-- The projection's backward product at row `r`, feature `k`. -/
def dh (w : FVec Ideal S1x1024x2048 .f32) (d : FVec Ideal S16384x2048 .f32) (r : Fin 16384) (k : Fin 1024) : EReal :=
  ∑ l : Fin 2048, d (ix2 r l) * w (ix3 0 k l)

/-- The root's argument, at a row. -/
theorem vN_at (x : FVec Ideal S16384x1024 .f32) (r : Fin 16384) (k : Fin 1) :
    vN x (ix2 r k) = Norm.ms (Ideal.ofBits .f32 0x44800000#32) (fun j : Fin 1024 => x (ix2 r j)) := by
  pointwise [vN, Norm.ms]

/-- The input's gradient at row `r`, feature `k`. -/
theorem dX_at (x g w d e) (r : Fin 16384) (k : Fin 1024) :
    dX x g w d e (ix2 r k) = e (ix2 r k) + Norm.nb (Ideal.ofBits .f32 0x44800000#32) (fun j : Fin 1024 => x (ix2 r j)) (fun j => dh w d r j * g (ix2 0 j)) k := by
  rw [← Norm.nb_eq _ Norm.c1024 (by norm_num)]
  pointwise [dX, mN, ct, dH, rN, dh]
  simp only [Fin.sum_univ_one, vN_at, add_assoc]

/-- The scale's gradient at feature `k`. -/
theorem dG_at (x w d) (r : Fin 1) (k : Fin 1024) : dG x w d (ix2 r k)
    = ∑ s : Fin 16384, dh w d s k * (x (ix2 s k) * Ideal.rsqrt (Norm.ms (Ideal.ofBits .f32 0x44800000#32) (fun j : Fin 1024 => x (ix2 s j)))) := by
  pointwise [dG, dH, rN, dh]
  simp only [Fin.sum_univ_one, vN_at]
  exact Finset.sum_congr rfl fun s _ => mul_comm _ _

variable (m : (ℓ : Loc nD τ sig) → Buf (Elt Ideal) ℓ) (ρ : Dev nD → PrngReg)

/-- The reference's run, its results named by the stages above. -/
theorem run_stages : θ_run defs (onTc (τ := τ) (main (F := Ideal))) ⟨m, fun _ => 0, ρ⟩ fun r => ∀ c : Dev nD,
      r.2.mem (c.tc.loc main_v40) = dX (m (c.tc.loc main_arg0)) (m (c.tc.loc main_arg1))
          (m (c.tc.loc main_arg2)) (m (c.tc.loc main_arg3)) (m (c.tc.loc main_arg4))
      ∧ r.2.mem (c.tc.loc main_v41) = dG (m (c.tc.loc main_arg0))
          (m (c.tc.loc main_arg2)) (m (c.tc.loc main_arg3))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4) :=
  (θ_run defs _ _).mono (fun r h c => ⟨(h c).1.trans rfl, (h c).2.1.trans rfl, (h c).2.2⟩) (run m ρ)

end Cert.Reference4Ideal.Stage

open Idealize.ShloMosaic.Pipeline (Dat)
namespace Cert.Kernel4Ideal.Value

open Cert.Kernel4Ideal Cert.Kernel4Ideal.Gen

variable (m : (ℓ : Loc nD τ sig) → Buf (Elt Ideal) ℓ)

/-- The windows' block indices at every grid point. -/
theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0] ∧ win0_6.index t = ![0, 0] :=
  (by decide +kernel : ∀ t : Fin grid0.N, _)

/-- The last grid point. -/
def lastPt : Fin cfg0.N := ⟨31, by decide⟩

/-- The stored gradient at row `r`, feature `k`, from the blocks the body read. -/
theorem dx_pay (d : FVec Ideal S512x2048 .bf16) (w : FVec Ideal S2048x1024 .bf16) (x e : FVec Ideal S512x1024 .f32) (g : Vec Ideal S1x1024 .f32) (r : Fin 512) (k : Fin 1024) :
    k0_pay1 (F := Ideal) (k0_pay4 x) (k0_pay5 x) e (k0_pay7 d w g) (k0_pay8 d w x g) k0_pay9 (ix2 r k)
      = e (ix2 r k) + Norm.nb (Ideal.ofBits .f32 0x44800000#32) (fun j : Fin 1024 => x (ix2 r j))
          (fun j => (∑ l : Fin 2048, d (ix2 r l) * w (ix2 l j)) * g (ix2 0 j)) k := by
  pointwise [k0_pay1, k0_pay3, k0_pay4, k0_pay5, k0_pay7, k0_pay8, k0_pay9, Norm.nb, Norm.ms]

/-- A block's normalised entry. -/
def nrmB (x : FVec Ideal S512x1024 .f32) (r : Fin 512) (k : Fin 1024) : EReal :=
  x (ix2 r k) * Ideal.rsqrt (Norm.ms (Ideal.ofBits .f32 0x44800000#32) (fun j : Fin 1024 => x (ix2 r j)))

/-- The scale gradient's step. -/
theorem dg_pay (d : FVec Ideal S512x2048 .bf16) (w : FVec Ideal S2048x1024 .bf16) (x : FVec Ideal S512x1024 .f32) (acc : Vec Ideal S1x1024 .f32) (k : Fin 1024) :
    k0_pay6 (F := Ideal) d w x acc (ix2 0 k)
      = (acc (ix2 0 k) : EReal) + ∑ s : Fin 512, (∑ l : Fin 2048, d (ix2 s l) * w (ix2 l k)) * nrmB x s k := by
  pointwise [k0_pay6, k0_pay3, k0_pay4, k0_pay5, nrmB, Norm.ms]

/-- The zero fill. -/
theorem zero6 (j) : k0_pay2 (F := Ideal) j = 0 := by pointwise [k0_pay2]

/-- The packed, transposed weights are the weights. -/
theorem w_at (c : Dev nD) (l : Fin 2048) (k : Fin 1024) : (show FVec Ideal S2048x1024 .bf16 from V m c main_v5) (ix2 l k) = m (c.tc.loc main_arg2) (ix3 0 k l) := by
  have e : (show FVec Ideal S2048x1024 .bf16 from V m c main_v5) = shapeCast S2048x1024 (transpose S8x256x1024 [0, 2, 1] (transpose S8x1024x256 [1, 0, 2] (shapeCast S1024x8x256
      (truncf .bf16 (shapeCast S1024x2048 (m (c.tc.loc main_arg2)) shapeCasts_S1x1024x2048_S1024x2048) bitsLt_bf16_f32) shapeCasts_S1024x2048_S1024x8x256)
      transposes_S1024x8x256_S8x1024x256_1_0_2) transposes_S8x1024x256_S8x256x1024_0_2_1) shapeCasts_S8x256x1024_S2048x1024 := rfl
  rw [e]
  pointwise

/-- The cotangent as the kernel reads it. -/
theorem d_at (c : Dev nD) (r : Fin 16384) (l : Fin 2048) : (show FVec Ideal S16384x2048 .bf16 from V m c main_v6) (ix2 r l) = m (c.tc.loc main_arg3) (ix2 r l) := rfl

/-- The cotangent's block, read at an index. -/
theorem d_blk (c : Dev nD) (t : Fin cfg0.N) (r : Fin 512) (j0 : Fin 16384) (hj : (j0 : ℕ) = t.val * 512 + (r : ℕ)) (l : Fin 2048) :
    (show FVec Ideal S512x2048 .bf16 from iblk m c 0 t) (ix2 r l) = m (c.tc.loc main_arg3) (ix2 j0 l) := by
  refine Eq.trans ?_ (d_at m c j0 l)
  blk_point [iblk, idx t]

/-- The weights' block is the array. -/
theorem w_blk (c : Dev nD) (t : Fin cfg0.N) (l : Fin 2048) (k : Fin 1024) :
    (show FVec Ideal S2048x1024 .bf16 from iblk m c 1 t) (ix2 l k) = m (c.tc.loc main_arg2) (ix3 0 k l) := by
  refine Eq.trans ?_ (w_at m c l k)
  blk_point [iblk, idx t]

/-- The input's block, read at an index. -/
theorem x_blk (c : Dev nD) (t : Fin cfg0.N) (r : Fin 512) (j0 : Fin 16384) (hj : (j0 : ℕ) = t.val * 512 + (r : ℕ)) (k : Fin 1024) :
    (show FVec Ideal S512x1024 .f32 from iblk m c 2 t) (ix2 r k) = m (c.tc.loc main_arg0) (ix2 j0 k) := by
  blk_point [iblk, V, idx t]

/-- The later layers' gradient's block, read at an index. -/
theorem e_blk (c : Dev nD) (t : Fin cfg0.N) (r : Fin 512) (j0 : Fin 16384) (hj : (j0 : ℕ) = t.val * 512 + (r : ℕ)) (k : Fin 1024) :
    (show FVec Ideal S512x1024 .f32 from iblk m c 3 t) (ix2 r k) = m (c.tc.loc main_arg4) (ix2 j0 k) := by
  blk_point [iblk, V, idx t]

/-- The scale's block is its array. -/
theorem g_blk (c : Dev nD) (t : Fin cfg0.N) (k : Fin 1024) : (show FVec Ideal S1x1024 .f32 from iblk m c 4 t) (ix2 0 k) = m (c.tc.loc main_arg1) (ix2 0 k) := by
  blk_point [iblk, V, idx t]

open Cert.Reference4Ideal.Stage in
/-- The block's backward product is the reference's. -/
theorem dh_blk (c : Dev nD) (t : Fin cfg0.N) (r : Fin 512) (j0 : Fin 16384) (hj : (j0 : ℕ) = t.val * 512 + (r : ℕ)) (k : Fin 1024) :
    (∑ l : Fin 2048, (show FVec Ideal S512x2048 .bf16 from iblk m c 0 t) (ix2 r l) * (show FVec Ideal S2048x1024 .bf16 from iblk m c 1 t) (ix2 l k))
      = dh (m (c.tc.loc main_arg2)) (m (c.tc.loc main_arg3)) j0 k :=
  Finset.sum_congr rfl fun l _ => congrArg₂ (· * ·) (d_blk m c t r j0 hj l) (w_blk m c t l k)

open Cert.Reference4Ideal.Stage in
/-- The stored gradient is the reference's at the row's place in the array. -/
theorem dx_point (c : Dev nD) (t : Fin cfg0.N) (y : S512x1024.Idx) (j : S16384x1024.Idx) (hj0 : (j 0 : ℕ) = t.val * 512 + (y 0 : ℕ)) (hj1 : (j 1 : ℕ) = (y 1 : ℕ)) :
    k0_pay1 (F := Ideal) (k0_pay4 (iblk m c 2 t)) (k0_pay5 (iblk m c 2 t)) (iblk m c 3 t) (k0_pay7 (iblk m c 0 t) (iblk m c 1 t) (iblk m c 4 t))
        (k0_pay8 (iblk m c 0 t) (iblk m c 1 t) (iblk m c 2 t) (iblk m c 4 t)) k0_pay9 y
      = dX (m (c.tc.loc main_arg0)) (m (c.tc.loc main_arg1)) (m (c.tc.loc main_arg2))
        (m (c.tc.loc main_arg3)) (m (c.tc.loc main_arg4)) j := by
  idx_vars y
  idx_vars j
  refine (dx_pay _ _ _ _ _ y0 y1).trans (Eq.trans ?_ (dX_at _ _ _ _ _ j0 j1).symm)
  obtain rfl : j1 = y1 := Fin.ext hj1
  exact congrArg₂ (· + ·) (e_blk m c t y0 j0 hj0 _) (congrArg₂ (fun x c => Norm.nb _ x c j1) (funext fun k => x_blk m c t y0 j0 hj0 k)
    (funext fun k => congrArg₂ (· * ·) (dh_blk m c t y0 j0 hj0 _) (g_blk m c t k)))

/-- The input's gradient array after the run is the reference's. -/
theorem final5 (c : Dev nD) : (dats m 0 c).arrAt 5 (cfgs 0).N = Cert.Reference4Ideal.Stage.dX (m (c.tc.loc main_arg0)) (m (c.tc.loc main_arg1)) (m (c.tc.loc main_arg2))
        (m (c.tc.loc main_arg3)) (m (c.tc.loc main_arg4)) := by
  refine (dats m 0 c).arrAt_eq_of_covers 5 _ (by decide +kernel) fun t _ y => ?_
  blk_simp
  rw [after0_5]
  by_cases h0 : t.val % 32 = 0
  · rw [outsAt0_A m c t h0]; frame_out
    refine dx_point m c t y _ ?_ ?_ <;> (blk_simp [idx t] <;> try omega)
  · rw [outsAt0_B m c t h0]; frame_out
    refine dx_point m c t y _ ?_ ?_ <;> (blk_simp [idx t] <;> try omega)

/-- The scale's gradient after the run is the reference's. -/
theorem final6 (c : Dev nD) : (dats m 0 c).arrAt 6 (cfgs 0).N
    = Cert.Reference4Ideal.Stage.dG (m (c.tc.loc main_arg0)) (m (c.tc.loc main_arg2)) (m (c.tc.loc main_arg3)) := by
  refine (dats m 0 c).arrAt_eq_of_after_last 6 lastPt (by decide +kernel) _ fun j => ?_
  blk_simp
  idx_vars j
  obtain rfl := j0.eq_zero
  rw [after0_6, Pipeline.eq_sum_fin_of_reset_step_apply_last (fun n h => (outsAt0 m c n h).2) 32 (fun _ => 0)
    (fun p (j : S1x1024.Idx) => ∑ s : Fin 512, (∑ l : Fin 2048, (show FVec Ideal S512x2048 .bf16 from iblk m c 0 p) (ix2 s l)
        * (show FVec Ideal S2048x1024 .bf16 from iblk m c 1 p) (ix2 l (j 1))) * nrmB (iblk m c 2 p) s (j 1))
    (fun t h j => by
      rw [outsAt0_A m c t h]; frame_out; idx_vars j
      obtain rfl := j0.eq_zero
      exact (dg_pay _ _ _ _ j1).trans (congrArg (· + _) (zero6 _)))
    (fun t h j => by
      rw [outsAt0_B m c t h]; frame_out; idx_vars j
      obtain rfl := j0.eq_zero
      exact dg_pay _ _ _ _ j1)
    (le_of_eq N_0) lastPt rfl _, zero_add]
  refine Eq.trans ?_ (Cert.Reference4Ideal.Stage.dG_at _ _ _ 0 j1).symm
  refine Fin.sum_mul_add_congr fun t l hl => ?_
  exact congrArg₂ (· * ·) (dh_blk m c t l ⟨_, hl⟩ rfl j1) (congrArg₂ (fun a x => a * Ideal.rsqrt (Norm.ms (ι := Fin 1024) _ x))
    (x_blk m c t l ⟨_, hl⟩ rfl j1) (funext fun i => x_blk m c t l ⟨_, hl⟩ rfl i))

end Cert.Kernel4Ideal.Value

namespace Cert.Proof

open Idealize.ShloMosaic Idealize.ShloMosaic.TcCoe Idealize.SL.Sem

/-- Both results of the input normalisation's backward pass, for every argument. -/
theorem input : Cert.algebraic_Kernel4Ideal_Reference4Ideal := by
  pair_intro
  · run_from Cert.Kernel4Ideal.Gen.run_main m g
  · refine (θ_run _ _ _).mono (fun r h c => ?_) (Cert.Reference4Ideal.Stage.run_stages m' g')
    obtain ⟨e0, e1, e2, e3, e4⟩ := hagree c
    obtain ⟨h0, h1, k⟩ := h c
    rw [e0, e1, e2, e3, e4] at h0
    rw [e0, e2, e3] at h1
    have f0 := Cert.Kernel4Ideal.Value.final5 m c
    have f1 := Cert.Kernel4Ideal.Value.final6 m c
    refine ⟨?_, ?_, k⟩
    · rw [f0]; exact h0
    · rw [f1]; exact h1

end Cert.Proof

end
-- ==== Proof.Pool.lean ====
/- The multi-scale pool's backward pass: its formulas over the reals, what a grid point stores, and the arrays after the run. -/
module

public import proofs.«01_k».proof.Proof.AttnRef
public import proofs.«01_k».proof.Proof.Gen.Kernel3Ideal.Frame
public import Idealize.ShloMosaic.Lib.Pipeline.ValueKit
public import Idealize.ShloMosaic.Lib.Pointwise
public import Idealize.ShloMosaic.Lib.KernelVsHost
public import Idealize.ShloMosaic.Lib.Pipeline.ReadBack

@[expose] public section

set_option maxRecDepth 16384

noncomputable section

open Idealize.ShloMosaic Idealize.ShloMosaic.TcCoe Idealize.SL.Sem
open Finset (range)
namespace Cert.Pool

/-- The window's width at column `k`: 2, 4, 8, 16 for the four groups of 128 columns. -/
def width (k : ℕ) : ℕ := 2 ^ (k / 128 + 1)

/-- How many rows the window of width `w` holds at row `t`. -/
def cnt (w t : ℕ) : ℝ := ((min (t + 1) w : ℕ) : ℝ)

theorem cnt_ne {w : ℕ} (hw : 0 < w) (t : ℕ) : cnt w t ≠ 0 := by
  unfold cnt
  have : min (t + 1) w ≠ 0 := by omega
  exact_mod_cast this

/-- The sum over the window that ends at row `t`. -/
def past (u : ℕ → ℕ → ℝ) (w t k : ℕ) : ℝ := ∑ j ∈ range w, if j ≤ t then u (t - j) k else 0

/-- The window's mean less the row. -/
def part (u : ℕ → ℕ → ℝ) (t k : ℕ) : ℝ := past u (width k) t k * (1 / cnt (width k) t) - u t k

/-- The gradient of `part`: the cotangent's row times the group's matrix. -/
def dp (d : ℕ → ℕ → ℝ) (w : ℕ → ℕ → ℕ → ℝ) (t k : ℕ) : ℝ := ∑ l ∈ range 128, d t (k / 128 * 128 + l) * w (k / 128) (k % 128) l

/-- … divided by the window's count. -/
def q (d : ℕ → ℕ → ℝ) (w : ℕ → ℕ → ℕ → ℝ) (t k : ℕ) : ℝ := dp d w t k * (1 / cnt (width k) t)

/-- The gradient of the pool's input: the sum over the window that starts at row `t`, less the row. -/
def du (d : ℕ → ℕ → ℝ) (w : ℕ → ℕ → ℕ → ℝ) (t k : ℕ) : ℝ :=
  (∑ j ∈ range (width k), if t + j < 16384 then q d w (t + j) k else 0) - dp d w t k

/-- The gradient of the group's matrix. -/
def dw (u d : ℕ → ℕ → ℝ) (g a b : ℕ) : ℝ := ∑ t ∈ range 16384, part u t (g * 128 + a) * d t (g * 128 + b)

/-- A sum over `w` rows and one over the `w` rows after them. -/
theorem double (h : ℕ → ℝ) (w : ℕ) : ∑ j ∈ range w, h j + ∑ j ∈ range w, h (w + j) = ∑ j ∈ range (w + w), h j :=
  (Finset.sum_range_add h w w).symm

end Cert.Pool

open Cert.Pool
open Cert.Kernel2Ideal.Attn (coe_sum_fin coe_sum_mul)
namespace Cert.Kernel3Ideal.Value

open Cert.Kernel3Ideal Cert.Kernel3Ideal.Gen

/-- The first 528 rows from `lo` on are the real numbers `f`. -/
def From (lo : ℕ) (x : FVec Ideal S528x512 .f32) (f : ℕ → ℕ → ℝ) : Prop := ∀ (i : Fin 528) (k : Fin 512), lo ≤ i.val → x (ix2 i k) = ((f i.val k.val : ℝ) : EReal)

/-- The rows before `hi` are the real numbers `f`. -/
def Before (hi : ℕ) (x : FVec Ideal S528x512 .f32) (f : ℕ → ℕ → ℝ) : Prop := ∀ (i : Fin 528) (k : Fin 512), i.val < hi → x (ix2 i k) = ((f i.val k.val : ℝ) : EReal)

/-- Rows plus the rows `s` above them. -/
theorem From.step {lo : ℕ} {x : FVec Ideal S528x512 .f32} {f : ℕ → ℕ → ℝ} (hx : From lo x f) (b : BitVec 32) (s : ℕ) (hb : b.toNat = s) (hs : s < 528) :
    From (lo + s) (addf x (dynamicRotate 0 b none x rotates_S528x512_d0)) (fun i k => f i k + f (i - s) k) := by
  intro i k hi
  have e : dynamicRotate 0 b none x rotates_S528x512_d0 (ix2 i k) = x (ix2 ⟨i.val - s, by omega⟩ k) :=
    dynamicRotate_apply (s := S528x512) 0 b x rotates_S528x512_d0 (ix2 i k) (ix2 ⟨i.val - s, by omega⟩ k) (fun a => by
      match a with
      | ⟨0, _⟩ =>
        show i.val - s = (i.val + 528 - b.toNat % 528) % 528
        have := i.isLt
        rw [hb]
        omega
      | ⟨1, _⟩ => rfl)
  refine (congrArg₂ (· + ·) (hx i k (by omega)) (e.trans (hx _ k (by show lo ≤ i.val - s; omega)))).trans (EReal.coe_add _ _).symm

/-- Rows plus the rows `s` below them. -/
theorem Before.step {hi : ℕ} {x : FVec Ideal S528x512 .f32} {f : ℕ → ℕ → ℝ} (hx : Before hi x f) (hh : hi ≤ 528) (b : BitVec 32) (s : ℕ) (hb : b.toNat = 528 - s) (h0 : 0 < s) (hs : s < 528) :
    Before (hi - s) (addf x (dynamicRotate 0 b none x rotates_S528x512_d0)) (fun i k => f i k + f (i + s) k) := by
  intro i k hi
  have e : dynamicRotate 0 b none x rotates_S528x512_d0 (ix2 i k) = x (ix2 ⟨i.val + s, by omega⟩ k) :=
    dynamicRotate_apply (s := S528x512) 0 b x rotates_S528x512_d0 (ix2 i k) (ix2 ⟨i.val + s, by omega⟩ k) (fun a => by
      match a with
      | ⟨0, _⟩ =>
        show i.val + s = (i.val + 528 - b.toNat % 528) % 528
        have := i.isLt
        rw [hb]
        omega
      | ⟨1, _⟩ => rfl)
  refine (congrArg₂ (· + ·) (hx i k (by omega)) (e.trans (hx _ k (by show i.val + s < _; omega)))).trans (EReal.coe_add _ _).symm

theorem From.congr {lo : ℕ} {x : FVec Ideal S528x512 .f32} {f g : ℕ → ℕ → ℝ} (hx : From lo x f) (e : ∀ i k, f i k = g i k) : From lo x g :=
  fun i k h => (hx i k h).trans (by rw [e])
theorem Before.congr {hi : ℕ} {x : FVec Ideal S528x512 .f32} {f g : ℕ → ℕ → ℝ} (hx : Before hi x f) (e : ∀ i k, f i k = g i k) : Before hi x g :=
  fun i k h => (hx i k h).trans (by rw [e])

/-- `w` rows ending at row `i`. -/
def up (w : ℕ) (f : ℕ → ℕ → ℝ) (i k : ℕ) : ℝ := ∑ j ∈ range w, f (i - j) k
/-- `w` rows starting at row `i`. -/
def down (w : ℕ) (f : ℕ → ℕ → ℝ) (i k : ℕ) : ℝ := ∑ j ∈ range w, f (i + j) k

theorem up_double (w : ℕ) (f : ℕ → ℕ → ℝ) (i k : ℕ) : up w f i k + up w f (i - w) k = up (w + w) f i k := by
  unfold up
  rw [← double (fun j => f (i - j) k) w]
  congr 1
  exact Finset.sum_congr rfl fun j _ => by rw [Nat.sub_sub]

theorem down_double (w : ℕ) (f : ℕ → ℕ → ℝ) (i k : ℕ) : down w f i k + down w f (i + w) k = down (w + w) f i k := by
  unfold down
  rw [← double (fun j => f (i + j) k) w]
  congr 1
  exact Finset.sum_congr rfl fun j _ => by rw [Nat.add_assoc]

/-- Is the grid's point the first one? -/
theorem at_first : ∀ T : Fin 32, Scalar.cmpi .eq (BitVec.ofNat 32 T.val) 0#32 = if T.val = 0 then 1#1 else 0#1 := by decide +kernel
/-- Is the grid's point the last one? -/
theorem at_last : ∀ T : Fin 32, Scalar.cmpi .eq (BitVec.ofNat 32 T.val) 31#32 = if T.val = 31 then 1#1 else 0#1 := by decide +kernel

/-- The count of rows up to row `r` of tile `T`. -/
theorem rows_upto (T r : ℕ) (hT : T < 32) (hr : r < 528) :
    (FloatOps.sitofp (F := Ideal) FTy.f32 (IntOp.addi (IntOp.addi (BitVec.ofNat 32 r) (Scalar.muli (BitVec.ofNat 32 T) 512#32)) 1#32) : EReal)
      = (((512 * T + r + 1 : ℕ) : ℝ) : EReal) := by
  have e : IntOp.addi (IntOp.addi (BitVec.ofNat 32 r) (Scalar.muli (BitVec.ofNat 32 T) 512#32)) 1#32 = BitVec.ofNat 32 (512 * T + r + 1) := by
    change (BitVec.ofNat 32 r + BitVec.ofNat 32 T * 512#32) + 1#32 = _
    apply BitVec.eq_of_toNat_eq
    simp only [BitVec.toNat_add, BitVec.toNat_mul, BitVec.toNat_ofNat]
    omega
  rw [e]
  change ((((BitVec.ofNat 32 (512 * T + r + 1)).toInt : ℤ) : ℝ) : EReal) = _
  have : (BitVec.ofNat 32 (512 * T + r + 1)).toInt = ((512 * T + r + 1 : ℕ) : ℤ) := by
    rw [BitVec.toInt_eq_toNat_of_lt] <;> rw [BitVec.toNat_ofNat, Nat.mod_eq_of_lt (by omega)]
    omega
  rw [this]
  norm_num

/-- The four widths as constants. -/
theorem w2 : Ideal.ofBits .f32 0x40000000#32 = (((2 : ℕ) : ℝ) : EReal) := by
  simp [Ideal.ofBits, Ideal.ieee]; rw [← EReal.coe_mul]; norm_num
theorem w4 : Ideal.ofBits .f32 0x40800000#32 = (((4 : ℕ) : ℝ) : EReal) := by
  simp [Ideal.ofBits, Ideal.ieee]; rw [← EReal.coe_mul]; norm_num
theorem w8 : Ideal.ofBits .f32 0x41000000#32 = (((8 : ℕ) : ℝ) : EReal) := by
  simp [Ideal.ofBits, Ideal.ieee]; rw [← EReal.coe_mul]; norm_num
theorem w16 : Ideal.ofBits .f32 0x41800000#32 = (((16 : ℕ) : ℝ) : EReal) := by
  simp [Ideal.ofBits, Ideal.ieee]; rw [← EReal.coe_mul]; norm_num

/-- The smaller of two counts. -/
theorem min_cnt (t w : ℕ) : min (((t + 1 : ℕ) : ℝ) : EReal) ((w : ℝ) : EReal) = ((cnt w t : ℝ) : EReal) := by
  unfold cnt
  rw [← EReal.coe_strictMono.monotone.map_min, Nat.cast_min]

section Point

variable {u d : ℕ → ℕ → ℝ} {w : ℕ → ℕ → ℕ → ℝ} (i : grid0.Coords) (halo : Vec Ideal S16x512 .f32) (x : Vec Ideal S512x512 .f32)

/-- The rows of a tile with the 16 before it. -/
def ext : FVec Ideal S528x512 .f32 :=
  concatenate S528x512 0 [⟨S16x512, Scalar.select (Scalar.cmpi .eq (BitVec.ofNat 32 (i 0).val) 0#32) (broadcast S16x512 (Scalar.ofBits (F := Ideal) .f32 0x00000000#32)) halo⟩, ⟨S512x512, x⟩] concatenates_S16x512_S512x512_S528x512_d0

/-- The row `n - 16` of the tile `T`, zero before the array's first. -/
def rowAt (u : ℕ → ℕ → ℝ) (T n k : ℕ) : ℝ := if 16 ≤ 512 * T + n then u (512 * T + n - 16) k else 0

variable (hx : ∀ (r : Fin 512) (k : Fin 512), x (ix2 r k) = ((u (512 * (i 0).val + r.val) k.val : ℝ) : EReal))
  (hh : (i 0).val ≠ 0 → ∀ (r : Fin 16) (k : Fin 512), halo (ix2 r k) = ((u (512 * (i 0).val + r.val - 16) k.val : ℝ) : EReal))

include hx hh in
theorem from_ext : From 0 (ext i halo x) (rowAt u (i 0).val) := by
  intro r k _
  unfold rowAt
  have hT : (i 0).val < 32 := (i 0).isLt
  pointwise [ext]
  by_cases h : r.val < 16
  · rw [dif_pos h]
    have hc := at_first ⟨(i 0).val, hT⟩
    dsimp only at hc
    rw [hc]
    by_cases h0 : (i 0).val = 0
    · rw [if_pos h0, if_neg (show ¬16 ≤ 512 * (i 0).val + r.val by omega)]; rfl
    · rw [if_neg h0, if_pos (show 16 ≤ 512 * (i 0).val + r.val by omega)]
      exact hh h0 ⟨r.val, h⟩ k
  · rw [dif_neg h, if_pos (show 16 ≤ 512 * (i 0).val + r.val by omega), hx]
    rw [show 512 * (i 0).val + r.val - 16 = 512 * (i 0).val + (r.val - 16) by omega]

include hx hh in
theorem from3 : From 1 (k0_pay3 (F := Ideal) i halo x) (up 2 (rowAt u (i 0).val)) :=
  ((from_ext i halo x hx hh).step 1#32 1 rfl (by norm_num)).congr fun n k => by unfold up; simp [Finset.sum_range_succ]
include hx hh in
theorem from4 : From 3 (k0_pay4 (F := Ideal) i halo x) (up 4 (rowAt u (i 0).val)) :=
  ((from3 i halo x hx hh).step 2#32 2 rfl (by norm_num)).congr fun n k => up_double 2 _ n k
include hx hh in
theorem from5 : From 7 (k0_pay5 (F := Ideal) i halo x) (up 8 (rowAt u (i 0).val)) :=
  ((from4 i halo x hx hh).step 4#32 4 rfl (by norm_num)).congr fun n k => up_double 4 _ n k
include hx hh in
theorem from6 : From 15 (k0_pay6 (F := Ideal) i halo x) (up 16 (rowAt u (i 0).val)) :=
  ((from5 i halo x hx hh).step 8#32 8 rfl (by norm_num)).congr fun n k => up_double 8 _ n k

/-- The tile's window sums are the array's. -/
theorem up_past (wd T r k : ℕ) (hw : wd ≤ 16) : up wd (rowAt u T) (16 + r) k = past u wd (512 * T + r) k := by
  unfold up past rowAt
  refine Finset.sum_congr rfl fun j hj => ?_
  have := Finset.mem_range.mp hj
  by_cases h : j ≤ 512 * T + r
  · rw [if_pos h, if_pos (by omega)]; congr 1; omega
  · rw [if_neg h, if_neg (by omega)]

/-- The count at a row of the tile. -/
theorem pay7_at (r : Fin 512) : (k0_pay7 (F := Ideal) i (ix2 r 0) : EReal) = (((512 * (i 0).val + r.val + 1 : ℕ) : ℝ) : EReal) := by
  pointwise [k0_pay7]
  exact rows_upto _ _ (i 0).isLt (by omega)

/-- A mean less the row, from what the tile holds. -/
theorem mean_sub (wd T r k : ℕ) (hw : width k = wd) (h0 : 0 < wd) (h16 : wd ≤ 16) :
    Ideal.div ((up wd (rowAt u T) (16 + r) k : ℝ) : EReal) (min (((512 * T + r + 1 : ℕ) : ℝ) : EReal) (((wd : ℕ) : ℝ) : EReal)) - ((u (512 * T + r) k : ℝ) : EReal)
      = ((part u (512 * T + r) k : ℝ) : EReal) := by
  rw [min_cnt, Ideal.div_coe (cnt_ne h0 _), up_past _ _ _ _ h16, ← EReal.coe_mul, ← EReal.coe_sub]
  unfold part
  rw [hw]

include hx hh in
theorem part0 (r : Fin 512) (a : Fin 128) : (k0_pay10 (F := Ideal) i halo x (ix2 r a) : EReal) = ((part u (512 * (i 0).val + r.val) a.val : ℝ) : EReal) := by
  pointwise [k0_pay10]
  rw [from3 i halo x hx hh _ _ (by show 1 ≤ 16 + r.val; omega), pay7_at, w2, hx]
  refine mean_sub 2 _ _ _ ?_ (by norm_num) (by norm_num)
  show 2 ^ (a.val / 128 + 1) = 2
  rw [Nat.div_eq_of_lt a.isLt]; norm_num
include hx hh in
theorem part1 (r : Fin 512) (a : Fin 128) : (k0_pay11 (F := Ideal) i halo x (ix2 r a) : EReal) = ((part u (512 * (i 0).val + r.val) (128 + a.val) : ℝ) : EReal) := by
  pointwise [k0_pay11]
  rw [from4 i halo x hx hh _ _ (by show 3 ≤ 16 + r.val; omega), pay7_at, w4, hx]
  refine mean_sub 4 _ _ _ ?_ (by norm_num) (by norm_num)
  show 2 ^ ((128 + a.val) / 128 + 1) = 4
  rw [show (128 + a.val) / 128 = 1 by omega]; norm_num
include hx hh in
theorem part2 (r : Fin 512) (a : Fin 128) : (k0_pay12 (F := Ideal) x (k0_pay5 i halo x) (k0_pay8 i) (ix2 r a) : EReal) = ((part u (512 * (i 0).val + r.val) (256 + a.val) : ℝ) : EReal) := by
  pointwise [k0_pay12, k0_pay8]
  rw [from5 i halo x hx hh _ _ (by show 7 ≤ 16 + r.val; omega), pay7_at, w8, hx]
  refine mean_sub 8 _ _ _ ?_ (by norm_num) (by norm_num)
  show 2 ^ ((256 + a.val) / 128 + 1) = 8
  rw [show (256 + a.val) / 128 = 2 by omega]; norm_num
include hx hh in
theorem part3 (r : Fin 512) (a : Fin 128) : (k0_pay13 (F := Ideal) x (k0_pay6 i halo x) (k0_pay9 i) (ix2 r a) : EReal) = ((part u (512 * (i 0).val + r.val) (384 + a.val) : ℝ) : EReal) := by
  pointwise [k0_pay13, k0_pay9]
  rw [from6 i halo x hx hh _ _ (by show 15 ≤ 16 + r.val; omega), pay7_at, w16, hx]
  refine mean_sub 16 _ _ _ ?_ (by norm_num) (by norm_num)
  show 2 ^ ((384 + a.val) / 128 + 1) = 16
  rw [show (384 + a.val) / 128 = 3 by omega]; norm_num

end Point

section Back

variable {u d : ℕ → ℕ → ℝ} {w : ℕ → ℕ → ℕ → ℝ} (T : ℕ) (x : Vec Ideal S512x512 .f32) (nxt : Vec Ideal S16x512 .f32)

/-- The row `n` of the tile `T`, zero past the array's last. -/
def rowFrom (f : ℕ → ℕ → ℝ) (T n k : ℕ) : ℝ := if 512 * T + n < 16384 then f (512 * T + n) k else 0

variable (hT : T < 32) (hx : ∀ (r : Fin 512) (k : Fin 512), x (ix2 r k) = ((d (512 * T + r.val) k.val : ℝ) : EReal))
  (hn : T ≠ 31 → ∀ (r : Fin 16) (k : Fin 512), nxt (ix2 r k) = ((d (512 * T + 512 + r.val) k.val : ℝ) : EReal))

include hT hx hn in
/-- The cotangent's rows of a tile with the 16 after it. -/
theorem pay14_at (n : Fin 528) (k : Fin 512) : (k0_pay14 (F := Ideal) (BitVec.ofNat 32 T) x nxt (ix2 n k) : EReal) = ((rowFrom d T n.val k.val : ℝ) : EReal) := by
  unfold rowFrom
  pointwise [k0_pay14]
  by_cases h : n.val < 512
  · rw [dif_pos h, if_pos (show 512 * T + n.val < 16384 by omega), hx]
  · rw [dif_neg h]
    have hc := at_last ⟨T, hT⟩
    dsimp only at hc
    rw [hc]
    by_cases h0 : T = 31
    · rw [if_pos h0, if_neg (show ¬512 * T + n.val < 16384 by omega)]; rfl
    · rw [if_neg h0, if_pos (show 512 * T + n.val < 16384 by omega), show 512 * T + n.val = 512 * T + 512 + (n.val - 512) by omega]
      exact hn h0 ⟨n.val - 512, by omega⟩ k

/-- A row's product with its group's matrix. -/
theorem dp_sum (g o c n : ℕ) (ho : o = g * 128) (hc : c < 128) : ∑ l ∈ range 128, rowFrom d T n (o + l) * w g c l = rowFrom (dp d w) T n (o + c) := by
  unfold rowFrom dp
  by_cases h : 512 * T + n < 16384
  · simp only [if_pos h]
    rw [show (o + c) / 128 = g by omega, show (o + c) % 128 = c by omega, ho]
  · simp only [if_neg h, zero_mul, Finset.sum_const_zero]

/-- The count at a row of the tile or of the 16 after it. -/
theorem pay15_at (hT : T < 32) (n : Fin 528) : (k0_pay15 (F := Ideal) (BitVec.ofNat 32 T) (ix2 n 0) : EReal) = (((512 * T + n.val + 1 : ℕ) : ℝ) : EReal) := by
  pointwise [k0_pay15]
  exact rows_upto _ _ hT n.isLt

/-- A row divided by its count. -/
theorem q_row (wd n k : ℕ) (hw : width k = wd) (h0 : 0 < wd) :
    Ideal.div ((rowFrom (dp d w) T n k : ℝ) : EReal) (min (((512 * T + n + 1 : ℕ) : ℝ) : EReal) (((wd : ℕ) : ℝ) : EReal)) = ((rowFrom (q d w) T n k : ℝ) : EReal) := by
  rw [min_cnt, Ideal.div_coe (cnt_ne h0 _), ← EReal.coe_mul]
  unfold rowFrom q
  rw [hw]
  by_cases h : 512 * T + n < 16384
  · rw [if_pos h, if_pos h]
  · rw [if_neg h, if_neg h, zero_mul]

variable (w0 w1 w2 w3 : Vec Ideal S1x128x128 .f32)
  (h0 : ∀ a l : Fin 128, w0 (ix3 0 a l) = ((w 0 a.val l.val : ℝ) : EReal)) (h1 : ∀ a l : Fin 128, w1 (ix3 0 a l) = ((w 1 a.val l.val : ℝ) : EReal))
  (h2 : ∀ a l : Fin 128, w2 (ix3 0 a l) = ((w 2 a.val l.val : ℝ) : EReal)) (h3 : ∀ a l : Fin 128, w3 (ix3 0 a l) = ((w 3 a.val l.val : ℝ) : EReal))

include hT hx hn h0 in
theorem dp0 (n : Fin 528) (c : Fin 128) : (k0_pay19 (F := Ideal) (BitVec.ofNat 32 T) x nxt w0 (ix2 n c) : EReal) = ((rowFrom (dp d w) T n.val (0 + c.val) : ℝ) : EReal) := by
  rw [← dp_sum T 0 0 c.val n.val rfl c.isLt, ← coe_sum_mul]
  pointwise [k0_pay19, pay14_at T x nxt hT hx hn, h0]
include hT hx hn h1 in
theorem dp1 (n : Fin 528) (c : Fin 128) : (k0_pay23 (F := Ideal) (k0_pay22 (BitVec.ofNat 32 T) x nxt) w1 (ix2 n c) : EReal) = ((rowFrom (dp d w) T n.val (128 + c.val) : ℝ) : EReal) := by
  rw [← dp_sum T 1 128 c.val n.val rfl c.isLt, ← coe_sum_mul]
  pointwise [k0_pay23, k0_pay22, pay14_at T x nxt hT hx hn, h1]
include hT hx hn h2 in
theorem dp2 (n : Fin 528) (c : Fin 128) : (k0_pay25 (F := Ideal) (k0_pay14 (BitVec.ofNat 32 T) x nxt) w2 (ix2 n c) : EReal) = ((rowFrom (dp d w) T n.val (256 + c.val) : ℝ) : EReal) := by
  rw [← dp_sum T 2 256 c.val n.val rfl c.isLt, ← coe_sum_mul]
  pointwise [k0_pay25, pay14_at T x nxt hT hx hn, h2]
include hT hx hn h3 in
theorem dp3 (n : Fin 528) (c : Fin 128) : (k0_pay27 (F := Ideal) (k0_pay14 (BitVec.ofNat 32 T) x nxt) w3 (ix2 n c) : EReal) = ((rowFrom (dp d w) T n.val (384 + c.val) : ℝ) : EReal) := by
  rw [← dp_sum T 3 384 c.val n.val rfl c.isLt, ← coe_sum_mul]
  pointwise [k0_pay27, pay14_at T x nxt hT hx hn, h3]

include hT hx hn h0 in
theorem q0 (n : Fin 528) (c : Fin 128) : (k0_pay21 (F := Ideal) (BitVec.ofNat 32 T) x nxt w0 (ix2 n c) : EReal) = ((rowFrom (q d w) T n.val (0 + c.val) : ℝ) : EReal) := by
  rw [← q_row T 2 n.val (0 + c.val) (by unfold width; rw [show (0 + c.val) / 128 = 0 by omega]; norm_num) (by norm_num), ← dp0 T x nxt hT hx hn w0 h0, ← pay15_at T hT, ← Cert.Kernel3Ideal.Value.w2]
  pointwise [k0_pay21]
theorem min4 (hT : T < 32) (n : Fin 528) : (k0_pay16 (F := Ideal) (BitVec.ofNat 32 T) (ix2 n 0) : EReal) = min (((512 * T + n.val + 1 : ℕ) : ℝ) : EReal) (((4 : ℕ) : ℝ) : EReal) := by
  rw [← pay15_at T hT, ← w4]
  pointwise [k0_pay16]
theorem min8 (hT : T < 32) (n : Fin 528) : (k0_pay17 (F := Ideal) (BitVec.ofNat 32 T) (ix2 n 0) : EReal) = min (((512 * T + n.val + 1 : ℕ) : ℝ) : EReal) (((8 : ℕ) : ℝ) : EReal) := by
  rw [← pay15_at T hT, ← w8]
  pointwise [k0_pay17]
theorem min16 (hT : T < 32) (n : Fin 528) : (k0_pay18 (F := Ideal) (BitVec.ofNat 32 T) (ix2 n 0) : EReal) = min (((512 * T + n.val + 1 : ℕ) : ℝ) : EReal) (((16 : ℕ) : ℝ) : EReal) := by
  rw [← pay15_at T hT, ← w16]
  pointwise [k0_pay18]

/-- The four groups' rows divided by their counts, side by side. -/
def scl : FVec Ideal S528x512 .f32 :=
  concatenate S528x512 1 [⟨S528x128, k0_pay21 (F := Ideal) (BitVec.ofNat 32 T) x nxt w0⟩,
    ⟨S528x128, divf (k0_pay23 (F := Ideal) (k0_pay22 (BitVec.ofNat 32 T) x nxt) w1) (broadcastTo S528x128 (k0_pay16 (F := Ideal) (BitVec.ofNat 32 T)) broadcasts_S528x1_S528x128)⟩,
    ⟨S528x128, divf (k0_pay25 (F := Ideal) (k0_pay14 (BitVec.ofNat 32 T) x nxt) w2) (broadcastTo S528x128 (k0_pay17 (F := Ideal) (BitVec.ofNat 32 T)) broadcasts_S528x1_S528x128)⟩,
    ⟨S528x128, divf (k0_pay27 (F := Ideal) (k0_pay14 (BitVec.ofNat 32 T) x nxt) w3) (broadcastTo S528x128 (k0_pay18 (F := Ideal) (BitVec.ofNat 32 T)) broadcasts_S528x1_S528x128)⟩]
    concatenates_S528x128_S528x128_S528x128_S528x128_S528x512_d1

include hT hx hn h0 h1 h2 h3 in
theorem before_scl : Before 528 (scl T x nxt w0 w1 w2 w3) (rowFrom (q d w) T) := by
  intro n k _
  have wk : width k.val = 2 ^ (k.val / 128 + 1) := rfl
  pointwise [scl]
  by_cases c0 : k.val < 128
  · rw [dif_pos c0, q0 T x nxt hT hx hn w0 h0, Nat.zero_add]
  · rw [dif_neg c0]
    by_cases c1 : k.val - 128 < 128
    · rw [dif_pos c1, dp1 T x nxt hT hx hn w1 h1, min4 T hT, show 128 + (k.val - 128) = k.val by omega,
        q_row T 4 _ _ (by rw [wk, show k.val / 128 = 1 by omega]; norm_num) (by norm_num)]
    · rw [dif_neg c1]
      by_cases c2 : k.val - 128 - 128 < 128
      · rw [dif_pos c2, dp2 T x nxt hT hx hn w2 h2, min8 T hT, show 256 + (k.val - 128 - 128) = k.val by omega,
          q_row T 8 _ _ (by rw [wk, show k.val / 128 = 2 by omega]; norm_num) (by norm_num)]
      · rw [dif_neg c2, dp3 T x nxt hT hx hn w3 h3, min16 T hT, show 384 + (k.val - 128 - 128 - 128) = k.val by omega,
          q_row T 16 _ _ (by rw [wk, show k.val / 128 = 3 by omega]; norm_num) (by norm_num)]

/-- The windows' sums of two rows. -/
abbrev s2 := k0_pay29 (F := Ideal) (k0_pay14 (BitVec.ofNat 32 T) x nxt) (k0_pay16 (BitVec.ofNat 32 T)) (k0_pay17 (BitVec.ofNat 32 T)) (k0_pay18 (BitVec.ofNat 32 T)) (k0_pay21 (BitVec.ofNat 32 T) x nxt w0) (k0_pay22 (BitVec.ofNat 32 T) x nxt) w1 w2 w3
/-- … of four. -/
abbrev s4 := k0_pay30 (F := Ideal) (k0_pay14 (BitVec.ofNat 32 T) x nxt) (k0_pay16 (BitVec.ofNat 32 T)) (k0_pay17 (BitVec.ofNat 32 T)) (k0_pay18 (BitVec.ofNat 32 T)) (k0_pay21 (BitVec.ofNat 32 T) x nxt w0) (k0_pay22 (BitVec.ofNat 32 T) x nxt) w1 w2 w3
/-- … of eight. -/
abbrev s8 := k0_pay31 (F := Ideal) (k0_pay14 (BitVec.ofNat 32 T) x nxt) (k0_pay16 (BitVec.ofNat 32 T)) (k0_pay17 (BitVec.ofNat 32 T)) (k0_pay18 (BitVec.ofNat 32 T)) (k0_pay21 (BitVec.ofNat 32 T) x nxt w0) (k0_pay22 (BitVec.ofNat 32 T) x nxt) w1 w2 w3
/-- … of sixteen. -/
abbrev s16 := k0_pay32 (F := Ideal) (k0_pay14 (BitVec.ofNat 32 T) x nxt) (k0_pay16 (BitVec.ofNat 32 T)) (k0_pay17 (BitVec.ofNat 32 T)) (k0_pay18 (BitVec.ofNat 32 T)) (k0_pay21 (BitVec.ofNat 32 T) x nxt w0) (k0_pay22 (BitVec.ofNat 32 T) x nxt) w1 w2 w3

include hT hx hn h0 h1 h2 h3 in
theorem before2 : Before 527 (s2 T x nxt w0 w1 w2 w3) (down 2 (rowFrom (q d w) T)) :=
  ((before_scl T x nxt hT hx hn w0 w1 w2 w3 h0 h1 h2 h3).step (by norm_num) 527#32 1 rfl (by norm_num) (by norm_num)).congr fun n k => by unfold down; simp [Finset.sum_range_succ]
include hT hx hn h0 h1 h2 h3 in
theorem before4 : Before 525 (s4 T x nxt w0 w1 w2 w3) (down 4 (rowFrom (q d w) T)) :=
  ((before2 T x nxt hT hx hn w0 w1 w2 w3 h0 h1 h2 h3).step (by norm_num) 526#32 2 rfl (by norm_num) (by norm_num)).congr fun n k => down_double 2 _ n k
include hT hx hn h0 h1 h2 h3 in
theorem before8 : Before 521 (s8 T x nxt w0 w1 w2 w3) (down 8 (rowFrom (q d w) T)) :=
  ((before4 T x nxt hT hx hn w0 w1 w2 w3 h0 h1 h2 h3).step (by norm_num) 524#32 4 rfl (by norm_num) (by norm_num)).congr fun n k => down_double 4 _ n k
include hT hx hn h0 h1 h2 h3 in
theorem before16 : Before 513 (s16 T x nxt w0 w1 w2 w3) (down 16 (rowFrom (q d w) T)) :=
  ((before8 T x nxt hT hx hn w0 w1 w2 w3 h0 h1 h2 h3).step (by norm_num) 520#32 8 rfl (by norm_num) (by norm_num)).congr fun n k => down_double 8 _ n k

/-- A window's sum less the row is the gradient. -/
theorem down_du (hT : T < 32) (wd r k : ℕ) (hr : r < 512) (hw : width k = wd) :
    ((down wd (rowFrom (q d w) T) r k : ℝ) : EReal) - ((rowFrom (dp d w) T r k : ℝ) : EReal) = ((du d w (512 * T + r) k : ℝ) : EReal) := by
  rw [← EReal.coe_sub]
  unfold down rowFrom du
  rw [hw, if_pos (show 512 * T + r < 16384 by omega)]
  simp only [Nat.add_assoc]

include hT hx hn h0 h1 h2 h3 in
theorem du0 (r : Fin 512) (c : Fin 128) : (subf (extractStridedSlice S512x128 ![0, 0] (s2 T x nxt w0 w1 w2 w3) slices_S528x512_o0_0_S512x128)
      (k0_pay20 (F := Ideal) (BitVec.ofNat 32 T) x nxt w0) (ix2 r c) : EReal) = ((du d w (512 * T + r.val) (0 + c.val) : ℝ) : EReal) := by
  rw [← down_du T hT 2 r.val (0 + c.val) r.isLt (by unfold width; rw [show (0 + c.val) / 128 = 0 by omega]; norm_num)]
  have hb := before2 T x nxt hT hx hn w0 w1 w2 w3 h0 h1 h2 h3 ⟨r.val, by omega⟩ ⟨0 + c.val, by omega⟩ (by show r.val < _; omega)
  rw [← hb, ← dp0 T x nxt hT hx hn w0 h0 ⟨r.val, by omega⟩ c]
  pointwise [k0_pay20]
include hT hx hn h0 h1 h2 h3 in
theorem du1 (r : Fin 512) (c : Fin 128) : (k0_pay37 (F := Ideal) (k0_pay24 (k0_pay22 (BitVec.ofNat 32 T) x nxt) w1) (s4 T x nxt w0 w1 w2 w3) (ix2 r c) : EReal)
      = ((du d w (512 * T + r.val) (128 + c.val) : ℝ) : EReal) := by
  rw [← down_du T hT 4 r.val (128 + c.val) r.isLt (by unfold width; rw [show (128 + c.val) / 128 = 1 by omega]; norm_num)]
  have hb := before4 T x nxt hT hx hn w0 w1 w2 w3 h0 h1 h2 h3 ⟨r.val, by omega⟩ ⟨128 + c.val, by omega⟩ (by show r.val < _; omega)
  rw [← hb, ← dp1 T x nxt hT hx hn w1 h1 ⟨r.val, by omega⟩ c]
  pointwise [k0_pay37, k0_pay24]
include hT hx hn h0 h1 h2 h3 in
theorem du2 (r : Fin 512) (c : Fin 128) : (k0_pay39 (F := Ideal) (k0_pay26 (k0_pay14 (BitVec.ofNat 32 T) x nxt) w2) (s8 T x nxt w0 w1 w2 w3) (ix2 r c) : EReal)
      = ((du d w (512 * T + r.val) (256 + c.val) : ℝ) : EReal) := by
  rw [← down_du T hT 8 r.val (256 + c.val) r.isLt (by unfold width; rw [show (256 + c.val) / 128 = 2 by omega]; norm_num)]
  have hb := before8 T x nxt hT hx hn w0 w1 w2 w3 h0 h1 h2 h3 ⟨r.val, by omega⟩ ⟨256 + c.val, by omega⟩ (by show r.val < _; omega)
  rw [← hb, ← dp2 T x nxt hT hx hn w2 h2 ⟨r.val, by omega⟩ c]
  pointwise [k0_pay39, k0_pay26]
include hT hx hn h0 h1 h2 h3 in
theorem du3 (r : Fin 512) (c : Fin 128) : (k0_pay41 (F := Ideal) (k0_pay28 (k0_pay14 (BitVec.ofNat 32 T) x nxt) w3) (s16 T x nxt w0 w1 w2 w3) (ix2 r c) : EReal)
      = ((du d w (512 * T + r.val) (384 + c.val) : ℝ) : EReal) := by
  rw [← down_du T hT 16 r.val (384 + c.val) r.isLt (by unfold width; rw [show (384 + c.val) / 128 = 3 by omega]; norm_num)]
  have hb := before16 T x nxt hT hx hn w0 w1 w2 w3 h0 h1 h2 h3 ⟨r.val, by omega⟩ ⟨384 + c.val, by omega⟩ (by show r.val < _; omega)
  rw [← hb, ← dp3 T x nxt hT hx hn w3 h3 ⟨r.val, by omega⟩ c]
  pointwise [k0_pay41, k0_pay28]

/-- A tile's part of the matrix's gradient. -/
def dwStep (u d : ℕ → ℕ → ℝ) (T a b : ℕ) : ℝ := ∑ r ∈ range 512, part u (512 * T + r) a * d (512 * T + r) b

variable (p : FVec Ideal S512x128 .f32) (acc : Vec Ideal S1x128x128 .f32)

/-- The sum a tile adds, from its parts and its rows. -/
theorem dw_sum (hT : T < 32) (o : ℕ) (a b : Fin 128) :
    ∑ r : Fin 512, ((part u (512 * T + r.val) (o + a.val) : ℝ) : EReal) * ((rowFrom d T r.val (o + b.val) : ℝ) : EReal) = ((dwStep u d T (o + a.val) (o + b.val) : ℝ) : EReal) := by
  refine (coe_sum_mul 512 (fun r => part u (512 * T + r) (o + a.val)) (fun r => rowFrom d T r (o + b.val))).trans (congrArg (fun s : ℝ => (s : EReal)) ?_)
  refine Finset.sum_congr rfl fun r hr => ?_
  have := Finset.mem_range.mp hr
  show _ * rowFrom d T r (o + b.val) = _
  unfold rowFrom
  rw [if_pos (show 512 * T + r < 16384 by omega)]

include hT hx hn in
theorem dw0 (hp : ∀ (r : Fin 512) (a : Fin 128), p (ix2 r a) = ((part u (512 * T + r.val) (0 + a.val) : ℝ) : EReal)) (a b : Fin 128) :
    (k0_pay36 (F := Ideal) (k0_pay34 acc) (k0_pay35 p (k0_pay14 (BitVec.ofNat 32 T) x nxt)) (ix3 0 a b) : EReal) = acc (ix3 0 a b) + ((dwStep u d T (0 + a.val) (0 + b.val) : ℝ) : EReal) := by
  rw [← dw_sum T hT]
  pointwise [k0_pay36, k0_pay34, k0_pay35, pay14_at T x nxt hT hx hn, hp]
include hT hx hn in
theorem dw1 (hp : ∀ (r : Fin 512) (a : Fin 128), p (ix2 r a) = ((part u (512 * T + r.val) (128 + a.val) : ℝ) : EReal)) (a b : Fin 128) :
    (k0_pay38 (F := Ideal) p (k0_pay14 (BitVec.ofNat 32 T) x nxt) acc (ix3 0 a b) : EReal) = acc (ix3 0 a b) + ((dwStep u d T (128 + a.val) (128 + b.val) : ℝ) : EReal) := by
  rw [← dw_sum T hT]
  pointwise [k0_pay38, pay14_at T x nxt hT hx hn, hp]
include hT hx hn in
theorem dw2 (hp : ∀ (r : Fin 512) (a : Fin 128), p (ix2 r a) = ((part u (512 * T + r.val) (256 + a.val) : ℝ) : EReal)) (a b : Fin 128) :
    (k0_pay40 (F := Ideal) p (k0_pay14 (BitVec.ofNat 32 T) x nxt) acc (ix3 0 a b) : EReal) = acc (ix3 0 a b) + ((dwStep u d T (256 + a.val) (256 + b.val) : ℝ) : EReal) := by
  rw [← dw_sum T hT]
  pointwise [k0_pay40, pay14_at T x nxt hT hx hn, hp]
include hT hx hn in
theorem dw3 (hp : ∀ (r : Fin 512) (a : Fin 128), p (ix2 r a) = ((part u (512 * T + r.val) (384 + a.val) : ℝ) : EReal)) (a b : Fin 128) :
    (k0_pay1 (F := Ideal) p (k0_pay14 (BitVec.ofNat 32 T) x nxt) acc (ix3 0 a b) : EReal) = acc (ix3 0 a b) + ((dwStep u d T (384 + a.val) (384 + b.val) : ℝ) : EReal) := by
  rw [← dw_sum T hT]
  pointwise [k0_pay1, pay14_at T x nxt hT hx hn, hp]

end Back

end Cert.Kernel3Ideal.Value

open Idealize.ShloMosaic.Pipeline (Dat)
namespace Cert.Kernel3Ideal.Value
open Cert.Kernel3Ideal Cert.Kernel3Ideal.Gen

variable (m : (ℓ : Loc nD τ sig) → Buf (Elt Ideal) ℓ)

/-- The grid's last point. -/
def lastPt : Fin cfg0.N := ⟨31, by decide⟩
variable {u d : ℕ → ℕ → ℝ} {w : ℕ → ℕ → ℕ → ℝ} (c : Dev nD)
  (hu : ∀ (s : Fin 16384) (k : Fin 512), m (c.tc.loc main_arg0) (ix2 s k) = ((u s.val k.val : ℝ) : EReal))
  (hd : ∀ (s : Fin 16384) (k : Fin 512), m (c.tc.loc main_arg1) (ix2 s k) = ((d s.val k.val : ℝ) : EReal))
  (hw : ∀ (g : Fin 4) (a b : Fin 128), m (c.tc.loc main_arg2) (ix4 0 g a b) = ((w g.val a.val b.val : ℝ) : EReal))

/-- The windows' block indices at every grid point. -/
theorem idx : ∀ t : Fin cfg0.N, win0_0.index t = ![t.val, 0] ∧ win0_1.index t = ![t.val * 32 - 1, 0] ∧ win0_2.index t = ![t.val, 0]
    ∧ win0_3.index t = ![min (t.val * 32 + 32) 1023, 0] ∧ win0_4.index t = ![0, 0, 0] ∧ win0_5.index t = ![t.val, 0] ∧ win0_6.index t = ![0, 0, 0] := by
  decide +kernel

/-- The grid's coordinate. -/
theorem coord : ∀ t : Fin cfg0.N, (grid0.coords t 0).val = t.val := by decide +kernel

include hu in
/-- The tile's rows. -/
theorem u_blk (t : Fin cfg0.N) (r : Fin 512) (k : Fin 512) :
    (show Vec Ideal S512x512 .f32 from iblk m c 0 t) (ix2 r k) = ((u (512 * (grid0.coords t 0).val + r.val) k.val : ℝ) : EReal) := by
  rw [coord]
  have ht : t.val < 32 := lt_of_lt_of_eq t.isLt N_0
  refine Eq.trans ?_ (hu ⟨512 * t.val + r.val, by omega⟩ k)
  blk_point [iblk, V, idx t]
include hu in
/-- The rows before it. -/
theorem halo_blk (t : Fin cfg0.N) (h : (grid0.coords t 0).val ≠ 0) (r : Fin 16) (k : Fin 512) :
    (show Vec Ideal S16x512 .f32 from iblk m c 1 t) (ix2 r k) = ((u (512 * (grid0.coords t 0).val + r.val - 16) k.val : ℝ) : EReal) := by
  rw [coord] at h ⊢
  have ht : t.val < 32 := lt_of_lt_of_eq t.isLt N_0
  refine Eq.trans ?_ (hu ⟨512 * t.val + r.val - 16, by omega⟩ k)
  blk_point [iblk, V, idx t]
include hd in
/-- The cotangent's rows. -/
theorem d_blk (t : Fin cfg0.N) (r : Fin 512) (k : Fin 512) :
    (show Vec Ideal S512x512 .f32 from iblk m c 2 t) (ix2 r k) = ((d (512 * (grid0.coords t 0).val + r.val) k.val : ℝ) : EReal) := by
  rw [coord]
  have ht : t.val < 32 := lt_of_lt_of_eq t.isLt N_0
  refine Eq.trans ?_ (hd ⟨512 * t.val + r.val, by omega⟩ k)
  blk_point [iblk, V, idx t]
include hd in
/-- The rows after them. -/
theorem next_blk (t : Fin cfg0.N) (h : (grid0.coords t 0).val ≠ 31) (r : Fin 16) (k : Fin 512) :
    (show Vec Ideal S16x512 .f32 from iblk m c 3 t) (ix2 r k) = ((d (512 * (grid0.coords t 0).val + 512 + r.val) k.val : ℝ) : EReal) := by
  rw [coord] at h ⊢
  have ht : t.val < 32 := lt_of_lt_of_eq t.isLt N_0
  refine Eq.trans ?_ (hd ⟨512 * t.val + 512 + r.val, by omega⟩ k)
  have e : min (t.val * 32 + 32) 1023 = t.val * 32 + 32 := by omega
  blk_point [iblk, V, idx t, e]
include hw in
/-- The groups' matrices. -/
theorem w_blk (t : Fin cfg0.N) (g : Fin 4) (a b : Fin 128) : (show Vec Ideal S4x128x128 .f32 from iblk m c 4 t) (ix3 g a b) = ((w g.val a.val b.val : ℝ) : EReal) := by
  refine Eq.trans ?_ (hw g a b)
  blk_point [iblk, V, idx t]

theorem pt (t : Fin cfg0.N) : (grid0.coords t 0).val < 32 := by
  rw [coord]; exact lt_of_lt_of_eq t.isLt N_0

/-- What a point adds to the matrices' gradient, over what is there. -/
def accum (u d : ℕ → ℕ → ℝ) (A : S4x128x128.Idx → EReal) (t : Fin cfg0.N) : Vec Ideal S4x128x128 .f32 := fun j =>
  A j + ((dwStep u d (grid0.coords t 0).val ((j 0).val * 128 + (j 1).val) ((j 0).val * 128 + (j 2).val) : ℝ) : EReal)

include hu hd in
/-- The matrices' gradient after a point that is not the first. -/
theorem stepB (t : Fin cfg0.N) (h0 : ¬t.val % 32 = 0) (y : S4x128x128.Idx) :
    (outsAt0 m c t t.isLt).2 y = accum u d (outsAt0 m c (t.val - 1) (lt_prev t)).2 t y := by
  rw [outsAt0_B m c t h0]; frame_out
  refine (View.canon_append_of_piecesOf (accum u d (outsAt0 m c (t.val - 1) (lt_prev t)).2 t) [] [_, _, _, _] ⟨?_, ?_, ?_, ?_, trivial⟩ y ?_)
  · intro x
    idx_vars x
    obtain rfl := x0.eq_zero
    refine (dw3 (d := d) _ _ _ (pt t) (d_blk m c hd t) (next_blk m c hd t) _ _ (part3 _ _ _ (u_blk m c hu t) (halo_blk m c hu t)) _ _).trans ?_
    refine congrArg₂ (· + ·) ?_ (congrArg (fun s : ℝ => (s : EReal)) (congrArg₂ (dwStep u d _) ?_ ?_))
    · rfl
    all_goals
      simp only [Rect.emb_apply]
      show _ = (_ + 1 * _) * 128 + (_ + 1 * _)
      simp
  · intro x
    idx_vars x
    obtain rfl := x0.eq_zero
    refine (dw2 (d := d) _ _ _ (pt t) (d_blk m c hd t) (next_blk m c hd t) _ _ (part2 _ _ _ (u_blk m c hu t) (halo_blk m c hu t)) _ _).trans ?_
    refine congrArg₂ (· + ·) ?_ (congrArg (fun s : ℝ => (s : EReal)) (congrArg₂ (dwStep u d _) ?_ ?_))
    · rfl
    all_goals
      simp only [Rect.emb_apply]
      show _ = (_ + 1 * _) * 128 + (_ + 1 * _)
      simp
  · intro x
    idx_vars x
    obtain rfl := x0.eq_zero
    refine (dw1 (d := d) _ _ _ (pt t) (d_blk m c hd t) (next_blk m c hd t) _ _ (part1 _ _ _ (u_blk m c hu t) (halo_blk m c hu t)) _ _).trans ?_
    refine congrArg₂ (· + ·) ?_ (congrArg (fun s : ℝ => (s : EReal)) (congrArg₂ (dwStep u d _) ?_ ?_))
    · rfl
    all_goals
      simp only [Rect.emb_apply]
      show _ = (_ + 1 * _) * 128 + (_ + 1 * _)
      simp
  · intro x
    idx_vars x
    obtain rfl := x0.eq_zero
    refine (dw0 (d := d) _ _ _ (pt t) (d_blk m c hd t) (next_blk m c hd t) _ _ (fun r a => (part0 _ _ _ (u_blk m c hu t) (halo_blk m c hu t) r a).trans (by rw [Nat.zero_add])) _ _).trans ?_
    refine congrArg₂ (· + ·) ?_ (congrArg (fun s : ℝ => (s : EReal)) (congrArg₂ (dwStep u d _) ?_ ?_))
    · rfl
    all_goals
      simp only [Rect.emb_apply]
      show _ = (_ + 1 * _) * 128 + (_ + 1 * _)
      simp
  · exact View.cover_of_tiled_head _ _ _ rfl y

include hu hd in
/-- The matrices' gradient after a point that is the first. -/
theorem stepA (t : Fin cfg0.N) (h0 : t.val % 32 = 0) (y : S4x128x128.Idx) : (outsAt0 m c t t.isLt).2 y = accum u d (fun _ => 0) t y := by
  rw [outsAt0_A m c t h0]; frame_out
  refine (View.canon_append_of_piecesOf (accum u d (fun _ => 0) t) [_] [_, _, _, _] ⟨?_, ?_, ?_, ?_, trivial⟩ y ?_)
  · simp (decide := true) only [↓View.readCov_skip, ↓View.readCov_fill]
    intro x
    idx_vars x
    obtain rfl := x0.eq_zero
    refine (dw3 (d := d) _ _ _ (pt t) (d_blk m c hd t) (next_blk m c hd t) _ _ (part3 _ _ _ (u_blk m c hu t) (halo_blk m c hu t)) _ _).trans ?_
    refine congrArg₂ (· + ·) ?_ (congrArg (fun s : ℝ => (s : EReal)) (congrArg₂ (dwStep u d _) ?_ ?_))
    · pointwise [k0_pay2]
    all_goals
      simp only [Rect.emb_apply]
      show _ = (_ + 1 * _) * 128 + (_ + 1 * _)
      simp
  · simp (decide := true) only [↓View.readCov_skip, ↓View.readCov_fill]
    intro x
    idx_vars x
    obtain rfl := x0.eq_zero
    refine (dw2 (d := d) _ _ _ (pt t) (d_blk m c hd t) (next_blk m c hd t) _ _ (part2 _ _ _ (u_blk m c hu t) (halo_blk m c hu t)) _ _).trans ?_
    refine congrArg₂ (· + ·) ?_ (congrArg (fun s : ℝ => (s : EReal)) (congrArg₂ (dwStep u d _) ?_ ?_))
    · pointwise [k0_pay2]
    all_goals
      simp only [Rect.emb_apply]
      show _ = (_ + 1 * _) * 128 + (_ + 1 * _)
      simp
  · simp (decide := true) only [↓View.readCov_skip, ↓View.readCov_fill]
    intro x
    idx_vars x
    obtain rfl := x0.eq_zero
    refine (dw1 (d := d) _ _ _ (pt t) (d_blk m c hd t) (next_blk m c hd t) _ _ (part1 _ _ _ (u_blk m c hu t) (halo_blk m c hu t)) _ _).trans ?_
    refine congrArg₂ (· + ·) ?_ (congrArg (fun s : ℝ => (s : EReal)) (congrArg₂ (dwStep u d _) ?_ ?_))
    · pointwise [k0_pay2]
    all_goals
      simp only [Rect.emb_apply]
      show _ = (_ + 1 * _) * 128 + (_ + 1 * _)
      simp
  · simp (decide := true) only [↓View.readCov_skip, ↓View.readCov_fill]
    intro x
    idx_vars x
    obtain rfl := x0.eq_zero
    refine (dw0 (d := d) _ _ _ (pt t) (d_blk m c hd t) (next_blk m c hd t) _ _ (fun r a => (part0 _ _ _ (u_blk m c hu t) (halo_blk m c hu t) r a).trans (by rw [Nat.zero_add])) _ _).trans ?_
    refine congrArg₂ (· + ·) ?_ (congrArg (fun s : ℝ => (s : EReal)) (congrArg₂ (dwStep u d _) ?_ ?_))
    · pointwise [k0_pay2]
    all_goals
      simp only [Rect.emb_apply]
      show _ = (_ + 1 * _) * 128 + (_ + 1 * _)
      simp
  · exact View.cover_of_tiled_head _ _ _ rfl y

include hd hw in
/-- The input's gradient array after the run. -/
theorem final5 : (dats m 0 c).arrAt 5 (cfgs 0).N = fun j => ((du d w (j 0).val (j 1).val : ℝ) : EReal) := by
  refine (dats m 0 c).arrAt_eq_of_covers 5 _ (by decide +kernel) fun t _ y => ?_
  blk_simp
  rw [after0_5]
  by_cases c0 : t.val % 32 = 0
  · rw [outsAt0_A m c t c0]; frame_out
    canon_tiles x h
    all_goals idx_vars x
    case' piece0 => refine (du3 (d := d) (w := w) _ _ _ (pt t) (d_blk m c hd t) (next_blk m c hd t) _ _ _ _ ?_ ?_ ?_ ?_ x0 x1).trans ?_
    case' piece1 => refine (du2 (d := d) (w := w) _ _ _ (pt t) (d_blk m c hd t) (next_blk m c hd t) _ _ _ _ ?_ ?_ ?_ ?_ x0 x1).trans ?_
    case' piece2 => refine (du1 (d := d) (w := w) _ _ _ (pt t) (d_blk m c hd t) (next_blk m c hd t) _ _ _ _ ?_ ?_ ?_ ?_ x0 x1).trans ?_
    case' piece3 => refine (du0 (d := d) (w := w) _ _ _ (pt t) (d_blk m c hd t) (next_blk m c hd t) _ _ _ _ ?_ ?_ ?_ ?_ x0 x1).trans ?_
    all_goals first
      | intro a l
        first
          | refine Eq.trans ?_ (w_blk m c hw t 0 a l); pointwise; done
          | refine Eq.trans ?_ (w_blk m c hw t 1 a l); pointwise; done
          | refine Eq.trans ?_ (w_blk m c hw t 2 a l); pointwise; done
          | refine Eq.trans ?_ (w_blk m c hw t 3 a l); pointwise; done
      | rw [coord]
        blk_simp [idx t]
        refine congrArg (fun s : ℝ => (s : EReal)) (congrArg₂ (du d w) ?_ ?_) <;> omega
  · rw [outsAt0_B m c t c0]; frame_out
    canon_tiles x h
    all_goals idx_vars x
    case' piece0 => refine (du3 (d := d) (w := w) _ _ _ (pt t) (d_blk m c hd t) (next_blk m c hd t) _ _ _ _ ?_ ?_ ?_ ?_ x0 x1).trans ?_
    case' piece1 => refine (du2 (d := d) (w := w) _ _ _ (pt t) (d_blk m c hd t) (next_blk m c hd t) _ _ _ _ ?_ ?_ ?_ ?_ x0 x1).trans ?_
    case' piece2 => refine (du1 (d := d) (w := w) _ _ _ (pt t) (d_blk m c hd t) (next_blk m c hd t) _ _ _ _ ?_ ?_ ?_ ?_ x0 x1).trans ?_
    case' piece3 => refine (du0 (d := d) (w := w) _ _ _ (pt t) (d_blk m c hd t) (next_blk m c hd t) _ _ _ _ ?_ ?_ ?_ ?_ x0 x1).trans ?_
    all_goals first
      | intro a l
        first
          | refine Eq.trans ?_ (w_blk m c hw t 0 a l); pointwise; done
          | refine Eq.trans ?_ (w_blk m c hw t 1 a l); pointwise; done
          | refine Eq.trans ?_ (w_blk m c hw t 2 a l); pointwise; done
          | refine Eq.trans ?_ (w_blk m c hw t 3 a l); pointwise; done
      | rw [coord]
        blk_simp [idx t]
        refine congrArg (fun s : ℝ => (s : EReal)) (congrArg₂ (du d w) ?_ ?_) <;> omega

/-- A sum over tiles of rows is the sum over the rows. -/
theorem sum_tiles (k n : ℕ) (f : ℕ → ℝ) : ∑ p ∈ range n, ∑ r ∈ range k, f (k * p + r) = ∑ t ∈ range (k * n), f t := by
  induction n with
  | zero => simp
  | succ n e => rw [Finset.sum_range_succ, e, Nat.mul_succ, Finset.sum_range_add]

theorem sum6 (u d : ℕ → ℕ → ℝ) (g a b : ℕ) :
    (∑ p : Fin cfg0.N, ((dwStep u d (grid0.coords p 0).val (g * 128 + a) (g * 128 + b) : ℝ) : EReal)) = ((dw u d g a b : ℝ) : EReal) := by
  refine (Finset.sum_congr rfl fun p _ => ?_).trans ((Cert.Kernel2Ideal.Attn.coe_sum_fin 32 fun p => dwStep u d p (g * 128 + a) (g * 128 + b)).trans ?_)
  · rw [coord]
  · unfold dwStep dw
    rw [sum_tiles 512 32 fun t => part u t (g * 128 + a) * d t (g * 128 + b)]

include hu hd in
/-- The matrices' gradient after the run. -/
theorem final6 : (dats m 0 c).arrAt 6 (cfgs 0).N = fun j => ((dw u d (j 0).val (j 1).val (j 2).val : ℝ) : EReal) := by
  refine (dats m 0 c).arrAt_eq_of_after_last 6 lastPt (by decide +kernel) _ fun j => ?_
  blk_simp
  rw [after0_6, Pipeline.eq_sum_fin_of_reset_step_apply_last (fun n h => (outsAt0 m c n h).2) 32 (fun _ => 0)
    (fun p (j : S4x128x128.Idx) => ((dwStep u d (grid0.coords p 0).val ((j 0).val * 128 + (j 1).val) ((j 0).val * 128 + (j 2).val) : ℝ) : EReal))
    (fun t h j => stepA m c hu hd t h j) (fun t h j => stepB m c hu hd t h j) (le_of_eq N_0) lastPt rfl _, zero_add]
  exact sum6 u d _ _ _

end Cert.Kernel3Ideal.Value

end
-- ==== Proof.PoolClaim.lean ====
/- The pooling branch's backward pass: the reference, stage by stage, and the claim on finite arguments. -/
module

public import proofs.«01_k».proof.Proof.Gen.Reference3Ideal.Run
public import proofs.«01_k».proof.Proof.Pool
public import proofs.«01_k».proof.Proof.AttnRef
public import Idealize.ShloMosaic.Lib.Pointwise
public import proofs.«01_k».proof.Defs
public import proofs.«01_k».proof.Proof.Pre
public import proofs.«01_k».proof.Proof.Gen.Kernel3Ideal.Value
public import Idealize.ShloMosaic.Lib.Claim

@[expose] public section

set_option maxRecDepth 16384

noncomputable section

open Idealize.ShloMosaic Idealize.ShloMosaic.TcCoe Idealize.SL.Sem
open Finset (range)
open Cert.Pool
open Cert.Kernel2Ideal.Attn (Is coe_sum_mul coe_sum_fin)
namespace Cert.Reference3Ideal.Value
open Cert.Reference3Ideal Cert.Reference3Ideal.Gen
variable (V : Valuation τ sig (Elt Ideal))

/-! ## Running sums of columns -/

/-- A window of every row and one column. -/
theorem col_sum {R K : ℕ} (lo hi : Fin 2 → ℕ) (x : FVec Ideal ⟨2, ![R, K]⟩ .f32) (v : FVec Ideal ⟨0, ![]⟩ .f32) (hv : ∀ q, v q = (0 : EReal))
    (h : (⟨2, ![R, K]⟩ : Shape).ReduceWindows (![R, 1] : Fin 2 → ℕ) ![1, 1] lo hi ⟨2, ![R, K]⟩) (hu) (t : Fin R) (k : Fin K) (hlo1 : lo 1 = 0) (g : Fin R → EReal)
    (hg : ∀ j : Fin R, ∀ q : lo 0 ≤ t.val + j.val ∧ t.val + j.val - lo 0 < R, g j = x (ix2 ⟨t.val + j.val - lo 0, q.2⟩ k))
    (hn : ∀ j : Fin R, ¬(lo 0 ≤ t.val + j.val ∧ t.val + j.val - lo 0 < R) → g j = 0) :
    (Host.reduceWindowAdd (![R, 1] : Fin 2 → ℕ) ![1, 1] lo hi x v h hu : FVec Ideal ⟨2, ![R, K]⟩ .f32) (ix2 t k) = ∑ j, g j := by
  change Host.reduceWindow (· + ·) (![R, 1] : Fin 2 → ℕ) ![1, 1] lo hi x (fun _ : (⟨0, ![]⟩ : Shape).Idx => v (Shape.Idx.first hu)) h hu (ix2 t k) = _
  rw [hv]
  unfold Host.reduceWindow
  dsimp only
  rw [Cert.Reference2Ideal.Stage.foldl_add, zero_add, ← Fin.sum_univ_def]
  refine (Finset.sum_congr rfl fun n _ => ?_).trans ((Equiv.sum_comp (Shape.rowMajor ⟨2, ![R, 1]⟩).symm (fun q : (⟨2, ![R, 1]⟩ : Shape).Idx => g (q 0))).trans ?_)
  · let z := (Shape.rowMajor ⟨2, ![R, 1]⟩).symm n
    have q1 : (z 1).val = 0 := Nat.lt_one_iff.mp (z 1).isLt
    have hk := k.isLt
    by_cases hq : lo 0 ≤ t.val + (z 0).val ∧ t.val + (z 0).val - lo 0 < R
    · refine Eq.trans (dif_pos fun a => ?_) (Eq.trans (congrArg x (funext fun a => Fin.ext ?_)) (hg (z 0) hq).symm)
      · match a with
        | ⟨0, _⟩ => show lo 0 ≤ t.val * 1 + (z 0).val ∧ t.val * 1 + (z 0).val - lo 0 < R; omega
        | ⟨1, _⟩ => show lo 1 ≤ k.val * 1 + (z 1).val ∧ k.val * 1 + (z 1).val - lo 1 < K; omega
      · match a with
        | ⟨0, _⟩ => show t.val * 1 + (z 0).val - lo 0 = t.val + (z 0).val - lo 0; omega
        | ⟨1, _⟩ => show k.val * 1 + (z 1).val - lo 1 = k.val; omega
    · refine Eq.trans (dif_neg fun c => hq ?_) (hn (z 0) hq).symm
      have c0 := c 0
      change lo 0 ≤ t.val * 1 + (z 0).val ∧ t.val * 1 + (z 0).val - lo 0 < R at c0
      omega
  · rw [sum_idx2]
    refine Finset.sum_congr rfl fun r _ => ?_
    rw [Fin.sum_univ_one]
    rfl

variable {R K : ℕ} {x : FVec Ideal ⟨2, ![R, K]⟩ .f32} {f : ℕ → ℕ → ℝ} (v : FVec Ideal ⟨0, ![]⟩ .f32) (hv : ∀ q, v q = (0 : EReal))

include hv in
/-- The sum of a column up to a row. -/
theorem col_upTo (hx : Is x f) (lo hi : Fin 2 → ℕ) (h) (hu) (hlo : lo 0 = R - 1) (hlo1 : lo 1 = 0) :
    Is (Host.reduceWindowAdd (![R, 1] : Fin 2 → ℕ) ![1, 1] lo hi x v h hu : FVec Ideal ⟨2, ![R, K]⟩ .f32) (fun t k => ∑ j ∈ range (t + 1), f j k) := by
  intro t k
  have ht := t.isLt
  rw [col_sum lo hi x v hv h hu t k hlo1 (fun j => (((if R - 1 ≤ t.val + j.val then f (t.val + j.val - (R - 1)) k.val else 0 : ℝ)) : EReal)) ?_ ?_,
    coe_sum_fin R (fun j => if R - 1 ≤ t.val + j then f (t.val + j - (R - 1)) k.val else 0)]
  · refine congrArg (fun s : ℝ => (s : EReal)) ?_
    refine (congrArg (fun n => ∑ j ∈ range n, if R - 1 ≤ t.val + j then f (t.val + j - (R - 1)) k.val else 0) (show R = (R - 1 - t.val) + (t.val + 1) by omega)).trans ?_
    dsimp only
    rw [Finset.sum_range_add, Finset.sum_eq_zero fun j hj => if_neg (by have := Finset.mem_range.mp hj; omega), zero_add]
    refine Finset.sum_congr rfl fun j hj => ?_
    rw [if_pos (by omega)]
    exact congrArg (fun j => f j k.val) (by omega)
  · intro j q
    rw [hx]
    show (((if _ then _ else _ : ℝ)) : EReal) = ((f (t.val + j.val - lo 0) k.val : ℝ) : EReal)
    rw [hlo] at q ⊢
    rw [if_pos q.1]
  · intro j q
    have := j.isLt
    show (((if _ then _ else _ : ℝ)) : EReal) = 0
    rw [if_neg (by omega)]
    rfl

include hv in
/-- The sum of a column from a row on. -/
theorem col_from (hx : Is x f) (lo hi : Fin 2 → ℕ) (h) (hu) (hlo : lo 0 = 0) (hlo1 : lo 1 = 0) :
    Is (Host.reduceWindowAdd (![R, 1] : Fin 2 → ℕ) ![1, 1] lo hi x v h hu : FVec Ideal ⟨2, ![R, K]⟩ .f32) (fun t k => ∑ j ∈ range (R - t), f (t + j) k) := by
  intro t k
  have ht := t.isLt
  rw [col_sum lo hi x v hv h hu t k hlo1 (fun j => (((if t.val + j.val < R then f (t.val + j.val) k.val else 0 : ℝ)) : EReal)) ?_ ?_,
    coe_sum_fin R (fun j => if t.val + j < R then f (t.val + j) k.val else 0)]
  · refine congrArg (fun s : ℝ => (s : EReal)) ?_
    refine (congrArg (fun n => ∑ j ∈ range n, if t.val + j < R then f (t.val + j) k.val else 0) (show R = (R - t.val) + t.val by omega)).trans ?_
    dsimp only
    rw [Finset.sum_range_add, Finset.sum_eq_zero (s := range t.val) fun j hj => if_neg (by omega), add_zero]
    refine Finset.sum_congr rfl fun j hj => ?_
    have := Finset.mem_range.mp hj
    rw [if_pos (by omega)]
  · intro j q
    rw [hx]
    show (((if _ then _ else _ : ℝ)) : EReal) = ((f (t.val + j.val - lo 0) k.val : ℝ) : EReal)
    rw [hlo] at q ⊢
    rw [if_pos (by omega)]
    rfl
  · intro j q
    show (((if _ then _ else _ : ℝ)) : EReal) = 0
    rw [if_neg (by omega)]
    rfl

/-! ## Identities of sums -/

/-- A window's sum is a difference of two running sums. -/
theorem past_run (u : ℕ → ℕ → ℝ) (w t k : ℕ) : past u w t k = (∑ j ∈ range (t + 1), u j k) - ∑ j ∈ range (t + 1 - w), u j k := by
  induction w with
  | zero => simp [past]
  | succ w e =>
    unfold past at e ⊢
    rw [Finset.sum_range_succ, e]
    by_cases h : w ≤ t
    · rw [if_pos h, show t + 1 - w = (t - w) + 1 by omega, Finset.sum_range_succ _ (t - w), show t + 1 - (w + 1) = t - w by omega]; ring
    · rw [if_neg h, show t + 1 - w = 0 by omega, show t + 1 - (w + 1) = 0 by omega]; ring

/-- The differences of the rows a window apart, summed from a row on, are the window's sum. -/
theorem from_run (Q : ℕ → ℝ) (w t : ℕ) (ht : t ≤ 16384) (hQ : ∀ j, 16384 ≤ j → Q j = 0) :
    ∑ j ∈ range (16384 - t), (Q (t + j) - Q (t + j + w)) = ∑ j ∈ range w, Q (t + j) := by
  have e1 := Finset.sum_range_add (fun j => Q (t + j)) (16384 - t) w
  have e2 := Finset.sum_range_add (fun j => Q (t + j)) w (16384 - t)
  rw [show (16384 - t) + w = w + (16384 - t) by omega, e2,
    Finset.sum_eq_zero (s := range w) (f := fun j => Q (t + (16384 - t + j))) fun j _ => hQ _ (by omega), add_zero] at e1
  rw [Finset.sum_sub_distrib, ← e1]
  rw [Finset.sum_congr rfl fun j _ => (congrArg Q (show t + (w + j) = t + j + w by omega))]
  ring

/-- The count of rows up to a row, at most a window. -/
theorem count (wd t : ℕ) (ht : t < 16384) (hw : wd ≤ 16) (W : BitVec 32) (hW : W = BitVec.ofNat 32 wd) :
    (FloatOps.sitofp (F := Ideal) FTy.f32 (IntOp.minsi (IntOp.addi 1#32 (BitVec.ofNat 32 t)) W) : EReal) = ((cnt wd t : ℝ) : EReal) := by
  subst hW
  have e : IntOp.addi 1#32 (BitVec.ofNat 32 t) = BitVec.ofNat 32 (t + 1) := by
    change 1#32 + BitVec.ofNat 32 t = _
    apply BitVec.eq_of_toNat_eq
    simp only [BitVec.toNat_add, BitVec.toNat_ofNat]
    omega
  have i1 : (BitVec.ofNat 32 (t + 1)).toInt = ((t + 1 : ℕ) : ℤ) := by
    rw [BitVec.toInt_eq_toNat_of_lt] <;> rw [BitVec.toNat_ofNat, Nat.mod_eq_of_lt (by omega)]
    omega
  have i2 : (BitVec.ofNat 32 wd).toInt = ((wd : ℕ) : ℤ) := by
    rw [BitVec.toInt_eq_toNat_of_lt] <;> rw [BitVec.toNat_ofNat, Nat.mod_eq_of_lt (by omega)]
    omega
  rw [e]
  unfold IntOp.minsi cnt
  have i3 : (BitVec.ofNat 32 (t + 1)).slt (BitVec.ofNat 32 wd) = decide (t + 1 < wd) := by
    rw [BitVec.slt, i1, i2]; exact decide_eq_decide.mpr Int.ofNat_lt
  rw [i3]
  by_cases h : t + 1 < wd
  · rw [decide_eq_true h, if_pos rfl, min_eq_left (by omega)]
    change ((((BitVec.ofNat 32 (t + 1)).toInt : ℤ) : ℝ) : EReal) = _
    rw [i1]; norm_num
  · rw [decide_eq_false h, if_neg (by decide), min_eq_right (by omega)]
    change ((((BitVec.ofNat 32 wd).toInt : ℤ) : ℝ) : EReal) = _
    rw [i2]; norm_num

/-- Columns set in an array of zeros. -/
theorem pad_cols {n o : ℕ} (h : ℕ) (x : FVec Ideal ⟨2, ![n, 128]⟩ .f32) (f : ℕ → ℕ → ℝ) (hx : Is x f) (v : FVec Ideal S_ .f32) (hv : ∀ q, v q = (0 : EReal)) (hp) (hs) :
    Is (pad ⟨2, ![n, 512]⟩ ![0, o] ![0, h] ![0, 0] x v hp hs : FVec Ideal ⟨2, ![n, 512]⟩ .f32) (fun t k => if o ≤ k ∧ k - o < 128 then f t (k - o) else 0) := by
  intro a b
  pointwise
  by_cases hq : o ≤ b.val ∧ b.val - o < 128
  · rw [dif_pos hq, if_pos hq]
    refine Eq.trans (congrArg x ?_) (hx a ⟨b.val - o, hq.2⟩)
    funext c
    refine Fin.ext ?_
    match c with
    | ⟨0, _⟩ => show (a.val - 0) / (0 + 1) = a.val; simp
    | ⟨1, _⟩ => show (b.val - o) / (0 + 1) = b.val - o; simp
  · rw [dif_neg hq, if_neg hq, hv]; rfl

/-! ## The stages -/

variable {u d : ℕ → ℕ → ℝ} {w : ℕ → ℕ → ℕ → ℝ}
  (hu : ∀ (t : Fin 16384) (k : Fin 512), (show FVec Ideal S16384x512 .f32 from V (Proc.devRef .tc main_arg0)) (ix2 t k) = ((u t.val k.val : ℝ) : EReal))
  (hd : ∀ (t : Fin 16384) (k : Fin 512), (show FVec Ideal S16384x512 .f32 from V (Proc.devRef .tc main_arg1)) (ix2 t k) = ((d t.val k.val : ℝ) : EReal))
  (hw : ∀ (g : Fin 4) (a b : Fin 128), (show FVec Ideal S1x4x128x128 .f32 from V (Proc.devRef .tc main_arg2)) (ix4 0 g a b) = ((w g.val a.val b.val : ℝ) : EReal))

theorem zero_word (q : S_.Idx) : (constant (F := Ideal) S_ .f32 0x00000000#32 q : EReal) = 0 := by pointwise
theorem zero_cast (q : S_.Idx) : (broadcastInDim S_ ![] bcast_S_S_ (constant (F := Ideal) S_ .f32 0x00000000#32) q : EReal) = 0 := by pointwise

include hu in
/-- The running sums, a zero row first. -/
theorem v3 (t : Fin 16385) (k : Fin 512) : (show FVec Ideal S16385x512 .f32 from res_main_v3 V) (ix2 t k) = ((∑ j ∈ range t.val, u j k.val : ℝ) : EReal) := by
  unfold res_main_v3
  pointwise
  by_cases h : t.val < 1
  · rw [dif_pos h, show t.val = 0 by omega]; rfl
  · rw [dif_neg h]
    refine (col_upTo _ zero_cast (x := V (Proc.devRef .tc main_arg0)) hu _ _ _ _ rfl rfl ⟨t.val - 1, by omega⟩ k).trans ?_
    show ((∑ j ∈ range (t.val - 1 + 1), u j k.val : ℝ) : EReal) = _
    rw [show t.val - 1 + 1 = t.val by omega]

include hu in
theorem v8 (t : Fin 16385) (k : Fin 128) : (show FVec Ideal S16385x128 .f32 from res_main_v8 V) (ix2 t k) = ((∑ j ∈ range t.val, u j (k.val) : ℝ) : EReal) := by
  refine Eq.trans ?_ (v3 V hu t ⟨k.val, by omega⟩)
  have e : (show FVec Ideal S16385x128 .f32 from res_main_v8 V) = extractStridedSlice S16385x128 ![0, 0] (show FVec Ideal S16385x512 .f32 from res_main_v3 V) slices_S16385x512_S16385x128_0_0 := rfl
  rw [e]
  pointwise
theorem v16 (t : Fin 16384) : (show FVec Ideal S16384x1 .f32 from res_main_v16 V) (ix2 t 0) = ((cnt 2 t.val : ℝ) : EReal) := by
  unfold res_main_v16
  pointwise [res_main_v7]
  exact count 2 t.val t.isLt (by norm_num) _ rfl

include hu in
theorem v23 (t : Fin 16385) (k : Fin 128) : (show FVec Ideal S16385x128 .f32 from res_main_v23 V) (ix2 t k) = ((∑ j ∈ range t.val, u j (128 + k.val) : ℝ) : EReal) := by
  refine Eq.trans ?_ (v3 V hu t ⟨128 + k.val, by omega⟩)
  have e : (show FVec Ideal S16385x128 .f32 from res_main_v23 V) = extractStridedSlice S16385x128 ![0, 128] (show FVec Ideal S16385x512 .f32 from res_main_v3 V) slices_S16385x512_S16385x128_0_128 := rfl
  rw [e]
  pointwise
theorem v31 (t : Fin 16384) : (show FVec Ideal S16384x1 .f32 from res_main_v31 V) (ix2 t 0) = ((cnt 4 t.val : ℝ) : EReal) := by
  unfold res_main_v31
  pointwise [res_main_v7]
  exact count 4 t.val t.isLt (by norm_num) _ rfl

include hu in
theorem v38 (t : Fin 16385) (k : Fin 128) : (show FVec Ideal S16385x128 .f32 from res_main_v38 V) (ix2 t k) = ((∑ j ∈ range t.val, u j (256 + k.val) : ℝ) : EReal) := by
  refine Eq.trans ?_ (v3 V hu t ⟨256 + k.val, by omega⟩)
  have e : (show FVec Ideal S16385x128 .f32 from res_main_v38 V) = extractStridedSlice S16385x128 ![0, 256] (show FVec Ideal S16385x512 .f32 from res_main_v3 V) slices_S16385x512_S16385x128_0_256 := rfl
  rw [e]
  pointwise
theorem v46 (t : Fin 16384) : (show FVec Ideal S16384x1 .f32 from res_main_v46 V) (ix2 t 0) = ((cnt 8 t.val : ℝ) : EReal) := by
  unfold res_main_v46
  pointwise [res_main_v7]
  exact count 8 t.val t.isLt (by norm_num) _ rfl

include hu in
theorem v53 (t : Fin 16385) (k : Fin 128) : (show FVec Ideal S16385x128 .f32 from res_main_v53 V) (ix2 t k) = ((∑ j ∈ range t.val, u j (384 + k.val) : ℝ) : EReal) := by
  refine Eq.trans ?_ (v3 V hu t ⟨384 + k.val, by omega⟩)
  have e : (show FVec Ideal S16385x128 .f32 from res_main_v53 V) = extractStridedSlice S16385x128 ![0, 384] (show FVec Ideal S16385x512 .f32 from res_main_v3 V) slices_S16385x512_S16385x128_0_384 := rfl
  rw [e]
  pointwise
theorem v61 (t : Fin 16384) : (show FVec Ideal S16384x1 .f32 from res_main_v61 V) (ix2 t 0) = ((cnt 16 t.val : ℝ) : EReal) := by
  unfold res_main_v61
  pointwise [res_main_v7]
  exact count 16 t.val t.isLt (by norm_num) _ rfl

/-- A mean less its row. -/
theorem mean_row (wd g k : ℕ) (t : Fin 16384) (hk : k / 128 = g) (hw : wd + 1 = 2 ^ (g + 1)) {A : Fin 16385 → EReal} (hA : ∀ t, A t = ((∑ j ∈ range t.val, u j k : ℝ) : EReal)) {C U z : EReal}
    (hC : C = ((cnt (wd + 1) t : ℝ) : EReal)) (hU : U = ((u t k : ℝ) : EReal)) (hz : z = 0) (h1) (h2 : ¬ t.val < wd → t.val - wd < 16385) :
    Ideal.div (A ⟨1 + t.val, h1⟩ - if h : t.val < wd then z else A ⟨t.val - wd, h2 h⟩) C - U = ((part u t k : ℝ) : EReal) := by
  have e : (if h : t.val < wd then z else A ⟨t.val - wd, h2 h⟩) = ((∑ j ∈ range (t.val + 1 - (wd + 1)), u j k : ℝ) : EReal) := by
    split_ifs with h
    · rw [hz, show t.val + 1 - (wd + 1) = 0 by omega]; rfl
    · rw [hA, Nat.add_sub_add_right]
  rw [e, hA, hC, hU, Ideal.div_coe (cnt_ne wd.succ_pos _), ← EReal.coe_sub, ← EReal.coe_mul, ← EReal.coe_sub]
  unfold part width
  rw [hk, ← hw, past_run, ← Nat.add_comm 1 t.val]

include hu in
theorem v72_0 (t : Fin 16384) (k : Fin 128) : (show FVec Ideal S16384x4x128 .f32 from res_main_v72 V) (ix3 t 0 k) = ((part u t.val (k.val) : ℝ) : EReal) := by
  unfold res_main_v72
  pointwise
  exact mean_row 1 0 (k.val) t (by omega) (by norm_num) (fun t => v8 V hu t k) (v16 V t) (hu t ⟨k.val, by omega⟩) rfl _ _

include hu in
theorem v72_1 (t : Fin 16384) (k : Fin 128) : (show FVec Ideal S16384x4x128 .f32 from res_main_v72 V) (ix3 t 1 k) = ((part u t.val (128 + k.val) : ℝ) : EReal) := by
  unfold res_main_v72
  pointwise
  exact mean_row 3 1 (128 + k.val) t (by omega) (by norm_num) (fun t => v23 V hu t k) (v31 V t) (hu t ⟨128 + k.val, by omega⟩) rfl _ _

include hu in
theorem v72_2 (t : Fin 16384) (k : Fin 128) : (show FVec Ideal S16384x4x128 .f32 from res_main_v72 V) (ix3 t 2 k) = ((part u t.val (256 + k.val) : ℝ) : EReal) := by
  unfold res_main_v72
  pointwise
  exact mean_row 7 2 (256 + k.val) t (by omega) (by norm_num) (fun t => v38 V hu t k) (v46 V t) (hu t ⟨256 + k.val, by omega⟩) rfl _ _

include hu in
theorem v72_3 (t : Fin 16384) (k : Fin 128) : (show FVec Ideal S16384x4x128 .f32 from res_main_v72 V) (ix3 t 3 k) = ((part u t.val (384 + k.val) : ℝ) : EReal) := by
  unfold res_main_v72
  pointwise
  exact mean_row 15 3 (384 + k.val) t (by omega) (by norm_num) (fun t => v53 V hu t k) (v61 V t) (hu t ⟨384 + k.val, by omega⟩) rfl _ _

include hu in
/-- The means less the rows, group by group. -/
theorem v72 (t : Fin 16384) (g : Fin 4) (k : Fin 128) : (show FVec Ideal S16384x4x128 .f32 from res_main_v72 V) (ix3 t g k) = ((part u t.val (g.val * 128 + k.val) : ℝ) : EReal) := by
  match g with
  | ⟨0, _⟩ => exact (v72_0 V hu t k).trans (by show _ = ((part u t.val (0 * 128 + k.val) : ℝ) : EReal); rw [show 0 * 128 + k.val = k.val by omega])
  | ⟨1, _⟩ => exact v72_1 V hu t k
  | ⟨2, _⟩ => exact v72_2 V hu t k
  | ⟨3, _⟩ => exact v72_3 V hu t k

include hd in
theorem v77 (g : Fin 4) (b : Fin 128) (t : Fin 16384) : (show FVec Ideal S4x128x16384 .f32 from res_main_v77 V) (ix3 g b t) = ((d t.val (g.val * 128 + b.val) : ℝ) : EReal) := by
  refine Eq.trans ?_ (hd t ⟨g.val * 128 + b.val, by omega⟩)
  unfold res_main_v77
  pointwise

include hw in
theorem v0 (g : Fin 4) (a b : Fin 128) : (show FVec Ideal S4x128x128 .f32 from res_main_v0 V) (ix3 g a b) = ((w g.val a.val b.val : ℝ) : EReal) := by
  refine Eq.trans ?_ (hw g a b)
  unfold res_main_v0
  pointwise

include hd hw in
/-- The rows' products with their groups' matrices. -/
theorem v79 (t : Fin 16384) (g : Fin 4) (k : Fin 128) : (show FVec Ideal S16384x4x128 .f32 from res_main_v79 V) (ix3 t g k) = ((dp d w t.val (g.val * 128 + k.val) : ℝ) : EReal) := by
  unfold res_main_v79
  pointwise
  refine (Finset.sum_congr rfl fun l _ => congrArg₂ (· * ·) (v77 V hd g l t) (v0 V hw g k l)).trans ?_
  refine (coe_sum_mul 128 (fun l => d t.val (g.val * 128 + l)) (fun l => w g.val k.val l)).trans ?_
  unfold dp
  rw [show (g.val * 128 + k.val) / 128 = g.val by omega, show (g.val * 128 + k.val) % 128 = k.val by omega]

include hd hw in
theorem v83 (t : Fin 16384) (k : Fin 128) : (show FVec Ideal S16384x128 .f32 from res_main_v83 V) (ix2 t k) = ((dp d w t.val (k.val) : ℝ) : EReal) := by
  refine Eq.trans ?_ ((v79 V hd hw t 0 k).trans (by show ((dp d w t.val (0 * 128 + k.val) : ℝ) : EReal) = _; rw [show 0 * 128 + k.val = k.val by omega]))
  unfold res_main_v83
  pointwise
include hd hw in
theorem v131 (t : Fin 16384) (k : Fin 128) : (show FVec Ideal S16384x128 .f32 from res_main_v131 V) (ix2 t k) = ((q d w t.val (k.val) : ℝ) : EReal) := by
  unfold res_main_v131
  pointwise [v16 V, v83 V hd hw]
  rw [Ideal.div_coe (cnt_ne (by norm_num) _), ← EReal.coe_mul]
  unfold q
  rw [show width (k.val) = 2 by unfold width; rw [show (k.val) / 128 = 0 by omega]; norm_num]
include hd hw in
theorem v132 (t : Fin 16384) (k : Fin 128) : (show FVec Ideal S16384x128 .f32 from res_main_v132 V) (ix2 t k) = ((-q d w t.val (k.val) : ℝ) : EReal) := by
  rw [EReal.coe_neg, ← v131 V hd hw]
  unfold res_main_v132
  pointwise

include hd hw in
theorem v85 (t : Fin 16384) (k : Fin 128) : (show FVec Ideal S16384x128 .f32 from res_main_v85 V) (ix2 t k) = ((dp d w t.val (128 + k.val) : ℝ) : EReal) := by
  refine Eq.trans ?_ ((v79 V hd hw t 1 k).trans (rfl))
  unfold res_main_v85
  pointwise
include hd hw in
theorem v118 (t : Fin 16384) (k : Fin 128) : (show FVec Ideal S16384x128 .f32 from res_main_v118 V) (ix2 t k) = ((q d w t.val (128 + k.val) : ℝ) : EReal) := by
  unfold res_main_v118
  pointwise [v31 V, v85 V hd hw]
  rw [Ideal.div_coe (cnt_ne (by norm_num) _), ← EReal.coe_mul]
  unfold q
  rw [show width (128 + k.val) = 4 by unfold width; rw [show (128 + k.val) / 128 = 1 by omega]; norm_num]
include hd hw in
theorem v119 (t : Fin 16384) (k : Fin 128) : (show FVec Ideal S16384x128 .f32 from res_main_v119 V) (ix2 t k) = ((-q d w t.val (128 + k.val) : ℝ) : EReal) := by
  rw [EReal.coe_neg, ← v118 V hd hw]
  unfold res_main_v119
  pointwise

include hd hw in
theorem v87 (t : Fin 16384) (k : Fin 128) : (show FVec Ideal S16384x128 .f32 from res_main_v87 V) (ix2 t k) = ((dp d w t.val (256 + k.val) : ℝ) : EReal) := by
  refine Eq.trans ?_ ((v79 V hd hw t 2 k).trans (rfl))
  unfold res_main_v87
  pointwise
include hd hw in
theorem v105 (t : Fin 16384) (k : Fin 128) : (show FVec Ideal S16384x128 .f32 from res_main_v105 V) (ix2 t k) = ((q d w t.val (256 + k.val) : ℝ) : EReal) := by
  unfold res_main_v105
  pointwise [v46 V, v87 V hd hw]
  rw [Ideal.div_coe (cnt_ne (by norm_num) _), ← EReal.coe_mul]
  unfold q
  rw [show width (256 + k.val) = 8 by unfold width; rw [show (256 + k.val) / 128 = 2 by omega]; norm_num]
include hd hw in
theorem v106 (t : Fin 16384) (k : Fin 128) : (show FVec Ideal S16384x128 .f32 from res_main_v106 V) (ix2 t k) = ((-q d w t.val (256 + k.val) : ℝ) : EReal) := by
  rw [EReal.coe_neg, ← v105 V hd hw]
  unfold res_main_v106
  pointwise

include hd hw in
theorem v89 (t : Fin 16384) (k : Fin 128) : (show FVec Ideal S16384x128 .f32 from res_main_v89 V) (ix2 t k) = ((dp d w t.val (384 + k.val) : ℝ) : EReal) := by
  refine Eq.trans ?_ ((v79 V hd hw t 3 k).trans (rfl))
  unfold res_main_v89
  pointwise
include hd hw in
theorem v93 (t : Fin 16384) (k : Fin 128) : (show FVec Ideal S16384x128 .f32 from res_main_v93 V) (ix2 t k) = ((q d w t.val (384 + k.val) : ℝ) : EReal) := by
  unfold res_main_v93
  pointwise [v61 V, v89 V hd hw]
  rw [Ideal.div_coe (cnt_ne (by norm_num) _), ← EReal.coe_mul]
  unfold q
  rw [show width (384 + k.val) = 16 by unfold width; rw [show (384 + k.val) / 128 = 3 by omega]; norm_num]
include hd hw in
theorem v94 (t : Fin 16384) (k : Fin 128) : (show FVec Ideal S16384x128 .f32 from res_main_v94 V) (ix2 t k) = ((-q d w t.val (384 + k.val) : ℝ) : EReal) := by
  rw [EReal.coe_neg, ← v93 V hd hw]
  unfold res_main_v94
  pointwise

/-- A row a window on, nothing past the last. -/
def ahead (Q : ℕ → ℕ → ℝ) (t k : ℕ) : ℝ := if t < 16384 then Q t k else 0

include hd hw in
theorem gap0 (hp1) (hp2) (hs) : Is (addf (pad S16385x128 ![1, 0] ![0, 0] ![0, 0] (show FVec Ideal S16384x128 .f32 from res_main_v131 V) (constant S_ .f32 0x00000000#32) hp1 hs)
      (pad S16385x128 ![0, 0] ![2, 0] ![0, 0] (extractStridedSlice S16383x128 ![1, 0] (show FVec Ideal S16384x128 .f32 from res_main_v132 V) slices_S16384x128_S16383x128_1_0) (constant S_ .f32 0x00000000#32) hp2 hs) : FVec Ideal S16385x128 .f32)
    (fun t k => (if 1 ≤ t then q d w (t - 1) (k) else 0) + -ahead (q d w) (t + 1) (k)) := by
  intro t k
  rw [EReal.coe_add]
  unfold ahead
  pointwise
  refine congrArg₂ (· + ·) ?_ ?_
  · by_cases h : 1 ≤ t.val
    · rw [dif_pos (by omega), if_pos h]; exact v131 V hd hw ⟨t.val - 1, by omega⟩ k
    · rw [dif_neg (by omega), if_neg h]; rfl
  · by_cases h : t.val < 16383
    · rw [dif_pos (by omega), if_pos (by omega)]
      refine (v132 V hd hw ⟨1 + t.val, by omega⟩ k).trans ?_
      show ((-q d w (1 + t.val) _ : ℝ) : EReal) = _
      rw [Nat.add_comm]
    · rw [dif_neg (by omega), if_neg (by omega), neg_zero]; rfl

include hd hw in
theorem gap1 (hp1) (hp2) (hs) : Is (addf (pad S16385x128 ![1, 0] ![0, 0] ![0, 0] (show FVec Ideal S16384x128 .f32 from res_main_v118 V) (constant S_ .f32 0x00000000#32) hp1 hs)
      (pad S16385x128 ![0, 0] ![4, 0] ![0, 0] (extractStridedSlice S16381x128 ![3, 0] (show FVec Ideal S16384x128 .f32 from res_main_v119 V) slices_S16384x128_S16381x128_3_0) (constant S_ .f32 0x00000000#32) hp2 hs) : FVec Ideal S16385x128 .f32)
    (fun t k => (if 1 ≤ t then q d w (t - 1) (128 + k) else 0) + -ahead (q d w) (t + 3) (128 + k)) := by
  intro t k
  rw [EReal.coe_add]
  unfold ahead
  pointwise
  refine congrArg₂ (· + ·) ?_ ?_
  · by_cases h : 1 ≤ t.val
    · rw [dif_pos (by omega), if_pos h]; exact v118 V hd hw ⟨t.val - 1, by omega⟩ k
    · rw [dif_neg (by omega), if_neg h]; rfl
  · by_cases h : t.val < 16381
    · rw [dif_pos (by omega), if_pos (by omega)]
      refine (v119 V hd hw ⟨3 + t.val, by omega⟩ k).trans ?_
      show ((-q d w (3 + t.val) _ : ℝ) : EReal) = _
      rw [Nat.add_comm]
    · rw [dif_neg (by omega), if_neg (by omega), neg_zero]; rfl

include hd hw in
theorem gap2 (hp1) (hp2) (hs) : Is (addf (pad S16385x128 ![1, 0] ![0, 0] ![0, 0] (show FVec Ideal S16384x128 .f32 from res_main_v105 V) (constant S_ .f32 0x00000000#32) hp1 hs)
      (pad S16385x128 ![0, 0] ![8, 0] ![0, 0] (extractStridedSlice S16377x128 ![7, 0] (show FVec Ideal S16384x128 .f32 from res_main_v106 V) slices_S16384x128_S16377x128_7_0) (constant S_ .f32 0x00000000#32) hp2 hs) : FVec Ideal S16385x128 .f32)
    (fun t k => (if 1 ≤ t then q d w (t - 1) (256 + k) else 0) + -ahead (q d w) (t + 7) (256 + k)) := by
  intro t k
  rw [EReal.coe_add]
  unfold ahead
  pointwise
  refine congrArg₂ (· + ·) ?_ ?_
  · by_cases h : 1 ≤ t.val
    · rw [dif_pos (by omega), if_pos h]; exact v105 V hd hw ⟨t.val - 1, by omega⟩ k
    · rw [dif_neg (by omega), if_neg h]; rfl
  · by_cases h : t.val < 16377
    · rw [dif_pos (by omega), if_pos (by omega)]
      refine (v106 V hd hw ⟨7 + t.val, by omega⟩ k).trans ?_
      show ((-q d w (7 + t.val) _ : ℝ) : EReal) = _
      rw [Nat.add_comm]
    · rw [dif_neg (by omega), if_neg (by omega), neg_zero]; rfl

include hd hw in
theorem gap3 (hp1) (hp2) (hs) : Is (addf (pad S16385x128 ![1, 0] ![0, 0] ![0, 0] (show FVec Ideal S16384x128 .f32 from res_main_v93 V) (constant S_ .f32 0x00000000#32) hp1 hs)
      (pad S16385x128 ![0, 0] ![16, 0] ![0, 0] (extractStridedSlice S16369x128 ![15, 0] (show FVec Ideal S16384x128 .f32 from res_main_v94 V) slices_S16384x128_S16369x128_15_0) (constant S_ .f32 0x00000000#32) hp2 hs) : FVec Ideal S16385x128 .f32)
    (fun t k => (if 1 ≤ t then q d w (t - 1) (384 + k) else 0) + -ahead (q d w) (t + 15) (384 + k)) := by
  intro t k
  rw [EReal.coe_add]
  unfold ahead
  pointwise
  refine congrArg₂ (· + ·) ?_ ?_
  · by_cases h : 1 ≤ t.val
    · rw [dif_pos (by omega), if_pos h]; exact v93 V hd hw ⟨t.val - 1, by omega⟩ k
    · rw [dif_neg (by omega), if_neg h]; rfl
  · by_cases h : t.val < 16369
    · rw [dif_pos (by omega), if_pos (by omega)]
      refine (v94 V hd hw ⟨15 + t.val, by omega⟩ k).trans ?_
      show ((-q d w (15 + t.val) _ : ℝ) : EReal) = _
      rw [Nat.add_comm]
    · rw [dif_neg (by omega), if_neg (by omega), neg_zero]; rfl

include hd hw in
/-- The four groups' differences, side by side. -/
theorem v139 : Is (show FVec Ideal S16385x512 .f32 from res_main_v139 V) (fun t k => (if 1 ≤ t then q d w (t - 1) k else 0) + -ahead (q d w) (t + (width k - 1)) k) := by
  unfold res_main_v139
  refine Is.congr ((((pad_cols 0 _ _ (gap3 V hd hw _ _ _) _ zero_word _ _).add (pad_cols 128 _ _ (gap2 V hd hw _ _ _) _ zero_word _ _)).add
    (pad_cols 256 _ _ (gap1 V hd hw _ _ _) _ zero_word _ _)).add (pad_cols 384 _ _ (gap0 V hd hw _ _ _) _ zero_word _ _)) fun t ht k hk => ?_
  have wk : width k = 2 ^ (k / 128 + 1) := rfl
  rw [wk]
  rcases (show k / 128 = 0 ∨ k / 128 = 1 ∨ k / 128 = 2 ∨ k / 128 = 3 by omega) with h | h | h | h <;> simp (disch := omega) only [if_pos, if_neg, h, Nat.add_sub_cancel', Nat.sub_zero] <;> norm_num

theorem neg_group (o : ℕ) (x : FVec Ideal S16384x128 .f32) (hx : ∀ (t : Fin 16384) (k : Fin 128), x (ix2 t k) = ((dp d w t.val (o + k.val) : ℝ) : EReal)) :
    Is (Host.negf x) (fun t k => -dp d w t (o + k)) := by
  intro t k
  rw [EReal.coe_neg, ← hx]
  pointwise

/-- The input's gradient, as the reference computes it. -/
def duTerm : FVec Ideal S16384x512 .f32 :=
  addf (addf (addf (addf (pad S16384x512 ![0, 384] ![0, 0] ![0, 0] (Host.negf (res_main_v89 V)) (constant S_ .f32 0x00000000#32) pads_S16384x128_S16384x512_000_38400 h_S_) (pad S16384x512 ![0, 256] ![0, 128] ![0, 0] (Host.negf (res_main_v87 V)) (constant S_ .f32 0x00000000#32) pads_S16384x128_S16384x512_000_2561280 h_S_)) (pad S16384x512 ![0, 128] ![0, 256] ![0, 0] (Host.negf (res_main_v85 V)) (constant S_ .f32 0x00000000#32) pads_S16384x128_S16384x512_000_1282560 h_S_)) (pad S16384x512 ![0, 0] ![0, 384] ![0, 0] (Host.negf (res_main_v83 V)) (constant S_ .f32 0x00000000#32) pads_S16384x128_S16384x512_000_03840 h_S_)) (Host.reduceWindowAdd ![16384, 1] ![1, 1] ![0, 0] ![16383, 0] (extractStridedSlice S16384x512 ![1, 0] (res_main_v139 V) slices_S16385x512_S16384x512_1_0) (broadcastInDim S_ ![] bcast_S_S_ (constant S_ .f32 0x00000000#32)) reduceWindows_S16384x512_S16384x512_w16384s1p0_16383_w1s1p0_0 h_S_)

/-- The matrices' gradient, as the reference computes it. -/
def dwTerm : FVec Ideal S4x128x128 .f32 :=
  shapeCast S4x128x128 (broadcastInDim S1x4x128x128 ![1, 2, 3] bcast_S4x128x128_S1x4x128x128_1_2_3 (transpose S4x128x128 [0, 2, 1] (Host.dotGeneral dot_S4x128x16384_S16384x4x128_S4x128x128_2_0_1_2_0_1 none (show FVec Ideal S4x128x16384 .f32 from res_main_v77 V) (show FVec Ideal S16384x4x128 .f32 from res_main_v72 V) : FVec Ideal S4x128x128 .f32) transposes_S4x128x128_S4x128x128_0_2_1)) shapeCasts_S1x4x128x128_S4x128x128

include hd hw in
/-- The input's gradient is the windows' sums less the rows. -/
theorem duTerm_at : Is (duTerm V) (du d w) := by
  unfold duTerm
  have h139 := v139 V hd hw
  have e : Is (extractStridedSlice S16384x512 ![1, 0] (show FVec Ideal S16385x512 .f32 from res_main_v139 V) slices_S16385x512_S16384x512_1_0 : FVec Ideal S16384x512 .f32)
      (fun t k => q d w t k + -ahead (q d w) (t + width k) k) := by
    intro t k
    refine Eq.trans ?_ ((h139 ⟨1 + t.val, by omega⟩ k).trans ?_)
    · pointwise
    · show (((if 1 ≤ 1 + t.val then q d w (1 + t.val - 1) k.val else 0) + -ahead (q d w) (1 + t.val + (width k.val - 1)) k.val : ℝ) : EReal) = _
      have : 0 < width k.val := Nat.pos_of_ne_zero (by unfold width; positivity)
      rw [if_pos (by omega), show 1 + t.val - 1 = t.val by omega, show 1 + t.val + (width k.val - 1) = t.val + width k.val by omega]
  refine Is.congr ((((pad_cols 0 _ _ (neg_group (d := d) (w := w) 384 _ (v89 V hd hw)) _ zero_word _ _).add (pad_cols 128 _ _ (neg_group (d := d) (w := w) 256 _ (v87 V hd hw)) _ zero_word _ _)).add
    (pad_cols 256 _ _ (neg_group (d := d) (w := w) 128 _ (v85 V hd hw)) _ zero_word _ _)).add (pad_cols 384 _ _ (neg_group (d := d) (w := w) 0 _ (fun t k => (v83 V hd hw t k).trans (by rw [Nat.zero_add]))) _ zero_word _ _) |>.add
    (col_from _ zero_cast e _ _ _ _ rfl rfl)) fun t ht k hk => ?_
  have f := from_run (fun t => ahead (q d w) t k) (width k) t (by omega) (fun j hj => if_neg (by omega))
  have g : ∑ j ∈ range (16384 - t), (q d w (t + j) k + -ahead (q d w) (t + j + width k) k) = ∑ j ∈ range (width k), ahead (q d w) (t + j) k := by
    rw [← f]
    refine Finset.sum_congr rfl fun j hj => ?_
    have := Finset.mem_range.mp hj
    have e : ahead (q d w) (t + j) k = q d w (t + j) k := if_pos (by omega)
    rw [e, sub_eq_add_neg]
  rw [g]
  unfold du
  rw [sub_eq_neg_add]
  refine congrArg₂ (· + ·) ?_ rfl
  rcases (show k / 128 = 0 ∨ k / 128 = 1 ∨ k / 128 = 2 ∨ k / 128 = 3 by omega) with h | h | h | h <;> simp (disch := omega) only [if_pos, if_neg, h, Nat.add_sub_cancel', Nat.sub_zero] <;> norm_num

include hu hd in
/-- The matrices' gradient is the sum over the rows. -/
theorem dwTerm_at (g : Fin 4) (a b : Fin 128) : dwTerm V (ix3 g a b) = ((dw u d g.val a.val b.val : ℝ) : EReal) := by
  unfold dwTerm
  pointwise
  refine (Finset.sum_congr rfl fun t _ => congrArg₂ (· * ·) (v77 V hd g b t) (v72 V hu t g a)).trans ?_
  refine (coe_sum_mul 16384 (fun t => d t (g.val * 128 + b.val)) (fun t => part u t (g.val * 128 + a.val))).trans ?_
  unfold dw
  exact congrArg (fun s : ℝ => (s : EReal)) (Finset.sum_congr rfl fun t _ => mul_comm _ _)

end Cert.Reference3Ideal.Value

namespace Cert.Pool

open Idealize.ShloMosaic Idealize.ShloMosaic.TcCoe Idealize.SL.Sem
/-- The shape of a gradient of the rows, and of a gradient of the matrices. -/
abbrev TokT : Type := FVec Ideal Cert.Kernel3Ideal.S16384x512 .f32
@[inherit_doc TokT] abbrev MatT : Type := FVec Ideal Cert.Kernel3Ideal.S4x128x128 .f32

/-- A finite table's real entries. -/
def reals (x : TokT) (t k : ℕ) : ℝ := if h : t < 16384 ∧ k < 512 then (x (ix2 ⟨t, h.1⟩ ⟨k, h.2⟩)).toReal else 0

theorem reals_at (x : TokT) (hx : ∀ i, x i ≠ ⊤ ∧ x i ≠ ⊥) (t : Fin 16384) (k : Fin 512) : x (ix2 t k) = ((reals x t.val k.val : ℝ) : EReal) := by
  unfold reals
  rw [dif_pos ⟨t.isLt, k.isLt⟩]
  exact (EReal.coe_toReal (hx _).1 (hx _).2).symm

/-- The four finite matrices' real entries. -/
def mats (x : FVec Ideal Cert.Kernel3Ideal.S1x4x128x128 .f32) (g a b : ℕ) : ℝ :=
  if h : g < 4 ∧ a < 128 ∧ b < 128 then (x (ix4 0 ⟨g, h.1⟩ ⟨a, h.2.1⟩ ⟨b, h.2.2⟩)).toReal else 0

theorem mats_at (x : FVec Ideal Cert.Kernel3Ideal.S1x4x128x128 .f32) (hx : ∀ i, x i ≠ ⊤ ∧ x i ≠ ⊥) (g : Fin 4) (a b : Fin 128) :
    x (ix4 0 g a b) = ((mats x g.val a.val b.val : ℝ) : EReal) := by
  unfold mats
  rw [dif_pos ⟨g.isLt, a.isLt, b.isLt⟩]
  exact (EReal.coe_toReal (hx _).1 (hx _).2).symm

/-- A table known entry by entry. -/
theorem table (x : TokT) (f : ℕ → ℕ → ℝ) (hx : ∀ (t : Fin 16384) (k : Fin 512), x (ix2 t k) = ((f t.val k.val : ℝ) : EReal)) :
    (x : TokT) = fun j => ((f (j 0).val (j 1).val : ℝ) : EReal) := by
  funext j
  have e : j = ix2 (n0 := 16384) (n1 := 512) ⟨(j 0).val, (j 0).isLt⟩ ⟨(j 1).val, (j 1).isLt⟩ := by
    funext a; fin_cases a <;> rfl
  exact (congrArg x e).trans (hx _ _)

/-- Four matrices known entry by entry. -/
theorem table3 (x : MatT) (f : ℕ → ℕ → ℕ → ℝ) (hx : ∀ (g : Fin 4) (a b : Fin 128), x (ix3 g a b) = ((f g.val a.val b.val : ℝ) : EReal)) :
    (x : MatT) = fun j => ((f (j 0).val (j 1).val (j 2).val : ℝ) : EReal) := by
  funext j
  have e : j = ix3 (n0 := 4) (n1 := 128) (n2 := 128) ⟨(j 0).val, (j 0).isLt⟩ ⟨(j 1).val, (j 1).isLt⟩ ⟨(j 2).val, (j 2).isLt⟩ := by
    funext a; fin_cases a <;> rfl
  exact (congrArg x e).trans (hx _ _ _)

section

open Cert.Reference3Ideal Cert.Reference3Ideal.Gen Cert.Reference3Ideal.Value
open Idealize.ShloMosaic.StableHlo (launchContents)

/-- A run of the reference on real arguments leaves the two gradients. -/
theorem run_ref (m : (ℓ : Loc nD τ sig) → Buf (Elt Ideal) ℓ) (ρ : Dev nD → PrngReg) {u d : Dev nD → ℕ → ℕ → ℝ} {w : Dev nD → ℕ → ℕ → ℕ → ℝ}
    (hu : ∀ (c : Dev nD) (t : Fin 16384) (k : Fin 512), m (c.tc.loc main_arg0) (ix2 t k) = ((u c t.val k.val : ℝ) : EReal))
    (hd : ∀ (c : Dev nD) (t : Fin 16384) (k : Fin 512), m (c.tc.loc main_arg1) (ix2 t k) = ((d c t.val k.val : ℝ) : EReal))
    (hw : ∀ (c : Dev nD) (g : Fin 4) (a b : Fin 128), m (c.tc.loc main_arg2) (ix4 0 g a b) = ((w c g.val a.val b.val : ℝ) : EReal)) :
    θ_run defs (onTc (τ := τ) (main (F := Ideal))) ⟨m, fun _ => 0, ρ⟩ fun r => ∀ c : Dev nD,
      r.2.mem (c.tc.loc main_v143) = (fun j => ((du (d c) (w c) (j 0).val (j 1).val : ℝ) : EReal) : TokT)
      ∧ r.2.mem (c.tc.loc main_v145) = (fun j => ((dw (u c) (d c) (j 0).val (j 1).val (j 2).val : ℝ) : EReal) : MatT)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) :=
  (θ_run _ _ _).mono (fun r h c =>
    have U : duTerm (launchContents m c) = _ := table _ _ (duTerm_at (launchContents m c) (hd c) (hw c))
    have W : dwTerm (launchContents m c) = _ := table3 _ _ (dwTerm_at (launchContents m c) (hu c) (hd c))
    ⟨(h c).1.trans U, (h c).2.1.trans W, (h c).2.2⟩) (run (F := Ideal) m ρ)

end

/-- Both results of the pooling's backward pass, on finite arguments. -/
theorem pool : Cert.algebraic_Kernel3Ideal_Reference3Ideal_pre_finite_pool := by
  pair_intro
  · run_from Cert.Kernel3Ideal.Gen.run_main m g
  · have u0 := fun c => reals_at _ (Cert.Pre_finite_pool.real_of_fn _ _ _ (hpre c)).1
    have d0 := fun c => reals_at _ (Cert.Pre_finite_pool.real_of_fn _ _ _ (hpre c)).2.1
    have w0 := fun c => mats_at _ (Cert.Pre_finite_pool.real_of_fn _ _ _ (hpre c)).2.2
    refine (θ_run _ _ _).mono (fun r h c => ?_) (run_ref m' g'
      (fun c t k => (congrFun (hagree c).1 _).trans (u0 c t k))
      (fun c t k => (congrFun (hagree c).2.1 _).trans (d0 c t k))
      (fun c g a b => (congrFun (hagree c).2.2 _).trans (w0 c g a b)))
    obtain ⟨h0, h1, k⟩ := h c
    exact ⟨h0.trans (Cert.Kernel3Ideal.Value.final5 m c (d0 c) (w0 c)).symm, h1.trans (Cert.Kernel3Ideal.Value.final6 m c (u0 c) (d0 c)).symm, k⟩

end Cert.Pool

end
-- ==== Proof.Proj.lean ====
/- The first norm and the input projections: their formulas, the reference, both regions, and the claim. -/
module

public import proofs.«01_k».proof.Proof.Gen.Reference8Ideal.Run
public import proofs.«01_k».proof.Proof.NormBwd
public import proofs.«01_k».proof.Proof.Gen.Kernel8Ideal.Frame
public import Idealize.ShloMosaic.Lib.Pipeline.ValueKit
public import Idealize.ShloMosaic.Lib.Pipeline.ReadBack
public import Idealize.ShloMosaic.Lib.Pointwise
public import proofs.«01_k».proof.Defs
public import Idealize.ShloMosaic.Lib.Claim

@[expose] public section

set_option maxRecDepth 16384

noncomputable section

open Idealize.ShloMosaic Idealize.ShloMosaic.TcCoe Idealize.SL.Sem
namespace Cert.Proj

open Cert.Tok (h2Row)

/-- The arguments, entry by entry, the four cotangents in a row. -/
structure Ins where
  x : Fin 16384 → Fin 1024 → EReal
  g : Fin 1024 → EReal
  w : Fin 1024 → Fin 2048 → EReal
  cat : Fin 16384 → Fin 2048 → EReal

/-- The entries of the argument arrays. -/
def mkIns (x : (⟨2, ![16384, 1024]⟩ : Shape).Idx → EReal) (g : (⟨2, ![1, 1024]⟩ : Shape).Idx → EReal) (w : (⟨3, ![1, 1024, 2048]⟩ : Shape).Idx → EReal)
    (du dq dk dv : (⟨2, ![16384, 512]⟩ : Shape).Idx → EReal) : Ins where
  x r k := x (ix2 r k)
  g k := g (ix2 0 k)
  w k l := w (ix3 0 k l)
  cat r l := if h : l.val < 512 then du (ix2 r ⟨l.val, h⟩) else if h : l.val - 512 < 512 then dq (ix2 r ⟨l.val - 512, h⟩)
    else if h : l.val - 512 - 512 < 512 then dk (ix2 r ⟨l.val - 512 - 512, h⟩) else dv (ix2 r ⟨l.val - 512 - 512 - 512, by omega⟩)

/-- Column `l` of column block `d`. -/
def col (d : Fin 8) (l : Fin 256) : Fin 2048 := ⟨d.val * 256 + l.val, by omega⟩

variable (I : Ins)

/-- The normalised rows. -/
def Ins.h (r : Fin 16384) (k : Fin 1024) : EReal := h2Row (I.x r) I.g k

/-- The projected rows. -/
def Ins.p (r : Fin 16384) (l : Fin 2048) : EReal := ∑ k : Fin 1024, I.h r k * I.w k l

/-- The weights' gradient, column block by column block. -/
def Ins.dw (d : Fin 8) (k : Fin 1024) (l : Fin 256) : EReal := ∑ r : Fin 16384, I.h r k * I.cat r (col d l)

/-- The columns of the first projection. -/
def Ins.u (r : Fin 16384) (l : Fin 512) : EReal := I.p r ⟨l.val, by omega⟩

/-- The columns of the other three. -/
def Ins.qkv (r : Fin 16384) (l : Fin 1536) : EReal := I.p r ⟨512 + l.val, by omega⟩

end Cert.Proj

namespace Cert.Reference8Ideal.Proj

open Cert.Reference8Ideal Cert.Reference8Ideal.Gen Cert.Reference8Ideal.Value Cert.Proj
open Cert.Tok (arr2 ext2 h2Row nrm)
open Cert.Ffn (arr3 ext3)

variable (x : FVec Ideal S16384x1024 .f32) (g : FVec Ideal S1x1024 .f32) (w : FVec Ideal S1x1024x2048 .f32) (du dq dk dv : FVec Ideal S16384x512 .f32)

/-- The normalised rows, the projected rows, the cotangents in a row and the weights' gradient as the reference computes them. -/
def hA : FVec Ideal S16384x1024 .f32 :=
  mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 (shapeCast _ g shapeCasts_S1x1024_S1024)))
def pA (h : FVec Ideal S16384x1024 .f32) : FVec Ideal S16384x2048 .f32 :=
  Host.dotGeneral dot_S16384x1024_S1024x2048_S16384x2048_1_0_0_1_n_n none h (shapeCast _ w shapeCasts_S1x1024x2048_S1024x2048)
def cA : FVec Ideal S16384x2048 .f32 :=
  concatenate S16384x2048 1 [⟨S16384x512, du⟩, ⟨S16384x512, dq⟩, ⟨S16384x512, dk⟩, ⟨S16384x512, dv⟩] concatenates_S16384x512_S16384x512_S16384x512_S16384x512_S16384x2048_d1
def dA (k : FVec Ideal S16384x2048 .f32) (h : FVec Ideal S16384x1024 .f32) : FVec Ideal S8x1024x256 .f32 :=
  transpose S8x1024x256 [1, 0, 2] (shapeCast _ (shapeCast _ (broadcastInDim S1x1024x2048 ![1, 2] bcast_S1024x2048_S1x1024x2048_1_2 (transpose S1024x2048 [1, 0] (Host.dotGeneral dot_S16384x2048_S16384x1024_S2048x1024_0_0_1_1_n_n none k h) transposes_S2048x1024_S1024x2048_1_0)) shapeCasts_S1x1024x2048_S1024x2048) shapeCasts_S1024x2048_S1024x8x256) transposes_S1024x8x256_S8x1024x256_1_0_2

theorem hA_at (r : Fin 16384) (k : Fin 1024) : hA x g (ix2 r k) = (mkIns x g w du dq dk dv).h r k := by
  pointwise [hA, Ins.h, h2Row, nrm, Norm.ms]
  rfl

theorem pA_at (r : Fin 16384) (l : Fin 2048) : pA w (hA x g) (ix2 r l) = (mkIns x g w du dq dk dv).p r l := by
  unfold pA
  pointwise
  exact Finset.sum_congr rfl fun k _ => congrArg (· * _) (hA_at x g w du dq dk dv r k)

theorem cA_at (r : Fin 16384) (l : Fin 2048) : cA du dq dk dv (ix2 r l) = (mkIns x g w du dq dk dv).cat r l := by
  pointwise [cA]
  rfl

theorem dA_at (d : Fin 8) (k : Fin 1024) (l : Fin 256) : dA (cA du dq dk dv) (hA x g) (ix3 d k l) = (mkIns x g w du dq dk dv).dw d k l := by
  unfold dA
  pointwise
  refine Finset.sum_congr rfl fun r _ => (mul_comm _ _).trans (congrArg₂ (· * ·) (hA_at x g w du dq dk dv r k) ?_)
  exact cA_at x g w du dq dk dv r (col d l)

theorem tr_at (h : FVec Ideal S16384x1024 .f32) (k : Fin 1024) (r : Fin 16384) :
    (transpose S1024x16384 [1, 0] h transposes_S16384x1024_S1024x16384_1_0 : FVec Ideal S1024x16384 .f32) (ix2 k r) = h (ix2 r k) := by pointwise
theorem u_at (p : FVec Ideal S16384x2048 .f32) (r : Fin 16384) (l : Fin 512) :
    (extractStridedSlice S16384x512 ![0, 0] p slices_S16384x2048_S16384x512_0_0 : FVec Ideal S16384x512 .f32) (ix2 r l) = p (ix2 r ⟨l.val, by omega⟩) := by pointwise
theorem qkv_at (p : FVec Ideal S16384x2048 .f32) (r : Fin 16384) (l : Fin 1536) :
    (extractStridedSlice S16384x1536 ![0, 512] p slices_S16384x2048_S16384x1536_0_512 : FVec Ideal S16384x1536 .f32) (ix2 r l) = p (ix2 r ⟨512 + l.val, by omega⟩) := by pointwise

variable (m : (ℓ : Loc nD τ sig) → Buf (Elt Ideal) ℓ) (ρ : Dev nD → PrngReg)

/-- The argument arrays' entries. -/
def ins (c : Dev nD) : Ins := mkIns (m (c.tc.loc main_arg0)) (m (c.tc.loc main_arg1)) (m (c.tc.loc main_arg2)) (m (c.tc.loc main_arg3)) (m (c.tc.loc main_arg4)) (m (c.tc.loc main_arg5)) (m (c.tc.loc main_arg6))

/-- The reference's run, its results entry by entry. -/
theorem run_rows : θ_run defs (onTc (τ := τ) (main (F := Ideal))) ⟨m, fun _ => 0, ρ⟩ fun r => ∀ c : Dev nD,
      r.2.mem (c.tc.loc main_v20) = arr2 (fun k r => (ins m c).h r k)
      ∧ r.2.mem (c.tc.loc main_v21) = arr2 (ins m c).u
      ∧ r.2.mem (c.tc.loc main_v22) = arr2 (ins m c).qkv
      ∧ r.2.mem (c.tc.loc main_v16) = arr2 (ins m c).cat
      ∧ r.2.mem (c.tc.loc main_v25) = arr3 (ins m c).dw
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6) :=
  (θ_run defs _ _).mono (fun r h c => ⟨(h c).1.trans (ext2 _ _ fun i j => (tr_at _ i j).trans (hA_at _ _ _ _ _ _ _ j i)),
    (h c).2.1.trans (ext2 _ _ fun i j => (u_at _ i j).trans (pA_at _ _ _ _ _ _ _ i ⟨j.val, by omega⟩)),
    (h c).2.2.1.trans (ext2 _ _ fun i j => (qkv_at _ i j).trans (pA_at _ _ _ _ _ _ _ i ⟨512 + j.val, by omega⟩)),
    (h c).2.2.2.1.trans (ext2 _ _ fun i j => cA_at _ _ _ _ _ _ _ i j), (h c).2.2.2.2.1.trans (ext3 fun d k l => dA_at _ _ _ _ _ _ _ d k l), (h c).2.2.2.2.2⟩) (run m ρ)

end Cert.Reference8Ideal.Proj

open Idealize.ShloMosaic.Pipeline (Dat)
namespace Cert.Kernel8Ideal.Proj

open Cert.Kernel8Ideal Cert.Kernel8Ideal.Gen Cert.Proj
open Cert.Tok (arr2 h2Row nrm)

/-- Row `r` of block `n`. -/
def row (n : ℕ) (hn : n < 32) (r : Fin 512) : Fin 16384 := ⟨n * 512 + r.val, by omega⟩

/-- An index of a block of columns. -/
theorem emb_col {C : ℕ} (o : ℕ) (ho : o + 256 ≤ C) (inb) (r : Fin 512) (x : Fin 256) :
    (Rect.unit (s := ⟨2, ![512, C]⟩) ![0, o] ![512, 256] inb).emb (ix2 r x) = ix2 r ⟨o + x.val, by omega⟩ := by
  funext a
  fin_cases a
  · exact Fin.ext (show 0 + 1 * r.val = r.val by omega)
  · exact Fin.ext (show o + 1 * x.val = o + x.val by omega)

/-- A block of columns of a function of the whole block. -/
theorem col_piece {C : ℕ} {G : (⟨2, ![512, C]⟩ : Shape).Idx → EReal} (o : ℕ) (ho : o + 256 ≤ C) (inb) (w : S512x256.Idx → EReal)
    (hw : ∀ (r : Fin 512) (l : Fin 256), w (ix2 r l) = G (ix2 r ⟨o + l.val, by omega⟩)) :
    ∀ x, w x = G ((Rect.unit (s := ⟨2, ![512, C]⟩) ![0, o] ![512, 256] inb).emb x) := by
  intro x
  idx_vars x
  rw [emb_col o ho]
  exact hw _ _

namespace Fwd

/-- The windows' block indices at every grid point. -/
theorem idx : ∀ t : Fin cfg0.N, win0_0.index t = ![t.val, 0] ∧ win0_1.index t = ![0, 0] ∧ win0_2.index t = ![0, 0, 0]
    ∧ win0_3.index t = ![0, t.val] ∧ win0_4.index t = ![t.val, 0] ∧ win0_5.index t = ![t.val, 0] :=
  (by decide +kernel : ∀ t : Fin grid0.N, _)

/-- The normalised rows' product with a slab of the weights, from the blocks. -/
theorem pay (x : Vec Ideal S512x1024 .f32) (g : Vec Ideal S1x1024 .f32) (w : Vec Ideal S1x1024x256 .bf16) (r : Fin 512) (l : Fin 256) :
    k0_pay3 (F := Ideal) x g w (ix2 r l) = ∑ k : Fin 1024, h2Row (fun j => x (ix2 r j)) (fun j => g (ix2 0 j)) k * w (ix3 0 k l) := by
  pointwise [k0_pay3, k0_pay1, h2Row, nrm, Norm.ms]

/-- The normalised rows' transpose, from the blocks. -/
theorem pay_t (x : Vec Ideal S512x1024 .f32) (g : Vec Ideal S1x1024 .f32) (r : Fin 512) (k : Fin 1024) :
    (show FVec Ideal S1024x512 .bf16 from k0_pay2 (F := Ideal) x g) (ix2 k r) = h2Row (fun j => x (ix2 r j)) (fun j => g (ix2 0 j)) k := by
  pointwise [k0_pay2, k0_pay1, h2Row, nrm, Norm.ms]

variable (V : (c : Dev nD) → (b : Ref sig .tc) → Buf (Elt Ideal) ((c : Thread nD τ).loc b)) (c : Dev nD) (I : Ins)

/-- The arrays the region reads hold the arguments' entries. -/
structure Reads : Prop where
  x : ∀ (r : Fin 16384) (k : Fin 1024), (show FVec Ideal S16384x1024 .f32 from V c main_arg0) (ix2 r k) = I.x r k
  g : ∀ k : Fin 1024, (show FVec Ideal S1x1024 .f32 from V c main_arg1) (ix2 0 k) = I.g k
  w : ∀ (d : Fin 8) (k : Fin 1024) (l : Fin 256), (show FVec Ideal S8x1024x256 .bf16 from V c main_v3) (ix3 d k l) = I.w k (col d l)

/-- A point's blocks of the projections. -/
def uB (t : Fin cfg0.N) (y : S512x512.Idx) : EReal := I.u (row t.val (lt_of_lt_of_eq t.isLt N_0) (y 0)) (y 1)
def qB (t : Fin cfg0.N) (y : S512x1536.Idx) : EReal := I.qkv (row t.val (lt_of_lt_of_eq t.isLt N_0) (y 0)) (y 1)

variable {V c I} (h : Reads V c I)
include h

/-- A point's row of the input. -/
theorem x_blk (t : Fin cfg0.N) (r : Fin 512) (k : Fin 1024) :
    (show FVec Ideal S512x1024 .f32 from View.ld (iblk0 V c 0 t) r0_0) (ix2 r k) = I.x (row t.val (lt_of_lt_of_eq t.isLt N_0) r) k := by
  refine Eq.trans ?_ (h.x _ k)
  pointwise
  blk_point [iblk0, idx t]
  rfl

/-- The scale. -/
theorem g_blk (t : Fin cfg0.N) (k : Fin 1024) : (show FVec Ideal S1x1024 .f32 from View.ld (iblk0 V c 1 t) r0_1) (ix2 0 k) = I.g k := by
  refine Eq.trans ?_ (h.g k)
  pointwise
  blk_point [iblk0, idx t]

/-- A slab of the weights. -/
theorem w_blk (t : Fin cfg0.N) (d : Fin 8) (inb) (k : Fin 1024) (l : Fin 256) :
    (show FVec Ideal S1x1024x256 .bf16 from View.ld (iblk0 V c 2 t) (Rect.unit (s := S8x1024x256) ![d.val, 0, 0] S1x1024x256.size inb)) (ix3 0 k l) = I.w k (col d l) := by
  refine Eq.trans ?_ (h.w d k l)
  pointwise
  blk_point [iblk0, idx t]

/-- A point's product with a slab of the weights. -/
theorem p_blk (t : Fin cfg0.N) (d : Fin 8) (inb) (r : Fin 512) (l : Fin 256) :
    k0_pay3 (F := Ideal) (View.ld (iblk0 V c 0 t) r0_0) (View.ld (iblk0 V c 1 t) r0_1) (View.ld (iblk0 V c 2 t) (Rect.unit (s := S8x1024x256) ![d.val, 0, 0] S1x1024x256.size inb)) (ix2 r l)
      = I.p (row t.val (lt_of_lt_of_eq t.isLt N_0) r) (col d l) := by
  refine (pay _ _ _ r l).trans (Finset.sum_congr rfl fun k _ => congrArg₂ (fun a b : EReal => a * b) ?_ (w_blk h t d inb k l))
  exact congrArg₂ (fun a b => h2Row a b k) (funext fun k => x_blk h t r k) (funext fun k => g_blk h t k)

/-- The element of the transposed rows' array that a point's block covers. -/
theorem at3 (t : Fin cfg0.N) (y : S1024x512.Idx) (j : S1024x16384.Idx) (h0 : (j 1 : ℕ) = t.val * 512 + (y 1 : ℕ)) (h1 : (j 0 : ℕ) = (y 0 : ℕ)) :
    (dat0 V c).after 3 t y = arr2 (fun k r => I.h r k) j := by
  rw [after0_3]
  idx_vars y
  idx_vars j
  obtain rfl : j0 = y0 := Fin.ext h1
  obtain rfl : j1 = row t.val (lt_of_lt_of_eq t.isLt N_0) y1 := Fin.ext h0
  unfold_out out0_3
  frame_out
  refine (pay_t _ _ y1 j0).trans (congrArg₂ (fun a b => h2Row a b j0) (funext fun k => Eq.trans ?_ (x_blk h t y1 k)) (funext fun k => Eq.trans ?_ (g_blk h t k))) <;> pointwise

/-- The same of the first projection. -/
theorem at4 (t : Fin cfg0.N) (y : S512x512.Idx) (j : S16384x512.Idx) (h0 : (j 0 : ℕ) = t.val * 512 + (y 0 : ℕ)) (h1 : (j 1 : ℕ) = (y 1 : ℕ)) :
    (dat0 V c).after 4 t y = arr2 I.u j := by
  rw [after0_4]
  rw [show arr2 I.u j = uB I t y from congrArg₂ I.u (Fin.ext h0) (Fin.ext h1)]
  unfold_out out0_4
  refine View.canon_append_of_piecesOf (Val := Elt Ideal) (e := .f32) (uB I t) [] [_, _] ⟨?_, ?_, trivial⟩ y ?_
  · refine col_piece (G := uB I t) 256 (by decide) (by decide) _ fun r l => (p_blk h t 1 (by decide) r l).trans ?_
    exact congrArg (I.p _) (Fin.ext (show 1 * 256 + l.val = 256 + l.val by omega))
  · refine col_piece (G := uB I t) 0 (by decide) (by decide) _ fun r l => (p_blk h t 0 (by decide) r l).trans ?_
    exact congrArg (I.p _) (Fin.ext (show 0 * 256 + l.val = 0 + l.val by omega))
  · exact View.cover_of_tiled_head _ _ _ rfl y

/-- The same of the other projections. -/
theorem at5 (t : Fin cfg0.N) (y : S512x1536.Idx) (j : S16384x1536.Idx) (h0 : (j 0 : ℕ) = t.val * 512 + (y 0 : ℕ)) (h1 : (j 1 : ℕ) = (y 1 : ℕ)) :
    (dat0 V c).after 5 t y = arr2 I.qkv j := by
  rw [after0_5]
  rw [show arr2 I.qkv j = qB I t y from congrArg₂ I.qkv (Fin.ext h0) (Fin.ext h1)]
  unfold_out out0_5
  refine View.canon_append_of_piecesOf (Val := Elt Ideal) (e := .bf16) (qB I t) [] [_, _, _, _, _, _] ⟨?_, ?_, ?_, ?_, ?_, ?_, trivial⟩ y ?_
  · refine col_piece (G := qB I t) 1280 (by decide) (by decide) _ fun r l => (p_blk h t 7 (by decide) r l).trans ?_
    exact congrArg (I.p _) (Fin.ext (show 7 * 256 + l.val = 512 + (1280 + l.val) by omega))
  · refine col_piece (G := qB I t) 1024 (by decide) (by decide) _ fun r l => (p_blk h t 6 (by decide) r l).trans ?_
    exact congrArg (I.p _) (Fin.ext (show 6 * 256 + l.val = 512 + (1024 + l.val) by omega))
  · refine col_piece (G := qB I t) 768 (by decide) (by decide) _ fun r l => (p_blk h t 5 (by decide) r l).trans ?_
    exact congrArg (I.p _) (Fin.ext (show 5 * 256 + l.val = 512 + (768 + l.val) by omega))
  · refine col_piece (G := qB I t) 512 (by decide) (by decide) _ fun r l => (p_blk h t 4 (by decide) r l).trans ?_
    exact congrArg (I.p _) (Fin.ext (show 4 * 256 + l.val = 512 + (512 + l.val) by omega))
  · refine col_piece (G := qB I t) 256 (by decide) (by decide) _ fun r l => (p_blk h t 3 (by decide) r l).trans ?_
    exact congrArg (I.p _) (Fin.ext (show 3 * 256 + l.val = 512 + (256 + l.val) by omega))
  · refine col_piece (G := qB I t) 0 (by decide) (by decide) _ fun r l => (p_blk h t 2 (by decide) r l).trans ?_
    exact congrArg (I.p _) (Fin.ext (show 2 * 256 + l.val = 512 + (0 + l.val) by omega))
  · exact View.cover_of_tiled_head _ _ _ rfl y

/-- The transposed rows after the run. -/
theorem final3 : (dat0 V c).arrAt 3 cfg0.N = arr2 (fun k r => I.h r k) := by
  refine (dat0 V c).arrAt_eq_of_covers 3 _ (by decide +kernel) fun t _ y => ?_
  blk_simp
  refine at3 h t y _ ?_ ?_ <;> (blk_simp [idx t] <;> try omega)

/-- The first projection after the run. -/
theorem final4 : (dat0 V c).arrAt 4 cfg0.N = arr2 I.u := by
  refine (dat0 V c).arrAt_eq_of_covers 4 _ (by decide +kernel) fun t _ y => ?_
  blk_simp
  refine at4 h t y _ ?_ ?_ <;> (blk_simp [idx t] <;> try omega)

/-- The other projections after the run. -/
theorem final5 : (dat0 V c).arrAt 5 cfg0.N = arr2 I.qkv := by
  refine (dat0 V c).arrAt_eq_of_covers 5 _ (by decide +kernel) fun t _ y => ?_
  blk_simp
  refine at5 h t y _ ?_ ?_ <;> (blk_simp [idx t] <;> try omega)

end Fwd

end Cert.Kernel8Ideal.Proj

namespace Cert.Kernel8Ideal.Proj.Bwd

open Cert.Kernel8Ideal Cert.Kernel8Ideal.Gen Cert.Proj
open Cert.Tok (arr2)
open Cert.Ffn (arr3 ext3)

/-- The windows' block indices at every grid point. -/
theorem idx : ∀ t : Fin cfg1.N, win1_0.index t = ![t.val, 0] ∧ win1_1.index t = ![t.val, 0] ∧ win1_2.index t = ![t.val, 0]
    ∧ win1_3.index t = ![t.val, 0] ∧ win1_4.index t = ![0, t.val] ∧ win1_5.index t = ![t.val, 0] ∧ win1_6.index t = ![0, 0, 0] :=
  (by decide +kernel : ∀ t : Fin grid1.N, _)

/-- Row `r` of a point's block. -/
abbrev at_ (t : Fin cfg1.N) (r : Fin 512) : Fin 16384 := row t.val (lt_of_lt_of_eq t.isLt N_1) r

variable (V : (c : Dev nD) → (b : Ref sig .tc) → Buf (Elt Ideal) ((c : Thread nD τ).loc b)) (c : Dev nD) (I : Ins)

/-- The arrays the region reads: the cotangents and the transposed rows. -/
structure Reads : Prop where
  du : ∀ (r : Fin 16384) (l : Fin 512), (show FVec Ideal S16384x512 .f32 from V c main_arg3) (ix2 r l) = I.cat r ⟨l.val, by omega⟩
  dq : ∀ (r : Fin 16384) (l : Fin 512), (show FVec Ideal S16384x512 .f32 from V c main_arg4) (ix2 r l) = I.cat r ⟨512 + l.val, by omega⟩
  dk : ∀ (r : Fin 16384) (l : Fin 512), (show FVec Ideal S16384x512 .f32 from V c main_arg5) (ix2 r l) = I.cat r ⟨1024 + l.val, by omega⟩
  dv : ∀ (r : Fin 16384) (l : Fin 512), (show FVec Ideal S16384x512 .f32 from V c main_arg6) (ix2 r l) = I.cat r ⟨1536 + l.val, by omega⟩
  h : ∀ (k : Fin 1024) (r : Fin 16384), (show FVec Ideal S1024x16384 .bf16 from V c main_v4_0) (ix2 k r) = I.h r k

/-- A point's block of the cotangents in a row. -/
def cB (t : Fin cfg1.N) (y : S512x2048.Idx) : EReal := I.cat (at_ t (y 0)) (y 1)

/-- A block of the weights' gradient with a point's rows added. -/
def wB (t : Fin cfg1.N) (old : S8x1024x256.Idx → EReal) (y : S8x1024x256.Idx) : EReal :=
  old y + ∑ s : Fin 512, I.h (at_ t s) (y 1) * I.cat (at_ t s) (col (y 0) (y 2))

/-- A slab of a function of the whole block. -/
theorem slab_piece {G : S8x1024x256.Idx → EReal} (d : Fin 8) (inb) (w : S1x1024x256.Idx → EReal) (hw : ∀ (k : Fin 1024) (l : Fin 256), w (ix3 0 k l) = G (ix3 d k l)) :
    ∀ x, w x = G ((Rect.unit (s := S8x1024x256) ![d.val, 0, 0] ![1, 1024, 256] inb).emb x) := by
  intro x
  idx_vars x
  obtain rfl := x0.eq_zero
  refine (hw x1 x2).trans (congrArg G ?_)
  funext a
  fin_cases a
  · exact Fin.ext (show d.val = d.val + 1 * 0 by omega)
  · exact Fin.ext (show x1.val = 0 + 1 * x1.val by omega)
  · exact Fin.ext (show x2.val = 0 + 1 * x2.val by omega)

/-- A slab's new contents, from the blocks. -/
theorem pay (ht : FVec Ideal S1024x512 .bf16) (s : Vec Ideal S512x256 .f32) (old : Vec Ideal S1x1024x256 .f32) (k : Fin 1024) (l : Fin 256) :
    k1_pay9 (F := Ideal) ht s old (ix3 0 k l) = old (ix3 0 k l) + ∑ r : Fin 512, ht (ix2 k r) * s (ix2 r l) := by
  pointwise [k1_pay9, k1_pay8]

variable {V c I} (h : Reads V c I)
include h

/-- A block of 256 columns of each cotangent's block. -/
theorem s0 (t : Fin cfg1.N) (b : Fin 2) (inb) (r : Fin 512) (l : Fin 256) :
    (show FVec Ideal S512x256 .f32 from View.ld (iblk1 V c 0 t) (Rect.unit (s := S512x512) ![0, b.val * 256] S512x256.size inb)) (ix2 r l) = I.cat (at_ t r) (col ⟨0 + b.val, by omega⟩ l) := by
  refine Eq.trans ?_ ((h.du _ ⟨b.val * 256 + l.val, by omega⟩).trans (congrArg (I.cat _) (Fin.ext (by simp only [col]; omega))))
  pointwise
  blk_point [iblk1, idx t]
  rfl
theorem s1 (t : Fin cfg1.N) (b : Fin 2) (inb) (r : Fin 512) (l : Fin 256) :
    (show FVec Ideal S512x256 .f32 from View.ld (iblk1 V c 1 t) (Rect.unit (s := S512x512) ![0, b.val * 256] S512x256.size inb)) (ix2 r l) = I.cat (at_ t r) (col ⟨2 + b.val, by omega⟩ l) := by
  refine Eq.trans ?_ ((h.dq _ ⟨b.val * 256 + l.val, by omega⟩).trans (congrArg (I.cat _) (Fin.ext (by simp only [col]; omega))))
  pointwise
  blk_point [iblk1, idx t]
  rfl
theorem s2 (t : Fin cfg1.N) (b : Fin 2) (inb) (r : Fin 512) (l : Fin 256) :
    (show FVec Ideal S512x256 .f32 from View.ld (iblk1 V c 2 t) (Rect.unit (s := S512x512) ![0, b.val * 256] S512x256.size inb)) (ix2 r l) = I.cat (at_ t r) (col ⟨4 + b.val, by omega⟩ l) := by
  refine Eq.trans ?_ ((h.dk _ ⟨b.val * 256 + l.val, by omega⟩).trans (congrArg (I.cat _) (Fin.ext (by simp only [col]; omega))))
  pointwise
  blk_point [iblk1, idx t]
  rfl
theorem s3 (t : Fin cfg1.N) (b : Fin 2) (inb) (r : Fin 512) (l : Fin 256) :
    (show FVec Ideal S512x256 .f32 from View.ld (iblk1 V c 3 t) (Rect.unit (s := S512x512) ![0, b.val * 256] S512x256.size inb)) (ix2 r l) = I.cat (at_ t r) (col ⟨6 + b.val, by omega⟩ l) := by
  refine Eq.trans ?_ ((h.dv _ ⟨b.val * 256 + l.val, by omega⟩).trans (congrArg (I.cat _) (Fin.ext (by simp only [col]; omega))))
  pointwise
  blk_point [iblk1, idx t]
  rfl

/-- A point's block of the transposed rows. -/
theorem h_blk (t : Fin cfg1.N) (k : Fin 1024) (r : Fin 512) : (show FVec Ideal S1024x512 .bf16 from iblk1 V c 4 t) (ix2 k r) = I.h (at_ t r) k := by
  refine Eq.trans ?_ (h.h k _)
  blk_point [iblk1, idx t]
  rfl

/-- A slab with a point's rows added. -/
theorem w_blk (t : Fin cfg1.N) (d : Fin 8) (X : Vec Ideal S8x1024x256 .f32) (inb) (s : Vec Ideal S512x256 .f32) (hs : ∀ r l, s (ix2 r l) = I.cat (at_ t r) (col d l)) :
    ∀ x, k1_pay9 (F := Ideal) (k1_pay3 (iblk1 V c 4 t)) s (View.ld X (Rect.unit (s := S8x1024x256) ![d.val, 0, 0] ![1, 1024, 256] inb)) x
      = wB I t X ((Rect.unit (s := S8x1024x256) ![d.val, 0, 0] ![1, 1024, 256] inb).emb x) := by
  refine slab_piece (G := wB I t X) d inb _ fun k l => (pay _ _ _ k l).trans (congrArg₂ (fun a b : EReal => a + b) (by pointwise) (Finset.sum_congr rfl fun r _ => congrArg₂ (fun a b : EReal => a * b) ?_ (hs r l)))
  refine Eq.trans ?_ (h_blk h t k r)
  pointwise [k1_pay3]

/-- The element of the cotangents' array that a point's block covers. -/
theorem at5 (t : Fin cfg1.N) (y : S512x2048.Idx) (j : S16384x2048.Idx) (h0 : (j 0 : ℕ) = t.val * 512 + (y 0 : ℕ)) (h1 : (j 1 : ℕ) = (y 1 : ℕ)) :
    (dat1 V c).after 5 t y = arr2 I.cat j := by
  rw [after1_5, show arr2 I.cat j = cB I t y from congrArg₂ I.cat (Fin.ext h0) (Fin.ext h1)]
  by_cases hc : t.val % 32 = 0 <;> [rw [outsAt1_A V c t hc]; rw [outsAt1_B V c t hc]] <;> frame_out <;>
    refine View.canon_append_of_piecesOf (Val := Elt Ideal) (e := .bf16) (cB I t) [] [_, _, _, _, _, _, _, _] ⟨?_, ?_, ?_, ?_, ?_, ?_, ?_, ?_, trivial⟩ y (View.cover_of_tiled_head _ _ _ rfl y)
  · exact col_piece (G := cB I t) 1792 (by decide) (by decide) _ (s3 h t 1 (by decide))
  · exact col_piece (G := cB I t) 1536 (by decide) (by decide) _ (s3 h t 0 (by decide))
  · exact col_piece (G := cB I t) 1280 (by decide) (by decide) _ (s2 h t 1 (by decide))
  · exact col_piece (G := cB I t) 1024 (by decide) (by decide) _ (s2 h t 0 (by decide))
  · exact col_piece (G := cB I t) 768 (by decide) (by decide) _ (s1 h t 1 (by decide))
  · exact col_piece (G := cB I t) 512 (by decide) (by decide) _ (s1 h t 0 (by decide))
  · exact col_piece (G := cB I t) 256 (by decide) (by decide) _ (s0 h t 1 (by decide))
  · exact col_piece (G := cB I t) 0 (by decide) (by decide) _ (s0 h t 0 (by decide))
  · exact col_piece (G := cB I t) 1792 (by decide) (by decide) _ (s3 h t 1 (by decide))
  · exact col_piece (G := cB I t) 1536 (by decide) (by decide) _ (s3 h t 0 (by decide))
  · exact col_piece (G := cB I t) 1280 (by decide) (by decide) _ (s2 h t 1 (by decide))
  · exact col_piece (G := cB I t) 1024 (by decide) (by decide) _ (s2 h t 0 (by decide))
  · exact col_piece (G := cB I t) 768 (by decide) (by decide) _ (s1 h t 1 (by decide))
  · exact col_piece (G := cB I t) 512 (by decide) (by decide) _ (s1 h t 0 (by decide))
  · exact col_piece (G := cB I t) 256 (by decide) (by decide) _ (s0 h t 1 (by decide))
  · exact col_piece (G := cB I t) 0 (by decide) (by decide) _ (s0 h t 0 (by decide))

/-- The weights' gradient's block after a point. -/
theorem step (t : Fin cfg1.N) (y : S8x1024x256.Idx) : (t.val % 32 = 0 → (outsAt1 V c t.val t.isLt).2 y = wB I t (fun _ => 0) y)
    ∧ (¬ t.val % 32 = 0 → (outsAt1 V c t.val t.isLt).2 y = wB I t (outsAt1 V c (t.val - 1) (lt_prev t)).2 y) := by
  refine ⟨fun h0 => ?_, fun h0 => ?_⟩
  · rw [outsAt1_A V c t h0]; frame_out
    simp (decide := true) only [↓View.readCov_skip, ↓View.readCov_fill]
    rw [show (fun _ => (0 : EReal)) = k1_pay2 (F := Ideal) from ext3 fun d k l => by pointwise [k1_pay2]]
    refine View.canon_append_of_piecesOf (Val := Elt Ideal) (e := .f32) (wB I t (k1_pay2 (F := Ideal))) [_] [_, _, _, _, _, _, _, _] ⟨?_, ?_, ?_, ?_, ?_, ?_, ?_, ?_, trivial⟩ y (View.cover_of_tiled_head _ _ _ rfl y)
    · exact w_blk h t 7 _ _ _ (s3 h t 1 (by decide))
    · exact w_blk h t 6 _ _ _ (s3 h t 0 (by decide))
    · exact w_blk h t 5 _ _ _ (s2 h t 1 (by decide))
    · exact w_blk h t 4 _ _ _ (s2 h t 0 (by decide))
    · exact w_blk h t 3 _ _ _ (s1 h t 1 (by decide))
    · exact w_blk h t 2 _ _ _ (s1 h t 0 (by decide))
    · exact w_blk h t 1 _ _ _ (s0 h t 1 (by decide))
    · exact w_blk h t 0 _ _ _ (s0 h t 0 (by decide))
  · rw [outsAt1_B V c t h0]; frame_out
    refine View.canon_append_of_piecesOf (Val := Elt Ideal) (e := .f32) (wB I t (outsAt1 V c (t.val - 1) (lt_prev t)).2) [] [_, _, _, _, _, _, _, _] ⟨?_, ?_, ?_, ?_, ?_, ?_, ?_, ?_, trivial⟩ y (View.cover_of_tiled_head _ _ _ rfl y)
    · exact w_blk h t 7 _ _ _ (s3 h t 1 (by decide))
    · exact w_blk h t 6 _ _ _ (s3 h t 0 (by decide))
    · exact w_blk h t 5 _ _ _ (s2 h t 1 (by decide))
    · exact w_blk h t 4 _ _ _ (s2 h t 0 (by decide))
    · exact w_blk h t 3 _ _ _ (s1 h t 1 (by decide))
    · exact w_blk h t 2 _ _ _ (s1 h t 0 (by decide))
    · exact w_blk h t 1 _ _ _ (s0 h t 1 (by decide))
    · exact w_blk h t 0 _ _ _ (s0 h t 0 (by decide))

/-- The cotangents in a row after the run. -/
theorem final5 : (dat1 V c).arrAt 5 cfg1.N = arr2 I.cat := by
  refine (dat1 V c).arrAt_eq_of_covers 5 _ (by decide +kernel) fun t _ y => ?_
  blk_simp
  refine at5 h t y _ ?_ ?_ <;> (blk_simp [idx t] <;> try omega)

/-- The last point's weights' gradient. -/
theorem last (t : Fin cfg1.N) (ht : t.val % 32 = 31) (d : Fin 8) (k : Fin 1024) (l : Fin 256) : (outsAt1 V c t.val t.isLt).2 (ix3 d k l) = I.dw d k l := by
  rw [Pipeline.eq_sum_fin_of_reset_step_of_flush (fun n hn => (outsAt1 V c n hn).2 (ix3 d k l)) 32 0 (fun t => ∑ s : Fin 512, I.h (at_ t s) k * I.cat (at_ t s) (col d l))
    (fun t => (step h t _).1) (fun t => (step h t _).2) t ht, zero_add]
  refine Fin.sum_mul_add_congr (S := 32) (n := 512) fun i r hl => ?_
  have e : ∀ r, at_ ⟨32 * (t.val / 32) + i.val, Pipeline.run_point_lt_of_flush t ht _⟩ r = ⟨i.val * 512 + r.val, by omega⟩ := fun r => Fin.ext (by have := lt_of_lt_of_eq t.isLt N_1; simp only [row]; omega)
  rw [e]

/-- The last point. -/
def lastPt : Fin cfg1.N := ⟨31, by decide⟩

/-- The weights' gradient after the run. -/
theorem final6 : (dat1 V c).arrAt 6 cfg1.N = arr3 I.dw := by
  refine (dat1 V c).arrAt_eq_of_after_last 6 lastPt (by decide +kernel) _ fun j => ?_
  blk_simp
  idx_vars j
  rw [after1_6]
  exact last h lastPt rfl j0 j1 j2

end Cert.Kernel8Ideal.Proj.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
namespace Cert.Kernel8Ideal.Proj

open Cert.Kernel8Ideal Cert.Kernel8Ideal.Gen Cert.Proj
open Cert.Tok (arr2)
open Cert.Ffn (arr3)

local notation "𝕄" => MT nD τ sig Unit (Elt Ideal) ℕ (UR sig nD τ) ℕ

variable (m : (ℓ : Loc nD τ sig) → Buf (Elt Ideal) ℓ) (ρ : Dev nD → PrngReg) (c : Dev nD)

/-- The argument arrays' entries. -/
def ins : Ins := mkIns (m (c.tc.loc main_arg0)) (m (c.tc.loc main_arg1)) (m (c.tc.loc main_arg2)) (m (c.tc.loc main_arg3)) (m (c.tc.loc main_arg4)) (m (c.tc.loc main_arg5)) (m (c.tc.loc main_arg6))

/-- What the forward region reads. -/
theorem reads0 : Fwd.Reads (V1 m ρ) c (ins m c) where
  x r k := congrFun (W1_of m ρ c main_arg0 (by decide)) _
  g k := congrFun (W1_of m ρ c main_arg1 (by decide)) _
  w d k l := by
    have e : (show FVec Ideal S8x1024x256 .bf16 from V1 m ρ c main_v3)
      = transpose S8x1024x256 [1, 0, 2] (shapeCast S1024x8x256 (truncf .bf16 (shapeCast S1024x2048 (show FVec Ideal S1x1024x2048 .f32 from m (c.tc.loc main_arg2))
        shapeCasts_S1x1024x2048_S1024x2048) bitsLt_bf16_f32) shapeCasts_S1024x2048_S1024x8x256) transposes_S1024x8x256_S8x1024x256_1_0_2 := rfl
    rw [e]
    pointwise
    rfl

/-- An argument the forward region does not write is as launched when the backward region starts. -/
theorem arg2 (r : Ref sig .tc) (h0 : r ∉ hostOps0_W) (h : ∀ w : Fin cfg0.W, Pipeline.arrRef spec0 w = r → (cfg0.win w).isOut = false) :
    V2 m ρ c r = W0 m ρ c (Proc.devRef .tc r) := (W2_of m ρ c r h).trans (W1_of m ρ c r h0)

/-- The cotangents' columns in a row. -/
theorem cat_at (r : Fin 16384) (l : Fin 512) : (ins m c).cat r ⟨l.val, by omega⟩ = (show FVec Ideal S16384x512 .f32 from m (c.tc.loc main_arg3)) (ix2 r l)
    ∧ (ins m c).cat r ⟨512 + l.val, by omega⟩ = (show FVec Ideal S16384x512 .f32 from m (c.tc.loc main_arg4)) (ix2 r l)
    ∧ (ins m c).cat r ⟨1024 + l.val, by omega⟩ = (show FVec Ideal S16384x512 .f32 from m (c.tc.loc main_arg5)) (ix2 r l)
    ∧ (ins m c).cat r ⟨1536 + l.val, by omega⟩ = (show FVec Ideal S16384x512 .f32 from m (c.tc.loc main_arg6)) (ix2 r l) := by
  simp only [ins, mkIns]
  refine ⟨?_, ?_, ?_, ?_⟩
  · rw [dif_pos (by omega)]
  · rw [dif_neg (by omega), dif_pos (by omega)]; congr 2; exact Fin.ext (by dsimp only; omega)
  · rw [dif_neg (by omega), dif_neg (by omega), dif_pos (by omega)]; congr 2; exact Fin.ext (by dsimp only; omega)
  · rw [dif_neg (by omega), dif_neg (by omega), dif_neg (by omega)]; congr 2; exact Fin.ext (by dsimp only; omega)

/-- What the backward region reads. -/
theorem reads1 : Bwd.Reads (V2 m ρ) c (ins m c) where
  du r l := (congrFun (arg2 m ρ c main_arg3 (by decide) (by decide)) _).trans (cat_at m c r l).1.symm
  dq r l := (congrFun (arg2 m ρ c main_arg4 (by decide) (by decide)) _).trans (cat_at m c r l).2.1.symm
  dk r l := (congrFun (arg2 m ρ c main_arg5 (by decide) (by decide)) _).trans (cat_at m c r l).2.2.1.symm
  dv r l := (congrFun (arg2 m ρ c main_arg6 (by decide) (by decide)) _).trans (cat_at m c r l).2.2.2.symm
  h k r := congrFun ((W2_arr m ρ c 3).trans (Fwd.final3 (reads0 m ρ c))) _

theorem res0 : W4 m ρ c (Proc.devRef .tc main_v6) = arr2 (fun k r => (ins m c).h r k) :=
  (show _ = extf (F := Ideal) .f32 (show FVec Ideal S1024x16384 .bf16 from W3 m ρ c (Proc.devRef .tc main_v4_0)) bitsLt_bf16_f32 from rfl).trans
    ((W3_of m ρ c main_v4_0 (by decide)).trans ((W2_arr m ρ c 3).trans (Fwd.final3 (reads0 m ρ c))))

theorem res1 : W4 m ρ c (Proc.devRef .tc main_v4_1) = arr2 (ins m c).u :=
  (W4_of m ρ c main_v4_1 (by decide)).trans ((W3_of m ρ c main_v4_1 (by decide)).trans ((W2_arr m ρ c 4).trans (Fwd.final4 (reads0 m ρ c))))

theorem res2 : W4 m ρ c (Proc.devRef .tc main_v7) = arr2 (ins m c).qkv :=
  (show _ = extf (F := Ideal) .f32 (show FVec Ideal S16384x1536 .bf16 from W3 m ρ c (Proc.devRef .tc main_v4_2)) bitsLt_bf16_f32 from rfl).trans
    ((W3_of m ρ c main_v4_2 (by decide)).trans ((W2_arr m ρ c 5).trans (Fwd.final5 (reads0 m ρ c))))

theorem res3 : W4 m ρ c (Proc.devRef .tc main_v8) = arr2 (ins m c).cat :=
  (show _ = extf (F := Ideal) .f32 (show FVec Ideal S16384x2048 .bf16 from W3 m ρ c (Proc.devRef .tc main_v5_0)) bitsLt_bf16_f32 from rfl).trans
    ((W3_arr m ρ c 5).trans (Bwd.final5 (reads1 m ρ c)))

theorem res4 : W4 m ρ c (Proc.devRef .tc main_v5_1) = arr3 (ins m c).dw :=
  (W4_of m ρ c main_v5_1 (by decide)).trans ((W3_arr m ρ c 6).trans (Bwd.final6 (reads1 m ρ c)))

set_option backward.isDefEq.respectTransparency.types false in
/-- The kernel's run: its results entry by entry, its arguments unchanged. -/
theorem run_rows : θ_run defs (onTc (τ := τ) (main (F := Ideal))) ⟨m, fun _ => 0, ρ⟩ (fun r => ∀ c : Dev nD,
      r.2.mem (c.tc.loc main_v6) = arr2 (fun k r => (ins m c).h r k)
      ∧ r.2.mem (c.tc.loc main_v4_1) = arr2 (ins m c).u
      ∧ r.2.mem (c.tc.loc main_v7) = arr2 (ins m c).qkv
      ∧ r.2.mem (c.tc.loc main_v8) = arr2 (ins m c).cat
      ∧ r.2.mem (c.tc.loc main_v5_1) = arr3 (ins m c).dw
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz c =>
      ⟨(h c _ (mem_uc main_v6 (by decide))).trans (res0 m ρ c),
       (h c _ (mem_uc main_v4_1 (by decide))).trans (res1 m ρ c),
       (h c _ (mem_uc main_v7 (by decide))).trans (res2 m ρ c),
       (h c _ (mem_uc main_v8 (by decide))).trans (res3 m ρ c),
       (h c _ (mem_uc main_v5_1 (by decide))).trans (res4 m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.Kernel8Ideal.Proj

namespace Cert.Proof

/-- The first norm, the input projections and their weights' gradient agree with the reference's. -/
theorem proj : Cert.algebraic_Kernel8Ideal_Reference8Ideal := by
  pair_intro
  · run_from Cert.Kernel8Ideal.Proj.run_rows m g
  · refine (θ_run _ _ _).mono (fun r h c => ?_) (Cert.Reference8Ideal.Proj.run_rows m' g')
    obtain ⟨e0, e1, e2, e3, e4, e5, e6⟩ := hagree c
    have e : Cert.Reference8Ideal.Proj.ins m' c = Cert.Kernel8Ideal.Proj.ins m c := by
      rw [Cert.Reference8Ideal.Proj.ins, e0, e1, e2, e3, e4, e5, e6]
      rfl
    have k := h c
    rw [e] at k
    exact k

end Cert.Proof

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.KernelIdeal.Frame
public import proofs.«01_k».proof.Proof.Gen.ReferenceIdeal
public import proofs.«01_k».proof.Proof.Gen.Kernel2.Skeleton
public import proofs.«01_k».proof.Proof.Gen.Kernel2Ideal.Skeleton
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Reference8Ideal.Run
public import proofs.«01_k».proof.Proof.Merge
public import proofs.«01_k».proof.Proof.Plain
public import proofs.«01_k».proof.Proof.AttnClaim
public import proofs.«01_k».proof.Proof.FfnClaim
public import proofs.«01_k».proof.Proof.Tokens
public import proofs.«01_k».proof.Proof.Loss
public import proofs.«01_k».proof.Proof.Pre
public import proofs.«01_k».proof.Proof.Input
public import proofs.«01_k».proof.Proof.PoolClaim
public import proofs.«01_k».proof.Proof.Proj
public import Idealize.ShloMosaic.Adequacy
public import Idealize.ShloMosaic.Init

@[expose] public section

noncomputable section

namespace Cert.Proof

open Idealize.ShloMosaic Idealize.SL.Sem Cert.Kernel

/-- The frame of the attention's reference. -/
theorem attnRef : Cert.quiescent_Reference2Ideal (hReference2Ideal := Cert.Reference2Ideal.Gen.facts) := fun m ρ _ =>
  (θ_run _ _ _).mono (fun r h => ⟨fun c => (h c).2.2.2, sem_eq_zero_of_no_sems (by decide) r.2⟩)
    (Cert.Reference2Ideal.Value.run (F := Ideal) m ρ)

/-- The frame of the pooling's reference. -/
theorem poolRef : Cert.quiescent_Reference3Ideal (hReference3Ideal := Cert.Reference3Ideal.Gen.facts) := fun m ρ _ =>
  (θ_run _ _ _).mono (fun r h => ⟨fun c => (h c).2.2, sem_eq_zero_of_no_sems (by decide) r.2⟩)
    (Cert.Reference3Ideal.Value.run (F := Ideal) m ρ)

/-- The frame of the feed-forward block's reference. -/
theorem ffnRef : Cert.quiescent_Reference6Ideal (hReference6Ideal := Cert.Reference6Ideal.Gen.facts) := fun m ρ _ =>
  (θ_run _ _ _).mono (fun r h => ⟨fun c => (h c).2.2.2.2.2.2, sem_eq_zero_of_no_sems (by decide) r.2⟩)
    (Cert.Reference6Ideal.Value.run (F := Ideal) m ρ)

/-- The frames of the twenty-four programs, and the equality of eight kernels with their references: the backward passes of the
    merge, the attention, the pooling, the input normalisation and the feed-forward block, both passes of the residual between
    the heads and that block, the block's forward pass with the loss and its gradient, and both passes of the projections. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Pre_finite_args.facts, Cert.Pre_finite_pool.facts, Cert.Pre_finite_ffn.facts, by
  exact ⟨fun m ρ _ => Cert.Kernel.Gen.frame m ρ, fun m ρ _ => Cert.KernelIdeal.Gen.frame m ρ,
    fun m ρ _ => (θ_run _ _ _).mono (fun r h => ⟨fun c => (h c).2.2.2.2.2, sem_eq_zero_of_no_sems (by decide) r.2⟩)
      (Cert.ReferenceIdeal.Value.run (F := Ideal) m ρ),
    fun m ρ _ => Cert.Kernel2.Attn.frame' m ρ, fun m ρ _ => Cert.Kernel2Ideal.Attn.frame' m ρ,
    fun m ρ _ => Cert.Kernel2Ideal.Attn.frame' m ρ, fun m ρ _ => attnRef m ρ trivial, fun m ρ _ => attnRef m ρ trivial,
    fun m ρ _ => Cert.Kernel3.Gen.frame m ρ, fun m ρ _ => Cert.Kernel3Ideal.Gen.frame m ρ, fun m ρ _ => Cert.Kernel3Ideal.Gen.frame m ρ,
    fun m ρ _ => poolRef m ρ trivial, fun m ρ _ => poolRef m ρ trivial,
    fun m ρ _ => Cert.Kernel4.Gen.frame m ρ, fun m ρ _ => Cert.Kernel4Ideal.Gen.frame m ρ,
    fun m ρ _ => (θ_run _ _ _).mono (fun r h => ⟨fun c => (h c).2.2, sem_eq_zero_of_no_sems (by decide) r.2⟩)
      (Cert.Reference4Ideal.Value.run (F := Ideal) m ρ),
    fun m ρ _ => Cert.Kernel5.Gen.frame m ρ, fun m ρ _ => Cert.Kernel5Ideal.Gen.frame m ρ,
    fun m ρ _ => (θ_run _ _ _).mono (fun r h => ⟨fun c => (h c).2.2.2.2.2.2.2.2, sem_eq_zero_of_no_sems (by decide) r.2⟩)
      (Cert.Reference5Ideal.Value.run (F := Ideal) m ρ),
    fun m ρ _ => Cert.Kernel6.Gen.frame m ρ, fun m ρ _ => Cert.Kernel6Ideal.Gen.frame m ρ, fun m ρ _ => Cert.Kernel6Ideal.Gen.frame m ρ,
    fun m ρ _ => ffnRef m ρ trivial, fun m ρ _ => ffnRef m ρ trivial,
    fun m ρ _ => Cert.Kernel7.Gen.frame m ρ, fun m ρ _ => Cert.Kernel7Ideal.Gen.frame m ρ,
    fun m ρ _ => (θ_run _ _ _).mono (fun r h => ⟨fun c => (h c).2.2.2.2.2.2, sem_eq_zero_of_no_sems (by decide) r.2⟩)
      (Cert.Reference7Ideal.Value.run (F := Ideal) m ρ),
    fun m ρ _ => Cert.Kernel8.Gen.frame m ρ, fun m ρ _ => Cert.Kernel8Ideal.Gen.frame m ρ,
    fun m ρ _ => (θ_run _ _ _).mono (fun r h => ⟨fun c => (h c).2.2.2.2.2, sem_eq_zero_of_no_sems (by decide) r.2⟩)
      (Cert.Reference8Ideal.Value.run (F := Ideal) m ρ),
    trivial, merge, Cert.Kernel2Ideal.Attn.exit_named, Cert.Kernel2Ideal.Attn.attention, trivial, Cert.Pool.pool, trivial, input, trivial, tokens, trivial, Cert.Ffn.claim, trivial, Cert.Loss.claim, trivial, proj⟩⟩

end Cert.Proof

end
